-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_rows_fill [hPre_rows_fill : Cert.Pre_rows_fill.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_fill [hPre_rows_fill : Cert.Pre_rows_fill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_fill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_fill [hKernelIdeal : Cert.KernelIdeal.Facts] [hPre_rows_fill : Cert.Pre_rows_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_fill m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_fill [hReferenceIdeal : Cert.ReferenceIdeal.Facts] [hPre_rows_fill : Cert.Pre_rows_fill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_fill m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_fill [hKernelIdeal : Cert.KernelIdeal.Facts] [hReferenceIdeal : Cert.ReferenceIdeal.Facts] [hPre_rows_fill : Cert.Pre_rows_fill.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_fill m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fill : Cert.Pre_groups_fill.Facts) (hPre_rows_fill : Cert.Pre_rows_fill.Facts),
    quiescent_Kernel (hKernel := hKernel) (hPre_groups_fill := hPre_groups_fill)
    ∧ quiescent_KernelIdeal (hKernelIdeal := hKernelIdeal) (hPre_groups_fill := hPre_groups_fill)
    ∧ quiescent_KernelIdeal_pre_rows_fill (hKernelIdeal := hKernelIdeal) (hPre_rows_fill := hPre_rows_fill)
    ∧ quiescent_ReferenceIdeal (hReferenceIdeal := hReferenceIdeal)
    ∧ quiescent_ReferenceIdeal_pre_rows_fill (hReferenceIdeal := hReferenceIdeal) (hPre_rows_fill := hPre_rows_fill)
    ∧ preserves_Kernel_KernelIdeal
    ∧ algebraic_KernelIdeal_ReferenceIdeal_pre_rows_fill (hKernelIdeal := hKernelIdeal) (hReferenceIdeal := hReferenceIdeal) (hPre_rows_fill := hPre_rows_fill)
-- ==== Pre_groups_fill.lean ====
abbrev S6144x2816 : Shape := ⟨2, ![6144, 2816]⟩
abbrev S64 : Shape := ⟨1, ![64]⟩
abbrev S64x1408x2048 : Shape := ⟨3, ![64, 1408, 2048]⟩
abbrev S64x22x2048 : Shape := ⟨3, ![64, 22, 2048]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S6144x2816 .bf16) (main_arg1 : IVec S64 32) (main_arg2 : IVec S64x1408x2048 8) (main_arg3 : FVec F S64x22x2048 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 6144#32
  let main_v2 : IVec S64 32 := broadcastInDim S64 ![] bcast_S_S64 main_c_0
  let main_v3 : IVec S64 1 := cmpi .sle main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S_ 32 := (fun x v => Host.reduce IntOp.addi x v reducesTo_S64_S_d0 h_S_) main_arg1 main_c_2
  let main_c_3 : IVec S_ 32 := constantI S_ 32 6144#32
  let main_v7 : IVec S_ 1 := cmpi .eq main_v6 main_c_3
  let main_v8 : IVec S_ 1 := andi main_v5 main_v7
  main_v8
-- ==== Pre_rows_fill.lean ====
abbrev S6144x2816 : Shape := ⟨2, ![6144, 2816]⟩
abbrev S64 : Shape := ⟨1, ![64]⟩
abbrev S64x1408x2048 : Shape := ⟨3, ![64, 1408, 2048]⟩
abbrev S64x22x2048 : Shape := ⟨3, ![64, 22, 2048]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bitsLt_bf16_f32 : FTy.bits .bf16 < FTy.bits .f32
  bcast_S_S6144x2816 : S_.BroadcastsInDim S6144x2816 (![] : Fin 0 → Fin S6144x2816.rank)
  reducesTo_S6144x2816_S_d0_1 : S6144x2816.ReducesTo [0, 1] S_

variable [Facts]

def fn {F : FTy → Type} [FloatOps F] (main_arg0 : FVec F S6144x2816 .bf16) (main_arg1 : IVec S64 32) (main_arg2 : IVec S64x1408x2048 8) (main_arg3 : FVec F S64x22x2048 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 6144#32
  let main_v2 : IVec S64 32 := broadcastInDim S64 ![] bcast_S_S64 main_c_0
  let main_v3 : IVec S64 1 := cmpi .sle main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S_ 32 := (fun x v => Host.reduce IntOp.addi x v reducesTo_S64_S_d0 h_S_) main_arg1 main_c_2
  let main_c_3 : IVec S_ 32 := constantI S_ 32 6144#32
  let main_v7 : IVec S_ 1 := cmpi .eq main_v6 main_c_3
  let main_v8 : IVec S_ 1 := andi main_v5 main_v7
  let main_v9 : FVec F S6144x2816 .f32 := (extf .f32 · bitsLt_bf16_f32) main_arg0
  let main_v10 : FVec F S6144x2816 .f32 := Host.absf main_v9
  let main_cst : FVec F S_ .f32 := constant S_ .f32 0x7F7F0000#32
  let main_v11 : FVec F S6144x2816 .f32 := broadcastInDim S6144x2816 ![] bcast_S_S6144x2816 main_cst
  let main_v12 : IVec S6144x2816 1 := cmpf .ole main_v10 main_v11
  let main_c_4 : IVec S_ 1 := constantI S_ 1 1#1
  let main_v13 : IVec S_ 1 := (fun x v => Host.reduce IntOp.andi x v reducesTo_S6144x2816_S_d0_1 h_S_) main_v12 main_c_4
  let main_v14 : IVec S_ 1 := andi main_v8 main_v13
  main_v14
-- ==== Kernel.lean ====
abbrev S6144x2816 : Shape := ⟨2, ![6144, 2816]⟩
abbrev S64 : Shape := ⟨1, ![64]⟩
abbrev S64x1408x2048 : Shape := ⟨3, ![64, 1408, 2048]⟩
abbrev S64x22x2048 : Shape := ⟨3, ![64, 22, 2048]⟩
abbrev S6144x2048 : Shape := ⟨2, ![6144, 2048]⟩
abbrev S128 : Shape := ⟨1, ![128]⟩
abbrev S3x1408x2048 : Shape := ⟨3, ![3, 1408, 2048]⟩
abbrev S3x22x2048 : Shape := ⟨3, ![3, 22, 2048]⟩
abbrev S2x128x2816 : Shape := ⟨3, ![2, 128, 2816]⟩
abbrev S128x2816 : Shape := ⟨2, ![128, 2816]⟩
abbrev S128x128 : Shape := ⟨2, ![128, 128]⟩
abbrev S3 : Shape := ⟨1, ![3]⟩
abbrev S2 : Shape := ⟨1, ![2]⟩
abbrev S_ : Shape := ⟨0, ![]⟩
abbrev S1 : Shape := ⟨1, ![1]⟩
abbrev S1x1408x2048 : Shape := ⟨3, ![1, 1408, 2048]⟩
abbrev S1408x2048 : Shape := ⟨2, ![1408, 2048]⟩
abbrev S1x22x2048 : Shape := ⟨3, ![1, 22, 2048]⟩
abbrev S22x2048 : Shape := ⟨2, ![22, 2048]⟩
abbrev S1x128x2816 : Shape := ⟨3, ![1, 128, 2816]⟩
abbrev S16x2816 : Shape := ⟨2, ![16, 2816]⟩
abbrev S16x128 : Shape := ⟨2, ![16, 128]⟩
abbrev S16 : Shape := ⟨1, ![16]⟩
abbrev S16x1 : Shape := ⟨2, ![16, 1]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S32x256 : Shape := ⟨2, ![32, 256]⟩

abbrev nBuf : Space → Nat
  | .hbm => 5
  | .vmem => 6
  | .smem => 8
  | _ => 0

abbrev bufTy : (tb : Table) → Fin (tcTables nBuf tb) → BufTy
  | .hbm, ⟨0, _⟩ => ⟨S6144x2816, .bf16⟩
  | .hbm, ⟨1, _⟩ => ⟨S64, .i32⟩
  | .hbm, ⟨2, _⟩ => ⟨S64x1408x2048, .i8⟩
  | .hbm, ⟨3, _⟩ => ⟨S64x22x2048, .f32⟩
  | .hbm, ⟨4, _⟩ => ⟨S6144x2048, .bf16⟩
  | .local _ .vmem, ⟨0, _⟩ => ⟨S3x1408x2048, .i8⟩
  | .local _ .vmem, ⟨1, _⟩ => ⟨S3x22x2048, .f32⟩
  | .local _ .vmem, ⟨2, _⟩ => ⟨S2x128x2816, .bf16⟩
  | .local _ .vmem, ⟨3, _⟩ => ⟨S128x2816, .bf16⟩
  | .local _ .vmem, ⟨4, _⟩ => ⟨S128x128, .f32⟩
  | .local _ .vmem, ⟨5, _⟩ => ⟨S6144x2048, .bf16⟩
  | .local _ .smem, ⟨0, _⟩ => ⟨S64, .i32⟩
  | .local _ .smem, ⟨1, _⟩ => ⟨S128, .i32⟩
  | .local _ .smem, ⟨2, _⟩ => ⟨S128, .i32⟩
  | .local _ .smem, ⟨3, _⟩ => ⟨S128, .i32⟩
  | .local _ .smem, ⟨4, _⟩ => ⟨S128, .i32⟩
  | .local _ .smem, ⟨5, _⟩ => ⟨S128, .i32⟩
  | .local _ .smem, ⟨6, _⟩ => ⟨S128, .i32⟩
  | .local _ .smem, ⟨7, _⟩ => ⟨S64, .i32⟩
  | _, _ => ⟨S6144x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch7 : Ref sig .tc := ⟨.vmem, 0, rfl⟩
abbrev cc0_scratch8 : Ref sig .tc := ⟨.vmem, 1, rfl⟩
abbrev cc0_scratch9 : Ref sig .tc := ⟨.vmem, 2, rfl⟩
abbrev cc0_scratch10 : Ref sig .tc := ⟨.vmem, 3, rfl⟩
abbrev cc0_scratch11 : Ref sig .tc := ⟨.vmem, 4, rfl⟩
abbrev cc0_scratch12 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_scratch2 : Ref sig .tc := ⟨.smem, 3, rfl⟩
abbrev cc0_scratch3 : Ref sig .tc := ⟨.smem, 4, rfl⟩
abbrev cc0_scratch4 : Ref sig .tc := ⟨.smem, 5, rfl⟩
abbrev cc0_scratch5 : Ref sig .tc := ⟨.smem, 6, rfl⟩
abbrev cc0_scratch6 : Ref sig .tc := ⟨.smem, 7, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c64_i32 : BitVec 32 := 64#32
  let v0 : BitVec 32 := Scalar.addi c0_i32_2 c64_i32
  let c1_i32 : BitVec 32 := 1#32
  ⟨c0_i32_2, v0, c1_i32⟩
def k0_off1 (k0_t1 : Fin k0_t1_loop.trips) : Fin 1 → Nat :=
  let c0_i32_2 : BitVec 32 := 0#32
  let c1_i32 : BitVec 32 := 1#32
  let arg22 : BitVec 32 := Scf.iv c0_i32_2 c1_i32 k0_t1
  let v15 : Index := Scalar.indexCast arg22
  ![v15.toNat]
def k0_off2 (arg25 : BitVec 32) : Fin 1 → Nat :=
  let v54 : Index := Scalar.indexCast arg25
  ![v54.toNat]
def k0_cond1 (v16 : BitVec 32) : BitVec 1 :=
  let c0_i32_15 : BitVec 32 := 0#32
  let v18 : BitVec 1 := Scalar.cmpi .sgt v16 c0_i32_15
  let v19 : BitVec 32 := Scalar.extui v18
  let c0_i32_16 : BitVec 32 := 0#32
  let v20 : BitVec 1 := Scalar.cmpi .ne v19 c0_i32_16
  v20

@[reducible] def k0_t2_loop (arg23 : BitVec 32) (v16 : BitVec 32) : Scf.Loop 32 :=
  let c0_i32_27 : BitVec 32 := 0#32
  let c0_i32_17 : BitVec 32 := 0#32
  let v21 : BitVec 1 := Scalar.cmpi .sgt v16 c0_i32_17
  let v17 : BitVec 32 := Scalar.addi arg23 v16
  let c_m16_i32 : BitVec 32 := 4294967280#32
  let v22 : BitVec 32 := Scalar.andi arg23 c_m16_i32
  let v23 : BitVec 32 := Scalar.subi v17 v22
  let c128_i32 : BitVec 32 := 128#32
  let v24 : BitVec 32 := Scalar.addi v23 c128_i32
  let c1_i32_18 : BitVec 32 := 1#32
  let v25 : BitVec 32 := Scalar.subi v24 c1_i32_18
  let c0_i32_20 : BitVec 32 := 0#32
  let v27 : BitVec 1 := Scalar.cmpi .sgt v25 c0_i32_20
  let v28 : BitVec 32 := Scalar.extui v27
  let c0_i32_21 : BitVec 32 := 0#32
  let v29 : BitVec 1 := Scalar.cmpi .slt v25 c0_i32_21
  let v30 : BitVec 32 := Scalar.extui v29
  let v31 : BitVec 32 := Scalar.subi v28 v30
  let c128_i32_19 : BitVec 32 := 128#32
  let c0_i32_22 : BitVec 32 := 0#32
  let v32 : BitVec 1 := Scalar.cmpi .sgt c128_i32_19 c0_i32_22
  let v33 : BitVec 32 := Scalar.extui v32
  let c0_i32_23 : BitVec 32 := 0#32
  let v34 : BitVec 1 := Scalar.cmpi .slt c128_i32_19 c0_i32_23
  let v35 : BitVec 32 := Scalar.extui v34
  let v36 : BitVec 32 := Scalar.subi v33 v35
  let v37 : BitVec 1 := Scalar.cmpi .ne v31 v36
  let v38 : BitVec 32 := Scalar.remsi v25 c128_i32_19
  let c0_i32_24 : BitVec 32 := 0#32
  let v39 : BitVec 1 := Scalar.cmpi .ne v38 c0_i32_24
  let v40 : BitVec 1 := Scalar.andi v37 v39
  let v26 : BitVec 32 := Scalar.divsi v25 c128_i32_19
  let c1_i32_25 : BitVec 32 := 1#32
  let v41 : BitVec 32 := Scalar.subi v26 c1_i32_25
  let v42 : BitVec 32 := Scalar.select v40 v41 v26
  let c0_i32_26 : BitVec 32 := 0#32
  let v43 : BitVec 32 := Scalar.select v21 v42 c0_i32_26
  let v44 : BitVec 32 := Scalar.subi v43 c0_i32_27
  let c1_i32_28 : BitVec 32 := 1#32
  let v46 : BitVec 32 := Scalar.divsi v44 c1_i32_28
  let v47 : BitVec 32 := Scalar.muli v46 c1_i32_28
  let v48 : BitVec 32 := Scalar.addi c0_i32_27 v47
  let c1_i32_29 : BitVec 32 := 1#32
  ⟨c0_i32_27, v48, c1_i32_29⟩
def k0_off3 (arg27 : BitVec 32) : Fin 1 → Nat :=
  let v58 : Index := Scalar.indexCast arg27
  ![v58.toNat]

def k0_chk2 (arg27 : BitVec 32) : Prop :=
  (∀ a, (k0_off3 arg27) a + S1.size a ≤ S128.size a)
theorem k0_off3_inb : ∀ (arg27 : BitVec 32) (k0_hw2 : k0_chk2 arg27), ∀ a, (k0_off3 arg27) a + S1.size a ≤ S128.size a := fun arg27 k0_hw2 => k0_hw2

@[reducible] def k0_t3_loop (arg23 : BitVec 32) (v16 : BitVec 32) : Scf.Loop 32 :=
  let c0_i32_27 : BitVec 32 := 0#32
  let c0_i32_17 : BitVec 32 := 0#32
  let v21 : BitVec 1 := Scalar.cmpi .sgt v16 c0_i32_17
  let v17 : BitVec 32 := Scalar.addi arg23 v16
  let c_m16_i32 : BitVec 32 := 4294967280#32
  let v22 : BitVec 32 := Scalar.andi arg23 c_m16_i32
  let v23 : BitVec 32 := Scalar.subi v17 v22
  let c128_i32 : BitVec 32 := 128#32
  let v24 : BitVec 32 := Scalar.addi v23 c128_i32
  let c1_i32_18 : BitVec 32 := 1#32
  let v25 : BitVec 32 := Scalar.subi v24 c1_i32_18
  let c0_i32_20 : BitVec 32 := 0#32
  let v27 : BitVec 1 := Scalar.cmpi .sgt v25 c0_i32_20
  let v28 : BitVec 32 := Scalar.extui v27
  let c0_i32_21 : BitVec 32 := 0#32
  let v29 : BitVec 1 := Scalar.cmpi .slt v25 c0_i32_21
  let v30 : BitVec 32 := Scalar.extui v29
  let v31 : BitVec 32 := Scalar.subi v28 v30
  let c128_i32_19 : BitVec 32 := 128#32
  let c0_i32_22 : BitVec 32 := 0#32
  let v32 : BitVec 1 := Scalar.cmpi .sgt c128_i32_19 c0_i32_22
  let v33 : BitVec 32 := Scalar.extui v32
  let c0_i32_23 : BitVec 32 := 0#32
  let v34 : BitVec 1 := Scalar.cmpi .slt c128_i32_19 c0_i32_23
  let v35 : BitVec 32 := Scalar.extui v34
  let v36 : BitVec 32 := Scalar.subi v33 v35
  let v37 : BitVec 1 := Scalar.cmpi .ne v31 v36
  let v38 : BitVec 32 := Scalar.remsi v25 c128_i32_19
  let c0_i32_24 : BitVec 32 := 0#32
  let v39 : BitVec 1 := Scalar.cmpi .ne v38 c0_i32_24
  let v40 : BitVec 1 := Scalar.andi v37 v39
  let v26 : BitVec 32 := Scalar.divsi v25 c128_i32_19
  let c1_i32_25 : BitVec 32 := 1#32
  let v41 : BitVec 32 := Scalar.subi v26 c1_i32_25
  let v42 : BitVec 32 := Scalar.select v40 v41 v26
  let c0_i32_26 : BitVec 32 := 0#32
  let v43 : BitVec 32 := Scalar.select v21 v42 c0_i32_26
  let v44 : BitVec 32 := Scalar.subi v43 c0_i32_27
  let c1_i32_28 : BitVec 32 := 1#32
  let v46 : BitVec 32 := Scalar.divsi v44 c1_i32_28
  let v47 : BitVec 32 := Scalar.muli v46 c1_i32_28
  let v48 : BitVec 32 := Scalar.addi c0_i32_27 v47
  let v45 : BitVec 32 := Scalar.addi c0_i32_27 v44
  let c1_i32_30 : BitVec 32 := 1#32
  ⟨v48, v45, c1_i32_30⟩

def k0_chk1 (arg23 : BitVec 32) (arg25 : BitVec 32) (v16 : BitVec 32) : Prop :=
  (∀ (k0_h1 : k0_cond1 v16 = 1#1), ∀ a, (k0_off2 arg25) a + S1.size a ≤ S64.size a) ∧
  ((k0_t2_loop arg23 v16).OK) ∧
  ((k0_t3_loop arg23 v16).OK)
theorem k0_off2_inb : ∀ (arg23 : BitVec 32) (arg25 : BitVec 32) (v16 : BitVec 32) (k0_hw1 : k0_chk1 arg23 arg25 v16), ∀ (k0_h1 : k0_cond1 v16 = 1#1), ∀ a, (k0_off2 arg25) a + S1.size a ≤ S64.size a := fun arg23 arg25 v16 k0_hw1 k0_h1 => k0_hw1.1 k0_h1
theorem k0_t2_ok : ∀ (arg23 : BitVec 32) (arg25 : BitVec 32) (v16 : BitVec 32) (k0_hw1 : k0_chk1 arg23 arg25 v16), (k0_t2_loop arg23 v16).OK := fun arg23 arg25 v16 k0_hw1 => k0_hw1.2.1
theorem k0_t3_ok : ∀ (arg23 : BitVec 32) (arg25 : BitVec 32) (v16 : BitVec 32) (k0_hw1 : k0_chk1 arg23 arg25 v16), (k0_t3_loop arg23 v16).OK := fun arg23 arg25 v16 k0_hw1 => k0_hw1.2.2

def k0_off4 (arg27 : BitVec 32) : Fin 1 → Nat :=
  let v58 : Index := Scalar.indexCast arg27
  ![v58.toNat]

def k0_chk3 (arg27 : BitVec 32) : Prop :=
  (∀ a, (k0_off4 arg27) a + S1.size a ≤ S128.size a)
theorem k0_off4_inb : ∀ (arg27 : BitVec 32) (k0_hw3 : k0_chk3 arg27), ∀ a, (k0_off4 arg27) a + S1.size a ≤ S128.size a := fun arg27 k0_hw3 => k0_hw3

def k0_off5 : Fin 1 → Nat :=
  let c0_i32_5 : BitVec 32 := 0#32
  let c3_i32 : BitVec 32 := 3#32
  let v17 : BitVec 32 := Scalar.remsi c0_i32_5 c3_i32
  ![v17.toNat]
def k0_off6 : Fin 3 → Nat :=
  let c0_i32_5 : BitVec 32 := 0#32
  let c3_i32 : BitVec 32 := 3#32
  let v17 : BitVec 32 := Scalar.remsi c0_i32_5 c3_i32
  let c0_i32_15 : BitVec 32 := 0#32
  let c0_i32_16 : BitVec 32 := 0#32
  ![v17.toNat, 0, 0]
def k0_off7 (v16 : BitVec 32) : Fin 3 → Nat :=
  let c0_i32_17 : BitVec 32 := 0#32
  let c0_i32_18 : BitVec 32 := 0#32
  ![v16.toNat, 0, 0]
def k0_cond2 (v1_2 : BitVec 32) : BitVec 1 :=
  let c0_i32_4 : BitVec 32 := 0#32
  let v2 : BitVec 1 := Scalar.cmpi .slt c0_i32_4 v1_2
  let v3 : BitVec 32 := Scalar.extui v2
  let c0_i32_6 : BitVec 32 := 0#32
  let v4 : BitVec 1 := Scalar.cmpi .ne v3 c0_i32_6
  v4

def k0_off8 : Fin 1 → Nat :=
  let c0_i32_5 : BitVec 32 := 0#32
  let c3_i32 : BitVec 32 := 3#32
  let v17 : BitVec 32 := Scalar.remsi c0_i32_5 c3_i32
  ![v17.toNat]
def k0_off9 : Fin 3 → Nat :=
  let c0_i32_5 : BitVec 32 := 0#32
  let c3_i32 : BitVec 32 := 3#32
  let v17 : BitVec 32 := Scalar.remsi c0_i32_5 c3_i32
  let c0_i32_19 : BitVec 32 := 0#32
  let c0_i32_20 : BitVec 32 := 0#32
  ![v17.toNat, 0, 0]
def k0_off10 (v16 : BitVec 32) : Fin 3 → Nat :=
  let c0_i32_21 : BitVec 32 := 0#32
  let c0_i32_22 : BitVec 32 := 0#32
  ![v16.toNat, 0, 0]

def k0_chk4 (v1_2 : BitVec 32) (v16 : BitVec 32) : Prop :=
  (∀ (k0_h2 : k0_cond2 v1_2 = 1#1), ∀ a, (k0_off7 v16) a + S1x1408x2048.size a ≤ S64x1408x2048.size a) ∧
  (∀ (k0_h2 : k0_cond2 v1_2 = 1#1), ∀ (hinb : ∀ a, (k0_off7 v16) a + S1x1408x2048.size a ≤ S64x1408x2048.size a), (Rect.unit (s := S64x1408x2048) (k0_off7 v16) S1x1408x2048.size hinb).WholeWords (EltTy.packing .i8)) ∧
  (∀ (k0_h2 : k0_cond2 v1_2 = 1#1), ∀ a, (k0_off10 v16) a + S1x22x2048.size a ≤ S64x22x2048.size a)
theorem k0_off7_inb : ∀ (v1_2 : BitVec 32) (v16 : BitVec 32) (k0_hw4 : k0_chk4 v1_2 v16), ∀ (k0_h2 : k0_cond2 v1_2 = 1#1), ∀ a, (k0_off7 v16) a + S1x1408x2048.size a ≤ S64x1408x2048.size a := fun v1_2 v16 k0_hw4 k0_h2 => k0_hw4.1 k0_h2
theorem k0_off7_wordsi8 : ∀ (v1_2 : BitVec 32) (v16 : BitVec 32) (k0_hw4 : k0_chk4 v1_2 v16), ∀ (k0_h2 : k0_cond2 v1_2 = 1#1), (Rect.unit (s := S64x1408x2048) (k0_off7 v16) S1x1408x2048.size (k0_off7_inb v1_2 v16 k0_hw4 k0_h2)).WholeWords (EltTy.packing .i8) := fun v1_2 v16 k0_hw4 k0_h2 => k0_hw4.2.1 k0_h2 (k0_off7_inb v1_2 v16 k0_hw4 k0_h2)
theorem k0_off10_inb : ∀ (v1_2 : BitVec 32) (v16 : BitVec 32) (k0_hw4 : k0_chk4 v1_2 v16), ∀ (k0_h2 : k0_cond2 v1_2 = 1#1), ∀ a, (k0_off10 v16) a + S1x22x2048.size a ≤ S64x22x2048.size a := fun v1_2 v16 k0_hw4 k0_h2 => k0_hw4.2.2 k0_h2

def k0_off11 : Fin 1 → Nat :=
  let c1_i32_8 : BitVec 32 := 1#32
  let c3_i32 : BitVec 32 := 3#32
  let v17 : BitVec 32 := Scalar.remsi c1_i32_8 c3_i32
  ![v17.toNat]
def k0_off12 : Fin 3 → Nat :=
  let c1_i32_8 : BitVec 32 := 1#32
  let c3_i32 : BitVec 32 := 3#32
  let v17 : BitVec 32 := Scalar.remsi c1_i32_8 c3_i32
  let c0_i32_15 : BitVec 32 := 0#32
  let c0_i32_16 : BitVec 32 := 0#32
  ![v17.toNat, 0, 0]
def k0_off13 (v16 : BitVec 32) : Fin 3 → Nat :=
  let c0_i32_17 : BitVec 32 := 0#32
  let c0_i32_18 : BitVec 32 := 0#32
  ![v16.toNat, 0, 0]
def k0_cond3 (v1_2 : BitVec 32) : BitVec 1 :=
  let c1_i32_7 : BitVec 32 := 1#32
  let v5 : BitVec 1 := Scalar.cmpi .slt c1_i32_7 v1_2
  let v6 : BitVec 32 := Scalar.extui v5
  let c0_i32_9 : BitVec 32 := 0#32
  let v7 : BitVec 1 := Scalar.cmpi .ne v6 c0_i32_9
  v7

def k0_off14 : Fin 1 → Nat :=
  let c1_i32_8 : BitVec 32 := 1#32
  let c3_i32 : BitVec 32 := 3#32
  let v17 : BitVec 32 := Scalar.remsi c1_i32_8 c3_i32
  ![v17.toNat]
def k0_off15 : Fin 3 → Nat :=
  let c1_i32_8 : BitVec 32 := 1#32
  let c3_i32 : BitVec 32 := 3#32
  let v17 : BitVec 32 := Scalar.remsi c1_i32_8 c3_i32
  let c0_i32_19 : BitVec 32 := 0#32
  let c0_i32_20 : BitVec 32 := 0#32
  ![v17.toNat, 0, 0]
def k0_off16 (v16 : BitVec 32) : Fin 3 → Nat :=
  let c0_i32_21 : BitVec 32 := 0#32
  let c0_i32_22 : BitVec 32 := 0#32
  ![v16.toNat, 0, 0]

def k0_chk5 (v1_2 : BitVec 32) (v16 : BitVec 32) : Prop :=
  (∀ (k0_h3 : k0_cond3 v1_2 = 1#1), ∀ a, (k0_off13 v16) a + S1x1408x2048.size a ≤ S64x1408x2048.size a) ∧
  (∀ (k0_h3 : k0_cond3 v1_2 = 1#1), ∀ (hinb : ∀ a, (k0_off13 v16) a + S1x1408x2048.size a ≤ S64x1408x2048.size a), (Rect.unit (s := S64x1408x2048) (k0_off13 v16) S1x1408x2048.size hinb).WholeWords (EltTy.packing .i8)) ∧
  (∀ (k0_h3 : k0_cond3 v1_2 = 1#1), ∀ a, (k0_off16 v16) a + S1x22x2048.size a ≤ S64x22x2048.size a)
theorem k0_off13_inb : ∀ (v1_2 : BitVec 32) (v16 : BitVec 32) (k0_hw5 : k0_chk5 v1_2 v16), ∀ (k0_h3 : k0_cond3 v1_2 = 1#1), ∀ a, (k0_off13 v16) a + S1x1408x2048.size a ≤ S64x1408x2048.size a := fun v1_2 v16 k0_hw5 k0_h3 => k0_hw5.1 k0_h3
theorem k0_off13_wordsi8 : ∀ (v1_2 : BitVec 32) (v16 : BitVec 32) (k0_hw5 : k0_chk5 v1_2 v16), ∀ (k0_h3 : k0_cond3 v1_2 = 1#1), (Rect.unit (s := S64x1408x2048) (k0_off13 v16) S1x1408x2048.size (k0_off13_inb v1_2 v16 k0_hw5 k0_h3)).WholeWords (EltTy.packing .i8) := fun v1_2 v16 k0_hw5 k0_h3 => k0_hw5.2.1 k0_h3 (k0_off13_inb v1_2 v16 k0_hw5 k0_h3)
theorem k0_off16_inb : ∀ (v1_2 : BitVec 32) (v16 : BitVec 32) (k0_hw5 : k0_chk5 v1_2 v16), ∀ (k0_h3 : k0_cond3 v1_2 = 1#1), ∀ a, (k0_off16 v16) a + S1x22x2048.size a ≤ S64x22x2048.size a := fun v1_2 v16 k0_hw5 k0_h3 => k0_hw5.2.2 k0_h3

def k0_mult1 (v8 : BitVec 32) : BitVec 32 :=
  v8

def k0_off17 (v8 : BitVec 32) : Fin 2 → Nat :=
  let v9 : BitVec 32 := v8
  let c0_i32_14 : BitVec 32 := 0#32
  ![v9.toNat, 0]

def k0_chk6 (v8 : BitVec 32) : Prop :=
  (16 ∣ (k0_mult1 v8).toNat) ∧
  (∀ a, (k0_off17 v8) a + S128x2816.size a ≤ S6144x2816.size a) ∧
  (∀ (hinb : ∀ a, (k0_off17 v8) a + S128x2816.size a ≤ S6144x2816.size a), (Rect.unit (s := S6144x2816) (k0_off17 v8) S128x2816.size hinb).WholeWords (EltTy.packing .bf16))
theorem k0_mult1_dvd : ∀ (v8 : BitVec 32) (k0_hw6 : k0_chk6 v8), 16 ∣ (k0_mult1 v8).toNat := fun v8 k0_hw6 => k0_hw6.1
theorem k0_off17_inb : ∀ (v8 : BitVec 32) (k0_hw6 : k0_chk6 v8), ∀ a, (k0_off17 v8) a + S128x2816.size a ≤ S6144x2816.size a := fun v8 k0_hw6 => k0_hw6.2.1
theorem k0_off17_wordsbf16 : ∀ (v8 : BitVec 32) (k0_hw6 : k0_chk6 v8), (Rect.unit (s := S6144x2816) (k0_off17 v8) S128x2816.size (k0_off17_inb v8 k0_hw6)).WholeWords (EltTy.packing .bf16) := fun v8 k0_hw6 => k0_hw6.2.2 (k0_off17_inb v8 k0_hw6)

@[reducible] def k0_t4_loop (v1_1 : BitVec 32) : Scf.Loop 32 :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_18_r0 : BitVec 32 := 1#32
  ⟨c0_i32_15_r0, v19_r0, c1_i32_18_r0⟩

def k0_off18 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let c1_i32_3343_r0 : BitVec 32 := 1#32
  let v8646_r0 : BitVec 32 := Scalar.addi arg22_r0 c1_i32_3343_r0
  let v8647_r0 : Index := Scalar.indexCast v8646_r0
  ![v8647_r0.toNat]
def k0_cond4 (v1_1 : BitVec 32) (k0_t4 : Fin (k0_t4_loop v1_1).trips) : BitVec 1 :=
  let c0_i32_15_r0 : BitVec 32 := 0#32
  let c1_i32_18_r0 : BitVec 32 := 1#32
  let arg22_r0 : BitVec 32 := Scf.iv c0_i32_15_r0 c1_i32_18_r0 k0_t4
  let c1_i32_20_r0 : BitVec 32 := 1#32
  let v22_r0 : BitVec 32 := Scalar.addi arg22_r0 c1_i32_20_r0
  let v23_r0 : BitVec 1 := Scalar.cmpi .slt v22_r0 v1_1
  let v24_r0 : BitVec 32 := Scalar.extui v23_r0
  let c0_i32_21_r0 : BitVec 32 := 0#32
  let v25_r0 : BitVec 1 := Scalar.cmpi .ne v24_r0 c0_i32_21_r0
  v25_r0

def k0_mult2 (v8648_r0 : BitVec 32) : BitVec 32 :=
  v8648_r0

def k0_off19 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let c1_i32_3343_r0 : BitVec 32 := 1#32
  let v8646_r0 : BitVec 32 := Scalar.addi arg22_r0 c1_i32_3343_r0
  let c2_i32_3350_r0 : BitVec 32 := 2#32
  let c0_i32_3351_r0 : BitVec 32 := 0#32
  let v8660_r0 : BitVec 1 := Scalar.cmpi .eq c2_i32_3350_r0 c0_i32_3351_r0
  let c1_i32_3352_r0 : BitVec 32 := 1#32
  let v8661_r0 : BitVec 32 := Scalar.select v8660_r0 c1_i32_3352_r0 c2_i32_3350_r0
  let v8662_r0 : BitVec 32 := Scalar.remsi v8646_r0 v8661_r0
  let c0_i32_3354_r0 : BitVec 32 := 0#32
  let v8664_r0 : BitVec 1 := Scalar.cmpi .slt v8662_r0 c0_i32_3354_r0
  let c0_i32_3355_r0 : BitVec 32 := 0#32
  let v8665_r0 : BitVec 1 := Scalar.cmpi .slt v8661_r0 c0_i32_3355_r0
  let v8666_r0 : BitVec 1 := Scalar.xori v8664_r0 v8665_r0
  let c0_i32_3353_r0 : BitVec 32 := 0#32
  let v8663_r0 : BitVec 1 := Scalar.cmpi .ne v8662_r0 c0_i32_3353_r0
  let v8667_r0 : BitVec 1 := Scalar.andi v8666_r0 v8663_r0
  let v8668_r0 : BitVec 32 := Scalar.addi v8662_r0 v8661_r0
  let v8669_r0 : BitVec 32 := Scalar.select v8667_r0 v8668_r0 v8662_r0
  ![v8669_r0.toNat]
def k0_off20 (v1_1 : BitVec 32) (k0_t4 : Fin (k0_t4_loop v1_1).trips) : Fin 3 → Nat :=
  let c0_i32_15_r0 : BitVec 32 := 0#32
  let c1_i32_18_r0 : BitVec 32 := 1#32
  let arg22_r0 : BitVec 32 := Scf.iv c0_i32_15_r0 c1_i32_18_r0 k0_t4
  let c1_i32_3343_r0 : BitVec 32 := 1#32
  let v8646_r0 : BitVec 32 := Scalar.addi arg22_r0 c1_i32_3343_r0
  let c2_i32_3344_r0 : BitVec 32 := 2#32
  let c0_i32_3345_r0 : BitVec 32 := 0#32
  let v8650_r0 : BitVec 1 := Scalar.cmpi .eq c2_i32_3344_r0 c0_i32_3345_r0
  let c1_i32_3346_r0 : BitVec 32 := 1#32
  let v8651_r0 : BitVec 32 := Scalar.select v8650_r0 c1_i32_3346_r0 c2_i32_3344_r0
  let v8652_r0 : BitVec 32 := Scalar.remsi v8646_r0 v8651_r0
  let c0_i32_3348_r0 : BitVec 32 := 0#32
  let v8654_r0 : BitVec 1 := Scalar.cmpi .slt v8652_r0 c0_i32_3348_r0
  let c0_i32_3349_r0 : BitVec 32 := 0#32
  let v8655_r0 : BitVec 1 := Scalar.cmpi .slt v8651_r0 c0_i32_3349_r0
  let v8656_r0 : BitVec 1 := Scalar.xori v8654_r0 v8655_r0
  let c0_i32_3347_r0 : BitVec 32 := 0#32
  let v8653_r0 : BitVec 1 := Scalar.cmpi .ne v8652_r0 c0_i32_3347_r0
  let v8657_r0 : BitVec 1 := Scalar.andi v8656_r0 v8653_r0
  let v8658_r0 : BitVec 32 := Scalar.addi v8652_r0 v8651_r0
  let v8659_r0 : BitVec 32 := Scalar.select v8657_r0 v8658_r0 v8652_r0
  let c0_i32_3356_r0 : BitVec 32 := 0#32
  let c0_i32_3357_r0 : BitVec 32 := 0#32
  ![v8659_r0.toNat, 0, 0]
def k0_off21 (v8648_r0 : BitVec 32) : Fin 2 → Nat :=
  let v8649_r0 : BitVec 32 := v8648_r0
  let c0_i32_3358_r0 : BitVec 32 := 0#32
  ![v8649_r0.toNat, 0]

def k0_chk8 (v1_1 : BitVec 32) (k0_t4 : Fin (k0_t4_loop v1_1).trips) (v8648_r0 : BitVec 32) : Prop :=
  (∀ (k0_h4 : k0_cond4 v1_1 k0_t4 = 1#1), 16 ∣ (k0_mult2 v8648_r0).toNat) ∧
  (∀ (k0_h4 : k0_cond4 v1_1 k0_t4 = 1#1), ∀ a, (k0_off21 v8648_r0) a + S128x2816.size a ≤ S6144x2816.size a) ∧
  (∀ (k0_h4 : k0_cond4 v1_1 k0_t4 = 1#1), ∀ (hinb : ∀ a, (k0_off21 v8648_r0) a + S128x2816.size a ≤ S6144x2816.size a), (Rect.unit (s := S6144x2816) (k0_off21 v8648_r0) S128x2816.size hinb).WholeWords (EltTy.packing .bf16))
theorem k0_mult2_dvd : ∀ (v1_1 : BitVec 32) (k0_t4 : Fin (k0_t4_loop v1_1).trips) (v8648_r0 : BitVec 32) (k0_hw8 : k0_chk8 v1_1 k0_t4 v8648_r0), ∀ (k0_h4 : k0_cond4 v1_1 k0_t4 = 1#1), 16 ∣ (k0_mult2 v8648_r0).toNat := fun v1_1 k0_t4 v8648_r0 k0_hw8 k0_h4 => k0_hw8.1 k0_h4
theorem k0_off21_inb : ∀ (v1_1 : BitVec 32) (k0_t4 : Fin (k0_t4_loop v1_1).trips) (v8648_r0 : BitVec 32) (k0_hw8 : k0_chk8 v1_1 k0_t4 v8648_r0), ∀ (k0_h4 : k0_cond4 v1_1 k0_t4 = 1#1), ∀ a, (k0_off21 v8648_r0) a + S128x2816.size a ≤ S6144x2816.size a := fun v1_1 k0_t4 v8648_r0 k0_hw8 k0_h4 => k0_hw8.2.1 k0_h4
theorem k0_off21_wordsbf16 : ∀ (v1_1 : BitVec 32) (k0_t4 : Fin (k0_t4_loop v1_1).trips) (v8648_r0 : BitVec 32) (k0_hw8 : k0_chk8 v1_1 k0_t4 v8648_r0), ∀ (k0_h4 : k0_cond4 v1_1 k0_t4 = 1#1), (Rect.unit (s := S6144x2816) (k0_off21 v8648_r0) S128x2816.size (k0_off21_inb v1_1 k0_t4 v8648_r0 k0_hw8 k0_h4)).WholeWords (EltTy.packing .bf16) := fun v1_1 k0_t4 v8648_r0 k0_hw8 k0_h4 => k0_hw8.2.2 k0_h4 (k0_off21_inb v1_1 k0_t4 v8648_r0 k0_hw8 k0_h4)

def k0_off22 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let v26_r0 : Index := Scalar.indexCast arg22_r0
  ![v26_r0.toNat]
def k0_off23 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let v8646_r0 : Index := Scalar.indexCast arg22_r0
  ![v8646_r0.toNat]
def k0_cond5 (v29_r0 : BitVec 32) : BitVec 1 :=
  let c0_i32_22_r0 : BitVec 32 := 0#32
  let v30_r0 : BitVec 1 := Scalar.cmpi .sgt v29_r0 c0_i32_22_r0
  let v31_r0 : BitVec 32 := Scalar.extui v30_r0
  let c0_i32_23_r0 : BitVec 32 := 0#32
  let v32_r0 : BitVec 1 := Scalar.cmpi .ne v31_r0 c0_i32_23_r0
  v32_r0

def k0_off24 (v27_r0 : BitVec 32) : Fin 1 → Nat :=
  ![v27_r0.toNat]
def k0_off25 (v27_r0 : BitVec 32) : Fin 3 → Nat :=
  let c0_i32_3343_r0 : BitVec 32 := 0#32
  let c0_i32_3344_r0 : BitVec 32 := 0#32
  ![v27_r0.toNat, 0, 0]
def k0_off26 (v8647_r0 : BitVec 32) : Fin 3 → Nat :=
  let c0_i32_3345_r0 : BitVec 32 := 0#32
  let c0_i32_3346_r0 : BitVec 32 := 0#32
  ![v8647_r0.toNat, 0, 0]

def k0_off27 (v27_r0 : BitVec 32) : Fin 1 → Nat :=
  ![v27_r0.toNat]
def k0_off28 (v27_r0 : BitVec 32) : Fin 3 → Nat :=
  let c0_i32_3347_r0 : BitVec 32 := 0#32
  let c0_i32_3348_r0 : BitVec 32 := 0#32
  ![v27_r0.toNat, 0, 0]
def k0_off29 (v8647_r0 : BitVec 32) : Fin 3 → Nat :=
  let c0_i32_3349_r0 : BitVec 32 := 0#32
  let c0_i32_3350_r0 : BitVec 32 := 0#32
  ![v8647_r0.toNat, 0, 0]

def k0_chk10 (v29_r0 : BitVec 32) (v8647_r0 : BitVec 32) : Prop :=
  (∀ (k0_h5 : k0_cond5 v29_r0 = 1#1), ∀ a, (k0_off26 v8647_r0) a + S1x1408x2048.size a ≤ S64x1408x2048.size a) ∧
  (∀ (k0_h5 : k0_cond5 v29_r0 = 1#1), ∀ (hinb : ∀ a, (k0_off26 v8647_r0) a + S1x1408x2048.size a ≤ S64x1408x2048.size a), (Rect.unit (s := S64x1408x2048) (k0_off26 v8647_r0) S1x1408x2048.size hinb).WholeWords (EltTy.packing .i8)) ∧
  (∀ (k0_h5 : k0_cond5 v29_r0 = 1#1), ∀ a, (k0_off29 v8647_r0) a + S1x22x2048.size a ≤ S64x22x2048.size a)
theorem k0_off26_inb : ∀ (v29_r0 : BitVec 32) (v8647_r0 : BitVec 32) (k0_hw10 : k0_chk10 v29_r0 v8647_r0), ∀ (k0_h5 : k0_cond5 v29_r0 = 1#1), ∀ a, (k0_off26 v8647_r0) a + S1x1408x2048.size a ≤ S64x1408x2048.size a := fun v29_r0 v8647_r0 k0_hw10 k0_h5 => k0_hw10.1 k0_h5
theorem k0_off26_wordsi8 : ∀ (v29_r0 : BitVec 32) (v8647_r0 : BitVec 32) (k0_hw10 : k0_chk10 v29_r0 v8647_r0), ∀ (k0_h5 : k0_cond5 v29_r0 = 1#1), (Rect.unit (s := S64x1408x2048) (k0_off26 v8647_r0) S1x1408x2048.size (k0_off26_inb v29_r0 v8647_r0 k0_hw10 k0_h5)).WholeWords (EltTy.packing .i8) := fun v29_r0 v8647_r0 k0_hw10 k0_h5 => k0_hw10.2.1 k0_h5 (k0_off26_inb v29_r0 v8647_r0 k0_hw10 k0_h5)
theorem k0_off29_inb : ∀ (v29_r0 : BitVec 32) (v8647_r0 : BitVec 32) (k0_hw10 : k0_chk10 v29_r0 v8647_r0), ∀ (k0_h5 : k0_cond5 v29_r0 = 1#1), ∀ a, (k0_off29 v8647_r0) a + S1x22x2048.size a ≤ S64x22x2048.size a := fun v29_r0 v8647_r0 k0_hw10 k0_h5 => k0_hw10.2.2 k0_h5

def k0_off30 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let v8666_r0 : Index := Scalar.indexCast v8662_r0
  ![v8666_r0.toNat]
def k0_cond6 (v1_2 : BitVec 32) (v29_r0 : BitVec 32) : BitVec 1 :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let v8663_r0 : BitVec 1 := Scalar.cmpi .slt v8662_r0 v1_2
  let v8664_r0 : BitVec 32 := Scalar.extui v8663_r0
  let c0_i32_3353_r0 : BitVec 32 := 0#32
  let v8665_r0 : BitVec 1 := Scalar.cmpi .ne v8664_r0 c0_i32_3353_r0
  v8665_r0

def k0_off31 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  ![v8668_r0.toNat]
def k0_off32 (v29_r0 : BitVec 32) : Fin 3 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  let c0_i32_3355_r0 : BitVec 32 := 0#32
  let c0_i32_3356_r0 : BitVec 32 := 0#32
  ![v8668_r0.toNat, 0, 0]
def k0_off33 (v8667_r0 : BitVec 32) : Fin 3 → Nat :=
  let c0_i32_3357_r0 : BitVec 32 := 0#32
  let c0_i32_3358_r0 : BitVec 32 := 0#32
  ![v8667_r0.toNat, 0, 0]

def k0_off34 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  ![v8668_r0.toNat]
def k0_off35 (v29_r0 : BitVec 32) : Fin 3 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  let c0_i32_3359_r0 : BitVec 32 := 0#32
  let c0_i32_3360_r0 : BitVec 32 := 0#32
  ![v8668_r0.toNat, 0, 0]

def k0_chk9 (v1_2 : BitVec 32) (v1_1 : BitVec 32) (k0_t4 : Fin (k0_t4_loop v1_1).trips) (v27_r0 : BitVec 32) (v29_r0 : BitVec 32) : Prop :=
  (∀ (k0_h5 : k0_cond5 v29_r0 = 1#1), ∀ a, (k0_off23 v1_1 k0_t4) a + S1.size a ≤ S128.size a) ∧
  (∀ (k0_h5 : k0_cond5 v29_r0 = 1#1), ∀ a, (k0_off24 v27_r0) a + S1.size a ≤ S3.size a) ∧
  (∀ (k0_h5 : k0_cond5 v29_r0 = 1#1), ∀ a, (k0_off25 v27_r0) a + S1x1408x2048.size a ≤ S3x1408x2048.size a) ∧
  (∀ (k0_h5 : k0_cond5 v29_r0 = 1#1), ∀ (hinb : ∀ a, (k0_off25 v27_r0) a + S1x1408x2048.size a ≤ S3x1408x2048.size a), (Rect.unit (s := S3x1408x2048) (k0_off25 v27_r0) S1x1408x2048.size hinb).WholeWords (EltTy.packing .i8)) ∧
  (∀ (k0_h5 : k0_cond5 v29_r0 = 1#1), ∀ a, (k0_off27 v27_r0) a + S1.size a ≤ S3.size a) ∧
  (∀ (k0_h5 : k0_cond5 v29_r0 = 1#1), ∀ a, (k0_off28 v27_r0) a + S1x22x2048.size a ≤ S3x22x2048.size a) ∧
  (∀ (k0_h5 : k0_cond5 v29_r0 = 1#1), ∀ (k0_h6 : k0_cond6 v1_2 v29_r0 = 1#1), ∀ a, (k0_off30 v29_r0) a + S1.size a ≤ S64.size a) ∧
  (∀ (k0_h5 : k0_cond5 v29_r0 = 1#1), ∀ (k0_h6 : k0_cond6 v1_2 v29_r0 = 1#1), ∀ a, (k0_off31 v29_r0) a + S1.size a ≤ S3.size a) ∧
  (∀ (k0_h5 : k0_cond5 v29_r0 = 1#1), ∀ (k0_h6 : k0_cond6 v1_2 v29_r0 = 1#1), ∀ a, (k0_off32 v29_r0) a + S1x1408x2048.size a ≤ S3x1408x2048.size a) ∧
  (∀ (k0_h5 : k0_cond5 v29_r0 = 1#1), ∀ (k0_h6 : k0_cond6 v1_2 v29_r0 = 1#1), ∀ (hinb : ∀ a, (k0_off32 v29_r0) a + S1x1408x2048.size a ≤ S3x1408x2048.size a), (Rect.unit (s := S3x1408x2048) (k0_off32 v29_r0) S1x1408x2048.size hinb).WholeWords (EltTy.packing .i8)) ∧
  (∀ (k0_h5 : k0_cond5 v29_r0 = 1#1), ∀ (k0_h6 : k0_cond6 v1_2 v29_r0 = 1#1), ∀ a, (k0_off34 v29_r0) a + S1.size a ≤ S3.size a) ∧
  (∀ (k0_h5 : k0_cond5 v29_r0 = 1#1), ∀ (k0_h6 : k0_cond6 v1_2 v29_r0 = 1#1), ∀ a, (k0_off35 v29_r0) a + S1x22x2048.size a ≤ S3x22x2048.size a)
theorem k0_off23_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ a, (k0_off23 v1_1 k0_t4) a + S1.size a ≤ S128.size a := fun v1_2 v1_1 k0_t4 v27_r0 v29_r0 k0_hw9 k0_h5 => k0_hw9.1 k0_h5
theorem k0_off24_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ a, (k0_off24 v27_r0) a + S1.size a ≤ S3.size a := fun v1_2 v1_1 k0_t4 v27_r0 v29_r0 k0_hw9 k0_h5 => k0_hw9.2.1 k0_h5
theorem k0_off25_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ a, (k0_off25 v27_r0) a + S1x1408x2048.size a ≤ S3x1408x2048.size a := fun v1_2 v1_1 k0_t4 v27_r0 v29_r0 k0_hw9 k0_h5 => k0_hw9.2.2.1 k0_h5
theorem k0_off25_wordsi8 : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), (Rect.unit (s := S3x1408x2048) (k0_off25 v27_r0) S1x1408x2048.size (k0_off25_inb v1_2 v1_1 k0_t4 v27_r0 v29_r0 k0_hw9 k0_h5)).WholeWords (EltTy.packing .i8) := fun v1_2 v1_1 k0_t4 v27_r0 v29_r0 k0_hw9 k0_h5 => k0_hw9.2.2.2.1 k0_h5 (k0_off25_inb v1_2 v1_1 k0_t4 v27_r0 v29_r0 k0_hw9 k0_h5)
theorem k0_off27_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ a, (k0_off27 v27_r0) a + S1.size a ≤ S3.size a := fun v1_2 v1_1 k0_t4 v27_r0 v29_r0 k0_hw9 k0_h5 => k0_hw9.2.2.2.2.1 k0_h5
theorem k0_off28_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ a, (k0_off28 v27_r0) a + S1x22x2048.size a ≤ S3x22x2048.size a := fun v1_2 v1_1 k0_t4 v27_r0 v29_r0 k0_hw9 k0_h5 => k0_hw9.2.2.2.2.2.1 k0_h5
theorem k0_off30_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), ∀ a, (k0_off30 v29_r0) a + S1.size a ≤ S64.size a := fun v1_2 v1_1 k0_t4 v27_r0 v29_r0 k0_hw9 k0_h5 k0_h6 => k0_hw9.2.2.2.2.2.2.1 k0_h5 k0_h6
theorem k0_off31_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), ∀ a, (k0_off31 v29_r0) a + S1.size a ≤ S3.size a := fun v1_2 v1_1 k0_t4 v27_r0 v29_r0 k0_hw9 k0_h5 k0_h6 => k0_hw9.2.2.2.2.2.2.2.1 k0_h5 k0_h6
theorem k0_off32_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), ∀ a, (k0_off32 v29_r0) a + S1x1408x2048.size a ≤ S3x1408x2048.size a := fun v1_2 v1_1 k0_t4 v27_r0 v29_r0 k0_hw9 k0_h5 k0_h6 => k0_hw9.2.2.2.2.2.2.2.2.1 k0_h5 k0_h6
theorem k0_off32_wordsi8 : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), (Rect.unit (s := S3x1408x2048) (k0_off32 v29_r0) S1x1408x2048.size (k0_off32_inb v1_2 v1_1 k0_t4 v27_r0 v29_r0 k0_hw9 k0_h5 k0_h6)).WholeWords (EltTy.packing .i8) := fun v1_2 v1_1 k0_t4 v27_r0 v29_r0 k0_hw9 k0_h5 k0_h6 => k0_hw9.2.2.2.2.2.2.2.2.2.1 k0_h5 k0_h6 (k0_off32_inb v1_2 v1_1 k0_t4 v27_r0 v29_r0 k0_hw9 k0_h5 k0_h6)
theorem k0_off34_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), ∀ a, (k0_off34 v29_r0) a + S1.size a ≤ S3.size a := fun v1_2 v1_1 k0_t4 v27_r0 v29_r0 k0_hw9 k0_h5 k0_h6 => k0_hw9.2.2.2.2.2.2.2.2.2.2.1 k0_h5 k0_h6
theorem k0_off35_inb : ∀ (v1_2 : BitVec 32) (v1_1 : BitVec 32) (k0_t4 : Fin (k0_t4_loop v1_1).trips) (v27_r0 : BitVec 32) (v29_r0 : BitVec 32) (k0_hw9 : k0_chk9 v1_2 v1_1 k0_t4 v27_r0 v29_r0), ∀ (k0_h5 : k0_cond5 v29_r0 = 1#1), ∀ (k0_h6 : k0_cond6 v1_2 v29_r0 = 1#1), ∀ a, (k0_off35 v29_r0) a + S1x22x2048.size a ≤ S3x22x2048.size a := fun v1_2 v1_1 k0_t4 v27_r0 v29_r0 k0_hw9 k0_h5 k0_h6 => k0_hw9.2.2.2.2.2.2.2.2.2.2.2 k0_h5 k0_h6

def k0_off36 (v8667_r0 : BitVec 32) : Fin 3 → Nat :=
  let c0_i32_3361_r0 : BitVec 32 := 0#32
  let c0_i32_3362_r0 : BitVec 32 := 0#32
  ![v8667_r0.toNat, 0, 0]

def k0_chk11 (v1_2 : BitVec 32) (v29_r0 : BitVec 32) (v8667_r0 : BitVec 32) : Prop :=
  (∀ (k0_h5 : k0_cond5 v29_r0 = 1#1), ∀ (k0_h6 : k0_cond6 v1_2 v29_r0 = 1#1), ∀ a, (k0_off33 v8667_r0) a + S1x1408x2048.size a ≤ S64x1408x2048.size a) ∧
  (∀ (k0_h5 : k0_cond5 v29_r0 = 1#1), ∀ (k0_h6 : k0_cond6 v1_2 v29_r0 = 1#1), ∀ (hinb : ∀ a, (k0_off33 v8667_r0) a + S1x1408x2048.size a ≤ S64x1408x2048.size a), (Rect.unit (s := S64x1408x2048) (k0_off33 v8667_r0) S1x1408x2048.size hinb).WholeWords (EltTy.packing .i8)) ∧
  (∀ (k0_h5 : k0_cond5 v29_r0 = 1#1), ∀ (k0_h6 : k0_cond6 v1_2 v29_r0 = 1#1), ∀ a, (k0_off36 v8667_r0) a + S1x22x2048.size a ≤ S64x22x2048.size a)
theorem k0_off33_inb : ∀ (v1_2 : BitVec 32) (v29_r0 : BitVec 32) (v8667_r0 : BitVec 32) (k0_hw11 : k0_chk11 v1_2 v29_r0 v8667_r0), ∀ (k0_h5 : k0_cond5 v29_r0 = 1#1), ∀ (k0_h6 : k0_cond6 v1_2 v29_r0 = 1#1), ∀ a, (k0_off33 v8667_r0) a + S1x1408x2048.size a ≤ S64x1408x2048.size a := fun v1_2 v29_r0 v8667_r0 k0_hw11 k0_h5 k0_h6 => k0_hw11.1 k0_h5 k0_h6
theorem k0_off33_wordsi8 : ∀ (v1_2 : BitVec 32) (v29_r0 : BitVec 32) (v8667_r0 : BitVec 32) (k0_hw11 : k0_chk11 v1_2 v29_r0 v8667_r0), ∀ (k0_h5 : k0_cond5 v29_r0 = 1#1), ∀ (k0_h6 : k0_cond6 v1_2 v29_r0 = 1#1), (Rect.unit (s := S64x1408x2048) (k0_off33 v8667_r0) S1x1408x2048.size (k0_off33_inb v1_2 v29_r0 v8667_r0 k0_hw11 k0_h5 k0_h6)).WholeWords (EltTy.packing .i8) := fun v1_2 v29_r0 v8667_r0 k0_hw11 k0_h5 k0_h6 => k0_hw11.2.1 k0_h5 k0_h6 (k0_off33_inb v1_2 v29_r0 v8667_r0 k0_hw11 k0_h5 k0_h6)
theorem k0_off36_inb : ∀ (v1_2 : BitVec 32) (v29_r0 : BitVec 32) (v8667_r0 : BitVec 32) (k0_hw11 : k0_chk11 v1_2 v29_r0 v8667_r0), ∀ (k0_h5 : k0_cond5 v29_r0 = 1#1), ∀ (k0_h6 : k0_cond6 v1_2 v29_r0 = 1#1), ∀ a, (k0_off36 v8667_r0) a + S1x22x2048.size a ≤ S64x22x2048.size a := fun v1_2 v29_r0 v8667_r0 k0_hw11 k0_h5 k0_h6 => k0_hw11.2.2 k0_h5 k0_h6

def k0_off37 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let v33_r0 : Index := Scalar.indexCast arg22_r0
  ![v33_r0.toNat]
def k0_mult3 (v34_r0 : BitVec 32) : BitVec 32 :=
  v34_r0

def k0_off38 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let c2_i32_29_r0 : BitVec 32 := 2#32
  let c0_i32_30_r0 : BitVec 32 := 0#32
  let v46_r0 : BitVec 1 := Scalar.cmpi .eq c2_i32_29_r0 c0_i32_30_r0
  let c1_i32_31_r0 : BitVec 32 := 1#32
  let v47_r0 : BitVec 32 := Scalar.select v46_r0 c1_i32_31_r0 c2_i32_29_r0
  let v48_r0 : BitVec 32 := Scalar.remsi arg22_r0 v47_r0
  let c0_i32_33_r0 : BitVec 32 := 0#32
  let v50_r0 : BitVec 1 := Scalar.cmpi .slt v48_r0 c0_i32_33_r0
  let c0_i32_34_r0 : BitVec 32 := 0#32
  let v51_r0 : BitVec 1 := Scalar.cmpi .slt v47_r0 c0_i32_34_r0
  let v52_r0 : BitVec 1 := Scalar.xori v50_r0 v51_r0
  let c0_i32_32_r0 : BitVec 32 := 0#32
  let v49_r0 : BitVec 1 := Scalar.cmpi .ne v48_r0 c0_i32_32_r0
  let v53_r0 : BitVec 1 := Scalar.andi v52_r0 v49_r0
  let v54_r0 : BitVec 32 := Scalar.addi v48_r0 v47_r0
  let v55_r0 : BitVec 32 := Scalar.select v53_r0 v54_r0 v48_r0
  ![v55_r0.toNat]
def k0_off39 (v1_1 : BitVec 32) (k0_t4 : Fin (k0_t4_loop v1_1).trips) : Fin 3 → Nat :=
  let c0_i32_15_r0 : BitVec 32 := 0#32
  let c1_i32_18_r0 : BitVec 32 := 1#32
  let arg22_r0 : BitVec 32 := Scf.iv c0_i32_15_r0 c1_i32_18_r0 k0_t4
  let c2_i32_r0 : BitVec 32 := 2#32
  let c0_i32_24_r0 : BitVec 32 := 0#32
  let v36_r0 : BitVec 1 := Scalar.cmpi .eq c2_i32_r0 c0_i32_24_r0
  let c1_i32_25_r0 : BitVec 32 := 1#32
  let v37_r0 : BitVec 32 := Scalar.select v36_r0 c1_i32_25_r0 c2_i32_r0
  let v38_r0 : BitVec 32 := Scalar.remsi arg22_r0 v37_r0
  let c0_i32_27_r0 : BitVec 32 := 0#32
  let v40_r0 : BitVec 1 := Scalar.cmpi .slt v38_r0 c0_i32_27_r0
  let c0_i32_28_r0 : BitVec 32 := 0#32
  let v41_r0 : BitVec 1 := Scalar.cmpi .slt v37_r0 c0_i32_28_r0
  let v42_r0 : BitVec 1 := Scalar.xori v40_r0 v41_r0
  let c0_i32_26_r0 : BitVec 32 := 0#32
  let v39_r0 : BitVec 1 := Scalar.cmpi .ne v38_r0 c0_i32_26_r0
  let v43_r0 : BitVec 1 := Scalar.andi v42_r0 v39_r0
  let v44_r0 : BitVec 32 := Scalar.addi v38_r0 v37_r0
  let v45_r0 : BitVec 32 := Scalar.select v43_r0 v44_r0 v38_r0
  let c0_i32_35_r0 : BitVec 32 := 0#32
  let c0_i32_36_r0 : BitVec 32 := 0#32
  ![v45_r0.toNat, 0, 0]
def k0_off40 (v34_r0 : BitVec 32) : Fin 2 → Nat :=
  let v35_r0 : BitVec 32 := v34_r0
  let c0_i32_37_r0 : BitVec 32 := 0#32
  ![v35_r0.toNat, 0]

def k0_chk12 (v34_r0 : BitVec 32) : Prop :=
  (16 ∣ (k0_mult3 v34_r0).toNat) ∧
  (∀ a, (k0_off40 v34_r0) a + S128x2816.size a ≤ S6144x2816.size a) ∧
  (∀ (hinb : ∀ a, (k0_off40 v34_r0) a + S128x2816.size a ≤ S6144x2816.size a), (Rect.unit (s := S6144x2816) (k0_off40 v34_r0) S128x2816.size hinb).WholeWords (EltTy.packing .bf16))
theorem k0_mult3_dvd : ∀ (v34_r0 : BitVec 32) (k0_hw12 : k0_chk12 v34_r0), 16 ∣ (k0_mult3 v34_r0).toNat := fun v34_r0 k0_hw12 => k0_hw12.1
theorem k0_off40_inb : ∀ (v34_r0 : BitVec 32) (k0_hw12 : k0_chk12 v34_r0), ∀ a, (k0_off40 v34_r0) a + S128x2816.size a ≤ S6144x2816.size a := fun v34_r0 k0_hw12 => k0_hw12.2.1
theorem k0_off40_wordsbf16 : ∀ (v34_r0 : BitVec 32) (k0_hw12 : k0_chk12 v34_r0), (Rect.unit (s := S6144x2816) (k0_off40 v34_r0) S128x2816.size (k0_off40_inb v34_r0 k0_hw12)).WholeWords (EltTy.packing .bf16) := fun v34_r0 k0_hw12 => k0_hw12.2.2 (k0_off40_inb v34_r0 k0_hw12)

def k0_off41 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let v3351_r0 : Index := Scalar.indexCast arg22_r0
  ![v3351_r0.toNat]
def k0_mult4 (v3352_r0 : BitVec 32) : BitVec 32 :=
  v3352_r0

def k0_off42 (v1_1 : BitVec 32) (k0_t4 : Fin (k0_t4_loop v1_1).trips) : Fin 1 → Nat :=
  let c0_i32_15_r0 : BitVec 32 := 0#32
  let c1_i32_18_r0 : BitVec 32 := 1#32
  let arg22_r0 : BitVec 32 := Scf.iv c0_i32_15_r0 c1_i32_18_r0 k0_t4
  let v3354_r0 : Index := Scalar.indexCast arg22_r0
  ![v3354_r0.toNat]
def k0_off43 (v27_r0 : BitVec 32) : Fin 3 → Nat :=
  let c0_i32_1031_r0 : BitVec 32 := 0#32
  let c0_i32_1032_r0 : BitVec 32 := 0#32
  ![v27_r0.toNat, 0, 0]

def k0_off44 (v27_r0 : BitVec 32) : Fin 3 → Nat :=
  let c0_i32_1038_r0 : BitVec 32 := 0#32
  let c0_i32_1039_r0 : BitVec 32 := 0#32
  ![v27_r0.toNat, 0, 0]

def k0_chk14 (v27_r0 : BitVec 32) : Prop :=
  (∀ a, (k0_off43 v27_r0) a + S1x1408x2048.size a ≤ S3x1408x2048.size a) ∧
  (∀ a, (k0_off44 v27_r0) a + S1x22x2048.size a ≤ S3x22x2048.size a)
theorem k0_off43_inb : ∀ (v27_r0 : BitVec 32) (k0_hw14 : k0_chk14 v27_r0), ∀ a, (k0_off43 v27_r0) a + S1x1408x2048.size a ≤ S3x1408x2048.size a := fun v27_r0 k0_hw14 => k0_hw14.1
theorem k0_off44_inb : ∀ (v27_r0 : BitVec 32) (k0_hw14 : k0_chk14 v27_r0), ∀ a, (k0_off44 v27_r0) a + S1x22x2048.size a ≤ S3x22x2048.size a := fun v27_r0 k0_hw14 => k0_hw14.2

def k0_mult5 (v3352_r0 : BitVec 32) : BitVec 32 :=
  let v3353_r0 : BitVec 32 := v3352_r0
  let c0_i32_1453_r0 : BitVec 32 := 0#32
  let v4142_r0 : BitVec 32 := Scalar.addi v3353_r0 c0_i32_1453_r0
  v4142_r0
def k0_off45 (v3352_r0 : BitVec 32) (c0_i32_1453_r0 : BitVec 32) : Fin 2 → Nat :=
  let v3353_r0 : BitVec 32 := v3352_r0
  let v4142_r0 : BitVec 32 := Scalar.addi v3353_r0 c0_i32_1453_r0
  let v4143_r0 : BitVec 32 := v4142_r0
  let v4144_r0 : Index := Scalar.indexCast v4143_r0
  let c0_1454_r0 : Index := 0#32
  ![v4144_r0.toNat, 0]
def k0_mult6 (v3352_r0 : BitVec 32) : BitVec 32 :=
  let v3353_r0 : BitVec 32 := v3352_r0
  let c0_i32_1456_r0 : BitVec 32 := 0#32
  let v4154_r0 : BitVec 32 := Scalar.addi v3353_r0 c0_i32_1456_r0
  v4154_r0
def k0_off46 (v3352_r0 : BitVec 32) (c0_i32_1456_r0 : BitVec 32) : Fin 2 → Nat :=
  let v3353_r0 : BitVec 32 := v3352_r0
  let v4154_r0 : BitVec 32 := Scalar.addi v3353_r0 c0_i32_1456_r0
  let v4155_r0 : BitVec 32 := v4154_r0
  let v4156_r0 : Index := Scalar.indexCast v4155_r0
  let c128_1457_r0 : Index := 128#32
  ![v4156_r0.toNat, 128]
def k0_mult7 (v3352_r0 : BitVec 32) : BitVec 32 :=
  let v3353_r0 : BitVec 32 := v3352_r0
  let c16_i32_1462_r0 : BitVec 32 := 16#32
  let v4176_r0 : BitVec 32 := Scalar.addi v3353_r0 c16_i32_1462_r0
  v4176_r0
def k0_mult8 (v3352_r0 : BitVec 32) : BitVec 32 :=
  let v3353_r0 : BitVec 32 := v3352_r0
  let c16_i32_1465_r0 : BitVec 32 := 16#32
  let v4188_r0 : BitVec 32 := Scalar.addi v3353_r0 c16_i32_1465_r0
  v4188_r0
def k0_mult9 (v3352_r0 : BitVec 32) : BitVec 32 :=
  let v3353_r0 : BitVec 32 := v3352_r0
  let c0_i32_1471_r0 : BitVec 32 := 0#32
  let v4211_r0 : BitVec 32 := Scalar.addi v3353_r0 c0_i32_1471_r0
  v4211_r0
def k0_off47 (v3352_r0 : BitVec 32) (c0_i32_1471_r0 : BitVec 32) : Fin 2 → Nat :=
  let v3353_r0 : BitVec 32 := v3352_r0
  let v4211_r0 : BitVec 32 := Scalar.addi v3353_r0 c0_i32_1471_r0
  let v4212_r0 : BitVec 32 := v4211_r0
  let v4213_r0 : Index := Scalar.indexCast v4212_r0
  let c256_1472_r0 : Index := 256#32
  ![v4213_r0.toNat, 256]
def k0_mult10 (v3352_r0 : BitVec 32) : BitVec 32 :=
  let v3353_r0 : BitVec 32 := v3352_r0
  let c0_i32_1474_r0 : BitVec 32 := 0#32
  let v4223_r0 : BitVec 32 := Scalar.addi v3353_r0 c0_i32_1474_r0
  v4223_r0
def k0_off48 (v3352_r0 : BitVec 32) (c0_i32_1474_r0 : BitVec 32) : Fin 2 → Nat :=
  let v3353_r0 : BitVec 32 := v3352_r0
  let v4223_r0 : BitVec 32 := Scalar.addi v3353_r0 c0_i32_1474_r0
  let v4224_r0 : BitVec 32 := v4223_r0
  let v4225_r0 : Index := Scalar.indexCast v4224_r0
  let c384_1475_r0 : Index := 384#32
  ![v4225_r0.toNat, 384]
def k0_mult11 (v3352_r0 : BitVec 32) : BitVec 32 :=
  let v3353_r0 : BitVec 32 := v3352_r0
  let c16_i32_1480_r0 : BitVec 32 := 16#32
  let v4245_r0 : BitVec 32 := Scalar.addi v3353_r0 c16_i32_1480_r0
  v4245_r0
def k0_mult12 (v3352_r0 : BitVec 32) : BitVec 32 :=
  let v3353_r0 : BitVec 32 := v3352_r0
  let c16_i32_1483_r0 : BitVec 32 := 16#32
  let v4257_r0 : BitVec 32 := Scalar.addi v3353_r0 c16_i32_1483_r0
  v4257_r0
def k0_mult13 (v3352_r0 : BitVec 32) : BitVec 32 :=
  let v3353_r0 : BitVec 32 := v3352_r0
  let c32_i32_1489_r0 : BitVec 32 := 32#32
  let v4280_r0 : BitVec 32 := Scalar.addi v3353_r0 c32_i32_1489_r0
  v4280_r0
def k0_mult14 (v3352_r0 : BitVec 32) : BitVec 32 :=
  let v3353_r0 : BitVec 32 := v3352_r0
  let c32_i32_1492_r0 : BitVec 32 := 32#32
  let v4292_r0 : BitVec 32 := Scalar.addi v3353_r0 c32_i32_1492_r0
  v4292_r0
def k0_mult15 (v3352_r0 : BitVec 32) : BitVec 32 :=
  let v3353_r0 : BitVec 32 := v3352_r0
  let c48_i32_1497_r0 : BitVec 32 := 48#32
  let v4314_r0 : BitVec 32 := Scalar.addi v3353_r0 c48_i32_1497_r0
  v4314_r0
def k0_mult16 (v3352_r0 : BitVec 32) : BitVec 32 :=
  let v3353_r0 : BitVec 32 := v3352_r0
  let c48_i32_1500_r0 : BitVec 32 := 48#32
  let v4326_r0 : BitVec 32 := Scalar.addi v3353_r0 c48_i32_1500_r0
  v4326_r0
def k0_mult17 (v3352_r0 : BitVec 32) : BitVec 32 :=
  let v3353_r0 : BitVec 32 := v3352_r0
  let c32_i32_1506_r0 : BitVec 32 := 32#32
  let v4349_r0 : BitVec 32 := Scalar.addi v3353_r0 c32_i32_1506_r0
  v4349_r0
def k0_mult18 (v3352_r0 : BitVec 32) : BitVec 32 :=
  let v3353_r0 : BitVec 32 := v3352_r0
  let c32_i32_1509_r0 : BitVec 32 := 32#32
  let v4361_r0 : BitVec 32 := Scalar.addi v3353_r0 c32_i32_1509_r0
  v4361_r0
def k0_mult19 (v3352_r0 : BitVec 32) : BitVec 32 :=
  let v3353_r0 : BitVec 32 := v3352_r0
  let c48_i32_1515_r0 : BitVec 32 := 48#32
  let v4383_r0 : BitVec 32 := Scalar.addi v3353_r0 c48_i32_1515_r0
  v4383_r0
def k0_mult20 (v3352_r0 : BitVec 32) : BitVec 32 :=
  let v3353_r0 : BitVec 32 := v3352_r0
  let c48_i32_1518_r0 : BitVec 32 := 48#32
  let v4395_r0 : BitVec 32 := Scalar.addi v3353_r0 c48_i32_1518_r0
  v4395_r0
def k0_mult21 (v3352_r0 : BitVec 32) : BitVec 32 :=
  let v3353_r0 : BitVec 32 := v3352_r0
  let c64_i32_1524_r0 : BitVec 32 := 64#32
  let v4418_r0 : BitVec 32 := Scalar.addi v3353_r0 c64_i32_1524_r0
  v4418_r0
def k0_mult22 (v3352_r0 : BitVec 32) : BitVec 32 :=
  let v3353_r0 : BitVec 32 := v3352_r0
  let c64_i32_1527_r0 : BitVec 32 := 64#32
  let v4430_r0 : BitVec 32 := Scalar.addi v3353_r0 c64_i32_1527_r0
  v4430_r0
def k0_mult23 (v3352_r0 : BitVec 32) : BitVec 32 :=
  let v3353_r0 : BitVec 32 := v3352_r0
  let c80_i32_1532_r0 : BitVec 32 := 80#32
  let v4452_r0 : BitVec 32 := Scalar.addi v3353_r0 c80_i32_1532_r0
  v4452_r0
def k0_mult24 (v3352_r0 : BitVec 32) : BitVec 32 :=
  let v3353_r0 : BitVec 32 := v3352_r0
  let c80_i32_1535_r0 : BitVec 32 := 80#32
  let v4464_r0 : BitVec 32 := Scalar.addi v3353_r0 c80_i32_1535_r0
  v4464_r0
def k0_mult25 (v3352_r0 : BitVec 32) : BitVec 32 :=
  let v3353_r0 : BitVec 32 := v3352_r0
  let c64_i32_1541_r0 : BitVec 32 := 64#32
  let v4487_r0 : BitVec 32 := Scalar.addi v3353_r0 c64_i32_1541_r0
  v4487_r0
def k0_mult26 (v3352_r0 : BitVec 32) : BitVec 32 :=
  let v3353_r0 : BitVec 32 := v3352_r0
  let c64_i32_1544_r0 : BitVec 32 := 64#32
  let v4499_r0 : BitVec 32 := Scalar.addi v3353_r0 c64_i32_1544_r0
  v4499_r0
def k0_mult27 (v3352_r0 : BitVec 32) : BitVec 32 :=
  let v3353_r0 : BitVec 32 := v3352_r0
  let c80_i32_1550_r0 : BitVec 32 := 80#32
  let v4521_r0 : BitVec 32 := Scalar.addi v3353_r0 c80_i32_1550_r0
  v4521_r0
def k0_mult28 (v3352_r0 : BitVec 32) : BitVec 32 :=
  let v3353_r0 : BitVec 32 := v3352_r0
  let c80_i32_1553_r0 : BitVec 32 := 80#32
  let v4533_r0 : BitVec 32 := Scalar.addi v3353_r0 c80_i32_1553_r0
  v4533_r0
def k0_mult29 (v3352_r0 : BitVec 32) : BitVec 32 :=
  let v3353_r0 : BitVec 32 := v3352_r0
  let c96_i32_1558_r0 : BitVec 32 := 96#32
  let v4556_r0 : BitVec 32 := Scalar.addi v3353_r0 c96_i32_1558_r0
  v4556_r0
def k0_mult30 (v3352_r0 : BitVec 32) : BitVec 32 :=
  let v3353_r0 : BitVec 32 := v3352_r0
  let c96_i32_1561_r0 : BitVec 32 := 96#32
  let v4568_r0 : BitVec 32 := Scalar.addi v3353_r0 c96_i32_1561_r0
  v4568_r0
def k0_mult31 (v3352_r0 : BitVec 32) : BitVec 32 :=
  let v3353_r0 : BitVec 32 := v3352_r0
  let c112_i32_1566_r0 : BitVec 32 := 112#32
  let v4590_r0 : BitVec 32 := Scalar.addi v3353_r0 c112_i32_1566_r0
  v4590_r0
def k0_mult32 (v3352_r0 : BitVec 32) : BitVec 32 :=
  let v3353_r0 : BitVec 32 := v3352_r0
  let c112_i32_1569_r0 : BitVec 32 := 112#32
  let v4602_r0 : BitVec 32 := Scalar.addi v3353_r0 c112_i32_1569_r0
  v4602_r0
def k0_mult33 (v3352_r0 : BitVec 32) : BitVec 32 :=
  let v3353_r0 : BitVec 32 := v3352_r0
  let c96_i32_1575_r0 : BitVec 32 := 96#32
  let v4625_r0 : BitVec 32 := Scalar.addi v3353_r0 c96_i32_1575_r0
  v4625_r0
def k0_mult34 (v3352_r0 : BitVec 32) : BitVec 32 :=
  let v3353_r0 : BitVec 32 := v3352_r0
  let c96_i32_1578_r0 : BitVec 32 := 96#32
  let v4637_r0 : BitVec 32 := Scalar.addi v3353_r0 c96_i32_1578_r0
  v4637_r0
def k0_mult35 (v3352_r0 : BitVec 32) : BitVec 32 :=
  let v3353_r0 : BitVec 32 := v3352_r0
  let c112_i32_1584_r0 : BitVec 32 := 112#32
  let v4659_r0 : BitVec 32 := Scalar.addi v3353_r0 c112_i32_1584_r0
  v4659_r0
def k0_mult36 (v3352_r0 : BitVec 32) : BitVec 32 :=
  let v3353_r0 : BitVec 32 := v3352_r0
  let c112_i32_1587_r0 : BitVec 32 := 112#32
  let v4671_r0 : BitVec 32 := Scalar.addi v3353_r0 c112_i32_1587_r0
  v4671_r0
def k0_mult37 (v3352_r0 : BitVec 32) : BitVec 32 :=
  let v3353_r0 : BitVec 32 := v3352_r0
  let c0_i32_2033_r0 : BitVec 32 := 0#32
  let v5464_r0 : BitVec 32 := Scalar.addi v3353_r0 c0_i32_2033_r0
  v5464_r0
def k0_off49 (v3352_r0 : BitVec 32) (c0_i32_2033_r0 : BitVec 32) : Fin 2 → Nat :=
  let v3353_r0 : BitVec 32 := v3352_r0
  let v5464_r0 : BitVec 32 := Scalar.addi v3353_r0 c0_i32_2033_r0
  let v5465_r0 : BitVec 32 := v5464_r0
  let v5466_r0 : Index := Scalar.indexCast v5465_r0
  let c512_2034_r0 : Index := 512#32
  ![v5466_r0.toNat, 512]
def k0_mult38 (v3352_r0 : BitVec 32) : BitVec 32 :=
  let v3353_r0 : BitVec 32 := v3352_r0
  let c0_i32_2036_r0 : BitVec 32 := 0#32
  let v5476_r0 : BitVec 32 := Scalar.addi v3353_r0 c0_i32_2036_r0
  v5476_r0
def k0_off50 (v3352_r0 : BitVec 32) (c0_i32_2036_r0 : BitVec 32) : Fin 2 → Nat :=
  let v3353_r0 : BitVec 32 := v3352_r0
  let v5476_r0 : BitVec 32 := Scalar.addi v3353_r0 c0_i32_2036_r0
  let v5477_r0 : BitVec 32 := v5476_r0
  let v5478_r0 : Index := Scalar.indexCast v5477_r0
  let c640_2037_r0 : Index := 640#32
  ![v5478_r0.toNat, 640]
def k0_mult39 (v3352_r0 : BitVec 32) : BitVec 32 :=
  let v3353_r0 : BitVec 32 := v3352_r0
  let c16_i32_2042_r0 : BitVec 32 := 16#32
  let v5498_r0 : BitVec 32 := Scalar.addi v3353_r0 c16_i32_2042_r0
  v5498_r0
def k0_mult40 (v3352_r0 : BitVec 32) : BitVec 32 :=
  let v3353_r0 : BitVec 32 := v3352_r0
  let c16_i32_2045_r0 : BitVec 32 := 16#32
  let v5510_r0 : BitVec 32 := Scalar.addi v3353_r0 c16_i32_2045_r0
  v5510_r0
def k0_mult41 (v3352_r0 : BitVec 32) : BitVec 32 :=
  let v3353_r0 : BitVec 32 := v3352_r0
  let c0_i32_2051_r0 : BitVec 32 := 0#32
  let v5533_r0 : BitVec 32 := Scalar.addi v3353_r0 c0_i32_2051_r0
  v5533_r0
def k0_off51 (v3352_r0 : BitVec 32) (c0_i32_2051_r0 : BitVec 32) : Fin 2 → Nat :=
  let v3353_r0 : BitVec 32 := v3352_r0
  let v5533_r0 : BitVec 32 := Scalar.addi v3353_r0 c0_i32_2051_r0
  let v5534_r0 : BitVec 32 := v5533_r0
  let v5535_r0 : Index := Scalar.indexCast v5534_r0
  let c768_2052_r0 : Index := 768#32
  ![v5535_r0.toNat, 768]
def k0_mult42 (v3352_r0 : BitVec 32) : BitVec 32 :=
  let v3353_r0 : BitVec 32 := v3352_r0
  let c0_i32_2054_r0 : BitVec 32 := 0#32
  let v5545_r0 : BitVec 32 := Scalar.addi v3353_r0 c0_i32_2054_r0
  v5545_r0
def k0_off52 (v3352_r0 : BitVec 32) (c0_i32_2054_r0 : BitVec 32) : Fin 2 → Nat :=
  let v3353_r0 : BitVec 32 := v3352_r0
  let v5545_r0 : BitVec 32 := Scalar.addi v3353_r0 c0_i32_2054_r0
  let v5546_r0 : BitVec 32 := v5545_r0
  let v5547_r0 : Index := Scalar.indexCast v5546_r0
  let c896_2055_r0 : Index := 896#32
  ![v5547_r0.toNat, 896]
def k0_mult43 (v3352_r0 : BitVec 32) : BitVec 32 :=
  let v3353_r0 : BitVec 32 := v3352_r0
  let c16_i32_2060_r0 : BitVec 32 := 16#32
  let v5567_r0 : BitVec 32 := Scalar.addi v3353_r0 c16_i32_2060_r0
  v5567_r0
def k0_mult44 (v3352_r0 : BitVec 32) : BitVec 32 :=
  let v3353_r0 : BitVec 32 := v3352_r0
  let c16_i32_2063_r0 : BitVec 32 := 16#32
  let v5579_r0 : BitVec 32 := Scalar.addi v3353_r0 c16_i32_2063_r0
  v5579_r0
def k0_mult45 (v3352_r0 : BitVec 32) : BitVec 32 :=
  let v3353_r0 : BitVec 32 := v3352_r0
  let c32_i32_2069_r0 : BitVec 32 := 32#32
  let v5602_r0 : BitVec 32 := Scalar.addi v3353_r0 c32_i32_2069_r0
  v5602_r0
def k0_mult46 (v3352_r0 : BitVec 32) : BitVec 32 :=
  let v3353_r0 : BitVec 32 := v3352_r0
  let c32_i32_2072_r0 : BitVec 32 := 32#32
  let v5614_r0 : BitVec 32 := Scalar.addi v3353_r0 c32_i32_2072_r0
  v5614_r0
def k0_mult47 (v3352_r0 : BitVec 32) : BitVec 32 :=
  let v3353_r0 : BitVec 32 := v3352_r0
  let c48_i32_2078_r0 : BitVec 32 := 48#32
  let v5636_r0 : BitVec 32 := Scalar.addi v3353_r0 c48_i32_2078_r0
  v5636_r0
def k0_mult48 (v3352_r0 : BitVec 32) : BitVec 32 :=
  let v3353_r0 : BitVec 32 := v3352_r0
  let c48_i32_2081_r0 : BitVec 32 := 48#32
  let v5648_r0 : BitVec 32 := Scalar.addi v3353_r0 c48_i32_2081_r0
  v5648_r0
def k0_mult49 (v3352_r0 : BitVec 32) : BitVec 32 :=
  let v3353_r0 : BitVec 32 := v3352_r0
  let c32_i32_2087_r0 : BitVec 32 := 32#32
  let v5671_r0 : BitVec 32 := Scalar.addi v3353_r0 c32_i32_2087_r0
  v5671_r0
def k0_mult50 (v3352_r0 : BitVec 32) : BitVec 32 :=
  let v3353_r0 : BitVec 32 := v3352_r0
  let c32_i32_2090_r0 : BitVec 32 := 32#32
  let v5683_r0 : BitVec 32 := Scalar.addi v3353_r0 c32_i32_2090_r0
  v5683_r0
def k0_mult51 (v3352_r0 : BitVec 32) : BitVec 32 :=
  let v3353_r0 : BitVec 32 := v3352_r0
  let c48_i32_2096_r0 : BitVec 32 := 48#32
  let v5705_r0 : BitVec 32 := Scalar.addi v3353_r0 c48_i32_2096_r0
  v5705_r0
def k0_mult52 (v3352_r0 : BitVec 32) : BitVec 32 :=
  let v3353_r0 : BitVec 32 := v3352_r0
  let c48_i32_2099_r0 : BitVec 32 := 48#32
  let v5717_r0 : BitVec 32 := Scalar.addi v3353_r0 c48_i32_2099_r0
  v5717_r0
def k0_mult53 (v3352_r0 : BitVec 32) : BitVec 32 :=
  let v3353_r0 : BitVec 32 := v3352_r0
  let c64_i32_2105_r0 : BitVec 32 := 64#32
  let v5740_r0 : BitVec 32 := Scalar.addi v3353_r0 c64_i32_2105_r0
  v5740_r0
def k0_mult54 (v3352_r0 : BitVec 32) : BitVec 32 :=
  let v3353_r0 : BitVec 32 := v3352_r0
  let c64_i32_2108_r0 : BitVec 32 := 64#32
  let v5752_r0 : BitVec 32 := Scalar.addi v3353_r0 c64_i32_2108_r0
  v5752_r0
def k0_mult55 (v3352_r0 : BitVec 32) : BitVec 32 :=
  let v3353_r0 : BitVec 32 := v3352_r0
  let c80_i32_2114_r0 : BitVec 32 := 80#32
  let v5774_r0 : BitVec 32 := Scalar.addi v3353_r0 c80_i32_2114_r0
  v5774_r0
def k0_mult56 (v3352_r0 : BitVec 32) : BitVec 32 :=
  let v3353_r0 : BitVec 32 := v3352_r0
  let c80_i32_2117_r0 : BitVec 32 := 80#32
  let v5786_r0 : BitVec 32 := Scalar.addi v3353_r0 c80_i32_2117_r0
  v5786_r0
def k0_mult57 (v3352_r0 : BitVec 32) : BitVec 32 :=
  let v3353_r0 : BitVec 32 := v3352_r0
  let c64_i32_2123_r0 : BitVec 32 := 64#32
  let v5809_r0 : BitVec 32 := Scalar.addi v3353_r0 c64_i32_2123_r0
  v5809_r0
def k0_mult58 (v3352_r0 : BitVec 32) : BitVec 32 :=
  let v3353_r0 : BitVec 32 := v3352_r0
  let c64_i32_2126_r0 : BitVec 32 := 64#32
  let v5821_r0 : BitVec 32 := Scalar.addi v3353_r0 c64_i32_2126_r0
  v5821_r0
def k0_mult59 (v3352_r0 : BitVec 32) : BitVec 32 :=
  let v3353_r0 : BitVec 32 := v3352_r0
  let c80_i32_2132_r0 : BitVec 32 := 80#32
  let v5843_r0 : BitVec 32 := Scalar.addi v3353_r0 c80_i32_2132_r0
  v5843_r0
def k0_mult60 (v3352_r0 : BitVec 32) : BitVec 32 :=
  let v3353_r0 : BitVec 32 := v3352_r0
  let c80_i32_2135_r0 : BitVec 32 := 80#32
  let v5855_r0 : BitVec 32 := Scalar.addi v3353_r0 c80_i32_2135_r0
  v5855_r0
def k0_mult61 (v3352_r0 : BitVec 32) : BitVec 32 :=
  let v3353_r0 : BitVec 32 := v3352_r0
  let c96_i32_2141_r0 : BitVec 32 := 96#32
  let v5878_r0 : BitVec 32 := Scalar.addi v3353_r0 c96_i32_2141_r0
  v5878_r0
def k0_mult62 (v3352_r0 : BitVec 32) : BitVec 32 :=
  let v3353_r0 : BitVec 32 := v3352_r0
  let c96_i32_2144_r0 : BitVec 32 := 96#32
  let v5890_r0 : BitVec 32 := Scalar.addi v3353_r0 c96_i32_2144_r0
  v5890_r0
def k0_mult63 (v3352_r0 : BitVec 32) : BitVec 32 :=
  let v3353_r0 : BitVec 32 := v3352_r0
  let c112_i32_2150_r0 : BitVec 32 := 112#32
  let v5912_r0 : BitVec 32 := Scalar.addi v3353_r0 c112_i32_2150_r0
  v5912_r0
def k0_mult64 (v3352_r0 : BitVec 32) : BitVec 32 :=
  let v3353_r0 : BitVec 32 := v3352_r0
  let c112_i32_2153_r0 : BitVec 32 := 112#32
  let v5924_r0 : BitVec 32 := Scalar.addi v3353_r0 c112_i32_2153_r0
  v5924_r0
def k0_mult65 (v3352_r0 : BitVec 32) : BitVec 32 :=
  let v3353_r0 : BitVec 32 := v3352_r0
  let c96_i32_2159_r0 : BitVec 32 := 96#32
  let v5947_r0 : BitVec 32 := Scalar.addi v3353_r0 c96_i32_2159_r0
  v5947_r0
def k0_mult66 (v3352_r0 : BitVec 32) : BitVec 32 :=
  let v3353_r0 : BitVec 32 := v3352_r0
  let c96_i32_2162_r0 : BitVec 32 := 96#32
  let v5959_r0 : BitVec 32 := Scalar.addi v3353_r0 c96_i32_2162_r0
  v5959_r0
def k0_mult67 (v3352_r0 : BitVec 32) : BitVec 32 :=
  let v3353_r0 : BitVec 32 := v3352_r0
  let c112_i32_2168_r0 : BitVec 32 := 112#32
  let v5981_r0 : BitVec 32 := Scalar.addi v3353_r0 c112_i32_2168_r0
  v5981_r0
def k0_mult68 (v3352_r0 : BitVec 32) : BitVec 32 :=
  let v3353_r0 : BitVec 32 := v3352_r0
  let c112_i32_2171_r0 : BitVec 32 := 112#32
  let v5993_r0 : BitVec 32 := Scalar.addi v3353_r0 c112_i32_2171_r0
  v5993_r0
def k0_mult69 (v3352_r0 : BitVec 32) : BitVec 32 :=
  let v3353_r0 : BitVec 32 := v3352_r0
  let c0_i32_2617_r0 : BitVec 32 := 0#32
  let v6786_r0 : BitVec 32 := Scalar.addi v3353_r0 c0_i32_2617_r0
  v6786_r0
def k0_off53 (v3352_r0 : BitVec 32) (c0_i32_2617_r0 : BitVec 32) : Fin 2 → Nat :=
  let v3353_r0 : BitVec 32 := v3352_r0
  let v6786_r0 : BitVec 32 := Scalar.addi v3353_r0 c0_i32_2617_r0
  let v6787_r0 : BitVec 32 := v6786_r0
  let v6788_r0 : Index := Scalar.indexCast v6787_r0
  let c1024_2618_r0 : Index := 1024#32
  ![v6788_r0.toNat, 1024]
def k0_mult70 (v3352_r0 : BitVec 32) : BitVec 32 :=
  let v3353_r0 : BitVec 32 := v3352_r0
  let c0_i32_2620_r0 : BitVec 32 := 0#32
  let v6798_r0 : BitVec 32 := Scalar.addi v3353_r0 c0_i32_2620_r0
  v6798_r0
def k0_off54 (v3352_r0 : BitVec 32) (c0_i32_2620_r0 : BitVec 32) : Fin 2 → Nat :=
  let v3353_r0 : BitVec 32 := v3352_r0
  let v6798_r0 : BitVec 32 := Scalar.addi v3353_r0 c0_i32_2620_r0
  let v6799_r0 : BitVec 32 := v6798_r0
  let v6800_r0 : Index := Scalar.indexCast v6799_r0
  let c1152_2621_r0 : Index := 1152#32
  ![v6800_r0.toNat, 1152]
def k0_mult71 (v3352_r0 : BitVec 32) : BitVec 32 :=
  let v3353_r0 : BitVec 32 := v3352_r0
  let c16_i32_2626_r0 : BitVec 32 := 16#32
  let v6820_r0 : BitVec 32 := Scalar.addi v3353_r0 c16_i32_2626_r0
  v6820_r0
def k0_mult72 (v3352_r0 : BitVec 32) : BitVec 32 :=
  let v3353_r0 : BitVec 32 := v3352_r0
  let c16_i32_2629_r0 : BitVec 32 := 16#32
  let v6832_r0 : BitVec 32 := Scalar.addi v3353_r0 c16_i32_2629_r0
  v6832_r0
def k0_mult73 (v3352_r0 : BitVec 32) : BitVec 32 :=
  let v3353_r0 : BitVec 32 := v3352_r0
  let c0_i32_2635_r0 : BitVec 32 := 0#32
  let v6855_r0 : BitVec 32 := Scalar.addi v3353_r0 c0_i32_2635_r0
  v6855_r0
def k0_off55 (v3352_r0 : BitVec 32) (c0_i32_2635_r0 : BitVec 32) : Fin 2 → Nat :=
  let v3353_r0 : BitVec 32 := v3352_r0
  let v6855_r0 : BitVec 32 := Scalar.addi v3353_r0 c0_i32_2635_r0
  let v6856_r0 : BitVec 32 := v6855_r0
  let v6857_r0 : Index := Scalar.indexCast v6856_r0
  let c1280_2636_r0 : Index := 1280#32
  ![v6857_r0.toNat, 1280]
def k0_mult74 (v3352_r0 : BitVec 32) : BitVec 32 :=
  let v3353_r0 : BitVec 32 := v3352_r0
  let c0_i32_2638_r0 : BitVec 32 := 0#32
  let v6867_r0 : BitVec 32 := Scalar.addi v3353_r0 c0_i32_2638_r0
  v6867_r0
def k0_off56 (v3352_r0 : BitVec 32) (c0_i32_2638_r0 : BitVec 32) : Fin 2 → Nat :=
  let v3353_r0 : BitVec 32 := v3352_r0
  let v6867_r0 : BitVec 32 := Scalar.addi v3353_r0 c0_i32_2638_r0
  let v6868_r0 : BitVec 32 := v6867_r0
  let v6869_r0 : Index := Scalar.indexCast v6868_r0
  let c1408_2639_r0 : Index := 1408#32
  ![v6869_r0.toNat, 1408]
def k0_mult75 (v3352_r0 : BitVec 32) : BitVec 32 :=
  let v3353_r0 : BitVec 32 := v3352_r0
  let c16_i32_2644_r0 : BitVec 32 := 16#32
  let v6889_r0 : BitVec 32 := Scalar.addi v3353_r0 c16_i32_2644_r0
  v6889_r0
def k0_mult76 (v3352_r0 : BitVec 32) : BitVec 32 :=
  let v3353_r0 : BitVec 32 := v3352_r0
  let c16_i32_2647_r0 : BitVec 32 := 16#32
  let v6901_r0 : BitVec 32 := Scalar.addi v3353_r0 c16_i32_2647_r0
  v6901_r0
def k0_mult77 (v3352_r0 : BitVec 32) : BitVec 32 :=
  let v3353_r0 : BitVec 32 := v3352_r0
  let c32_i32_2653_r0 : BitVec 32 := 32#32
  let v6924_r0 : BitVec 32 := Scalar.addi v3353_r0 c32_i32_2653_r0
  v6924_r0
def k0_mult78 (v3352_r0 : BitVec 32) : BitVec 32 :=
  let v3353_r0 : BitVec 32 := v3352_r0
  let c32_i32_2656_r0 : BitVec 32 := 32#32
  let v6936_r0 : BitVec 32 := Scalar.addi v3353_r0 c32_i32_2656_r0
  v6936_r0
def k0_mult79 (v3352_r0 : BitVec 32) : BitVec 32 :=
  let v3353_r0 : BitVec 32 := v3352_r0
  let c48_i32_2662_r0 : BitVec 32 := 48#32
  let v6958_r0 : BitVec 32 := Scalar.addi v3353_r0 c48_i32_2662_r0
  v6958_r0
def k0_mult80 (v3352_r0 : BitVec 32) : BitVec 32 :=
  let v3353_r0 : BitVec 32 := v3352_r0
  let c48_i32_2665_r0 : BitVec 32 := 48#32
  let v6970_r0 : BitVec 32 := Scalar.addi v3353_r0 c48_i32_2665_r0
  v6970_r0
def k0_mult81 (v3352_r0 : BitVec 32) : BitVec 32 :=
  let v3353_r0 : BitVec 32 := v3352_r0
  let c32_i32_2671_r0 : BitVec 32 := 32#32
  let v6993_r0 : BitVec 32 := Scalar.addi v3353_r0 c32_i32_2671_r0
  v6993_r0
def k0_mult82 (v3352_r0 : BitVec 32) : BitVec 32 :=
  let v3353_r0 : BitVec 32 := v3352_r0
  let c32_i32_2674_r0 : BitVec 32 := 32#32
  let v7005_r0 : BitVec 32 := Scalar.addi v3353_r0 c32_i32_2674_r0
  v7005_r0
def k0_mult83 (v3352_r0 : BitVec 32) : BitVec 32 :=
  let v3353_r0 : BitVec 32 := v3352_r0
  let c48_i32_2680_r0 : BitVec 32 := 48#32
  let v7027_r0 : BitVec 32 := Scalar.addi v3353_r0 c48_i32_2680_r0
  v7027_r0
def k0_mult84 (v3352_r0 : BitVec 32) : BitVec 32 :=
  let v3353_r0 : BitVec 32 := v3352_r0
  let c48_i32_2683_r0 : BitVec 32 := 48#32
  let v7039_r0 : BitVec 32 := Scalar.addi v3353_r0 c48_i32_2683_r0
  v7039_r0
def k0_mult85 (v3352_r0 : BitVec 32) : BitVec 32 :=
  let v3353_r0 : BitVec 32 := v3352_r0
  let c64_i32_2689_r0 : BitVec 32 := 64#32
  let v7062_r0 : BitVec 32 := Scalar.addi v3353_r0 c64_i32_2689_r0
  v7062_r0
def k0_mult86 (v3352_r0 : BitVec 32) : BitVec 32 :=
  let v3353_r0 : BitVec 32 := v3352_r0
  let c64_i32_2692_r0 : BitVec 32 := 64#32
  let v7074_r0 : BitVec 32 := Scalar.addi v3353_r0 c64_i32_2692_r0
  v7074_r0
def k0_mult87 (v3352_r0 : BitVec 32) : BitVec 32 :=
  let v3353_r0 : BitVec 32 := v3352_r0
  let c80_i32_2698_r0 : BitVec 32 := 80#32
  let v7096_r0 : BitVec 32 := Scalar.addi v3353_r0 c80_i32_2698_r0
  v7096_r0
def k0_mult88 (v3352_r0 : BitVec 32) : BitVec 32 :=
  let v3353_r0 : BitVec 32 := v3352_r0
  let c80_i32_2701_r0 : BitVec 32 := 80#32
  let v7108_r0 : BitVec 32 := Scalar.addi v3353_r0 c80_i32_2701_r0
  v7108_r0
def k0_mult89 (v3352_r0 : BitVec 32) : BitVec 32 :=
  let v3353_r0 : BitVec 32 := v3352_r0
  let c64_i32_2707_r0 : BitVec 32 := 64#32
  let v7131_r0 : BitVec 32 := Scalar.addi v3353_r0 c64_i32_2707_r0
  v7131_r0
def k0_mult90 (v3352_r0 : BitVec 32) : BitVec 32 :=
  let v3353_r0 : BitVec 32 := v3352_r0
  let c64_i32_2710_r0 : BitVec 32 := 64#32
  let v7143_r0 : BitVec 32 := Scalar.addi v3353_r0 c64_i32_2710_r0
  v7143_r0
def k0_mult91 (v3352_r0 : BitVec 32) : BitVec 32 :=
  let v3353_r0 : BitVec 32 := v3352_r0
  let c80_i32_2716_r0 : BitVec 32 := 80#32
  let v7165_r0 : BitVec 32 := Scalar.addi v3353_r0 c80_i32_2716_r0
  v7165_r0
def k0_mult92 (v3352_r0 : BitVec 32) : BitVec 32 :=
  let v3353_r0 : BitVec 32 := v3352_r0
  let c80_i32_2719_r0 : BitVec 32 := 80#32
  let v7177_r0 : BitVec 32 := Scalar.addi v3353_r0 c80_i32_2719_r0
  v7177_r0
def k0_mult93 (v3352_r0 : BitVec 32) : BitVec 32 :=
  let v3353_r0 : BitVec 32 := v3352_r0
  let c96_i32_2725_r0 : BitVec 32 := 96#32
  let v7200_r0 : BitVec 32 := Scalar.addi v3353_r0 c96_i32_2725_r0
  v7200_r0
def k0_mult94 (v3352_r0 : BitVec 32) : BitVec 32 :=
  let v3353_r0 : BitVec 32 := v3352_r0
  let c96_i32_2728_r0 : BitVec 32 := 96#32
  let v7212_r0 : BitVec 32 := Scalar.addi v3353_r0 c96_i32_2728_r0
  v7212_r0
def k0_mult95 (v3352_r0 : BitVec 32) : BitVec 32 :=
  let v3353_r0 : BitVec 32 := v3352_r0
  let c112_i32_2734_r0 : BitVec 32 := 112#32
  let v7234_r0 : BitVec 32 := Scalar.addi v3353_r0 c112_i32_2734_r0
  v7234_r0
def k0_mult96 (v3352_r0 : BitVec 32) : BitVec 32 :=
  let v3353_r0 : BitVec 32 := v3352_r0
  let c112_i32_2737_r0 : BitVec 32 := 112#32
  let v7246_r0 : BitVec 32 := Scalar.addi v3353_r0 c112_i32_2737_r0
  v7246_r0
def k0_mult97 (v3352_r0 : BitVec 32) : BitVec 32 :=
  let v3353_r0 : BitVec 32 := v3352_r0
  let c96_i32_2743_r0 : BitVec 32 := 96#32
  let v7269_r0 : BitVec 32 := Scalar.addi v3353_r0 c96_i32_2743_r0
  v7269_r0
def k0_mult98 (v3352_r0 : BitVec 32) : BitVec 32 :=
  let v3353_r0 : BitVec 32 := v3352_r0
  let c96_i32_2746_r0 : BitVec 32 := 96#32
  let v7281_r0 : BitVec 32 := Scalar.addi v3353_r0 c96_i32_2746_r0
  v7281_r0
def k0_mult99 (v3352_r0 : BitVec 32) : BitVec 32 :=
  let v3353_r0 : BitVec 32 := v3352_r0
  let c112_i32_2752_r0 : BitVec 32 := 112#32
  let v7303_r0 : BitVec 32 := Scalar.addi v3353_r0 c112_i32_2752_r0
  v7303_r0
def k0_mult100 (v3352_r0 : BitVec 32) : BitVec 32 :=
  let v3353_r0 : BitVec 32 := v3352_r0
  let c112_i32_2755_r0 : BitVec 32 := 112#32
  let v7315_r0 : BitVec 32 := Scalar.addi v3353_r0 c112_i32_2755_r0
  v7315_r0
def k0_mult101 (v3352_r0 : BitVec 32) : BitVec 32 :=
  let v3353_r0 : BitVec 32 := v3352_r0
  let c0_i32_3201_r0 : BitVec 32 := 0#32
  let v8108_r0 : BitVec 32 := Scalar.addi v3353_r0 c0_i32_3201_r0
  v8108_r0
def k0_off57 (v3352_r0 : BitVec 32) (c0_i32_3201_r0 : BitVec 32) : Fin 2 → Nat :=
  let v3353_r0 : BitVec 32 := v3352_r0
  let v8108_r0 : BitVec 32 := Scalar.addi v3353_r0 c0_i32_3201_r0
  let v8109_r0 : BitVec 32 := v8108_r0
  let v8110_r0 : Index := Scalar.indexCast v8109_r0
  let c1536_3202_r0 : Index := 1536#32
  ![v8110_r0.toNat, 1536]
def k0_mult102 (v3352_r0 : BitVec 32) : BitVec 32 :=
  let v3353_r0 : BitVec 32 := v3352_r0
  let c0_i32_3204_r0 : BitVec 32 := 0#32
  let v8120_r0 : BitVec 32 := Scalar.addi v3353_r0 c0_i32_3204_r0
  v8120_r0
def k0_off58 (v3352_r0 : BitVec 32) (c0_i32_3204_r0 : BitVec 32) : Fin 2 → Nat :=
  let v3353_r0 : BitVec 32 := v3352_r0
  let v8120_r0 : BitVec 32 := Scalar.addi v3353_r0 c0_i32_3204_r0
  let v8121_r0 : BitVec 32 := v8120_r0
  let v8122_r0 : Index := Scalar.indexCast v8121_r0
  let c1664_3205_r0 : Index := 1664#32
  ![v8122_r0.toNat, 1664]
def k0_mult103 (v3352_r0 : BitVec 32) : BitVec 32 :=
  let v3353_r0 : BitVec 32 := v3352_r0
  let c16_i32_3210_r0 : BitVec 32 := 16#32
  let v8142_r0 : BitVec 32 := Scalar.addi v3353_r0 c16_i32_3210_r0
  v8142_r0
def k0_mult104 (v3352_r0 : BitVec 32) : BitVec 32 :=
  let v3353_r0 : BitVec 32 := v3352_r0
  let c16_i32_3213_r0 : BitVec 32 := 16#32
  let v8154_r0 : BitVec 32 := Scalar.addi v3353_r0 c16_i32_3213_r0
  v8154_r0
def k0_mult105 (v3352_r0 : BitVec 32) : BitVec 32 :=
  let v3353_r0 : BitVec 32 := v3352_r0
  let c0_i32_3219_r0 : BitVec 32 := 0#32
  let v8177_r0 : BitVec 32 := Scalar.addi v3353_r0 c0_i32_3219_r0
  v8177_r0
def k0_off59 (v3352_r0 : BitVec 32) (c0_i32_3219_r0 : BitVec 32) : Fin 2 → Nat :=
  let v3353_r0 : BitVec 32 := v3352_r0
  let v8177_r0 : BitVec 32 := Scalar.addi v3353_r0 c0_i32_3219_r0
  let v8178_r0 : BitVec 32 := v8177_r0
  let v8179_r0 : Index := Scalar.indexCast v8178_r0
  let c1792_3220_r0 : Index := 1792#32
  ![v8179_r0.toNat, 1792]
def k0_mult106 (v3352_r0 : BitVec 32) : BitVec 32 :=
  let v3353_r0 : BitVec 32 := v3352_r0
  let c0_i32_3222_r0 : BitVec 32 := 0#32
  let v8189_r0 : BitVec 32 := Scalar.addi v3353_r0 c0_i32_3222_r0
  v8189_r0
def k0_off60 (v3352_r0 : BitVec 32) (c0_i32_3222_r0 : BitVec 32) : Fin 2 → Nat :=
  let v3353_r0 : BitVec 32 := v3352_r0
  let v8189_r0 : BitVec 32 := Scalar.addi v3353_r0 c0_i32_3222_r0
  let v8190_r0 : BitVec 32 := v8189_r0
  let v8191_r0 : Index := Scalar.indexCast v8190_r0
  let c1920_3223_r0 : Index := 1920#32
  ![v8191_r0.toNat, 1920]
def k0_mult107 (v3352_r0 : BitVec 32) : BitVec 32 :=
  let v3353_r0 : BitVec 32 := v3352_r0
  let c16_i32_3228_r0 : BitVec 32 := 16#32
  let v8211_r0 : BitVec 32 := Scalar.addi v3353_r0 c16_i32_3228_r0
  v8211_r0
def k0_mult108 (v3352_r0 : BitVec 32) : BitVec 32 :=
  let v3353_r0 : BitVec 32 := v3352_r0
  let c16_i32_3231_r0 : BitVec 32 := 16#32
  let v8223_r0 : BitVec 32 := Scalar.addi v3353_r0 c16_i32_3231_r0
  v8223_r0
def k0_mult109 (v3352_r0 : BitVec 32) : BitVec 32 :=
  let v3353_r0 : BitVec 32 := v3352_r0
  let c32_i32_3237_r0 : BitVec 32 := 32#32
  let v8246_r0 : BitVec 32 := Scalar.addi v3353_r0 c32_i32_3237_r0
  v8246_r0
def k0_mult110 (v3352_r0 : BitVec 32) : BitVec 32 :=
  let v3353_r0 : BitVec 32 := v3352_r0
  let c32_i32_3240_r0 : BitVec 32 := 32#32
  let v8258_r0 : BitVec 32 := Scalar.addi v3353_r0 c32_i32_3240_r0
  v8258_r0
def k0_mult111 (v3352_r0 : BitVec 32) : BitVec 32 :=
  let v3353_r0 : BitVec 32 := v3352_r0
  let c48_i32_3246_r0 : BitVec 32 := 48#32
  let v8280_r0 : BitVec 32 := Scalar.addi v3353_r0 c48_i32_3246_r0
  v8280_r0
def k0_mult112 (v3352_r0 : BitVec 32) : BitVec 32 :=
  let v3353_r0 : BitVec 32 := v3352_r0
  let c48_i32_3249_r0 : BitVec 32 := 48#32
  let v8292_r0 : BitVec 32 := Scalar.addi v3353_r0 c48_i32_3249_r0
  v8292_r0
def k0_mult113 (v3352_r0 : BitVec 32) : BitVec 32 :=
  let v3353_r0 : BitVec 32 := v3352_r0
  let c32_i32_3255_r0 : BitVec 32 := 32#32
  let v8315_r0 : BitVec 32 := Scalar.addi v3353_r0 c32_i32_3255_r0
  v8315_r0
def k0_mult114 (v3352_r0 : BitVec 32) : BitVec 32 :=
  let v3353_r0 : BitVec 32 := v3352_r0
  let c32_i32_3258_r0 : BitVec 32 := 32#32
  let v8327_r0 : BitVec 32 := Scalar.addi v3353_r0 c32_i32_3258_r0
  v8327_r0
def k0_mult115 (v3352_r0 : BitVec 32) : BitVec 32 :=
  let v3353_r0 : BitVec 32 := v3352_r0
  let c48_i32_3264_r0 : BitVec 32 := 48#32
  let v8349_r0 : BitVec 32 := Scalar.addi v3353_r0 c48_i32_3264_r0
  v8349_r0
def k0_mult116 (v3352_r0 : BitVec 32) : BitVec 32 :=
  let v3353_r0 : BitVec 32 := v3352_r0
  let c48_i32_3267_r0 : BitVec 32 := 48#32
  let v8361_r0 : BitVec 32 := Scalar.addi v3353_r0 c48_i32_3267_r0
  v8361_r0
def k0_mult117 (v3352_r0 : BitVec 32) : BitVec 32 :=
  let v3353_r0 : BitVec 32 := v3352_r0
  let c64_i32_3273_r0 : BitVec 32 := 64#32
  let v8384_r0 : BitVec 32 := Scalar.addi v3353_r0 c64_i32_3273_r0
  v8384_r0
def k0_mult118 (v3352_r0 : BitVec 32) : BitVec 32 :=
  let v3353_r0 : BitVec 32 := v3352_r0
  let c64_i32_3276_r0 : BitVec 32 := 64#32
  let v8396_r0 : BitVec 32 := Scalar.addi v3353_r0 c64_i32_3276_r0
  v8396_r0
def k0_mult119 (v3352_r0 : BitVec 32) : BitVec 32 :=
  let v3353_r0 : BitVec 32 := v3352_r0
  let c80_i32_3282_r0 : BitVec 32 := 80#32
  let v8418_r0 : BitVec 32 := Scalar.addi v3353_r0 c80_i32_3282_r0
  v8418_r0
def k0_mult120 (v3352_r0 : BitVec 32) : BitVec 32 :=
  let v3353_r0 : BitVec 32 := v3352_r0
  let c80_i32_3285_r0 : BitVec 32 := 80#32
  let v8430_r0 : BitVec 32 := Scalar.addi v3353_r0 c80_i32_3285_r0
  v8430_r0
def k0_mult121 (v3352_r0 : BitVec 32) : BitVec 32 :=
  let v3353_r0 : BitVec 32 := v3352_r0
  let c64_i32_3291_r0 : BitVec 32 := 64#32
  let v8453_r0 : BitVec 32 := Scalar.addi v3353_r0 c64_i32_3291_r0
  v8453_r0
def k0_mult122 (v3352_r0 : BitVec 32) : BitVec 32 :=
  let v3353_r0 : BitVec 32 := v3352_r0
  let c64_i32_3294_r0 : BitVec 32 := 64#32
  let v8465_r0 : BitVec 32 := Scalar.addi v3353_r0 c64_i32_3294_r0
  v8465_r0
def k0_mult123 (v3352_r0 : BitVec 32) : BitVec 32 :=
  let v3353_r0 : BitVec 32 := v3352_r0
  let c80_i32_3300_r0 : BitVec 32 := 80#32
  let v8487_r0 : BitVec 32 := Scalar.addi v3353_r0 c80_i32_3300_r0
  v8487_r0
def k0_mult124 (v3352_r0 : BitVec 32) : BitVec 32 :=
  let v3353_r0 : BitVec 32 := v3352_r0
  let c80_i32_3303_r0 : BitVec 32 := 80#32
  let v8499_r0 : BitVec 32 := Scalar.addi v3353_r0 c80_i32_3303_r0
  v8499_r0
def k0_mult125 (v3352_r0 : BitVec 32) : BitVec 32 :=
  let v3353_r0 : BitVec 32 := v3352_r0
  let c96_i32_3309_r0 : BitVec 32 := 96#32
  let v8522_r0 : BitVec 32 := Scalar.addi v3353_r0 c96_i32_3309_r0
  v8522_r0
def k0_mult126 (v3352_r0 : BitVec 32) : BitVec 32 :=
  let v3353_r0 : BitVec 32 := v3352_r0
  let c96_i32_3312_r0 : BitVec 32 := 96#32
  let v8534_r0 : BitVec 32 := Scalar.addi v3353_r0 c96_i32_3312_r0
  v8534_r0
def k0_mult127 (v3352_r0 : BitVec 32) : BitVec 32 :=
  let v3353_r0 : BitVec 32 := v3352_r0
  let c112_i32_3318_r0 : BitVec 32 := 112#32
  let v8556_r0 : BitVec 32 := Scalar.addi v3353_r0 c112_i32_3318_r0
  v8556_r0
def k0_mult128 (v3352_r0 : BitVec 32) : BitVec 32 :=
  let v3353_r0 : BitVec 32 := v3352_r0
  let c112_i32_3321_r0 : BitVec 32 := 112#32
  let v8568_r0 : BitVec 32 := Scalar.addi v3353_r0 c112_i32_3321_r0
  v8568_r0
def k0_mult129 (v3352_r0 : BitVec 32) : BitVec 32 :=
  let v3353_r0 : BitVec 32 := v3352_r0
  let c96_i32_3327_r0 : BitVec 32 := 96#32
  let v8591_r0 : BitVec 32 := Scalar.addi v3353_r0 c96_i32_3327_r0
  v8591_r0
def k0_mult130 (v3352_r0 : BitVec 32) : BitVec 32 :=
  let v3353_r0 : BitVec 32 := v3352_r0
  let c96_i32_3330_r0 : BitVec 32 := 96#32
  let v8603_r0 : BitVec 32 := Scalar.addi v3353_r0 c96_i32_3330_r0
  v8603_r0
def k0_mult131 (v3352_r0 : BitVec 32) : BitVec 32 :=
  let v3353_r0 : BitVec 32 := v3352_r0
  let c112_i32_3336_r0 : BitVec 32 := 112#32
  let v8625_r0 : BitVec 32 := Scalar.addi v3353_r0 c112_i32_3336_r0
  v8625_r0
def k0_mult132 (v3352_r0 : BitVec 32) : BitVec 32 :=
  let v3353_r0 : BitVec 32 := v3352_r0
  let c112_i32_3339_r0 : BitVec 32 := 112#32
  let v8637_r0 : BitVec 32 := Scalar.addi v3353_r0 c112_i32_3339_r0
  v8637_r0

def k0_chk13_0 (v3352_r0 : BitVec 32) : Prop :=
  (16 ∣ (k0_mult4 v3352_r0).toNat) ∧
  (16 ∣ (k0_mult5 v3352_r0).toNat) ∧
  (∀ (r : Fin 8), ∀ a, (k0_off45 v3352_r0 (BitVec.ofNat 32 (16 * r.val))) a + S16x128.size a ≤ S6144x2048.size a) ∧
  (∀ (r : Fin 8), ∀ (hinb : ∀ a, (k0_off45 v3352_r0 (BitVec.ofNat 32 (16 * r.val))) a + S16x128.size a ≤ S6144x2048.size a), (Rect.unit (s := S6144x2048) (k0_off45 v3352_r0 (BitVec.ofNat 32 (16 * r.val))) S16x128.size hinb).PackedRows (EltTy.packing .bf16)) ∧
  (16 ∣ (k0_mult6 v3352_r0).toNat) ∧
  (∀ (r : Fin 8), ∀ a, (k0_off46 v3352_r0 (BitVec.ofNat 32 (16 * r.val))) a + S16x128.size a ≤ S6144x2048.size a) ∧
  (∀ (r : Fin 8), ∀ (hinb : ∀ a, (k0_off46 v3352_r0 (BitVec.ofNat 32 (16 * r.val))) a + S16x128.size a ≤ S6144x2048.size a), (Rect.unit (s := S6144x2048) (k0_off46 v3352_r0 (BitVec.ofNat 32 (16 * r.val))) S16x128.size hinb).PackedRows (EltTy.packing .bf16)) ∧
  (16 ∣ (k0_mult7 v3352_r0).toNat) ∧
  (16 ∣ (k0_mult8 v3352_r0).toNat) ∧
  (16 ∣ (k0_mult9 v3352_r0).toNat) ∧
  (∀ (r : Fin 8), ∀ a, (k0_off47 v3352_r0 (BitVec.ofNat 32 (16 * r.val))) a + S16x128.size a ≤ S6144x2048.size a) ∧
  (∀ (r : Fin 8), ∀ (hinb : ∀ a, (k0_off47 v3352_r0 (BitVec.ofNat 32 (16 * r.val))) a + S16x128.size a ≤ S6144x2048.size a), (Rect.unit (s := S6144x2048) (k0_off47 v3352_r0 (BitVec.ofNat 32 (16 * r.val))) S16x128.size hinb).PackedRows (EltTy.packing .bf16)) ∧
  (16 ∣ (k0_mult10 v3352_r0).toNat) ∧
  (∀ (r : Fin 8), ∀ a, (k0_off48 v3352_r0 (BitVec.ofNat 32 (16 * r.val))) a + S16x128.size a ≤ S6144x2048.size a) ∧
  (∀ (r : Fin 8), ∀ (hinb : ∀ a, (k0_off48 v3352_r0 (BitVec.ofNat 32 (16 * r.val))) a + S16x128.size a ≤ S6144x2048.size a), (Rect.unit (s := S6144x2048) (k0_off48 v3352_r0 (BitVec.ofNat 32 (16 * r.val))) S16x128.size hinb).PackedRows (EltTy.packing .bf16)) ∧
  (16 ∣ (k0_mult11 v3352_r0).toNat) ∧
  (16 ∣ (k0_mult12 v3352_r0).toNat) ∧
  (16 ∣ (k0_mult13 v3352_r0).toNat) ∧
  (16 ∣ (k0_mult14 v3352_r0).toNat) ∧
  (16 ∣ (k0_mult15 v3352_r0).toNat) ∧
  (16 ∣ (k0_mult16 v3352_r0).toNat) ∧
  (16 ∣ (k0_mult17 v3352_r0).toNat) ∧
  (16 ∣ (k0_mult18 v3352_r0).toNat) ∧
  (16 ∣ (k0_mult19 v3352_r0).toNat) ∧
  (16 ∣ (k0_mult20 v3352_r0).toNat) ∧
  (16 ∣ (k0_mult21 v3352_r0).toNat) ∧
  (16 ∣ (k0_mult22 v3352_r0).toNat) ∧
  (16 ∣ (k0_mult23 v3352_r0).toNat) ∧
  (16 ∣ (k0_mult24 v3352_r0).toNat) ∧
  (16 ∣ (k0_mult25 v3352_r0).toNat) ∧
  (16 ∣ (k0_mult26 v3352_r0).toNat) ∧
  (16 ∣ (k0_mult27 v3352_r0).toNat)
def k0_chk13_1 (v3352_r0 : BitVec 32) : Prop :=
  (16 ∣ (k0_mult28 v3352_r0).toNat) ∧
  (16 ∣ (k0_mult29 v3352_r0).toNat) ∧
  (16 ∣ (k0_mult30 v3352_r0).toNat) ∧
  (16 ∣ (k0_mult31 v3352_r0).toNat) ∧
  (16 ∣ (k0_mult32 v3352_r0).toNat) ∧
  (16 ∣ (k0_mult33 v3352_r0).toNat) ∧
  (16 ∣ (k0_mult34 v3352_r0).toNat) ∧
  (16 ∣ (k0_mult35 v3352_r0).toNat) ∧
  (16 ∣ (k0_mult36 v3352_r0).toNat) ∧
  (16 ∣ (k0_mult37 v3352_r0).toNat) ∧
  (∀ (r : Fin 8), ∀ a, (k0_off49 v3352_r0 (BitVec.ofNat 32 (16 * r.val))) a + S16x128.size a ≤ S6144x2048.size a) ∧
  (∀ (r : Fin 8), ∀ (hinb : ∀ a, (k0_off49 v3352_r0 (BitVec.ofNat 32 (16 * r.val))) a + S16x128.size a ≤ S6144x2048.size a), (Rect.unit (s := S6144x2048) (k0_off49 v3352_r0 (BitVec.ofNat 32 (16 * r.val))) S16x128.size hinb).PackedRows (EltTy.packing .bf16)) ∧
  (16 ∣ (k0_mult38 v3352_r0).toNat) ∧
  (∀ (r : Fin 8), ∀ a, (k0_off50 v3352_r0 (BitVec.ofNat 32 (16 * r.val))) a + S16x128.size a ≤ S6144x2048.size a) ∧
  (∀ (r : Fin 8), ∀ (hinb : ∀ a, (k0_off50 v3352_r0 (BitVec.ofNat 32 (16 * r.val))) a + S16x128.size a ≤ S6144x2048.size a), (Rect.unit (s := S6144x2048) (k0_off50 v3352_r0 (BitVec.ofNat 32 (16 * r.val))) S16x128.size hinb).PackedRows (EltTy.packing .bf16)) ∧
  (16 ∣ (k0_mult39 v3352_r0).toNat) ∧
  (16 ∣ (k0_mult40 v3352_r0).toNat) ∧
  (16 ∣ (k0_mult41 v3352_r0).toNat) ∧
  (∀ (r : Fin 8), ∀ a, (k0_off51 v3352_r0 (BitVec.ofNat 32 (16 * r.val))) a + S16x128.size a ≤ S6144x2048.size a) ∧
  (∀ (r : Fin 8), ∀ (hinb : ∀ a, (k0_off51 v3352_r0 (BitVec.ofNat 32 (16 * r.val))) a + S16x128.size a ≤ S6144x2048.size a), (Rect.unit (s := S6144x2048) (k0_off51 v3352_r0 (BitVec.ofNat 32 (16 * r.val))) S16x128.size hinb).PackedRows (EltTy.packing .bf16)) ∧
  (16 ∣ (k0_mult42 v3352_r0).toNat) ∧
  (∀ (r : Fin 8), ∀ a, (k0_off52 v3352_r0 (BitVec.ofNat 32 (16 * r.val))) a + S16x128.size a ≤ S6144x2048.size a) ∧
  (∀ (r : Fin 8), ∀ (hinb : ∀ a, (k0_off52 v3352_r0 (BitVec.ofNat 32 (16 * r.val))) a + S16x128.size a ≤ S6144x2048.size a), (Rect.unit (s := S6144x2048) (k0_off52 v3352_r0 (BitVec.ofNat 32 (16 * r.val))) S16x128.size hinb).PackedRows (EltTy.packing .bf16)) ∧
  (16 ∣ (k0_mult43 v3352_r0).toNat) ∧
  (16 ∣ (k0_mult44 v3352_r0).toNat) ∧
  (16 ∣ (k0_mult45 v3352_r0).toNat) ∧
  (16 ∣ (k0_mult46 v3352_r0).toNat) ∧
  (16 ∣ (k0_mult47 v3352_r0).toNat) ∧
  (16 ∣ (k0_mult48 v3352_r0).toNat) ∧
  (16 ∣ (k0_mult49 v3352_r0).toNat) ∧
  (16 ∣ (k0_mult50 v3352_r0).toNat) ∧
  (16 ∣ (k0_mult51 v3352_r0).toNat)
def k0_chk13_2 (v3352_r0 : BitVec 32) : Prop :=
  (16 ∣ (k0_mult52 v3352_r0).toNat) ∧
  (16 ∣ (k0_mult53 v3352_r0).toNat) ∧
  (16 ∣ (k0_mult54 v3352_r0).toNat) ∧
  (16 ∣ (k0_mult55 v3352_r0).toNat) ∧
  (16 ∣ (k0_mult56 v3352_r0).toNat) ∧
  (16 ∣ (k0_mult57 v3352_r0).toNat) ∧
  (16 ∣ (k0_mult58 v3352_r0).toNat) ∧
  (16 ∣ (k0_mult59 v3352_r0).toNat) ∧
  (16 ∣ (k0_mult60 v3352_r0).toNat) ∧
  (16 ∣ (k0_mult61 v3352_r0).toNat) ∧
  (16 ∣ (k0_mult62 v3352_r0).toNat) ∧
  (16 ∣ (k0_mult63 v3352_r0).toNat) ∧
  (16 ∣ (k0_mult64 v3352_r0).toNat) ∧
  (16 ∣ (k0_mult65 v3352_r0).toNat) ∧
  (16 ∣ (k0_mult66 v3352_r0).toNat) ∧
  (16 ∣ (k0_mult67 v3352_r0).toNat) ∧
  (16 ∣ (k0_mult68 v3352_r0).toNat) ∧
  (16 ∣ (k0_mult69 v3352_r0).toNat) ∧
  (∀ (r : Fin 8), ∀ a, (k0_off53 v3352_r0 (BitVec.ofNat 32 (16 * r.val))) a + S16x128.size a ≤ S6144x2048.size a) ∧
  (∀ (r : Fin 8), ∀ (hinb : ∀ a, (k0_off53 v3352_r0 (BitVec.ofNat 32 (16 * r.val))) a + S16x128.size a ≤ S6144x2048.size a), (Rect.unit (s := S6144x2048) (k0_off53 v3352_r0 (BitVec.ofNat 32 (16 * r.val))) S16x128.size hinb).PackedRows (EltTy.packing .bf16)) ∧
  (16 ∣ (k0_mult70 v3352_r0).toNat) ∧
  (∀ (r : Fin 8), ∀ a, (k0_off54 v3352_r0 (BitVec.ofNat 32 (16 * r.val))) a + S16x128.size a ≤ S6144x2048.size a) ∧
  (∀ (r : Fin 8), ∀ (hinb : ∀ a, (k0_off54 v3352_r0 (BitVec.ofNat 32 (16 * r.val))) a + S16x128.size a ≤ S6144x2048.size a), (Rect.unit (s := S6144x2048) (k0_off54 v3352_r0 (BitVec.ofNat 32 (16 * r.val))) S16x128.size hinb).PackedRows (EltTy.packing .bf16)) ∧
  (16 ∣ (k0_mult71 v3352_r0).toNat) ∧
  (16 ∣ (k0_mult72 v3352_r0).toNat) ∧
  (16 ∣ (k0_mult73 v3352_r0).toNat) ∧
  (∀ (r : Fin 8), ∀ a, (k0_off55 v3352_r0 (BitVec.ofNat 32 (16 * r.val))) a + S16x128.size a ≤ S6144x2048.size a) ∧
  (∀ (r : Fin 8), ∀ (hinb : ∀ a, (k0_off55 v3352_r0 (BitVec.ofNat 32 (16 * r.val))) a + S16x128.size a ≤ S6144x2048.size a), (Rect.unit (s := S6144x2048) (k0_off55 v3352_r0 (BitVec.ofNat 32 (16 * r.val))) S16x128.size hinb).PackedRows (EltTy.packing .bf16)) ∧
  (16 ∣ (k0_mult74 v3352_r0).toNat) ∧
  (∀ (r : Fin 8), ∀ a, (k0_off56 v3352_r0 (BitVec.ofNat 32 (16 * r.val))) a + S16x128.size a ≤ S6144x2048.size a) ∧
  (∀ (r : Fin 8), ∀ (hinb : ∀ a, (k0_off56 v3352_r0 (BitVec.ofNat 32 (16 * r.val))) a + S16x128.size a ≤ S6144x2048.size a), (Rect.unit (s := S6144x2048) (k0_off56 v3352_r0 (BitVec.ofNat 32 (16 * r.val))) S16x128.size hinb).PackedRows (EltTy.packing .bf16)) ∧
  (16 ∣ (k0_mult75 v3352_r0).toNat)
def k0_chk13_3 (v3352_r0 : BitVec 32) : Prop :=
  (16 ∣ (k0_mult76 v3352_r0).toNat) ∧
  (16 ∣ (k0_mult77 v3352_r0).toNat) ∧
  (16 ∣ (k0_mult78 v3352_r0).toNat) ∧
  (16 ∣ (k0_mult79 v3352_r0).toNat) ∧
  (16 ∣ (k0_mult80 v3352_r0).toNat) ∧
  (16 ∣ (k0_mult81 v3352_r0).toNat) ∧
  (16 ∣ (k0_mult82 v3352_r0).toNat) ∧
  (16 ∣ (k0_mult83 v3352_r0).toNat) ∧
  (16 ∣ (k0_mult84 v3352_r0).toNat) ∧
  (16 ∣ (k0_mult85 v3352_r0).toNat) ∧
  (16 ∣ (k0_mult86 v3352_r0).toNat) ∧
  (16 ∣ (k0_mult87 v3352_r0).toNat) ∧
  (16 ∣ (k0_mult88 v3352_r0).toNat) ∧
  (16 ∣ (k0_mult89 v3352_r0).toNat) ∧
  (16 ∣ (k0_mult90 v3352_r0).toNat) ∧
  (16 ∣ (k0_mult91 v3352_r0).toNat) ∧
  (16 ∣ (k0_mult92 v3352_r0).toNat) ∧
  (16 ∣ (k0_mult93 v3352_r0).toNat) ∧
  (16 ∣ (k0_mult94 v3352_r0).toNat) ∧
  (16 ∣ (k0_mult95 v3352_r0).toNat) ∧
  (16 ∣ (k0_mult96 v3352_r0).toNat) ∧
  (16 ∣ (k0_mult97 v3352_r0).toNat) ∧
  (16 ∣ (k0_mult98 v3352_r0).toNat) ∧
  (16 ∣ (k0_mult99 v3352_r0).toNat) ∧
  (16 ∣ (k0_mult100 v3352_r0).toNat) ∧
  (16 ∣ (k0_mult101 v3352_r0).toNat) ∧
  (∀ (r : Fin 8), ∀ a, (k0_off57 v3352_r0 (BitVec.ofNat 32 (16 * r.val))) a + S16x128.size a ≤ S6144x2048.size a) ∧
  (∀ (r : Fin 8), ∀ (hinb : ∀ a, (k0_off57 v3352_r0 (BitVec.ofNat 32 (16 * r.val))) a + S16x128.size a ≤ S6144x2048.size a), (Rect.unit (s := S6144x2048) (k0_off57 v3352_r0 (BitVec.ofNat 32 (16 * r.val))) S16x128.size hinb).PackedRows (EltTy.packing .bf16)) ∧
  (16 ∣ (k0_mult102 v3352_r0).toNat) ∧
  (∀ (r : Fin 8), ∀ a, (k0_off58 v3352_r0 (BitVec.ofNat 32 (16 * r.val))) a + S16x128.size a ≤ S6144x2048.size a) ∧
  (∀ (r : Fin 8), ∀ (hinb : ∀ a, (k0_off58 v3352_r0 (BitVec.ofNat 32 (16 * r.val))) a + S16x128.size a ≤ S6144x2048.size a), (Rect.unit (s := S6144x2048) (k0_off58 v3352_r0 (BitVec.ofNat 32 (16 * r.val))) S16x128.size hinb).PackedRows (EltTy.packing .bf16)) ∧
  (16 ∣ (k0_mult103 v3352_r0).toNat)
def k0_chk13_4 (v3352_r0 : BitVec 32) : Prop :=
  (16 ∣ (k0_mult104 v3352_r0).toNat) ∧
  (16 ∣ (k0_mult105 v3352_r0).toNat) ∧
  (∀ (r : Fin 8), ∀ a, (k0_off59 v3352_r0 (BitVec.ofNat 32 (16 * r.val))) a + S16x128.size a ≤ S6144x2048.size a) ∧
  (∀ (r : Fin 8), ∀ (hinb : ∀ a, (k0_off59 v3352_r0 (BitVec.ofNat 32 (16 * r.val))) a + S16x128.size a ≤ S6144x2048.size a), (Rect.unit (s := S6144x2048) (k0_off59 v3352_r0 (BitVec.ofNat 32 (16 * r.val))) S16x128.size hinb).PackedRows (EltTy.packing .bf16)) ∧
  (16 ∣ (k0_mult106 v3352_r0).toNat) ∧
  (∀ (r : Fin 8), ∀ a, (k0_off60 v3352_r0 (BitVec.ofNat 32 (16 * r.val))) a + S16x128.size a ≤ S6144x2048.size a) ∧
  (∀ (r : Fin 8), ∀ (hinb : ∀ a, (k0_off60 v3352_r0 (BitVec.ofNat 32 (16 * r.val))) a + S16x128.size a ≤ S6144x2048.size a), (Rect.unit (s := S6144x2048) (k0_off60 v3352_r0 (BitVec.ofNat 32 (16 * r.val))) S16x128.size hinb).PackedRows (EltTy.packing .bf16)) ∧
  (16 ∣ (k0_mult107 v3352_r0).toNat) ∧
  (16 ∣ (k0_mult108 v3352_r0).toNat) ∧
  (16 ∣ (k0_mult109 v3352_r0).toNat) ∧
  (16 ∣ (k0_mult110 v3352_r0).toNat) ∧
  (16 ∣ (k0_mult111 v3352_r0).toNat) ∧
  (16 ∣ (k0_mult112 v3352_r0).toNat) ∧
  (16 ∣ (k0_mult113 v3352_r0).toNat) ∧
  (16 ∣ (k0_mult114 v3352_r0).toNat) ∧
  (16 ∣ (k0_mult115 v3352_r0).toNat) ∧
  (16 ∣ (k0_mult116 v3352_r0).toNat) ∧
  (16 ∣ (k0_mult117 v3352_r0).toNat) ∧
  (16 ∣ (k0_mult118 v3352_r0).toNat) ∧
  (16 ∣ (k0_mult119 v3352_r0).toNat) ∧
  (16 ∣ (k0_mult120 v3352_r0).toNat) ∧
  (16 ∣ (k0_mult121 v3352_r0).toNat) ∧
  (16 ∣ (k0_mult122 v3352_r0).toNat) ∧
  (16 ∣ (k0_mult123 v3352_r0).toNat) ∧
  (16 ∣ (k0_mult124 v3352_r0).toNat) ∧
  (16 ∣ (k0_mult125 v3352_r0).toNat) ∧
  (16 ∣ (k0_mult126 v3352_r0).toNat) ∧
  (16 ∣ (k0_mult127 v3352_r0).toNat) ∧
  (16 ∣ (k0_mult128 v3352_r0).toNat) ∧
  (16 ∣ (k0_mult129 v3352_r0).toNat) ∧
  (16 ∣ (k0_mult130 v3352_r0).toNat) ∧
  (16 ∣ (k0_mult131 v3352_r0).toNat)
def k0_chk13_5 (v3352_r0 : BitVec 32) : Prop :=
  (16 ∣ (k0_mult132 v3352_r0).toNat)
def k0_chk13 (v3352_r0 : BitVec 32) : Prop :=
  k0_chk13_0 v3352_r0 ∧
  k0_chk13_1 v3352_r0 ∧
  k0_chk13_2 v3352_r0 ∧
  k0_chk13_3 v3352_r0 ∧
  k0_chk13_4 v3352_r0 ∧
  k0_chk13_5 v3352_r0
theorem k0_mult4_dvd : ∀ (v3352_r0 : BitVec 32) (k0_hw13 : k0_chk13 v3352_r0), 16 ∣ (k0_mult4 v3352_r0).toNat := fun v3352_r0 k0_hw13 => k0_hw13.1.1
theorem k0_mult5_dvd : ∀ (v3352_r0 : BitVec 32) (k0_hw13 : k0_chk13 v3352_r0), 16 ∣ (k0_mult5 v3352_r0).toNat := fun v3352_r0 k0_hw13 => k0_hw13.1.2.1
theorem k0_off45_inb : ∀ (v3352_r0 : BitVec 32) (k0_hw13 : k0_chk13 v3352_r0), ∀ (r : Fin 8), ∀ a, (k0_off45 v3352_r0 (BitVec.ofNat 32 (16 * r.val))) a + S16x128.size a ≤ S6144x2048.size a := fun v3352_r0 k0_hw13 r => k0_hw13.1.2.2.1 r
theorem k0_off45_packedbf16 : ∀ (v3352_r0 : BitVec 32) (k0_hw13 : k0_chk13 v3352_r0), ∀ (r : Fin 8), (Rect.unit (s := S6144x2048) (k0_off45 v3352_r0 (BitVec.ofNat 32 (16 * r.val))) S16x128.size (k0_off45_inb v3352_r0 k0_hw13 r)).PackedRows (EltTy.packing .bf16) := fun v3352_r0 k0_hw13 r => k0_hw13.1.2.2.2.1 r (k0_off45_inb v3352_r0 k0_hw13 r)
theorem k0_mult6_dvd : ∀ (v3352_r0 : BitVec 32) (k0_hw13 : k0_chk13 v3352_r0), 16 ∣ (k0_mult6 v3352_r0).toNat := fun v3352_r0 k0_hw13 => k0_hw13.1.2.2.2.2.1
theorem k0_off46_inb : ∀ (v3352_r0 : BitVec 32) (k0_hw13 : k0_chk13 v3352_r0), ∀ (r : Fin 8), ∀ a, (k0_off46 v3352_r0 (BitVec.ofNat 32 (16 * r.val))) a + S16x128.size a ≤ S6144x2048.size a := fun v3352_r0 k0_hw13 r => k0_hw13.1.2.2.2.2.2.1 r
theorem k0_off46_packedbf16 : ∀ (v3352_r0 : BitVec 32) (k0_hw13 : k0_chk13 v3352_r0), ∀ (r : Fin 8), (Rect.unit (s := S6144x2048) (k0_off46 v3352_r0 (BitVec.ofNat 32 (16 * r.val))) S16x128.size (k0_off46_inb v3352_r0 k0_hw13 r)).PackedRows (EltTy.packing .bf16) := fun v3352_r0 k0_hw13 r => k0_hw13.1.2.2.2.2.2.2.1 r (k0_off46_inb v3352_r0 k0_hw13 r)
theorem k0_mult7_dvd : ∀ (v3352_r0 : BitVec 32) (k0_hw13 : k0_chk13 v3352_r0), 16 ∣ (k0_mult7 v3352_r0).toNat := fun v3352_r0 k0_hw13 => k0_hw13.1.2.2.2.2.2.2.2.1
theorem k0_mult8_dvd : ∀ (v3352_r0 : BitVec 32) (k0_hw13 : k0_chk13 v3352_r0), 16 ∣ (k0_mult8 v3352_r0).toNat := fun v3352_r0 k0_hw13 => k0_hw13.1.2.2.2.2.2.2.2.2.1
theorem k0_mult9_dvd : ∀ (v3352_r0 : BitVec 32) (k0_hw13 : k0_chk13 v3352_r0), 16 ∣ (k0_mult9 v3352_r0).toNat := fun v3352_r0 k0_hw13 => k0_hw13.1.2.2.2.2.2.2.2.2.2.1
theorem k0_off47_inb : ∀ (v3352_r0 : BitVec 32) (k0_hw13 : k0_chk13 v3352_r0), ∀ (r : Fin 8), ∀ a, (k0_off47 v3352_r0 (BitVec.ofNat 32 (16 * r.val))) a + S16x128.size a ≤ S6144x2048.size a := fun v3352_r0 k0_hw13 r => k0_hw13.1.2.2.2.2.2.2.2.2.2.2.1 r
theorem k0_off47_packedbf16 : ∀ (v3352_r0 : BitVec 32) (k0_hw13 : k0_chk13 v3352_r0), ∀ (r : Fin 8), (Rect.unit (s := S6144x2048) (k0_off47 v3352_r0 (BitVec.ofNat 32 (16 * r.val))) S16x128.size (k0_off47_inb v3352_r0 k0_hw13 r)).PackedRows (EltTy.packing .bf16) := fun v3352_r0 k0_hw13 r => k0_hw13.1.2.2.2.2.2.2.2.2.2.2.2.1 r (k0_off47_inb v3352_r0 k0_hw13 r)
theorem k0_mult10_dvd : ∀ (v3352_r0 : BitVec 32) (k0_hw13 : k0_chk13 v3352_r0), 16 ∣ (k0_mult10 v3352_r0).toNat := fun v3352_r0 k0_hw13 => k0_hw13.1.2.2.2.2.2.2.2.2.2.2.2.2.1
theorem k0_off48_inb : ∀ (v3352_r0 : BitVec 32) (k0_hw13 : k0_chk13 v3352_r0), ∀ (r : Fin 8), ∀ a, (k0_off48 v3352_r0 (BitVec.ofNat 32 (16 * r.val))) a + S16x128.size a ≤ S6144x2048.size a := fun v3352_r0 k0_hw13 r => k0_hw13.1.2.2.2.2.2.2.2.2.2.2.2.2.2.1 r
theorem k0_off48_packedbf16 : ∀ (v3352_r0 : BitVec 32) (k0_hw13 : k0_chk13 v3352_r0), ∀ (r : Fin 8), (Rect.unit (s := S6144x2048) (k0_off48 v3352_r0 (BitVec.ofNat 32 (16 * r.val))) S16x128.size (k0_off48_inb v3352_r0 k0_hw13 r)).PackedRows (EltTy.packing .bf16) := fun v3352_r0 k0_hw13 r => k0_hw13.1.2.2.2.2.2.2.2.2.2.2.2.2.2.2.1 r (k0_off48_inb v3352_r0 k0_hw13 r)
theorem k0_mult11_dvd : ∀ (v3352_r0 : BitVec 32) (k0_hw13 : k0_chk13 v3352_r0), 16 ∣ (k0_mult11 v3352_r0).toNat := fun v3352_r0 k0_hw13 => k0_hw13.1.2.2.2.2.2.2.2.2.2.2.2.2.2.2.2.1
theorem k0_mult12_dvd : ∀ (v3352_r0 : BitVec 32) (k0_hw13 : k0_chk13 v3352_r0), 16 ∣ (k0_mult12 v3352_r0).toNat := fun v3352_r0 k0_hw13 => k0_hw13.1.2.2.2.2.2.2.2.2.2.2.2.2.2.2.2.2.1
theorem k0_mult13_dvd : ∀ (v3352_r0 : BitVec 32) (k0_hw13 : k0_chk13 v3352_r0), 16 ∣ (k0_mult13 v3352_r0).toNat := fun v3352_r0 k0_hw13 => k0_hw13.1.2.2.2.2.2.2.2.2.2.2.2.2.2.2.2.2.2.1
theorem k0_mult14_dvd : ∀ (v3352_r0 : BitVec 32) (k0_hw13 : k0_chk13 v3352_r0), 16 ∣ (k0_mult14 v3352_r0).toNat := fun v3352_r0 k0_hw13 => k0_hw13.1.2.2.2.2.2.2.2.2.2.2.2.2.2.2.2.2.2.2.1
theorem k0_mult15_dvd : ∀ (v3352_r0 : BitVec 32) (k0_hw13 : k0_chk13 v3352_r0), 16 ∣ (k0_mult15 v3352_r0).toNat := fun v3352_r0 k0_hw13 => k0_hw13.1.2.2.2.2.2.2.2.2.2.2.2.2.2.2.2.2.2.2.2.1
theorem k0_mult16_dvd : ∀ (v3352_r0 : BitVec 32) (k0_hw13 : k0_chk13 v3352_r0), 16 ∣ (k0_mult16 v3352_r0).toNat := fun v3352_r0 k0_hw13 => k0_hw13.1.2.2.2.2.2.2.2.2.2.2.2.2.2.2.2.2.2.2.2.2.1
theorem k0_mult17_dvd : ∀ (v3352_r0 : BitVec 32) (k0_hw13 : k0_chk13 v3352_r0), 16 ∣ (k0_mult17 v3352_r0).toNat := fun v3352_r0 k0_hw13 => k0_hw13.1.2.2.2.2.2.2.2.2.2.2.2.2.2.2.2.2.2.2.2.2.2.1
theorem k0_mult18_dvd : ∀ (v3352_r0 : BitVec 32) (k0_hw13 : k0_chk13 v3352_r0), 16 ∣ (k0_mult18 v3352_r0).toNat := fun v3352_r0 k0_hw13 => k0_hw13.1.2.2.2.2.2.2.2.2.2.2.2.2.2.2.2.2.2.2.2.2.2.2.1
theorem k0_mult19_dvd : ∀ (v3352_r0 : BitVec 32) (k0_hw13 : k0_chk13 v3352_r0), 16 ∣ (k0_mult19 v3352_r0).toNat := fun v3352_r0 k0_hw13 => k0_hw13.1.2.2.2.2.2.2.2.2.2.2.2.2.2.2.2.2.2.2.2.2.2.2.2.1
theorem k0_mult20_dvd : ∀ (v3352_r0 : BitVec 32) (k0_hw13 : k0_chk13 v3352_r0), 16 ∣ (k0_mult20 v3352_r0).toNat := fun v3352_r0 k0_hw13 => k0_hw13.1.2.2.2.2.2.2.2.2.2.2.2.2.2.2.2.2.2.2.2.2.2.2.2.2.1
theorem k0_mult21_dvd : ∀ (v3352_r0 : BitVec 32) (k0_hw13 : k0_chk13 v3352_r0), 16 ∣ (k0_mult21 v3352_r0).toNat := fun v3352_r0 k0_hw13 => k0_hw13.1.2.2.2.2.2.2.2.2.2.2.2.2.2.2.2.2.2.2.2.2.2.2.2.2.2.1
theorem k0_mult22_dvd : ∀ (v3352_r0 : BitVec 32) (k0_hw13 : k0_chk13 v3352_r0), 16 ∣ (k0_mult22 v3352_r0).toNat := fun v3352_r0 k0_hw13 => k0_hw13.1.2.2.2.2.2.2.2.2.2.2.2.2.2.2.2.2.2.2.2.2.2.2.2.2.2.2.1
theorem k0_mult23_dvd : ∀ (v3352_r0 : BitVec 32) (k0_hw13 : k0_chk13 v3352_r0), 16 ∣ (k0_mult23 v3352_r0).toNat := fun v3352_r0 k0_hw13 => k0_hw13.1.2.2.2.2.2.2.2.2.2.2.2.2.2.2.2.2.2.2.2.2.2.2.2.2.2.2.2.1
theorem k0_mult24_dvd : ∀ (v3352_r0 : BitVec 32) (k0_hw13 : k0_chk13 v3352_r0), 16 ∣ (k0_mult24 v3352_r0).toNat := fun v3352_r0 k0_hw13 => k0_hw13.1.2.2.2.2.2.2.2.2.2.2.2.2.2.2.2.2.2.2.2.2.2.2.2.2.2.2.2.2.1
theorem k0_mult25_dvd : ∀ (v3352_r0 : BitVec 32) (k0_hw13 : k0_chk13 v3352_r0), 16 ∣ (k0_mult25 v3352_r0).toNat := fun v3352_r0 k0_hw13 => k0_hw13.1.2.2.2.2.2.2.2.2.2.2.2.2.2.2.2.2.2.2.2.2.2.2.2.2.2.2.2.2.2.1
theorem k0_mult26_dvd : ∀ (v3352_r0 : BitVec 32) (k0_hw13 : k0_chk13 v3352_r0), 16 ∣ (k0_mult26 v3352_r0).toNat := fun v3352_r0 k0_hw13 => k0_hw13.1.2.2.2.2.2.2.2.2.2.2.2.2.2.2.2.2.2.2.2.2.2.2.2.2.2.2.2.2.2.2.1
theorem k0_mult27_dvd : ∀ (v3352_r0 : BitVec 32) (k0_hw13 : k0_chk13 v3352_r0), 16 ∣ (k0_mult27 v3352_r0).toNat := fun v3352_r0 k0_hw13 => k0_hw13.1.2.2.2.2.2.2.2.2.2.2.2.2.2.2.2.2.2.2.2.2.2.2.2.2.2.2.2.2.2.2.2
theorem k0_mult28_dvd : ∀ (v3352_r0 : BitVec 32) (k0_hw13 : k0_chk13 v3352_r0), 16 ∣ (k0_mult28 v3352_r0).toNat := fun v3352_r0 k0_hw13 => k0_hw13.2.1.1
theorem k0_mult29_dvd : ∀ (v3352_r0 : BitVec 32) (k0_hw13 : k0_chk13 v3352_r0), 16 ∣ (k0_mult29 v3352_r0).toNat := fun v3352_r0 k0_hw13 => k0_hw13.2.1.2.1
theorem k0_mult30_dvd : ∀ (v3352_r0 : BitVec 32) (k0_hw13 : k0_chk13 v3352_r0), 16 ∣ (k0_mult30 v3352_r0).toNat := fun v3352_r0 k0_hw13 => k0_hw13.2.1.2.2.1
theorem k0_mult31_dvd : ∀ (v3352_r0 : BitVec 32) (k0_hw13 : k0_chk13 v3352_r0), 16 ∣ (k0_mult31 v3352_r0).toNat := fun v3352_r0 k0_hw13 => k0_hw13.2.1.2.2.2.1
theorem k0_mult32_dvd : ∀ (v3352_r0 : BitVec 32) (k0_hw13 : k0_chk13 v3352_r0), 16 ∣ (k0_mult32 v3352_r0).toNat := fun v3352_r0 k0_hw13 => k0_hw13.2.1.2.2.2.2.1
theorem k0_mult33_dvd : ∀ (v3352_r0 : BitVec 32) (k0_hw13 : k0_chk13 v3352_r0), 16 ∣ (k0_mult33 v3352_r0).toNat := fun v3352_r0 k0_hw13 => k0_hw13.2.1.2.2.2.2.2.1
theorem k0_mult34_dvd : ∀ (v3352_r0 : BitVec 32) (k0_hw13 : k0_chk13 v3352_r0), 16 ∣ (k0_mult34 v3352_r0).toNat := fun v3352_r0 k0_hw13 => k0_hw13.2.1.2.2.2.2.2.2.1
theorem k0_mult35_dvd : ∀ (v3352_r0 : BitVec 32) (k0_hw13 : k0_chk13 v3352_r0), 16 ∣ (k0_mult35 v3352_r0).toNat := fun v3352_r0 k0_hw13 => k0_hw13.2.1.2.2.2.2.2.2.2.1
theorem k0_mult36_dvd : ∀ (v3352_r0 : BitVec 32) (k0_hw13 : k0_chk13 v3352_r0), 16 ∣ (k0_mult36 v3352_r0).toNat := fun v3352_r0 k0_hw13 => k0_hw13.2.1.2.2.2.2.2.2.2.2.1
theorem k0_mult37_dvd : ∀ (v3352_r0 : BitVec 32) (k0_hw13 : k0_chk13 v3352_r0), 16 ∣ (k0_mult37 v3352_r0).toNat := fun v3352_r0 k0_hw13 => k0_hw13.2.1.2.2.2.2.2.2.2.2.2.1
theorem k0_off49_inb : ∀ (v3352_r0 : BitVec 32) (k0_hw13 : k0_chk13 v3352_r0), ∀ (r : Fin 8), ∀ a, (k0_off49 v3352_r0 (BitVec.ofNat 32 (16 * r.val))) a + S16x128.size a ≤ S6144x2048.size a := fun v3352_r0 k0_hw13 r => k0_hw13.2.1.2.2.2.2.2.2.2.2.2.2.1 r
theorem k0_off49_packedbf16 : ∀ (v3352_r0 : BitVec 32) (k0_hw13 : k0_chk13 v3352_r0), ∀ (r : Fin 8), (Rect.unit (s := S6144x2048) (k0_off49 v3352_r0 (BitVec.ofNat 32 (16 * r.val))) S16x128.size (k0_off49_inb v3352_r0 k0_hw13 r)).PackedRows (EltTy.packing .bf16) := fun v3352_r0 k0_hw13 r => k0_hw13.2.1.2.2.2.2.2.2.2.2.2.2.2.1 r (k0_off49_inb v3352_r0 k0_hw13 r)
theorem k0_mult38_dvd : ∀ (v3352_r0 : BitVec 32) (k0_hw13 : k0_chk13 v3352_r0), 16 ∣ (k0_mult38 v3352_r0).toNat := fun v3352_r0 k0_hw13 => k0_hw13.2.1.2.2.2.2.2.2.2.2.2.2.2.2.1
theorem k0_off50_inb : ∀ (v3352_r0 : BitVec 32) (k0_hw13 : k0_chk13 v3352_r0), ∀ (r : Fin 8), ∀ a, (k0_off50 v3352_r0 (BitVec.ofNat 32 (16 * r.val))) a + S16x128.size a ≤ S6144x2048.size a := fun v3352_r0 k0_hw13 r => k0_hw13.2.1.2.2.2.2.2.2.2.2.2.2.2.2.2.1 r
theorem k0_off50_packedbf16 : ∀ (v3352_r0 : BitVec 32) (k0_hw13 : k0_chk13 v3352_r0), ∀ (r : Fin 8), (Rect.unit (s := S6144x2048) (k0_off50 v3352_r0 (BitVec.ofNat 32 (16 * r.val))) S16x128.size (k0_off50_inb v3352_r0 k0_hw13 r)).PackedRows (EltTy.packing .bf16) := fun v3352_r0 k0_hw13 r => k0_hw13.2.1.2.2.2.2.2.2.2.2.2.2.2.2.2.2.1 r (k0_off50_inb v3352_r0 k0_hw13 r)
theorem k0_mult39_dvd : ∀ (v3352_r0 : BitVec 32) (k0_hw13 : k0_chk13 v3352_r0), 16 ∣ (k0_mult39 v3352_r0).toNat := fun v3352_r0 k0_hw13 => k0_hw13.2.1.2.2.2.2.2.2.2.2.2.2.2.2.2.2.2.1
theorem k0_mult40_dvd : ∀ (v3352_r0 : BitVec 32) (k0_hw13 : k0_chk13 v3352_r0), 16 ∣ (k0_mult40 v3352_r0).toNat := fun v3352_r0 k0_hw13 => k0_hw13.2.1.2.2.2.2.2.2.2.2.2.2.2.2.2.2.2.2.1
theorem k0_mult41_dvd : ∀ (v3352_r0 : BitVec 32) (k0_hw13 : k0_chk13 v3352_r0), 16 ∣ (k0_mult41 v3352_r0).toNat := fun v3352_r0 k0_hw13 => k0_hw13.2.1.2.2.2.2.2.2.2.2.2.2.2.2.2.2.2.2.2.1
theorem k0_off51_inb : ∀ (v3352_r0 : BitVec 32) (k0_hw13 : k0_chk13 v3352_r0), ∀ (r : Fin 8), ∀ a, (k0_off51 v3352_r0 (BitVec.ofNat 32 (16 * r.val))) a + S16x128.size a ≤ S6144x2048.size a := fun v3352_r0 k0_hw13 r => k0_hw13.2.1.2.2.2.2.2.2.2.2.2.2.2.2.2.2.2.2.2.2.1 r
theorem k0_off51_packedbf16 : ∀ (v3352_r0 : BitVec 32) (k0_hw13 : k0_chk13 v3352_r0), ∀ (r : Fin 8), (Rect.unit (s := S6144x2048) (k0_off51 v3352_r0 (BitVec.ofNat 32 (16 * r.val))) S16x128.size (k0_off51_inb v3352_r0 k0_hw13 r)).PackedRows (EltTy.packing .bf16) := fun v3352_r0 k0_hw13 r => k0_hw13.2.1.2.2.2.2.2.2.2.2.2.2.2.2.2.2.2.2.2.2.2.1 r (k0_off51_inb v3352_r0 k0_hw13 r)
theorem k0_mult42_dvd : ∀ (v3352_r0 : BitVec 32) (k0_hw13 : k0_chk13 v3352_r0), 16 ∣ (k0_mult42 v3352_r0).toNat := fun v3352_r0 k0_hw13 => k0_hw13.2.1.2.2.2.2.2.2.2.2.2.2.2.2.2.2.2.2.2.2.2.2.1
theorem k0_off52_inb : ∀ (v3352_r0 : BitVec 32) (k0_hw13 : k0_chk13 v3352_r0), ∀ (r : Fin 8), ∀ a, (k0_off52 v3352_r0 (BitVec.ofNat 32 (16 * r.val))) a + S16x128.size a ≤ S6144x2048.size a := fun v3352_r0 k0_hw13 r => k0_hw13.2.1.2.2.2.2.2.2.2.2.2.2.2.2.2.2.2.2.2.2.2.2.2.1 r
theorem k0_off52_packedbf16 : ∀ (v3352_r0 : BitVec 32) (k0_hw13 : k0_chk13 v3352_r0), ∀ (r : Fin 8), (Rect.unit (s := S6144x2048) (k0_off52 v3352_r0 (BitVec.ofNat 32 (16 * r.val))) S16x128.size (k0_off52_inb v3352_r0 k0_hw13 r)).PackedRows (EltTy.packing .bf16) := fun v3352_r0 k0_hw13 r => k0_hw13.2.1.2.2.2.2.2.2.2.2.2.2.2.2.2.2.2.2.2.2.2.2.2.2.1 r (k0_off52_inb v3352_r0 k0_hw13 r)
theorem k0_mult43_dvd : ∀ (v3352_r0 : BitVec 32) (k0_hw13 : k0_chk13 v3352_r0), 16 ∣ (k0_mult43 v3352_r0).toNat := fun v3352_r0 k0_hw13 => k0_hw13.2.1.2.2.2.2.2.2.2.2.2.2.2.2.2.2.2.2.2.2.2.2.2.2.2.1
theorem k0_mult44_dvd : ∀ (v3352_r0 : BitVec 32) (k0_hw13 : k0_chk13 v3352_r0), 16 ∣ (k0_mult44 v3352_r0).toNat := fun v3352_r0 k0_hw13 => k0_hw13.2.1.2.2.2.2.2.2.2.2.2.2.2.2.2.2.2.2.2.2.2.2.2.2.2.2.1
theorem k0_mult45_dvd : ∀ (v3352_r0 : BitVec 32) (k0_hw13 : k0_chk13 v3352_r0), 16 ∣ (k0_mult45 v3352_r0).toNat := fun v3352_r0 k0_hw13 => k0_hw13.2.1.2.2.2.2.2.2.2.2.2.2.2.2.2.2.2.2.2.2.2.2.2.2.2.2.2.1
theorem k0_mult46_dvd : ∀ (v3352_r0 : BitVec 32) (k0_hw13 : k0_chk13 v3352_r0), 16 ∣ (k0_mult46 v3352_r0).toNat := fun v3352_r0 k0_hw13 => k0_hw13.2.1.2.2.2.2.2.2.2.2.2.2.2.2.2.2.2.2.2.2.2.2.2.2.2.2.2.2.1
theorem k0_mult47_dvd : ∀ (v3352_r0 : BitVec 32) (k0_hw13 : k0_chk13 v3352_r0), 16 ∣ (k0_mult47 v3352_r0).toNat := fun v3352_r0 k0_hw13 => k0_hw13.2.1.2.2.2.2.2.2.2.2.2.2.2.2.2.2.2.2.2.2.2.2.2.2.2.2.2.2.2.1
theorem k0_mult48_dvd : ∀ (v3352_r0 : BitVec 32) (k0_hw13 : k0_chk13 v3352_r0), 16 ∣ (k0_mult48 v3352_r0).toNat := fun v3352_r0 k0_hw13 => k0_hw13.2.1.2.2.2.2.2.2.2.2.2.2.2.2.2.2.2.2.2.2.2.2.2.2.2.2.2.2.2.2.1
theorem k0_mult49_dvd : ∀ (v3352_r0 : BitVec 32) (k0_hw13 : k0_chk13 v3352_r0), 16 ∣ (k0_mult49 v3352_r0).toNat := fun v3352_r0 k0_hw13 => k0_hw13.2.1.2.2.2.2.2.2.2.2.2.2.2.2.2.2.2.2.2.2.2.2.2.2.2.2.2.2.2.2.2.1
theorem k0_mult50_dvd : ∀ (v3352_r0 : BitVec 32) (k0_hw13 : k0_chk13 v3352_r0), 16 ∣ (k0_mult50 v3352_r0).toNat := fun v3352_r0 k0_hw13 => k0_hw13.2.1.2.2.2.2.2.2.2.2.2.2.2.2.2.2.2.2.2.2.2.2.2.2.2.2.2.2.2.2.2.2.1
theorem k0_mult51_dvd : ∀ (v3352_r0 : BitVec 32) (k0_hw13 : k0_chk13 v3352_r0), 16 ∣ (k0_mult51 v3352_r0).toNat := fun v3352_r0 k0_hw13 => k0_hw13.2.1.2.2.2.2.2.2.2.2.2.2.2.2.2.2.2.2.2.2.2.2.2.2.2.2.2.2.2.2.2.2.2
theorem k0_mult52_dvd : ∀ (v3352_r0 : BitVec 32) (k0_hw13 : k0_chk13 v3352_r0), 16 ∣ (k0_mult52 v3352_r0).toNat := fun v3352_r0 k0_hw13 => k0_hw13.2.2.1.1
theorem k0_mult53_dvd : ∀ (v3352_r0 : BitVec 32) (k0_hw13 : k0_chk13 v3352_r0), 16 ∣ (k0_mult53 v3352_r0).toNat := fun v3352_r0 k0_hw13 => k0_hw13.2.2.1.2.1
theorem k0_mult54_dvd : ∀ (v3352_r0 : BitVec 32) (k0_hw13 : k0_chk13 v3352_r0), 16 ∣ (k0_mult54 v3352_r0).toNat := fun v3352_r0 k0_hw13 => k0_hw13.2.2.1.2.2.1
theorem k0_mult55_dvd : ∀ (v3352_r0 : BitVec 32) (k0_hw13 : k0_chk13 v3352_r0), 16 ∣ (k0_mult55 v3352_r0).toNat := fun v3352_r0 k0_hw13 => k0_hw13.2.2.1.2.2.2.1
theorem k0_mult56_dvd : ∀ (v3352_r0 : BitVec 32) (k0_hw13 : k0_chk13 v3352_r0), 16 ∣ (k0_mult56 v3352_r0).toNat := fun v3352_r0 k0_hw13 => k0_hw13.2.2.1.2.2.2.2.1
theorem k0_mult57_dvd : ∀ (v3352_r0 : BitVec 32) (k0_hw13 : k0_chk13 v3352_r0), 16 ∣ (k0_mult57 v3352_r0).toNat := fun v3352_r0 k0_hw13 => k0_hw13.2.2.1.2.2.2.2.2.1
theorem k0_mult58_dvd : ∀ (v3352_r0 : BitVec 32) (k0_hw13 : k0_chk13 v3352_r0), 16 ∣ (k0_mult58 v3352_r0).toNat := fun v3352_r0 k0_hw13 => k0_hw13.2.2.1.2.2.2.2.2.2.1
theorem k0_mult59_dvd : ∀ (v3352_r0 : BitVec 32) (k0_hw13 : k0_chk13 v3352_r0), 16 ∣ (k0_mult59 v3352_r0).toNat := fun v3352_r0 k0_hw13 => k0_hw13.2.2.1.2.2.2.2.2.2.2.1
theorem k0_mult60_dvd : ∀ (v3352_r0 : BitVec 32) (k0_hw13 : k0_chk13 v3352_r0), 16 ∣ (k0_mult60 v3352_r0).toNat := fun v3352_r0 k0_hw13 => k0_hw13.2.2.1.2.2.2.2.2.2.2.2.1
theorem k0_mult61_dvd : ∀ (v3352_r0 : BitVec 32) (k0_hw13 : k0_chk13 v3352_r0), 16 ∣ (k0_mult61 v3352_r0).toNat := fun v3352_r0 k0_hw13 => k0_hw13.2.2.1.2.2.2.2.2.2.2.2.2.1
theorem k0_mult62_dvd : ∀ (v3352_r0 : BitVec 32) (k0_hw13 : k0_chk13 v3352_r0), 16 ∣ (k0_mult62 v3352_r0).toNat := fun v3352_r0 k0_hw13 => k0_hw13.2.2.1.2.2.2.2.2.2.2.2.2.2.1
theorem k0_mult63_dvd : ∀ (v3352_r0 : BitVec 32) (k0_hw13 : k0_chk13 v3352_r0), 16 ∣ (k0_mult63 v3352_r0).toNat := fun v3352_r0 k0_hw13 => k0_hw13.2.2.1.2.2.2.2.2.2.2.2.2.2.2.1
theorem k0_mult64_dvd : ∀ (v3352_r0 : BitVec 32) (k0_hw13 : k0_chk13 v3352_r0), 16 ∣ (k0_mult64 v3352_r0).toNat := fun v3352_r0 k0_hw13 => k0_hw13.2.2.1.2.2.2.2.2.2.2.2.2.2.2.2.1
theorem k0_mult65_dvd : ∀ (v3352_r0 : BitVec 32) (k0_hw13 : k0_chk13 v3352_r0), 16 ∣ (k0_mult65 v3352_r0).toNat := fun v3352_r0 k0_hw13 => k0_hw13.2.2.1.2.2.2.2.2.2.2.2.2.2.2.2.2.1
theorem k0_mult66_dvd : ∀ (v3352_r0 : BitVec 32) (k0_hw13 : k0_chk13 v3352_r0), 16 ∣ (k0_mult66 v3352_r0).toNat := fun v3352_r0 k0_hw13 => k0_hw13.2.2.1.2.2.2.2.2.2.2.2.2.2.2.2.2.2.1
theorem k0_mult67_dvd : ∀ (v3352_r0 : BitVec 32) (k0_hw13 : k0_chk13 v3352_r0), 16 ∣ (k0_mult67 v3352_r0).toNat := fun v3352_r0 k0_hw13 => k0_hw13.2.2.1.2.2.2.2.2.2.2.2.2.2.2.2.2.2.2.1
theorem k0_mult68_dvd : ∀ (v3352_r0 : BitVec 32) (k0_hw13 : k0_chk13 v3352_r0), 16 ∣ (k0_mult68 v3352_r0).toNat := fun v3352_r0 k0_hw13 => k0_hw13.2.2.1.2.2.2.2.2.2.2.2.2.2.2.2.2.2.2.2.1
theorem k0_mult69_dvd : ∀ (v3352_r0 : BitVec 32) (k0_hw13 : k0_chk13 v3352_r0), 16 ∣ (k0_mult69 v3352_r0).toNat := fun v3352_r0 k0_hw13 => k0_hw13.2.2.1.2.2.2.2.2.2.2.2.2.2.2.2.2.2.2.2.2.1
theorem k0_off53_inb : ∀ (v3352_r0 : BitVec 32) (k0_hw13 : k0_chk13 v3352_r0), ∀ (r : Fin 8), ∀ a, (k0_off53 v3352_r0 (BitVec.ofNat 32 (16 * r.val))) a + S16x128.size a ≤ S6144x2048.size a := fun v3352_r0 k0_hw13 r => k0_hw13.2.2.1.2.2.2.2.2.2.2.2.2.2.2.2.2.2.2.2.2.2.1 r
theorem k0_off53_packedbf16 : ∀ (v3352_r0 : BitVec 32) (k0_hw13 : k0_chk13 v3352_r0), ∀ (r : Fin 8), (Rect.unit (s := S6144x2048) (k0_off53 v3352_r0 (BitVec.ofNat 32 (16 * r.val))) S16x128.size (k0_off53_inb v3352_r0 k0_hw13 r)).PackedRows (EltTy.packing .bf16) := fun v3352_r0 k0_hw13 r => k0_hw13.2.2.1.2.2.2.2.2.2.2.2.2.2.2.2.2.2.2.2.2.2.2.1 r (k0_off53_inb v3352_r0 k0_hw13 r)
theorem k0_mult70_dvd : ∀ (v3352_r0 : BitVec 32) (k0_hw13 : k0_chk13 v3352_r0), 16 ∣ (k0_mult70 v3352_r0).toNat := fun v3352_r0 k0_hw13 => k0_hw13.2.2.1.2.2.2.2.2.2.2.2.2.2.2.2.2.2.2.2.2.2.2.2.1
theorem k0_off54_inb : ∀ (v3352_r0 : BitVec 32) (k0_hw13 : k0_chk13 v3352_r0), ∀ (r : Fin 8), ∀ a, (k0_off54 v3352_r0 (BitVec.ofNat 32 (16 * r.val))) a + S16x128.size a ≤ S6144x2048.size a := fun v3352_r0 k0_hw13 r => k0_hw13.2.2.1.2.2.2.2.2.2.2.2.2.2.2.2.2.2.2.2.2.2.2.2.2.1 r
theorem k0_off54_packedbf16 : ∀ (v3352_r0 : BitVec 32) (k0_hw13 : k0_chk13 v3352_r0), ∀ (r : Fin 8), (Rect.unit (s := S6144x2048) (k0_off54 v3352_r0 (BitVec.ofNat 32 (16 * r.val))) S16x128.size (k0_off54_inb v3352_r0 k0_hw13 r)).PackedRows (EltTy.packing .bf16) := fun v3352_r0 k0_hw13 r => k0_hw13.2.2.1.2.2.2.2.2.2.2.2.2.2.2.2.2.2.2.2.2.2.2.2.2.2.1 r (k0_off54_inb v3352_r0 k0_hw13 r)
theorem k0_mult71_dvd : ∀ (v3352_r0 : BitVec 32) (k0_hw13 : k0_chk13 v3352_r0), 16 ∣ (k0_mult71 v3352_r0).toNat := fun v3352_r0 k0_hw13 => k0_hw13.2.2.1.2.2.2.2.2.2.2.2.2.2.2.2.2.2.2.2.2.2.2.2.2.2.2.1
theorem k0_mult72_dvd : ∀ (v3352_r0 : BitVec 32) (k0_hw13 : k0_chk13 v3352_r0), 16 ∣ (k0_mult72 v3352_r0).toNat := fun v3352_r0 k0_hw13 => k0_hw13.2.2.1.2.2.2.2.2.2.2.2.2.2.2.2.2.2.2.2.2.2.2.2.2.2.2.2.1
theorem k0_mult73_dvd : ∀ (v3352_r0 : BitVec 32) (k0_hw13 : k0_chk13 v3352_r0), 16 ∣ (k0_mult73 v3352_r0).toNat := fun v3352_r0 k0_hw13 => k0_hw13.2.2.1.2.2.2.2.2.2.2.2.2.2.2.2.2.2.2.2.2.2.2.2.2.2.2.2.2.1
theorem k0_off55_inb : ∀ (v3352_r0 : BitVec 32) (k0_hw13 : k0_chk13 v3352_r0), ∀ (r : Fin 8), ∀ a, (k0_off55 v3352_r0 (BitVec.ofNat 32 (16 * r.val))) a + S16x128.size a ≤ S6144x2048.size a := fun v3352_r0 k0_hw13 r => k0_hw13.2.2.1.2.2.2.2.2.2.2.2.2.2.2.2.2.2.2.2.2.2.2.2.2.2.2.2.2.2.1 r
theorem k0_off55_packedbf16 : ∀ (v3352_r0 : BitVec 32) (k0_hw13 : k0_chk13 v3352_r0), ∀ (r : Fin 8), (Rect.unit (s := S6144x2048) (k0_off55 v3352_r0 (BitVec.ofNat 32 (16 * r.val))) S16x128.size (k0_off55_inb v3352_r0 k0_hw13 r)).PackedRows (EltTy.packing .bf16) := fun v3352_r0 k0_hw13 r => k0_hw13.2.2.1.2.2.2.2.2.2.2.2.2.2.2.2.2.2.2.2.2.2.2.2.2.2.2.2.2.2.2.1 r (k0_off55_inb v3352_r0 k0_hw13 r)
theorem k0_mult74_dvd : ∀ (v3352_r0 : BitVec 32) (k0_hw13 : k0_chk13 v3352_r0), 16 ∣ (k0_mult74 v3352_r0).toNat := fun v3352_r0 k0_hw13 => k0_hw13.2.2.1.2.2.2.2.2.2.2.2.2.2.2.2.2.2.2.2.2.2.2.2.2.2.2.2.2.2.2.2.1
theorem k0_off56_inb : ∀ (v3352_r0 : BitVec 32) (k0_hw13 : k0_chk13 v3352_r0), ∀ (r : Fin 8), ∀ a, (k0_off56 v3352_r0 (BitVec.ofNat 32 (16 * r.val))) a + S16x128.size a ≤ S6144x2048.size a := fun v3352_r0 k0_hw13 r => k0_hw13.2.2.1.2.2.2.2.2.2.2.2.2.2.2.2.2.2.2.2.2.2.2.2.2.2.2.2.2.2.2.2.2.1 r
theorem k0_off56_packedbf16 : ∀ (v3352_r0 : BitVec 32) (k0_hw13 : k0_chk13 v3352_r0), ∀ (r : Fin 8), (Rect.unit (s := S6144x2048) (k0_off56 v3352_r0 (BitVec.ofNat 32 (16 * r.val))) S16x128.size (k0_off56_inb v3352_r0 k0_hw13 r)).PackedRows (EltTy.packing .bf16) := fun v3352_r0 k0_hw13 r => k0_hw13.2.2.1.2.2.2.2.2.2.2.2.2.2.2.2.2.2.2.2.2.2.2.2.2.2.2.2.2.2.2.2.2.2.1 r (k0_off56_inb v3352_r0 k0_hw13 r)
theorem k0_mult75_dvd : ∀ (v3352_r0 : BitVec 32) (k0_hw13 : k0_chk13 v3352_r0), 16 ∣ (k0_mult75 v3352_r0).toNat := fun v3352_r0 k0_hw13 => k0_hw13.2.2.1.2.2.2.2.2.2.2.2.2.2.2.2.2.2.2.2.2.2.2.2.2.2.2.2.2.2.2.2.2.2.2
theorem k0_mult76_dvd : ∀ (v3352_r0 : BitVec 32) (k0_hw13 : k0_chk13 v3352_r0), 16 ∣ (k0_mult76 v3352_r0).toNat := fun v3352_r0 k0_hw13 => k0_hw13.2.2.2.1.1
theorem k0_mult77_dvd : ∀ (v3352_r0 : BitVec 32) (k0_hw13 : k0_chk13 v3352_r0), 16 ∣ (k0_mult77 v3352_r0).toNat := fun v3352_r0 k0_hw13 => k0_hw13.2.2.2.1.2.1
theorem k0_mult78_dvd : ∀ (v3352_r0 : BitVec 32) (k0_hw13 : k0_chk13 v3352_r0), 16 ∣ (k0_mult78 v3352_r0).toNat := fun v3352_r0 k0_hw13 => k0_hw13.2.2.2.1.2.2.1
theorem k0_mult79_dvd : ∀ (v3352_r0 : BitVec 32) (k0_hw13 : k0_chk13 v3352_r0), 16 ∣ (k0_mult79 v3352_r0).toNat := fun v3352_r0 k0_hw13 => k0_hw13.2.2.2.1.2.2.2.1
theorem k0_mult80_dvd : ∀ (v3352_r0 : BitVec 32) (k0_hw13 : k0_chk13 v3352_r0), 16 ∣ (k0_mult80 v3352_r0).toNat := fun v3352_r0 k0_hw13 => k0_hw13.2.2.2.1.2.2.2.2.1
theorem k0_mult81_dvd : ∀ (v3352_r0 : BitVec 32) (k0_hw13 : k0_chk13 v3352_r0), 16 ∣ (k0_mult81 v3352_r0).toNat := fun v3352_r0 k0_hw13 => k0_hw13.2.2.2.1.2.2.2.2.2.1
theorem k0_mult82_dvd : ∀ (v3352_r0 : BitVec 32) (k0_hw13 : k0_chk13 v3352_r0), 16 ∣ (k0_mult82 v3352_r0).toNat := fun v3352_r0 k0_hw13 => k0_hw13.2.2.2.1.2.2.2.2.2.2.1
theorem k0_mult83_dvd : ∀ (v3352_r0 : BitVec 32) (k0_hw13 : k0_chk13 v3352_r0), 16 ∣ (k0_mult83 v3352_r0).toNat := fun v3352_r0 k0_hw13 => k0_hw13.2.2.2.1.2.2.2.2.2.2.2.1
theorem k0_mult84_dvd : ∀ (v3352_r0 : BitVec 32) (k0_hw13 : k0_chk13 v3352_r0), 16 ∣ (k0_mult84 v3352_r0).toNat := fun v3352_r0 k0_hw13 => k0_hw13.2.2.2.1.2.2.2.2.2.2.2.2.1
theorem k0_mult85_dvd : ∀ (v3352_r0 : BitVec 32) (k0_hw13 : k0_chk13 v3352_r0), 16 ∣ (k0_mult85 v3352_r0).toNat := fun v3352_r0 k0_hw13 => k0_hw13.2.2.2.1.2.2.2.2.2.2.2.2.2.1
theorem k0_mult86_dvd : ∀ (v3352_r0 : BitVec 32) (k0_hw13 : k0_chk13 v3352_r0), 16 ∣ (k0_mult86 v3352_r0).toNat := fun v3352_r0 k0_hw13 => k0_hw13.2.2.2.1.2.2.2.2.2.2.2.2.2.2.1
theorem k0_mult87_dvd : ∀ (v3352_r0 : BitVec 32) (k0_hw13 : k0_chk13 v3352_r0), 16 ∣ (k0_mult87 v3352_r0).toNat := fun v3352_r0 k0_hw13 => k0_hw13.2.2.2.1.2.2.2.2.2.2.2.2.2.2.2.1
theorem k0_mult88_dvd : ∀ (v3352_r0 : BitVec 32) (k0_hw13 : k0_chk13 v3352_r0), 16 ∣ (k0_mult88 v3352_r0).toNat := fun v3352_r0 k0_hw13 => k0_hw13.2.2.2.1.2.2.2.2.2.2.2.2.2.2.2.2.1
theorem k0_mult89_dvd : ∀ (v3352_r0 : BitVec 32) (k0_hw13 : k0_chk13 v3352_r0), 16 ∣ (k0_mult89 v3352_r0).toNat := fun v3352_r0 k0_hw13 => k0_hw13.2.2.2.1.2.2.2.2.2.2.2.2.2.2.2.2.2.1
theorem k0_mult90_dvd : ∀ (v3352_r0 : BitVec 32) (k0_hw13 : k0_chk13 v3352_r0), 16 ∣ (k0_mult90 v3352_r0).toNat := fun v3352_r0 k0_hw13 => k0_hw13.2.2.2.1.2.2.2.2.2.2.2.2.2.2.2.2.2.2.1
theorem k0_mult91_dvd : ∀ (v3352_r0 : BitVec 32) (k0_hw13 : k0_chk13 v3352_r0), 16 ∣ (k0_mult91 v3352_r0).toNat := fun v3352_r0 k0_hw13 => k0_hw13.2.2.2.1.2.2.2.2.2.2.2.2.2.2.2.2.2.2.2.1
theorem k0_mult92_dvd : ∀ (v3352_r0 : BitVec 32) (k0_hw13 : k0_chk13 v3352_r0), 16 ∣ (k0_mult92 v3352_r0).toNat := fun v3352_r0 k0_hw13 => k0_hw13.2.2.2.1.2.2.2.2.2.2.2.2.2.2.2.2.2.2.2.2.1
theorem k0_mult93_dvd : ∀ (v3352_r0 : BitVec 32) (k0_hw13 : k0_chk13 v3352_r0), 16 ∣ (k0_mult93 v3352_r0).toNat := fun v3352_r0 k0_hw13 => k0_hw13.2.2.2.1.2.2.2.2.2.2.2.2.2.2.2.2.2.2.2.2.2.1
theorem k0_mult94_dvd : ∀ (v3352_r0 : BitVec 32) (k0_hw13 : k0_chk13 v3352_r0), 16 ∣ (k0_mult94 v3352_r0).toNat := fun v3352_r0 k0_hw13 => k0_hw13.2.2.2.1.2.2.2.2.2.2.2.2.2.2.2.2.2.2.2.2.2.2.1
theorem k0_mult95_dvd : ∀ (v3352_r0 : BitVec 32) (k0_hw13 : k0_chk13 v3352_r0), 16 ∣ (k0_mult95 v3352_r0).toNat := fun v3352_r0 k0_hw13 => k0_hw13.2.2.2.1.2.2.2.2.2.2.2.2.2.2.2.2.2.2.2.2.2.2.2.1
theorem k0_mult96_dvd : ∀ (v3352_r0 : BitVec 32) (k0_hw13 : k0_chk13 v3352_r0), 16 ∣ (k0_mult96 v3352_r0).toNat := fun v3352_r0 k0_hw13 => k0_hw13.2.2.2.1.2.2.2.2.2.2.2.2.2.2.2.2.2.2.2.2.2.2.2.2.1
theorem k0_mult97_dvd : ∀ (v3352_r0 : BitVec 32) (k0_hw13 : k0_chk13 v3352_r0), 16 ∣ (k0_mult97 v3352_r0).toNat := fun v3352_r0 k0_hw13 => k0_hw13.2.2.2.1.2.2.2.2.2.2.2.2.2.2.2.2.2.2.2.2.2.2.2.2.2.1
theorem k0_mult98_dvd : ∀ (v3352_r0 : BitVec 32) (k0_hw13 : k0_chk13 v3352_r0), 16 ∣ (k0_mult98 v3352_r0).toNat := fun v3352_r0 k0_hw13 => k0_hw13.2.2.2.1.2.2.2.2.2.2.2.2.2.2.2.2.2.2.2.2.2.2.2.2.2.2.1
theorem k0_mult99_dvd : ∀ (v3352_r0 : BitVec 32) (k0_hw13 : k0_chk13 v3352_r0), 16 ∣ (k0_mult99 v3352_r0).toNat := fun v3352_r0 k0_hw13 => k0_hw13.2.2.2.1.2.2.2.2.2.2.2.2.2.2.2.2.2.2.2.2.2.2.2.2.2.2.2.1
theorem k0_mult100_dvd : ∀ (v3352_r0 : BitVec 32) (k0_hw13 : k0_chk13 v3352_r0), 16 ∣ (k0_mult100 v3352_r0).toNat := fun v3352_r0 k0_hw13 => k0_hw13.2.2.2.1.2.2.2.2.2.2.2.2.2.2.2.2.2.2.2.2.2.2.2.2.2.2.2.2.1
theorem k0_mult101_dvd : ∀ (v3352_r0 : BitVec 32) (k0_hw13 : k0_chk13 v3352_r0), 16 ∣ (k0_mult101 v3352_r0).toNat := fun v3352_r0 k0_hw13 => k0_hw13.2.2.2.1.2.2.2.2.2.2.2.2.2.2.2.2.2.2.2.2.2.2.2.2.2.2.2.2.2.1
theorem k0_off57_inb : ∀ (v3352_r0 : BitVec 32) (k0_hw13 : k0_chk13 v3352_r0), ∀ (r : Fin 8), ∀ a, (k0_off57 v3352_r0 (BitVec.ofNat 32 (16 * r.val))) a + S16x128.size a ≤ S6144x2048.size a := fun v3352_r0 k0_hw13 r => k0_hw13.2.2.2.1.2.2.2.2.2.2.2.2.2.2.2.2.2.2.2.2.2.2.2.2.2.2.2.2.2.2.1 r
theorem k0_off57_packedbf16 : ∀ (v3352_r0 : BitVec 32) (k0_hw13 : k0_chk13 v3352_r0), ∀ (r : Fin 8), (Rect.unit (s := S6144x2048) (k0_off57 v3352_r0 (BitVec.ofNat 32 (16 * r.val))) S16x128.size (k0_off57_inb v3352_r0 k0_hw13 r)).PackedRows (EltTy.packing .bf16) := fun v3352_r0 k0_hw13 r => k0_hw13.2.2.2.1.2.2.2.2.2.2.2.2.2.2.2.2.2.2.2.2.2.2.2.2.2.2.2.2.2.2.2.1 r (k0_off57_inb v3352_r0 k0_hw13 r)
theorem k0_mult102_dvd : ∀ (v3352_r0 : BitVec 32) (k0_hw13 : k0_chk13 v3352_r0), 16 ∣ (k0_mult102 v3352_r0).toNat := fun v3352_r0 k0_hw13 => k0_hw13.2.2.2.1.2.2.2.2.2.2.2.2.2.2.2.2.2.2.2.2.2.2.2.2.2.2.2.2.2.2.2.2.1
theorem k0_off58_inb : ∀ (v3352_r0 : BitVec 32) (k0_hw13 : k0_chk13 v3352_r0), ∀ (r : Fin 8), ∀ a, (k0_off58 v3352_r0 (BitVec.ofNat 32 (16 * r.val))) a + S16x128.size a ≤ S6144x2048.size a := fun v3352_r0 k0_hw13 r => k0_hw13.2.2.2.1.2.2.2.2.2.2.2.2.2.2.2.2.2.2.2.2.2.2.2.2.2.2.2.2.2.2.2.2.2.1 r
theorem k0_off58_packedbf16 : ∀ (v3352_r0 : BitVec 32) (k0_hw13 : k0_chk13 v3352_r0), ∀ (r : Fin 8), (Rect.unit (s := S6144x2048) (k0_off58 v3352_r0 (BitVec.ofNat 32 (16 * r.val))) S16x128.size (k0_off58_inb v3352_r0 k0_hw13 r)).PackedRows (EltTy.packing .bf16) := fun v3352_r0 k0_hw13 r => k0_hw13.2.2.2.1.2.2.2.2.2.2.2.2.2.2.2.2.2.2.2.2.2.2.2.2.2.2.2.2.2.2.2.2.2.2.1 r (k0_off58_inb v3352_r0 k0_hw13 r)
theorem k0_mult103_dvd : ∀ (v3352_r0 : BitVec 32) (k0_hw13 : k0_chk13 v3352_r0), 16 ∣ (k0_mult103 v3352_r0).toNat := fun v3352_r0 k0_hw13 => k0_hw13.2.2.2.1.2.2.2.2.2.2.2.2.2.2.2.2.2.2.2.2.2.2.2.2.2.2.2.2.2.2.2.2.2.2.2
theorem k0_mult104_dvd : ∀ (v3352_r0 : BitVec 32) (k0_hw13 : k0_chk13 v3352_r0), 16 ∣ (k0_mult104 v3352_r0).toNat := fun v3352_r0 k0_hw13 => k0_hw13.2.2.2.2.1.1
theorem k0_mult105_dvd : ∀ (v3352_r0 : BitVec 32) (k0_hw13 : k0_chk13 v3352_r0), 16 ∣ (k0_mult105 v3352_r0).toNat := fun v3352_r0 k0_hw13 => k0_hw13.2.2.2.2.1.2.1
theorem k0_off59_inb : ∀ (v3352_r0 : BitVec 32) (k0_hw13 : k0_chk13 v3352_r0), ∀ (r : Fin 8), ∀ a, (k0_off59 v3352_r0 (BitVec.ofNat 32 (16 * r.val))) a + S16x128.size a ≤ S6144x2048.size a := fun v3352_r0 k0_hw13 r => k0_hw13.2.2.2.2.1.2.2.1 r
theorem k0_off59_packedbf16 : ∀ (v3352_r0 : BitVec 32) (k0_hw13 : k0_chk13 v3352_r0), ∀ (r : Fin 8), (Rect.unit (s := S6144x2048) (k0_off59 v3352_r0 (BitVec.ofNat 32 (16 * r.val))) S16x128.size (k0_off59_inb v3352_r0 k0_hw13 r)).PackedRows (EltTy.packing .bf16) := fun v3352_r0 k0_hw13 r => k0_hw13.2.2.2.2.1.2.2.2.1 r (k0_off59_inb v3352_r0 k0_hw13 r)
theorem k0_mult106_dvd : ∀ (v3352_r0 : BitVec 32) (k0_hw13 : k0_chk13 v3352_r0), 16 ∣ (k0_mult106 v3352_r0).toNat := fun v3352_r0 k0_hw13 => k0_hw13.2.2.2.2.1.2.2.2.2.1
theorem k0_off60_inb : ∀ (v3352_r0 : BitVec 32) (k0_hw13 : k0_chk13 v3352_r0), ∀ (r : Fin 8), ∀ a, (k0_off60 v3352_r0 (BitVec.ofNat 32 (16 * r.val))) a + S16x128.size a ≤ S6144x2048.size a := fun v3352_r0 k0_hw13 r => k0_hw13.2.2.2.2.1.2.2.2.2.2.1 r
theorem k0_off60_packedbf16 : ∀ (v3352_r0 : BitVec 32) (k0_hw13 : k0_chk13 v3352_r0), ∀ (r : Fin 8), (Rect.unit (s := S6144x2048) (k0_off60 v3352_r0 (BitVec.ofNat 32 (16 * r.val))) S16x128.size (k0_off60_inb v3352_r0 k0_hw13 r)).PackedRows (EltTy.packing .bf16) := fun v3352_r0 k0_hw13 r => k0_hw13.2.2.2.2.1.2.2.2.2.2.2.1 r (k0_off60_inb v3352_r0 k0_hw13 r)
theorem k0_mult107_dvd : ∀ (v3352_r0 : BitVec 32) (k0_hw13 : k0_chk13 v3352_r0), 16 ∣ (k0_mult107 v3352_r0).toNat := fun v3352_r0 k0_hw13 => k0_hw13.2.2.2.2.1.2.2.2.2.2.2.2.1
theorem k0_mult108_dvd : ∀ (v3352_r0 : BitVec 32) (k0_hw13 : k0_chk13 v3352_r0), 16 ∣ (k0_mult108 v3352_r0).toNat := fun v3352_r0 k0_hw13 => k0_hw13.2.2.2.2.1.2.2.2.2.2.2.2.2.1
theorem k0_mult109_dvd : ∀ (v3352_r0 : BitVec 32) (k0_hw13 : k0_chk13 v3352_r0), 16 ∣ (k0_mult109 v3352_r0).toNat := fun v3352_r0 k0_hw13 => k0_hw13.2.2.2.2.1.2.2.2.2.2.2.2.2.2.1
theorem k0_mult110_dvd : ∀ (v3352_r0 : BitVec 32) (k0_hw13 : k0_chk13 v3352_r0), 16 ∣ (k0_mult110 v3352_r0).toNat := fun v3352_r0 k0_hw13 => k0_hw13.2.2.2.2.1.2.2.2.2.2.2.2.2.2.2.1
theorem k0_mult111_dvd : ∀ (v3352_r0 : BitVec 32) (k0_hw13 : k0_chk13 v3352_r0), 16 ∣ (k0_mult111 v3352_r0).toNat := fun v3352_r0 k0_hw13 => k0_hw13.2.2.2.2.1.2.2.2.2.2.2.2.2.2.2.2.1
theorem k0_mult112_dvd : ∀ (v3352_r0 : BitVec 32) (k0_hw13 : k0_chk13 v3352_r0), 16 ∣ (k0_mult112 v3352_r0).toNat := fun v3352_r0 k0_hw13 => k0_hw13.2.2.2.2.1.2.2.2.2.2.2.2.2.2.2.2.2.1
theorem k0_mult113_dvd : ∀ (v3352_r0 : BitVec 32) (k0_hw13 : k0_chk13 v3352_r0), 16 ∣ (k0_mult113 v3352_r0).toNat := fun v3352_r0 k0_hw13 => k0_hw13.2.2.2.2.1.2.2.2.2.2.2.2.2.2.2.2.2.2.1
theorem k0_mult114_dvd : ∀ (v3352_r0 : BitVec 32) (k0_hw13 : k0_chk13 v3352_r0), 16 ∣ (k0_mult114 v3352_r0).toNat := fun v3352_r0 k0_hw13 => k0_hw13.2.2.2.2.1.2.2.2.2.2.2.2.2.2.2.2.2.2.2.1
theorem k0_mult115_dvd : ∀ (v3352_r0 : BitVec 32) (k0_hw13 : k0_chk13 v3352_r0), 16 ∣ (k0_mult115 v3352_r0).toNat := fun v3352_r0 k0_hw13 => k0_hw13.2.2.2.2.1.2.2.2.2.2.2.2.2.2.2.2.2.2.2.2.1
theorem k0_mult116_dvd : ∀ (v3352_r0 : BitVec 32) (k0_hw13 : k0_chk13 v3352_r0), 16 ∣ (k0_mult116 v3352_r0).toNat := fun v3352_r0 k0_hw13 => k0_hw13.2.2.2.2.1.2.2.2.2.2.2.2.2.2.2.2.2.2.2.2.2.1
theorem k0_mult117_dvd : ∀ (v3352_r0 : BitVec 32) (k0_hw13 : k0_chk13 v3352_r0), 16 ∣ (k0_mult117 v3352_r0).toNat := fun v3352_r0 k0_hw13 => k0_hw13.2.2.2.2.1.2.2.2.2.2.2.2.2.2.2.2.2.2.2.2.2.2.1
theorem k0_mult118_dvd : ∀ (v3352_r0 : BitVec 32) (k0_hw13 : k0_chk13 v3352_r0), 16 ∣ (k0_mult118 v3352_r0).toNat := fun v3352_r0 k0_hw13 => k0_hw13.2.2.2.2.1.2.2.2.2.2.2.2.2.2.2.2.2.2.2.2.2.2.2.1
theorem k0_mult119_dvd : ∀ (v3352_r0 : BitVec 32) (k0_hw13 : k0_chk13 v3352_r0), 16 ∣ (k0_mult119 v3352_r0).toNat := fun v3352_r0 k0_hw13 => k0_hw13.2.2.2.2.1.2.2.2.2.2.2.2.2.2.2.2.2.2.2.2.2.2.2.2.1
theorem k0_mult120_dvd : ∀ (v3352_r0 : BitVec 32) (k0_hw13 : k0_chk13 v3352_r0), 16 ∣ (k0_mult120 v3352_r0).toNat := fun v3352_r0 k0_hw13 => k0_hw13.2.2.2.2.1.2.2.2.2.2.2.2.2.2.2.2.2.2.2.2.2.2.2.2.2.1
theorem k0_mult121_dvd : ∀ (v3352_r0 : BitVec 32) (k0_hw13 : k0_chk13 v3352_r0), 16 ∣ (k0_mult121 v3352_r0).toNat := fun v3352_r0 k0_hw13 => k0_hw13.2.2.2.2.1.2.2.2.2.2.2.2.2.2.2.2.2.2.2.2.2.2.2.2.2.2.1
theorem k0_mult122_dvd : ∀ (v3352_r0 : BitVec 32) (k0_hw13 : k0_chk13 v3352_r0), 16 ∣ (k0_mult122 v3352_r0).toNat := fun v3352_r0 k0_hw13 => k0_hw13.2.2.2.2.1.2.2.2.2.2.2.2.2.2.2.2.2.2.2.2.2.2.2.2.2.2.2.1
theorem k0_mult123_dvd : ∀ (v3352_r0 : BitVec 32) (k0_hw13 : k0_chk13 v3352_r0), 16 ∣ (k0_mult123 v3352_r0).toNat := fun v3352_r0 k0_hw13 => k0_hw13.2.2.2.2.1.2.2.2.2.2.2.2.2.2.2.2.2.2.2.2.2.2.2.2.2.2.2.2.1
theorem k0_mult124_dvd : ∀ (v3352_r0 : BitVec 32) (k0_hw13 : k0_chk13 v3352_r0), 16 ∣ (k0_mult124 v3352_r0).toNat := fun v3352_r0 k0_hw13 => k0_hw13.2.2.2.2.1.2.2.2.2.2.2.2.2.2.2.2.2.2.2.2.2.2.2.2.2.2.2.2.2.1
theorem k0_mult125_dvd : ∀ (v3352_r0 : BitVec 32) (k0_hw13 : k0_chk13 v3352_r0), 16 ∣ (k0_mult125 v3352_r0).toNat := fun v3352_r0 k0_hw13 => k0_hw13.2.2.2.2.1.2.2.2.2.2.2.2.2.2.2.2.2.2.2.2.2.2.2.2.2.2.2.2.2.2.1
theorem k0_mult126_dvd : ∀ (v3352_r0 : BitVec 32) (k0_hw13 : k0_chk13 v3352_r0), 16 ∣ (k0_mult126 v3352_r0).toNat := fun v3352_r0 k0_hw13 => k0_hw13.2.2.2.2.1.2.2.2.2.2.2.2.2.2.2.2.2.2.2.2.2.2.2.2.2.2.2.2.2.2.2.1
theorem k0_mult127_dvd : ∀ (v3352_r0 : BitVec 32) (k0_hw13 : k0_chk13 v3352_r0), 16 ∣ (k0_mult127 v3352_r0).toNat := fun v3352_r0 k0_hw13 => k0_hw13.2.2.2.2.1.2.2.2.2.2.2.2.2.2.2.2.2.2.2.2.2.2.2.2.2.2.2.2.2.2.2.2.1
theorem k0_mult128_dvd : ∀ (v3352_r0 : BitVec 32) (k0_hw13 : k0_chk13 v3352_r0), 16 ∣ (k0_mult128 v3352_r0).toNat := fun v3352_r0 k0_hw13 => k0_hw13.2.2.2.2.1.2.2.2.2.2.2.2.2.2.2.2.2.2.2.2.2.2.2.2.2.2.2.2.2.2.2.2.2.1
theorem k0_mult129_dvd : ∀ (v3352_r0 : BitVec 32) (k0_hw13 : k0_chk13 v3352_r0), 16 ∣ (k0_mult129 v3352_r0).toNat := fun v3352_r0 k0_hw13 => k0_hw13.2.2.2.2.1.2.2.2.2.2.2.2.2.2.2.2.2.2.2.2.2.2.2.2.2.2.2.2.2.2.2.2.2.2.1
theorem k0_mult130_dvd : ∀ (v3352_r0 : BitVec 32) (k0_hw13 : k0_chk13 v3352_r0), 16 ∣ (k0_mult130 v3352_r0).toNat := fun v3352_r0 k0_hw13 => k0_hw13.2.2.2.2.1.2.2.2.2.2.2.2.2.2.2.2.2.2.2.2.2.2.2.2.2.2.2.2.2.2.2.2.2.2.2.1
theorem k0_mult131_dvd : ∀ (v3352_r0 : BitVec 32) (k0_hw13 : k0_chk13 v3352_r0), 16 ∣ (k0_mult131 v3352_r0).toNat := fun v3352_r0 k0_hw13 => k0_hw13.2.2.2.2.1.2.2.2.2.2.2.2.2.2.2.2.2.2.2.2.2.2.2.2.2.2.2.2.2.2.2.2.2.2.2.2
theorem k0_mult132_dvd : ∀ (v3352_r0 : BitVec 32) (k0_hw13 : k0_chk13 v3352_r0), 16 ∣ (k0_mult132 v3352_r0).toNat := fun v3352_r0 k0_hw13 => k0_hw13.2.2.2.2.2

@[reducible] def k0_t5_loop (v1_1 : BitVec 32) : Scf.Loop 32 :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let v16_r0 : BitVec 32 := Scalar.addi c0_i32_15_r0 v15_r0
  let c1_i32_19_r0 : BitVec 32 := 1#32
  ⟨v19_r0, v16_r0, c1_i32_19_r0⟩
def k0_off61 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c1_i32_3343_r0 : BitVec 32 := 1#32
  let v8646_r0 : BitVec 32 := Scalar.addi arg22_r0 c1_i32_3343_r0
  let v8647_r0 : Index := Scalar.indexCast v8646_r0
  ![v8647_r0.toNat]
def k0_cond7 (v1_1 : BitVec 32) (k0_t5 : Fin (k0_t5_loop v1_1).trips) : BitVec 1 :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c1_i32_20_r0 : BitVec 32 := 1#32
  let v22_r0 : BitVec 32 := Scalar.addi arg22_r0 c1_i32_20_r0
  let v23_r0 : BitVec 1 := Scalar.cmpi .slt v22_r0 v1_1
  let v24_r0 : BitVec 32 := Scalar.extui v23_r0
  let c0_i32_21_r0 : BitVec 32 := 0#32
  let v25_r0 : BitVec 1 := Scalar.cmpi .ne v24_r0 c0_i32_21_r0
  v25_r0

def k0_mult133 (v8648_r0 : BitVec 32) : BitVec 32 :=
  v8648_r0

def k0_off62 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c1_i32_3343_r0 : BitVec 32 := 1#32
  let v8646_r0 : BitVec 32 := Scalar.addi arg22_r0 c1_i32_3343_r0
  let c2_i32_3350_r0 : BitVec 32 := 2#32
  let c0_i32_3351_r0 : BitVec 32 := 0#32
  let v8660_r0 : BitVec 1 := Scalar.cmpi .eq c2_i32_3350_r0 c0_i32_3351_r0
  let c1_i32_3352_r0 : BitVec 32 := 1#32
  let v8661_r0 : BitVec 32 := Scalar.select v8660_r0 c1_i32_3352_r0 c2_i32_3350_r0
  let v8662_r0 : BitVec 32 := Scalar.remsi v8646_r0 v8661_r0
  let c0_i32_3354_r0 : BitVec 32 := 0#32
  let v8664_r0 : BitVec 1 := Scalar.cmpi .slt v8662_r0 c0_i32_3354_r0
  let c0_i32_3355_r0 : BitVec 32 := 0#32
  let v8665_r0 : BitVec 1 := Scalar.cmpi .slt v8661_r0 c0_i32_3355_r0
  let v8666_r0 : BitVec 1 := Scalar.xori v8664_r0 v8665_r0
  let c0_i32_3353_r0 : BitVec 32 := 0#32
  let v8663_r0 : BitVec 1 := Scalar.cmpi .ne v8662_r0 c0_i32_3353_r0
  let v8667_r0 : BitVec 1 := Scalar.andi v8666_r0 v8663_r0
  let v8668_r0 : BitVec 32 := Scalar.addi v8662_r0 v8661_r0
  let v8669_r0 : BitVec 32 := Scalar.select v8667_r0 v8668_r0 v8662_r0
  ![v8669_r0.toNat]
def k0_off63 (v1_1 : BitVec 32) (k0_t5 : Fin (k0_t5_loop v1_1).trips) : Fin 3 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c1_i32_3343_r0 : BitVec 32 := 1#32
  let v8646_r0 : BitVec 32 := Scalar.addi arg22_r0 c1_i32_3343_r0
  let c2_i32_3344_r0 : BitVec 32 := 2#32
  let c0_i32_3345_r0 : BitVec 32 := 0#32
  let v8650_r0 : BitVec 1 := Scalar.cmpi .eq c2_i32_3344_r0 c0_i32_3345_r0
  let c1_i32_3346_r0 : BitVec 32 := 1#32
  let v8651_r0 : BitVec 32 := Scalar.select v8650_r0 c1_i32_3346_r0 c2_i32_3344_r0
  let v8652_r0 : BitVec 32 := Scalar.remsi v8646_r0 v8651_r0
  let c0_i32_3348_r0 : BitVec 32 := 0#32
  let v8654_r0 : BitVec 1 := Scalar.cmpi .slt v8652_r0 c0_i32_3348_r0
  let c0_i32_3349_r0 : BitVec 32 := 0#32
  let v8655_r0 : BitVec 1 := Scalar.cmpi .slt v8651_r0 c0_i32_3349_r0
  let v8656_r0 : BitVec 1 := Scalar.xori v8654_r0 v8655_r0
  let c0_i32_3347_r0 : BitVec 32 := 0#32
  let v8653_r0 : BitVec 1 := Scalar.cmpi .ne v8652_r0 c0_i32_3347_r0
  let v8657_r0 : BitVec 1 := Scalar.andi v8656_r0 v8653_r0
  let v8658_r0 : BitVec 32 := Scalar.addi v8652_r0 v8651_r0
  let v8659_r0 : BitVec 32 := Scalar.select v8657_r0 v8658_r0 v8652_r0
  let c0_i32_3356_r0 : BitVec 32 := 0#32
  let c0_i32_3357_r0 : BitVec 32 := 0#32
  ![v8659_r0.toNat, 0, 0]
def k0_off64 (v8648_r0 : BitVec 32) : Fin 2 → Nat :=
  let v8649_r0 : BitVec 32 := v8648_r0
  let c0_i32_3358_r0 : BitVec 32 := 0#32
  ![v8649_r0.toNat, 0]

def k0_chk15 (v1_1 : BitVec 32) (k0_t5 : Fin (k0_t5_loop v1_1).trips) (v8648_r0 : BitVec 32) : Prop :=
  (∀ (k0_h7 : k0_cond7 v1_1 k0_t5 = 1#1), 16 ∣ (k0_mult133 v8648_r0).toNat) ∧
  (∀ (k0_h7 : k0_cond7 v1_1 k0_t5 = 1#1), ∀ a, (k0_off64 v8648_r0) a + S128x2816.size a ≤ S6144x2816.size a) ∧
  (∀ (k0_h7 : k0_cond7 v1_1 k0_t5 = 1#1), ∀ (hinb : ∀ a, (k0_off64 v8648_r0) a + S128x2816.size a ≤ S6144x2816.size a), (Rect.unit (s := S6144x2816) (k0_off64 v8648_r0) S128x2816.size hinb).WholeWords (EltTy.packing .bf16))
theorem k0_mult133_dvd : ∀ (v1_1 : BitVec 32) (k0_t5 : Fin (k0_t5_loop v1_1).trips) (v8648_r0 : BitVec 32) (k0_hw15 : k0_chk15 v1_1 k0_t5 v8648_r0), ∀ (k0_h7 : k0_cond7 v1_1 k0_t5 = 1#1), 16 ∣ (k0_mult133 v8648_r0).toNat := fun v1_1 k0_t5 v8648_r0 k0_hw15 k0_h7 => k0_hw15.1 k0_h7
theorem k0_off64_inb : ∀ (v1_1 : BitVec 32) (k0_t5 : Fin (k0_t5_loop v1_1).trips) (v8648_r0 : BitVec 32) (k0_hw15 : k0_chk15 v1_1 k0_t5 v8648_r0), ∀ (k0_h7 : k0_cond7 v1_1 k0_t5 = 1#1), ∀ a, (k0_off64 v8648_r0) a + S128x2816.size a ≤ S6144x2816.size a := fun v1_1 k0_t5 v8648_r0 k0_hw15 k0_h7 => k0_hw15.2.1 k0_h7
theorem k0_off64_wordsbf16 : ∀ (v1_1 : BitVec 32) (k0_t5 : Fin (k0_t5_loop v1_1).trips) (v8648_r0 : BitVec 32) (k0_hw15 : k0_chk15 v1_1 k0_t5 v8648_r0), ∀ (k0_h7 : k0_cond7 v1_1 k0_t5 = 1#1), (Rect.unit (s := S6144x2816) (k0_off64 v8648_r0) S128x2816.size (k0_off64_inb v1_1 k0_t5 v8648_r0 k0_hw15 k0_h7)).WholeWords (EltTy.packing .bf16) := fun v1_1 k0_t5 v8648_r0 k0_hw15 k0_h7 => k0_hw15.2.2 k0_h7 (k0_off64_inb v1_1 k0_t5 v8648_r0 k0_hw15 k0_h7)

def k0_off65 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let v26_r0 : Index := Scalar.indexCast arg22_r0
  ![v26_r0.toNat]
def k0_off66 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let v8646_r0 : Index := Scalar.indexCast arg22_r0
  ![v8646_r0.toNat]
def k0_cond8 (v29_r0 : BitVec 32) : BitVec 1 :=
  let c0_i32_22_r0 : BitVec 32 := 0#32
  let v30_r0 : BitVec 1 := Scalar.cmpi .sgt v29_r0 c0_i32_22_r0
  let v31_r0 : BitVec 32 := Scalar.extui v30_r0
  let c0_i32_23_r0 : BitVec 32 := 0#32
  let v32_r0 : BitVec 1 := Scalar.cmpi .ne v31_r0 c0_i32_23_r0
  v32_r0

def k0_off67 (v27_r0 : BitVec 32) : Fin 1 → Nat :=
  ![v27_r0.toNat]
def k0_off68 (v27_r0 : BitVec 32) : Fin 3 → Nat :=
  let c0_i32_3343_r0 : BitVec 32 := 0#32
  let c0_i32_3344_r0 : BitVec 32 := 0#32
  ![v27_r0.toNat, 0, 0]
def k0_off69 (v8647_r0 : BitVec 32) : Fin 3 → Nat :=
  let c0_i32_3345_r0 : BitVec 32 := 0#32
  let c0_i32_3346_r0 : BitVec 32 := 0#32
  ![v8647_r0.toNat, 0, 0]

def k0_off70 (v27_r0 : BitVec 32) : Fin 1 → Nat :=
  ![v27_r0.toNat]
def k0_off71 (v27_r0 : BitVec 32) : Fin 3 → Nat :=
  let c0_i32_3347_r0 : BitVec 32 := 0#32
  let c0_i32_3348_r0 : BitVec 32 := 0#32
  ![v27_r0.toNat, 0, 0]
def k0_off72 (v8647_r0 : BitVec 32) : Fin 3 → Nat :=
  let c0_i32_3349_r0 : BitVec 32 := 0#32
  let c0_i32_3350_r0 : BitVec 32 := 0#32
  ![v8647_r0.toNat, 0, 0]

def k0_chk17 (v29_r0 : BitVec 32) (v8647_r0 : BitVec 32) : Prop :=
  (∀ (k0_h8 : k0_cond8 v29_r0 = 1#1), ∀ a, (k0_off69 v8647_r0) a + S1x1408x2048.size a ≤ S64x1408x2048.size a) ∧
  (∀ (k0_h8 : k0_cond8 v29_r0 = 1#1), ∀ (hinb : ∀ a, (k0_off69 v8647_r0) a + S1x1408x2048.size a ≤ S64x1408x2048.size a), (Rect.unit (s := S64x1408x2048) (k0_off69 v8647_r0) S1x1408x2048.size hinb).WholeWords (EltTy.packing .i8)) ∧
  (∀ (k0_h8 : k0_cond8 v29_r0 = 1#1), ∀ a, (k0_off72 v8647_r0) a + S1x22x2048.size a ≤ S64x22x2048.size a)
theorem k0_off69_inb : ∀ (v29_r0 : BitVec 32) (v8647_r0 : BitVec 32) (k0_hw17 : k0_chk17 v29_r0 v8647_r0), ∀ (k0_h8 : k0_cond8 v29_r0 = 1#1), ∀ a, (k0_off69 v8647_r0) a + S1x1408x2048.size a ≤ S64x1408x2048.size a := fun v29_r0 v8647_r0 k0_hw17 k0_h8 => k0_hw17.1 k0_h8
theorem k0_off69_wordsi8 : ∀ (v29_r0 : BitVec 32) (v8647_r0 : BitVec 32) (k0_hw17 : k0_chk17 v29_r0 v8647_r0), ∀ (k0_h8 : k0_cond8 v29_r0 = 1#1), (Rect.unit (s := S64x1408x2048) (k0_off69 v8647_r0) S1x1408x2048.size (k0_off69_inb v29_r0 v8647_r0 k0_hw17 k0_h8)).WholeWords (EltTy.packing .i8) := fun v29_r0 v8647_r0 k0_hw17 k0_h8 => k0_hw17.2.1 k0_h8 (k0_off69_inb v29_r0 v8647_r0 k0_hw17 k0_h8)
theorem k0_off72_inb : ∀ (v29_r0 : BitVec 32) (v8647_r0 : BitVec 32) (k0_hw17 : k0_chk17 v29_r0 v8647_r0), ∀ (k0_h8 : k0_cond8 v29_r0 = 1#1), ∀ a, (k0_off72 v8647_r0) a + S1x22x2048.size a ≤ S64x22x2048.size a := fun v29_r0 v8647_r0 k0_hw17 k0_h8 => k0_hw17.2.2 k0_h8

def k0_off73 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let v8666_r0 : Index := Scalar.indexCast v8662_r0
  ![v8666_r0.toNat]
def k0_cond9 (v1_2 : BitVec 32) (v29_r0 : BitVec 32) : BitVec 1 :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let v8663_r0 : BitVec 1 := Scalar.cmpi .slt v8662_r0 v1_2
  let v8664_r0 : BitVec 32 := Scalar.extui v8663_r0
  let c0_i32_3353_r0 : BitVec 32 := 0#32
  let v8665_r0 : BitVec 1 := Scalar.cmpi .ne v8664_r0 c0_i32_3353_r0
  v8665_r0

def k0_off74 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  ![v8668_r0.toNat]
def k0_off75 (v29_r0 : BitVec 32) : Fin 3 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  let c0_i32_3355_r0 : BitVec 32 := 0#32
  let c0_i32_3356_r0 : BitVec 32 := 0#32
  ![v8668_r0.toNat, 0, 0]
def k0_off76 (v8667_r0 : BitVec 32) : Fin 3 → Nat :=
  let c0_i32_3357_r0 : BitVec 32 := 0#32
  let c0_i32_3358_r0 : BitVec 32 := 0#32
  ![v8667_r0.toNat, 0, 0]

def k0_off77 (v29_r0 : BitVec 32) : Fin 1 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  ![v8668_r0.toNat]
def k0_off78 (v29_r0 : BitVec 32) : Fin 3 → Nat :=
  let c1_i32_3351_r0 : BitVec 32 := 1#32
  let v8660_r0 : BitVec 32 := Scalar.subi v29_r0 c1_i32_3351_r0
  let c3_i32_r0 : BitVec 32 := 3#32
  let v8661_r0 : BitVec 32 := Scalar.addi v8660_r0 c3_i32_r0
  let c1_i32_3352_r0 : BitVec 32 := 1#32
  let v8662_r0 : BitVec 32 := Scalar.subi v8661_r0 c1_i32_3352_r0
  let c3_i32_3354_r0 : BitVec 32 := 3#32
  let v8668_r0 : BitVec 32 := Scalar.remsi v8662_r0 c3_i32_3354_r0
  let c0_i32_3359_r0 : BitVec 32 := 0#32
  let c0_i32_3360_r0 : BitVec 32 := 0#32
  ![v8668_r0.toNat, 0, 0]

def k0_chk16 (v1_2 : BitVec 32) (v1_1 : BitVec 32) (k0_t5 : Fin (k0_t5_loop v1_1).trips) (v27_r0 : BitVec 32) (v29_r0 : BitVec 32) : Prop :=
  (∀ (k0_h8 : k0_cond8 v29_r0 = 1#1), ∀ a, (k0_off66 v1_1 k0_t5) a + S1.size a ≤ S128.size a) ∧
  (∀ (k0_h8 : k0_cond8 v29_r0 = 1#1), ∀ a, (k0_off67 v27_r0) a + S1.size a ≤ S3.size a) ∧
  (∀ (k0_h8 : k0_cond8 v29_r0 = 1#1), ∀ a, (k0_off68 v27_r0) a + S1x1408x2048.size a ≤ S3x1408x2048.size a) ∧
  (∀ (k0_h8 : k0_cond8 v29_r0 = 1#1), ∀ (hinb : ∀ a, (k0_off68 v27_r0) a + S1x1408x2048.size a ≤ S3x1408x2048.size a), (Rect.unit (s := S3x1408x2048) (k0_off68 v27_r0) S1x1408x2048.size hinb).WholeWords (EltTy.packing .i8)) ∧
  (∀ (k0_h8 : k0_cond8 v29_r0 = 1#1), ∀ a, (k0_off70 v27_r0) a + S1.size a ≤ S3.size a) ∧
  (∀ (k0_h8 : k0_cond8 v29_r0 = 1#1), ∀ a, (k0_off71 v27_r0) a + S1x22x2048.size a ≤ S3x22x2048.size a) ∧
  (∀ (k0_h8 : k0_cond8 v29_r0 = 1#1), ∀ (k0_h9 : k0_cond9 v1_2 v29_r0 = 1#1), ∀ a, (k0_off73 v29_r0) a + S1.size a ≤ S64.size a) ∧
  (∀ (k0_h8 : k0_cond8 v29_r0 = 1#1), ∀ (k0_h9 : k0_cond9 v1_2 v29_r0 = 1#1), ∀ a, (k0_off74 v29_r0) a + S1.size a ≤ S3.size a) ∧
  (∀ (k0_h8 : k0_cond8 v29_r0 = 1#1), ∀ (k0_h9 : k0_cond9 v1_2 v29_r0 = 1#1), ∀ a, (k0_off75 v29_r0) a + S1x1408x2048.size a ≤ S3x1408x2048.size a) ∧
  (∀ (k0_h8 : k0_cond8 v29_r0 = 1#1), ∀ (k0_h9 : k0_cond9 v1_2 v29_r0 = 1#1), ∀ (hinb : ∀ a, (k0_off75 v29_r0) a + S1x1408x2048.size a ≤ S3x1408x2048.size a), (Rect.unit (s := S3x1408x2048) (k0_off75 v29_r0) S1x1408x2048.size hinb).WholeWords (EltTy.packing .i8)) ∧
  (∀ (k0_h8 : k0_cond8 v29_r0 = 1#1), ∀ (k0_h9 : k0_cond9 v1_2 v29_r0 = 1#1), ∀ a, (k0_off77 v29_r0) a + S1.size a ≤ S3.size a) ∧
  (∀ (k0_h8 : k0_cond8 v29_r0 = 1#1), ∀ (k0_h9 : k0_cond9 v1_2 v29_r0 = 1#1), ∀ a, (k0_off78 v29_r0) a + S1x22x2048.size a ≤ S3x22x2048.size a)
theorem k0_off66_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ a, (k0_off66 v1_1 k0_t5) a + S1.size a ≤ S128.size a := fun v1_2 v1_1 k0_t5 v27_r0 v29_r0 k0_hw16 k0_h8 => k0_hw16.1 k0_h8
theorem k0_off67_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ a, (k0_off67 v27_r0) a + S1.size a ≤ S3.size a := fun v1_2 v1_1 k0_t5 v27_r0 v29_r0 k0_hw16 k0_h8 => k0_hw16.2.1 k0_h8
theorem k0_off68_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ a, (k0_off68 v27_r0) a + S1x1408x2048.size a ≤ S3x1408x2048.size a := fun v1_2 v1_1 k0_t5 v27_r0 v29_r0 k0_hw16 k0_h8 => k0_hw16.2.2.1 k0_h8
theorem k0_off68_wordsi8 : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), (Rect.unit (s := S3x1408x2048) (k0_off68 v27_r0) S1x1408x2048.size (k0_off68_inb v1_2 v1_1 k0_t5 v27_r0 v29_r0 k0_hw16 k0_h8)).WholeWords (EltTy.packing .i8) := fun v1_2 v1_1 k0_t5 v27_r0 v29_r0 k0_hw16 k0_h8 => k0_hw16.2.2.2.1 k0_h8 (k0_off68_inb v1_2 v1_1 k0_t5 v27_r0 v29_r0 k0_hw16 k0_h8)
theorem k0_off70_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ a, (k0_off70 v27_r0) a + S1.size a ≤ S3.size a := fun v1_2 v1_1 k0_t5 v27_r0 v29_r0 k0_hw16 k0_h8 => k0_hw16.2.2.2.2.1 k0_h8
theorem k0_off71_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ a, (k0_off71 v27_r0) a + S1x22x2048.size a ≤ S3x22x2048.size a := fun v1_2 v1_1 k0_t5 v27_r0 v29_r0 k0_hw16 k0_h8 => k0_hw16.2.2.2.2.2.1 k0_h8
theorem k0_off73_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), ∀ a, (k0_off73 v29_r0) a + S1.size a ≤ S64.size a := fun v1_2 v1_1 k0_t5 v27_r0 v29_r0 k0_hw16 k0_h8 k0_h9 => k0_hw16.2.2.2.2.2.2.1 k0_h8 k0_h9
theorem k0_off74_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), ∀ a, (k0_off74 v29_r0) a + S1.size a ≤ S3.size a := fun v1_2 v1_1 k0_t5 v27_r0 v29_r0 k0_hw16 k0_h8 k0_h9 => k0_hw16.2.2.2.2.2.2.2.1 k0_h8 k0_h9
theorem k0_off75_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), ∀ a, (k0_off75 v29_r0) a + S1x1408x2048.size a ≤ S3x1408x2048.size a := fun v1_2 v1_1 k0_t5 v27_r0 v29_r0 k0_hw16 k0_h8 k0_h9 => k0_hw16.2.2.2.2.2.2.2.2.1 k0_h8 k0_h9
theorem k0_off75_wordsi8 : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), (Rect.unit (s := S3x1408x2048) (k0_off75 v29_r0) S1x1408x2048.size (k0_off75_inb v1_2 v1_1 k0_t5 v27_r0 v29_r0 k0_hw16 k0_h8 k0_h9)).WholeWords (EltTy.packing .i8) := fun v1_2 v1_1 k0_t5 v27_r0 v29_r0 k0_hw16 k0_h8 k0_h9 => k0_hw16.2.2.2.2.2.2.2.2.2.1 k0_h8 k0_h9 (k0_off75_inb v1_2 v1_1 k0_t5 v27_r0 v29_r0 k0_hw16 k0_h8 k0_h9)
theorem k0_off77_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), ∀ a, (k0_off77 v29_r0) a + S1.size a ≤ S3.size a := fun v1_2 v1_1 k0_t5 v27_r0 v29_r0 k0_hw16 k0_h8 k0_h9 => k0_hw16.2.2.2.2.2.2.2.2.2.2.1 k0_h8 k0_h9
theorem k0_off78_inb : ∀ (v1_2 : BitVec 32) (v1_1 : BitVec 32) (k0_t5 : Fin (k0_t5_loop v1_1).trips) (v27_r0 : BitVec 32) (v29_r0 : BitVec 32) (k0_hw16 : k0_chk16 v1_2 v1_1 k0_t5 v27_r0 v29_r0), ∀ (k0_h8 : k0_cond8 v29_r0 = 1#1), ∀ (k0_h9 : k0_cond9 v1_2 v29_r0 = 1#1), ∀ a, (k0_off78 v29_r0) a + S1x22x2048.size a ≤ S3x22x2048.size a := fun v1_2 v1_1 k0_t5 v27_r0 v29_r0 k0_hw16 k0_h8 k0_h9 => k0_hw16.2.2.2.2.2.2.2.2.2.2.2 k0_h8 k0_h9

def k0_off79 (v8667_r0 : BitVec 32) : Fin 3 → Nat :=
  let c0_i32_3361_r0 : BitVec 32 := 0#32
  let c0_i32_3362_r0 : BitVec 32 := 0#32
  ![v8667_r0.toNat, 0, 0]

def k0_chk18 (v1_2 : BitVec 32) (v29_r0 : BitVec 32) (v8667_r0 : BitVec 32) : Prop :=
  (∀ (k0_h8 : k0_cond8 v29_r0 = 1#1), ∀ (k0_h9 : k0_cond9 v1_2 v29_r0 = 1#1), ∀ a, (k0_off76 v8667_r0) a + S1x1408x2048.size a ≤ S64x1408x2048.size a) ∧
  (∀ (k0_h8 : k0_cond8 v29_r0 = 1#1), ∀ (k0_h9 : k0_cond9 v1_2 v29_r0 = 1#1), ∀ (hinb : ∀ a, (k0_off76 v8667_r0) a + S1x1408x2048.size a ≤ S64x1408x2048.size a), (Rect.unit (s := S64x1408x2048) (k0_off76 v8667_r0) S1x1408x2048.size hinb).WholeWords (EltTy.packing .i8)) ∧
  (∀ (k0_h8 : k0_cond8 v29_r0 = 1#1), ∀ (k0_h9 : k0_cond9 v1_2 v29_r0 = 1#1), ∀ a, (k0_off79 v8667_r0) a + S1x22x2048.size a ≤ S64x22x2048.size a)
theorem k0_off76_inb : ∀ (v1_2 : BitVec 32) (v29_r0 : BitVec 32) (v8667_r0 : BitVec 32) (k0_hw18 : k0_chk18 v1_2 v29_r0 v8667_r0), ∀ (k0_h8 : k0_cond8 v29_r0 = 1#1), ∀ (k0_h9 : k0_cond9 v1_2 v29_r0 = 1#1), ∀ a, (k0_off76 v8667_r0) a + S1x1408x2048.size a ≤ S64x1408x2048.size a := fun v1_2 v29_r0 v8667_r0 k0_hw18 k0_h8 k0_h9 => k0_hw18.1 k0_h8 k0_h9
theorem k0_off76_wordsi8 : ∀ (v1_2 : BitVec 32) (v29_r0 : BitVec 32) (v8667_r0 : BitVec 32) (k0_hw18 : k0_chk18 v1_2 v29_r0 v8667_r0), ∀ (k0_h8 : k0_cond8 v29_r0 = 1#1), ∀ (k0_h9 : k0_cond9 v1_2 v29_r0 = 1#1), (Rect.unit (s := S64x1408x2048) (k0_off76 v8667_r0) S1x1408x2048.size (k0_off76_inb v1_2 v29_r0 v8667_r0 k0_hw18 k0_h8 k0_h9)).WholeWords (EltTy.packing .i8) := fun v1_2 v29_r0 v8667_r0 k0_hw18 k0_h8 k0_h9 => k0_hw18.2.1 k0_h8 k0_h9 (k0_off76_inb v1_2 v29_r0 v8667_r0 k0_hw18 k0_h8 k0_h9)
theorem k0_off79_inb : ∀ (v1_2 : BitVec 32) (v29_r0 : BitVec 32) (v8667_r0 : BitVec 32) (k0_hw18 : k0_chk18 v1_2 v29_r0 v8667_r0), ∀ (k0_h8 : k0_cond8 v29_r0 = 1#1), ∀ (k0_h9 : k0_cond9 v1_2 v29_r0 = 1#1), ∀ a, (k0_off79 v8667_r0) a + S1x22x2048.size a ≤ S64x22x2048.size a := fun v1_2 v29_r0 v8667_r0 k0_hw18 k0_h8 k0_h9 => k0_hw18.2.2 k0_h8 k0_h9

def k0_off80 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let v33_r0 : Index := Scalar.indexCast arg22_r0
  ![v33_r0.toNat]
def k0_mult134 (v34_r0 : BitVec 32) : BitVec 32 :=
  v34_r0

def k0_off81 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c2_i32_29_r0 : BitVec 32 := 2#32
  let c0_i32_30_r0 : BitVec 32 := 0#32
  let v46_r0 : BitVec 1 := Scalar.cmpi .eq c2_i32_29_r0 c0_i32_30_r0
  let c1_i32_31_r0 : BitVec 32 := 1#32
  let v47_r0 : BitVec 32 := Scalar.select v46_r0 c1_i32_31_r0 c2_i32_29_r0
  let v48_r0 : BitVec 32 := Scalar.remsi arg22_r0 v47_r0
  let c0_i32_33_r0 : BitVec 32 := 0#32
  let v50_r0 : BitVec 1 := Scalar.cmpi .slt v48_r0 c0_i32_33_r0
  let c0_i32_34_r0 : BitVec 32 := 0#32
  let v51_r0 : BitVec 1 := Scalar.cmpi .slt v47_r0 c0_i32_34_r0
  let v52_r0 : BitVec 1 := Scalar.xori v50_r0 v51_r0
  let c0_i32_32_r0 : BitVec 32 := 0#32
  let v49_r0 : BitVec 1 := Scalar.cmpi .ne v48_r0 c0_i32_32_r0
  let v53_r0 : BitVec 1 := Scalar.andi v52_r0 v49_r0
  let v54_r0 : BitVec 32 := Scalar.addi v48_r0 v47_r0
  let v55_r0 : BitVec 32 := Scalar.select v53_r0 v54_r0 v48_r0
  ![v55_r0.toNat]
def k0_off82 (v1_1 : BitVec 32) (k0_t5 : Fin (k0_t5_loop v1_1).trips) : Fin 3 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let c2_i32_r0 : BitVec 32 := 2#32
  let c0_i32_24_r0 : BitVec 32 := 0#32
  let v36_r0 : BitVec 1 := Scalar.cmpi .eq c2_i32_r0 c0_i32_24_r0
  let c1_i32_25_r0 : BitVec 32 := 1#32
  let v37_r0 : BitVec 32 := Scalar.select v36_r0 c1_i32_25_r0 c2_i32_r0
  let v38_r0 : BitVec 32 := Scalar.remsi arg22_r0 v37_r0
  let c0_i32_27_r0 : BitVec 32 := 0#32
  let v40_r0 : BitVec 1 := Scalar.cmpi .slt v38_r0 c0_i32_27_r0
  let c0_i32_28_r0 : BitVec 32 := 0#32
  let v41_r0 : BitVec 1 := Scalar.cmpi .slt v37_r0 c0_i32_28_r0
  let v42_r0 : BitVec 1 := Scalar.xori v40_r0 v41_r0
  let c0_i32_26_r0 : BitVec 32 := 0#32
  let v39_r0 : BitVec 1 := Scalar.cmpi .ne v38_r0 c0_i32_26_r0
  let v43_r0 : BitVec 1 := Scalar.andi v42_r0 v39_r0
  let v44_r0 : BitVec 32 := Scalar.addi v38_r0 v37_r0
  let v45_r0 : BitVec 32 := Scalar.select v43_r0 v44_r0 v38_r0
  let c0_i32_35_r0 : BitVec 32 := 0#32
  let c0_i32_36_r0 : BitVec 32 := 0#32
  ![v45_r0.toNat, 0, 0]
def k0_off83 (v34_r0 : BitVec 32) : Fin 2 → Nat :=
  let v35_r0 : BitVec 32 := v34_r0
  let c0_i32_37_r0 : BitVec 32 := 0#32
  ![v35_r0.toNat, 0]

def k0_chk19 (v34_r0 : BitVec 32) : Prop :=
  (16 ∣ (k0_mult134 v34_r0).toNat) ∧
  (∀ a, (k0_off83 v34_r0) a + S128x2816.size a ≤ S6144x2816.size a) ∧
  (∀ (hinb : ∀ a, (k0_off83 v34_r0) a + S128x2816.size a ≤ S6144x2816.size a), (Rect.unit (s := S6144x2816) (k0_off83 v34_r0) S128x2816.size hinb).WholeWords (EltTy.packing .bf16))
theorem k0_mult134_dvd : ∀ (v34_r0 : BitVec 32) (k0_hw19 : k0_chk19 v34_r0), 16 ∣ (k0_mult134 v34_r0).toNat := fun v34_r0 k0_hw19 => k0_hw19.1
theorem k0_off83_inb : ∀ (v34_r0 : BitVec 32) (k0_hw19 : k0_chk19 v34_r0), ∀ a, (k0_off83 v34_r0) a + S128x2816.size a ≤ S6144x2816.size a := fun v34_r0 k0_hw19 => k0_hw19.2.1
theorem k0_off83_wordsbf16 : ∀ (v34_r0 : BitVec 32) (k0_hw19 : k0_chk19 v34_r0), (Rect.unit (s := S6144x2816) (k0_off83 v34_r0) S128x2816.size (k0_off83_inb v34_r0 k0_hw19)).WholeWords (EltTy.packing .bf16) := fun v34_r0 k0_hw19 => k0_hw19.2.2 (k0_off83_inb v34_r0 k0_hw19)

def k0_off84 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let v3351_r0 : Index := Scalar.indexCast arg22_r0
  ![v3351_r0.toNat]
def k0_mult135 (v3352_r0 : BitVec 32) : BitVec 32 :=
  v3352_r0

def k0_off85 (v1_1 : BitVec 32) (k0_t5 : Fin (k0_t5_loop v1_1).trips) : Fin 1 → Nat :=
  let c0_i32_15_r0 : BitVec 32 := 0#32
  let v15_r0 : BitVec 32 := Scalar.subi v1_1 c0_i32_15_r0
  let c1_i32_17_r0 : BitVec 32 := 1#32
  let v17_r0 : BitVec 32 := Scalar.divsi v15_r0 c1_i32_17_r0
  let v18_r0 : BitVec 32 := Scalar.muli v17_r0 c1_i32_17_r0
  let v19_r0 : BitVec 32 := Scalar.addi c0_i32_15_r0 v18_r0
  let c1_i32_19_r0 : BitVec 32 := 1#32
  let arg22_r0 : BitVec 32 := Scf.iv v19_r0 c1_i32_19_r0 k0_t5
  let v3354_r0 : Index := Scalar.indexCast arg22_r0
  ![v3354_r0.toNat]

def k0_chk7 (v1_1 : BitVec 32) : Prop :=
  ((k0_t4_loop v1_1).OK) ∧
  (∀ k0_t4 : Fin (k0_t4_loop v1_1).trips, ∀ (k0_h4 : k0_cond4 v1_1 k0_t4 = 1#1), ∀ a, (k0_off18 v1_1 k0_t4) a + S1.size a ≤ S128.size a) ∧
  (∀ k0_t4 : Fin (k0_t4_loop v1_1).trips, ∀ (k0_h4 : k0_cond4 v1_1 k0_t4 = 1#1), ∀ a, (k0_off19 v1_1 k0_t4) a + S1.size a ≤ S2.size a) ∧
  (∀ k0_t4 : Fin (k0_t4_loop v1_1).trips, ∀ (k0_h4 : k0_cond4 v1_1 k0_t4 = 1#1), ∀ a, (k0_off20 v1_1 k0_t4) a + S1x128x2816.size a ≤ S2x128x2816.size a) ∧
  (∀ k0_t4 : Fin (k0_t4_loop v1_1).trips, ∀ (k0_h4 : k0_cond4 v1_1 k0_t4 = 1#1), ∀ (hinb : ∀ a, (k0_off20 v1_1 k0_t4) a + S1x128x2816.size a ≤ S2x128x2816.size a), (Rect.unit (s := S2x128x2816) (k0_off20 v1_1 k0_t4) S1x128x2816.size hinb).WholeWords (EltTy.packing .bf16)) ∧
  (∀ k0_t4 : Fin (k0_t4_loop v1_1).trips, ∀ a, (k0_off22 v1_1 k0_t4) a + S1.size a ≤ S128.size a) ∧
  (∀ k0_t4 : Fin (k0_t4_loop v1_1).trips, ∀ a, (k0_off37 v1_1 k0_t4) a + S1.size a ≤ S128.size a) ∧
  (∀ k0_t4 : Fin (k0_t4_loop v1_1).trips, ∀ a, (k0_off38 v1_1 k0_t4) a + S1.size a ≤ S2.size a) ∧
  (∀ k0_t4 : Fin (k0_t4_loop v1_1).trips, ∀ a, (k0_off39 v1_1 k0_t4) a + S1x128x2816.size a ≤ S2x128x2816.size a) ∧
  (∀ k0_t4 : Fin (k0_t4_loop v1_1).trips, ∀ (hinb : ∀ a, (k0_off39 v1_1 k0_t4) a + S1x128x2816.size a ≤ S2x128x2816.size a), (Rect.unit (s := S2x128x2816) (k0_off39 v1_1 k0_t4) S1x128x2816.size hinb).WholeWords (EltTy.packing .bf16)) ∧
  (∀ k0_t4 : Fin (k0_t4_loop v1_1).trips, ∀ a, (k0_off41 v1_1 k0_t4) a + S1.size a ≤ S128.size a) ∧
  (∀ k0_t4 : Fin (k0_t4_loop v1_1).trips, ∀ a, (k0_off42 v1_1 k0_t4) a + S1.size a ≤ S128.size a) ∧
  ((k0_t5_loop v1_1).OK) ∧
  (∀ k0_t5 : Fin (k0_t5_loop v1_1).trips, ∀ (k0_h7 : k0_cond7 v1_1 k0_t5 = 1#1), ∀ a, (k0_off61 v1_1 k0_t5) a + S1.size a ≤ S128.size a) ∧
  (∀ k0_t5 : Fin (k0_t5_loop v1_1).trips, ∀ (k0_h7 : k0_cond7 v1_1 k0_t5 = 1#1), ∀ a, (k0_off62 v1_1 k0_t5) a + S1.size a ≤ S2.size a) ∧
  (∀ k0_t5 : Fin (k0_t5_loop v1_1).trips, ∀ (k0_h7 : k0_cond7 v1_1 k0_t5 = 1#1), ∀ a, (k0_off63 v1_1 k0_t5) a + S1x128x2816.size a ≤ S2x128x2816.size a) ∧
  (∀ k0_t5 : Fin (k0_t5_loop v1_1).trips, ∀ (k0_h7 : k0_cond7 v1_1 k0_t5 = 1#1), ∀ (hinb : ∀ a, (k0_off63 v1_1 k0_t5) a + S1x128x2816.size a ≤ S2x128x2816.size a), (Rect.unit (s := S2x128x2816) (k0_off63 v1_1 k0_t5) S1x128x2816.size hinb).WholeWords (EltTy.packing .bf16)) ∧
  (∀ k0_t5 : Fin (k0_t5_loop v1_1).trips, ∀ a, (k0_off65 v1_1 k0_t5) a + S1.size a ≤ S128.size a) ∧
  (∀ k0_t5 : Fin (k0_t5_loop v1_1).trips, ∀ a, (k0_off80 v1_1 k0_t5) a + S1.size a ≤ S128.size a) ∧
  (∀ k0_t5 : Fin (k0_t5_loop v1_1).trips, ∀ a, (k0_off81 v1_1 k0_t5) a + S1.size a ≤ S2.size a) ∧
  (∀ k0_t5 : Fin (k0_t5_loop v1_1).trips, ∀ a, (k0_off82 v1_1 k0_t5) a + S1x128x2816.size a ≤ S2x128x2816.size a) ∧
  (∀ k0_t5 : Fin (k0_t5_loop v1_1).trips, ∀ (hinb : ∀ a, (k0_off82 v1_1 k0_t5) a + S1x128x2816.size a ≤ S2x128x2816.size a), (Rect.unit (s := S2x128x2816) (k0_off82 v1_1 k0_t5) S1x128x2816.size hinb).WholeWords (EltTy.packing .bf16)) ∧
  (∀ k0_t5 : Fin (k0_t5_loop v1_1).trips, ∀ a, (k0_off84 v1_1 k0_t5) a + S1.size a ≤ S128.size a) ∧
  (∀ k0_t5 : Fin (k0_t5_loop v1_1).trips, ∀ a, (k0_off85 v1_1 k0_t5) a + S1.size a ≤ S128.size a)
theorem k0_t4_ok : ∀ (v1_1 : BitVec 32) (k0_hw7 : k0_chk7 v1_1), (k0_t4_loop v1_1).OK := fun v1_1 k0_hw7 => k0_hw7.1
theorem k0_off18_inb : ∀ (v1_1 : BitVec 32) (k0_hw7 : k0_chk7 v1_1) (k0_t4 : Fin (k0_t4_loop v1_1).trips), ∀ (k0_h4 : k0_cond4 v1_1 k0_t4 = 1#1), ∀ a, (k0_off18 v1_1 k0_t4) a + S1.size a ≤ S128.size a := fun v1_1 k0_hw7 k0_t4 k0_h4 => k0_hw7.2.1 k0_t4 k0_h4
theorem k0_off19_inb : ∀ (v1_1 : BitVec 32) (k0_hw7 : k0_chk7 v1_1) (k0_t4 : Fin (k0_t4_loop v1_1).trips), ∀ (k0_h4 : k0_cond4 v1_1 k0_t4 = 1#1), ∀ a, (k0_off19 v1_1 k0_t4) a + S1.size a ≤ S2.size a := fun v1_1 k0_hw7 k0_t4 k0_h4 => k0_hw7.2.2.1 k0_t4 k0_h4
theorem k0_off20_inb : ∀ (v1_1 : BitVec 32) (k0_hw7 : k0_chk7 v1_1) (k0_t4 : Fin (k0_t4_loop v1_1).trips), ∀ (k0_h4 : k0_cond4 v1_1 k0_t4 = 1#1), ∀ a, (k0_off20 v1_1 k0_t4) a + S1x128x2816.size a ≤ S2x128x2816.size a := fun v1_1 k0_hw7 k0_t4 k0_h4 => k0_hw7.2.2.2.1 k0_t4 k0_h4
theorem k0_off20_wordsbf16 : ∀ (v1_1 : BitVec 32) (k0_hw7 : k0_chk7 v1_1) (k0_t4 : Fin (k0_t4_loop v1_1).trips), ∀ (k0_h4 : k0_cond4 v1_1 k0_t4 = 1#1), (Rect.unit (s := S2x128x2816) (k0_off20 v1_1 k0_t4) S1x128x2816.size (k0_off20_inb v1_1 k0_hw7 k0_t4 k0_h4)).WholeWords (EltTy.packing .bf16) := fun v1_1 k0_hw7 k0_t4 k0_h4 => k0_hw7.2.2.2.2.1 k0_t4 k0_h4 (k0_off20_inb v1_1 k0_hw7 k0_t4 k0_h4)
theorem k0_off22_inb : ∀ (v1_1 : BitVec 32) (k0_hw7 : k0_chk7 v1_1) (k0_t4 : Fin (k0_t4_loop v1_1).trips), ∀ a, (k0_off22 v1_1 k0_t4) a + S1.size a ≤ S128.size a := fun v1_1 k0_hw7 k0_t4 => k0_hw7.2.2.2.2.2.1 k0_t4
theorem k0_off37_inb : ∀ (v1_1 : BitVec 32) (k0_hw7 : k0_chk7 v1_1) (k0_t4 : Fin (k0_t4_loop v1_1).trips), ∀ a, (k0_off37 v1_1 k0_t4) a + S1.size a ≤ S128.size a := fun v1_1 k0_hw7 k0_t4 => k0_hw7.2.2.2.2.2.2.1 k0_t4
theorem k0_off38_inb : ∀ (v1_1 : BitVec 32) (k0_hw7 : k0_chk7 v1_1) (k0_t4 : Fin (k0_t4_loop v1_1).trips), ∀ a, (k0_off38 v1_1 k0_t4) a + S1.size a ≤ S2.size a := fun v1_1 k0_hw7 k0_t4 => k0_hw7.2.2.2.2.2.2.2.1 k0_t4
theorem k0_off39_inb : ∀ (v1_1 : BitVec 32) (k0_hw7 : k0_chk7 v1_1) (k0_t4 : Fin (k0_t4_loop v1_1).trips), ∀ a, (k0_off39 v1_1 k0_t4) a + S1x128x2816.size a ≤ S2x128x2816.size a := fun v1_1 k0_hw7 k0_t4 => k0_hw7.2.2.2.2.2.2.2.2.1 k0_t4
theorem k0_off39_wordsbf16 : ∀ (v1_1 : BitVec 32) (k0_hw7 : k0_chk7 v1_1) (k0_t4 : Fin (k0_t4_loop v1_1).trips), (Rect.unit (s := S2x128x2816) (k0_off39 v1_1 k0_t4) S1x128x2816.size (k0_off39_inb v1_1 k0_hw7 k0_t4)).WholeWords (EltTy.packing .bf16) := fun v1_1 k0_hw7 k0_t4 => k0_hw7.2.2.2.2.2.2.2.2.2.1 k0_t4 (k0_off39_inb v1_1 k0_hw7 k0_t4)
theorem k0_off41_inb : ∀ (v1_1 : BitVec 32) (k0_hw7 : k0_chk7 v1_1) (k0_t4 : Fin (k0_t4_loop v1_1).trips), ∀ a, (k0_off41 v1_1 k0_t4) a + S1.size a ≤ S128.size a := fun v1_1 k0_hw7 k0_t4 => k0_hw7.2.2.2.2.2.2.2.2.2.2.1 k0_t4
theorem k0_off42_inb : ∀ (v1_1 : BitVec 32) (k0_hw7 : k0_chk7 v1_1) (k0_t4 : Fin (k0_t4_loop v1_1).trips), ∀ a, (k0_off42 v1_1 k0_t4) a + S1.size a ≤ S128.size a := fun v1_1 k0_hw7 k0_t4 => k0_hw7.2.2.2.2.2.2.2.2.2.2.2.1 k0_t4
theorem k0_t5_ok : ∀ (v1_1 : BitVec 32) (k0_hw7 : k0_chk7 v1_1), (k0_t5_loop v1_1).OK := fun v1_1 k0_hw7 => k0_hw7.2.2.2.2.2.2.2.2.2.2.2.2.1
theorem k0_off61_inb : ∀ (v1_1 : BitVec 32) (k0_hw7 : k0_chk7 v1_1) (k0_t5 : Fin (k0_t5_loop v1_1).trips), ∀ (k0_h7 : k0_cond7 v1_1 k0_t5 = 1#1), ∀ a, (k0_off61 v1_1 k0_t5) a + S1.size a ≤ S128.size a := fun v1_1 k0_hw7 k0_t5 k0_h7 => k0_hw7.2.2.2.2.2.2.2.2.2.2.2.2.2.1 k0_t5 k0_h7
theorem k0_off62_inb : ∀ (v1_1 : BitVec 32) (k0_hw7 : k0_chk7 v1_1) (k0_t5 : Fin (k0_t5_loop v1_1).trips), ∀ (k0_h7 : k0_cond7 v1_1 k0_t5 = 1#1), ∀ a, (k0_off62 v1_1 k0_t5) a + S1.size a ≤ S2.size a := fun v1_1 k0_hw7 k0_t5 k0_h7 => k0_hw7.2.2.2.2.2.2.2.2.2.2.2.2.2.2.1 k0_t5 k0_h7
theorem k0_off63_inb : ∀ (v1_1 : BitVec 32) (k0_hw7 : k0_chk7 v1_1) (k0_t5 : Fin (k0_t5_loop v1_1).trips), ∀ (k0_h7 : k0_cond7 v1_1 k0_t5 = 1#1), ∀ a, (k0_off63 v1_1 k0_t5) a + S1x128x2816.size a ≤ S2x128x2816.size a := fun v1_1 k0_hw7 k0_t5 k0_h7 => k0_hw7.2.2.2.2.2.2.2.2.2.2.2.2.2.2.2.1 k0_t5 k0_h7
theorem k0_off63_wordsbf16 : ∀ (v1_1 : BitVec 32) (k0_hw7 : k0_chk7 v1_1) (k0_t5 : Fin (k0_t5_loop v1_1).trips), ∀ (k0_h7 : k0_cond7 v1_1 k0_t5 = 1#1), (Rect.unit (s := S2x128x2816) (k0_off63 v1_1 k0_t5) S1x128x2816.size (k0_off63_inb v1_1 k0_hw7 k0_t5 k0_h7)).WholeWords (EltTy.packing .bf16) := fun v1_1 k0_hw7 k0_t5 k0_h7 => k0_hw7.2.2.2.2.2.2.2.2.2.2.2.2.2.2.2.2.1 k0_t5 k0_h7 (k0_off63_inb v1_1 k0_hw7 k0_t5 k0_h7)
theorem k0_off65_inb : ∀ (v1_1 : BitVec 32) (k0_hw7 : k0_chk7 v1_1) (k0_t5 : Fin (k0_t5_loop v1_1).trips), ∀ a, (k0_off65 v1_1 k0_t5) a + S1.size a ≤ S128.size a := fun v1_1 k0_hw7 k0_t5 => k0_hw7.2.2.2.2.2.2.2.2.2.2.2.2.2.2.2.2.2.1 k0_t5
theorem k0_off80_inb : ∀ (v1_1 : BitVec 32) (k0_hw7 : k0_chk7 v1_1) (k0_t5 : Fin (k0_t5_loop v1_1).trips), ∀ a, (k0_off80 v1_1 k0_t5) a + S1.size a ≤ S128.size a := fun v1_1 k0_hw7 k0_t5 => k0_hw7.2.2.2.2.2.2.2.2.2.2.2.2.2.2.2.2.2.2.1 k0_t5
theorem k0_off81_inb : ∀ (v1_1 : BitVec 32) (k0_hw7 : k0_chk7 v1_1) (k0_t5 : Fin (k0_t5_loop v1_1).trips), ∀ a, (k0_off81 v1_1 k0_t5) a + S1.size a ≤ S2.size a := fun v1_1 k0_hw7 k0_t5 => k0_hw7.2.2.2.2.2.2.2.2.2.2.2.2.2.2.2.2.2.2.2.1 k0_t5
theorem k0_off82_inb : ∀ (v1_1 : BitVec 32) (k0_hw7 : k0_chk7 v1_1) (k0_t5 : Fin (k0_t5_loop v1_1).trips), ∀ a, (k0_off82 v1_1 k0_t5) a + S1x128x2816.size a ≤ S2x128x2816.size a := fun v1_1 k0_hw7 k0_t5 => k0_hw7.2.2.2.2.2.2.2.2.2.2.2.2.2.2.2.2.2.2.2.2.1 k0_t5
theorem k0_off82_wordsbf16 : ∀ (v1_1 : BitVec 32) (k0_hw7 : k0_chk7 v1_1) (k0_t5 : Fin (k0_t5_loop v1_1).trips), (Rect.unit (s := S2x128x2816) (k0_off82 v1_1 k0_t5) S1x128x2816.size (k0_off82_inb v1_1 k0_hw7 k0_t5)).WholeWords (EltTy.packing .bf16) := fun v1_1 k0_hw7 k0_t5 => k0_hw7.2.2.2.2.2.2.2.2.2.2.2.2.2.2.2.2.2.2.2.2.2.1 k0_t5 (k0_off82_inb v1_1 k0_hw7 k0_t5)
theorem k0_off84_inb : ∀ (v1_1 : BitVec 32) (k0_hw7 : k0_chk7 v1_1) (k0_t5 : Fin (k0_t5_loop v1_1).trips), ∀ a, (k0_off84 v1_1 k0_t5) a + S1.size a ≤ S128.size a := fun v1_1 k0_hw7 k0_t5 => k0_hw7.2.2.2.2.2.2.2.2.2.2.2.2.2.2.2.2.2.2.2.2.2.2.1 k0_t5
theorem k0_off85_inb : ∀ (v1_1 : BitVec 32) (k0_hw7 : k0_chk7 v1_1) (k0_t5 : Fin (k0_t5_loop v1_1).trips), ∀ a, (k0_off85 v1_1 k0_t5) a + S1.size a ≤ S128.size a := fun v1_1 k0_hw7 k0_t5 => k0_hw7.2.2.2.2.2.2.2.2.2.2.2.2.2.2.2.2.2.2.2.2.2.2.2 k0_t5

def k0_off86 (v27_r0 : BitVec 32) : Fin 3 → Nat :=
  let c0_i32_1031_r0 : BitVec 32 := 0#32
  let c0_i32_1032_r0 : BitVec 32 := 0#32
  ![v27_r0.toNat, 0, 0]

def k0_off87 (v27_r0 : BitVec 32) : Fin 3 → Nat :=
  let c0_i32_1038_r0 : BitVec 32 := 0#32
  let c0_i32_1039_r0 : BitVec 32 := 0#32
  ![v27_r0.toNat, 0, 0]

def k0_chk21 (v27_r0 : BitVec 32) : Prop :=
  (∀ a, (k0_off86 v27_r0) a + S1x1408x2048.size a ≤ S3x1408x2048.size a) ∧
  (∀ a, (k0_off87 v27_r0) a + S1x22x2048.size a ≤ S3x22x2048.size a)
theorem k0_off86_inb : ∀ (v27_r0 : BitVec 32) (k0_hw21 : k0_chk21 v27_r0), ∀ a, (k0_off86 v27_r0) a + S1x1408x2048.size a ≤ S3x1408x2048.size a := fun v27_r0 k0_hw21 => k0_hw21.1
theorem k0_off87_inb : ∀ (v27_r0 : BitVec 32) (k0_hw21 : k0_chk21 v27_r0), ∀ a, (k0_off87 v27_r0) a + S1x22x2048.size a ≤ S3x22x2048.size a := fun v27_r0 k0_hw21 => k0_hw21.2

def k0_mult136 (v3352_r0 : BitVec 32) : BitVec 32 :=
  let v3353_r0 : BitVec 32 := v3352_r0
  let c0_i32_1453_r0 : BitVec 32 := 0#32
  let v4142_r0 : BitVec 32 := Scalar.addi v3353_r0 c0_i32_1453_r0
  v4142_r0
def k0_off88 (v3352_r0 : BitVec 32) (c0_i32_1453_r0 : BitVec 32) : Fin 2 → Nat :=
  let v3353_r0 : BitVec 32 := v3352_r0
  let v4142_r0 : BitVec 32 := Scalar.addi v3353_r0 c0_i32_1453_r0
  let v4143_r0 : BitVec 32 := v4142_r0
  let v4144_r0 : Index := Scalar.indexCast v4143_r0
  let c0_1454_r0 : Index := 0#32
  ![v4144_r0.toNat, 0]
def k0_mult137 (v3352_r0 : BitVec 32) : BitVec 32 :=
  let v3353_r0 : BitVec 32 := v3352_r0
  let c0_i32_1456_r0 : BitVec 32 := 0#32
  let v4154_r0 : BitVec 32 := Scalar.addi v3353_r0 c0_i32_1456_r0
  v4154_r0
def k0_off89 (v3352_r0 : BitVec 32) (c0_i32_1456_r0 : BitVec 32) : Fin 2 → Nat :=
  let v3353_r0 : BitVec 32 := v3352_r0
  let v4154_r0 : BitVec 32 := Scalar.addi v3353_r0 c0_i32_1456_r0
  let v4155_r0 : BitVec 32 := v4154_r0
  let v4156_r0 : Index := Scalar.indexCast v4155_r0
  let c128_1457_r0 : Index := 128#32
  ![v4156_r0.toNat, 128]
def k0_mult138 (v3352_r0 : BitVec 32) : BitVec 32 :=
  let v3353_r0 : BitVec 32 := v3352_r0
  let c16_i32_1462_r0 : BitVec 32 := 16#32
  let v4176_r0 : BitVec 32 := Scalar.addi v3353_r0 c16_i32_1462_r0
  v4176_r0
def k0_mult139 (v3352_r0 : BitVec 32) : BitVec 32 :=
  let v3353_r0 : BitVec 32 := v3352_r0
  let c16_i32_1465_r0 : BitVec 32 := 16#32
  let v4188_r0 : BitVec 32 := Scalar.addi v3353_r0 c16_i32_1465_r0
  v4188_r0
def k0_mult140 (v3352_r0 : BitVec 32) : BitVec 32 :=
  let v3353_r0 : BitVec 32 := v3352_r0
  let c0_i32_1471_r0 : BitVec 32 := 0#32
  let v4211_r0 : BitVec 32 := Scalar.addi v3353_r0 c0_i32_1471_r0
  v4211_r0
def k0_off90 (v3352_r0 : BitVec 32) (c0_i32_1471_r0 : BitVec 32) : Fin 2 → Nat :=
  let v3353_r0 : BitVec 32 := v3352_r0
  let v4211_r0 : BitVec 32 := Scalar.addi v3353_r0 c0_i32_1471_r0
  let v4212_r0 : BitVec 32 := v4211_r0
  let v4213_r0 : Index := Scalar.indexCast v4212_r0
  let c256_1472_r0 : Index := 256#32
  ![v4213_r0.toNat, 256]
def k0_mult141 (v3352_r0 : BitVec 32) : BitVec 32 :=
  let v3353_r0 : BitVec 32 := v3352_r0
  let c0_i32_1474_r0 : BitVec 32 := 0#32
  let v4223_r0 : BitVec 32 := Scalar.addi v3353_r0 c0_i32_1474_r0
  v4223_r0
def k0_off91 (v3352_r0 : BitVec 32) (c0_i32_1474_r0 : BitVec 32) : Fin 2 → Nat :=
  let v3353_r0 : BitVec 32 := v3352_r0
  let v4223_r0 : BitVec 32 := Scalar.addi v3353_r0 c0_i32_1474_r0
  let v4224_r0 : BitVec 32 := v4223_r0
  let v4225_r0 : Index := Scalar.indexCast v4224_r0
  let c384_1475_r0 : Index := 384#32
  ![v4225_r0.toNat, 384]
def k0_mult142 (v3352_r0 : BitVec 32) : BitVec 32 :=
  let v3353_r0 : BitVec 32 := v3352_r0
  let c16_i32_1480_r0 : BitVec 32 := 16#32
  let v4245_r0 : BitVec 32 := Scalar.addi v3353_r0 c16_i32_1480_r0
  v4245_r0
def k0_mult143 (v3352_r0 : BitVec 32) : BitVec 32 :=
  let v3353_r0 : BitVec 32 := v3352_r0
  let c16_i32_1483_r0 : BitVec 32 := 16#32
  let v4257_r0 : BitVec 32 := Scalar.addi v3353_r0 c16_i32_1483_r0
  v4257_r0
def k0_mult144 (v3352_r0 : BitVec 32) : BitVec 32 :=
  let v3353_r0 : BitVec 32 := v3352_r0
  let c32_i32_1489_r0 : BitVec 32 := 32#32
  let v4280_r0 : BitVec 32 := Scalar.addi v3353_r0 c32_i32_1489_r0
  v4280_r0
def k0_mult145 (v3352_r0 : BitVec 32) : BitVec 32 :=
  let v3353_r0 : BitVec 32 := v3352_r0
  let c32_i32_1492_r0 : BitVec 32 := 32#32
  let v4292_r0 : BitVec 32 := Scalar.addi v3353_r0 c32_i32_1492_r0
  v4292_r0
def k0_mult146 (v3352_r0 : BitVec 32) : BitVec 32 :=
  let v3353_r0 : BitVec 32 := v3352_r0
  let c48_i32_1497_r0 : BitVec 32 := 48#32
  let v4314_r0 : BitVec 32 := Scalar.addi v3353_r0 c48_i32_1497_r0
  v4314_r0
def k0_mult147 (v3352_r0 : BitVec 32) : BitVec 32 :=
  let v3353_r0 : BitVec 32 := v3352_r0
  let c48_i32_1500_r0 : BitVec 32 := 48#32
  let v4326_r0 : BitVec 32 := Scalar.addi v3353_r0 c48_i32_1500_r0
  v4326_r0
def k0_mult148 (v3352_r0 : BitVec 32) : BitVec 32 :=
  let v3353_r0 : BitVec 32 := v3352_r0
  let c32_i32_1506_r0 : BitVec 32 := 32#32
  let v4349_r0 : BitVec 32 := Scalar.addi v3353_r0 c32_i32_1506_r0
  v4349_r0
def k0_mult149 (v3352_r0 : BitVec 32) : BitVec 32 :=
  let v3353_r0 : BitVec 32 := v3352_r0
  let c32_i32_1509_r0 : BitVec 32 := 32#32
  let v4361_r0 : BitVec 32 := Scalar.addi v3353_r0 c32_i32_1509_r0
  v4361_r0
def k0_mult150 (v3352_r0 : BitVec 32) : BitVec 32 :=
  let v3353_r0 : BitVec 32 := v3352_r0
  let c48_i32_1515_r0 : BitVec 32 := 48#32
  let v4383_r0 : BitVec 32 := Scalar.addi v3353_r0 c48_i32_1515_r0
  v4383_r0
def k0_mult151 (v3352_r0 : BitVec 32) : BitVec 32 :=
  let v3353_r0 : BitVec 32 := v3352_r0
  let c48_i32_1518_r0 : BitVec 32 := 48#32
  let v4395_r0 : BitVec 32 := Scalar.addi v3353_r0 c48_i32_1518_r0
  v4395_r0
def k0_mult152 (v3352_r0 : BitVec 32) : BitVec 32 :=
  let v3353_r0 : BitVec 32 := v3352_r0
  let c64_i32_1524_r0 : BitVec 32 := 64#32
  let v4418_r0 : BitVec 32 := Scalar.addi v3353_r0 c64_i32_1524_r0
  v4418_r0
def k0_mult153 (v3352_r0 : BitVec 32) : BitVec 32 :=
  let v3353_r0 : BitVec 32 := v3352_r0
  let c64_i32_1527_r0 : BitVec 32 := 64#32
  let v4430_r0 : BitVec 32 := Scalar.addi v3353_r0 c64_i32_1527_r0
  v4430_r0
def k0_mult154 (v3352_r0 : BitVec 32) : BitVec 32 :=
  let v3353_r0 : BitVec 32 := v3352_r0
  let c80_i32_1532_r0 : BitVec 32 := 80#32
  let v4452_r0 : BitVec 32 := Scalar.addi v3353_r0 c80_i32_1532_r0
  v4452_r0
def k0_mult155 (v3352_r0 : BitVec 32) : BitVec 32 :=
  let v3353_r0 : BitVec 32 := v3352_r0
  let c80_i32_1535_r0 : BitVec 32 := 80#32
  let v4464_r0 : BitVec 32 := Scalar.addi v3353_r0 c80_i32_1535_r0
  v4464_r0
def k0_mult156 (v3352_r0 : BitVec 32) : BitVec 32 :=
  let v3353_r0 : BitVec 32 := v3352_r0
  let c64_i32_1541_r0 : BitVec 32 := 64#32
  let v4487_r0 : BitVec 32 := Scalar.addi v3353_r0 c64_i32_1541_r0
  v4487_r0
def k0_mult157 (v3352_r0 : BitVec 32) : BitVec 32 :=
  let v3353_r0 : BitVec 32 := v3352_r0
  let c64_i32_1544_r0 : BitVec 32 := 64#32
  let v4499_r0 : BitVec 32 := Scalar.addi v3353_r0 c64_i32_1544_r0
  v4499_r0
def k0_mult158 (v3352_r0 : BitVec 32) : BitVec 32 :=
  let v3353_r0 : BitVec 32 := v3352_r0
  let c80_i32_1550_r0 : BitVec 32 := 80#32
  let v4521_r0 : BitVec 32 := Scalar.addi v3353_r0 c80_i32_1550_r0
  v4521_r0
def k0_mult159 (v3352_r0 : BitVec 32) : BitVec 32 :=
  let v3353_r0 : BitVec 32 := v3352_r0
  let c80_i32_1553_r0 : BitVec 32 := 80#32
  let v4533_r0 : BitVec 32 := Scalar.addi v3353_r0 c80_i32_1553_r0
  v4533_r0
def k0_mult160 (v3352_r0 : BitVec 32) : BitVec 32 :=
  let v3353_r0 : BitVec 32 := v3352_r0
  let c96_i32_1558_r0 : BitVec 32 := 96#32
  let v4556_r0 : BitVec 32 := Scalar.addi v3353_r0 c96_i32_1558_r0
  v4556_r0
def k0_mult161 (v3352_r0 : BitVec 32) : BitVec 32 :=
  let v3353_r0 : BitVec 32 := v3352_r0
  let c96_i32_1561_r0 : BitVec 32 := 96#32
  let v4568_r0 : BitVec 32 := Scalar.addi v3353_r0 c96_i32_1561_r0
  v4568_r0
def k0_mult162 (v3352_r0 : BitVec 32) : BitVec 32 :=
  let v3353_r0 : BitVec 32 := v3352_r0
  let c112_i32_1566_r0 : BitVec 32 := 112#32
  let v4590_r0 : BitVec 32 := Scalar.addi v3353_r0 c112_i32_1566_r0
  v4590_r0
def k0_mult163 (v3352_r0 : BitVec 32) : BitVec 32 :=
  let v3353_r0 : BitVec 32 := v3352_r0
  let c112_i32_1569_r0 : BitVec 32 := 112#32
  let v4602_r0 : BitVec 32 := Scalar.addi v3353_r0 c112_i32_1569_r0
  v4602_r0
def k0_mult164 (v3352_r0 : BitVec 32) : BitVec 32 :=
  let v3353_r0 : BitVec 32 := v3352_r0
  let c96_i32_1575_r0 : BitVec 32 := 96#32
  let v4625_r0 : BitVec 32 := Scalar.addi v3353_r0 c96_i32_1575_r0
  v4625_r0
def k0_mult165 (v3352_r0 : BitVec 32) : BitVec 32 :=
  let v3353_r0 : BitVec 32 := v3352_r0
  let c96_i32_1578_r0 : BitVec 32 := 96#32
  let v4637_r0 : BitVec 32 := Scalar.addi v3353_r0 c96_i32_1578_r0
  v4637_r0
def k0_mult166 (v3352_r0 : BitVec 32) : BitVec 32 :=
  let v3353_r0 : BitVec 32 := v3352_r0
  let c112_i32_1584_r0 : BitVec 32 := 112#32
  let v4659_r0 : BitVec 32 := Scalar.addi v3353_r0 c112_i32_1584_r0
  v4659_r0
def k0_mult167 (v3352_r0 : BitVec 32) : BitVec 32 :=
  let v3353_r0 : BitVec 32 := v3352_r0
  let c112_i32_1587_r0 : BitVec 32 := 112#32
  let v4671_r0 : BitVec 32 := Scalar.addi v3353_r0 c112_i32_1587_r0
  v4671_r0
def k0_mult168 (v3352_r0 : BitVec 32) : BitVec 32 :=
  let v3353_r0 : BitVec 32 := v3352_r0
  let c0_i32_2033_r0 : BitVec 32 := 0#32
  let v5464_r0 : BitVec 32 := Scalar.addi v3353_r0 c0_i32_2033_r0
  v5464_r0
def k0_off92 (v3352_r0 : BitVec 32) (c0_i32_2033_r0 : BitVec 32) : Fin 2 → Nat :=
  let v3353_r0 : BitVec 32 := v3352_r0
  let v5464_r0 : BitVec 32 := Scalar.addi v3353_r0 c0_i32_2033_r0
  let v5465_r0 : BitVec 32 := v5464_r0
  let v5466_r0 : Index := Scalar.indexCast v5465_r0
  let c512_2034_r0 : Index := 512#32
  ![v5466_r0.toNat, 512]
def k0_mult169 (v3352_r0 : BitVec 32) : BitVec 32 :=
  let v3353_r0 : BitVec 32 := v3352_r0
  let c0_i32_2036_r0 : BitVec 32 := 0#32
  let v5476_r0 : BitVec 32 := Scalar.addi v3353_r0 c0_i32_2036_r0
  v5476_r0
def k0_off93 (v3352_r0 : BitVec 32) (c0_i32_2036_r0 : BitVec 32) : Fin 2 → Nat :=
  let v3353_r0 : BitVec 32 := v3352_r0
  let v5476_r0 : BitVec 32 := Scalar.addi v3353_r0 c0_i32_2036_r0
  let v5477_r0 : BitVec 32 := v5476_r0
  let v5478_r0 : Index := Scalar.indexCast v5477_r0
  let c640_2037_r0 : Index := 640#32
  ![v5478_r0.toNat, 640]
def k0_mult170 (v3352_r0 : BitVec 32) : BitVec 32 :=
  let v3353_r0 : BitVec 32 := v3352_r0
  let c16_i32_2042_r0 : BitVec 32 := 16#32
  let v5498_r0 : BitVec 32 := Scalar.addi v3353_r0 c16_i32_2042_r0
  v5498_r0
def k0_mult171 (v3352_r0 : BitVec 32) : BitVec 32 :=
  let v3353_r0 : BitVec 32 := v3352_r0
  let c16_i32_2045_r0 : BitVec 32 := 16#32
  let v5510_r0 : BitVec 32 := Scalar.addi v3353_r0 c16_i32_2045_r0
  v5510_r0
def k0_mult172 (v3352_r0 : BitVec 32) : BitVec 32 :=
  let v3353_r0 : BitVec 32 := v3352_r0
  let c0_i32_2051_r0 : BitVec 32 := 0#32
  let v5533_r0 : BitVec 32 := Scalar.addi v3353_r0 c0_i32_2051_r0
  v5533_r0
def k0_off94 (v3352_r0 : BitVec 32) (c0_i32_2051_r0 : BitVec 32) : Fin 2 → Nat :=
  let v3353_r0 : BitVec 32 := v3352_r0
  let v5533_r0 : BitVec 32 := Scalar.addi v3353_r0 c0_i32_2051_r0
  let v5534_r0 : BitVec 32 := v5533_r0
  let v5535_r0 : Index := Scalar.indexCast v5534_r0
  let c768_2052_r0 : Index := 768#32
  ![v5535_r0.toNat, 768]
def k0_mult173 (v3352_r0 : BitVec 32) : BitVec 32 :=
  let v3353_r0 : BitVec 32 := v3352_r0
  let c0_i32_2054_r0 : BitVec 32 := 0#32
  let v5545_r0 : BitVec 32 := Scalar.addi v3353_r0 c0_i32_2054_r0
  v5545_r0
def k0_off95 (v3352_r0 : BitVec 32) (c0_i32_2054_r0 : BitVec 32) : Fin 2 → Nat :=
  let v3353_r0 : BitVec 32 := v3352_r0
  let v5545_r0 : BitVec 32 := Scalar.addi v3353_r0 c0_i32_2054_r0
  let v5546_r0 : BitVec 32 := v5545_r0
  let v5547_r0 : Index := Scalar.indexCast v5546_r0
  let c896_2055_r0 : Index := 896#32
  ![v5547_r0.toNat, 896]
def k0_mult174 (v3352_r0 : BitVec 32) : BitVec 32 :=
  let v3353_r0 : BitVec 32 := v3352_r0
  let c16_i32_2060_r0 : BitVec 32 := 16#32
  let v5567_r0 : BitVec 32 := Scalar.addi v3353_r0 c16_i32_2060_r0
  v5567_r0
def k0_mult175 (v3352_r0 : BitVec 32) : BitVec 32 :=
  let v3353_r0 : BitVec 32 := v3352_r0
  let c16_i32_2063_r0 : BitVec 32 := 16#32
  let v5579_r0 : BitVec 32 := Scalar.addi v3353_r0 c16_i32_2063_r0
  v5579_r0
def k0_mult176 (v3352_r0 : BitVec 32) : BitVec 32 :=
  let v3353_r0 : BitVec 32 := v3352_r0
  let c32_i32_2069_r0 : BitVec 32 := 32#32
  let v5602_r0 : BitVec 32 := Scalar.addi v3353_r0 c32_i32_2069_r0
  v5602_r0
def k0_mult177 (v3352_r0 : BitVec 32) : BitVec 32 :=
  let v3353_r0 : BitVec 32 := v3352_r0
  let c32_i32_2072_r0 : BitVec 32 := 32#32
  let v5614_r0 : BitVec 32 := Scalar.addi v3353_r0 c32_i32_2072_r0
  v5614_r0
def k0_mult178 (v3352_r0 : BitVec 32) : BitVec 32 :=
  let v3353_r0 : BitVec 32 := v3352_r0
  let c48_i32_2078_r0 : BitVec 32 := 48#32
  let v5636_r0 : BitVec 32 := Scalar.addi v3353_r0 c48_i32_2078_r0
  v5636_r0
def k0_mult179 (v3352_r0 : BitVec 32) : BitVec 32 :=
  let v3353_r0 : BitVec 32 := v3352_r0
  let c48_i32_2081_r0 : BitVec 32 := 48#32
  let v5648_r0 : BitVec 32 := Scalar.addi v3353_r0 c48_i32_2081_r0
  v5648_r0
def k0_mult180 (v3352_r0 : BitVec 32) : BitVec 32 :=
  let v3353_r0 : BitVec 32 := v3352_r0
  let c32_i32_2087_r0 : BitVec 32 := 32#32
  let v5671_r0 : BitVec 32 := Scalar.addi v3353_r0 c32_i32_2087_r0
  v5671_r0
def k0_mult181 (v3352_r0 : BitVec 32) : BitVec 32 :=
  let v3353_r0 : BitVec 32 := v3352_r0
  let c32_i32_2090_r0 : BitVec 32 := 32#32
  let v5683_r0 : BitVec 32 := Scalar.addi v3353_r0 c32_i32_2090_r0
  v5683_r0
def k0_mult182 (v3352_r0 : BitVec 32) : BitVec 32 :=
  let v3353_r0 : BitVec 32 := v3352_r0
  let c48_i32_2096_r0 : BitVec 32 := 48#32
  let v5705_r0 : BitVec 32 := Scalar.addi v3353_r0 c48_i32_2096_r0
  v5705_r0
def k0_mult183 (v3352_r0 : BitVec 32) : BitVec 32 :=
  let v3353_r0 : BitVec 32 := v3352_r0
  let c48_i32_2099_r0 : BitVec 32 := 48#32
  let v5717_r0 : BitVec 32 := Scalar.addi v3353_r0 c48_i32_2099_r0
  v5717_r0
def k0_mult184 (v3352_r0 : BitVec 32) : BitVec 32 :=
  let v3353_r0 : BitVec 32 := v3352_r0
  let c64_i32_2105_r0 : BitVec 32 := 64#32
  let v5740_r0 : BitVec 32 := Scalar.addi v3353_r0 c64_i32_2105_r0
  v5740_r0
def k0_mult185 (v3352_r0 : BitVec 32) : BitVec 32 :=
  let v3353_r0 : BitVec 32 := v3352_r0
  let c64_i32_2108_r0 : BitVec 32 := 64#32
  let v5752_r0 : BitVec 32 := Scalar.addi v3353_r0 c64_i32_2108_r0
  v5752_r0
def k0_mult186 (v3352_r0 : BitVec 32) : BitVec 32 :=
  let v3353_r0 : BitVec 32 := v3352_r0
  let c80_i32_2114_r0 : BitVec 32 := 80#32
  let v5774_r0 : BitVec 32 := Scalar.addi v3353_r0 c80_i32_2114_r0
  v5774_r0
def k0_mult187 (v3352_r0 : BitVec 32) : BitVec 32 :=
  let v3353_r0 : BitVec 32 := v3352_r0
  let c80_i32_2117_r0 : BitVec 32 := 80#32
  let v5786_r0 : BitVec 32 := Scalar.addi v3353_r0 c80_i32_2117_r0
  v5786_r0
def k0_mult188 (v3352_r0 : BitVec 32) : BitVec 32 :=
  let v3353_r0 : BitVec 32 := v3352_r0
  let c64_i32_2123_r0 : BitVec 32 := 64#32
  let v5809_r0 : BitVec 32 := Scalar.addi v3353_r0 c64_i32_2123_r0
  v5809_r0
def k0_mult189 (v3352_r0 : BitVec 32) : BitVec 32 :=
  let v3353_r0 : BitVec 32 := v3352_r0
  let c64_i32_2126_r0 : BitVec 32 := 64#32
  let v5821_r0 : BitVec 32 := Scalar.addi v3353_r0 c64_i32_2126_r0
  v5821_r0
def k0_mult190 (v3352_r0 : BitVec 32) : BitVec 32 :=
  let v3353_r0 : BitVec 32 := v3352_r0
  let c80_i32_2132_r0 : BitVec 32 := 80#32
  let v5843_r0 : BitVec 32 := Scalar.addi v3353_r0 c80_i32_2132_r0
  v5843_r0
def k0_mult191 (v3352_r0 : BitVec 32) : BitVec 32 :=
  let v3353_r0 : BitVec 32 := v3352_r0
  let c80_i32_2135_r0 : BitVec 32 := 80#32
  let v5855_r0 : BitVec 32 := Scalar.addi v3353_r0 c80_i32_2135_r0
  v5855_r0
def k0_mult192 (v3352_r0 : BitVec 32) : BitVec 32 :=
  let v3353_r0 : BitVec 32 := v3352_r0
  let c96_i32_2141_r0 : BitVec 32 := 96#32
  let v5878_r0 : BitVec 32 := Scalar.addi v3353_r0 c96_i32_2141_r0
  v5878_r0
def k0_mult193 (v3352_r0 : BitVec 32) : BitVec 32 :=
  let v3353_r0 : BitVec 32 := v3352_r0
  let c96_i32_2144_r0 : BitVec 32 := 96#32
  let v5890_r0 : BitVec 32 := Scalar.addi v3353_r0 c96_i32_2144_r0
  v5890_r0
def k0_mult194 (v3352_r0 : BitVec 32) : BitVec 32 :=
  let v3353_r0 : BitVec 32 := v3352_r0
  let c112_i32_2150_r0 : BitVec 32 := 112#32
  let v5912_r0 : BitVec 32 := Scalar.addi v3353_r0 c112_i32_2150_r0
  v5912_r0
def k0_mult195 (v3352_r0 : BitVec 32) : BitVec 32 :=
  let v3353_r0 : BitVec 32 := v3352_r0
  let c112_i32_2153_r0 : BitVec 32 := 112#32
  let v5924_r0 : BitVec 32 := Scalar.addi v3353_r0 c112_i32_2153_r0
  v5924_r0
def k0_mult196 (v3352_r0 : BitVec 32) : BitVec 32 :=
  let v3353_r0 : BitVec 32 := v3352_r0
  let c96_i32_2159_r0 : BitVec 32 := 96#32
  let v5947_r0 : BitVec 32 := Scalar.addi v3353_r0 c96_i32_2159_r0
  v5947_r0
def k0_mult197 (v3352_r0 : BitVec 32) : BitVec 32 :=
  let v3353_r0 : BitVec 32 := v3352_r0
  let c96_i32_2162_r0 : BitVec 32 := 96#32
  let v5959_r0 : BitVec 32 := Scalar.addi v3353_r0 c96_i32_2162_r0
  v5959_r0
def k0_mult198 (v3352_r0 : BitVec 32) : BitVec 32 :=
  let v3353_r0 : BitVec 32 := v3352_r0
  let c112_i32_2168_r0 : BitVec 32 := 112#32
  let v5981_r0 : BitVec 32 := Scalar.addi v3353_r0 c112_i32_2168_r0
  v5981_r0
def k0_mult199 (v3352_r0 : BitVec 32) : BitVec 32 :=
  let v3353_r0 : BitVec 32 := v3352_r0
  let c112_i32_2171_r0 : BitVec 32 := 112#32
  let v5993_r0 : BitVec 32 := Scalar.addi v3353_r0 c112_i32_2171_r0
  v5993_r0
def k0_mult200 (v3352_r0 : BitVec 32) : BitVec 32 :=
  let v3353_r0 : BitVec 32 := v3352_r0
  let c0_i32_2617_r0 : BitVec 32 := 0#32
  let v6786_r0 : BitVec 32 := Scalar.addi v3353_r0 c0_i32_2617_r0
  v6786_r0
def k0_off96 (v3352_r0 : BitVec 32) (c0_i32_2617_r0 : BitVec 32) : Fin 2 → Nat :=
  let v3353_r0 : BitVec 32 := v3352_r0
  let v6786_r0 : BitVec 32 := Scalar.addi v3353_r0 c0_i32_2617_r0
  let v6787_r0 : BitVec 32 := v6786_r0
  let v6788_r0 : Index := Scalar.indexCast v6787_r0
  let c1024_2618_r0 : Index := 1024#32
  ![v6788_r0.toNat, 1024]
def k0_mult201 (v3352_r0 : BitVec 32) : BitVec 32 :=
  let v3353_r0 : BitVec 32 := v3352_r0
  let c0_i32_2620_r0 : BitVec 32 := 0#32
  let v6798_r0 : BitVec 32 := Scalar.addi v3353_r0 c0_i32_2620_r0
  v6798_r0
def k0_off97 (v3352_r0 : BitVec 32) (c0_i32_2620_r0 : BitVec 32) : Fin 2 → Nat :=
  let v3353_r0 : BitVec 32 := v3352_r0
  let v6798_r0 : BitVec 32 := Scalar.addi v3353_r0 c0_i32_2620_r0
  let v6799_r0 : BitVec 32 := v6798_r0
  let v6800_r0 : Index := Scalar.indexCast v6799_r0
  let c1152_2621_r0 : Index := 1152#32
  ![v6800_r0.toNat, 1152]
def k0_mult202 (v3352_r0 : BitVec 32) : BitVec 32 :=
  let v3353_r0 : BitVec 32 := v3352_r0
  let c16_i32_2626_r0 : BitVec 32 := 16#32
  let v6820_r0 : BitVec 32 := Scalar.addi v3353_r0 c16_i32_2626_r0
  v6820_r0
def k0_mult203 (v3352_r0 : BitVec 32) : BitVec 32 :=
  let v3353_r0 : BitVec 32 := v3352_r0
  let c16_i32_2629_r0 : BitVec 32 := 16#32
  let v6832_r0 : BitVec 32 := Scalar.addi v3353_r0 c16_i32_2629_r0
  v6832_r0
def k0_mult204 (v3352_r0 : BitVec 32) : BitVec 32 :=
  let v3353_r0 : BitVec 32 := v3352_r0
  let c0_i32_2635_r0 : BitVec 32 := 0#32
  let v6855_r0 : BitVec 32 := Scalar.addi v3353_r0 c0_i32_2635_r0
  v6855_r0
def k0_off98 (v3352_r0 : BitVec 32) (c0_i32_2635_r0 : BitVec 32) : Fin 2 → Nat :=
  let v3353_r0 : BitVec 32 := v3352_r0
  let v6855_r0 : BitVec 32 := Scalar.addi v3353_r0 c0_i32_2635_r0
  let v6856_r0 : BitVec 32 := v6855_r0
  let v6857_r0 : Index := Scalar.indexCast v6856_r0
  let c1280_2636_r0 : Index := 1280#32
  ![v6857_r0.toNat, 1280]
def k0_mult205 (v3352_r0 : BitVec 32) : BitVec 32 :=
  let v3353_r0 : BitVec 32 := v3352_r0
  let c0_i32_2638_r0 : BitVec 32 := 0#32
  let v6867_r0 : BitVec 32 := Scalar.addi v3353_r0 c0_i32_2638_r0
  v6867_r0
def k0_off99 (v3352_r0 : BitVec 32) (c0_i32_2638_r0 : BitVec 32) : Fin 2 → Nat :=
  let v3353_r0 : BitVec 32 := v3352_r0
  let v6867_r0 : BitVec 32 := Scalar.addi v3353_r0 c0_i32_2638_r0
  let v6868_r0 : BitVec 32 := v6867_r0
  let v6869_r0 : Index := Scalar.indexCast v6868_r0
  let c1408_2639_r0 : Index := 1408#32
  ![v6869_r0.toNat, 1408]
def k0_mult206 (v3352_r0 : BitVec 32) : BitVec 32 :=
  let v3353_r0 : BitVec 32 := v3352_r0
  let c16_i32_2644_r0 : BitVec 32 := 16#32
  let v6889_r0 : BitVec 32 := Scalar.addi v3353_r0 c16_i32_2644_r0
  v6889_r0
def k0_mult207 (v3352_r0 : BitVec 32) : BitVec 32 :=
  let v3353_r0 : BitVec 32 := v3352_r0
  let c16_i32_2647_r0 : BitVec 32 := 16#32
  let v6901_r0 : BitVec 32 := Scalar.addi v3353_r0 c16_i32_2647_r0
  v6901_r0
def k0_mult208 (v3352_r0 : BitVec 32) : BitVec 32 :=
  let v3353_r0 : BitVec 32 := v3352_r0
  let c32_i32_2653_r0 : BitVec 32 := 32#32
  let v6924_r0 : BitVec 32 := Scalar.addi v3353_r0 c32_i32_2653_r0
  v6924_r0
def k0_mult209 (v3352_r0 : BitVec 32) : BitVec 32 :=
  let v3353_r0 : BitVec 32 := v3352_r0
  let c32_i32_2656_r0 : BitVec 32 := 32#32
  let v6936_r0 : BitVec 32 := Scalar.addi v3353_r0 c32_i32_2656_r0
  v6936_r0
def k0_mult210 (v3352_r0 : BitVec 32) : BitVec 32 :=
  let v3353_r0 : BitVec 32 := v3352_r0
  let c48_i32_2662_r0 : BitVec 32 := 48#32
  let v6958_r0 : BitVec 32 := Scalar.addi v3353_r0 c48_i32_2662_r0
  v6958_r0
def k0_mult211 (v3352_r0 : BitVec 32) : BitVec 32 :=
  let v3353_r0 : BitVec 32 := v3352_r0
  let c48_i32_2665_r0 : BitVec 32 := 48#32
  let v6970_r0 : BitVec 32 := Scalar.addi v3353_r0 c48_i32_2665_r0
  v6970_r0
def k0_mult212 (v3352_r0 : BitVec 32) : BitVec 32 :=
  let v3353_r0 : BitVec 32 := v3352_r0
  let c32_i32_2671_r0 : BitVec 32 := 32#32
  let v6993_r0 : BitVec 32 := Scalar.addi v3353_r0 c32_i32_2671_r0
  v6993_r0
def k0_mult213 (v3352_r0 : BitVec 32) : BitVec 32 :=
  let v3353_r0 : BitVec 32 := v3352_r0
  let c32_i32_2674_r0 : BitVec 32 := 32#32
  let v7005_r0 : BitVec 32 := Scalar.addi v3353_r0 c32_i32_2674_r0
  v7005_r0
def k0_mult214 (v3352_r0 : BitVec 32) : BitVec 32 :=
  let v3353_r0 : BitVec 32 := v3352_r0
  let c48_i32_2680_r0 : BitVec 32 := 48#32
  let v7027_r0 : BitVec 32 := Scalar.addi v3353_r0 c48_i32_2680_r0
  v7027_r0
def k0_mult215 (v3352_r0 : BitVec 32) : BitVec 32 :=
  let v3353_r0 : BitVec 32 := v3352_r0
  let c48_i32_2683_r0 : BitVec 32 := 48#32
  let v7039_r0 : BitVec 32 := Scalar.addi v3353_r0 c48_i32_2683_r0
  v7039_r0
def k0_mult216 (v3352_r0 : BitVec 32) : BitVec 32 :=
  let v3353_r0 : BitVec 32 := v3352_r0
  let c64_i32_2689_r0 : BitVec 32 := 64#32
  let v7062_r0 : BitVec 32 := Scalar.addi v3353_r0 c64_i32_2689_r0
  v7062_r0
def k0_mult217 (v3352_r0 : BitVec 32) : BitVec 32 :=
  let v3353_r0 : BitVec 32 := v3352_r0
  let c64_i32_2692_r0 : BitVec 32 := 64#32
  let v7074_r0 : BitVec 32 := Scalar.addi v3353_r0 c64_i32_2692_r0
  v7074_r0
def k0_mult218 (v3352_r0 : BitVec 32) : BitVec 32 :=
  let v3353_r0 : BitVec 32 := v3352_r0
  let c80_i32_2698_r0 : BitVec 32 := 80#32
  let v7096_r0 : BitVec 32 := Scalar.addi v3353_r0 c80_i32_2698_r0
  v7096_r0
def k0_mult219 (v3352_r0 : BitVec 32) : BitVec 32 :=
  let v3353_r0 : BitVec 32 := v3352_r0
  let c80_i32_2701_r0 : BitVec 32 := 80#32
  let v7108_r0 : BitVec 32 := Scalar.addi v3353_r0 c80_i32_2701_r0
  v7108_r0
def k0_mult220 (v3352_r0 : BitVec 32) : BitVec 32 :=
  let v3353_r0 : BitVec 32 := v3352_r0
  let c64_i32_2707_r0 : BitVec 32 := 64#32
  let v7131_r0 : BitVec 32 := Scalar.addi v3353_r0 c64_i32_2707_r0
  v7131_r0
def k0_mult221 (v3352_r0 : BitVec 32) : BitVec 32 :=
  let v3353_r0 : BitVec 32 := v3352_r0
  let c64_i32_2710_r0 : BitVec 32 := 64#32
  let v7143_r0 : BitVec 32 := Scalar.addi v3353_r0 c64_i32_2710_r0
  v7143_r0
def k0_mult222 (v3352_r0 : BitVec 32) : BitVec 32 :=
  let v3353_r0 : BitVec 32 := v3352_r0
  let c80_i32_2716_r0 : BitVec 32 := 80#32
  let v7165_r0 : BitVec 32 := Scalar.addi v3353_r0 c80_i32_2716_r0
  v7165_r0
def k0_mult223 (v3352_r0 : BitVec 32) : BitVec 32 :=
  let v3353_r0 : BitVec 32 := v3352_r0
  let c80_i32_2719_r0 : BitVec 32 := 80#32
  let v7177_r0 : BitVec 32 := Scalar.addi v3353_r0 c80_i32_2719_r0
  v7177_r0
def k0_mult224 (v3352_r0 : BitVec 32) : BitVec 32 :=
  let v3353_r0 : BitVec 32 := v3352_r0
  let c96_i32_2725_r0 : BitVec 32 := 96#32
  let v7200_r0 : BitVec 32 := Scalar.addi v3353_r0 c96_i32_2725_r0
  v7200_r0
def k0_mult225 (v3352_r0 : BitVec 32) : BitVec 32 :=
  let v3353_r0 : BitVec 32 := v3352_r0
  let c96_i32_2728_r0 : BitVec 32 := 96#32
  let v7212_r0 : BitVec 32 := Scalar.addi v3353_r0 c96_i32_2728_r0
  v7212_r0
def k0_mult226 (v3352_r0 : BitVec 32) : BitVec 32 :=
  let v3353_r0 : BitVec 32 := v3352_r0
  let c112_i32_2734_r0 : BitVec 32 := 112#32
  let v7234_r0 : BitVec 32 := Scalar.addi v3353_r0 c112_i32_2734_r0
  v7234_r0
def k0_mult227 (v3352_r0 : BitVec 32) : BitVec 32 :=
  let v3353_r0 : BitVec 32 := v3352_r0
  let c112_i32_2737_r0 : BitVec 32 := 112#32
  let v7246_r0 : BitVec 32 := Scalar.addi v3353_r0 c112_i32_2737_r0
  v7246_r0
def k0_mult228 (v3352_r0 : BitVec 32) : BitVec 32 :=
  let v3353_r0 : BitVec 32 := v3352_r0
  let c96_i32_2743_r0 : BitVec 32 := 96#32
  let v7269_r0 : BitVec 32 := Scalar.addi v3353_r0 c96_i32_2743_r0
  v7269_r0
def k0_mult229 (v3352_r0 : BitVec 32) : BitVec 32 :=
  let v3353_r0 : BitVec 32 := v3352_r0
  let c96_i32_2746_r0 : BitVec 32 := 96#32
  let v7281_r0 : BitVec 32 := Scalar.addi v3353_r0 c96_i32_2746_r0
  v7281_r0
def k0_mult230 (v3352_r0 : BitVec 32) : BitVec 32 :=
  let v3353_r0 : BitVec 32 := v3352_r0
  let c112_i32_2752_r0 : BitVec 32 := 112#32
  let v7303_r0 : BitVec 32 := Scalar.addi v3353_r0 c112_i32_2752_r0
  v7303_r0
def k0_mult231 (v3352_r0 : BitVec 32) : BitVec 32 :=
  let v3353_r0 : BitVec 32 := v3352_r0
  let c112_i32_2755_r0 : BitVec 32 := 112#32
  let v7315_r0 : BitVec 32 := Scalar.addi v3353_r0 c112_i32_2755_r0
  v7315_r0
def k0_mult232 (v3352_r0 : BitVec 32) : BitVec 32 :=
  let v3353_r0 : BitVec 32 := v3352_r0
  let c0_i32_3201_r0 : BitVec 32 := 0#32
  let v8108_r0 : BitVec 32 := Scalar.addi v3353_r0 c0_i32_3201_r0
  v8108_r0
def k0_off100 (v3352_r0 : BitVec 32) (c0_i32_3201_r0 : BitVec 32) : Fin 2 → Nat :=
  let v3353_r0 : BitVec 32 := v3352_r0
  let v8108_r0 : BitVec 32 := Scalar.addi v3353_r0 c0_i32_3201_r0
  let v8109_r0 : BitVec 32 := v8108_r0
  let v8110_r0 : Index := Scalar.indexCast v8109_r0
  let c1536_3202_r0 : Index := 1536#32
  ![v8110_r0.toNat, 1536]
def k0_mult233 (v3352_r0 : BitVec 32) : BitVec 32 :=
  let v3353_r0 : BitVec 32 := v3352_r0
  let c0_i32_3204_r0 : BitVec 32 := 0#32
  let v8120_r0 : BitVec 32 := Scalar.addi v3353_r0 c0_i32_3204_r0
  v8120_r0
def k0_off101 (v3352_r0 : BitVec 32) (c0_i32_3204_r0 : BitVec 32) : Fin 2 → Nat :=
  let v3353_r0 : BitVec 32 := v3352_r0
  let v8120_r0 : BitVec 32 := Scalar.addi v3353_r0 c0_i32_3204_r0
  let v8121_r0 : BitVec 32 := v8120_r0
  let v8122_r0 : Index := Scalar.indexCast v8121_r0
  let c1664_3205_r0 : Index := 1664#32
  ![v8122_r0.toNat, 1664]
def k0_mult234 (v3352_r0 : BitVec 32) : BitVec 32 :=
  let v3353_r0 : BitVec 32 := v3352_r0
  let c16_i32_3210_r0 : BitVec 32 := 16#32
  let v8142_r0 : BitVec 32 := Scalar.addi v3353_r0 c16_i32_3210_r0
  v8142_r0
def k0_mult235 (v3352_r0 : BitVec 32) : BitVec 32 :=
  let v3353_r0 : BitVec 32 := v3352_r0
  let c16_i32_3213_r0 : BitVec 32 := 16#32
  let v8154_r0 : BitVec 32 := Scalar.addi v3353_r0 c16_i32_3213_r0
  v8154_r0
def k0_mult236 (v3352_r0 : BitVec 32) : BitVec 32 :=
  let v3353_r0 : BitVec 32 := v3352_r0
  let c0_i32_3219_r0 : BitVec 32 := 0#32
  let v8177_r0 : BitVec 32 := Scalar.addi v3353_r0 c0_i32_3219_r0
  v8177_r0
def k0_off102 (v3352_r0 : BitVec 32) (c0_i32_3219_r0 : BitVec 32) : Fin 2 → Nat :=
  let v3353_r0 : BitVec 32 := v3352_r0
  let v8177_r0 : BitVec 32 := Scalar.addi v3353_r0 c0_i32_3219_r0
  let v8178_r0 : BitVec 32 := v8177_r0
  let v8179_r0 : Index := Scalar.indexCast v8178_r0
  let c1792_3220_r0 : Index := 1792#32
  ![v8179_r0.toNat, 1792]
def k0_mult237 (v3352_r0 : BitVec 32) : BitVec 32 :=
  let v3353_r0 : BitVec 32 := v3352_r0
  let c0_i32_3222_r0 : BitVec 32 := 0#32
  let v8189_r0 : BitVec 32 := Scalar.addi v3353_r0 c0_i32_3222_r0
  v8189_r0
def k0_off103 (v3352_r0 : BitVec 32) (c0_i32_3222_r0 : BitVec 32) : Fin 2 → Nat :=
  let v3353_r0 : BitVec 32 := v3352_r0
  let v8189_r0 : BitVec 32 := Scalar.addi v3353_r0 c0_i32_3222_r0
  let v8190_r0 : BitVec 32 := v8189_r0
  let v8191_r0 : Index := Scalar.indexCast v8190_r0
  let c1920_3223_r0 : Index := 1920#32
  ![v8191_r0.toNat, 1920]
def k0_mult238 (v3352_r0 : BitVec 32) : BitVec 32 :=
  let v3353_r0 : BitVec 32 := v3352_r0
  let c16_i32_3228_r0 : BitVec 32 := 16#32
  let v8211_r0 : BitVec 32 := Scalar.addi v3353_r0 c16_i32_3228_r0
  v8211_r0
def k0_mult239 (v3352_r0 : BitVec 32) : BitVec 32 :=
  let v3353_r0 : BitVec 32 := v3352_r0
  let c16_i32_3231_r0 : BitVec 32 := 16#32
  let v8223_r0 : BitVec 32 := Scalar.addi v3353_r0 c16_i32_3231_r0
  v8223_r0
def k0_mult240 (v3352_r0 : BitVec 32) : BitVec 32 :=
  let v3353_r0 : BitVec 32 := v3352_r0
  let c32_i32_3237_r0 : BitVec 32 := 32#32
  let v8246_r0 : BitVec 32 := Scalar.addi v3353_r0 c32_i32_3237_r0
  v8246_r0
def k0_mult241 (v3352_r0 : BitVec 32) : BitVec 32 :=
  let v3353_r0 : BitVec 32 := v3352_r0
  let c32_i32_3240_r0 : BitVec 32 := 32#32
  let v8258_r0 : BitVec 32 := Scalar.addi v3353_r0 c32_i32_3240_r0
  v8258_r0
def k0_mult242 (v3352_r0 : BitVec 32) : BitVec 32 :=
  let v3353_r0 : BitVec 32 := v3352_r0
  let c48_i32_3246_r0 : BitVec 32 := 48#32
  let v8280_r0 : BitVec 32 := Scalar.addi v3353_r0 c48_i32_3246_r0
  v8280_r0
def k0_mult243 (v3352_r0 : BitVec 32) : BitVec 32 :=
  let v3353_r0 : BitVec 32 := v3352_r0
  let c48_i32_3249_r0 : BitVec 32 := 48#32
  let v8292_r0 : BitVec 32 := Scalar.addi v3353_r0 c48_i32_3249_r0
  v8292_r0
def k0_mult244 (v3352_r0 : BitVec 32) : BitVec 32 :=
  let v3353_r0 : BitVec 32 := v3352_r0
  let c32_i32_3255_r0 : BitVec 32 := 32#32
  let v8315_r0 : BitVec 32 := Scalar.addi v3353_r0 c32_i32_3255_r0
  v8315_r0
def k0_mult245 (v3352_r0 : BitVec 32) : BitVec 32 :=
  let v3353_r0 : BitVec 32 := v3352_r0
  let c32_i32_3258_r0 : BitVec 32 := 32#32
  let v8327_r0 : BitVec 32 := Scalar.addi v3353_r0 c32_i32_3258_r0
  v8327_r0
def k0_mult246 (v3352_r0 : BitVec 32) : BitVec 32 :=
  let v3353_r0 : BitVec 32 := v3352_r0
  let c48_i32_3264_r0 : BitVec 32 := 48#32
  let v8349_r0 : BitVec 32 := Scalar.addi v3353_r0 c48_i32_3264_r0
  v8349_r0
def k0_mult247 (v3352_r0 : BitVec 32) : BitVec 32 :=
  let v3353_r0 : BitVec 32 := v3352_r0
  let c48_i32_3267_r0 : BitVec 32 := 48#32
  let v8361_r0 : BitVec 32 := Scalar.addi v3353_r0 c48_i32_3267_r0
  v8361_r0
def k0_mult248 (v3352_r0 : BitVec 32) : BitVec 32 :=
  let v3353_r0 : BitVec 32 := v3352_r0
  let c64_i32_3273_r0 : BitVec 32 := 64#32
  let v8384_r0 : BitVec 32 := Scalar.addi v3353_r0 c64_i32_3273_r0
  v8384_r0
def k0_mult249 (v3352_r0 : BitVec 32) : BitVec 32 :=
  let v3353_r0 : BitVec 32 := v3352_r0
  let c64_i32_3276_r0 : BitVec 32 := 64#32
  let v8396_r0 : BitVec 32 := Scalar.addi v3353_r0 c64_i32_3276_r0
  v8396_r0
def k0_mult250 (v3352_r0 : BitVec 32) : BitVec 32 :=
  let v3353_r0 : BitVec 32 := v3352_r0
  let c80_i32_3282_r0 : BitVec 32 := 80#32
  let v8418_r0 : BitVec 32 := Scalar.addi v3353_r0 c80_i32_3282_r0
  v8418_r0
def k0_mult251 (v3352_r0 : BitVec 32) : BitVec 32 :=
  let v3353_r0 : BitVec 32 := v3352_r0
  let c80_i32_3285_r0 : BitVec 32 := 80#32
  let v8430_r0 : BitVec 32 := Scalar.addi v3353_r0 c80_i32_3285_r0
  v8430_r0
def k0_mult252 (v3352_r0 : BitVec 32) : BitVec 32 :=
  let v3353_r0 : BitVec 32 := v3352_r0
  let c64_i32_3291_r0 : BitVec 32 := 64#32
  let v8453_r0 : BitVec 32 := Scalar.addi v3353_r0 c64_i32_3291_r0
  v8453_r0
def k0_mult253 (v3352_r0 : BitVec 32) : BitVec 32 :=
  let v3353_r0 : BitVec 32 := v3352_r0
  let c64_i32_3294_r0 : BitVec 32 := 64#32
  let v8465_r0 : BitVec 32 := Scalar.addi v3353_r0 c64_i32_3294_r0
  v8465_r0
def k0_mult254 (v3352_r0 : BitVec 32) : BitVec 32 :=
  let v3353_r0 : BitVec 32 := v3352_r0
  let c80_i32_3300_r0 : BitVec 32 := 80#32
  let v8487_r0 : BitVec 32 := Scalar.addi v3353_r0 c80_i32_3300_r0
  v8487_r0
def k0_mult255 (v3352_r0 : BitVec 32) : BitVec 32 :=
  let v3353_r0 : BitVec 32 := v3352_r0
  let c80_i32_3303_r0 : BitVec 32 := 80#32
  let v8499_r0 : BitVec 32 := Scalar.addi v3353_r0 c80_i32_3303_r0
  v8499_r0
def k0_mult256 (v3352_r0 : BitVec 32) : BitVec 32 :=
  let v3353_r0 : BitVec 32 := v3352_r0
  let c96_i32_3309_r0 : BitVec 32 := 96#32
  let v8522_r0 : BitVec 32 := Scalar.addi v3353_r0 c96_i32_3309_r0
  v8522_r0
def k0_mult257 (v3352_r0 : BitVec 32) : BitVec 32 :=
  let v3353_r0 : BitVec 32 := v3352_r0
  let c96_i32_3312_r0 : BitVec 32 := 96#32
  let v8534_r0 : BitVec 32 := Scalar.addi v3353_r0 c96_i32_3312_r0
  v8534_r0
def k0_mult258 (v3352_r0 : BitVec 32) : BitVec 32 :=
  let v3353_r0 : BitVec 32 := v3352_r0
  let c112_i32_3318_r0 : BitVec 32 := 112#32
  let v8556_r0 : BitVec 32 := Scalar.addi v3353_r0 c112_i32_3318_r0
  v8556_r0
def k0_mult259 (v3352_r0 : BitVec 32) : BitVec 32 :=
  let v3353_r0 : BitVec 32 := v3352_r0
  let c112_i32_3321_r0 : BitVec 32 := 112#32
  let v8568_r0 : BitVec 32 := Scalar.addi v3353_r0 c112_i32_3321_r0
  v8568_r0
def k0_mult260 (v3352_r0 : BitVec 32) : BitVec 32 :=
  let v3353_r0 : BitVec 32 := v3352_r0
  let c96_i32_3327_r0 : BitVec 32 := 96#32
  let v8591_r0 : BitVec 32 := Scalar.addi v3353_r0 c96_i32_3327_r0
  v8591_r0
def k0_mult261 (v3352_r0 : BitVec 32) : BitVec 32 :=
  let v3353_r0 : BitVec 32 := v3352_r0
  let c96_i32_3330_r0 : BitVec 32 := 96#32
  let v8603_r0 : BitVec 32 := Scalar.addi v3353_r0 c96_i32_3330_r0
  v8603_r0
def k0_mult262 (v3352_r0 : BitVec 32) : BitVec 32 :=
  let v3353_r0 : BitVec 32 := v3352_r0
  let c112_i32_3336_r0 : BitVec 32 := 112#32
  let v8625_r0 : BitVec 32 := Scalar.addi v3353_r0 c112_i32_3336_r0
  v8625_r0
def k0_mult263 (v3352_r0 : BitVec 32) : BitVec 32 :=
  let v3353_r0 : BitVec 32 := v3352_r0
  let c112_i32_3339_r0 : BitVec 32 := 112#32
  let v8637_r0 : BitVec 32 := Scalar.addi v3353_r0 c112_i32_3339_r0
  v8637_r0

def k0_chk20_0 (v3352_r0 : BitVec 32) : Prop :=
  (16 ∣ (k0_mult135 v3352_r0).toNat) ∧
  (16 ∣ (k0_mult136 v3352_r0).toNat) ∧
  (∀ (r : Fin 8), ∀ a, (k0_off88 v3352_r0 (BitVec.ofNat 32 (16 * r.val))) a + S16x128.size a ≤ S6144x2048.size a) ∧
  (∀ (r : Fin 8), ∀ (hinb : ∀ a, (k0_off88 v3352_r0 (BitVec.ofNat 32 (16 * r.val))) a + S16x128.size a ≤ S6144x2048.size a), (Rect.unit (s := S6144x2048) (k0_off88 v3352_r0 (BitVec.ofNat 32 (16 * r.val))) S16x128.size hinb).PackedRows (EltTy.packing .bf16)) ∧
  (16 ∣ (k0_mult137 v3352_r0).toNat) ∧
  (∀ (r : Fin 8), ∀ a, (k0_off89 v3352_r0 (BitVec.ofNat 32 (16 * r.val))) a + S16x128.size a ≤ S6144x2048.size a) ∧
  (∀ (r : Fin 8), ∀ (hinb : ∀ a, (k0_off89 v3352_r0 (BitVec.ofNat 32 (16 * r.val))) a + S16x128.size a ≤ S6144x2048.size a), (Rect.unit (s := S6144x2048) (k0_off89 v3352_r0 (BitVec.ofNat 32 (16 * r.val))) S16x128.size hinb).PackedRows (EltTy.packing .bf16)) ∧
  (16 ∣ (k0_mult138 v3352_r0).toNat) ∧
  (16 ∣ (k0_mult139 v3352_r0).toNat) ∧
  (16 ∣ (k0_mult140 v3352_r0).toNat) ∧
  (∀ (r : Fin 8), ∀ a, (k0_off90 v3352_r0 (BitVec.ofNat 32 (16 * r.val))) a + S16x128.size a ≤ S6144x2048.size a) ∧
  (∀ (r : Fin 8), ∀ (hinb : ∀ a, (k0_off90 v3352_r0 (BitVec.ofNat 32 (16 * r.val))) a + S16x128.size a ≤ S6144x2048.size a), (Rect.unit (s := S6144x2048) (k0_off90 v3352_r0 (BitVec.ofNat 32 (16 * r.val))) S16x128.size hinb).PackedRows (EltTy.packing .bf16)) ∧
  (16 ∣ (k0_mult141 v3352_r0).toNat) ∧
  (∀ (r : Fin 8), ∀ a, (k0_off91 v3352_r0 (BitVec.ofNat 32 (16 * r.val))) a + S16x128.size a ≤ S6144x2048.size a) ∧
  (∀ (r : Fin 8), ∀ (hinb : ∀ a, (k0_off91 v3352_r0 (BitVec.ofNat 32 (16 * r.val))) a + S16x128.size a ≤ S6144x2048.size a), (Rect.unit (s := S6144x2048) (k0_off91 v3352_r0 (BitVec.ofNat 32 (16 * r.val))) S16x128.size hinb).PackedRows (EltTy.packing .bf16)) ∧
  (16 ∣ (k0_mult142 v3352_r0).toNat) ∧
  (16 ∣ (k0_mult143 v3352_r0).toNat) ∧
  (16 ∣ (k0_mult144 v3352_r0).toNat) ∧
  (16 ∣ (k0_mult145 v3352_r0).toNat) ∧
  (16 ∣ (k0_mult146 v3352_r0).toNat) ∧
  (16 ∣ (k0_mult147 v3352_r0).toNat) ∧
  (16 ∣ (k0_mult148 v3352_r0).toNat) ∧
  (16 ∣ (k0_mult149 v3352_r0).toNat) ∧
  (16 ∣ (k0_mult150 v3352_r0).toNat) ∧
  (16 ∣ (k0_mult151 v3352_r0).toNat) ∧
  (16 ∣ (k0_mult152 v3352_r0).toNat) ∧
  (16 ∣ (k0_mult153 v3352_r0).toNat) ∧
  (16 ∣ (k0_mult154 v3352_r0).toNat) ∧
  (16 ∣ (k0_mult155 v3352_r0).toNat) ∧
  (16 ∣ (k0_mult156 v3352_r0).toNat) ∧
  (16 ∣ (k0_mult157 v3352_r0).toNat) ∧
  (16 ∣ (k0_mult158 v3352_r0).toNat)
def k0_chk20_1 (v3352_r0 : BitVec 32) : Prop :=
  (16 ∣ (k0_mult159 v3352_r0).toNat) ∧
  (16 ∣ (k0_mult160 v3352_r0).toNat) ∧
  (16 ∣ (k0_mult161 v3352_r0).toNat) ∧
  (16 ∣ (k0_mult162 v3352_r0).toNat) ∧
  (16 ∣ (k0_mult163 v3352_r0).toNat) ∧
  (16 ∣ (k0_mult164 v3352_r0).toNat) ∧
  (16 ∣ (k0_mult165 v3352_r0).toNat) ∧
  (16 ∣ (k0_mult166 v3352_r0).toNat) ∧
  (16 ∣ (k0_mult167 v3352_r0).toNat) ∧
  (16 ∣ (k0_mult168 v3352_r0).toNat) ∧
  (∀ (r : Fin 8), ∀ a, (k0_off92 v3352_r0 (BitVec.ofNat 32 (16 * r.val))) a + S16x128.size a ≤ S6144x2048.size a) ∧
  (∀ (r : Fin 8), ∀ (hinb : ∀ a, (k0_off92 v3352_r0 (BitVec.ofNat 32 (16 * r.val))) a + S16x128.size a ≤ S6144x2048.size a), (Rect.unit (s := S6144x2048) (k0_off92 v3352_r0 (BitVec.ofNat 32 (16 * r.val))) S16x128.size hinb).PackedRows (EltTy.packing .bf16)) ∧
  (16 ∣ (k0_mult169 v3352_r0).toNat) ∧
  (∀ (r : Fin 8), ∀ a, (k0_off93 v3352_r0 (BitVec.ofNat 32 (16 * r.val))) a + S16x128.size a ≤ S6144x2048.size a) ∧
  (∀ (r : Fin 8), ∀ (hinb : ∀ a, (k0_off93 v3352_r0 (BitVec.ofNat 32 (16 * r.val))) a + S16x128.size a ≤ S6144x2048.size a), (Rect.unit (s := S6144x2048) (k0_off93 v3352_r0 (BitVec.ofNat 32 (16 * r.val))) S16x128.size hinb).PackedRows (EltTy.packing .bf16)) ∧
  (16 ∣ (k0_mult170 v3352_r0).toNat) ∧
  (16 ∣ (k0_mult171 v3352_r0).toNat) ∧
  (16 ∣ (k0_mult172 v3352_r0).toNat) ∧
  (∀ (r : Fin 8), ∀ a, (k0_off94 v3352_r0 (BitVec.ofNat 32 (16 * r.val))) a + S16x128.size a ≤ S6144x2048.size a) ∧
  (∀ (r : Fin 8), ∀ (hinb : ∀ a, (k0_off94 v3352_r0 (BitVec.ofNat 32 (16 * r.val))) a + S16x128.size a ≤ S6144x2048.size a), (Rect.unit (s := S6144x2048) (k0_off94 v3352_r0 (BitVec.ofNat 32 (16 * r.val))) S16x128.size hinb).PackedRows (EltTy.packing .bf16)) ∧
  (16 ∣ (k0_mult173 v3352_r0).toNat) ∧
  (∀ (r : Fin 8), ∀ a, (k0_off95 v3352_r0 (BitVec.ofNat 32 (16 * r.val))) a + S16x128.size a ≤ S6144x2048.size a) ∧
  (∀ (r : Fin 8), ∀ (hinb : ∀ a, (k0_off95 v3352_r0 (BitVec.ofNat 32 (16 * r.val))) a + S16x128.size a ≤ S6144x2048.size a), (Rect.unit (s := S6144x2048) (k0_off95 v3352_r0 (BitVec.ofNat 32 (16 * r.val))) S16x128.size hinb).PackedRows (EltTy.packing .bf16)) ∧
  (16 ∣ (k0_mult174 v3352_r0).toNat) ∧
  (16 ∣ (k0_mult175 v3352_r0).toNat) ∧
  (16 ∣ (k0_mult176 v3352_r0).toNat) ∧
  (16 ∣ (k0_mult177 v3352_r0).toNat) ∧
  (16 ∣ (k0_mult178 v3352_r0).toNat) ∧
  (16 ∣ (k0_mult179 v3352_r0).toNat) ∧
  (16 ∣ (k0_mult180 v3352_r0).toNat) ∧
  (16 ∣ (k0_mult181 v3352_r0).toNat) ∧
  (16 ∣ (k0_mult182 v3352_r0).toNat)
def k0_chk20_2 (v3352_r0 : BitVec 32) : Prop :=
  (16 ∣ (k0_mult183 v3352_r0).toNat) ∧
  (16 ∣ (k0_mult184 v3352_r0).toNat) ∧
  (16 ∣ (k0_mult185 v3352_r0).toNat) ∧
  (16 ∣ (k0_mult186 v3352_r0).toNat) ∧
  (16 ∣ (k0_mult187 v3352_r0).toNat) ∧
  (16 ∣ (k0_mult188 v3352_r0).toNat) ∧
  (16 ∣ (k0_mult189 v3352_r0).toNat) ∧
  (16 ∣ (k0_mult190 v3352_r0).toNat) ∧
  (16 ∣ (k0_mult191 v3352_r0).toNat) ∧
  (16 ∣ (k0_mult192 v3352_r0).toNat) ∧
  (16 ∣ (k0_mult193 v3352_r0).toNat) ∧
  (16 ∣ (k0_mult194 v3352_r0).toNat) ∧
  (16 ∣ (k0_mult195 v3352_r0).toNat) ∧
  (16 ∣ (k0_mult196 v3352_r0).toNat) ∧
  (16 ∣ (k0_mult197 v3352_r0).toNat) ∧
  (16 ∣ (k0_mult198 v3352_r0).toNat) ∧
  (16 ∣ (k0_mult199 v3352_r0).toNat) ∧
  (16 ∣ (k0_mult200 v3352_r0).toNat) ∧
  (∀ (r : Fin 8), ∀ a, (k0_off96 v3352_r0 (BitVec.ofNat 32 (16 * r.val))) a + S16x128.size a ≤ S6144x2048.size a) ∧
  (∀ (r : Fin 8), ∀ (hinb : ∀ a, (k0_off96 v3352_r0 (BitVec.ofNat 32 (16 * r.val))) a + S16x128.size a ≤ S6144x2048.size a), (Rect.unit (s := S6144x2048) (k0_off96 v3352_r0 (BitVec.ofNat 32 (16 * r.val))) S16x128.size hinb).PackedRows (EltTy.packing .bf16)) ∧
  (16 ∣ (k0_mult201 v3352_r0).toNat) ∧
  (∀ (r : Fin 8), ∀ a, (k0_off97 v3352_r0 (BitVec.ofNat 32 (16 * r.val))) a + S16x128.size a ≤ S6144x2048.size a) ∧
  (∀ (r : Fin 8), ∀ (hinb : ∀ a, (k0_off97 v3352_r0 (BitVec.ofNat 32 (16 * r.val))) a + S16x128.size a ≤ S6144x2048.size a), (Rect.unit (s := S6144x2048) (k0_off97 v3352_r0 (BitVec.ofNat 32 (16 * r.val))) S16x128.size hinb).PackedRows (EltTy.packing .bf16)) ∧
  (16 ∣ (k0_mult202 v3352_r0).toNat) ∧
  (16 ∣ (k0_mult203 v3352_r0).toNat) ∧
  (16 ∣ (k0_mult204 v3352_r0).toNat) ∧
  (∀ (r : Fin 8), ∀ a, (k0_off98 v3352_r0 (BitVec.ofNat 32 (16 * r.val))) a + S16x128.size a ≤ S6144x2048.size a) ∧
  (∀ (r : Fin 8), ∀ (hinb : ∀ a, (k0_off98 v3352_r0 (BitVec.ofNat 32 (16 * r.val))) a + S16x128.size a ≤ S6144x2048.size a), (Rect.unit (s := S6144x2048) (k0_off98 v3352_r0 (BitVec.ofNat 32 (16 * r.val))) S16x128.size hinb).PackedRows (EltTy.packing .bf16)) ∧
  (16 ∣ (k0_mult205 v3352_r0).toNat) ∧
  (∀ (r : Fin 8), ∀ a, (k0_off99 v3352_r0 (BitVec.ofNat 32 (16 * r.val))) a + S16x128.size a ≤ S6144x2048.size a) ∧
  (∀ (r : Fin 8), ∀ (hinb : ∀ a, (k0_off99 v3352_r0 (BitVec.ofNat 32 (16 * r.val))) a + S16x128.size a ≤ S6144x2048.size a), (Rect.unit (s := S6144x2048) (k0_off99 v3352_r0 (BitVec.ofNat 32 (16 * r.val))) S16x128.size hinb).PackedRows (EltTy.packing .bf16)) ∧
  (16 ∣ (k0_mult206 v3352_r0).toNat)
def k0_chk20_3 (v3352_r0 : BitVec 32) : Prop :=
  (16 ∣ (k0_mult207 v3352_r0).toNat) ∧
  (16 ∣ (k0_mult208 v3352_r0).toNat) ∧
  (16 ∣ (k0_mult209 v3352_r0).toNat) ∧
  (16 ∣ (k0_mult210 v3352_r0).toNat) ∧
  (16 ∣ (k0_mult211 v3352_r0).toNat) ∧
  (16 ∣ (k0_mult212 v3352_r0).toNat) ∧
  (16 ∣ (k0_mult213 v3352_r0).toNat) ∧
  (16 ∣ (k0_mult214 v3352_r0).toNat) ∧
  (16 ∣ (k0_mult215 v3352_r0).toNat) ∧
  (16 ∣ (k0_mult216 v3352_r0).toNat) ∧
  (16 ∣ (k0_mult217 v3352_r0).toNat) ∧
  (16 ∣ (k0_mult218 v3352_r0).toNat) ∧
  (16 ∣ (k0_mult219 v3352_r0).toNat) ∧
  (16 ∣ (k0_mult220 v3352_r0).toNat) ∧
  (16 ∣ (k0_mult221 v3352_r0).toNat) ∧
  (16 ∣ (k0_mult222 v3352_r0).toNat) ∧
  (16 ∣ (k0_mult223 v3352_r0).toNat) ∧
  (16 ∣ (k0_mult224 v3352_r0).toNat) ∧
  (16 ∣ (k0_mult225 v3352_r0).toNat) ∧
  (16 ∣ (k0_mult226 v3352_r0).toNat) ∧
  (16 ∣ (k0_mult227 v3352_r0).toNat) ∧
  (16 ∣ (k0_mult228 v3352_r0).toNat) ∧
  (16 ∣ (k0_mult229 v3352_r0).toNat) ∧
  (16 ∣ (k0_mult230 v3352_r0).toNat) ∧
  (16 ∣ (k0_mult231 v3352_r0).toNat) ∧
  (16 ∣ (k0_mult232 v3352_r0).toNat) ∧
  (∀ (r : Fin 8), ∀ a, (k0_off100 v3352_r0 (BitVec.ofNat 32 (16 * r.val))) a + S16x128.size a ≤ S6144x2048.size a) ∧
  (∀ (r : Fin 8), ∀ (hinb : ∀ a, (k0_off100 v3352_r0 (BitVec.ofNat 32 (16 * r.val))) a + S16x128.size a ≤ S6144x2048.size a), (Rect.unit (s := S6144x2048) (k0_off100 v3352_r0 (BitVec.ofNat 32 (16 * r.val))) S16x128.size hinb).PackedRows (EltTy.packing .bf16)) ∧
  (16 ∣ (k0_mult233 v3352_r0).toNat) ∧
  (∀ (r : Fin 8), ∀ a, (k0_off101 v3352_r0 (BitVec.ofNat 32 (16 * r.val))) a + S16x128.size a ≤ S6144x2048.size a) ∧
  (∀ (r : Fin 8), ∀ (hinb : ∀ a, (k0_off101 v3352_r0 (BitVec.ofNat 32 (16 * r.val))) a + S16x128.size a ≤ S6144x2048.size a), (Rect.unit (s := S6144x2048) (k0_off101 v3352_r0 (BitVec.ofNat 32 (16 * r.val))) S16x128.size hinb).PackedRows (EltTy.packing .bf16)) ∧
  (16 ∣ (k0_mult234 v3352_r0).toNat)
def k0_chk20_4 (v3352_r0 : BitVec 32) : Prop :=
  (16 ∣ (k0_mult235 v3352_r0).toNat) ∧
  (16 ∣ (k0_mult236 v3352_r0).toNat) ∧
  (∀ (r : Fin 8), ∀ a, (k0_off102 v3352_r0 (BitVec.ofNat 32 (16 * r.val))) a + S16x128.size a ≤ S6144x2048.size a) ∧
  (∀ (r : Fin 8), ∀ (hinb : ∀ a, (k0_off102 v3352_r0 (BitVec.ofNat 32 (16 * r.val))) a + S16x128.size a ≤ S6144x2048.size a), (Rect.unit (s := S6144x2048) (k0_off102 v3352_r0 (BitVec.ofNat 32 (16 * r.val))) S16x128.size hinb).PackedRows (EltTy.packing .bf16)) ∧
  (16 ∣ (k0_mult237 v3352_r0).toNat) ∧
  (∀ (r : Fin 8), ∀ a, (k0_off103 v3352_r0 (BitVec.ofNat 32 (16 * r.val))) a + S16x128.size a ≤ S6144x2048.size a) ∧
  (∀ (r : Fin 8), ∀ (hinb : ∀ a, (k0_off103 v3352_r0 (BitVec.ofNat 32 (16 * r.val))) a + S16x128.size a ≤ S6144x2048.size a), (Rect.unit (s := S6144x2048) (k0_off103 v3352_r0 (BitVec.ofNat 32 (16 * r.val))) S16x128.size hinb).PackedRows (EltTy.packing .bf16)) ∧
  (16 ∣ (k0_mult238 v3352_r0).toNat) ∧
  (16 ∣ (k0_mult239 v3352_r0).toNat) ∧
  (16 ∣ (k0_mult240 v3352_r0).toNat) ∧
  (16 ∣ (k0_mult241 v3352_r0).toNat) ∧
  (16 ∣ (k0_mult242 v3352_r0).toNat) ∧
  (16 ∣ (k0_mult243 v3352_r0).toNat) ∧
  (16 ∣ (k0_mult244 v3352_r0).toNat) ∧
  (16 ∣ (k0_mult245 v3352_r0).toNat) ∧
  (16 ∣ (k0_mult246 v3352_r0).toNat) ∧
  (16 ∣ (k0_mult247 v3352_r0).toNat) ∧
  (16 ∣ (k0_mult248 v3352_r0).toNat) ∧
  (16 ∣ (k0_mult249 v3352_r0).toNat) ∧
  (16 ∣ (k0_mult250 v3352_r0).toNat) ∧
  (16 ∣ (k0_mult251 v3352_r0).toNat) ∧
  (16 ∣ (k0_mult252 v3352_r0).toNat) ∧
  (16 ∣ (k0_mult253 v3352_r0).toNat) ∧
  (16 ∣ (k0_mult254 v3352_r0).toNat) ∧
  (16 ∣ (k0_mult255 v3352_r0).toNat) ∧
  (16 ∣ (k0_mult256 v3352_r0).toNat) ∧
  (16 ∣ (k0_mult257 v3352_r0).toNat) ∧
  (16 ∣ (k0_mult258 v3352_r0).toNat) ∧
  (16 ∣ (k0_mult259 v3352_r0).toNat) ∧
  (16 ∣ (k0_mult260 v3352_r0).toNat) ∧
  (16 ∣ (k0_mult261 v3352_r0).toNat) ∧
  (16 ∣ (k0_mult262 v3352_r0).toNat)
def k0_chk20_5 (v3352_r0 : BitVec 32) : Prop :=
  (16 ∣ (k0_mult263 v3352_r0).toNat)
def k0_chk20 (v3352_r0 : BitVec 32) : Prop :=
  k0_chk20_0 v3352_r0 ∧
  k0_chk20_1 v3352_r0 ∧
  k0_chk20_2 v3352_r0 ∧
  k0_chk20_3 v3352_r0 ∧
  k0_chk20_4 v3352_r0 ∧
  k0_chk20_5 v3352_r0
theorem k0_mult135_dvd : ∀ (v3352_r0 : BitVec 32) (k0_hw20 : k0_chk20 v3352_r0), 16 ∣ (k0_mult135 v3352_r0).toNat := fun v3352_r0 k0_hw20 => k0_hw20.1.1
theorem k0_mult136_dvd : ∀ (v3352_r0 : BitVec 32) (k0_hw20 : k0_chk20 v3352_r0), 16 ∣ (k0_mult136 v3352_r0).toNat := fun v3352_r0 k0_hw20 => k0_hw20.1.2.1
theorem k0_off88_inb : ∀ (v3352_r0 : BitVec 32) (k0_hw20 : k0_chk20 v3352_r0), ∀ (r : Fin 8), ∀ a, (k0_off88 v3352_r0 (BitVec.ofNat 32 (16 * r.val))) a + S16x128.size a ≤ S6144x2048.size a := fun v3352_r0 k0_hw20 r => k0_hw20.1.2.2.1 r
theorem k0_off88_packedbf16 : ∀ (v3352_r0 : BitVec 32) (k0_hw20 : k0_chk20 v3352_r0), ∀ (r : Fin 8), (Rect.unit (s := S6144x2048) (k0_off88 v3352_r0 (BitVec.ofNat 32 (16 * r.val))) S16x128.size (k0_off88_inb v3352_r0 k0_hw20 r)).PackedRows (EltTy.packing .bf16) := fun v3352_r0 k0_hw20 r => k0_hw20.1.2.2.2.1 r (k0_off88_inb v3352_r0 k0_hw20 r)
theorem k0_mult137_dvd : ∀ (v3352_r0 : BitVec 32) (k0_hw20 : k0_chk20 v3352_r0), 16 ∣ (k0_mult137 v3352_r0).toNat := fun v3352_r0 k0_hw20 => k0_hw20.1.2.2.2.2.1
theorem k0_off89_inb : ∀ (v3352_r0 : BitVec 32) (k0_hw20 : k0_chk20 v3352_r0), ∀ (r : Fin 8), ∀ a, (k0_off89 v3352_r0 (BitVec.ofNat 32 (16 * r.val))) a + S16x128.size a ≤ S6144x2048.size a := fun v3352_r0 k0_hw20 r => k0_hw20.1.2.2.2.2.2.1 r
theorem k0_off89_packedbf16 : ∀ (v3352_r0 : BitVec 32) (k0_hw20 : k0_chk20 v3352_r0), ∀ (r : Fin 8), (Rect.unit (s := S6144x2048) (k0_off89 v3352_r0 (BitVec.ofNat 32 (16 * r.val))) S16x128.size (k0_off89_inb v3352_r0 k0_hw20 r)).PackedRows (EltTy.packing .bf16) := fun v3352_r0 k0_hw20 r => k0_hw20.1.2.2.2.2.2.2.1 r (k0_off89_inb v3352_r0 k0_hw20 r)
theorem k0_mult138_dvd : ∀ (v3352_r0 : BitVec 32) (k0_hw20 : k0_chk20 v3352_r0), 16 ∣ (k0_mult138 v3352_r0).toNat := fun v3352_r0 k0_hw20 => k0_hw20.1.2.2.2.2.2.2.2.1
theorem k0_mult139_dvd : ∀ (v3352_r0 : BitVec 32) (k0_hw20 : k0_chk20 v3352_r0), 16 ∣ (k0_mult139 v3352_r0).toNat := fun v3352_r0 k0_hw20 => k0_hw20.1.2.2.2.2.2.2.2.2.1
theorem k0_mult140_dvd : ∀ (v3352_r0 : BitVec 32) (k0_hw20 : k0_chk20 v3352_r0), 16 ∣ (k0_mult140 v3352_r0).toNat := fun v3352_r0 k0_hw20 => k0_hw20.1.2.2.2.2.2.2.2.2.2.1
theorem k0_off90_inb : ∀ (v3352_r0 : BitVec 32) (k0_hw20 : k0_chk20 v3352_r0), ∀ (r : Fin 8), ∀ a, (k0_off90 v3352_r0 (BitVec.ofNat 32 (16 * r.val))) a + S16x128.size a ≤ S6144x2048.size a := fun v3352_r0 k0_hw20 r => k0_hw20.1.2.2.2.2.2.2.2.2.2.2.1 r
theorem k0_off90_packedbf16 : ∀ (v3352_r0 : BitVec 32) (k0_hw20 : k0_chk20 v3352_r0), ∀ (r : Fin 8), (Rect.unit (s := S6144x2048) (k0_off90 v3352_r0 (BitVec.ofNat 32 (16 * r.val))) S16x128.size (k0_off90_inb v3352_r0 k0_hw20 r)).PackedRows (EltTy.packing .bf16) := fun v3352_r0 k0_hw20 r => k0_hw20.1.2.2.2.2.2.2.2.2.2.2.2.1 r (k0_off90_inb v3352_r0 k0_hw20 r)
theorem k0_mult141_dvd : ∀ (v3352_r0 : BitVec 32) (k0_hw20 : k0_chk20 v3352_r0), 16 ∣ (k0_mult141 v3352_r0).toNat := fun v3352_r0 k0_hw20 => k0_hw20.1.2.2.2.2.2.2.2.2.2.2.2.2.1
theorem k0_off91_inb : ∀ (v3352_r0 : BitVec 32) (k0_hw20 : k0_chk20 v3352_r0), ∀ (r : Fin 8), ∀ a, (k0_off91 v3352_r0 (BitVec.ofNat 32 (16 * r.val))) a + S16x128.size a ≤ S6144x2048.size a := fun v3352_r0 k0_hw20 r => k0_hw20.1.2.2.2.2.2.2.2.2.2.2.2.2.2.1 r
theorem k0_off91_packedbf16 : ∀ (v3352_r0 : BitVec 32) (k0_hw20 : k0_chk20 v3352_r0), ∀ (r : Fin 8), (Rect.unit (s := S6144x2048) (k0_off91 v3352_r0 (BitVec.ofNat 32 (16 * r.val))) S16x128.size (k0_off91_inb v3352_r0 k0_hw20 r)).PackedRows (EltTy.packing .bf16) := fun v3352_r0 k0_hw20 r => k0_hw20.1.2.2.2.2.2.2.2.2.2.2.2.2.2.2.1 r (k0_off91_inb v3352_r0 k0_hw20 r)
theorem k0_mult142_dvd : ∀ (v3352_r0 : BitVec 32) (k0_hw20 : k0_chk20 v3352_r0), 16 ∣ (k0_mult142 v3352_r0).toNat := fun v3352_r0 k0_hw20 => k0_hw20.1.2.2.2.2.2.2.2.2.2.2.2.2.2.2.2.1
theorem k0_mult143_dvd : ∀ (v3352_r0 : BitVec 32) (k0_hw20 : k0_chk20 v3352_r0), 16 ∣ (k0_mult143 v3352_r0).toNat := fun v3352_r0 k0_hw20 => k0_hw20.1.2.2.2.2.2.2.2.2.2.2.2.2.2.2.2.2.1
theorem k0_mult144_dvd : ∀ (v3352_r0 : BitVec 32) (k0_hw20 : k0_chk20 v3352_r0), 16 ∣ (k0_mult144 v3352_r0).toNat := fun v3352_r0 k0_hw20 => k0_hw20.1.2.2.2.2.2.2.2.2.2.2.2.2.2.2.2.2.2.1
theorem k0_mult145_dvd : ∀ (v3352_r0 : BitVec 32) (k0_hw20 : k0_chk20 v3352_r0), 16 ∣ (k0_mult145 v3352_r0).toNat := fun v3352_r0 k0_hw20 => k0_hw20.1.2.2.2.2.2.2.2.2.2.2.2.2.2.2.2.2.2.2.1
theorem k0_mult146_dvd : ∀ (v3352_r0 : BitVec 32) (k0_hw20 : k0_chk20 v3352_r0), 16 ∣ (k0_mult146 v3352_r0).toNat := fun v3352_r0 k0_hw20 => k0_hw20.1.2.2.2.2.2.2.2.2.2.2.2.2.2.2.2.2.2.2.2.1
theorem k0_mult147_dvd : ∀ (v3352_r0 : BitVec 32) (k0_hw20 : k0_chk20 v3352_r0), 16 ∣ (k0_mult147 v3352_r0).toNat := fun v3352_r0 k0_hw20 => k0_hw20.1.2.2.2.2.2.2.2.2.2.2.2.2.2.2.2.2.2.2.2.2.1
theorem k0_mult148_dvd : ∀ (v3352_r0 : BitVec 32) (k0_hw20 : k0_chk20 v3352_r0), 16 ∣ (k0_mult148 v3352_r0).toNat := fun v3352_r0 k0_hw20 => k0_hw20.1.2.2.2.2.2.2.2.2.2.2.2.2.2.2.2.2.2.2.2.2.2.1
theorem k0_mult149_dvd : ∀ (v3352_r0 : BitVec 32) (k0_hw20 : k0_chk20 v3352_r0), 16 ∣ (k0_mult149 v3352_r0).toNat := fun v3352_r0 k0_hw20 => k0_hw20.1.2.2.2.2.2.2.2.2.2.2.2.2.2.2.2.2.2.2.2.2.2.2.1
theorem k0_mult150_dvd : ∀ (v3352_r0 : BitVec 32) (k0_hw20 : k0_chk20 v3352_r0), 16 ∣ (k0_mult150 v3352_r0).toNat := fun v3352_r0 k0_hw20 => k0_hw20.1.2.2.2.2.2.2.2.2.2.2.2.2.2.2.2.2.2.2.2.2.2.2.2.1
theorem k0_mult151_dvd : ∀ (v3352_r0 : BitVec 32) (k0_hw20 : k0_chk20 v3352_r0), 16 ∣ (k0_mult151 v3352_r0).toNat := fun v3352_r0 k0_hw20 => k0_hw20.1.2.2.2.2.2.2.2.2.2.2.2.2.2.2.2.2.2.2.2.2.2.2.2.2.1
theorem k0_mult152_dvd : ∀ (v3352_r0 : BitVec 32) (k0_hw20 : k0_chk20 v3352_r0), 16 ∣ (k0_mult152 v3352_r0).toNat := fun v3352_r0 k0_hw20 => k0_hw20.1.2.2.2.2.2.2.2.2.2.2.2.2.2.2.2.2.2.2.2.2.2.2.2.2.2.1
theorem k0_mult153_dvd : ∀ (v3352_r0 : BitVec 32) (k0_hw20 : k0_chk20 v3352_r0), 16 ∣ (k0_mult153 v3352_r0).toNat := fun v3352_r0 k0_hw20 => k0_hw20.1.2.2.2.2.2.2.2.2.2.2.2.2.2.2.2.2.2.2.2.2.2.2.2.2.2.2.1
theorem k0_mult154_dvd : ∀ (v3352_r0 : BitVec 32) (k0_hw20 : k0_chk20 v3352_r0), 16 ∣ (k0_mult154 v3352_r0).toNat := fun v3352_r0 k0_hw20 => k0_hw20.1.2.2.2.2.2.2.2.2.2.2.2.2.2.2.2.2.2.2.2.2.2.2.2.2.2.2.2.1
theorem k0_mult155_dvd : ∀ (v3352_r0 : BitVec 32) (k0_hw20 : k0_chk20 v3352_r0), 16 ∣ (k0_mult155 v3352_r0).toNat := fun v3352_r0 k0_hw20 => k0_hw20.1.2.2.2.2.2.2.2.2.2.2.2.2.2.2.2.2.2.2.2.2.2.2.2.2.2.2.2.2.1
theorem k0_mult156_dvd : ∀ (v3352_r0 : BitVec 32) (k0_hw20 : k0_chk20 v3352_r0), 16 ∣ (k0_mult156 v3352_r0).toNat := fun v3352_r0 k0_hw20 => k0_hw20.1.2.2.2.2.2.2.2.2.2.2.2.2.2.2.2.2.2.2.2.2.2.2.2.2.2.2.2.2.2.1
theorem k0_mult157_dvd : ∀ (v3352_r0 : BitVec 32) (k0_hw20 : k0_chk20 v3352_r0), 16 ∣ (k0_mult157 v3352_r0).toNat := fun v3352_r0 k0_hw20 => k0_hw20.1.2.2.2.2.2.2.2.2.2.2.2.2.2.2.2.2.2.2.2.2.2.2.2.2.2.2.2.2.2.2.1
theorem k0_mult158_dvd : ∀ (v3352_r0 : BitVec 32) (k0_hw20 : k0_chk20 v3352_r0), 16 ∣ (k0_mult158 v3352_r0).toNat := fun v3352_r0 k0_hw20 => k0_hw20.1.2.2.2.2.2.2.2.2.2.2.2.2.2.2.2.2.2.2.2.2.2.2.2.2.2.2.2.2.2.2.2
theorem k0_mult159_dvd : ∀ (v3352_r0 : BitVec 32) (k0_hw20 : k0_chk20 v3352_r0), 16 ∣ (k0_mult159 v3352_r0).toNat := fun v3352_r0 k0_hw20 => k0_hw20.2.1.1
theorem k0_mult160_dvd : ∀ (v3352_r0 : BitVec 32) (k0_hw20 : k0_chk20 v3352_r0), 16 ∣ (k0_mult160 v3352_r0).toNat := fun v3352_r0 k0_hw20 => k0_hw20.2.1.2.1
theorem k0_mult161_dvd : ∀ (v3352_r0 : BitVec 32) (k0_hw20 : k0_chk20 v3352_r0), 16 ∣ (k0_mult161 v3352_r0).toNat := fun v3352_r0 k0_hw20 => k0_hw20.2.1.2.2.1
theorem k0_mult162_dvd : ∀ (v3352_r0 : BitVec 32) (k0_hw20 : k0_chk20 v3352_r0), 16 ∣ (k0_mult162 v3352_r0).toNat := fun v3352_r0 k0_hw20 => k0_hw20.2.1.2.2.2.1
theorem k0_mult163_dvd : ∀ (v3352_r0 : BitVec 32) (k0_hw20 : k0_chk20 v3352_r0), 16 ∣ (k0_mult163 v3352_r0).toNat := fun v3352_r0 k0_hw20 => k0_hw20.2.1.2.2.2.2.1
theorem k0_mult164_dvd : ∀ (v3352_r0 : BitVec 32) (k0_hw20 : k0_chk20 v3352_r0), 16 ∣ (k0_mult164 v3352_r0).toNat := fun v3352_r0 k0_hw20 => k0_hw20.2.1.2.2.2.2.2.1
theorem k0_mult165_dvd : ∀ (v3352_r0 : BitVec 32) (k0_hw20 : k0_chk20 v3352_r0), 16 ∣ (k0_mult165 v3352_r0).toNat := fun v3352_r0 k0_hw20 => k0_hw20.2.1.2.2.2.2.2.2.1
theorem k0_mult166_dvd : ∀ (v3352_r0 : BitVec 32) (k0_hw20 : k0_chk20 v3352_r0), 16 ∣ (k0_mult166 v3352_r0).toNat := fun v3352_r0 k0_hw20 => k0_hw20.2.1.2.2.2.2.2.2.2.1
theorem k0_mult167_dvd : ∀ (v3352_r0 : BitVec 32) (k0_hw20 : k0_chk20 v3352_r0), 16 ∣ (k0_mult167 v3352_r0).toNat := fun v3352_r0 k0_hw20 => k0_hw20.2.1.2.2.2.2.2.2.2.2.1
theorem k0_mult168_dvd : ∀ (v3352_r0 : BitVec 32) (k0_hw20 : k0_chk20 v3352_r0), 16 ∣ (k0_mult168 v3352_r0).toNat := fun v3352_r0 k0_hw20 => k0_hw20.2.1.2.2.2.2.2.2.2.2.2.1
theorem k0_off92_inb : ∀ (v3352_r0 : BitVec 32) (k0_hw20 : k0_chk20 v3352_r0), ∀ (r : Fin 8), ∀ a, (k0_off92 v3352_r0 (BitVec.ofNat 32 (16 * r.val))) a + S16x128.size a ≤ S6144x2048.size a := fun v3352_r0 k0_hw20 r => k0_hw20.2.1.2.2.2.2.2.2.2.2.2.2.1 r
theorem k0_off92_packedbf16 : ∀ (v3352_r0 : BitVec 32) (k0_hw20 : k0_chk20 v3352_r0), ∀ (r : Fin 8), (Rect.unit (s := S6144x2048) (k0_off92 v3352_r0 (BitVec.ofNat 32 (16 * r.val))) S16x128.size (k0_off92_inb v3352_r0 k0_hw20 r)).PackedRows (EltTy.packing .bf16) := fun v3352_r0 k0_hw20 r => k0_hw20.2.1.2.2.2.2.2.2.2.2.2.2.2.1 r (k0_off92_inb v3352_r0 k0_hw20 r)
theorem k0_mult169_dvd : ∀ (v3352_r0 : BitVec 32) (k0_hw20 : k0_chk20 v3352_r0), 16 ∣ (k0_mult169 v3352_r0).toNat := fun v3352_r0 k0_hw20 => k0_hw20.2.1.2.2.2.2.2.2.2.2.2.2.2.2.1
theorem k0_off93_inb : ∀ (v3352_r0 : BitVec 32) (k0_hw20 : k0_chk20 v3352_r0), ∀ (r : Fin 8), ∀ a, (k0_off93 v3352_r0 (BitVec.ofNat 32 (16 * r.val))) a + S16x128.size a ≤ S6144x2048.size a := fun v3352_r0 k0_hw20 r => k0_hw20.2.1.2.2.2.2.2.2.2.2.2.2.2.2.2.1 r
theorem k0_off93_packedbf16 : ∀ (v3352_r0 : BitVec 32) (k0_hw20 : k0_chk20 v3352_r0), ∀ (r : Fin 8), (Rect.unit (s := S6144x2048) (k0_off93 v3352_r0 (BitVec.ofNat 32 (16 * r.val))) S16x128.size (k0_off93_inb v3352_r0 k0_hw20 r)).PackedRows (EltTy.packing .bf16) := fun v3352_r0 k0_hw20 r => k0_hw20.2.1.2.2.2.2.2.2.2.2.2.2.2.2.2.2.1 r (k0_off93_inb v3352_r0 k0_hw20 r)
theorem k0_mult170_dvd : ∀ (v3352_r0 : BitVec 32) (k0_hw20 : k0_chk20 v3352_r0), 16 ∣ (k0_mult170 v3352_r0).toNat := fun v3352_r0 k0_hw20 => k0_hw20.2.1.2.2.2.2.2.2.2.2.2.2.2.2.2.2.2.1
theorem k0_mult171_dvd : ∀ (v3352_r0 : BitVec 32) (k0_hw20 : k0_chk20 v3352_r0), 16 ∣ (k0_mult171 v3352_r0).toNat := fun v3352_r0 k0_hw20 => k0_hw20.2.1.2.2.2.2.2.2.2.2.2.2.2.2.2.2.2.2.1
theorem k0_mult172_dvd : ∀ (v3352_r0 : BitVec 32) (k0_hw20 : k0_chk20 v3352_r0), 16 ∣ (k0_mult172 v3352_r0).toNat := fun v3352_r0 k0_hw20 => k0_hw20.2.1.2.2.2.2.2.2.2.2.2.2.2.2.2.2.2.2.2.1
theorem k0_off94_inb : ∀ (v3352_r0 : BitVec 32) (k0_hw20 : k0_chk20 v3352_r0), ∀ (r : Fin 8), ∀ a, (k0_off94 v3352_r0 (BitVec.ofNat 32 (16 * r.val))) a + S16x128.size a ≤ S6144x2048.size a := fun v3352_r0 k0_hw20 r => k0_hw20.2.1.2.2.2.2.2.2.2.2.2.2.2.2.2.2.2.2.2.2.1 r
theorem k0_off94_packedbf16 : ∀ (v3352_r0 : BitVec 32) (k0_hw20 : k0_chk20 v3352_r0), ∀ (r : Fin 8), (Rect.unit (s := S6144x2048) (k0_off94 v3352_r0 (BitVec.ofNat 32 (16 * r.val))) S16x128.size (k0_off94_inb v3352_r0 k0_hw20 r)).PackedRows (EltTy.packing .bf16) := fun v3352_r0 k0_hw20 r => k0_hw20.2.1.2.2.2.2.2.2.2.2.2.2.2.2.2.2.2.2.2.2.2.1 r (k0_off94_inb v3352_r0 k0_hw20 r)
theorem k0_mult173_dvd : ∀ (v3352_r0 : BitVec 32) (k0_hw20 : k0_chk20 v3352_r0), 16 ∣ (k0_mult173 v3352_r0).toNat := fun v3352_r0 k0_hw20 => k0_hw20.2.1.2.2.2.2.2.2.2.2.2.2.2.2.2.2.2.2.2.2.2.2.1
theorem k0_off95_inb : ∀ (v3352_r0 : BitVec 32) (k0_hw20 : k0_chk20 v3352_r0), ∀ (r : Fin 8), ∀ a, (k0_off95 v3352_r0 (BitVec.ofNat 32 (16 * r.val))) a + S16x128.size a ≤ S6144x2048.size a := fun v3352_r0 k0_hw20 r => k0_hw20.2.1.2.2.2.2.2.2.2.2.2.2.2.2.2.2.2.2.2.2.2.2.2.1 r
theorem k0_off95_packedbf16 : ∀ (v3352_r0 : BitVec 32) (k0_hw20 : k0_chk20 v3352_r0), ∀ (r : Fin 8), (Rect.unit (s := S6144x2048) (k0_off95 v3352_r0 (BitVec.ofNat 32 (16 * r.val))) S16x128.size (k0_off95_inb v3352_r0 k0_hw20 r)).PackedRows (EltTy.packing .bf16) := fun v3352_r0 k0_hw20 r => k0_hw20.2.1.2.2.2.2.2.2.2.2.2.2.2.2.2.2.2.2.2.2.2.2.2.2.1 r (k0_off95_inb v3352_r0 k0_hw20 r)
theorem k0_mult174_dvd : ∀ (v3352_r0 : BitVec 32) (k0_hw20 : k0_chk20 v3352_r0), 16 ∣ (k0_mult174 v3352_r0).toNat := fun v3352_r0 k0_hw20 => k0_hw20.2.1.2.2.2.2.2.2.2.2.2.2.2.2.2.2.2.2.2.2.2.2.2.2.2.1
theorem k0_mult175_dvd : ∀ (v3352_r0 : BitVec 32) (k0_hw20 : k0_chk20 v3352_r0), 16 ∣ (k0_mult175 v3352_r0).toNat := fun v3352_r0 k0_hw20 => k0_hw20.2.1.2.2.2.2.2.2.2.2.2.2.2.2.2.2.2.2.2.2.2.2.2.2.2.2.1
theorem k0_mult176_dvd : ∀ (v3352_r0 : BitVec 32) (k0_hw20 : k0_chk20 v3352_r0), 16 ∣ (k0_mult176 v3352_r0).toNat := fun v3352_r0 k0_hw20 => k0_hw20.2.1.2.2.2.2.2.2.2.2.2.2.2.2.2.2.2.2.2.2.2.2.2.2.2.2.2.1
theorem k0_mult177_dvd : ∀ (v3352_r0 : BitVec 32) (k0_hw20 : k0_chk20 v3352_r0), 16 ∣ (k0_mult177 v3352_r0).toNat := fun v3352_r0 k0_hw20 => k0_hw20.2.1.2.2.2.2.2.2.2.2.2.2.2.2.2.2.2.2.2.2.2.2.2.2.2.2.2.2.1
theorem k0_mult178_dvd : ∀ (v3352_r0 : BitVec 32) (k0_hw20 : k0_chk20 v3352_r0), 16 ∣ (k0_mult178 v3352_r0).toNat := fun v3352_r0 k0_hw20 => k0_hw20.2.1.2.2.2.2.2.2.2.2.2.2.2.2.2.2.2.2.2.2.2.2.2.2.2.2.2.2.2.1
theorem k0_mult179_dvd : ∀ (v3352_r0 : BitVec 32) (k0_hw20 : k0_chk20 v3352_r0), 16 ∣ (k0_mult179 v3352_r0).toNat := fun v3352_r0 k0_hw20 => k0_hw20.2.1.2.2.2.2.2.2.2.2.2.2.2.2.2.2.2.2.2.2.2.2.2.2.2.2.2.2.2.2.1
theorem k0_mult180_dvd : ∀ (v3352_r0 : BitVec 32) (k0_hw20 : k0_chk20 v3352_r0), 16 ∣ (k0_mult180 v3352_r0).toNat := fun v3352_r0 k0_hw20 => k0_hw20.2.1.2.2.2.2.2.2.2.2.2.2.2.2.2.2.2.2.2.2.2.2.2.2.2.2.2.2.2.2.2.1
theorem k0_mult181_dvd : ∀ (v3352_r0 : BitVec 32) (k0_hw20 : k0_chk20 v3352_r0), 16 ∣ (k0_mult181 v3352_r0).toNat := fun v3352_r0 k0_hw20 => k0_hw20.2.1.2.2.2.2.2.2.2.2.2.2.2.2.2.2.2.2.2.2.2.2.2.2.2.2.2.2.2.2.2.2.1
theorem k0_mult182_dvd : ∀ (v3352_r0 : BitVec 32) (k0_hw20 : k0_chk20 v3352_r0), 16 ∣ (k0_mult182 v3352_r0).toNat := fun v3352_r0 k0_hw20 => k0_hw20.2.1.2.2.2.2.2.2.2.2.2.2.2.2.2.2.2.2.2.2.2.2.2.2.2.2.2.2.2.2.2.2.2
theorem k0_mult183_dvd : ∀ (v3352_r0 : BitVec 32) (k0_hw20 : k0_chk20 v3352_r0), 16 ∣ (k0_mult183 v3352_r0).toNat := fun v3352_r0 k0_hw20 => k0_hw20.2.2.1.1
theorem k0_mult184_dvd : ∀ (v3352_r0 : BitVec 32) (k0_hw20 : k0_chk20 v3352_r0), 16 ∣ (k0_mult184 v3352_r0).toNat := fun v3352_r0 k0_hw20 => k0_hw20.2.2.1.2.1
theorem k0_mult185_dvd : ∀ (v3352_r0 : BitVec 32) (k0_hw20 : k0_chk20 v3352_r0), 16 ∣ (k0_mult185 v3352_r0).toNat := fun v3352_r0 k0_hw20 => k0_hw20.2.2.1.2.2.1
theorem k0_mult186_dvd : ∀ (v3352_r0 : BitVec 32) (k0_hw20 : k0_chk20 v3352_r0), 16 ∣ (k0_mult186 v3352_r0).toNat := fun v3352_r0 k0_hw20 => k0_hw20.2.2.1.2.2.2.1
theorem k0_mult187_dvd : ∀ (v3352_r0 : BitVec 32) (k0_hw20 : k0_chk20 v3352_r0), 16 ∣ (k0_mult187 v3352_r0).toNat := fun v3352_r0 k0_hw20 => k0_hw20.2.2.1.2.2.2.2.1
theorem k0_mult188_dvd : ∀ (v3352_r0 : BitVec 32) (k0_hw20 : k0_chk20 v3352_r0), 16 ∣ (k0_mult188 v3352_r0).toNat := fun v3352_r0 k0_hw20 => k0_hw20.2.2.1.2.2.2.2.2.1
theorem k0_mult189_dvd : ∀ (v3352_r0 : BitVec 32) (k0_hw20 : k0_chk20 v3352_r0), 16 ∣ (k0_mult189 v3352_r0).toNat := fun v3352_r0 k0_hw20 => k0_hw20.2.2.1.2.2.2.2.2.2.1
theorem k0_mult190_dvd : ∀ (v3352_r0 : BitVec 32) (k0_hw20 : k0_chk20 v3352_r0), 16 ∣ (k0_mult190 v3352_r0).toNat := fun v3352_r0 k0_hw20 => k0_hw20.2.2.1.2.2.2.2.2.2.2.1
theorem k0_mult191_dvd : ∀ (v3352_r0 : BitVec 32) (k0_hw20 : k0_chk20 v3352_r0), 16 ∣ (k0_mult191 v3352_r0).toNat := fun v3352_r0 k0_hw20 => k0_hw20.2.2.1.2.2.2.2.2.2.2.2.1
theorem k0_mult192_dvd : ∀ (v3352_r0 : BitVec 32) (k0_hw20 : k0_chk20 v3352_r0), 16 ∣ (k0_mult192 v3352_r0).toNat := fun v3352_r0 k0_hw20 => k0_hw20.2.2.1.2.2.2.2.2.2.2.2.2.1
theorem k0_mult193_dvd : ∀ (v3352_r0 : BitVec 32) (k0_hw20 : k0_chk20 v3352_r0), 16 ∣ (k0_mult193 v3352_r0).toNat := fun v3352_r0 k0_hw20 => k0_hw20.2.2.1.2.2.2.2.2.2.2.2.2.2.1
theorem k0_mult194_dvd : ∀ (v3352_r0 : BitVec 32) (k0_hw20 : k0_chk20 v3352_r0), 16 ∣ (k0_mult194 v3352_r0).toNat := fun v3352_r0 k0_hw20 => k0_hw20.2.2.1.2.2.2.2.2.2.2.2.2.2.2.1
theorem k0_mult195_dvd : ∀ (v3352_r0 : BitVec 32) (k0_hw20 : k0_chk20 v3352_r0), 16 ∣ (k0_mult195 v3352_r0).toNat := fun v3352_r0 k0_hw20 => k0_hw20.2.2.1.2.2.2.2.2.2.2.2.2.2.2.2.1
theorem k0_mult196_dvd : ∀ (v3352_r0 : BitVec 32) (k0_hw20 : k0_chk20 v3352_r0), 16 ∣ (k0_mult196 v3352_r0).toNat := fun v3352_r0 k0_hw20 => k0_hw20.2.2.1.2.2.2.2.2.2.2.2.2.2.2.2.2.1
theorem k0_mult197_dvd : ∀ (v3352_r0 : BitVec 32) (k0_hw20 : k0_chk20 v3352_r0), 16 ∣ (k0_mult197 v3352_r0).toNat := fun v3352_r0 k0_hw20 => k0_hw20.2.2.1.2.2.2.2.2.2.2.2.2.2.2.2.2.2.1
theorem k0_mult198_dvd : ∀ (v3352_r0 : BitVec 32) (k0_hw20 : k0_chk20 v3352_r0), 16 ∣ (k0_mult198 v3352_r0).toNat := fun v3352_r0 k0_hw20 => k0_hw20.2.2.1.2.2.2.2.2.2.2.2.2.2.2.2.2.2.2.1
theorem k0_mult199_dvd : ∀ (v3352_r0 : BitVec 32) (k0_hw20 : k0_chk20 v3352_r0), 16 ∣ (k0_mult199 v3352_r0).toNat := fun v3352_r0 k0_hw20 => k0_hw20.2.2.1.2.2.2.2.2.2.2.2.2.2.2.2.2.2.2.2.1
theorem k0_mult200_dvd : ∀ (v3352_r0 : BitVec 32) (k0_hw20 : k0_chk20 v3352_r0), 16 ∣ (k0_mult200 v3352_r0).toNat := fun v3352_r0 k0_hw20 => k0_hw20.2.2.1.2.2.2.2.2.2.2.2.2.2.2.2.2.2.2.2.2.1
theorem k0_off96_inb : ∀ (v3352_r0 : BitVec 32) (k0_hw20 : k0_chk20 v3352_r0), ∀ (r : Fin 8), ∀ a, (k0_off96 v3352_r0 (BitVec.ofNat 32 (16 * r.val))) a + S16x128.size a ≤ S6144x2048.size a := fun v3352_r0 k0_hw20 r => k0_hw20.2.2.1.2.2.2.2.2.2.2.2.2.2.2.2.2.2.2.2.2.2.1 r
theorem k0_off96_packedbf16 : ∀ (v3352_r0 : BitVec 32) (k0_hw20 : k0_chk20 v3352_r0), ∀ (r : Fin 8), (Rect.unit (s := S6144x2048) (k0_off96 v3352_r0 (BitVec.ofNat 32 (16 * r.val))) S16x128.size (k0_off96_inb v3352_r0 k0_hw20 r)).PackedRows (EltTy.packing .bf16) := fun v3352_r0 k0_hw20 r => k0_hw20.2.2.1.2.2.2.2.2.2.2.2.2.2.2.2.2.2.2.2.2.2.2.1 r (k0_off96_inb v3352_r0 k0_hw20 r)
theorem k0_mult201_dvd : ∀ (v3352_r0 : BitVec 32) (k0_hw20 : k0_chk20 v3352_r0), 16 ∣ (k0_mult201 v3352_r0).toNat := fun v3352_r0 k0_hw20 => k0_hw20.2.2.1.2.2.2.2.2.2.2.2.2.2.2.2.2.2.2.2.2.2.2.2.1
theorem k0_off97_inb : ∀ (v3352_r0 : BitVec 32) (k0_hw20 : k0_chk20 v3352_r0), ∀ (r : Fin 8), ∀ a, (k0_off97 v3352_r0 (BitVec.ofNat 32 (16 * r.val))) a + S16x128.size a ≤ S6144x2048.size a := fun v3352_r0 k0_hw20 r => k0_hw20.2.2.1.2.2.2.2.2.2.2.2.2.2.2.2.2.2.2.2.2.2.2.2.2.1 r
theorem k0_off97_packedbf16 : ∀ (v3352_r0 : BitVec 32) (k0_hw20 : k0_chk20 v3352_r0), ∀ (r : Fin 8), (Rect.unit (s := S6144x2048) (k0_off97 v3352_r0 (BitVec.ofNat 32 (16 * r.val))) S16x128.size (k0_off97_inb v3352_r0 k0_hw20 r)).PackedRows (EltTy.packing .bf16) := fun v3352_r0 k0_hw20 r => k0_hw20.2.2.1.2.2.2.2.2.2.2.2.2.2.2.2.2.2.2.2.2.2.2.2.2.2.1 r (k0_off97_inb v3352_r0 k0_hw20 r)
theorem k0_mult202_dvd : ∀ (v3352_r0 : BitVec 32) (k0_hw20 : k0_chk20 v3352_r0), 16 ∣ (k0_mult202 v3352_r0).toNat := fun v3352_r0 k0_hw20 => k0_hw20.2.2.1.2.2.2.2.2.2.2.2.2.2.2.2.2.2.2.2.2.2.2.2.2.2.2.1
theorem k0_mult203_dvd : ∀ (v3352_r0 : BitVec 32) (k0_hw20 : k0_chk20 v3352_r0), 16 ∣ (k0_mult203 v3352_r0).toNat := fun v3352_r0 k0_hw20 => k0_hw20.2.2.1.2.2.2.2.2.2.2.2.2.2.2.2.2.2.2.2.2.2.2.2.2.2.2.2.1
theorem k0_mult204_dvd : ∀ (v3352_r0 : BitVec 32) (k0_hw20 : k0_chk20 v3352_r0), 16 ∣ (k0_mult204 v3352_r0).toNat := fun v3352_r0 k0_hw20 => k0_hw20.2.2.1.2.2.2.2.2.2.2.2.2.2.2.2.2.2.2.2.2.2.2.2.2.2.2.2.2.1
theorem k0_off98_inb : ∀ (v3352_r0 : BitVec 32) (k0_hw20 : k0_chk20 v3352_r0), ∀ (r : Fin 8), ∀ a, (k0_off98 v3352_r0 (BitVec.ofNat 32 (16 * r.val))) a + S16x128.size a ≤ S6144x2048.size a := fun v3352_r0 k0_hw20 r => k0_hw20.2.2.1.2.2.2.2.2.2.2.2.2.2.2.2.2.2.2.2.2.2.2.2.2.2.2.2.2.2.1 r
theorem k0_off98_packedbf16 : ∀ (v3352_r0 : BitVec 32) (k0_hw20 : k0_chk20 v3352_r0), ∀ (r : Fin 8), (Rect.unit (s := S6144x2048) (k0_off98 v3352_r0 (BitVec.ofNat 32 (16 * r.val))) S16x128.size (k0_off98_inb v3352_r0 k0_hw20 r)).PackedRows (EltTy.packing .bf16) := fun v3352_r0 k0_hw20 r => k0_hw20.2.2.1.2.2.2.2.2.2.2.2.2.2.2.2.2.2.2.2.2.2.2.2.2.2.2.2.2.2.2.1 r (k0_off98_inb v3352_r0 k0_hw20 r)
theorem k0_mult205_dvd : ∀ (v3352_r0 : BitVec 32) (k0_hw20 : k0_chk20 v3352_r0), 16 ∣ (k0_mult205 v3352_r0).toNat := fun v3352_r0 k0_hw20 => k0_hw20.2.2.1.2.2.2.2.2.2.2.2.2.2.2.2.2.2.2.2.2.2.2.2.2.2.2.2.2.2.2.2.1
theorem k0_off99_inb : ∀ (v3352_r0 : BitVec 32) (k0_hw20 : k0_chk20 v3352_r0), ∀ (r : Fin 8), ∀ a, (k0_off99 v3352_r0 (BitVec.ofNat 32 (16 * r.val))) a + S16x128.size a ≤ S6144x2048.size a := fun v3352_r0 k0_hw20 r => k0_hw20.2.2.1.2.2.2.2.2.2.2.2.2.2.2.2.2.2.2.2.2.2.2.2.2.2.2.2.2.2.2.2.2.1 r
theorem k0_off99_packedbf16 : ∀ (v3352_r0 : BitVec 32) (k0_hw20 : k0_chk20 v3352_r0), ∀ (r : Fin 8), (Rect.unit (s := S6144x2048) (k0_off99 v3352_r0 (BitVec.ofNat 32 (16 * r.val))) S16x128.size (k0_off99_inb v3352_r0 k0_hw20 r)).PackedRows (EltTy.packing .bf16) := fun v3352_r0 k0_hw20 r => k0_hw20.2.2.1.2.2.2.2.2.2.2.2.2.2.2.2.2.2.2.2.2.2.2.2.2.2.2.2.2.2.2.2.2.2.1 r (k0_off99_inb v3352_r0 k0_hw20 r)
theorem k0_mult206_dvd : ∀ (v3352_r0 : BitVec 32) (k0_hw20 : k0_chk20 v3352_r0), 16 ∣ (k0_mult206 v3352_r0).toNat := fun v3352_r0 k0_hw20 => k0_hw20.2.2.1.2.2.2.2.2.2.2.2.2.2.2.2.2.2.2.2.2.2.2.2.2.2.2.2.2.2.2.2.2.2.2
theorem k0_mult207_dvd : ∀ (v3352_r0 : BitVec 32) (k0_hw20 : k0_chk20 v3352_r0), 16 ∣ (k0_mult207 v3352_r0).toNat := fun v3352_r0 k0_hw20 => k0_hw20.2.2.2.1.1
theorem k0_mult208_dvd : ∀ (v3352_r0 : BitVec 32) (k0_hw20 : k0_chk20 v3352_r0), 16 ∣ (k0_mult208 v3352_r0).toNat := fun v3352_r0 k0_hw20 => k0_hw20.2.2.2.1.2.1
theorem k0_mult209_dvd : ∀ (v3352_r0 : BitVec 32) (k0_hw20 : k0_chk20 v3352_r0), 16 ∣ (k0_mult209 v3352_r0).toNat := fun v3352_r0 k0_hw20 => k0_hw20.2.2.2.1.2.2.1
theorem k0_mult210_dvd : ∀ (v3352_r0 : BitVec 32) (k0_hw20 : k0_chk20 v3352_r0), 16 ∣ (k0_mult210 v3352_r0).toNat := fun v3352_r0 k0_hw20 => k0_hw20.2.2.2.1.2.2.2.1
theorem k0_mult211_dvd : ∀ (v3352_r0 : BitVec 32) (k0_hw20 : k0_chk20 v3352_r0), 16 ∣ (k0_mult211 v3352_r0).toNat := fun v3352_r0 k0_hw20 => k0_hw20.2.2.2.1.2.2.2.2.1
theorem k0_mult212_dvd : ∀ (v3352_r0 : BitVec 32) (k0_hw20 : k0_chk20 v3352_r0), 16 ∣ (k0_mult212 v3352_r0).toNat := fun v3352_r0 k0_hw20 => k0_hw20.2.2.2.1.2.2.2.2.2.1
theorem k0_mult213_dvd : ∀ (v3352_r0 : BitVec 32) (k0_hw20 : k0_chk20 v3352_r0), 16 ∣ (k0_mult213 v3352_r0).toNat := fun v3352_r0 k0_hw20 => k0_hw20.2.2.2.1.2.2.2.2.2.2.1
theorem k0_mult214_dvd : ∀ (v3352_r0 : BitVec 32) (k0_hw20 : k0_chk20 v3352_r0), 16 ∣ (k0_mult214 v3352_r0).toNat := fun v3352_r0 k0_hw20 => k0_hw20.2.2.2.1.2.2.2.2.2.2.2.1
theorem k0_mult215_dvd : ∀ (v3352_r0 : BitVec 32) (k0_hw20 : k0_chk20 v3352_r0), 16 ∣ (k0_mult215 v3352_r0).toNat := fun v3352_r0 k0_hw20 => k0_hw20.2.2.2.1.2.2.2.2.2.2.2.2.1
theorem k0_mult216_dvd : ∀ (v3352_r0 : BitVec 32) (k0_hw20 : k0_chk20 v3352_r0), 16 ∣ (k0_mult216 v3352_r0).toNat := fun v3352_r0 k0_hw20 => k0_hw20.2.2.2.1.2.2.2.2.2.2.2.2.2.1
theorem k0_mult217_dvd : ∀ (v3352_r0 : BitVec 32) (k0_hw20 : k0_chk20 v3352_r0), 16 ∣ (k0_mult217 v3352_r0).toNat := fun v3352_r0 k0_hw20 => k0_hw20.2.2.2.1.2.2.2.2.2.2.2.2.2.2.1
theorem k0_mult218_dvd : ∀ (v3352_r0 : BitVec 32) (k0_hw20 : k0_chk20 v3352_r0), 16 ∣ (k0_mult218 v3352_r0).toNat := fun v3352_r0 k0_hw20 => k0_hw20.2.2.2.1.2.2.2.2.2.2.2.2.2.2.2.1
theorem k0_mult219_dvd : ∀ (v3352_r0 : BitVec 32) (k0_hw20 : k0_chk20 v3352_r0), 16 ∣ (k0_mult219 v3352_r0).toNat := fun v3352_r0 k0_hw20 => k0_hw20.2.2.2.1.2.2.2.2.2.2.2.2.2.2.2.2.1
theorem k0_mult220_dvd : ∀ (v3352_r0 : BitVec 32) (k0_hw20 : k0_chk20 v3352_r0), 16 ∣ (k0_mult220 v3352_r0).toNat := fun v3352_r0 k0_hw20 => k0_hw20.2.2.2.1.2.2.2.2.2.2.2.2.2.2.2.2.2.1
theorem k0_mult221_dvd : ∀ (v3352_r0 : BitVec 32) (k0_hw20 : k0_chk20 v3352_r0), 16 ∣ (k0_mult221 v3352_r0).toNat := fun v3352_r0 k0_hw20 => k0_hw20.2.2.2.1.2.2.2.2.2.2.2.2.2.2.2.2.2.2.1
theorem k0_mult222_dvd : ∀ (v3352_r0 : BitVec 32) (k0_hw20 : k0_chk20 v3352_r0), 16 ∣ (k0_mult222 v3352_r0).toNat := fun v3352_r0 k0_hw20 => k0_hw20.2.2.2.1.2.2.2.2.2.2.2.2.2.2.2.2.2.2.2.1
theorem k0_mult223_dvd : ∀ (v3352_r0 : BitVec 32) (k0_hw20 : k0_chk20 v3352_r0), 16 ∣ (k0_mult223 v3352_r0).toNat := fun v3352_r0 k0_hw20 => k0_hw20.2.2.2.1.2.2.2.2.2.2.2.2.2.2.2.2.2.2.2.2.1
theorem k0_mult224_dvd : ∀ (v3352_r0 : BitVec 32) (k0_hw20 : k0_chk20 v3352_r0), 16 ∣ (k0_mult224 v3352_r0).toNat := fun v3352_r0 k0_hw20 => k0_hw20.2.2.2.1.2.2.2.2.2.2.2.2.2.2.2.2.2.2.2.2.2.1
theorem k0_mult225_dvd : ∀ (v3352_r0 : BitVec 32) (k0_hw20 : k0_chk20 v3352_r0), 16 ∣ (k0_mult225 v3352_r0).toNat := fun v3352_r0 k0_hw20 => k0_hw20.2.2.2.1.2.2.2.2.2.2.2.2.2.2.2.2.2.2.2.2.2.2.1
theorem k0_mult226_dvd : ∀ (v3352_r0 : BitVec 32) (k0_hw20 : k0_chk20 v3352_r0), 16 ∣ (k0_mult226 v3352_r0).toNat := fun v3352_r0 k0_hw20 => k0_hw20.2.2.2.1.2.2.2.2.2.2.2.2.2.2.2.2.2.2.2.2.2.2.2.1
theorem k0_mult227_dvd : ∀ (v3352_r0 : BitVec 32) (k0_hw20 : k0_chk20 v3352_r0), 16 ∣ (k0_mult227 v3352_r0).toNat := fun v3352_r0 k0_hw20 => k0_hw20.2.2.2.1.2.2.2.2.2.2.2.2.2.2.2.2.2.2.2.2.2.2.2.2.1
theorem k0_mult228_dvd : ∀ (v3352_r0 : BitVec 32) (k0_hw20 : k0_chk20 v3352_r0), 16 ∣ (k0_mult228 v3352_r0).toNat := fun v3352_r0 k0_hw20 => k0_hw20.2.2.2.1.2.2.2.2.2.2.2.2.2.2.2.2.2.2.2.2.2.2.2.2.2.1
theorem k0_mult229_dvd : ∀ (v3352_r0 : BitVec 32) (k0_hw20 : k0_chk20 v3352_r0), 16 ∣ (k0_mult229 v3352_r0).toNat := fun v3352_r0 k0_hw20 => k0_hw20.2.2.2.1.2.2.2.2.2.2.2.2.2.2.2.2.2.2.2.2.2.2.2.2.2.2.1
theorem k0_mult230_dvd : ∀ (v3352_r0 : BitVec 32) (k0_hw20 : k0_chk20 v3352_r0), 16 ∣ (k0_mult230 v3352_r0).toNat := fun v3352_r0 k0_hw20 => k0_hw20.2.2.2.1.2.2.2.2.2.2.2.2.2.2.2.2.2.2.2.2.2.2.2.2.2.2.2.1
theorem k0_mult231_dvd : ∀ (v3352_r0 : BitVec 32) (k0_hw20 : k0_chk20 v3352_r0), 16 ∣ (k0_mult231 v3352_r0).toNat := fun v3352_r0 k0_hw20 => k0_hw20.2.2.2.1.2.2.2.2.2.2.2.2.2.2.2.2.2.2.2.2.2.2.2.2.2.2.2.2.1
theorem k0_mult232_dvd : ∀ (v3352_r0 : BitVec 32) (k0_hw20 : k0_chk20 v3352_r0), 16 ∣ (k0_mult232 v3352_r0).toNat := fun v3352_r0 k0_hw20 => k0_hw20.2.2.2.1.2.2.2.2.2.2.2.2.2.2.2.2.2.2.2.2.2.2.2.2.2.2.2.2.2.1
theorem k0_off100_inb : ∀ (v3352_r0 : BitVec 32) (k0_hw20 : k0_chk20 v3352_r0), ∀ (r : Fin 8), ∀ a, (k0_off100 v3352_r0 (BitVec.ofNat 32 (16 * r.val))) a + S16x128.size a ≤ S6144x2048.size a := fun v3352_r0 k0_hw20 r => k0_hw20.2.2.2.1.2.2.2.2.2.2.2.2.2.2.2.2.2.2.2.2.2.2.2.2.2.2.2.2.2.2.1 r
theorem k0_off100_packedbf16 : ∀ (v3352_r0 : BitVec 32) (k0_hw20 : k0_chk20 v3352_r0), ∀ (r : Fin 8), (Rect.unit (s := S6144x2048) (k0_off100 v3352_r0 (BitVec.ofNat 32 (16 * r.val))) S16x128.size (k0_off100_inb v3352_r0 k0_hw20 r)).PackedRows (EltTy.packing .bf16) := fun v3352_r0 k0_hw20 r => k0_hw20.2.2.2.1.2.2.2.2.2.2.2.2.2.2.2.2.2.2.2.2.2.2.2.2.2.2.2.2.2.2.2.1 r (k0_off100_inb v3352_r0 k0_hw20 r)
theorem k0_mult233_dvd : ∀ (v3352_r0 : BitVec 32) (k0_hw20 : k0_chk20 v3352_r0), 16 ∣ (k0_mult233 v3352_r0).toNat := fun v3352_r0 k0_hw20 => k0_hw20.2.2.2.1.2.2.2.2.2.2.2.2.2.2.2.2.2.2.2.2.2.2.2.2.2.2.2.2.2.2.2.2.1
theorem k0_off101_inb : ∀ (v3352_r0 : BitVec 32) (k0_hw20 : k0_chk20 v3352_r0), ∀ (r : Fin 8), ∀ a, (k0_off101 v3352_r0 (BitVec.ofNat 32 (16 * r.val))) a + S16x128.size a ≤ S6144x2048.size a := fun v3352_r0 k0_hw20 r => k0_hw20.2.2.2.1.2.2.2.2.2.2.2.2.2.2.2.2.2.2.2.2.2.2.2.2.2.2.2.2.2.2.2.2.2.1 r
theorem k0_off101_packedbf16 : ∀ (v3352_r0 : BitVec 32) (k0_hw20 : k0_chk20 v3352_r0), ∀ (r : Fin 8), (Rect.unit (s := S6144x2048) (k0_off101 v3352_r0 (BitVec.ofNat 32 (16 * r.val))) S16x128.size (k0_off101_inb v3352_r0 k0_hw20 r)).PackedRows (EltTy.packing .bf16) := fun v3352_r0 k0_hw20 r => k0_hw20.2.2.2.1.2.2.2.2.2.2.2.2.2.2.2.2.2.2.2.2.2.2.2.2.2.2.2.2.2.2.2.2.2.2.1 r (k0_off101_inb v3352_r0 k0_hw20 r)
theorem k0_mult234_dvd : ∀ (v3352_r0 : BitVec 32) (k0_hw20 : k0_chk20 v3352_r0), 16 ∣ (k0_mult234 v3352_r0).toNat := fun v3352_r0 k0_hw20 => k0_hw20.2.2.2.1.2.2.2.2.2.2.2.2.2.2.2.2.2.2.2.2.2.2.2.2.2.2.2.2.2.2.2.2.2.2.2
theorem k0_mult235_dvd : ∀ (v3352_r0 : BitVec 32) (k0_hw20 : k0_chk20 v3352_r0), 16 ∣ (k0_mult235 v3352_r0).toNat := fun v3352_r0 k0_hw20 => k0_hw20.2.2.2.2.1.1
theorem k0_mult236_dvd : ∀ (v3352_r0 : BitVec 32) (k0_hw20 : k0_chk20 v3352_r0), 16 ∣ (k0_mult236 v3352_r0).toNat := fun v3352_r0 k0_hw20 => k0_hw20.2.2.2.2.1.2.1
theorem k0_off102_inb : ∀ (v3352_r0 : BitVec 32) (k0_hw20 : k0_chk20 v3352_r0), ∀ (r : Fin 8), ∀ a, (k0_off102 v3352_r0 (BitVec.ofNat 32 (16 * r.val))) a + S16x128.size a ≤ S6144x2048.size a := fun v3352_r0 k0_hw20 r => k0_hw20.2.2.2.2.1.2.2.1 r
theorem k0_off102_packedbf16 : ∀ (v3352_r0 : BitVec 32) (k0_hw20 : k0_chk20 v3352_r0), ∀ (r : Fin 8), (Rect.unit (s := S6144x2048) (k0_off102 v3352_r0 (BitVec.ofNat 32 (16 * r.val))) S16x128.size (k0_off102_inb v3352_r0 k0_hw20 r)).PackedRows (EltTy.packing .bf16) := fun v3352_r0 k0_hw20 r => k0_hw20.2.2.2.2.1.2.2.2.1 r (k0_off102_inb v3352_r0 k0_hw20 r)
theorem k0_mult237_dvd : ∀ (v3352_r0 : BitVec 32) (k0_hw20 : k0_chk20 v3352_r0), 16 ∣ (k0_mult237 v3352_r0).toNat := fun v3352_r0 k0_hw20 => k0_hw20.2.2.2.2.1.2.2.2.2.1
theorem k0_off103_inb : ∀ (v3352_r0 : BitVec 32) (k0_hw20 : k0_chk20 v3352_r0), ∀ (r : Fin 8), ∀ a, (k0_off103 v3352_r0 (BitVec.ofNat 32 (16 * r.val))) a + S16x128.size a ≤ S6144x2048.size a := fun v3352_r0 k0_hw20 r => k0_hw20.2.2.2.2.1.2.2.2.2.2.1 r
theorem k0_off103_packedbf16 : ∀ (v3352_r0 : BitVec 32) (k0_hw20 : k0_chk20 v3352_r0), ∀ (r : Fin 8), (Rect.unit (s := S6144x2048) (k0_off103 v3352_r0 (BitVec.ofNat 32 (16 * r.val))) S16x128.size (k0_off103_inb v3352_r0 k0_hw20 r)).PackedRows (EltTy.packing .bf16) := fun v3352_r0 k0_hw20 r => k0_hw20.2.2.2.2.1.2.2.2.2.2.2.1 r (k0_off103_inb v3352_r0 k0_hw20 r)
theorem k0_mult238_dvd : ∀ (v3352_r0 : BitVec 32) (k0_hw20 : k0_chk20 v3352_r0), 16 ∣ (k0_mult238 v3352_r0).toNat := fun v3352_r0 k0_hw20 => k0_hw20.2.2.2.2.1.2.2.2.2.2.2.2.1
theorem k0_mult239_dvd : ∀ (v3352_r0 : BitVec 32) (k0_hw20 : k0_chk20 v3352_r0), 16 ∣ (k0_mult239 v3352_r0).toNat := fun v3352_r0 k0_hw20 => k0_hw20.2.2.2.2.1.2.2.2.2.2.2.2.2.1
theorem k0_mult240_dvd : ∀ (v3352_r0 : BitVec 32) (k0_hw20 : k0_chk20 v3352_r0), 16 ∣ (k0_mult240 v3352_r0).toNat := fun v3352_r0 k0_hw20 => k0_hw20.2.2.2.2.1.2.2.2.2.2.2.2.2.2.1
theorem k0_mult241_dvd : ∀ (v3352_r0 : BitVec 32) (k0_hw20 : k0_chk20 v3352_r0), 16 ∣ (k0_mult241 v3352_r0).toNat := fun v3352_r0 k0_hw20 => k0_hw20.2.2.2.2.1.2.2.2.2.2.2.2.2.2.2.1
theorem k0_mult242_dvd : ∀ (v3352_r0 : BitVec 32) (k0_hw20 : k0_chk20 v3352_r0), 16 ∣ (k0_mult242 v3352_r0).toNat := fun v3352_r0 k0_hw20 => k0_hw20.2.2.2.2.1.2.2.2.2.2.2.2.2.2.2.2.1
theorem k0_mult243_dvd : ∀ (v3352_r0 : BitVec 32) (k0_hw20 : k0_chk20 v3352_r0), 16 ∣ (k0_mult243 v3352_r0).toNat := fun v3352_r0 k0_hw20 => k0_hw20.2.2.2.2.1.2.2.2.2.2.2.2.2.2.2.2.2.1
theorem k0_mult244_dvd : ∀ (v3352_r0 : BitVec 32) (k0_hw20 : k0_chk20 v3352_r0), 16 ∣ (k0_mult244 v3352_r0).toNat := fun v3352_r0 k0_hw20 => k0_hw20.2.2.2.2.1.2.2.2.2.2.2.2.2.2.2.2.2.2.1
theorem k0_mult245_dvd : ∀ (v3352_r0 : BitVec 32) (k0_hw20 : k0_chk20 v3352_r0), 16 ∣ (k0_mult245 v3352_r0).toNat := fun v3352_r0 k0_hw20 => k0_hw20.2.2.2.2.1.2.2.2.2.2.2.2.2.2.2.2.2.2.2.1
theorem k0_mult246_dvd : ∀ (v3352_r0 : BitVec 32) (k0_hw20 : k0_chk20 v3352_r0), 16 ∣ (k0_mult246 v3352_r0).toNat := fun v3352_r0 k0_hw20 => k0_hw20.2.2.2.2.1.2.2.2.2.2.2.2.2.2.2.2.2.2.2.2.1
theorem k0_mult247_dvd : ∀ (v3352_r0 : BitVec 32) (k0_hw20 : k0_chk20 v3352_r0), 16 ∣ (k0_mult247 v3352_r0).toNat := fun v3352_r0 k0_hw20 => k0_hw20.2.2.2.2.1.2.2.2.2.2.2.2.2.2.2.2.2.2.2.2.2.1
theorem k0_mult248_dvd : ∀ (v3352_r0 : BitVec 32) (k0_hw20 : k0_chk20 v3352_r0), 16 ∣ (k0_mult248 v3352_r0).toNat := fun v3352_r0 k0_hw20 => k0_hw20.2.2.2.2.1.2.2.2.2.2.2.2.2.2.2.2.2.2.2.2.2.2.1
theorem k0_mult249_dvd : ∀ (v3352_r0 : BitVec 32) (k0_hw20 : k0_chk20 v3352_r0), 16 ∣ (k0_mult249 v3352_r0).toNat := fun v3352_r0 k0_hw20 => k0_hw20.2.2.2.2.1.2.2.2.2.2.2.2.2.2.2.2.2.2.2.2.2.2.2.1
theorem k0_mult250_dvd : ∀ (v3352_r0 : BitVec 32) (k0_hw20 : k0_chk20 v3352_r0), 16 ∣ (k0_mult250 v3352_r0).toNat := fun v3352_r0 k0_hw20 => k0_hw20.2.2.2.2.1.2.2.2.2.2.2.2.2.2.2.2.2.2.2.2.2.2.2.2.1
theorem k0_mult251_dvd : ∀ (v3352_r0 : BitVec 32) (k0_hw20 : k0_chk20 v3352_r0), 16 ∣ (k0_mult251 v3352_r0).toNat := fun v3352_r0 k0_hw20 => k0_hw20.2.2.2.2.1.2.2.2.2.2.2.2.2.2.2.2.2.2.2.2.2.2.2.2.2.1
theorem k0_mult252_dvd : ∀ (v3352_r0 : BitVec 32) (k0_hw20 : k0_chk20 v3352_r0), 16 ∣ (k0_mult252 v3352_r0).toNat := fun v3352_r0 k0_hw20 => k0_hw20.2.2.2.2.1.2.2.2.2.2.2.2.2.2.2.2.2.2.2.2.2.2.2.2.2.2.1
theorem k0_mult253_dvd : ∀ (v3352_r0 : BitVec 32) (k0_hw20 : k0_chk20 v3352_r0), 16 ∣ (k0_mult253 v3352_r0).toNat := fun v3352_r0 k0_hw20 => k0_hw20.2.2.2.2.1.2.2.2.2.2.2.2.2.2.2.2.2.2.2.2.2.2.2.2.2.2.2.1
theorem k0_mult254_dvd : ∀ (v3352_r0 : BitVec 32) (k0_hw20 : k0_chk20 v3352_r0), 16 ∣ (k0_mult254 v3352_r0).toNat := fun v3352_r0 k0_hw20 => k0_hw20.2.2.2.2.1.2.2.2.2.2.2.2.2.2.2.2.2.2.2.2.2.2.2.2.2.2.2.2.1
theorem k0_mult255_dvd : ∀ (v3352_r0 : BitVec 32) (k0_hw20 : k0_chk20 v3352_r0), 16 ∣ (k0_mult255 v3352_r0).toNat := fun v3352_r0 k0_hw20 => k0_hw20.2.2.2.2.1.2.2.2.2.2.2.2.2.2.2.2.2.2.2.2.2.2.2.2.2.2.2.2.2.1
theorem k0_mult256_dvd : ∀ (v3352_r0 : BitVec 32) (k0_hw20 : k0_chk20 v3352_r0), 16 ∣ (k0_mult256 v3352_r0).toNat := fun v3352_r0 k0_hw20 => k0_hw20.2.2.2.2.1.2.2.2.2.2.2.2.2.2.2.2.2.2.2.2.2.2.2.2.2.2.2.2.2.2.1
theorem k0_mult257_dvd : ∀ (v3352_r0 : BitVec 32) (k0_hw20 : k0_chk20 v3352_r0), 16 ∣ (k0_mult257 v3352_r0).toNat := fun v3352_r0 k0_hw20 => k0_hw20.2.2.2.2.1.2.2.2.2.2.2.2.2.2.2.2.2.2.2.2.2.2.2.2.2.2.2.2.2.2.2.1
theorem k0_mult258_dvd : ∀ (v3352_r0 : BitVec 32) (k0_hw20 : k0_chk20 v3352_r0), 16 ∣ (k0_mult258 v3352_r0).toNat := fun v3352_r0 k0_hw20 => k0_hw20.2.2.2.2.1.2.2.2.2.2.2.2.2.2.2.2.2.2.2.2.2.2.2.2.2.2.2.2.2.2.2.2.1
theorem k0_mult259_dvd : ∀ (v3352_r0 : BitVec 32) (k0_hw20 : k0_chk20 v3352_r0), 16 ∣ (k0_mult259 v3352_r0).toNat := fun v3352_r0 k0_hw20 => k0_hw20.2.2.2.2.1.2.2.2.2.2.2.2.2.2.2.2.2.2.2.2.2.2.2.2.2.2.2.2.2.2.2.2.2.1
theorem k0_mult260_dvd : ∀ (v3352_r0 : BitVec 32) (k0_hw20 : k0_chk20 v3352_r0), 16 ∣ (k0_mult260 v3352_r0).toNat := fun v3352_r0 k0_hw20 => k0_hw20.2.2.2.2.1.2.2.2.2.2.2.2.2.2.2.2.2.2.2.2.2.2.2.2.2.2.2.2.2.2.2.2.2.2.1
theorem k0_mult261_dvd : ∀ (v3352_r0 : BitVec 32) (k0_hw20 : k0_chk20 v3352_r0), 16 ∣ (k0_mult261 v3352_r0).toNat := fun v3352_r0 k0_hw20 => k0_hw20.2.2.2.2.1.2.2.2.2.2.2.2.2.2.2.2.2.2.2.2.2.2.2.2.2.2.2.2.2.2.2.2.2.2.2.1
theorem k0_mult262_dvd : ∀ (v3352_r0 : BitVec 32) (k0_hw20 : k0_chk20 v3352_r0), 16 ∣ (k0_mult262 v3352_r0).toNat := fun v3352_r0 k0_hw20 => k0_hw20.2.2.2.2.1.2.2.2.2.2.2.2.2.2.2.2.2.2.2.2.2.2.2.2.2.2.2.2.2.2.2.2.2.2.2.2
theorem k0_mult263_dvd : ∀ (v3352_r0 : BitVec 32) (k0_hw20 : k0_chk20 v3352_r0), 16 ∣ (k0_mult263 v3352_r0).toNat := fun v3352_r0 k0_hw20 => k0_hw20.2.2.2.2.2

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S6144x2816 : Shape := ⟨2, ![6144, 2816]⟩
abbrev S64 : Shape := ⟨1, ![64]⟩
abbrev S64x1408x2048 : Shape := ⟨3, ![64, 1408, 2048]⟩
abbrev S64x22x2048 : Shape := ⟨3, ![64, 22, 2048]⟩
abbrev S_ : Shape := ⟨0, ![]⟩
abbrev S6144 : Shape := ⟨1, ![6144]⟩
abbrev S6144x1 : Shape := ⟨2, ![6144, 1]⟩
abbrev S6144x1408 : Shape := ⟨2, ![6144, 1408]⟩
abbrev S64x22x64x2048 : Shape := ⟨4, ![64, 22, 64, 2048]⟩
abbrev S64x22x1x2048 : Shape := ⟨4, ![64, 22, 1, 2048]⟩
abbrev S6144x64x2048 : Shape := ⟨3, ![6144, 64, 2048]⟩
abbrev S1x64 : Shape := ⟨2, ![1, 64]⟩
abbrev S64x1 : Shape := ⟨2, ![64, 1]⟩
abbrev S64x64 : Shape := ⟨2, ![64, 64]⟩
abbrev S6144x64 : Shape := ⟨2, ![6144, 64]⟩
abbrev S6144x64x1 : Shape := ⟨3, ![6144, 64, 1]⟩
abbrev S6144x2048 : Shape := ⟨2, ![6144, 2048]⟩

abbrev nBuf : Space → Nat
  | .hbm => 121
  | .vmem => 0
  | .smem => 0
  | _ => 0

abbrev bufTy : (tb : Table) → Fin (tcTables nBuf tb) → BufTy
  | .hbm, ⟨0, _⟩ => ⟨S6144x2816, .bf16⟩
  | .hbm, ⟨1, _⟩ => ⟨S64, .i32⟩
  | .hbm, ⟨2, _⟩ => ⟨S64x1408x2048, .i8⟩
  | .hbm, ⟨3, _⟩ => ⟨S64x22x2048, .f32⟩
  | .hbm, ⟨4, _⟩ => ⟨S6144x2816, .f32⟩
  | .hbm, ⟨5, _⟩ => ⟨S6144x2816, .f32⟩
  | .hbm, ⟨6, _⟩ => ⟨S_, .f32⟩
  | .hbm, ⟨7, _⟩ => ⟨S6144, .f32⟩
  | .hbm, ⟨8, _⟩ => ⟨S_, .f32⟩
  | .hbm, ⟨9, _⟩ => ⟨S6144, .f32⟩
  | .hbm, ⟨10, _⟩ => ⟨S_, .f32⟩
  | .hbm, ⟨11, _⟩ => ⟨S6144, .f32⟩
  | .hbm, ⟨12, _⟩ => ⟨S6144, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S_, .f32⟩
  | .hbm, ⟨18, _⟩ => ⟨S6144, .f32⟩
  | .hbm, ⟨19, _⟩ => ⟨S6144, .f32⟩
  | .hbm, ⟨20, _⟩ => ⟨S_, .f32⟩
  | .hbm, ⟨21, _⟩ => ⟨S6144, .f32⟩
  | .hbm, ⟨22, _⟩ => ⟨S6144, .i1⟩
  | .hbm, ⟨23, _⟩ => ⟨S_, .f32⟩
  | .hbm, ⟨24, _⟩ => ⟨S_, .f32⟩
  | .hbm, ⟨25, _⟩ => ⟨S6144, .f32⟩
  | .hbm, ⟨26, _⟩ => ⟨S6144, .f32⟩
  | .hbm, ⟨27, _⟩ => ⟨S6144, .f32⟩
  | .hbm, ⟨28, _⟩ => ⟨S6144, .f32⟩
  | .hbm, ⟨29, _⟩ => ⟨S6144, .f32⟩
  | .hbm, ⟨30, _⟩ => ⟨S6144x1, .f32⟩
  | .hbm, ⟨31, _⟩ => ⟨S6144x2816, .f32⟩
  | .hbm, ⟨32, _⟩ => ⟨S6144x2816, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S6144x2816, .f32⟩
  | .hbm, ⟨37, _⟩ => ⟨S6144x2816, .f32⟩
  | .hbm, ⟨38, _⟩ => ⟨S_, .f32⟩
  | .hbm, ⟨39, _⟩ => ⟨S6144x2816, .f32⟩
  | .hbm, ⟨40, _⟩ => ⟨S6144x2816, .f32⟩
  | .hbm, ⟨41, _⟩ => ⟨S6144x2816, .bf16⟩
  | .hbm, ⟨42, _⟩ => ⟨S64x1408x2048, .i32⟩
  | .hbm, ⟨43, _⟩ => ⟨S6144x1408, .bf16⟩
  | .hbm, ⟨44, _⟩ => ⟨S_, .i32⟩
  | .hbm, ⟨45, _⟩ => ⟨S64x1408x2048, .i32⟩
  | .hbm, ⟨46, _⟩ => ⟨S64x1408x2048, .i32⟩
  | .hbm, ⟨47, _⟩ => ⟨S_, .i32⟩
  | .hbm, ⟨48, _⟩ => ⟨S64x1408x2048, .i32⟩
  | .hbm, ⟨49, _⟩ => ⟨S64x1408x2048, .i1⟩
  | .hbm, ⟨50, _⟩ => ⟨S_, .i32⟩
  | .hbm, ⟨51, _⟩ => ⟨S64x1408x2048, .i32⟩
  | .hbm, ⟨52, _⟩ => ⟨S64x1408x2048, .i32⟩
  | .hbm, ⟨53, _⟩ => ⟨S64x1408x2048, .i32⟩
  | .hbm, ⟨54, _⟩ => ⟨S64x1408x2048, .bf16⟩
  | .hbm, ⟨55, _⟩ => ⟨S64x22x2048, .bf16⟩
  | .hbm, ⟨56, _⟩ => ⟨S64x22x64x2048, .bf16⟩
  | .hbm, ⟨57, _⟩ => ⟨S64x22x1x2048, .bf16⟩
  | .hbm, ⟨58, _⟩ => ⟨S64x22x64x2048, .bf16⟩
  | .hbm, ⟨59, _⟩ => ⟨S64x22x64x2048, .bf16⟩
  | .hbm, ⟨60, _⟩ => ⟨S64x1408x2048, .bf16⟩
  | .hbm, ⟨61, _⟩ => ⟨S6144x64x2048, .f32⟩
  | .hbm, ⟨62, _⟩ => ⟨S6144x1408, .bf16⟩
  | .hbm, ⟨63, _⟩ => ⟨S_, .i32⟩
  | .hbm, ⟨64, _⟩ => ⟨S64x1408x2048, .i32⟩
  | .hbm, ⟨65, _⟩ => ⟨S64x1408x2048, .i32⟩
  | .hbm, ⟨66, _⟩ => ⟨S_, .i32⟩
  | .hbm, ⟨67, _⟩ => ⟨S64x1408x2048, .i32⟩
  | .hbm, ⟨68, _⟩ => ⟨S64x1408x2048, .i1⟩
  | .hbm, ⟨69, _⟩ => ⟨S_, .i32⟩
  | .hbm, ⟨70, _⟩ => ⟨S64x1408x2048, .i32⟩
  | .hbm, ⟨71, _⟩ => ⟨S64x1408x2048, .i32⟩
  | .hbm, ⟨72, _⟩ => ⟨S64x1408x2048, .i32⟩
  | .hbm, ⟨73, _⟩ => ⟨S64x1408x2048, .bf16⟩
  | .hbm, ⟨74, _⟩ => ⟨S64x22x2048, .bf16⟩
  | .hbm, ⟨75, _⟩ => ⟨S64x22x64x2048, .bf16⟩
  | .hbm, ⟨76, _⟩ => ⟨S64x22x1x2048, .bf16⟩
  | .hbm, ⟨77, _⟩ => ⟨S64x22x64x2048, .bf16⟩
  | .hbm, ⟨78, _⟩ => ⟨S64x22x64x2048, .bf16⟩
  | .hbm, ⟨79, _⟩ => ⟨S64x1408x2048, .bf16⟩
  | .hbm, ⟨80, _⟩ => ⟨S6144x64x2048, .f32⟩
  | .hbm, ⟨81, _⟩ => ⟨S6144x64x2048, .f32⟩
  | .hbm, ⟨82, _⟩ => ⟨S64, .i32⟩
  | .hbm, ⟨83, _⟩ => ⟨S1x64, .i32⟩
  | .hbm, ⟨84, _⟩ => ⟨S64x1, .i32⟩
  | .hbm, ⟨85, _⟩ => ⟨S64x64, .i32⟩
  | .hbm, ⟨86, _⟩ => ⟨S64x64, .i32⟩
  | .hbm, ⟨87, _⟩ => ⟨S64x64, .i1⟩
  | .hbm, ⟨88, _⟩ => ⟨S1x64, .i32⟩
  | .hbm, ⟨89, _⟩ => ⟨S_, .i32⟩
  | .hbm, ⟨90, _⟩ => ⟨S_, .i32⟩
  | .hbm, ⟨91, _⟩ => ⟨S64x64, .i32⟩
  | .hbm, ⟨92, _⟩ => ⟨S64x64, .i32⟩
  | .hbm, ⟨93, _⟩ => ⟨S64x64, .i32⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S6144, .i32⟩
  | .hbm, ⟨98, _⟩ => ⟨S1x64, .i32⟩
  | .hbm, ⟨99, _⟩ => ⟨S6144x1, .i32⟩
  | .hbm, ⟨100, _⟩ => ⟨S6144x64, .i32⟩
  | .hbm, ⟨101, _⟩ => ⟨S6144x64, .i32⟩
  | .hbm, ⟨102, _⟩ => ⟨S6144x64, .i1⟩
  | .hbm, ⟨103, _⟩ => ⟨S6144x1, .i32⟩
  | .hbm, ⟨104, _⟩ => ⟨S1x64, .i32⟩
  | .hbm, ⟨105, _⟩ => ⟨S6144x64, .i32⟩
  | .hbm, ⟨106, _⟩ => ⟨S6144x64, .i32⟩
  | .hbm, ⟨107, _⟩ => ⟨S6144x64, .i1⟩
  | .hbm, ⟨108, _⟩ => ⟨S6144x64, .i1⟩
  | .hbm, ⟨109, _⟩ => ⟨S6144x64x1, .i1⟩
  | .hbm, ⟨110, _⟩ => ⟨S_, .f32⟩
  | .hbm, ⟨111, _⟩ => ⟨S_, .f32⟩
  | .hbm, ⟨112, _⟩ => ⟨S6144x64x2048, .i1⟩
  | .hbm, ⟨113, _⟩ => ⟨S6144x64x2048, .f32⟩
  | .hbm, ⟨114, _⟩ => ⟨S6144x64x2048, .f32⟩
  | .hbm, ⟨115, _⟩ => ⟨S_, .f32⟩
  | .hbm, ⟨116, _⟩ => ⟨S6144x2048, .f32⟩
  | .hbm, ⟨117, _⟩ => ⟨S6144x1, .f32⟩
  | .hbm, ⟨118, _⟩ => ⟨S6144x2048, .f32⟩
  | .hbm, ⟨119, _⟩ => ⟨S6144x2048, .f32⟩
  | .hbm, ⟨120, _⟩ => ⟨S6144x2048, .bf16⟩
  | _, _ => ⟨S6144x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Proof.Words.lean ====
/-
  The 32-bit words of the schedule, as natural numbers: the windows' loop, the trip counts and the conditions.
-/
module

public import proofs.«01_k».proof.Kernel
public import Idealize.ShloMosaic.Lib.WordArith

@[expose] public section

namespace Cert.Model

open Idealize.ShloMosaic Cert.Kernel

/-- How many windows of 128 rows, the first starting at the multiple of 16 at or below `s`, cover `g` rows from row `s` on. -/
def win (s g : ℕ) : ℕ := if 0 < g then (s + g - s / 16 * 16 + 127) / 128 else 0

/-- Division by 128 rounding down, as the kernel's word operations do it. -/
def fdivW (u : BitVec 32) : BitVec 32 :=
  Scalar.select (Scalar.andi (Scalar.cmpi .ne (Scalar.subi (Scalar.extui (Scalar.cmpi .sgt u 0#32)) (Scalar.extui (Scalar.cmpi .slt u 0#32)))
      (Scalar.subi (Scalar.extui (Scalar.cmpi .sgt 128#32 0#32)) (Scalar.extui (Scalar.cmpi .slt 128#32 0#32))))
      (Scalar.cmpi .ne (Scalar.remsi u 128#32) 0#32)) (Scalar.subi (Scalar.divsi u 128#32) 1#32) (Scalar.divsi u 128#32)

/-- What is divided. -/
def spanW (s g : BitVec 32) : BitVec 32 := Scalar.subi (Scalar.addi (Scalar.subi (Scalar.addi s g) (Scalar.andi s 4294967280#32)) 128#32) 1#32

/-- The windows, as the kernel counts them. -/
def winW (s g : BitVec 32) : BitVec 32 := Scalar.select (Scalar.cmpi .sgt g 0#32) (fdivW (spanW s g)) 0#32

/-- The loop over a count's windows, and the loop over the rest of them. -/
def loopA (n : BitVec 32) : Scf.Loop 32 := ⟨0#32, Scalar.addi 0#32 (Scalar.muli (Scalar.divsi (Scalar.subi n 0#32) 1#32) 1#32), 1#32⟩
def loopB (n : BitVec 32) : Scf.Loop 32 := ⟨Scalar.addi 0#32 (Scalar.muli (Scalar.divsi (Scalar.subi n 0#32) 1#32) 1#32), Scalar.addi 0#32 (Scalar.subi n 0#32), 1#32⟩

theorem t2_eq (s g : BitVec 32) : k0_t2_loop s g = loopA (winW s g) := rfl
theorem t3_eq (s g : BitVec 32) : k0_t3_loop s g = loopB (winW s g) := rfl
theorem t4_eq (n : BitVec 32) : k0_t4_loop n = loopA n := rfl
theorem t5_eq (n : BitVec 32) : k0_t5_loop n = loopB n := rfl

theorem loops_small : ∀ n : Fin 129, (loopA (BitVec.ofNat 32 n)).trips = n ∧ (loopA (BitVec.ofNat 32 n)).OK ∧
    (loopB (BitVec.ofNat 32 n)).trips = 0 ∧ (loopB (BitVec.ofNat 32 n)).OK := by decide +kernel

theorem fdiv_small : ∀ u : Fin 8192, fdivW (BitVec.ofNat 32 u) = BitVec.ofNat 32 (u.val / 128) := by decide +kernel

theorem toNat_small {n : ℕ} (h : n < 2 ^ 31) : (BitVec.ofNat 32 n).toNat = n := WordArith.toNat_ofNat_of_lt n (by omega)

theorem addi_ofNat (a b : ℕ) : Scalar.addi (BitVec.ofNat 32 a) (BitVec.ofNat 32 b) = BitVec.ofNat 32 (a + b) := (BitVec.ofNat_add a b).symm
theorem muli_ofNat (a b : ℕ) : Scalar.muli (BitVec.ofNat 32 a) (BitVec.ofNat 32 b) = BitVec.ofNat 32 (a * b) := (BitVec.ofNat_mul a b).symm
theorem subi_ofNat {a b : ℕ} (h : b ≤ a) : Scalar.subi (BitVec.ofNat 32 a) (BitVec.ofNat 32 b) = BitVec.ofNat 32 (a - b) := by
  obtain ⟨d, rfl⟩ := Nat.exists_eq_add_of_le h
  rw [Nat.add_sub_cancel_left, Nat.add_comm]
  change BitVec.ofNat 32 (d + b) - BitVec.ofNat 32 b = _
  rw [BitVec.ofNat_add, BitVec.add_sub_cancel]

theorem mask_ofNat {s : ℕ} (h : s < 2 ^ 31) : Scalar.andi (BitVec.ofNat 32 s) 4294967280#32 = BitVec.ofNat 32 (s / 16 * 16) := by
  apply BitVec.eq_of_toNat_eq
  rw [show (Scalar.andi (BitVec.ofNat 32 s) 4294967280#32).toNat = _ from WordArith.toNat_andi_mask16 _, toNat_small h, toNat_small (by omega)]

theorem slt_ofNat {a b : ℕ} (ha : a < 2 ^ 31) (hb : b < 2 ^ 31) : Scalar.cmpi .slt (BitVec.ofNat 32 a) (BitVec.ofNat 32 b) = 1#1 ↔ a < b := by
  change BitVec.ofBool (BitVec.slt _ _) = 1#1 ↔ _
  rw [WordArith.ofBool_eq_one_iff, BitVec.slt_iff_toInt_lt, WordArith.toInt_ofNat_small a ha, WordArith.toInt_ofNat_small b hb]
  omega

theorem sgt_ofNat {a b : ℕ} (ha : a < 2 ^ 31) (hb : b < 2 ^ 31) : Scalar.cmpi .sgt (BitVec.ofNat 32 a) (BitVec.ofNat 32 b) = 1#1 ↔ b < a :=
  slt_ofNat hb ha

/-- Reading a one-bit condition as a word, and that word as a condition. -/
theorem ne_extui (b : BitVec 1) : Scalar.cmpi .ne (Scalar.extui b : BitVec 32) 0#32 = b := by
  revert b; decide

theorem spanW_ofNat {s g : ℕ} (h : s + g ≤ 6144) : spanW (BitVec.ofNat 32 s) (BitVec.ofNat 32 g) = BitVec.ofNat 32 (s + g - s / 16 * 16 + 127) := by
  unfold spanW
  rw [addi_ofNat, mask_ofNat (by omega), subi_ofNat (by omega), addi_ofNat, subi_ofNat (by omega)]
  congr 1

theorem winW_ofNat {s g : ℕ} (h : s + g ≤ 6144) : winW (BitVec.ofNat 32 s) (BitVec.ofNat 32 g) = BitVec.ofNat 32 (win s g) := by
  unfold winW win
  by_cases hg : 0 < g
  · rw [(sgt_ofNat (by omega) (by omega)).2 hg, spanW_ofNat h, if_pos hg]
    exact fdiv_small ⟨s + g - s / 16 * 16 + 127, by omega⟩
  · obtain rfl : g = 0 := by omega
    rw [if_neg hg]
    rfl

theorem win_le {s g : ℕ} (h : s + g ≤ 6144) : win s g ≤ 128 := by
  unfold win; split <;> omega

theorem cond1_iff {g : ℕ} (h : g < 2 ^ 31) : k0_cond1 (BitVec.ofNat 32 g) = 1#1 ↔ 0 < g := by
  rw [show k0_cond1 (BitVec.ofNat 32 g) = _ from ne_extui _]; exact sgt_ofNat h (by omega)

theorem cond2_iff {n : ℕ} (h : n < 2 ^ 31) : k0_cond2 (BitVec.ofNat 32 n) = 1#1 ↔ 0 < n := by
  rw [show k0_cond2 (BitVec.ofNat 32 n) = _ from ne_extui _]; exact slt_ofNat (by omega) h

theorem cond3_iff {n : ℕ} (h : n < 2 ^ 31) : k0_cond3 (BitVec.ofNat 32 n) = 1#1 ↔ 1 < n := by
  rw [show k0_cond3 (BitVec.ofNat 32 n) = _ from ne_extui _]; exact slt_ofNat (by omega) h

theorem cond5_iff {n : ℕ} (h : n < 2 ^ 31) : k0_cond5 (BitVec.ofNat 32 n) = 1#1 ↔ 0 < n := by
  rw [show k0_cond5 (BitVec.ofNat 32 n) = _ from ne_extui _]; exact sgt_ofNat h (by omega)

theorem cond6_iff {n o : ℕ} (h : n < 2 ^ 31) (ho : o < 100) : k0_cond6 (BitVec.ofNat 32 n) (BitVec.ofNat 32 (o + 1)) = 1#1 ↔ o + 2 < n := by
  rw [show k0_cond6 (BitVec.ofNat 32 n) (BitVec.ofNat 32 (o + 1)) = _ from ne_extui _, subi_ofNat (b := 1) (by omega), addi_ofNat, subi_ofNat (b := 1) (by omega)]
  exact slt_ofNat (by omega) h

theorem trips4 {n : ℕ} (h : n ≤ 128) : (k0_t4_loop (BitVec.ofNat 32 n)).trips = n := by rw [t4_eq]; exact (loops_small ⟨n, by omega⟩).1

theorem iv_ofNat (k : ℕ) : Scf.iv 0#32 1#32 k = BitVec.ofNat 32 k := by
  unfold Scf.iv; rw [BitVec.zero_add, BitVec.mul_one]

theorem cond4_iff {n : ℕ} (h : n ≤ 128) (k : Fin (k0_t4_loop (BitVec.ofNat 32 n)).trips) : k0_cond4 (BitVec.ofNat 32 n) k = 1#1 ↔ k.val + 1 < n := by
  have hk := lt_of_lt_of_eq k.isLt (trips4 h)
  rw [show k0_cond4 (BitVec.ofNat 32 n) k = _ from ne_extui _, iv_ofNat, addi_ofNat]
  exact slt_ofNat (by omega) (by omega)

theorem minsi_ofNat {a b : ℕ} (ha : a < 2 ^ 31) (hb : b < 2 ^ 31) : Scalar.minsi (BitVec.ofNat 32 a) (BitVec.ofNat 32 b) = BitVec.ofNat 32 (min a b) := by
  apply BitVec.eq_of_toNat_eq
  rw [show (Scalar.minsi (BitVec.ofNat 32 a) (BitVec.ofNat 32 b)).toNat = _ from WordArith.toNat_minsi_of_lt _ _ (by rw [toNat_small ha]; exact ha) (by rw [toNat_small hb]; exact hb),
    toNat_small ha, toNat_small hb, toNat_small (by omega)]

theorem remsi3 : ∀ o : Fin 128, Scalar.remsi (BitVec.ofNat 32 o.val) 3#32 = BitVec.ofNat 32 (o.val % 3) := by decide +kernel

end Cert.Model
-- ==== Proof.RowChecks.lean ====
/-
  The side conditions asserted of a window's first row hold for every multiple of 16 up to 6016.
-/
module

public import proofs.«01_k».proof.Kernel

public section

namespace Cert.Model

open Idealize.ShloMosaic Cert.Kernel

/-- Every block of 16 rows and 128 columns of a window lies inside the result, on whole words. -/
theorem chk13_ok : ∀ k : Fin 377, k0_chk13 (BitVec.ofNat 32 (16 * k.val)) := by decide +kernel

/-- The window of the tokens lies inside them, on whole words. -/
theorem chk12_ok : ∀ k : Fin 377, k0_chk12 (BitVec.ofNat 32 (16 * k.val)) := by decide +kernel

/-- The same, of the first window's. -/
theorem chk6_ok : ∀ k : Fin 377, k0_chk6 (BitVec.ofNat 32 (16 * k.val)) := by decide +kernel

end Cert.Model
-- ==== Proof.Offs.lean ====
/-
  The offsets that a visit computes, as numbers, and the checks on them.
-/
module

public import proofs.«01_k».proof.Proof.Words
public import proofs.«01_k».proof.Proof.RowChecks
public import Idealize.ShloMosaic.Lib.Tactic

@[expose] public section

noncomputable section

namespace Cert.Model

open Idealize.ShloMosaic Idealize.ShloMosaic.TcCoe
open Cert.Kernel Cert.Kernel.Facts₀ Cert.Kernel.Facts

/-- The remainder by two, as it is printed. -/
def rem2 (x : BitVec 32) : BitVec 32 :=
  let y : BitVec 32 := Scalar.select (Scalar.cmpi .eq 2#32 0#32) 1#32 2#32
  let r : BitVec 32 := Scalar.remsi x y
  Scalar.select (Scalar.andi (Scalar.xori (Scalar.cmpi .slt r 0#32) (Scalar.cmpi .slt y 0#32)) (Scalar.cmpi .ne r 0#32)) (Scalar.addi r y) r

theorem rem2_ofNat : ∀ n : Fin 200, (rem2 (BitVec.ofNat 32 n.val)).toNat = n.val % 2 := by decide +kernel
theorem rem3_ofNat : ∀ n : Fin 128, (Scalar.remsi (Scalar.subi (Scalar.addi (Scalar.subi (BitVec.ofNat 32 (n.val + 1)) 1#32) 3#32) 1#32) 3#32).toNat = (n.val + 2) % 3 := by
  decide +kernel
theorem next_ofNat : ∀ n : Fin 128, (Scalar.subi (Scalar.addi (Scalar.subi (BitVec.ofNat 32 (n.val + 1)) 1#32) 3#32) 1#32).toNat = n.val + 2 := by
  decide +kernel

section
variable {n : ℕ} (h : n ≤ 128) (k : Fin (k0_t4_loop (BitVec.ofNat 32 n)).trips)
include h

theorem k_lt : k.val < n := lt_of_lt_of_eq k.isLt (trips4 h)

theorem off18_eq : k0_off18 (BitVec.ofNat 32 n) k = ![k.val + 1] := by
  have := k_lt h k
  show ![(Scalar.addi (Scf.iv 0#32 1#32 k.val) 1#32).toNat] = _
  rw [iv_ofNat, addi_ofNat _ 1, toNat_small (by omega)]
theorem off19_eq : k0_off19 (BitVec.ofNat 32 n) k = ![(k.val + 1) % 2] := by
  have := k_lt h k
  show ![(rem2 (Scalar.addi (Scf.iv 0#32 1#32 k.val) 1#32)).toNat] = _
  rw [iv_ofNat, addi_ofNat _ 1, rem2_ofNat ⟨k.val + 1, by omega⟩]
theorem off20_eq : k0_off20 (BitVec.ofNat 32 n) k = ![(k.val + 1) % 2, 0, 0] := by
  have := k_lt h k
  show ![(rem2 (Scalar.addi (Scf.iv 0#32 1#32 k.val) 1#32)).toNat, 0, 0] = _
  rw [iv_ofNat, addi_ofNat _ 1, rem2_ofNat ⟨k.val + 1, by omega⟩]
theorem off22_eq : k0_off22 (BitVec.ofNat 32 n) k = ![k.val] := by
  have := k_lt h k
  show ![(Scf.iv 0#32 1#32 k.val).toNat] = _
  rw [iv_ofNat, toNat_small (by omega)]
theorem off23_eq : k0_off23 (BitVec.ofNat 32 n) k = ![k.val] := off22_eq h k
theorem off37_eq : k0_off37 (BitVec.ofNat 32 n) k = ![k.val] := off22_eq h k
theorem off41_eq : k0_off41 (BitVec.ofNat 32 n) k = ![k.val] := off22_eq h k
theorem off42_eq : k0_off42 (BitVec.ofNat 32 n) k = ![k.val] := off22_eq h k
theorem off38_eq : k0_off38 (BitVec.ofNat 32 n) k = ![k.val % 2] := by
  have := k_lt h k
  show ![(rem2 (Scf.iv 0#32 1#32 k.val)).toNat] = _
  rw [iv_ofNat, rem2_ofNat ⟨k.val, by omega⟩]
theorem off39_eq : k0_off39 (BitVec.ofNat 32 n) k = ![k.val % 2, 0, 0] := by
  have := k_lt h k
  show ![(rem2 (Scf.iv 0#32 1#32 k.val)).toNat, 0, 0] = _
  rw [iv_ofNat, rem2_ofNat ⟨k.val, by omega⟩]
end

theorem vec1 {n : ℕ} (h : n < 2 ^ 31) : (![(BitVec.ofNat 32 n).toNat] : Fin 1 → ℕ) = ![n] := by rw [toNat_small (by omega)]
theorem vec3 {n : ℕ} (h : n < 2 ^ 31) : (![(BitVec.ofNat 32 n).toNat, 0, 0] : Fin 3 → ℕ) = ![n, 0, 0] := by rw [toNat_small (by omega)]
theorem vec2 {n : ℕ} (h : n < 2 ^ 31) : (![(BitVec.ofNat 32 n).toNat, 0] : Fin 2 → ℕ) = ![n, 0] := by rw [toNat_small (by omega)]

theorem off30_eq {o : ℕ} (h : o < 128) : k0_off30 (BitVec.ofNat 32 (o + 1)) = ![o + 2] := congrArg (fun x => ![x]) (next_ofNat ⟨o, h⟩)
theorem off31_eq {o : ℕ} (h : o < 128) : k0_off31 (BitVec.ofNat 32 (o + 1)) = ![(o + 2) % 3] := congrArg (fun x => ![x]) (rem3_ofNat ⟨o, h⟩)
theorem off34_eq {o : ℕ} (h : o < 128) : k0_off34 (BitVec.ofNat 32 (o + 1)) = ![(o + 2) % 3] := congrArg (fun x => ![x]) (rem3_ofNat ⟨o, h⟩)
theorem off32_eq {o : ℕ} (h : o < 128) : k0_off32 (BitVec.ofNat 32 (o + 1)) = ![(o + 2) % 3, 0, 0] := congrArg (fun x => ![x, 0, 0]) (rem3_ofNat ⟨o, h⟩)
theorem off35_eq {o : ℕ} (h : o < 128) : k0_off35 (BitVec.ofNat 32 (o + 1)) = ![(o + 2) % 3, 0, 0] := congrArg (fun x => ![x, 0, 0]) (rem3_ofNat ⟨o, h⟩)

/-- The weights of each expert lie on whole words. -/
theorem chk4_ok : ∀ e : Fin 64, k0_chk4 1#32 (BitVec.ofNat 32 e.val) := by decide +kernel
theorem cond2_one : k0_cond2 1#32 = 1#1 := by decide +kernel
theorem chk4_at (v : BitVec 32) (e : Fin 64) : k0_chk4 v (BitVec.ofNat 32 e.val) :=
  ⟨fun _ => (chk4_ok e).1 cond2_one, fun _ => (chk4_ok e).2.1 cond2_one, fun _ => (chk4_ok e).2.2 cond2_one⟩
theorem chk5_at (v : BitVec 32) (e : Fin 64) : k0_chk5 v (BitVec.ofNat 32 e.val) :=
  ⟨fun _ => (chk4_ok e).1 cond2_one, fun _ => (chk4_ok e).2.1 cond2_one, fun _ => (chk4_ok e).2.2 cond2_one⟩
theorem chk10_at (v : BitVec 32) (e : Fin 64) : k0_chk10 v (BitVec.ofNat 32 e.val) :=
  ⟨fun _ => (chk4_ok e).1 cond2_one, fun _ => (chk4_ok e).2.1 cond2_one, fun _ => (chk4_ok e).2.2 cond2_one⟩
theorem chk11_at (v w : BitVec 32) (e : Fin 64) : k0_chk11 v w (BitVec.ofNat 32 e.val) :=
  ⟨fun _ _ => (chk4_ok e).1 cond2_one, fun _ _ => (chk4_ok e).2.1 cond2_one, fun _ _ => (chk4_ok e).2.2 cond2_one⟩
theorem chk8_at (v : BitVec 32) (k : Fin (k0_t4_loop v).trips) (b : Fin 377) : k0_chk8 v k (BitVec.ofNat 32 (16 * b.val)) :=
  ⟨fun _ => (chk12_ok b).1, fun _ => (chk12_ok b).2.1, fun _ => (chk12_ok b).2.2⟩

theorem chk14_ok : ∀ j : Fin 3, k0_chk14 (BitVec.ofNat 32 j.val) := by decide +kernel

theorem slotOK (j : Fin 3) : (∀ a, (![j.val, 0, 0] : Fin 3 → ℕ) a + S1x1408x2048.size a ≤ S3x1408x2048.size a) ∧
    (∀ hinb : (∀ a, (![j.val, 0, 0] : Fin 3 → ℕ) a + S1x1408x2048.size a ≤ S3x1408x2048.size a), (Rect.unit (s := S3x1408x2048) ![j.val, 0, 0] S1x1408x2048.size hinb).WholeWords (EltTy.packing .i8)) ∧
    (∀ a, (![j.val, 0, 0] : Fin 3 → ℕ) a + S1x22x2048.size a ≤ S3x22x2048.size a) ∧ (∀ a, (![j.val] : Fin 1 → ℕ) a + S1.size a ≤ S3.size a) := by
  revert j; decide +kernel

theorem chk9_at {n : ℕ} (h : n ≤ 128) (k : Fin (k0_t4_loop (BitVec.ofNat 32 n)).trips) {ne f : ℕ} (hne : ne ≤ 64) (hf : f ≤ 64) (j : Fin 3) :
    k0_chk9 (BitVec.ofNat 32 ne) (BitVec.ofNat 32 n) k (BitVec.ofNat 32 j.val) (BitVec.ofNat 32 f) := by
  have hk := k_lt h k
  obtain ⟨a1, a2, a3, a4⟩ := slotOK j
  have e3 : (![(BitVec.ofNat 32 j.val).toNat, 0, 0] : Fin 3 → ℕ) = ![j.val, 0, 0] := vec3 (by have := j.isLt; omega)
  have e1 : (![(BitVec.ofNat 32 j.val).toNat] : Fin 1 → ℕ) = ![j.val] := vec1 (by have := j.isLt; omega)
  refine ⟨fun _ => ?_, fun _ => ?_, fun _ => ?_, fun _ => ?_, fun _ => ?_, fun _ => ?_, fun h5 h6 => ?_, fun h5 h6 => ?_, fun h5 h6 => ?_, fun h5 h6 => ?_, fun h5 h6 => ?_, fun h5 h6 => ?_⟩
  · rw [off23_eq h k]; intro a; fin_cases a; show k.val + 1 ≤ 128; omega
  · rw [show k0_off24 (BitVec.ofNat 32 j.val) = _ from e1]; exact a4
  · rw [show k0_off25 (BitVec.ofNat 32 j.val) = _ from e3]; exact a1
  · rw [show k0_off25 (BitVec.ofNat 32 j.val) = _ from e3]; exact a2
  · rw [show k0_off27 (BitVec.ofNat 32 j.val) = _ from e1]; exact a4
  · rw [show k0_off28 (BitVec.ofNat 32 j.val) = _ from e3]; exact a3
  all_goals
    have hf0 : 0 < f := (cond5_iff (by omega)).1 h5
    obtain ⟨o, rfl⟩ : ∃ o, f = o + 1 := ⟨f - 1, by omega⟩
    have hc := (cond6_iff (by omega) (by omega)).1 h6
    obtain ⟨b1, b2, b3, b4⟩ := slotOK ⟨(o + 2) % 3, Nat.mod_lt _ (by decide)⟩
  · rw [off30_eq (by omega)]; intro a; fin_cases a; show o + 2 + 1 ≤ 64; omega
  · rw [off31_eq (by omega)]; exact b4
  · rw [off32_eq (by omega)]; exact b1
  · rw [off32_eq (by omega)]; exact b2
  · rw [off34_eq (by omega)]; exact b4
  · rw [off35_eq (by omega)]; exact b3

end Cert.Model
-- ==== Proof.Model.lean ====
/-
  The arithmetic of one visit of the kernel, written as loops.

  One visit takes a window of 128 rows of `x`, quantises it, multiplies it by the 2048 columns of one expert's weights and writes those rows
  of the result that belong to the expert. The printed program is this text with every loop written out; `Proof/Printed*.lean` prove that the
  two are the same program. Everything here is for any floating-point reading `F`.
-/
module

public import proofs.«01_k».proof.Kernel

@[expose] public section

noncomputable section

namespace Cert.Model

open Idealize.ShloMosaic Idealize.SL.Sem
open Cert.Kernel

/-! ## Shape facts at every iteration -/

theorem slices_chunk : ∀ c : Fin 22, S16x2816.Slices ![0, 128 * c.val] S16x128 := by decide
theorem inb_x : ∀ g : Fin 8, ∀ a, (![16 * g.val, 0] : Fin 2 → Nat) a + S16x2816.size a ≤ S128x2816.size a := by decide
theorem inb_xs : ∀ g : Fin 8, ∀ a, (![16 * g.val, 0] : Fin 2 → Nat) a + S16x128.size a ≤ S128x128.size a := by decide
theorem inb_xq : ∀ (g : Fin 8) (c : Fin 22), ∀ a, (![16 * g.val, 128 * c.val] : Fin 2 → Nat) a + S16x128.size a ≤ S128x2816.size a := by decide
theorem packed_xq : ∀ (g : Fin 8) (c : Fin 22),
    (Rect.unit (s := S128x2816) ![16 * g.val, 128 * c.val] S16x128.size (inb_xq g c)).PackedRows (EltTy.packing .bf16) := by decide
theorem inb_w : ∀ (k : Fin 11) (j : Fin 8), ∀ a, (![128 * k.val, 256 * j.val] : Fin 2 → Nat) a + S128x256.size a ≤ S1408x2048.size a := by decide
theorem inb_s : ∀ (k : Fin 11) (g : Fin 2) (j : Fin 8), ∀ a,
    (![2 * k.val + g.val, 256 * j.val] : Fin 2 → Nat) a + S1x256.size a ≤ S22x2048.size a := by decide
theorem inb_l : ∀ (i : Fin 4) (k : Fin 11), ∀ a, (![32 * i.val, 256 * k.val] : Fin 2 → Nat) a + S32x256.size a ≤ S128x2816.size a := by decide
theorem slices_half : ∀ g : Fin 2, S256x256.Slices ![128 * g.val, 0] S128x256 := by decide
theorem slices_res : ∀ r h : Fin 2, S32x256.Slices ![16 * r.val, 128 * h.val] S16x128 := by decide
theorem fits : ∀ (nb : Fin 4) (i : Fin 4), Mxu.Fits (32 * (nb.val % 2) + 8 * i.val) 32 := by decide

variable {F : FTy → Type} [FloatOps F] [Facts]
open Facts₀ Facts

/-- Programs of the kernel's core that return an `α`. -/
abbrev Pr (F : FTy → Type) [FloatOps F] [Facts] (α : Type) : Type 1 := Prog (TpuEff nD τ sig (Elt F) Λ₀ .tc) α

/-- `f 0`, then `f 1`, up to `f (n-1)`, each from the state that the last one left. -/
def iter {α : Type} : (n : ℕ) → (Fin n → α → Pr F α) → α → Pr F α
  | 0, _, s => .ret s
  | n + 1, f, s => (f 0 s).bind fun s' => iter n (fun i => f i.succ) s'

/-! ## Quantising 16 rows -/

/-- The maximum of `|x|` over the chunks `0 … n` of 128 columns, lane by lane. -/
def amaxTo (x : Vec F S16x2816 .bf16) : (n : ℕ) → n < 22 → FVec F S16x128 .bf16
  | 0, h => absf (extractStridedSlice S16x128 ![0, 128 * (0 : ℕ)] x (slices_chunk ⟨0, h⟩))
  | n + 1, h => maximumf (amaxTo x n (Nat.lt_of_succ_lt h)) (absf (extractStridedSlice S16x128 ![0, 128 * (n + 1)] x (slices_chunk ⟨n + 1, h⟩)))

/-- The largest `|x|` of each row, at every lane, times the constant 1/448. -/
def scaled (x : Vec F S16x2816 .bf16) : FVec F S16x128 .f32 :=
  mulf (broadcastTo S16x128 (shapeCast S16x1 (shapeCast S16x1
      (multiReduction .maximumf [1] S16 (extf .f32 (amaxTo x 21 (by decide)) bitsLt_bf16_f32) 0xFF800000#32 reduces_S16x128_S16 (.inl rfl) rfl)
      shapeCasts_S16_S16x1) shapeCasts_S16x1_S16x1) broadcasts_S16x1_S16x128)
    (broadcast S16x128 (Scalar.ofBits .f32 0x3B124925#32))

/-- One step of the search for the exponent field of `y`: takes the bit `b` if the power of two that it leads to is at most `y`. -/
def searchStep (y : FVec F S16x128 .f32) (b : BitVec 32) (field : IVec S16x128 32) : IVec S16x128 32 :=
  select (cmpf .oge y (bitcastToFloat .f32 (shli (addi field (broadcast S16x128 b)) (broadcast S16x128 23#32))))
    (addi field (broadcast S16x128 b)) field

/-- The exponent field of `y`. -/
def fieldOf (y : FVec F S16x128 .f32) : IVec S16x128 32 :=
  searchStep y 1#32 (searchStep y 2#32 (searchStep y 4#32 (searchStep y 8#32 (searchStep y 16#32 (searchStep y 32#32
    (searchStep y 64#32 (searchStep y 128#32 (broadcast S16x128 0#32))))))))

/-- The exponent of the scale. -/
def expOf (field : IVec S16x128 32) : IVec S16x128 32 :=
  select (cmpi .eq field (broadcast S16x128 0#32)) (broadcast S16x128 0#32) (subi field (broadcast S16x128 126#32))

/-- The scale `2^e`. -/
def scaleOf (e : IVec S16x128 32) : FVec F S16x128 .f32 :=
  bitcastToFloat .f32 (shli (addi e (broadcast S16x128 127#32)) (broadcast S16x128 23#32))

/-- Its reciprocal. -/
def invOf (e : IVec S16x128 32) : FVec F S16x128 .bf16 :=
  truncf .bf16 (bitcastToFloat .f32 (shli (subi (broadcast S16x128 127#32) e) (broadcast S16x128 23#32))) bitsLt_bf16_f32

/-- One chunk of 128 columns, scaled, clipped and rounded. -/
def codes (x : Vec F S16x2816 .bf16) (inv : FVec F S16x128 .bf16) (c : Fin 22) : FVec F S16x128 .bf16 :=
  extf .bf16 (truncf .fp8e4m3 (minimumf (broadcast S16x128 (Scalar.ofBits .bf16 0x43E0#16))
    (maximumf (broadcast S16x128 (Scalar.ofBits .bf16 0xC3E0#16))
      (mulf (extractStridedSlice S16x128 ![0, 128 * c.val] x (slices_chunk c)) inv))) bitsLt_fp8e4m3_bf16) bitsLt_fp8e4m3_bf16

section
variable (xr : Memref sig .tc .vmem S128x2816 .bf16) (a15 : Memref sig .tc .vmem S128x2816 .bf16) (h15 : a15.IsWhole)
  (a16 : Memref sig .tc .vmem S128x128 .f32) (h16 : a16.IsWhole)

/-- The codes of one chunk go to the buffer of codes. -/
def chunkProg (x : Vec F S16x2816 .bf16) (inv : FVec F S16x128 .bf16) (g : Fin 8) (c : Fin 22) : Pr F PUnit := do
  let _ : Vec F S16x128 .bf16 ← Prog.lift (.load a15 (Rect.unit (s := S128x2816) ![16 * g.val, 128 * c.val] S16x128.size (inb_xq g c)).toLoadRect (View.loadsAt_vmem h_S16x128))
  Prog.lift (.store a15 (Rect.unit (s := S128x2816) ![16 * g.val, 128 * c.val] S16x128.size (inb_xq g c)) (shapeCast S16x128 (codes x inv c) shapeCasts_S16x128_S16x128) Finset.univ (View.stores_vmem h_S16x128 (h15.storeExact_slice rfl _ (packed_xq g c)) (fun _ => rfl)) (.inl rfl))

/-- Quantises 16 rows. -/
def quantProg (g : Fin 8) : Pr F PUnit := do
  let x : Vec F S16x2816 .bf16 ← Prog.lift (.load xr (Rect.unit (s := S128x2816) ![16 * g.val, 0] S16x2816.size (inb_x g)).toLoadRect (View.loadsAt_vmem h_S16x2816))
  let _ : Vec F S16x128 .f32 ← Prog.lift (.load a16 (Rect.unit (s := S128x128) ![16 * g.val, 0] S16x128.size (inb_xs g)).toLoadRect (View.loadsAt_vmem h_S16x128))
  Prog.lift (.store a16 (Rect.unit (s := S128x128) ![16 * g.val, 0] S16x128.size (inb_xs g)) (shapeCast S16x128 (scaleOf (F := F) (expOf (fieldOf (scaled x)))) shapeCasts_S16x128_S16x128) Finset.univ (View.stores_vmem_bits_univ h_S16x128 rfl) (.inl rfl))
  iter 22 (fun c _ => chunkProg a15 h15 x (invOf (expOf (fieldOf (scaled x)))) g c) ⟨⟩

/-- Quantises the window. -/
def quantAll : Pr F PUnit := iter 8 (fun g _ => quantProg xr a15 h15 a16 g) ⟨⟩
end

/-! ## The product -/

/-- The 256 rows of 4-bit codes packed two to a byte in 128 rows. -/
def nibbles (w : Vec F S128x256 .i8) : FVec F S256x256 .bf16 :=
  sitofp .bf16 (shrsi (shli
    (shapeCast S256x256 (broadcastTo S128x2x256 (shapeCast S128x1x256 (extui 32 w natLt_8_32) shapeCasts_S128x256_S128x1x256) broadcasts_S128x1x256_S128x2x256) shapeCasts_S128x2x256_S256x256)
    (subi (broadcast S256x256 28#32) (muli (broadcast S256x256 4#32) (andi (iota .tc S256x256 32 [0] iota_S256x256_d0_w32) (broadcast S256x256 1#32)))))
    (broadcast S256x256 28#32))

/-- Half a tile times its row of scales. -/
def half (c : FVec F S256x256 .bf16) (g : Fin 2) (s : Vec F S1x256 .f32) : FVec F S128x256 .bf16 :=
  mulf (extractStridedSlice S128x256 ![128 * g.val, 0] c (slices_half g)) (broadcastTo S128x256 (truncf .bf16 s bitsLt_bf16_f32) broadcasts_S1x256_S128x256)

/-- The tile. -/
def tile (w : Vec F S128x256 .i8) (s0 s1 : Vec F S1x256 .f32) : FVec F S256x256 .bf16 :=
  concatenate S256x256 0 [⟨S128x256, half (nibbles w) 0 s0⟩, ⟨S128x256, half (nibbles w) 1 s1⟩] concatenates_S128x256_S128x256_S256x256_d0

/-- The column tile of half `q` of the column block `nb`. -/
def jOf (nb : Fin 4) (q : Fin 2) : Fin 8 := ⟨2 * nb.val + q.val, by omega⟩

/-- The register of step `k` of block `nb`. -/
def regOf (nb : Fin 4) (k : Fin 11) : Fin 2 := ⟨(11 * nb.val + k.val) % 2, Nat.mod_lt _ (by decide)⟩

section
variable (wv : Memref sig .tc .vmem S1408x2048 .i8) (sv : Memref sig .tc .vmem S22x2048 .f32)
  (a15 : Memref sig .tc .vmem S128x2816 .bf16)
  (a16 : Memref sig .tc .vmem S128x128 .f32)
  (a17 : Memref sig .tc .vmem S6144x2048 .bf16) (h17 : a17.IsWhole)

/-- Loads, unpacks and pushes one weight tile. -/
def pushProg (nb : Fin 4) (k : Fin 11) (q : Fin 2) (m : Mxu F) : Pr F (Mxu F) := do
  let w : Vec F S128x256 .i8 ← Prog.lift (.load wv (Rect.unit (s := S1408x2048) ![128 * k.val, 256 * (jOf nb q).val] S128x256.size (inb_w k (jOf nb q))).toLoadRect (View.loadsAt_vmem h_S128x256))
  let s0 : Vec F S1x256 .f32 ← Prog.lift (.load sv (Rect.unit (s := S22x2048) ![2 * k.val + (0 : Fin 2).val, 256 * (jOf nb q).val] S1x256.size (inb_s k 0 (jOf nb q))).toLoadRect (View.loadsAt_vmem h_S1x256))
  let s1 : Vec F S1x256 .f32 ← Prog.lift (.load sv (Rect.unit (s := S22x2048) ![2 * k.val + (1 : Fin 2).val, 256 * (jOf nb q).val] S1x256.size (inb_s k 1 (jOf nb q))).toLoadRect (View.loadsAt_vmem h_S1x256))
  m.pushRhs q (regOf nb k) false (tile w s0 s1)

/-- The first 32 rows: both units load the pushed tiles. -/
def accFirst (nb : Fin 4) (k : Fin 11) (m : Mxu F) : Pr F (Mxu F) := do
  let l : Vec F S32x256 .bf16 ← Prog.lift (.load a15 (Rect.unit (s := S128x2816) ![32 * (0 : Fin 4).val, 256 * k.val] S32x256.size (inb_l 0 k)).toLoadRect (View.loadsAt_vmem h_S32x256))
  pure ((m.accLhs 0 (regOf nb k) (32 * (nb.val % 2) + 8 * (0 : Fin 4).val) l (fits nb 0)).accLhs 1 (regOf nb k) (32 * (nb.val % 2) + 8 * (0 : Fin 4).val) l (fits nb 0))

/-- The other rows, 32 at a time. -/
def accNext (nb : Fin 4) (k : Fin 11) (i : Fin 4) (m : Mxu F) : Pr F (Mxu F) := do
  let l : Vec F S32x256 .bf16 ← Prog.lift (.load a15 (Rect.unit (s := S128x2816) ![32 * i.val, 256 * k.val] S32x256.size (inb_l i k)).toLoadRect (View.loadsAt_vmem h_S32x256))
  let m' ← m.accLhsLoaded 0 (32 * (nb.val % 2) + 8 * i.val) l (fits nb i)
  m'.accLhsLoaded 1 (32 * (nb.val % 2) + 8 * i.val) l (fits nb i)

/-- One step of the contraction: 256 of the 2816 columns of `x`. -/
def kstep (nb : Fin 4) (k : Fin 11) (m : Mxu F) : Pr F (Mxu F) := do
  let m0 ← pushProg wv sv nb k 0 m
  let m1 ← pushProg wv sv nb k 1 m0
  let m2 ← accFirst a15 nb k m1
  let m3 ← accNext a15 nb k 1 m2
  let m4 ← accNext a15 nb k 2 m3
  accNext a15 nb k 3 m4

/-- Where a block of 16 rows of the result starts. -/
def yoff (row : BitVec 32) (g : BitVec 32) (c : ℕ) : Fin 2 → ℕ := ![(Scalar.indexCast (Scalar.addi row g)).toNat, 128 * c]

/-- The 128 rows from `row` on are rows of the result, and start at a multiple of 16. -/
structure RowOK (row : BitVec 32) : Prop where
  inb : ∀ (c : Fin 16) (g : Fin 8), ∀ a, yoff row (BitVec.ofNat 32 (16 * g.val)) c.val a + S16x128.size a ≤ S6144x2048.size a
  packed : ∀ (c : Fin 16) (g : Fin 8), (Rect.unit (s := S6144x2048) (yoff row (BitVec.ofNat 32 (16 * g.val)) c.val) S16x128.size (inb c g)).PackedRows (EltTy.packing .bf16)

variable (row lo hi : BitVec 32) (hr : RowOK row)

/-- The rows of a block of 16 that belong to the expert. -/
def maskOf (b : BitVec 32) : IVec S16x128 1 :=
  andi (cmpi .sge (addi (iota .tc S16x128 32 [0] iota_S16x128_d0_w32) (broadcast S16x128 (Scalar.addi row b))) (broadcast S16x128 lo))
    (cmpi .slt (addi (iota .tc S16x128 32 [0] iota_S16x128_d0_w32) (broadcast S16x128 (Scalar.addi row b))) (broadcast S16x128 hi))

/-- What a block of 16 rows and 128 columns becomes. -/
def outOf (res : FVec F S32x256 .f32) (r h : Fin 2) (sc : Vec F S16x128 .f32) : FVec F S16x128 .bf16 :=
  truncf .bf16 (mulf (extractStridedSlice S16x128 ![16 * r.val, 128 * h.val] res (slices_res r h)) sc) bitsLt_bf16_f32

/-- Writes a block of 16 rows and 128 columns. -/
def blockProg (res : FVec F S32x256 .f32) (g : Fin 8) (r : Fin 2) (c : Fin 16) (h : Fin 2) (mask : IVec S16x128 1) (sc : Vec F S16x128 .f32) : Pr F PUnit := do
  let old : Vec F S16x128 .bf16 ← Prog.lift (.load a17 (Rect.unit (s := S6144x2048) (yoff row (BitVec.ofNat 32 (16 * g.val)) c.val) S16x128.size (hr.inb c g)).toLoadRect (View.loadsAt_vmem h_S16x128))
  let _ : Vec F S16x128 .bf16 ← Prog.lift (.load a17 (Rect.unit (s := S6144x2048) (yoff row (BitVec.ofNat 32 (16 * g.val)) c.val) S16x128.size (hr.inb c g)).toLoadRect (View.loadsAt_vmem h_S16x128))
  Prog.lift (.store a17 (Rect.unit (s := S6144x2048) (yoff row (BitVec.ofNat 32 (16 * g.val)) c.val) S16x128.size (hr.inb c g)) (shapeCast S16x128 (select mask (outOf res r h sc) old) shapeCasts_S16x128_S16x128) Finset.univ (View.stores_vmem h_S16x128 (h17.storeExact_slice rfl _ (hr.packed c g)) (fun _ => rfl)) (.inl rfl))

/-- The block of 16 rows `g`, which is half `r` of a group of 32. -/
def gOf (i : Fin 4) (r : Fin 2) : Fin 8 := ⟨2 * i.val + r.val, by omega⟩
/-- The block of 128 columns. -/
def cOf (nb : Fin 4) (q h : Fin 2) : Fin 16 := ⟨4 * nb.val + (2 * q.val + h.val), by omega⟩

/-- Writes 16 rows and 256 columns. -/
def rowsProg (nb : Fin 4) (i : Fin 4) (q : Fin 2) (res : FVec F S32x256 .f32) (r : Fin 2) : Pr F PUnit := do
  let sc : Vec F S16x128 .f32 ← Prog.lift (.load a16 (Rect.unit (s := S128x128) ![16 * (gOf i r).val, 0] S16x128.size (inb_xs (gOf i r))).toLoadRect (View.loadsAt_vmem h_S16x128))
  blockProg a17 h17 row hr res (gOf i r) r (cOf nb q 0) 0 (maskOf row lo hi (BitVec.ofNat 32 (16 * (gOf i r).val))) sc
  blockProg a17 h17 row hr res (gOf i r) r (cOf nb q 1) 1 (maskOf row lo hi (BitVec.ofNat 32 (16 * (gOf i r).val))) sc

/-- Takes 32 rows and 256 columns of the product out of unit `q` and writes them. -/
def popProg (nb : Fin 4) (i : Fin 4) (q : Fin 2) (m : Mxu F) : Pr F (Mxu F) := do
  rowsProg a16 a17 h17 row lo hi hr nb i q (m.read q (32 * (nb.val % 2) + 8 * i.val) (fits nb i)) 0
  rowsProg a16 a17 h17 row lo hi hr nb i q (m.read q (32 * (nb.val % 2) + 8 * i.val) (fits nb i)) 1
  pure (m.pop q (32 * (nb.val % 2) + 8 * i.val) 32 (fits nb i))

/-- One block of 512 columns. -/
def nbProg (nb : Fin 4) (m : Mxu F) : Pr F (Mxu F) := do
  let m' ← iter 11 (fun k m => kstep wv sv a15 nb k m) m
  iter 4 (fun i m => (popProg a16 a17 h17 row lo hi hr nb i 0 m).bind fun m => popProg a16 a17 h17 row lo hi hr nb i 1 m) m'

/-- The product of the window with the expert's weights. -/
def prodAll (m : Mxu F) : Pr F (Mxu F) := iter 4 (fun nb m => nbProg wv sv a15 a16 a17 h17 row lo hi hr nb m) m
end

end Cert.Model
-- ==== Proof.Rules.lean ====
/-
  Rules for a load, a store, a copy and a wait on memrefs that are owned at given contents.
-/
module

public import Idealize.ShloMosaic.Lib.Memref
public import Idealize.ShloMosaic.Lib.Transfers
public import Idealize.ShloMosaic.Lib.SparseCore.Scatter
public import Idealize.ShloMosaic.Lib.Tactic

@[expose] public section

noncomputable section

namespace Cert.Rules

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load from an owned memref reads its contents. -/
theorem load {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k (fun x => X (r.idx x))) Q)
        -∗ wp frame (wpE defs 𝒱 c bd) Set.univ (.op (.load m r hl) k) Q) := by
  unfold owns
  iintro ⟨%f, %hf, H⟩ Hk
  iapply (wp_load 𝒱 c bd Set.univ (m := m) (r := r) (m.view.setOn_subset_set r.set)) $$ H
  iintro H
  subst hf
  iapply Hk
  iexists f; isplitr; · ipureintro; rfl
  iexact H

/-- A store to an owned memref replaces its contents on the rectangle. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (w := w) (Mk := Finset.univ)
    (by rw [View.setOn_univ]; exact m.view.set_slice_subset r)) $$ H
  iintro H
  iapply Hk
  iexists ((m.access r).write Val f w Finset.univ); isplitr
  · ipureintro
    subst hf
    funext j
    by_cases hj : j ∈ r.set
    · obtain ⟨i, rfl⟩ := r.exists_idx_of_mem hj
      change _ = r.overlay _ w (r.emb i)
      rw [Rect.overlay_emb]
      exact View.read_slice_write_emb (v := m.view) r f w (Finset.mem_univ i)
    · rw [Rect.overlay_of_not_mem _ _ _ hj]
      exact View.read_slice_write_of_not_mem (v := m.view) r f w Finset.univ (by rw [Rect.map_emb_univ]; exact hj)
  iexact H

/-- A load of one word from an owned table. -/
theorem word {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE defs 𝒱 c bd) Set.univ (k (X (r.emb (Shape.Idx.first (h1.symm ▸ Nat.one_pos))))) Q)
        -∗ wp frame (wpE defs 𝒱 c bd) Set.univ ((smemLoad (p := c.2) m r h1 hp).bind k) Q) :=
  load 𝒱 c bd (k := fun f => k (f (Shape.Idx.first (h1.symm ▸ Nat.one_pos))))

/-- The same memref without its axes of extent one. -/
theorem owns_squeeze {m : Memref sig c.2.kind sp s e} {q : PosShare TreeShare} {s' : Shape} (h : s.Squeezes s') (X : s.Idx → Val e) :
    (owns c m q X : sProp 𝕄) ⊢ owns c (m.squeeze s' h) q (fun i => X (Shape.reshapeEquiv h.numel_eq i)) := by
  unfold owns
  iintro ⟨%f, %hf, H⟩
  iexists f; isplitr
  · ipureintro; subst hf; rfl
  have hs : (m.view.loc c ↦[m.view.set]{q} f : sProp 𝕄) = ((m.squeeze s' h).view.loc c ↦[(m.squeeze s' h).view.set]{q} f) :=
    congrArg (fun S => (m.view.loc c ↦[S]{q} f : sProp 𝕄)) (m.view.set_reshape h.numel_eq).symm
  rw [← hs]
  iexact H

theorem owns_unsqueeze {m : Memref sig c.2.kind sp s e} {q : PosShare TreeShare} {s' : Shape} (h : s.Squeezes s') (X : s'.Idx → Val e) :
    (owns c (m.squeeze s' h) q X : sProp 𝕄) ⊢ iprop(∃ Y, ⌜∀ i, Y (Shape.reshapeEquiv h.numel_eq i) = X i⌝ ∗ owns c m q Y) := by
  unfold owns
  iintro ⟨%f, %hf, H⟩
  iexists (m.view.read Val f)
  isplitr
  · ipureintro; subst hf; intro i; rfl
  iexists f; isplitr
  · ipureintro; rfl
  have hs : (m.view.loc c ↦[m.view.set]{q} f : sProp 𝕄) = ((m.squeeze s' h).view.loc c ↦[(m.squeeze s' h).view.set]{q} f) :=
    congrArg (fun S => (m.view.loc c ↦[S]{q} f : sProp 𝕄)) (m.view.set_reshape h.numel_eq).symm
  rw [hs]
  iexact H

variable (EC : UEmb Counters (MT nD τ sig Ix Val Name U Lvl))

/-- A copy between owned memrefs is in flight until its wait, and then has brought the source's contents. -/
theorem copy [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare X ∗ owns c src q X) -∗ wp frame (wpE defs 𝒱 c bd) Set.univ (k ⟨⟩) Q)
        -∗ wp frame (wpE defs 𝒱 c bd) Set.univ (.op (.enqueueDma src (.here dst) sm hsrc hdst hsem) k) Q) := by
  iintro ⟨Hs, Hd, Hv⟩ Hk
  ihave Hs' := (show owns c src q X ⊢ iprop(∃ f, ⌜src.view.read Val f = X⌝ ∗ (src.view.loc c ↦[src.view.set]{q} f)) from .rfl) $$ Hs
  ihave Hd' := (show owns c dst fullShare Y ⊢ iprop(∃ f, ⌜dst.view.read Val f = Y⌝ ∗ (dst.view.loc c ↦[dst.view.set]{fullShare} f)) from .rfl) $$ Hd
  icases Hs' with ⟨%fs, %hs, Hs⟩
  icases Hd' with ⟨%fd, %hd, Hd⟩
  iapply (wp_dmaLocal EC 𝒱 c bd (src := src) (dst := dst) (sm := sm) (fs := fs) (fd := fd) (Sd := dst.view.set) ι N hN hN0 subset_rfl) $$ [Hs Hd Hv]
  · isplitl [Hs]; · iexact Hs
    isplitl [Hd]; · iexact Hd
    iexact Hv
  iintro HF
  iapply Hk
  iapply (Flight_mono EC c (D' := iprop(owns c dst fullShare X ∗ owns c src q X)) ?_) $$ HF
  iintro ⟨Hd, Hs⟩
  isplitl [Hd]
  · unfold owns
    iexists _; isplitr
    rotate_left
    · iexact Hd
    · ipureintro
      subst hs
      exact View.read_write_univ _ _
  · unfold owns
    iexists fs; isplitr
    · ipureintro; exact hs
    iexact Hs

end Cert.Rules
-- ==== Proof.Base.lean ====
/-
  The rules of `Rules`, for the kernel's programs: a load, a store, an assumption and a counted iteration at the head of a program.
-/
module

public import proofs.«01_k».proof.Proof.Model
public import proofs.«01_k».proof.Proof.Rules
public import Idealize.ShloMosaic.Lib.Pipeline.FrameValue
public import Idealize.ShloMosaic.Lib.Pipeline.FrameBody

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

/-- What a rectangle with unit strides replaces: the contents at an index inside it, and outside it. -/
theorem overlay_unit {s : Shape} {α : Type} {off size : Fin s.rank → Nat} {inb : ∀ a, off a + size a ≤ s.size a}
    (X : s.Idx → α) (w : (Rect.unit (s := s) off size inb).shape.Idx → α) (j : s.Idx) (i : (Rect.unit (s := s) off size inb).shape.Idx)
    (h : ∀ a, (j a).val = off a + (i a).val) : (Rect.unit (s := s) off size inb).overlay X w j = w i := by
  have : j = (Rect.unit (s := s) off size inb).emb i := funext fun a => Fin.ext (by
    rw [Rect.emb_apply, h a]; simp)
  rw [this, Rect.overlay_emb]

theorem overlay_unit_out {s : Shape} {α : Type} {off size : Fin s.rank → Nat} {inb : ∀ a, off a + size a ≤ s.size a}
    (X : s.Idx → α) (w : (Rect.unit (s := s) off size inb).shape.Idx → α) (j : s.Idx)
    (a : Fin s.rank) (h : ¬ (off a ≤ (j a).val ∧ (j a).val < off a + size a)) : (Rect.unit (s := s) off size inb).overlay X w j = X j := by
  refine Rect.overlay_of_not_mem _ _ _ fun hm => h ?_
  exact (Rect.mem_set_unit.mp hm) a

variable {F : FTy → Type} [FloatOps F] [Facts]
open Facts₀ Facts

/-- The algebra of the assertions. -/
abbrev MM (F : FTy → Type) [FloatOps F] : Type _ := MT nD τ sig Unit (Elt F) ℕ (Pipeline.UD sig nD τ) ℕ

/-- The program `p`, on core `c`, runs and ends in `Q`. -/
abbrev W (c : Dev nD) {α : Type} (p : Pr F α) (Q : α → sProp (MM F)) : sProp (MM F) :=
  wp frame (wpE (defs₀ (F := F)) Variants.none (c.tc : Thread nD τ) none) Set.univ p Q

/-- A memref owned by the core. -/
abbrev Own (c : Dev nD) {sp : Space} {s : Shape} {e : EltTy} (m : Memref sig .tc sp s e) (q : PosShare TreeShare) (X : s.Idx → Elt F e) : sProp (MM F) :=
  owns (c.tc : Thread nD τ) m q X

section
variable (c : Dev nD) {α β : Type} {Q : α → sProp (MM F)} {s : Shape} {e : EltTy}

theorem W_bind (p : Pr F β) (k : β → Pr F α) : W c (p.bind k) Q = W c p (fun b => W c (k b) Q) :=
  wp_bind frame (wpE (defs₀ (F := F)) Variants.none (c.tc : Thread nD τ) none) Set.univ p k Q

theorem W_bind' (p : Pr F β) (k : β → Pr F α) : W c (p >>= k) Q = W c p (fun b => W c (k b) Q) :=
  wp_bind frame (wpE (defs₀ (F := F)) Variants.none (c.tc : Thread nD τ) none) Set.univ p k Q

theorem W_ret (a : α) : Q a ⊢ W c (.ret a) Q := by
  unfold W; rw [wp_ret]; exact BI.fupd_intro

theorem ld {cs : CoreSpace} {m : Memref sig .tc cs s e} {r : LoadRect s} {hl : m.view.LoadsAt r}
    {k : (r.shape.Idx → Elt F e) → Pr F α} {q : PosShare TreeShare} {X : s.Idx → Elt F e} :
    Own c m q X ⊢ iprop((Own c m q X -∗ W c (k (fun x => X (r.idx x))) Q) -∗ W c (Prog.lift (.load m r hl) >>= k) Q) :=
  Rules.load Variants.none (c.tc : Thread nD τ) none

theorem st {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Pr F α} {X : s.Idx → Elt F e} :
    Own c m fullShare X
      ⊢ iprop((Own c m fullShare (r.overlay X w) -∗ W c (k ⟨⟩) Q) -∗ W c (Prog.lift (.store m r w Finset.univ hx hm) >>= k) Q) :=
  Rules.store Variants.none (c.tc : Thread nD τ) none

theorem st_last {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {X : s.Idx → Elt F e} {Q : PUnit → sProp (MM F)} :
    Own c m fullShare X
      ⊢ iprop((Own c m fullShare (r.overlay X w) -∗ Q ⟨⟩) -∗ W c (Prog.lift (.store m r w Finset.univ hx hm)) Q) := by
  iintro H Hk
  iapply (Rules.store Variants.none (c.tc : Thread nD τ) none (m := m) (r := r) (w := w) (hx := hx) (hm := hm) (k := .ret)) $$ H
  iintro H
  iapply (W_ret c)
  iapply Hk
  iexact H

theorem word {m : Memref sig .tc .smem s e} {r : Rect s} {h1 : r.shape.numel = 1} {hp : e.packing = 1}
    {k : Elt F e → Pr F α} {q : PosShare TreeShare} {X : s.Idx → Elt F e} :
    Own c m q X
      ⊢ iprop((Own c m q X -∗ W c (k (X (r.emb (Shape.Idx.first (h1.symm ▸ Nat.one_pos))))) Q)
        -∗ W c (smemLoad (p := (c.tc : Thread nD τ).2) m r h1 hp >>= k) Q) :=
  Rules.word Variants.none (c.tc : Thread nD τ) none

theorem asm {P : Prop} {d : Decidable P} {k : PLift P → Pr F α} (h : P) :
    W c (k ⟨h⟩) Q ⊢ W c (Prog.lift (.assume P d) >>= k) Q :=
  wp_assume (k := k) Variants.none (c.tc : Thread nD τ) none Set.univ h

theorem W_mono {p : Pr F α} {Q' : α → sProp (MM F)} (h : ∀ a, Q a ⊢ Q' a) : W c p Q ⊢ W c p Q' :=
  wp_mono frame (wpE (defs₀ (F := F)) Variants.none (c.tc : Thread nD τ) none) Set.univ h

theorem W_wand {p : Pr F α} {Q' : α → sProp (MM F)} : W c p Q ⊢ iprop((∀ a, Q a -∗ Q' a) -∗ W c p Q') :=
  wp_wand frame (wpE (defs₀ (F := F)) Variants.none (c.tc : Thread nD τ) none) Set.univ

/-- An invariant of a counted iteration. -/
theorem W_iter {n : ℕ} (f : Fin n → α → Pr F α) (I : ℕ → α → sProp (MM F))
    (h : ∀ (i : Fin n) (a : α), I i.val a ⊢ W c (f i a) (I (i.val + 1))) (a : α) : I 0 a ⊢ W c (iter n f a) (I n) := by
  induction n generalizing I a with
  | zero => exact W_ret c a
  | succ n ih =>
    show I 0 a ⊢ W c ((f 0 a).bind fun s' => iter n (fun i => f i.succ) s') (I (n + 1))
    rw [W_bind]
    exact (h 0 a).trans (W_mono c fun b => ih (fun i => f i.succ) (fun j => I (j + 1)) (fun i b => h i.succ b) b)

end

end Cert.Model
-- ==== Proof.Sched.lean ====
/-
  The schedule: which visit belongs to which expert, and what the tables hold once its loop has run.
-/
module

public import proofs.«01_k».proof.Proof.Base
public import proofs.«01_k».proof.Proof.Words

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

/-- The first row of expert `e`. -/
def stO (gs : ℕ → ℕ) : ℕ → ℕ
  | 0 => 0
  | e + 1 => stO gs e + gs e
/-- The windows of expert `e`. -/
def wn (gs : ℕ → ℕ) (e : ℕ) : ℕ := win (stO gs e) (gs e)
/-- The visits before expert `e`'s. -/
def nV (gs : ℕ → ℕ) : ℕ → ℕ
  | 0 => 0
  | e + 1 => nV gs e + wn gs e
/-- The experts before `e` that have rows. -/
def nE (gs : ℕ → ℕ) : ℕ → ℕ
  | 0 => 0
  | e + 1 => nE gs e + if 0 < gs e then 1 else 0

/-- The first row of window `j` of expert `e`. -/
def rowOf (gs : ℕ → ℕ) (e j : ℕ) : ℕ := min (stO gs e / 16 * 16 + j * 128) 6016

section
variable {gs : ℕ → ℕ}

theorem stO_mono {a b : ℕ} (h : a ≤ b) : stO gs a ≤ stO gs b := by
  induction h with
  | refl => exact le_rfl
  | step _ ih => exact ih.trans (Nat.le_add_right _ _)

theorem nV_mono {a b : ℕ} (h : a ≤ b) : nV gs a ≤ nV gs b := by
  induction h with
  | refl => exact le_rfl
  | step _ ih => exact ih.trans (Nat.le_add_right _ _)

theorem nE_mono {a b : ℕ} (h : a ≤ b) : nE gs a ≤ nE gs b := by
  induction h with
  | refl => exact le_rfl
  | step _ ih => exact ih.trans (Nat.le_add_right _ _)

theorem nE_le (e : ℕ) : nE gs e ≤ e := by
  induction e with
  | zero => exact le_rfl
  | succ n ih => simp only [nE]; split <;> omega

theorem wn_pos {e : ℕ} : 0 < wn gs e ↔ 0 < gs e := by
  unfold wn win
  constructor
  · intro h; by_contra hc; rw [if_neg hc] at h; omega
  · intro h; rw [if_pos h]; omega

theorem nV_bound (e : ℕ) : 128 * nV gs e ≤ stO gs e + 142 * e := by
  induction e with
  | zero => simp [nV, stO]
  | succ n ih =>
    have hw : 128 * wn gs n ≤ gs n + 142 := by
      unfold wn win
      split
      · have := Nat.div_mul_le_self (stO gs n + gs n - stO gs n / 16 * 16 + 127) 128
        omega
      · omega
    simp only [nV, stO]
    omega

theorem nV_le (hS : stO gs 64 ≤ 6144) {e : ℕ} (he : e ≤ 64) : nV gs e ≤ 119 := by
  have h := nV_bound (gs := gs) e
  have := stO_mono (gs := gs) he
  omega

/-- Between experts without visits no expert is counted. -/
theorem nE_eq_of_nV_eq {a b : ℕ} (h : a ≤ b) (hv : nV gs a = nV gs b) : nE gs a = nE gs b := by
  induction h with
  | refl => rfl
  | @step b hab ih =>
    have h1 := nV_mono (gs := gs) hab
    have h2 : nV gs b.succ = nV gs b + wn gs b := rfl
    have h0 : ¬ 0 < gs b := fun h => by have := (wn_pos (gs := gs)).2 h; omega
    rw [ih (by omega)]
    show _ = nE gs b + _
    rw [if_neg h0]; rfl

/-- Every visit is a window of one expert. -/
theorem visit_exists {n v : ℕ} (h : v < nV gs n) : ∃ e j, e < n ∧ j < wn gs e ∧ v = nV gs e + j := by
  induction n with
  | zero => simp [nV] at h
  | succ n ih =>
    by_cases hv : v < nV gs n
    · obtain ⟨e, j, he, hj, h⟩ := ih hv
      exact ⟨e, j, by omega, hj, h⟩
    · exact ⟨n, v - nV gs n, by omega, by simp only [nV] at h; omega, by omega⟩

/-- `o` experts have begun before visit `v`. -/
def Begun (gs : ℕ → ℕ) (v o : ℕ) : Prop :=
  (∀ e j, e < 64 → j < wn gs e → v = nV gs e + j → o = nE gs e + if j = 0 then 0 else 1) ∧ (v = nV gs 64 → o = nE gs 64)

theorem begun_zero : Begun gs 0 0 := by
  constructor
  · intro e j he hj h
    have hj0 : j = 0 := by omega
    have := nE_eq_of_nV_eq (gs := gs) (Nat.zero_le e) (by simp only [nV]; omega)
    subst hj0
    rw [if_pos rfl, ← this]; rfl
  · intro h
    exact nE_eq_of_nV_eq (gs := gs) (Nat.zero_le 64) h

theorem begun_succ {e j : ℕ} (he : e < 64) (hj : j < wn gs e) : Begun gs (nV gs e + j + 1) (nE gs e + 1) := by
  have hg : 0 < gs e := wn_pos.1 (by omega)
  have h1 : nE gs (e + 1) = nE gs e + 1 := by simp only [nE]; rw [if_pos hg]
  have h2 : nV gs (e + 1) = nV gs e + wn gs e := rfl
  constructor
  · intro e' j' he' hj' h
    rcases Nat.lt_trichotomy e' e with h' | h' | h'
    · have := nV_mono (gs := gs) (show e' + 1 ≤ e from h')
      simp only [nV] at this
      omega
    · subst h'
      rw [if_neg (by omega)]
    · have := nV_mono (gs := gs) (show e + 1 ≤ e' from h')
      have hj0 : j' = 0 := by omega
      rw [if_pos hj0, Nat.add_zero, ← h1]
      exact nE_eq_of_nV_eq h' (by omega)
  · intro h
    have := nV_mono (gs := gs) (show e + 1 ≤ 64 from he)
    rw [← h1]
    exact nE_eq_of_nV_eq he (by omega)

theorem begun_at {v o e j : ℕ} (h : Begun gs v o) (he : e < 64) (hj : j < wn gs e) (hv : v = nV gs e + j) : o = nE gs e + if j = 0 then 0 else 1 := h.1 e j he hj hv

theorem rowOf_dvd (e j : ℕ) : ∃ k : Fin 377, rowOf gs e j = 16 * k.val := by
  have h : rowOf gs e j ≤ 6016 := Nat.min_le_right _ _
  have h' : rowOf gs e j = 16 * (rowOf gs e j / 16) := by unfold rowOf; omega
  exact ⟨⟨rowOf gs e j / 16, by omega⟩, h'⟩

end

variable {F : FTy → Type} [FloatOps F]

/-- What the array holds at an index. -/
def Holds {s : Shape} {α : Type} (T : s.Idx → α) (off : Fin s.rank → ℕ) (w : α) : Prop := ∀ i : s.Idx, (∀ a, (i a).val = off a) → T i = w

section
variable {s : Shape} {α : Type} {off : Fin s.rank → ℕ} {size : Fin s.rank → ℕ} {inb : ∀ a, off a + size a ≤ s.size a}

theorem Holds.set (T : s.Idx → α) (w : α) (h1 : ∀ a, size a = 1) : Holds ((Rect.unit (s := s) off size inb).overlay T (fun _ => w)) off w := by
  intro j hj
  exact overlay_unit T (fun _ => w) j (fun a => ⟨0, by rw [show (Rect.unit (s := s) off size inb).shape.size a = size a from rfl, h1 a]; exact Nat.one_pos⟩)
    (fun a => by rw [hj a]; rfl)

theorem Holds.keep {T : s.Idx → α} {off' : Fin s.rank → ℕ} {w w' : α} (h : Holds T off' w') (h1 : ∀ a, size a = 1) (a₀ : Fin s.rank) (hne : off' a₀ ≠ off a₀) :
    Holds ((Rect.unit (s := s) off size inb).overlay T (fun _ => w)) off' w' := by
  intro j hj
  rw [overlay_unit_out T (fun _ => w) j a₀ (by have := hj a₀; have := h1 a₀; omega)]
  exact h j hj

theorem Holds.first {T : s.Idx → α} {w : α} (h : Holds T off w) (h1 : (Rect.unit (s := s) off size inb).shape.numel = 1) (hs : ∀ a, size a = 1) :
    T ((Rect.unit (s := s) off size inb).emb (Shape.Idx.first (h1.symm ▸ Nat.one_pos))) = w :=
  h _ fun a => by
    have : ((Shape.Idx.first (h1.symm ▸ Nat.one_pos) : (Rect.unit (s := s) off size inb).shape.Idx) a).val < size a := Fin.isLt _
    rw [hs a] at this
    show off a + 1 * _ = off a
    omega
end

/-- A load of a word whose value is known. -/
theorem wordAt [Facts] (c : Dev nD) {α : Type} {Q : α → sProp (MM F)} {s : Shape} {e : EltTy} {m : Memref sig .tc .smem s e} {off size : Fin s.rank → ℕ} {inb : ∀ a, off a + size a ≤ s.size a}
    {h1 : (Rect.unit (s := s) off size inb).shape.numel = 1} {hp : e.packing = 1}
    {k : Elt F e → Pr F α} {q : PosShare TreeShare} {X : s.Idx → Elt F e} {w : Elt F e} (hs : ∀ a, size a = 1) (h : Holds X off w) :
    Own c m q X ⊢ iprop((Own c m q X -∗ W c (k w) Q) -∗ W c (smemLoad (p := (c.tc : Thread nD τ).2) m (Rect.unit (s := s) off size inb) h1 hp >>= k) Q) := by
  rw [← h.first h1 hs (inb := inb)]
  exact word c

/-- The six tables' entries of the visits before window `j` of expert `e`. -/
def TabV (gs : ℕ → ℕ) (e j : ℕ) (T5 T6 T7 T8 T9 T10 : S128.Idx → BitVec 32) : Prop :=
  ∀ e' j', j' < wn gs e' → (e' < e ∨ e' = e ∧ j' < j) →
    Holds T5 ![nV gs e' + j'] (BitVec.ofNat 32 e') ∧ Holds T6 ![nV gs e' + j'] (BitVec.ofNat 32 (rowOf gs e' j')) ∧
    Holds T7 ![nV gs e' + j'] (BitVec.ofNat 32 (stO gs e')) ∧ Holds T8 ![nV gs e' + j'] (BitVec.ofNat 32 (stO gs e' + gs e')) ∧
    Holds T9 ![nV gs e' + j'] (BitVec.ofNat 32 (nE gs e' % 3)) ∧ Holds T10 ![nV gs e' + j'] (BitVec.ofNat 32 (if j' = 0 then nE gs e' + 1 else 0))

/-- The list of the experts with rows, up to expert `e`. -/
def TabE (gs : ℕ → ℕ) (e : ℕ) (T11 : S64.Idx → BitVec 32) : Prop :=
  ∀ e' < e, 0 < gs e' → Holds T11 ![nE gs e'] (BitVec.ofNat 32 e')

end Cert.Model
-- ==== Proof.Tables.lean ====
/-
  The loop that fills the tables.
-/
module

public import proofs.«01_k».proof.Proof.Sched

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

/-- A loop with an invariant, at the head of a program. -/
theorem W_for (c : Dev nD) {σ : Type} (l : Scf.Loop 32) (hok : l.OK) (init : σ) (body : Fin l.trips → σ → Pr F σ) (I : ℕ → σ → sProp (MM F)) (n : ℕ) (hn : l.trips = n)
    (hb : ∀ (k : Fin l.trips) (a : σ), I k.val a ⊢ W c (body k a) (I (k.val + 1))) :
    I 0 init ⊢ W c (Scf.Loop.for l hok init body) (I n) := by
  subst hn
  iintro H
  iapply (Scf.wp_for frame (wpE (defs₀ (F := F)) Variants.none (c.tc : Thread nD τ) none) Set.univ l.lb l.ub l.st hok init body I hb)
  isplitl [H]; · iexact H
  iintro %a H
  iexact H

/-- A program and the rest after it. -/
theorem W_seq (c : Dev nD) {α β : Type} {p : Pr F β} {k : β → Pr F α} {Q : α → sProp (MM F)} (R : β → sProp (MM F)) :
    W c p R ⊢ iprop((∀ b, R b -∗ W c (k b) Q) -∗ W c (p >>= k) Q) := by
  rw [W_bind']
  exact W_wand c

/-- The six tables, right for the visits before window `j` of expert `e`. -/
def Tabs (c : Dev nD) (gs : ℕ → ℕ) (e j : ℕ) (a5 a6 a7 a8 a9 a10 : Memref sig .tc .smem S128 .i32) : sProp (MM F) :=
  iprop(∃ T5 T6 T7 T8 T9 T10, ⌜TabV gs e j T5 T6 T7 T8 T9 T10⌝ ∗ Own c a5 fullShare T5 ∗ Own c a6 fullShare T6 ∗ Own c a7 fullShare T7 ∗
    Own c a8 fullShare T8 ∗ Own c a9 fullShare T9 ∗ Own c a10 fullShare T10)

/-- The list of experts, right before expert `e`. -/
def TabX (c : Dev nD) (gs : ℕ → ℕ) (e : ℕ) (a11 : Memref sig .tc .smem S64 .i32) : sProp (MM F) :=
  iprop(∃ T, ⌜TabE gs e T⌝ ∗ Own c a11 fullShare T)

theorem TabV.next {gs : ℕ → ℕ} {e : ℕ} {T5 T6 T7 T8 T9 T10 : S128.Idx → BitVec 32} (h : TabV gs e (wn gs e) T5 T6 T7 T8 T9 T10) :
    TabV gs (e + 1) 0 T5 T6 T7 T8 T9 T10 := by
  intro e' j' hj' hlt
  refine h e' j' hj' ?_
  rcases hlt with h | h
  · rcases Nat.lt_or_eq_of_le (Nat.le_of_lt_succ h) with h | h
    · exact .inl h
    · subst h; exact .inr ⟨rfl, hj'⟩
  · omega

/-- The visit numbers of different windows differ. -/
theorem visit_ne {gs : ℕ → ℕ} {e j e' j' : ℕ} (hj' : j' < wn gs e') (h : e' < e ∨ e' = e ∧ j' < j) : nV gs e' + j' ≠ nV gs e + j := by
  rcases h with h | ⟨rfl, h⟩
  · have := nV_mono (gs := gs) (show e' + 1 ≤ e from h)
    simp only [nV] at this
    omega
  · omega

theorem TabV.add {gs : ℕ → ℕ} {e j : ℕ} {T5 T6 T7 T8 T9 T10 : S128.Idx → BitVec 32} (h : TabV gs e j T5 T6 T7 T8 T9 T10) {off size : Fin 1 → ℕ}
    {inb : ∀ a, off a + size a ≤ S128.size a} (ho : off = ![nV gs e + j]) (hs : size = S1.size) {w5 w6 w7 w8 w9 w10 : BitVec 32}
    (h5 : w5 = BitVec.ofNat 32 e) (h6 : w6 = BitVec.ofNat 32 (rowOf gs e j)) (h7 : w7 = BitVec.ofNat 32 (stO gs e)) (h8 : w8 = BitVec.ofNat 32 (stO gs e + gs e))
    (h9 : w9 = BitVec.ofNat 32 (nE gs e % 3)) (h10 : w10 = BitVec.ofNat 32 (if j = 0 then nE gs e + 1 else 0)) :
    TabV gs e (j + 1) ((Rect.unit (s := S128) off size inb).overlay T5 fun _ => w5) ((Rect.unit (s := S128) off size inb).overlay T6 fun _ => w6)
      ((Rect.unit (s := S128) off size inb).overlay T7 fun _ => w7) ((Rect.unit (s := S128) off size inb).overlay T8 fun _ => w8)
      ((Rect.unit (s := S128) off size inb).overlay T9 fun _ => w9) ((Rect.unit (s := S128) off size inb).overlay T10 fun _ => w10) := by
  subst ho hs h5 h6 h7 h8 h9 h10
  have h1 : ∀ a, S1.size a = 1 := fun a => by fin_cases a; rfl
  intro e' j' hj' hlt
  by_cases hn : e' = e ∧ j' = j
  · obtain ⟨rfl, rfl⟩ := hn
    exact ⟨.set _ _ h1, .set _ _ h1, .set _ _ h1, .set _ _ h1, .set _ _ h1, .set _ _ h1⟩
  · have hlt' : e' < e ∨ e' = e ∧ j' < j := by omega
    have hne : (![nV gs e' + j'] : Fin 1 → ℕ) 0 ≠ (![nV gs e + j] : Fin 1 → ℕ) 0 := visit_ne hj' hlt'
    obtain ⟨a5, a6, a7, a8, a9, a10⟩ := h e' j' hj' hlt'
    exact ⟨a5.keep h1 0 hne, a6.keep h1 0 hne, a7.keep h1 0 hne, a8.keep h1 0 hne, a9.keep h1 0 hne, a10.keep h1 0 hne⟩

section
variable (arg0 : Memref sig .tc .smem S64 .i32) (harg0 : arg0.IsWhole) (arg1 : Memref sig .tc .hbm S6144x2816 .bf16) (harg1 : arg1.IsWhole) (arg2 : Memref sig .tc .hbm S64x1408x2048 .i8) (harg2 : arg2.IsWhole) (arg3 : Memref sig .tc .hbm S64x22x2048 .f32) (harg3 : arg3.IsWhole) (arg4 : Memref sig .tc .hbm S6144x2048 .bf16) (harg4 : arg4.IsWhole) (arg5 : Memref sig .tc .smem S128 .i32) (harg5 : arg5.IsWhole) (arg6 : Memref sig .tc .smem S128 .i32) (harg6 : arg6.IsWhole) (arg7 : Memref sig .tc .smem S128 .i32) (harg7 : arg7.IsWhole) (arg8 : Memref sig .tc .smem S128 .i32) (harg8 : arg8.IsWhole) (arg9 : Memref sig .tc .smem S128 .i32) (harg9 : arg9.IsWhole) (arg10 : Memref sig .tc .smem S128 .i32) (harg10 : arg10.IsWhole) (arg11 : Memref sig .tc .smem S64 .i32) (harg11 : arg11.IsWhole) (arg12 : Memref sig .tc .vmem S3x1408x2048 .i8) (harg12 : arg12.IsWhole) (arg13 : Memref sig .tc .vmem S3x22x2048 .f32) (harg13 : arg13.IsWhole) (arg14 : Memref sig .tc .vmem S2x128x2816 .bf16) (harg14 : arg14.IsWhole) (arg15 : Memref sig .tc .vmem S128x2816 .bf16) (harg15 : arg15.IsWhole) (arg16 : Memref sig .tc .vmem S128x128 .f32) (harg16 : arg16.IsWhole) (arg17 : Memref sig .tc .vmem S6144x2048 .bf16) (harg17 : arg17.IsWhole) (arg18 : DmaSems sig S3) (arg19 : DmaSems sig S3) (arg20 : DmaSems sig S2) (arg21 : DmaSems sig S_)
variable (c : Dev nD) {gs : ℕ → ℕ} {q : PosShare TreeShare} {GS : S64.Idx → Elt F .i32}

set_option backward.isDefEq.respectTransparency.types false in
/-- One expert's entries. -/
theorem part1_wp (hS : stO gs 64 ≤ 6144) (hG : ∀ e < 64, Holds GS ![e] (BitVec.ofNat 32 (gs e))) (k : Fin k0_t1_loop.trips) (e : ℕ) (hk : k.val = e) (he : e < 64) :
    iprop(Own (F := F) c arg0 q GS ∗ Tabs (F := F) c gs e 0 arg5 arg6 arg7 arg8 arg9 arg10 ∗ TabX c gs e arg11)
      ⊢ W c (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 0#32 1#32 k (BitVec.ofNat 32 (stO gs e)) (BitVec.ofNat 32 (nV gs e)) (BitVec.ofNat 32 (nE gs e)))
        (fun r => iprop(⌜r.1 = BitVec.ofNat 32 (stO gs (e + 1)) ∧ r.2.1 = BitVec.ofNat 32 (nV gs (e + 1)) ∧ r.2.2 = BitVec.ofNat 32 (if 0 < gs e then 1 else 0)⌝ ∗
          Own c arg0 q GS ∗ Tabs c gs (e + 1) 0 arg5 arg6 arg7 arg8 arg9 arg10 ∗ TabX c gs (e + 1) arg11)) := by
  have h1 : ∀ a, S1.size a = 1 := fun a => by fin_cases a; rfl
  have hsg : stO gs e + gs e ≤ 6144 := (stO_mono (gs := gs) (show e + 1 ≤ 64 from he)).trans hS
  have hw : win (stO gs e) (gs e) ≤ 128 := win_le hsg
  have hnV : nV gs e + wn gs e ≤ 119 := nV_le hS (e := e + 1) he
  have hnE : nE gs e ≤ e := nE_le e
  have hoff : k0_off1 k = ![e] := by
    unfold k0_off1; dsimp only; rw [iv_ofNat, hk]
    show ![(BitVec.ofNat 32 e).toNat] = _
    rw [toNat_small (by omega)]
  have hchk : k0_chk1 (BitVec.ofNat 32 (stO gs e)) (BitVec.ofNat 32 (nE gs e)) (BitVec.ofNat 32 (gs e)) := by
    refine ⟨fun _ a => ?_, ?_, ?_⟩
    · fin_cases a
      show (BitVec.ofNat 32 (nE gs e)).toNat + 1 ≤ 64
      rw [toNat_small (by omega)]; omega
    · rw [t2_eq, winW_ofNat hsg]; exact (loops_small ⟨win (stO gs e) (gs e), by omega⟩).2.1
    · rw [t3_eq, winW_ofNat hsg]; exact (loops_small ⟨win (stO gs e) (gs e), by omega⟩).2.2.2
  have hA : (k0_t2_loop (BitVec.ofNat 32 (stO gs e)) (BitVec.ofNat 32 (gs e))).trips = wn gs e := by
    rw [t2_eq, winW_ofNat hsg]
    exact (loops_small ⟨win (stO gs e) (gs e), by omega⟩).1
  have hB : (k0_t3_loop (BitVec.ofNat 32 (stO gs e)) (BitVec.ofNat 32 (gs e))).trips = 0 := by
    rw [t3_eq, winW_ofNat hsg]
    exact (loops_small ⟨win (stO gs e) (gs e), by omega⟩).2.2.1
  unfold k0_part1
  iintro ⟨H0, HT, HX⟩
  iapply (wordAt c (e := .i32) (X := GS) h1 (w := BitVec.ofNat 32 (gs e)) (by rw [hoff]; exact hG e he)) $$ H0
  iintro H0
  iapply (asm c hchk)
  ihave HX := (show TabX c gs e arg11 ⊢ iprop(∃ T, ⌜TabE gs e T⌝ ∗ Own c arg11 fullShare T) from .rfl) $$ HX
  icases HX with ⟨%T, %hT, HX⟩
  by_cases hg : 0 < gs e
  case' pos =>
    rw [dif_pos ((cond1_iff (by omega)).2 hg)]
    iapply (word c) $$ HX
    iintro HX
    iapply (st c) $$ HX
    iintro HX
    have hX' : TabE gs (e + 1) ((Rect.unit (s := S64) (k0_off2 (BitVec.ofNat 32 (nE gs e))) S1.size (k0_off2_inb _ _ _ hchk ((cond1_iff (by omega)).2 hg))).overlay T fun _ => Scf.iv 0#32 1#32 k) := by
        have ho : k0_off2 (BitVec.ofNat 32 (nE gs e)) = ![nE gs e] := by
          show ![(BitVec.ofNat 32 (nE gs e)).toNat] = _
          rw [toNat_small (by omega)]
        intro e' he' hg'
        by_cases h : e' = e
        · subst h
          rw [← ho, iv_ofNat, hk]
          exact .set _ _ h1
        · refine (hT e' (by omega) hg').keep h1 0 ?_
          rw [ho]
          have := nE_mono (gs := gs) (show e' + 1 ≤ e by omega)
          simp only [nE, if_pos hg'] at this
          show nE gs e' ≠ nE gs e
          omega
  case' neg =>
    rw [dif_neg (fun h => hg ((cond1_iff (by omega)).1 h))]
    have hX' : TabE gs (e + 1) T := by
        intro e' he' hg'
        refine hT e' ?_ hg'
        rcases Nat.lt_or_eq_of_le (Nat.le_of_lt_succ he') with h | h
        · exact h
        · subst h; exact absurd hg' hg
  all_goals
      iapply (W_seq c (fun (a : BitVec 32) => iprop(⌜a = BitVec.ofNat 32 (nV gs e + wn gs e)⌝ ∗ Tabs c gs e (wn gs e) arg5 arg6 arg7 arg8 arg9 arg10))) $$ [HT]
      · iapply (W_for c _ _ _ _ (fun j (a : BitVec 32) => iprop(⌜a = BitVec.ofNat 32 (nV gs e + j)⌝ ∗ Tabs c gs e j arg5 arg6 arg7 arg8 arg9 arg10)) (wn gs e) hA ?_) $$ [HT]
        · intro j a
          have hj : j.val < wn gs e := by
            refine lt_of_lt_of_eq j.isLt ?_
            rw [t2_eq, winW_ofNat hsg]
            exact (loops_small ⟨win (stO gs e) (gs e), by omega⟩).1
          iintro ⟨%ha, HT⟩
          subst ha
          ihave HT := (show Tabs c gs e j.val arg5 arg6 arg7 arg8 arg9 arg10 ⊢ iprop(∃ T5 T6 T7 T8 T9 T10, ⌜TabV gs e j.val T5 T6 T7 T8 T9 T10⌝ ∗ Own c arg5 fullShare T5 ∗ Own c arg6 fullShare T6 ∗ Own c arg7 fullShare T7 ∗
            Own c arg8 fullShare T8 ∗ Own c arg9 fullShare T9 ∗ Own c arg10 fullShare T10) from .rfl) $$ HT
          icases HT with ⟨%T5, %T6, %T7, %T8, %T9, %T10, %hT, H5, H6, H7, H8, H9, H10⟩
          have ho : k0_off3 (BitVec.ofNat 32 (nV gs e + j.val)) = ![nV gs e + j.val] := by
            show ![(BitVec.ofNat 32 (nV gs e + j.val)).toNat] = _
            rw [toNat_small (by omega)]
          iapply (asm c (show k0_chk2 (BitVec.ofNat 32 (nV gs e + j.val)) from fun a => by
            rw [ho]; fin_cases a
            show nV gs e + j.val + 1 ≤ 128
            omega))
          dsimp only
          iapply (word c) $$ H5
          iintro H5
          iapply (st c) $$ H5
          iintro H5
          iapply (word c) $$ H6
          iintro H6
          iapply (st c) $$ H6
          iintro H6
          iapply (word c) $$ H7
          iintro H7
          iapply (st c) $$ H7
          iintro H7
          iapply (word c) $$ H8
          iintro H8
          iapply (st c) $$ H8
          iintro H8
          iapply (word c) $$ H9
          iintro H9
          iapply (st c) $$ H9
          iintro H9
          iapply (word c) $$ H10
          iintro H10
          iapply (st c) $$ H10
          iintro H10
          iapply (W_ret c)
          isplitr
          · ipureintro
            exact addi_ofNat _ 1
          unfold Tabs
          iexists _, _, _, _, _, _
          isplitr
          rotate_left
          · isplitl [H5]; · iexact H5
            isplitl [H6]; · iexact H6
            isplitl [H7]; · iexact H7
            isplitl [H8]; · iexact H8
            isplitl [H9]; · iexact H9
            iexact H10
          · ipureintro
            refine hT.add ho rfl ?_ ?_ rfl ?_ ?_ ?_
            · rw [iv_ofNat, hk]
            · rw [iv_ofNat, mask_ofNat (by omega), muli_ofNat _ 128, addi_ofNat]
              exact minsi_ofNat (by omega) (by omega)
            · exact addi_ofNat _ _
            · exact remsi3 ⟨nE gs e, by omega⟩
            · rw [iv_ofNat, addi_ofNat _ 1]
              by_cases hj0 : j.val = 0
              · rw [if_pos hj0, hj0]; rfl
              · rw [if_neg hj0]
                have : Scalar.cmpi .eq (BitVec.ofNat 32 j.val) 0#32 = 0#1 := by
                  show BitVec.ofBool (BitVec.ofNat 32 j.val == 0#32) = 0#1
                  rw [beq_eq_false_iff_ne.2]
                  · rfl
                  · intro h
                    have := congrArg BitVec.toNat h
                    rw [toNat_small (by omega)] at this
                    exact hj0 this
                rw [this]; rfl
        isplitr
        · ipureintro; rfl
        iexact HT
      iintro %a ⟨%ha, HT⟩
      subst ha
      iapply (W_seq c (fun (a : BitVec 32) => iprop(⌜a = BitVec.ofNat 32 (nV gs e + wn gs e)⌝ ∗ Tabs c gs e (wn gs e) arg5 arg6 arg7 arg8 arg9 arg10))) $$ [HT]
      · iapply (W_for c _ _ _ _ (fun j (a : BitVec 32) => iprop(⌜a = BitVec.ofNat 32 (nV gs e + wn gs e)⌝ ∗ Tabs c gs e (wn gs e) arg5 arg6 arg7 arg8 arg9 arg10)) 0 hB ?_) $$ [HT]
        · intro j a
          exact absurd (lt_of_lt_of_eq j.isLt hB) (Nat.not_lt_zero _)
        isplitr
        · ipureintro; rfl
        iexact HT
      iintro %a ⟨%ha, HT⟩
      subst ha
      iapply (W_ret c)
      isplitr
      · ipureintro
        refine ⟨addi_ofNat _ _, rfl, ?_⟩
        dsimp only
        by_cases hg' : 0 < gs e
        · rw [if_pos hg', (sgt_ofNat (by omega) (by omega)).2 hg']; rfl
        · obtain hg0 : gs e = 0 := by omega
          rw [if_neg hg', hg0]; rfl
      isplitl [H0]; · iexact H0
      isplitl [HT]
      · ihave HT := (show Tabs c gs e (wn gs e) arg5 arg6 arg7 arg8 arg9 arg10 ⊢ iprop(∃ T5 T6 T7 T8 T9 T10, ⌜TabV gs e (wn gs e) T5 T6 T7 T8 T9 T10⌝ ∗ Own c arg5 fullShare T5 ∗ Own c arg6 fullShare T6 ∗ Own c arg7 fullShare T7 ∗
            Own c arg8 fullShare T8 ∗ Own c arg9 fullShare T9 ∗ Own c arg10 fullShare T10) from .rfl) $$ HT
        icases HT with ⟨%T5, %T6, %T7, %T8, %T9, %T10, %hT, H⟩
        unfold Tabs
        iexists T5, T6, T7, T8, T9, T10
        isplitr
        · ipureintro; exact hT.next
        iexact H
      unfold TabX
      iexists _; isplitr
      · ipureintro; exact hX'
      iexact HX

end

end Cert.Model
-- ==== Proof.Ring.lean ====
/-
  The copies of the kernel: a block of an array in the large memory is fetched into a slot of a buffer, and waited for.
-/
module

public import proofs.«01_k».proof.Proof.Tables
public import Idealize.ShloMosaic.Lib.MemrefSat

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

/-- A copy in flight on the semaphore `sm`, of `N` units, that delivers `D`. -/
abbrev FL (c : Dev nD) (sm : DmaSem sig) (N : ℕ) (D : sProp (MM F)) : sProp (MM F) :=
  Transfers.Flight (countersEmb (U := Pipeline.UD sig nD τ)) (c.tc : Thread nD τ) (SemLoc.dma sm) () N D

/-- The semaphore `sm` at zero. -/
abbrev Sv (c : Dev nD) (sm : DmaSem sig) : sProp (MM F) := semVal ((c.tc : Thread nD τ), SemLoc.dma sm) 0

/-- What the core owes: nothing, after some waits. -/
def Owe (c : Dev nD) : sProp (MM F) := iprop(∃ Wt, owes (c.tc : Thread nD τ) 0 Wt)

section
variable (c : Dev nD) {α : Type} {Q : α → sProp (MM F)} {sp : Space} {s : Shape} {e : EltTy}

/-- A slice, squeezed, of an owned memref: taken out, and put back. -/
theorem own_part {sh s' : Shape} (m : Memref sig .tc sp sh e) (q : PosShare TreeShare) (r : Rect sh) (hr : ∀ a, r.stride a = 1)
    (X : sh.Idx → Elt F e) (h : r.shape.Squeezes s') :
    Own c m q X ⊢ iprop(Own c ((m.slice r hr).squeeze s' h) q (fun i => X (r.emb (Shape.reshapeEquiv h.numel_eq i)))
      ∗ (Own c ((m.slice r hr).squeeze s' h) q (fun i => X (r.emb (Shape.reshapeEquiv h.numel_eq i))) -∗ Own c m q X)) := by
  iintro H
  ihave H := (owns_slice_split (c.tc : Thread nD τ) m q r hr X) $$ H
  icases H with ⟨Hs, ⟨%f, %hf, Hr⟩⟩
  isplitl [Hs]
  · iapply (Rules.owns_squeeze (c.tc : Thread nD τ) h (fun i => X (r.emb i)))
    iexact Hs
  iintro Hs
  ihave Hs := (Rules.owns_unsqueeze (c.tc : Thread nD τ) (m := m.slice r hr) h _) $$ Hs
  icases Hs with ⟨%Y, %hY, Hs⟩
  have hY' : Y = fun i => X (r.emb i) := funext fun i => by
    have := hY ((Shape.reshapeEquiv h.numel_eq).symm i)
    simpa using this
  ihave H := (owns_slice_join (c.tc : Thread nD τ) m q r hr Y f) $$ [Hs Hr]
  · isplitl [Hs]; · iexact Hs
    iexact Hr
  have hX : r.overlay (m.view.read (Elt F) f) Y = X := by
    subst hf hY'
    funext j
    by_cases hj : j ∈ r.set
    · obtain ⟨i, rfl⟩ := r.exists_idx_of_mem hj
      exact Rect.overlay_emb _ _ _ i
    · exact Rect.overlay_of_not_mem _ _ _ hj
  rw [hX]
  iexact H

/-- The same for a slice that is not squeezed. -/
theorem own_part' {sh : Shape} (m : Memref sig .tc sp sh e) (q : PosShare TreeShare) (r : Rect sh) (hr : ∀ a, r.stride a = 1) (X : sh.Idx → Elt F e) :
    Own c m q X ⊢ iprop(Own c (m.slice r hr) q (fun i => X (r.emb i)) ∗ (Own c (m.slice r hr) q (fun i => X (r.emb i)) -∗ Own c m q X)) := by
  iintro H
  ihave H := (owns_slice_split (c.tc : Thread nD τ) m q r hr X) $$ H
  icases H with ⟨Hs, ⟨%f, %hf, Hr⟩⟩
  isplitl [Hs]; · iexact Hs
  iintro Hs
  ihave H := (owns_slice_join (c.tc : Thread nD τ) m q r hr (fun i => X (r.emb i)) f) $$ [Hs Hr]
  · isplitl [Hs]; · iexact Hs
    iexact Hr
  have hX : r.overlay (m.view.read (Elt F) f) (fun i => X (r.emb i)) = X := by
    subst hf
    funext j
    by_cases hj : j ∈ r.set
    · obtain ⟨i, rfl⟩ := r.exists_idx_of_mem hj
      exact Rect.overlay_emb _ _ _ i
    · exact Rect.overlay_of_not_mem _ _ _ hj
  rw [hX]
  iexact H

/-- A part of an array is copied; the wait gives the target at the part's contents, and the array back. -/
theorem issue {sp' : Space} {sh : Shape} {m : Memref sig .tc sp sh e} {src : Memref sig .tc sp s e} {dst : Memref sig .tc sp' s e} {sm : DmaSem sig}
    {hsrc : src.view.WordExact} {hdst : dst.view.WordExact} {hsem : DmaTarget.Typed (nD := nD) (τ := τ) sp (SemLoc.dma sm) (.here (p := .tc) dst)}
    {k : PUnit → Pr F α} {q : PosShare TreeShare} {X : sh.Idx → Elt F e} {Y : s.Idx → Elt F e} (hN0 : 0 < dst.view.dmaCredit)
    (hp : Own (F := F) c m q X ⊢ iprop(Own c src q Y ∗ (Own c src q Y -∗ Own c m q X))) :
    iprop(Own (F := F) c m q X ∗ (∃ Z, Own c dst fullShare Z) ∗ Sv c sm)
      ⊢ iprop((FL c sm dst.view.dmaCredit iprop(Own c dst fullShare Y ∗ Own c m q X) -∗ W c (k ⟨⟩) Q)
        -∗ W c (Prog.lift (.enqueueDma src (.here dst) (.dma sm) hsrc hdst hsem) >>= k) Q) := by
  iintro ⟨Hm, ⟨%Z, Hd⟩, Hv⟩ Hk
  ihave Hm := hp $$ Hm
  icases Hm with ⟨Hs, Hback⟩
  iapply (Rules.copy Variants.none (c.tc : Thread nD τ) none (countersEmb (U := Pipeline.UD sig nD τ)) (src := src) (dst := dst) (sm := SemLoc.dma sm)
    (hsrc := hsrc) (hdst := hdst) (hsem := hsem) (k := k) (q := q) (X := Y) (Y := Z) () dst.view.dmaCredit rfl hN0) $$ [Hs Hd Hv]
  · isplitl [Hs]; · iexact Hs
    isplitl [Hd]; · iexact Hd
    iexact Hv
  iintro HF
  iapply Hk
  iapply (Transfers.Flight_mono (countersEmb (U := Pipeline.UD sig nD τ)) (c.tc : Thread nD τ)
    (D := iprop((Own c src q Y -∗ Own c m q X) ∗ (Own c dst fullShare Y ∗ Own c src q Y))) (by
      iintro ⟨Hb, Hd, Hs⟩
      isplitl [Hd]; · iexact Hd
      iapply Hb
      iexact Hs))
  iapply (Transfers.Flight_frame (countersEmb (U := Pipeline.UD sig nD τ)) (c.tc : Thread nD τ))
  isplitl [Hback]; · iexact Hback
  iexact HF

/-- A wait for a copy in flight. -/
theorem await {sp' : Space} {s' : Shape} {e' : EltTy} {src : Memref sig .tc sp' s' e'} {dst : Memref sig .tc sp s e} {sm : DmaSem sig}
    {hsrc : src.view.WordExact} {hdst : dst.view.WordExact} {k : PUnit → Pr F α} {D : sProp (MM F)} :
    iprop(FL c sm dst.view.dmaCredit D ∗ Owe c)
      ⊢ iprop((iprop(D ∗ Sv c sm ∗ Owe c) -∗ W c (k ⟨⟩) Q) -∗ W c (Prog.lift (.waitDma2 sm src dst hsrc hdst) >>= k) Q) := by
  iintro ⟨HF, HO⟩ Hk
  ihave HO := (show Owe c ⊢ (iprop(∃ Wt, owes (c.tc : Thread nD τ) 0 Wt) : sProp (MM F)) from .rfl) $$ HO
  icases HO with ⟨%Wt, HO⟩
  iapply (Transfers.wp_waitLocal (countersEmb (U := Pipeline.UD sig nD τ)) Variants.none (c.tc : Thread nD τ) none (sem := sm) (srcw := src) (dstw := dst)
    (hsrc := hsrc) (hdst := hdst) (k := k) () rfl) $$ [HF HO]
  · isplitl [HF]; · iexact HF
    iexact HO
  iintro ⟨HD, Hv, HO⟩
  iapply Hk
  isplitl [HD]; · iexact HD
  isplitl [Hv]; · iexact Hv
  iapply (show iprop(∃ Wt, owes (c.tc : Thread nD τ) 0 Wt) ⊢ (Owe c : sProp (MM F)) from .rfl)
  iexists _
  iexact HO
end

/-! ## The slots -/

/-- Slot `j` of the weights' buffer, at given offsets. -/
abbrev slotW (arg12 : Memref sig .tc .vmem S3x1408x2048 .i8) (d : Fin 3 → ℕ) (h : ∀ a, d a + S1x1408x2048.size a ≤ S3x1408x2048.size a) : Memref sig .tc .vmem S1408x2048 .i8 :=
  (arg12.slice (Rect.unit (s := S3x1408x2048) d S1x1408x2048.size h) (fun _ => rfl)).squeeze S1408x2048 squeezes_S1x1408x2048_S1408x2048
abbrev slotS (arg13 : Memref sig .tc .vmem S3x22x2048 .f32) (d : Fin 3 → ℕ) (h : ∀ a, d a + S1x22x2048.size a ≤ S3x22x2048.size a) : Memref sig .tc .vmem S22x2048 .f32 :=
  (arg13.slice (Rect.unit (s := S3x22x2048) d S1x22x2048.size h) (fun _ => rfl)).squeeze S22x2048 squeezes_S1x22x2048_S22x2048
abbrev slotX (arg14 : Memref sig .tc .vmem S2x128x2816 .bf16) (d : Fin 3 → ℕ) (h : ∀ a, d a + S1x128x2816.size a ≤ S2x128x2816.size a) : Memref sig .tc .vmem S128x2816 .bf16 :=
  (arg14.slice (Rect.unit (s := S2x128x2816) d S1x128x2816.size h) (fun _ => rfl)).squeeze S128x2816 squeezes_S1x128x2816_S128x2816
/-- The expert's weights and scales, and a block of rows, in the large memory. -/
abbrev homeW (arg2 : Memref sig .tc .hbm S64x1408x2048 .i8) (d : Fin 3 → ℕ) (h : ∀ a, d a + S1x1408x2048.size a ≤ S64x1408x2048.size a) : Memref sig .tc .hbm S1408x2048 .i8 :=
  (arg2.slice (Rect.unit (s := S64x1408x2048) d S1x1408x2048.size h) (fun _ => rfl)).squeeze S1408x2048 squeezes_S1x1408x2048_S1408x2048
abbrev homeS (arg3 : Memref sig .tc .hbm S64x22x2048 .f32) (d : Fin 3 → ℕ) (h : ∀ a, d a + S1x22x2048.size a ≤ S64x22x2048.size a) : Memref sig .tc .hbm S22x2048 .f32 :=
  (arg3.slice (Rect.unit (s := S64x22x2048) d S1x22x2048.size h) (fun _ => rfl)).squeeze S22x2048 squeezes_S1x22x2048_S22x2048
abbrev homeX (arg1 : Memref sig .tc .hbm S6144x2816 .bf16) (d : Fin 2 → ℕ) (h : ∀ a, d a + S128x2816.size a ≤ S6144x2816.size a) : Memref sig .tc .hbm S128x2816 .bf16 :=
  arg1.slice (Rect.unit (s := S6144x2816) d S128x2816.size h) (fun _ => rfl)
/-- A semaphore of an array of three, or of two. -/
abbrev sem3 (a : DmaSems sig S3) (d : Fin 1 → ℕ) (h : ∀ x, d x + S1.size x ≤ S3.size x) : DmaSem sig :=
  ((a.slice (Rect.unit (s := S3) d S1.size h)).squeeze S_ squeezes_S1_S_).sem
abbrev sem2 (a : DmaSems sig S2) (d : Fin 1 → ℕ) (h : ∀ x, d x + S1.size x ≤ S2.size x) : DmaSem sig :=
  ((a.slice (Rect.unit (s := S2) d S1.size h)).squeeze S_ squeezes_S1_S_).sem

theorem inW (j : Fin 3) : ∀ a, (![j.val, 0, 0] : Fin 3 → ℕ) a + S1x1408x2048.size a ≤ S3x1408x2048.size a := by revert j; decide +kernel
theorem inS (j : Fin 3) : ∀ a, (![j.val, 0, 0] : Fin 3 → ℕ) a + S1x22x2048.size a ≤ S3x22x2048.size a := by revert j; decide +kernel
theorem inX (j : Fin 2) : ∀ a, (![j.val, 0, 0] : Fin 3 → ℕ) a + S1x128x2816.size a ≤ S2x128x2816.size a := by revert j; decide +kernel
theorem inHW (j : Fin 64) : ∀ a, (![j.val, 0, 0] : Fin 3 → ℕ) a + S1x1408x2048.size a ≤ S64x1408x2048.size a := by revert j; decide +kernel
theorem inHS (j : Fin 64) : ∀ a, (![j.val, 0, 0] : Fin 3 → ℕ) a + S1x22x2048.size a ≤ S64x22x2048.size a := by revert j; decide +kernel
theorem inHX (k : Fin 377) : ∀ a, (![16 * k.val, 0] : Fin 2 → ℕ) a + S128x2816.size a ≤ S6144x2816.size a := by revert k; decide +kernel
theorem in3 (j : Fin 3) : ∀ a, (![j.val] : Fin 1 → ℕ) a + S1.size a ≤ S3.size a := by revert j; decide +kernel
theorem in2 (j : Fin 2) : ∀ a, (![j.val] : Fin 1 → ℕ) a + S1.size a ≤ S2.size a := by revert j; decide +kernel

/-- The weights and the scales of expert `e`, and the rows of block `k`. -/
def Wof (XW : S64x1408x2048.Idx → Elt F .i8) (e : Fin 64) : S1408x2048.Idx → Elt F .i8 :=
  fun i => XW ((Rect.unit (s := S64x1408x2048) ![e.val, 0, 0] S1x1408x2048.size (inHW e)).emb (Shape.reshapeEquiv squeezes_S1x1408x2048_S1408x2048.numel_eq i))
def Sof (XS : S64x22x2048.Idx → Elt F .f32) (e : Fin 64) : S22x2048.Idx → Elt F .f32 :=
  fun i => XS ((Rect.unit (s := S64x22x2048) ![e.val, 0, 0] S1x22x2048.size (inHS e)).emb (Shape.reshapeEquiv squeezes_S1x22x2048_S22x2048.numel_eq i))
def Xof (XX : S6144x2816.Idx → Elt F .bf16) (k : Fin 377) : S128x2816.Idx → Elt F .bf16 :=
  fun i => XX ((Rect.unit (s := S6144x2816) ![16 * k.val, 0] S128x2816.size (inHX k)).emb i)

/-- A slot is empty, or filled by a copy in flight, or holds what was copied. -/
inductive Slot (β : Type)
  | free
  | flying (b : β)
  | held (b : β)

section
variable (arg1 : Memref sig .tc .hbm S6144x2816 .bf16) (arg2 : Memref sig .tc .hbm S64x1408x2048 .i8) (arg3 : Memref sig .tc .hbm S64x22x2048 .f32)
  (arg12 : Memref sig .tc .vmem S3x1408x2048 .i8) (arg13 : Memref sig .tc .vmem S3x22x2048 .f32) (arg14 : Memref sig .tc .vmem S2x128x2816 .bf16)
  (arg18 arg19 : DmaSems sig S3) (arg20 : DmaSems sig S2)
  (XX : S6144x2816.Idx → Elt F .bf16) (XW : S64x1408x2048.Idx → Elt F .i8) (XS : S64x22x2048.Idx → Elt F .f32) (c : Dev nD)

/-- The share of the arrays that slot `j` reads with. -/
def shr3 : Fin 3 → PosShare TreeShare
  | 0 => fullShare.left
  | 1 => fullShare.right.left
  | 2 => fullShare.right.right
def shr2 : Fin 2 → PosShare TreeShare
  | 0 => fullShare.left
  | 1 => fullShare.right

/-- Slot `j` of the weights. -/
def WSl (j : Fin 3) : Slot (Fin 64) → sProp (MM F)
  | .free => iprop((∃ Y, Own c (slotW arg12 ![j.val, 0, 0] (inW j)) fullShare Y) ∗ Sv c (sem3 arg18 ![j.val] (in3 j)) ∗ Own c arg2 (shr3 j) XW)
  | .flying e => FL c (sem3 arg18 ![j.val] (in3 j)) (slotW arg12 ![j.val, 0, 0] (inW j)).view.dmaCredit
      iprop(Own c (slotW arg12 ![j.val, 0, 0] (inW j)) fullShare (Wof XW e) ∗ Own c arg2 (shr3 j) XW)
  | .held e => iprop(Own c (slotW arg12 ![j.val, 0, 0] (inW j)) fullShare (Wof XW e) ∗ Sv c (sem3 arg18 ![j.val] (in3 j)) ∗ Own c arg2 (shr3 j) XW)
/-- Slot `j` of the scales. -/
def SSl (j : Fin 3) : Slot (Fin 64) → sProp (MM F)
  | .free => iprop((∃ Y, Own c (slotS arg13 ![j.val, 0, 0] (inS j)) fullShare Y) ∗ Sv c (sem3 arg19 ![j.val] (in3 j)) ∗ Own c arg3 (shr3 j) XS)
  | .flying e => FL c (sem3 arg19 ![j.val] (in3 j)) (slotS arg13 ![j.val, 0, 0] (inS j)).view.dmaCredit
      iprop(Own c (slotS arg13 ![j.val, 0, 0] (inS j)) fullShare (Sof XS e) ∗ Own c arg3 (shr3 j) XS)
  | .held e => iprop(Own c (slotS arg13 ![j.val, 0, 0] (inS j)) fullShare (Sof XS e) ∗ Sv c (sem3 arg19 ![j.val] (in3 j)) ∗ Own c arg3 (shr3 j) XS)
/-- Slot `j` of the rows. -/
def XSl (j : Fin 2) : Slot (Fin 377) → sProp (MM F)
  | .free => iprop((∃ Y, Own c (slotX arg14 ![j.val, 0, 0] (inX j)) fullShare Y) ∗ Sv c (sem2 arg20 ![j.val] (in2 j)) ∗ Own c arg1 (shr2 j) XX)
  | .flying e => FL c (sem2 arg20 ![j.val] (in2 j)) (slotX arg14 ![j.val, 0, 0] (inX j)).view.dmaCredit
      iprop(Own c (slotX arg14 ![j.val, 0, 0] (inX j)) fullShare (Xof XX e) ∗ Own c arg1 (shr2 j) XX)
  | .held e => iprop(Own c (slotX arg14 ![j.val, 0, 0] (inX j)) fullShare (Xof XX e) ∗ Sv c (sem2 arg20 ![j.val] (in2 j)) ∗ Own c arg1 (shr2 j) XX)

variable {α : Type} {Q : α → sProp (MM F)}

theorem WSl_drop (j : Fin 3) (e : Fin 64) : WSl (F := F) arg2 arg12 arg18 XW c j (.held e) ⊢ WSl arg2 arg12 arg18 XW c j .free := by
  unfold WSl
  iintro ⟨H, Hr⟩
  isplitl [H]; · iexists _; iexact H
  iexact Hr
theorem SSl_drop (j : Fin 3) (e : Fin 64) : SSl (F := F) arg3 arg13 arg19 XS c j (.held e) ⊢ SSl arg3 arg13 arg19 XS c j .free := by
  unfold SSl
  iintro ⟨H, Hr⟩
  isplitl [H]; · iexists _; iexact H
  iexact Hr
theorem XSl_drop (j : Fin 2) (e : Fin 377) : XSl (F := F) arg1 arg14 arg20 XX c j (.held e) ⊢ XSl arg1 arg14 arg20 XX c j .free := by
  unfold XSl
  iintro ⟨H, Hr⟩
  isplitl [H]; · iexists _; iexact H
  iexact Hr

variable {arg1 arg2 arg3 arg12 arg13 arg14 arg18 arg19 arg20 XX XW XS}

theorem fetchW (j : Fin 3) (e : Fin 64) {so d : Fin 3 → ℕ} {m : Fin 1 → ℕ} {hs : ∀ a, so a + S1x1408x2048.size a ≤ S64x1408x2048.size a}
    {hd : ∀ a, d a + S1x1408x2048.size a ≤ S3x1408x2048.size a} {hm : ∀ x, m x + S1.size x ≤ S3.size x}
    (hso : so = ![e.val, 0, 0]) (hdo : d = ![j.val, 0, 0]) (hmo : m = ![j.val])
    {h1 : (homeW arg2 so hs).view.WordExact} {h2 : (slotW arg12 d hd).view.WordExact} {h3 : DmaTarget.Typed (nD := nD) (τ := τ) .hbm (SemLoc.dma (sem3 arg18 m hm)) (.here (p := .tc) (slotW arg12 d hd))}
    {k : PUnit → Pr F α} :
    WSl (F := F) arg2 arg12 arg18 XW c j .free ⊢ iprop((WSl arg2 arg12 arg18 XW c j (.flying e) -∗ W c (k ⟨⟩) Q)
      -∗ W c (Prog.lift (.enqueueDma (homeW arg2 so hs) (.here (slotW arg12 d hd)) (.dma (sem3 arg18 m hm)) h1 h2 h3) >>= k) Q) := by
  subst hso hdo hmo
  unfold WSl
  iintro ⟨Hd, Hv, Hm⟩ Hk
  iapply (issue c (m := arg2) (q := shr3 j) (X := XW) (Y := Wof XW e) (View.dmaCredit_pos _ (by decide)) (own_part c arg2 (shr3 j) _ _ XW _)) $$ [Hd Hv Hm]
  · isplitl [Hm]; · iexact Hm
    isplitl [Hd]; · iexact Hd
    iexact Hv
  iexact Hk

theorem fetchS (j : Fin 3) (e : Fin 64) {so d : Fin 3 → ℕ} {m : Fin 1 → ℕ} {hs : ∀ a, so a + S1x22x2048.size a ≤ S64x22x2048.size a}
    {hd : ∀ a, d a + S1x22x2048.size a ≤ S3x22x2048.size a} {hm : ∀ x, m x + S1.size x ≤ S3.size x}
    (hso : so = ![e.val, 0, 0]) (hdo : d = ![j.val, 0, 0]) (hmo : m = ![j.val])
    {h1 : (homeS arg3 so hs).view.WordExact} {h2 : (slotS arg13 d hd).view.WordExact} {h3 : DmaTarget.Typed (nD := nD) (τ := τ) .hbm (SemLoc.dma (sem3 arg19 m hm)) (.here (p := .tc) (slotS arg13 d hd))}
    {k : PUnit → Pr F α} :
    SSl (F := F) arg3 arg13 arg19 XS c j .free ⊢ iprop((SSl arg3 arg13 arg19 XS c j (.flying e) -∗ W c (k ⟨⟩) Q)
      -∗ W c (Prog.lift (.enqueueDma (homeS arg3 so hs) (.here (slotS arg13 d hd)) (.dma (sem3 arg19 m hm)) h1 h2 h3) >>= k) Q) := by
  subst hso hdo hmo
  unfold SSl
  iintro ⟨Hd, Hv, Hm⟩ Hk
  iapply (issue c (m := arg3) (q := shr3 j) (X := XS) (Y := Sof XS e) (View.dmaCredit_pos _ (by decide)) (own_part c arg3 (shr3 j) _ _ XS _)) $$ [Hd Hv Hm]
  · isplitl [Hm]; · iexact Hm
    isplitl [Hd]; · iexact Hd
    iexact Hv
  iexact Hk

theorem fetchX (j : Fin 2) (b : Fin 377) {so : Fin 2 → ℕ} {d : Fin 3 → ℕ} {m : Fin 1 → ℕ} {hs : ∀ a, so a + S128x2816.size a ≤ S6144x2816.size a}
    {hd : ∀ a, d a + S1x128x2816.size a ≤ S2x128x2816.size a} {hm : ∀ x, m x + S1.size x ≤ S2.size x}
    (hso : so = ![16 * b.val, 0]) (hdo : d = ![j.val, 0, 0]) (hmo : m = ![j.val])
    {h1 : (homeX arg1 so hs).view.WordExact} {h2 : (slotX arg14 d hd).view.WordExact} {h3 : DmaTarget.Typed (nD := nD) (τ := τ) .hbm (SemLoc.dma (sem2 arg20 m hm)) (.here (p := .tc) (slotX arg14 d hd))}
    {k : PUnit → Pr F α} :
    XSl (F := F) arg1 arg14 arg20 XX c j .free ⊢ iprop((XSl arg1 arg14 arg20 XX c j (.flying b) -∗ W c (k ⟨⟩) Q)
      -∗ W c (Prog.lift (.enqueueDma (homeX arg1 so hs) (.here (slotX arg14 d hd)) (.dma (sem2 arg20 m hm)) h1 h2 h3) >>= k) Q) := by
  subst hso hdo hmo
  unfold XSl
  iintro ⟨Hd, Hv, Hm⟩ Hk
  iapply (issue c (m := arg1) (q := shr2 j) (X := XX) (src := homeX arg1 ![16 * b.val, 0] (inHX b)) (Y := Xof XX b) (View.dmaCredit_pos _ (by decide)) (own_part' c arg1 (shr2 j) (Rect.unit (s := S6144x2816) ![16 * b.val, 0] S128x2816.size (inHX b)) (fun _ => rfl) XX)) $$ [Hd Hv Hm]
  · isplitl [Hm]; · iexact Hm
    isplitl [Hd]; · iexact Hd
    iexact Hv
  iexact Hk

theorem awaitW (j : Fin 3) (e : Fin 64) {d : Fin 3 → ℕ} {m : Fin 1 → ℕ}
    {hd : ∀ a, d a + S1x1408x2048.size a ≤ S3x1408x2048.size a} {hm : ∀ x, m x + S1.size x ≤ S3.size x}
    (hdo : d = ![j.val, 0, 0]) (hmo : m = ![j.val]) {sp' : Space} {s' : Shape} {e' : EltTy} {src : Memref sig .tc sp' s' e'}
    {h1 : src.view.WordExact} {h2 : (slotW arg12 d hd).view.WordExact} {k : PUnit → Pr F α} :
    iprop(WSl (F := F) arg2 arg12 arg18 XW c j (.flying e) ∗ Owe c) ⊢ iprop((iprop(WSl arg2 arg12 arg18 XW c j (.held e) ∗ Owe c) -∗ W c (k ⟨⟩) Q)
      -∗ W c (Prog.lift (.waitDma2 (sem3 arg18 m hm) src (slotW arg12 d hd) h1 h2) >>= k) Q) := by
  subst hdo hmo
  unfold WSl
  iintro ⟨HF, HO⟩ Hk
  iapply (await c) $$ [HF HO]
  · isplitl [HF]; · iexact HF
    iexact HO
  iintro ⟨⟨H1, H2⟩, H3, H4⟩
  iapply Hk
  isplitr [H4]
  · isplitl [H1]; · iexact H1
    isplitl [H3]; · iexact H3
    iexact H2
  iexact H4

theorem awaitS (j : Fin 3) (e : Fin 64) {d : Fin 3 → ℕ} {m : Fin 1 → ℕ}
    {hd : ∀ a, d a + S1x22x2048.size a ≤ S3x22x2048.size a} {hm : ∀ x, m x + S1.size x ≤ S3.size x}
    (hdo : d = ![j.val, 0, 0]) (hmo : m = ![j.val]) {sp' : Space} {s' : Shape} {e' : EltTy} {src : Memref sig .tc sp' s' e'}
    {h1 : src.view.WordExact} {h2 : (slotS arg13 d hd).view.WordExact} {k : PUnit → Pr F α} :
    iprop(SSl (F := F) arg3 arg13 arg19 XS c j (.flying e) ∗ Owe c) ⊢ iprop((iprop(SSl arg3 arg13 arg19 XS c j (.held e) ∗ Owe c) -∗ W c (k ⟨⟩) Q)
      -∗ W c (Prog.lift (.waitDma2 (sem3 arg19 m hm) src (slotS arg13 d hd) h1 h2) >>= k) Q) := by
  subst hdo hmo
  unfold SSl
  iintro ⟨HF, HO⟩ Hk
  iapply (await c) $$ [HF HO]
  · isplitl [HF]; · iexact HF
    iexact HO
  iintro ⟨⟨H1, H2⟩, H3, H4⟩
  iapply Hk
  isplitr [H4]
  · isplitl [H1]; · iexact H1
    isplitl [H3]; · iexact H3
    iexact H2
  iexact H4

theorem awaitX (j : Fin 2) (b : Fin 377) {d : Fin 3 → ℕ} {m : Fin 1 → ℕ}
    {hd : ∀ a, d a + S1x128x2816.size a ≤ S2x128x2816.size a} {hm : ∀ x, m x + S1.size x ≤ S2.size x}
    (hdo : d = ![j.val, 0, 0]) (hmo : m = ![j.val]) {sp' : Space} {s' : Shape} {e' : EltTy} {src : Memref sig .tc sp' s' e'}
    {h1 : src.view.WordExact} {h2 : (slotX arg14 d hd).view.WordExact} {k : PUnit → Pr F α} :
    iprop(XSl (F := F) arg1 arg14 arg20 XX c j (.flying b) ∗ Owe c) ⊢ iprop((iprop(XSl arg1 arg14 arg20 XX c j (.held b) ∗ Owe c) -∗ W c (k ⟨⟩) Q)
      -∗ W c (Prog.lift (.waitDma2 (sem2 arg20 m hm) src (slotX arg14 d hd) h1 h2) >>= k) Q) := by
  subst hdo hmo
  unfold XSl
  iintro ⟨HF, HO⟩ Hk
  iapply (await c) $$ [HF HO]
  · isplitl [HF]; · iexact HF
    iexact HO
  iintro ⟨⟨H1, H2⟩, H3, H4⟩
  iapply Hk
  isplitr [H4]
  · isplitl [H1]; · iexact H1
    isplitl [H3]; · iexact H3
    iexact H2
  iexact H4
end

end Cert.Model
-- ==== Proof.RingState.lean ====
/-
  Which slot holds what, before each visit.
-/
module

public import proofs.«01_k».proof.Proof.Ring

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

open Classical in
/-- The `o`-th expert that has rows. -/
def exO (gs : ℕ → ℕ) (o : ℕ) : Fin 64 := if h : ∃ e : Fin 64, 0 < gs e.val ∧ nE gs e.val = o then h.choose else 0

theorem nE_lt {gs : ℕ → ℕ} {a b : ℕ} (h : a < b) (ha : 0 < gs a) : nE gs a < nE gs b := by
  have := nE_mono (gs := gs) (show a + 1 ≤ b from h)
  simp only [nE, if_pos ha] at this
  omega

theorem exO_nE {gs : ℕ → ℕ} {e : ℕ} (he : e < 64) (hg : 0 < gs e) : (exO gs (nE gs e)).val = e := by
  have h : ∃ e' : Fin 64, 0 < gs e'.val ∧ nE gs e'.val = nE gs e := ⟨⟨e, he⟩, hg, rfl⟩
  unfold exO
  rw [dif_pos h]
  obtain ⟨h1, h2⟩ := h.choose_spec
  rcases Nat.lt_trichotomy h.choose.val e with hlt | heq | hgt
  · have := nE_lt hlt h1; omega
  · exact heq
  · have := nE_lt hgt hg; omega

theorem ex_of_lt {gs : ℕ → ℕ} {n o : ℕ} (h : o < nE gs n) : ∃ e, e < n ∧ 0 < gs e ∧ nE gs e = o := by
  induction n with
  | zero => simp [nE] at h
  | succ n ih =>
    by_cases h1 : o < nE gs n
    · obtain ⟨e, a, b⟩ := ih h1
      exact ⟨e, by omega, b⟩
    · by_cases hg : 0 < gs n
      · simp only [nE, if_pos hg] at h
        exact ⟨n, by omega, hg, by omega⟩
      · simp only [nE, if_neg hg] at h; omega

theorem exO_spec {gs : ℕ → ℕ} {o : ℕ} (h : o < nE gs 64) : 0 < gs (exO gs o).val ∧ nE gs (exO gs o).val = o := by
  obtain ⟨e, he, hg, ho⟩ := ex_of_lt h
  subst ho
  rw [exO_nE he hg]
  exact ⟨hg, rfl⟩

open Classical in
/-- The row block of visit `v`. -/
def rowB (gs : ℕ → ℕ) (v : ℕ) : Fin 377 :=
  if h : ∃ b : Fin 377, ∃ e j, e < 64 ∧ j < wn gs e ∧ v = nV gs e + j ∧ rowOf gs e j = 16 * b.val then h.choose else 0

variable {F : FTy → Type} [FloatOps F] [Facts]

theorem visit_inj {gs : ℕ → ℕ} {e j e' j' : ℕ} (hj : j < wn gs e) (hj' : j' < wn gs e') (h : nV gs e' + j' = nV gs e + j) : e' = e ∧ j' = j := by
  rcases Nat.lt_trichotomy e' e with hlt | heq | hgt
  · exact absurd h (visit_ne hj' (.inl hlt))
  · subst heq; exact ⟨rfl, by omega⟩
  · exact absurd h.symm (visit_ne hj (.inl hgt))

theorem rowB_at {gs : ℕ → ℕ} {e j : ℕ} (he : e < 64) (hj : j < wn gs e) : rowOf gs e j = 16 * (rowB gs (nV gs e + j)).val := by
  obtain ⟨b, hb⟩ := rowOf_dvd (gs := gs) e j
  have h : ∃ b : Fin 377, ∃ e' j', e' < 64 ∧ j' < wn gs e' ∧ nV gs e + j = nV gs e' + j' ∧ rowOf gs e' j' = 16 * b.val := ⟨b, e, j, he, hj, rfl, hb⟩
  unfold rowB
  rw [dif_pos h]
  obtain ⟨e', j', _, h2, h3, h4⟩ := h.choose_spec
  obtain ⟨rfl, rfl⟩ := visit_inj hj h2 h3.symm
  exact h4

/-- The slots of the weights when `o` of `ne` experts were begun: the last one's is held, the next two are on their way. -/
def stW (gs : ℕ → ℕ) (ne o : ℕ) (j : Fin 3) : Slot (Fin 64) :=
  if j.val = o % 3 then (if o < ne then .flying (exO gs o) else .free)
  else if j.val = (o + 1) % 3 then (if o + 1 < ne then .flying (exO gs (o + 1)) else .free)
  else (if 0 < o then .held (exO gs (o - 1)) else .free)

/-- The slot of the rows of visit `v`. -/
def stX (gs : ℕ → ℕ) (v : ℕ) : Slot (Fin 377) := if v < nV gs 64 then .flying (rowB gs v) else .free

/-- The slot of expert number `o`, and of visit `v`. -/
def sl3 (o : ℕ) : Fin 3 := ⟨o % 3, Nat.mod_lt _ (by decide)⟩
def sl2 (v : ℕ) : Fin 2 := ⟨v % 2, Nat.mod_lt _ (by decide)⟩

theorem sl2_next (v : ℕ) : sl2 (v + 1 + 1) = sl2 v := Fin.ext (by show (v + 1 + 1) % 2 = v % 2; omega)

theorem stW_at (gs : ℕ → ℕ) (ne o : ℕ) : stW gs ne o (sl3 o) = if o < ne then .flying (exO gs o) else .free := if_pos rfl

/-- The third slot after the next expert was awaited. -/
def stPrev (gs : ℕ → ℕ) (o : ℕ) : Slot (Fin 64) := if 0 < o then .held (exO gs (o - 1)) else .free

theorem stW_prev (gs : ℕ → ℕ) (ne o : ℕ) (s : Slot (Fin 64)) : Function.update (stW gs ne o) (sl3 o) s (sl3 (o + 2)) = stPrev gs o := by
  have h : sl3 (o + 2) ≠ sl3 o := fun h => by have := congrArg Fin.val h; simp only [sl3] at this; omega
  rw [Function.update_of_ne h]
  unfold stW stPrev
  rw [if_neg (by simp only [sl3]; omega), if_neg (by simp only [sl3]; omega)]

theorem stW_next (gs : ℕ → ℕ) (ne o : ℕ) :
    Function.update (Function.update (stW gs ne o) (sl3 o) (.held (exO gs o))) (sl3 (o + 2)) (if o + 2 < ne then .flying (exO gs (o + 2)) else .free)
      = stW gs ne (o + 1) := by
  funext j
  by_cases h2 : j = sl3 (o + 2)
  · subst h2
    rw [Function.update_self]
    exact ((if_neg (show ¬ (o + 2) % 3 = (o + 1) % 3 by omega)).trans (if_pos (show (o + 2) % 3 = (o + 1 + 1) % 3 from rfl))).symm
  rw [Function.update_of_ne h2]
  have h2' : j.val ≠ (o + 2) % 3 := fun h => h2 (Fin.ext h)
  by_cases h0 : j = sl3 o
  · subst h0
    rw [Function.update_self]
    exact ((if_neg (show ¬ o % 3 = (o + 1) % 3 by omega)).trans ((if_neg (show ¬ o % 3 = (o + 1 + 1) % 3 by omega)).trans (if_pos (Nat.succ_pos o)))).symm
  rw [Function.update_of_ne h0]
  have h0' : j.val ≠ o % 3 := fun h => h0 (Fin.ext h)
  have := j.isLt
  have h1' : j.val = (o + 1) % 3 := by omega
  exact ((if_neg h0').trans (if_pos h1')).trans (if_pos h1').symm

section
variable (arg2 : Memref sig .tc .hbm S64x1408x2048 .i8) (arg3 : Memref sig .tc .hbm S64x22x2048 .f32)
  (arg12 : Memref sig .tc .vmem S3x1408x2048 .i8) (arg13 : Memref sig .tc .vmem S3x22x2048 .f32)
  (arg18 arg19 : DmaSems sig S3) (XW : S64x1408x2048.Idx → Elt F .i8) (XS : S64x22x2048.Idx → Elt F .f32) (c : Dev nD)

/-- Slot `j` of the weights and of the scales. -/
def BSl (j : Fin 3) (st : Slot (Fin 64)) : sProp (MM F) := iprop(WSl arg2 arg12 arg18 XW c j st ∗ SSl arg3 arg13 arg19 XS c j st)

/-- The three slots. -/
def Ring3 (f : Fin 3 → Slot (Fin 64)) : sProp (MM F) :=
  iprop(BSl arg2 arg3 arg12 arg13 arg18 arg19 XW XS c 0 (f 0) ∗ BSl arg2 arg3 arg12 arg13 arg18 arg19 XW XS c 1 (f 1) ∗ BSl arg2 arg3 arg12 arg13 arg18 arg19 XW XS c 2 (f 2))

theorem Ring3_take (f : Fin 3 → Slot (Fin 64)) (j : Fin 3) :
    Ring3 (F := F) arg2 arg3 arg12 arg13 arg18 arg19 XW XS c f
      ⊢ iprop(BSl arg2 arg3 arg12 arg13 arg18 arg19 XW XS c j (f j) ∗
          (∀ s, BSl arg2 arg3 arg12 arg13 arg18 arg19 XW XS c j s -∗ Ring3 arg2 arg3 arg12 arg13 arg18 arg19 XW XS c (Function.update f j s))) := by
  unfold Ring3
  fin_cases j
  all_goals
    iintro ⟨H0, H1, H2⟩
  · isplitl [H0]; · iexact H0
    iintro %s H0
    isplitl [H0]; · iexact H0
    isplitl [H1]; · iexact H1
    iexact H2
  · isplitl [H1]; · iexact H1
    iintro %s H1
    isplitl [H0]; · iexact H0
    isplitl [H1]; · iexact H1
    iexact H2
  · isplitl [H2]; · iexact H2
    iintro %s H2
    isplitl [H0]; · iexact H0
    isplitl [H1]; · iexact H1
    iexact H2

theorem BSl_drop (j : Fin 3) (gs : ℕ → ℕ) (o : ℕ) : BSl (F := F) arg2 arg3 arg12 arg13 arg18 arg19 XW XS c j (stPrev gs o) ⊢ BSl arg2 arg3 arg12 arg13 arg18 arg19 XW XS c j .free := by
  unfold stPrev
  split
  · unfold BSl
    iintro ⟨H1, H2⟩
    isplitl [H1]
    · iapply (WSl_drop arg2 arg12 arg18 XW c j _)
      iexact H1
    · iapply (SSl_drop arg3 arg13 arg19 XS c j _)
      iexact H2
  · exact .rfl
end

end Cert.Model
-- ==== Proof.Printed.lean ====
/-
  One trip of the printed loop over the visits, as printed and with its straight-line arithmetic folded back into loops over
  the columns, the groups and the rows; the two are one text up to unfolding.
-/
module
public import proofs.«01_k».proof.Proof.Model
public import Idealize.ShloMosaic.Lib.Tactic
@[expose] public section
noncomputable section
namespace Cert.Model
open Idealize.ShloMosaic Idealize.SL.Sem
open Cert.Kernel
variable {F : FTy → Type} [FloatOps F] [Facts]
open Facts₀ Facts
/-- The current expert's weights in their ring. -/
abbrev wvOf (arg12 : Memref sig .tc .vmem S3x1408x2048 .i8) (v27 : BitVec 32) (h : k0_chk14 v27) : Memref sig .tc .vmem S1408x2048 .i8 :=
  (arg12.slice (Rect.unit (s := S3x1408x2048) (k0_off43 v27) S1x1408x2048.size (k0_off43_inb v27 h)) (fun _ => rfl)).squeeze S1408x2048 squeezes_S1x1408x2048_S1408x2048
abbrev svOf (arg13 : Memref sig .tc .vmem S3x22x2048 .f32) (v27 : BitVec 32) (h : k0_chk14 v27) : Memref sig .tc .vmem S22x2048 .f32 :=
  (arg13.slice (Rect.unit (s := S3x22x2048) (k0_off44 v27) S1x22x2048.size (k0_off44_inb v27 h)) (fun _ => rfl)).squeeze S22x2048 squeezes_S1x22x2048_S22x2048

theorem rowOK_of {row : BitVec 32} (h : k0_chk13 row) : RowOK row where
  inb c g := match c with
    | 0 => k0_off45_inb row h g
    | 1 => k0_off46_inb row h g
    | 2 => k0_off47_inb row h g
    | 3 => k0_off48_inb row h g
    | 4 => k0_off49_inb row h g
    | 5 => k0_off50_inb row h g
    | 6 => k0_off51_inb row h g
    | 7 => k0_off52_inb row h g
    | 8 => k0_off53_inb row h g
    | 9 => k0_off54_inb row h g
    | 10 => k0_off55_inb row h g
    | 11 => k0_off56_inb row h g
    | 12 => k0_off57_inb row h g
    | 13 => k0_off58_inb row h g
    | 14 => k0_off59_inb row h g
    | 15 => k0_off60_inb row h g
    | ⟨n + 16, hn⟩ => absurd hn (by omega)
  packed c g := match c with
    | 0 => k0_off45_packedbf16 row h g
    | 1 => k0_off46_packedbf16 row h g
    | 2 => k0_off47_packedbf16 row h g
    | 3 => k0_off48_packedbf16 row h g
    | 4 => k0_off49_packedbf16 row h g
    | 5 => k0_off50_packedbf16 row h g
    | 6 => k0_off51_packedbf16 row h g
    | 7 => k0_off52_packedbf16 row h g
    | 8 => k0_off53_packedbf16 row h g
    | 9 => k0_off54_packedbf16 row h g
    | 10 => k0_off55_packedbf16 row h g
    | 11 => k0_off56_packedbf16 row h g
    | 12 => k0_off57_packedbf16 row h g
    | 13 => k0_off58_packedbf16 row h g
    | 14 => k0_off59_packedbf16 row h g
    | 15 => k0_off60_packedbf16 row h g
    | ⟨n + 16, hn⟩ => absurd hn (by omega)

variable (arg0 : Memref sig .tc .smem S64 .i32) (harg0 : arg0.IsWhole) (arg1 : Memref sig .tc .hbm S6144x2816 .bf16) (harg1 : arg1.IsWhole) (arg2 : Memref sig .tc .hbm S64x1408x2048 .i8) (harg2 : arg2.IsWhole) (arg3 : Memref sig .tc .hbm S64x22x2048 .f32) (harg3 : arg3.IsWhole) (arg4 : Memref sig .tc .hbm S6144x2048 .bf16) (harg4 : arg4.IsWhole) (arg5 : Memref sig .tc .smem S128 .i32) (harg5 : arg5.IsWhole) (arg6 : Memref sig .tc .smem S128 .i32) (harg6 : arg6.IsWhole) (arg7 : Memref sig .tc .smem S128 .i32) (harg7 : arg7.IsWhole) (arg8 : Memref sig .tc .smem S128 .i32) (harg8 : arg8.IsWhole) (arg9 : Memref sig .tc .smem S128 .i32) (harg9 : arg9.IsWhole) (arg10 : Memref sig .tc .smem S128 .i32) (harg10 : arg10.IsWhole) (arg11 : Memref sig .tc .smem S64 .i32) (harg11 : arg11.IsWhole) (arg12 : Memref sig .tc .vmem S3x1408x2048 .i8) (harg12 : arg12.IsWhole) (arg13 : Memref sig .tc .vmem S3x22x2048 .f32) (harg13 : arg13.IsWhole) (arg14 : Memref sig .tc .vmem S2x128x2816 .bf16) (harg14 : arg14.IsWhole) (arg15 : Memref sig .tc .vmem S128x2816 .bf16) (harg15 : arg15.IsWhole) (arg16 : Memref sig .tc .vmem S128x128 .f32) (harg16 : arg16.IsWhole) (arg17 : Memref sig .tc .vmem S6144x2048 .bf16) (harg17 : arg17.IsWhole) (arg18 : DmaSems sig S3) (arg19 : DmaSems sig S3) (arg20 : DmaSems sig S2) (arg21 : DmaSems sig S_)

/-- One trip of the printed loop over the visits. -/
def printedVisit (v1_1 v1_2 : BitVec 32) (k0_hw7 : k0_chk7 v1_1) (k0_t4 : Fin (k0_t4_loop v1_1).trips) (k0_mxu2 : Mxu F) : Pr F (BitVec 32 × Mxu F) := do
  let c0_i32_15_r0 : BitVec 32 := 0#32
  let c1_i32_18_r0 : BitVec 32 := 1#32
  let ⟨arg22_r0, v27_r0, k0_hw14, v2533_r0, v2605_r0, v2651_r0, v2657_r0, v2658_r0⟩ ← k0_part215 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v1_1 v1_2 k0_hw7 c0_i32_15_r0 c1_i32_18_r0 k0_t4
  let ⟨v3352_r0, k0_hw13, v3353_r0, v3355_r0, v3357_r0, k0_mxu162, v5010_r0, v5017_r0⟩ ← k0_part216 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v1_1 k0_hw7 k0_t4 k0_mxu2 arg22_r0 v27_r0 k0_hw14 v2533_r0 v2605_r0 v2651_r0 v2657_r0 v2658_r0
  let k0_mxu358 : Mxu F ← k0_part217 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 v3352_r0 k0_hw13 v3353_r0 v3355_r0 v3357_r0 k0_mxu162 v5010_r0 v5017_r0
  let k0_mxu365 : Mxu F ← k0_part182 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu358
  let k0_mxu368 : Mxu F ← k0_part183 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu365
  let k0_mxu375 : Mxu F ← k0_part184 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu368
  let k0_mxu378 : Mxu F ← k0_part185 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu375
  let k0_mxu385 : Mxu F ← k0_part186 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu378
  let k0_mxu388 : Mxu F ← k0_part187 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu385
  let k0_mxu395 : Mxu F ← k0_part188 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu388
  let k0_mxu398 : Mxu F ← k0_part189 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu395
  let k0_mxu405 : Mxu F ← k0_part190 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu398
  let k0_mxu408 : Mxu F ← k0_part191 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu405
  let k0_mxu415 : Mxu F ← k0_part192 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu408
  let k0_mxu418 : Mxu F ← k0_part193 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu415
  let k0_mxu425 : Mxu F ← k0_part194 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu418
  let k0_mxu428 : Mxu F ← k0_part195 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu425
  let k0_mxu435 : Mxu F ← k0_part196 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu428
  let k0_mxu438 : Mxu F ← k0_part197 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu435
  let k0_mxu445 : Mxu F ← k0_part198 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu438
  let k0_mxu448 : Mxu F ← k0_part199 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu445
  let k0_mxu455 : Mxu F ← k0_part200 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu448
  let k0_mxu458 : Mxu F ← k0_part201 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu455
  let k0_mxu465 : Mxu F ← k0_part202 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v27_r0 k0_hw14 k0_mxu458
  let ⟨v8094_r0, k0_mxu468, v8132_r0, v8134_r0, v8135_r0⟩ ← k0_part203 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 k0_mxu465
  let ⟨v8163_r0, k0_mxu469, v8172_r0, v8173_r0, v8176_r0, v8178_r0⟩ ← k0_part204 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8094_r0 k0_mxu468 v8132_r0 v8134_r0 v8135_r0
  let ⟨v8206_r0, v8222_r0, v8224_r0⟩ ← k0_part205 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8163_r0 v8172_r0 v8173_r0 v8176_r0 v8178_r0
  let ⟨v8232_r0, k0_mxu470, v8267_r0, v8269_r0⟩ ← k0_part206 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 k0_mxu469 v8206_r0 v8222_r0 v8224_r0
  let ⟨v8301_r0, k0_mxu471, v8310_r0, v8311_r0, v8314_r0, c32_i32_3255_r0⟩ ← k0_part207 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8232_r0 k0_mxu470 v8267_r0 v8269_r0
  let ⟨v8344_r0, v8360_r0⟩ ← k0_part208 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8301_r0 v8310_r0 v8311_r0 v8314_r0 c32_i32_3255_r0
  let ⟨v8370_r0, k0_mxu472⟩ ← k0_part209 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 k0_mxu471 v8344_r0 v8360_r0
  let ⟨v8439_r0, k0_mxu473, v8448_r0, v8449_r0⟩ ← k0_part210 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8370_r0 k0_mxu472
  let ⟨v8482_r0, v8483_r0, v8495_r0⟩ ← k0_part211 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8439_r0 v8448_r0 v8449_r0
  let ⟨v8508_r0, k0_mxu474, v8538_r0⟩ ← k0_part212 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8439_r0 k0_mxu473 v8482_r0 v8483_r0 v8495_r0
  let ⟨v8577_r0, k0_mxu475, v8583_r0, v8585_r0⟩ ← k0_part213 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8508_r0 k0_mxu474 v8538_r0
  let ⟨v8620_r0, v8621_r0, v8629_r0⟩ ← k0_part214 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v3352_r0 k0_hw13 v3353_r0 v3355_r0 v3357_r0 v8577_r0 v8583_r0 v8585_r0
  let c1792_3338_r0 : Index := 1792#32
  let v8631_r0 : Vec F S16x128 .bf16 ← Prog.lift (.load arg17 (Rect.unit (s := S6144x2048) (k0_off59 v3352_r0 112#32) S16x128.size (k0_off59_inb v3352_r0 k0_hw13 7)).toLoadRect (View.loadsAt_vmem h_S16x128))
  have v8632_r0 : FVec F S16x128 .bf16 := shapeCast S16x128 v8631_r0 shapeCasts_S16x128_S16x128
  have v8633_r0 : FVec F S16x128 .bf16 := shapeCast S16x128 v8629_r0 shapeCasts_S16x128_S16x128
  Prog.lift (.store arg17 (Rect.unit (s := S6144x2048) (k0_off59 v3352_r0 112#32) S16x128.size (k0_off59_inb v3352_r0 k0_hw13 7)) v8633_r0 Finset.univ (View.stores_vmem h_S16x128 (harg17.storeExact_slice rfl _ (k0_off59_packedbf16 v3352_r0 k0_hw13 7)) (fun _ => rfl)) (.inl rfl))
  have v8634_r0 : FVec F S16x128 .f32 := extractStridedSlice S16x128 ![16, 128] v8577_r0 slices_S32x256_o16_128_S16x128
  have v8635_r0 : FVec F S16x128 .f32 := mulf v8634_r0 v8621_r0
  have v8636_r0 : FVec F S16x128 .bf16 := truncf .bf16 v8635_r0 bitsLt_bf16_f32
  let c112_i32_3339_r0 : BitVec 32 := 112#32
  let v8637_r0 : BitVec 32 := Scalar.addi v3353_r0 c112_i32_3339_r0
  let v8638_r0 : BitVec 32 := v8637_r0
  let v8639_r0 : Index := Scalar.indexCast v8638_r0
  let c1920_3340_r0 : Index := 1920#32
  let v8640_r0 : Vec F S16x128 .bf16 ← Prog.lift (.load arg17 (Rect.unit (s := S6144x2048) (k0_off60 v3352_r0 112#32) S16x128.size (k0_off60_inb v3352_r0 k0_hw13 7)).toLoadRect (View.loadsAt_vmem h_S16x128))
  have v8641_r0 : FVec F S16x128 .bf16 := select v8620_r0 v8636_r0 v8640_r0
  let v8642_r0 : Index := Scalar.indexCast v8638_r0
  let c1920_3341_r0 : Index := 1920#32
  let v8643_r0 : Vec F S16x128 .bf16 ← Prog.lift (.load arg17 (Rect.unit (s := S6144x2048) (k0_off60 v3352_r0 112#32) S16x128.size (k0_off60_inb v3352_r0 k0_hw13 7)).toLoadRect (View.loadsAt_vmem h_S16x128))
  have v8644_r0 : FVec F S16x128 .bf16 := shapeCast S16x128 v8643_r0 shapeCasts_S16x128_S16x128
  have v8645_r0 : FVec F S16x128 .bf16 := shapeCast S16x128 v8641_r0 shapeCasts_S16x128_S16x128
  Prog.lift (.store arg17 (Rect.unit (s := S6144x2048) (k0_off60 v3352_r0 112#32) S16x128.size (k0_off60_inb v3352_r0 k0_hw13 7)) v8645_r0 Finset.univ (View.stores_vmem h_S16x128 (harg17.storeExact_slice rfl _ (k0_off60_packedbf16 v3352_r0 k0_hw13 7)) (fun _ => rfl)) (.inl rfl))
  let c0_i32_3342_r0 : BitVec 32 := 0#32
  pure (c0_i32_3342_r0, k0_mxu475)

/-- The same, with the arithmetic in loops. -/
def visit (v1_1 v1_2 : BitVec 32) (k0_hw7 : k0_chk7 v1_1) (k0_t4 : Fin (k0_t4_loop v1_1).trips) (m : Mxu F) : Pr F (BitVec 32 × Mxu F) := do
  let ⟨arg22, v27, h14, v34, h12⟩ ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v1_1 v1_2 k0_hw7 0#32 1#32 k0_t4
  let xr : Memref sig .tc .vmem S128x2816 .bf16 := (arg14.slice (Rect.unit (s := S2x128x2816) (k0_off39 v1_1 k0_t4) S1x128x2816.size (k0_off39_inb v1_1 k0_hw7 k0_t4)) (fun _ => rfl)).squeeze S128x2816 squeezes_S1x128x2816_S128x2816
  Prog.lift (.waitDma2 ((arg20.slice (Rect.unit (s := S2) (k0_off38 v1_1 k0_t4) S1.size (k0_off38_inb v1_1 k0_hw7 k0_t4))).squeeze S_ squeezes_S1_S_).sem (arg1.slice (Rect.unit (s := S6144x2816) (k0_off40 v34) S128x2816.size (k0_off40_inb v34 h12)) (fun _ => rfl)) xr (harg1.wordExact_slice rfl _ (k0_off40_wordsbf16 v34 h12)) ((harg14.wordExact_slice rfl _ (k0_off39_wordsbf16 v1_1 k0_hw7 k0_t4)).reshape _ _))
  quantAll xr arg15 harg15 arg16
  let row : Elt F .i32 ← smemLoad arg6 (Rect.unit (s := S128) (k0_off41 v1_1 k0_t4) S1.size (k0_off41_inb v1_1 k0_hw7 k0_t4)) numel1_S1 rfl
  have h13 : k0_chk13 row := (← Prog.lift (TpuEff.assume (k0_chk13 row) (k0_chk13.dec row))).down
  let lo : Elt F .i32 ← smemLoad arg7 (Rect.unit (s := S128) (k0_off42 v1_1 k0_t4) S1.size (k0_off42_inb v1_1 k0_hw7 k0_t4)) numel1_S1 rfl
  let hi : Elt F .i32 ← smemLoad arg8 (Rect.unit (s := S128) (k0_off42 v1_1 k0_t4) S1.size (k0_off42_inb v1_1 k0_hw7 k0_t4)) numel1_S1 rfl
  let m' ← prodAll (wvOf arg12 v27 h14) (svOf arg13 v27 h14) arg15 arg16 arg17 harg17 row lo hi (rowOK_of h13) m
  pure (0#32, m')

theorem visit_eq (v1_1 v1_2 : BitVec 32) (k0_hw7 : k0_chk7 v1_1) (k0_t4 : Fin (k0_t4_loop v1_1).trips) (m : Mxu F) :
   printedVisit arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v1_1 v1_2 k0_hw7 k0_t4 m = visit arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v1_1 v1_2 k0_hw7 k0_t4 m := by
  delta printedVisit k0_part215 visit
  refine (Prog.bind_assoc _ _ _).trans (congrArg (Prog.bind _) (funext fun r => ?_))
  obtain ⟨arg22, v27, h14, v34, h12⟩ := r
  sl_kernel_rfl
end Cert.Model
-- ==== Proof.Quant.lean ====
/-
  The quantiser of a window, run: afterwards the two buffers hold the codes and the scales of the window's 128 rows.
-/
module

public import proofs.«01_k».proof.Proof.Base
public import Idealize.ShloMosaic.Lib.Pipeline.Value

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

/-- An index of a matrix. -/
abbrev ix2 {m n : ℕ} (a : Fin m) (b : Fin n) : (⟨2, ![m, n]⟩ : Shape).Idx := Fin.cons a (Fin.cons b (fun i => i.elim0))

variable {F : FTy → Type} [FloatOps F] [Facts]
open Facts₀ Facts

/-- The 16 rows of group `g` of a window. -/
def rowsX (X : Vec F S128x2816 .bf16) (g : Fin 8) : Vec F S16x2816 .bf16 :=
  fun i => X ((Rect.unit (s := S128x2816) ![16 * g.val, 0] S16x2816.size (inb_x g)).toLoadRect.idx i)

/-- The exponents of the scales of the rows of group `g`. -/
def expX (X : Vec F S128x2816 .bf16) (g : Fin 8) : IVec S16x128 32 := expOf (fieldOf (scaled (rowsX X g)))

/-- The group of 16 that a row of a window is in, and its place there. -/
def grp (i : Fin 128) : Fin 8 := ⟨i.val / 16, by omega⟩
def plc (i : Fin 128) : Fin 16 := ⟨i.val % 16, by omega⟩

/-- The scales of a window's rows, at every lane. -/
def xsOf (X : Vec F S128x2816 .bf16) : Vec F S128x128 .f32 :=
  fun i => scaleOf (F := F) (expX X (grp (i 0))) (ix2 (plc (i 0)) (i 1))

/-- The codes of a window. -/
def xqOf (X : Vec F S128x2816 .bf16) : Vec F S128x2816 .bf16 :=
  fun i => codes (rowsX X (grp (i 0))) (invOf (expX X (grp (i 0)))) ⟨(i 1).val / 128, by have : (i 1).val < 2816 := (i 1).isLt; omega⟩
    (ix2 (plc (i 0)) (⟨(i 1).val % 128, Nat.mod_lt _ (by decide)⟩ : Fin 128))

section
variable (c : Dev nD) (xr : Memref sig .tc .vmem S128x2816 .bf16) (a15 : Memref sig .tc .vmem S128x2816 .bf16) (h15 : a15.IsWhole)
  (a16 : Memref sig .tc .vmem S128x128 .f32) (qx : PosShare TreeShare)

/-- The codes are there on the rectangles done. -/
def Coded (X : Vec F S128x2816 .bf16) (D : ℕ → ℕ → Prop) (Y : Vec F S128x2816 .bf16) : Prop := ∀ i, D (i 0).val (i 1).val → Y i = xqOf X i

theorem chunk_wp (X Y : Vec F S128x2816 .bf16) (g : Fin 8) (k : Fin 22) :
    Own c a15 fullShare Y
      ⊢ W c (chunkProg a15 h15 (rowsX X g) (invOf (expX X g)) g k) (fun _ => iprop(∃ Y', ⌜∀ D : ℕ → ℕ → Prop, Coded X D Y →
          Coded X (fun r q => D r q ∨ (16 * g.val ≤ r ∧ r < 16 * g.val + 16 ∧ 128 * k.val ≤ q ∧ q < 128 * k.val + 128)) Y'⌝ ∗ Own c a15 fullShare Y')) := by
  unfold chunkProg
  iintro H
  iapply (ld c) $$ H
  iintro H
  iapply (st_last c) $$ H
  iintro H
  iexists _
  isplitr
  rotate_left
  · iexact H
  ipureintro
  intro D hY i hi
  by_cases hin : 16 * g.val ≤ (i 0).val ∧ (i 0).val < 16 * g.val + 16 ∧ 128 * k.val ≤ (i 1).val ∧ (i 1).val < 128 * k.val + 128
  · have hg : grp (i 0) = g := Fin.ext (by show (i 0).val / 16 = _; omega)
    have hk : (i 1).val / 128 = k.val := by omega
    rw [shapeCast_self, overlay_unit (i := ix2 (plc (i 0)) (⟨(i 1).val % 128, Nat.mod_lt _ (by decide)⟩ : Fin 128))]
    · unfold xqOf
      rw [hg]
      have e : k = ⟨(i 1).val / 128, by have : (i 1).val < 2816 := (i 1).isLt; omega⟩ := Fin.ext hk.symm
      exact congrArg (fun k => codes (rowsX X g) (invOf (expX X g)) k (ix2 (plc (i 0)) (⟨(i 1).val % 128, Nat.mod_lt _ (by decide)⟩ : Fin 128))) e
    · intro a
      match a with
      | ⟨0, _⟩ => show (i 0).val = 16 * g.val + (i 0).val % 16; omega
      | ⟨1, _⟩ => show (i 1).val = 128 * k.val + (i 1).val % 128; omega
  · have hD := hi.resolve_right hin
    rw [← hY i hD]
    by_cases h0 : 16 * g.val ≤ (i 0).val ∧ (i 0).val < 16 * g.val + 16
    · exact overlay_unit_out _ _ _ 1 (fun h => hin ⟨h0.1, h0.2, h⟩)
    · exact overlay_unit_out _ _ _ 0 h0

/-- The scales are there on the rows done. -/
def Scaled (X : Vec F S128x2816 .bf16) (n : ℕ) (Y : Vec F S128x128 .f32) : Prop := ∀ i, (i 0).val < n → Y i = xsOf X i

theorem Coded.mono {X Y : Vec F S128x2816 .bf16} {D D' : ℕ → ℕ → Prop} (h : Coded X D Y) (hD : ∀ r < 128, ∀ q < 2816, D' r q → D r q) : Coded X D' Y :=
  fun i hi => h i (hD _ (i 0).isLt _ (i 1).isLt hi)

theorem quant_wp (X : Vec F S128x2816 .bf16) (g : Fin 8) :
    iprop(Own c xr qx X ∗ ∃ Y Z, ⌜Coded X (fun r _ => r < 16 * g.val) Y ∧ Scaled X (16 * g.val) Z⌝ ∗ Own c a15 fullShare Y ∗ Own c a16 fullShare Z)
      ⊢ W c (quantProg xr a15 h15 a16 g) (fun _ => iprop(Own c xr qx X ∗ ∃ Y Z, ⌜Coded X (fun r _ => r < 16 * (g.val + 1)) Y ∧ Scaled X (16 * (g.val + 1)) Z⌝
          ∗ Own c a15 fullShare Y ∗ Own c a16 fullShare Z)) := by
  unfold quantProg
  iintro ⟨HX, %Y, %Z, %h, HY, HZ⟩
  iapply (ld c) $$ HX
  iintro HX
  iapply (ld c) $$ HZ
  iintro HZ
  iapply (st c) $$ HZ
  iintro HZ
  iapply (W_wand c) $$ [HY]
  · iapply (W_iter c (fun k _ => chunkProg a15 h15 (rowsX X g) (invOf (expX X g)) g k)
      (fun n _ => iprop(∃ Y, ⌜Coded X (fun r q => r < 16 * g.val ∨ (r < 16 * g.val + 16 ∧ q < 128 * n)) Y⌝ ∗ Own c a15 fullShare Y)) ?_ ⟨⟩) $$ [HY]
    · intro k _
      iintro ⟨%Y, %hY, H⟩
      iapply (W_wand c) $$ [H]
      · iapply (chunk_wp c a15 h15 X Y g k) $$ H
      iintro %_ ⟨%Y', %hY', H⟩
      iexists Y'; isplitr
      · ipureintro
        exact (hY' _ hY).mono fun r _ q _ h => by omega
      iexact H
    iexists Y; isplitr
    · ipureintro
      exact h.1.mono fun r _ q _ h => by omega
    iexact HY
  iintro %_ ⟨%Y', %hY', HY⟩
  isplitl [HX]; · iexact HX
  iexists Y'
  iexists _
  isplitr
  rotate_left
  · isplitl [HY]; · iexact HY
    iexact HZ
  ipureintro
  refine ⟨hY'.mono fun r _ q _ h => by omega, fun i hi => ?_⟩
  by_cases hin : 16 * g.val ≤ (i 0).val ∧ (i 0).val < 16 * g.val + 16
  · have hg : grp (i 0) = g := Fin.ext (by show (i 0).val / 16 = _; omega)
    rw [shapeCast_self, overlay_unit (i := ix2 (plc (i 0)) (i 1))]
    · unfold xsOf
      rw [hg]
      rfl
    · intro a
      match a with
      | ⟨0, _⟩ => show (i 0).val = 16 * g.val + (i 0).val % 16; omega
      | ⟨1, _⟩ => exact (Nat.zero_add _).symm
  · exact (overlay_unit_out _ _ _ 0 hin).trans (h.2 i (by omega))

/-- The quantiser, run on a window. -/
theorem quantAll_wp (X : Vec F S128x2816 .bf16) :
    iprop(Own c xr qx X ∗ (∃ Y, Own c a15 fullShare Y) ∗ ∃ Z, Own c a16 fullShare Z)
      ⊢ W c (quantAll xr a15 h15 a16) (fun _ => iprop(Own c xr qx X ∗ Own c a15 fullShare (xqOf X) ∗ Own c a16 fullShare (xsOf X))) := by
  unfold quantAll
  iintro ⟨HX, ⟨%Y, HY⟩, %Z, HZ⟩
  iapply (W_wand c) $$ [HX HY HZ]
  · iapply (W_iter c (fun g _ => quantProg xr a15 h15 a16 g)
      (fun n _ => iprop(Own c xr qx X ∗ ∃ Y Z, ⌜Coded X (fun r _ => r < 16 * n) Y ∧ Scaled X (16 * n) Z⌝ ∗ Own c a15 fullShare Y ∗ Own c a16 fullShare Z)) ?_ ⟨⟩) $$ [HX HY HZ]
    · intro g _
      exact quant_wp c xr a15 h15 a16 qx X g
    isplitl [HX]; · iexact HX
    iexists Y; iexists Z; isplitr
    · ipureintro
      exact ⟨fun i hi => absurd hi (by omega), fun i hi => absurd hi (by omega)⟩
    isplitl [HY]; · iexact HY
    iexact HZ
  iintro %_ ⟨HX, %Y, %Z, %h, HY, HZ⟩
  obtain rfl : Y = xqOf X := funext fun i => h.1 i (i 0).isLt
  obtain rfl : Z = xsOf X := funext fun i => h.2 i (i 0).isLt
  isplitl [HX]; · iexact HX
  isplitl [HY]; · iexact HY
  iexact HZ
end

end Cert.Model
-- ==== Proof.Acc.lean ====
/-
  The accumulators of the matrix units during one block of 512 columns: which partial products they hold after each step.
-/
module

public import proofs.«01_k».proof.Proof.Quant
public import Idealize.ShloMosaic.Lib.Mxu.Lemmas

@[expose] public section

noncomputable section

namespace Cert.Model

open Idealize.ShloMosaic Idealize.SL.Sem
open Cert.Kernel

variable {F : FTy → Type} [FloatOps F] [Facts]
open Facts₀ Facts

section
variable (Xq : Vec F S128x2816 .bf16) (Wt : Vec F S1408x2048 .i8) (Sc : Vec F S22x2048 .f32)

/-- The weight tile of step `k` and column tile `j`. -/
def tileOf (k : Fin 11) (j : Fin 8) : FVec F S256x256 .bf16 :=
  tile (fun y => Wt ((Rect.unit (s := S1408x2048) ![128 * k.val, 256 * j.val] S128x256.size (inb_w k j)).toLoadRect.idx y))
    (fun y => Sc ((Rect.unit (s := S22x2048) ![2 * k.val + (0 : Fin 2).val, 256 * j.val] S1x256.size (inb_s k 0 j)).toLoadRect.idx y))
    (fun y => Sc ((Rect.unit (s := S22x2048) ![2 * k.val + (1 : Fin 2).val, 256 * j.val] S1x256.size (inb_s k 1 j)).toLoadRect.idx y))

/-- 32 rows and 256 columns of the codes. -/
def lhsOf (i : Fin 4) (k : Fin 11) : FVec F S32x256 .bf16 :=
  fun y => Xq ((Rect.unit (s := S128x2816) ![32 * i.val, 256 * k.val] S32x256.size (inb_l i k)).toLoadRect.idx y)

/-- The product of step `k`. -/
def passAt (i : Fin 4) (j : Fin 8) (k : Fin 11) : FVec F S32x256 .f32 :=
  Mxu.Staged.pass (M := 32) (φ := .bf16) (⟨.bf16, false, tileOf Wt Sc k j⟩ : Mxu.Staged F) (lhsOf Xq i k)

/-- The sum of the products of the steps `0 … n`. -/
def sumTo (i : Fin 4) (j : Fin 8) : (n : ℕ) → n < 11 → FVec F S32x256 .f32
  | 0, h => passAt Xq Wt Sc i j ⟨0, h⟩
  | n + 1, h => addf (sumTo i j n (Nat.lt_of_succ_lt h)) (passAt Xq Wt Sc i j ⟨n + 1, h⟩)

/-- The accumulators in block `nb`: the 32 rows `i` of unit `q` hold the sum of the first `cnt q i` products. -/
structure Acc (nb : Fin 4) (cnt : Fin 2 → Fin 4 → ℕ) (m : Mxu F) : Prop where
  live : ∀ q (R : Fin 1024), m.live q R = true ↔ ∃ i : Fin 4, 128 * (nb.val % 2) + 32 * i.val ≤ R.val ∧ R.val < 128 * (nb.val % 2) + 32 * i.val + 32 ∧ 0 < cnt q i
  read : ∀ q i n (h : n < 11), cnt q i = n + 1 → m.read q (32 * (nb.val % 2) + 8 * i.val) (fits nb i) = sumTo Xq Wt Sc i (jOf nb q) n h

/-- One count changed. -/
def upd (cnt : Fin 2 → Fin 4 → ℕ) (q : Fin 2) (i : Fin 4) (n : ℕ) : Fin 2 → Fin 4 → ℕ :=
  fun q' i' => if q' = q ∧ i' = i then n else cnt q' i'

variable {Xq Wt Sc} {nb : Fin 4} {cnt : Fin 2 → Fin 4 → ℕ} {m : Mxu F}

theorem Acc.live_row (h : Acc Xq Wt Sc nb cnt m) (q : Fin 2) (i : Fin 4) (r : Fin 32) :
    m.live q (Mxu.row (fits nb i) r) = decide (0 < cnt q i) := by
  rw [Bool.eq_iff_iff, h.live, decide_eq_true_iff]
  have hr := r.isLt
  constructor
  · rintro ⟨i', h1, h2, h3⟩
    simp only [Mxu.row] at h1 h2
    obtain rfl : i' = i := Fin.ext (by omega)
    exact h3
  · intro h3
    exact ⟨i, by simp only [Mxu.row]; omega, by simp only [Mxu.row]; omega, h3⟩

theorem Acc.congr {cnt' : Fin 2 → Fin 4 → ℕ} (h : Acc Xq Wt Sc nb cnt m) (hc : ∀ q i, cnt q i = cnt' q i) : Acc Xq Wt Sc nb cnt' m := by
  obtain rfl : cnt = cnt' := funext fun q => funext fun i => hc q i
  exact h

theorem Acc.pushed (h : Acc Xq Wt Sc nb cnt m) (q r : Fin 2) (v : FVec F S256x256 .bf16) : Acc Xq Wt Sc nb cnt (m.pushed q r false v) where
  live q' R := by rw [Mxu.live_pushed]; exact h.live q' R
  read q' i n hn hc := by rw [Mxu.read_pushed]; exact h.read q' i n hn hc

/-- An accumulation into the rows `i` of unit `q` by the tile of the next step. -/
theorem Acc.accBy (h : Acc Xq Wt Sc nb cnt m) (q : Fin 2) (i : Fin 4) (k : Fin 11) (hk : cnt q i = k.val) {t : Mxu.Staged F}
    (ht : t = ⟨.bf16, false, tileOf Wt Sc k (jOf nb q)⟩) :
    Acc Xq Wt Sc nb (upd cnt q i (k.val + 1)) (m.accBy q t (32 * (nb.val % 2) + 8 * i.val) (lhsOf Xq i k) (fits nb i)) where
  live q' R := by
    rw [Mxu.live_accBy]
    split_ifs with hc
    · obtain ⟨rfl, h1, h2⟩ := hc
      exact ⟨fun _ => ⟨i, by omega, by omega, by simp [upd]⟩, fun _ => rfl⟩
    · rw [h.live]
      refine exists_congr fun i' => and_congr_right fun h1 => and_congr_right fun h2 => ?_
      rw [upd, if_neg]
      rintro ⟨rfl, rfl⟩
      exact hc ⟨rfl, by omega, by omega⟩
  read q' i' n hn hc := by
    by_cases hq : q' = q ∧ i' = i
    · obtain ⟨rfl, rfl⟩ := hq
      obtain rfl : k = ⟨n, hn⟩ := Fin.ext (by simp [upd] at hc; omega)
      subst ht
      rcases n with _ | k'
      · rw [Mxu.read_accBy_of_not_live _ _ _ _ _ _ (fun r => by rw [h.live_row]; simp [hk])]
        rfl
      · rw [Mxu.read_accBy_of_live _ _ _ _ _ _ (fun r => by rw [h.live_row]; simp [hk])]
        rw [h.read q' i' k' (by omega) hk]
        rfl
    · rw [Mxu.read_accBy_ne]
      · exact h.read q' i' n hn (by rw [← hc, upd, if_neg hq])
      · by_cases hq' : q' = q
        · right
          have : i'.val ≠ i.val := fun e => hq ⟨hq', Fin.ext e⟩
          omega
        · exact .inl hq'

theorem Acc.accLhs (h : Acc Xq Wt Sc nb cnt m) (q r : Fin 2) (i : Fin 4) (k : Fin 11) (hk : cnt q i = k.val)
    (ht : m.staged q r = ⟨.bf16, false, tileOf Wt Sc k (jOf nb q)⟩) :
    Acc Xq Wt Sc nb (upd cnt q i (k.val + 1)) (m.accLhs q r (32 * (nb.val % 2) + 8 * i.val) (lhsOf Xq i k) (fits nb i)) where
  live := (h.accBy q i k hk ht).live
  read := (h.accBy q i k hk ht).read

/-- Popped rows are dead. -/
theorem Acc.pop (h : Acc Xq Wt Sc nb cnt m) (q : Fin 2) (i : Fin 4) :
    Acc Xq Wt Sc nb (upd cnt q i 0) (m.pop q (32 * (nb.val % 2) + 8 * i.val) 32 (fits nb i)) where
  live q' R := by
    rw [Mxu.live_pop]
    split_ifs with hc
    · obtain ⟨rfl, h1, h2⟩ := hc
      refine ⟨fun h => absurd h (by decide), ?_⟩
      rintro ⟨i', h3, h4, h5⟩
      obtain rfl : i' = i := Fin.ext (by omega)
      simp [upd] at h5
    · rw [h.live]
      refine exists_congr fun i' => and_congr_right fun h1 => and_congr_right fun h2 => ?_
      rw [upd, if_neg]
      rintro ⟨rfl, rfl⟩
      exact hc ⟨rfl, by omega, by omega⟩
  read q' i' n hn hc := by
    by_cases hq : q' = q ∧ i' = i
    · rw [upd, if_pos hq] at hc; omega
    · rw [Mxu.read_pop_ne]
      · exact h.read q' i' n hn (by rw [← hc, upd, if_neg hq])
      · by_cases hq' : q' = q
        · right
          have : i'.val ≠ i.val := fun e => hq ⟨hq', Fin.ext e⟩
          omega
        · exact .inl hq'

/-- No row is live. -/
def Dead (m : Mxu F) : Prop := (∀ q r, m.reg q r = none) ∧ ∀ q R, m.live q R = false

theorem Dead.acc (h : Dead m) (Xq : Vec F S128x2816 .bf16) (Wt : Vec F S1408x2048 .i8) (Sc : Vec F S22x2048 .f32) (nb : Fin 4) :
    Acc Xq Wt Sc nb (fun _ _ => 0) m where
  live q R := by rw [h.2]; simp
  read q i n hn hc := by simp at hc

theorem Acc.dead (h : Acc Xq Wt Sc nb cnt m) (hc : ∀ q i, cnt q i = 0) (hr : ∀ q r, m.reg q r = none) : Dead m :=
  ⟨hr, fun q R => by
    rw [← Bool.not_eq_true, h.live]
    rintro ⟨i, -, -, h3⟩
    rw [hc] at h3; omega⟩

theorem Dead.drained (h : Dead m) : m.Drained := ⟨fun q r => by rw [h.1 q r]; rfl, h.2⟩
theorem Dead.init : Dead (Mxu.init : Mxu F) := ⟨fun _ _ => rfl, fun _ _ => rfl⟩

end

end Cert.Model
-- ==== Proof.Step.lean ====
/-
  One step of the contraction, run: every accumulator gains one product.
-/
module

public import proofs.«01_k».proof.Proof.Acc

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F] [Facts]
open Facts₀ Facts

section
variable (c : Dev nD) (wv : Memref sig .tc .vmem S1408x2048 .i8) (sv : Memref sig .tc .vmem S22x2048 .f32)
  (a15 : Memref sig .tc .vmem S128x2816 .bf16)
  (Xq : Vec F S128x2816 .bf16) (Wt : Vec F S1408x2048 .i8) (Sc : Vec F S22x2048 .f32)

/-- An accumulation by a loaded tile, at the head of a program. -/
theorem acl {α : Type} {Q : α → sProp (MM F)} {m : Mxu F} (q : Fin 2) {A : ℕ} (l : FVec F S32x256 .bf16) (h : Mxu.Fits A 32) {t : Mxu.Staged F}
    (ht : m.gmr q = some t) {k : Mxu F → Pr F α} :
    W c (k (m.accBy q t A (M := 32) l h)) Q ⊢ W c (m.accLhsLoaded q A (M := 32) l h >>= k) Q :=
  Mxu.wp_accLhsLoaded (c := (c.tc : Thread nD τ)) l h ht

/-- The same at its end. -/
theorem acl_last {Q : Mxu F → sProp (MM F)} {m : Mxu F} (q : Fin 2) {A : ℕ} (l : FVec F S32x256 .bf16) (h : Mxu.Fits A 32) {t : Mxu.Staged F}
    (ht : m.gmr q = some t) :
    Q (m.accBy q t A (M := 32) l h) ⊢ W c (m.accLhsLoaded q A (M := 32) l h) Q :=
  (W_ret c (Q := Q) (m.accBy q t A (M := 32) l h)).trans (acl c q l h ht (k := Prog.ret))

/-- The buffers that a product reads: the codes, the weights and their scales. -/
def Reads : sProp (MM F) := iprop(Own c wv fullShare Wt ∗ Own c sv fullShare Sc ∗ Own c a15 fullShare Xq)

/-- A push, run. -/
theorem push_wp {Q : Mxu F → sProp (MM F)} (nb : Fin 4) (k : Fin 11) (q : Fin 2) (m : Mxu F) (hm : m.reg q (regOf nb k) = none) :
    Reads c wv sv a15 Xq Wt Sc
      ⊢ iprop((∀ m', ⌜m' = m.pushed q (regOf nb k) false (tileOf Wt Sc k (jOf nb q))⌝ -∗ Reads c wv sv a15 Xq Wt Sc -∗ Q m')
        -∗ W c (pushProg wv sv nb k q m) Q) := by
  unfold Reads pushProg
  iintro ⟨HW, HS, HX⟩ Hk
  iapply (ld c) $$ HW
  iintro HW
  iapply (ld c) $$ HS
  iintro HS
  iapply (ld c) $$ HS
  iintro HS
  iapply (wp_assume (k := fun _ => Prog.ret (m.pushed q (regOf nb k) false (tileOf Wt Sc k (jOf nb q)))) Variants.none (c.tc : Thread nD τ) none Set.univ
    (Mxu.pushOk_of_none m q (regOf nb k) false hm))
  iapply (W_ret c)
  iapply Hk
  · ipureintro; rfl
  isplitl [HW]; · iexact HW
  isplitl [HS]; · iexact HS
  iexact HX

/-- The first 32 rows, run. -/
theorem first_wp {Q : Mxu F → sProp (MM F)} (nb : Fin 4) (k : Fin 11) (m : Mxu F) :
    Reads c wv sv a15 Xq Wt Sc
      ⊢ iprop((∀ m', ⌜m' = (m.accLhs 0 (regOf nb k) (32 * (nb.val % 2) + 8 * (0 : Fin 4).val) (lhsOf Xq 0 k) (fits nb 0)).accLhs 1 (regOf nb k) (32 * (nb.val % 2) + 8 * (0 : Fin 4).val) (lhsOf Xq 0 k) (fits nb 0)⌝ -∗ Reads c wv sv a15 Xq Wt Sc -∗ Q m')
        -∗ W c (accFirst a15 nb k m) Q) := by
  unfold Reads accFirst
  iintro ⟨HW, HS, HX⟩ Hk
  iapply (ld c) $$ HX
  iintro HX
  iapply (W_ret c)
  iapply Hk
  · ipureintro; rfl
  isplitl [HW]; · iexact HW
  isplitl [HS]; · iexact HS
  iexact HX

/-- The next 32 rows, run. -/
theorem next_wp {Q : Mxu F → sProp (MM F)} (nb : Fin 4) (k : Fin 11) (i : Fin 4) (m : Mxu F) {t0 t1 : Mxu.Staged F} (h0 : m.gmr 0 = some t0) (h1 : m.gmr 1 = some t1) :
    Reads c wv sv a15 Xq Wt Sc
      ⊢ iprop((∀ m', ⌜m' = (m.accBy 0 t0 (32 * (nb.val % 2) + 8 * i.val) (lhsOf Xq i k) (fits nb i)).accBy 1 t1 (32 * (nb.val % 2) + 8 * i.val) (lhsOf Xq i k) (fits nb i)⌝ -∗ Reads c wv sv a15 Xq Wt Sc -∗ Q m')
        -∗ W c (accNext a15 nb k i m) Q) := by
  unfold Reads accNext
  iintro ⟨HW, HS, HX⟩ Hk
  iapply (ld c) $$ HX
  iintro HX
  iapply (acl c 0 _ _ h0)
  iapply (acl_last c 1 (m := m.accBy 0 t0 _ _ (fits nb i)) _ _ h1)
  iapply Hk
  · ipureintro; rfl
  isplitl [HW]; · iexact HW
  isplitl [HS]; · iexact HS
  iexact HX

/-- One step of the contraction, run. -/
theorem kstep_wp (nb : Fin 4) (k : Fin 11) (m : Mxu F) (ha : Acc Xq Wt Sc nb (fun _ _ => k.val) m) (hr : ∀ q r, m.reg q r = none) :
    Reads c wv sv a15 Xq Wt Sc
      ⊢ W c (kstep wv sv a15 nb k m) (fun m' => iprop(⌜Acc Xq Wt Sc nb (fun _ _ => k.val + 1) m' ∧ ∀ q r, m'.reg q r = none⌝ ∗ Reads c wv sv a15 Xq Wt Sc)) := by
  unfold kstep
  iintro H
  rw [W_bind']
  iapply (push_wp c wv sv a15 Xq Wt Sc nb k 0 m (hr _ _)) $$ H
  iintro %m1 %e1 H
  rw [W_bind']
  iapply (push_wp c wv sv a15 Xq Wt Sc nb k 1 m1 (by
    rw [e1, Mxu.reg_pushed_ne]
    · exact hr _ _
    · exact fun h => absurd h.1 (by decide))) $$ H
  iintro %m2 %e2 H
  rw [W_bind']
  iapply (first_wp c wv sv a15 Xq Wt Sc nb k m2) $$ H
  iintro %m3 %e3 H
  have s0 : m2.staged 0 (regOf nb k) = ⟨.bf16, false, tileOf Wt Sc k (jOf nb 0)⟩ := by
    rw [Mxu.staged_eq, e2, Mxu.reg_pushed_ne _ _ _ _ _ _ _ (fun h => absurd h.1 (by decide)), e1, Mxu.reg_pushed_of_none _ _ _ _ _ (hr _ _)]
    rfl
  have s1 : m2.staged 1 (regOf nb k) = ⟨.bf16, false, tileOf Wt Sc k (jOf nb 1)⟩ := by
    rw [Mxu.staged_eq, e2, Mxu.reg_pushed_of_none]
    · rfl
    · rw [e1, Mxu.reg_pushed_ne _ _ _ _ _ _ _ (fun h => absurd h.1 (by decide))]
      exact hr _ _
  have a2 : Acc Xq Wt Sc nb (fun _ _ => k.val) m2 := by rw [e2, e1]; exact (ha.pushed _ _ _).pushed _ _ _
  have g0 : m3.gmr 0 = some ⟨.bf16, false, tileOf Wt Sc k (jOf nb 0)⟩ := by
    rw [e3, Mxu.gmr_accLhs_ne _ _ _ _ _ _ _ (by decide), Mxu.gmr_accLhs, s0]
  have g1 : m3.gmr 1 = some ⟨.bf16, false, tileOf Wt Sc k (jOf nb 1)⟩ := by
    rw [e3, Mxu.gmr_accLhs]
    exact congrArg some s1
  have a3 := e3 ▸ (a2.accLhs 0 (regOf nb k) 0 k rfl s0).accLhs 1 (regOf nb k) 0 k rfl s1
  have r3 : ∀ q r, m3.reg q r = none := by
    intro q r
    rw [e3]
    by_cases h1 : q = 1 ∧ r = regOf nb k
    · rw [h1.1, h1.2, Mxu.reg_accLhs]
    rw [Mxu.reg_accLhs_ne _ _ _ _ _ _ _ _ h1]
    by_cases h0 : q = 0 ∧ r = regOf nb k
    · rw [h0.1, h0.2, Mxu.reg_accLhs]
    rw [Mxu.reg_accLhs_ne _ _ _ _ _ _ _ _ h0, e2, Mxu.reg_pushed_ne _ _ _ _ _ _ _ h1, e1, Mxu.reg_pushed_ne _ _ _ _ _ _ _ h0]
    exact hr _ _
  rw [W_bind']
  iapply (next_wp c wv sv a15 Xq Wt Sc nb k 1 m3 g0 g1) $$ H
  iintro %m4 %e4 H
  have a4 := e4 ▸ (a3.accBy 0 1 k rfl rfl).accBy 1 1 k rfl rfl
  have r4 : ∀ q r, m4.reg q r = none := by rw [e4]; exact r3
  rw [W_bind']
  iapply (next_wp c wv sv a15 Xq Wt Sc nb k 2 m4 (by rw [e4]; exact g0) (by rw [e4]; exact g1)) $$ H
  iintro %m5 %e5 H
  have a5 := e5 ▸ (a4.accBy 0 2 k rfl rfl).accBy 1 2 k rfl rfl
  have r5 : ∀ q r, m5.reg q r = none := by rw [e5]; exact r4
  iapply (next_wp c wv sv a15 Xq Wt Sc nb k 3 m5 (by rw [e5, e4]; exact g0) (by rw [e5, e4]; exact g1)) $$ H
  iintro %m6 %e6 H
  have a6 := e6 ▸ (a5.accBy 0 3 k rfl rfl).accBy 1 3 k rfl rfl
  have r6 : ∀ q r, m6.reg q r = none := by rw [e6]; exact r5
  isplitr
  · ipureintro
    refine ⟨a6.congr fun q i => ?_, r6⟩
    fin_cases q <;> fin_cases i <;> rfl
  iexact H
end

end Cert.Model
-- ==== Proof.Product.lean ====
/-
  The product of a window with one expert's weights, run: afterwards the rows of the result that the window and the expert share hold it.
-/
module

public import proofs.«01_k».proof.Proof.Step

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F] [Facts]
open Facts₀ Facts

section
variable (Xq : Vec F S128x2816 .bf16) (Xs : Vec F S128x128 .f32) (Wt : Vec F S1408x2048 .i8) (Sc : Vec F S22x2048 .f32) (row lo hi : BitVec 32)

/-- The scales of 16 rows. -/
def rowsS (g : Fin 8) : Vec F S16x128 .f32 :=
  fun y => Xs ((Rect.unit (s := S128x128) ![16 * g.val, 0] S16x128.size (inb_xs g)).toLoadRect.idx y)

/-- What a row of the window and a column of the result get. -/
def newAt (ρ : Fin 128) (C : Fin 2048) : F .bf16 :=
  outOf (sumTo Xq Wt Sc ⟨ρ.val / 32, by omega⟩ ⟨C.val / 256, by omega⟩ 10 (by decide)) ⟨(ρ.val / 16) % 2, by omega⟩ ⟨(C.val / 128) % 2, by omega⟩
    (rowsS Xs (grp ρ)) (ix2 (plc ρ) (⟨C.val % 128, Nat.mod_lt _ (by decide)⟩ : Fin 128))

/-- The row of the window belongs to the expert. -/
def sel (ρ : Fin 128) (C : Fin 2048) : BitVec 1 :=
  maskOf row lo hi (BitVec.ofNat 32 (16 * (grp ρ).val)) (ix2 (plc ρ) (⟨C.val % 128, Nat.mod_lt _ (by decide)⟩ : Fin 128))

/-- The result after the visit. -/
def visitY (Y : Vec F S6144x2048 .bf16) : Vec F S6144x2048 .bf16 := fun i =>
  if h : row.toNat ≤ (i 0).val ∧ (i 0).val < row.toNat + 128 then
    if sel row lo hi ⟨(i 0).val - row.toNat, by omega⟩ (i 1) = 1#1 then newAt Xq Xs Wt Sc ⟨(i 0).val - row.toNat, by omega⟩ (i 1) else Y i
  else Y i

/-- The result during the visit, updated at the rows of the window and columns in `D`. -/
def Upd (D : ℕ → ℕ → Prop) (Y Y' : Vec F S6144x2048 .bf16) : Prop :=
  ∀ i : S6144x2048.Idx, (D ((i 0).val - row.toNat) (i 1).val → Y' i = visitY Xq Xs Wt Sc row lo hi Y i) ∧
    (¬ D ((i 0).val - row.toNat) (i 1).val → Y' i = Y i ∨ Y' i = visitY Xq Xs Wt Sc row lo hi Y i)

variable {Xq Xs Wt Sc row lo hi}

theorem Upd.mono {D D' : ℕ → ℕ → Prop} {Y Y' : Vec F S6144x2048 .bf16} (h : Upd Xq Xs Wt Sc row lo hi D Y Y')
    (hD : ∀ ρ C, ρ < 6144 → C < 2048 → D' ρ C → D ρ C) : Upd Xq Xs Wt Sc row lo hi D' Y Y' := fun i =>
  have h0 : (i 0).val < 6144 := (i 0).isLt
  have hl : (i 0).val - row.toNat < 6144 := by omega
  ⟨fun hd => (h i).1 (hD _ _ hl (i 1).isLt hd), fun _ => by
    by_cases hd : D ((i 0).val - row.toNat) (i 1).val
    · exact .inr ((h i).1 hd)
    · exact (h i).2 hd⟩

theorem Upd.old {D : ℕ → ℕ → Prop} {Y Y' : Vec F S6144x2048 .bf16} (h : Upd Xq Xs Wt Sc row lo hi D Y Y') (i : S6144x2048.Idx) :
    Y' i = Y i ∨ Y' i = visitY Xq Xs Wt Sc row lo hi Y i := by
  by_cases hd : D ((i 0).val - row.toNat) (i 1).val
  · exact .inr ((h i).1 hd)
  · exact (h i).2 hd

variable (c : Dev nD) (a16 : Memref sig .tc .vmem S128x128 .f32) (a17 : Memref sig .tc .vmem S6144x2048 .bf16) (h17 : a17.IsWhole)

/-- A block of 16 rows and 128 columns, written. -/
theorem block_wp {D : ℕ → ℕ → Prop} {Y Y' : Vec F S6144x2048 .bf16} (hY : Upd Xq Xs Wt Sc row lo hi D Y Y') (hr : RowOK row) (hrow : row.toNat ≤ 6016)
    (nb i : Fin 4) (q r h : Fin 2) :
    Own c a17 fullShare Y'
      ⊢ W c (blockProg a17 h17 row hr (sumTo Xq Wt Sc i (jOf nb q) 10 (by decide)) (gOf i r) r (cOf nb q h) h
          (maskOf row lo hi (BitVec.ofNat 32 (16 * (gOf i r).val))) (rowsS Xs (gOf i r)))
        (fun _ => iprop(∃ Y'', ⌜Upd Xq Xs Wt Sc row lo hi (fun ρ C => D ρ C ∨ (16 * (gOf i r).val ≤ ρ ∧ ρ < 16 * (gOf i r).val + 16 ∧
            128 * (cOf nb q h).val ≤ C ∧ C < 128 * (cOf nb q h).val + 128)) Y Y''⌝ ∗ Own c a17 fullShare Y'')) := by
  unfold blockProg
  iintro H
  iapply (ld c) $$ H
  iintro H
  iapply (ld c) $$ H
  iintro H
  iapply (st_last c) $$ H
  iintro H
  iexists _
  isplitr
  rotate_left
  · iexact H
  ipureintro
  have hg : (gOf i r).val < 8 := (gOf i r).isLt
  have hoff : (Scalar.indexCast (Scalar.addi row (BitVec.ofNat 32 (16 * (gOf i r).val)))).toNat = row.toNat + 16 * (gOf i r).val := by
    show (row + BitVec.ofNat 32 (16 * (gOf i r).val)).toNat = _
    rw [BitVec.toNat_add, BitVec.toNat_ofNat]
    omega
  intro j
  have hj0 : (j 0).val < 6144 := (j 0).isLt
  have hj1 : (j 1).val < 2048 := (j 1).isLt
  by_cases hin : (row.toNat + 16 * (gOf i r).val ≤ (j 0).val ∧ (j 0).val < row.toNat + 16 * (gOf i r).val + 16) ∧
      (128 * (cOf nb q h).val ≤ (j 1).val ∧ (j 1).val < 128 * (cOf nb q h).val + 128)
  · suffices hs : (Rect.unit (s := S6144x2048) (yoff row (BitVec.ofNat 32 (16 * (gOf i r).val)) (cOf nb q h).val) S16x128.size (hr.inb (cOf nb q h) (gOf i r))).overlay Y' _ j
        = visitY Xq Xs Wt Sc row lo hi Y j from ⟨fun _ => hs, fun _ => .inr hs⟩
    have hρ : (j 0).val - row.toNat < 128 := by omega
    rw [shapeCast_self, overlay_unit (i := ix2 (plc ⟨(j 0).val - row.toNat, hρ⟩) (⟨(j 1).val % 128, Nat.mod_lt _ (by decide)⟩ : Fin 128))]
    swap
    · intro a
      match a with
      | ⟨0, _⟩ =>
        show (j 0).val = (Scalar.indexCast (Scalar.addi row (BitVec.ofNat 32 (16 * (gOf i r).val)))).toNat + ((j 0).val - row.toNat) % 16
        rw [hoff]; omega
      | ⟨1, _⟩ => show (j 1).val = 128 * (cOf nb q h).val + (j 1).val % 128; omega
    have e1 : grp ⟨(j 0).val - row.toNat, hρ⟩ = gOf i r := Fin.ext (by show ((j 0).val - row.toNat) / 16 = _; omega)
    have hgv : (gOf i r).val = 2 * i.val + r.val := rfl
    have hcv : (cOf nb q h).val = 4 * nb.val + (2 * q.val + h.val) := rfl
    have hjv : (jOf nb q).val = 2 * nb.val + q.val := rfl
    have hr2 := r.isLt
    have hh2 := h.isLt
    have e2 : (⟨((j 0).val - row.toNat) / 32, by omega⟩ : Fin 4) = i := Fin.ext (by show ((j 0).val - row.toNat) / 32 = _; omega)
    have e3 : (⟨(j 1).val / 256, by omega⟩ : Fin 8) = jOf nb q := Fin.ext (by show (j 1).val / 256 = _; omega)
    have e4 : (⟨(((j 0).val - row.toNat) / 16) % 2, by omega⟩ : Fin 2) = r := Fin.ext (by show (((j 0).val - row.toNat) / 16) % 2 = _; omega)
    have e5 : (⟨((j 1).val / 128) % 2, by omega⟩ : Fin 2) = h := Fin.ext (by show ((j 1).val / 128) % 2 = _; omega)
    have hidx : (Rect.unit (s := S6144x2048) (yoff row (BitVec.ofNat 32 (16 * (gOf i r).val)) (cOf nb q h).val) S16x128.size (hr.inb (cOf nb q h) (gOf i r))).toLoadRect.idx
        (ix2 (plc ⟨(j 0).val - row.toNat, hρ⟩) (⟨(j 1).val % 128, Nat.mod_lt _ (by decide)⟩ : Fin 128)) = j := by
      funext a
      refine Fin.ext ?_
      match a with
      | ⟨0, _⟩ =>
        show (Scalar.indexCast (Scalar.addi row (BitVec.ofNat 32 (16 * (gOf i r).val)))).toNat + 1 * (((j 0).val - row.toNat) % 16) = (j 0).val
        rw [hoff]; omega
      | ⟨1, _⟩ => show 128 * (cOf nb q h).val + 1 * ((j 1).val % 128) = (j 1).val; omega
    have hv : visitY Xq Xs Wt Sc row lo hi Y j = if maskOf row lo hi (BitVec.ofNat 32 (16 * (gOf i r).val))
        (ix2 (plc ⟨(j 0).val - row.toNat, hρ⟩) (⟨(j 1).val % 128, Nat.mod_lt _ (by decide)⟩ : Fin 128)) = 1#1
        then outOf (sumTo Xq Wt Sc i (jOf nb q) 10 (by decide)) r h (rowsS Xs (gOf i r)) (ix2 (plc ⟨(j 0).val - row.toNat, hρ⟩) (⟨(j 1).val % 128, Nat.mod_lt _ (by decide)⟩ : Fin 128))
        else Y j := by
      unfold visitY
      rw [dif_pos (by omega)]
      unfold sel newAt
      rw [e1, e2, e3, e4, e5]
    show Scalar.select _ _ (Y' _) = _
    rw [hidx]
    unfold Scalar.select
    rw [hv]
    by_cases hm : maskOf row lo hi (BitVec.ofNat 32 (16 * (gOf i r).val)) (ix2 (plc ⟨(j 0).val - row.toNat, hρ⟩) (⟨(j 1).val % 128, Nat.mod_lt _ (by decide)⟩ : Fin 128)) = 1#1
    · rw [if_pos hm]
      exact if_pos hm
    · rw [if_neg hm]
      refine (if_neg hm).trans ?_
      rcases hY.old j with h | h
      · exact h
      · rw [h, hv, if_neg hm]
  · have hout : (Rect.unit (s := S6144x2048) (yoff row (BitVec.ofNat 32 (16 * (gOf i r).val)) (cOf nb q h).val) S16x128.size (hr.inb (cOf nb q h) (gOf i r))).overlay Y'
        (shapeCast S16x128 (select (maskOf row lo hi (BitVec.ofNat 32 (16 * (gOf i r).val))) (outOf (sumTo Xq Wt Sc i (jOf nb q) 10 (by decide)) r h (rowsS Xs (gOf i r)))
          (fun x => Y' ((Rect.unit (s := S6144x2048) (yoff row (BitVec.ofNat 32 (16 * (gOf i r).val)) (cOf nb q h).val) S16x128.size (hr.inb (cOf nb q h) (gOf i r))).toLoadRect.idx x))) shapeCasts_S16x128_S16x128) j = Y' j := by
      by_cases h0 : row.toNat + 16 * (gOf i r).val ≤ (j 0).val ∧ (j 0).val < row.toNat + 16 * (gOf i r).val + 16
      · exact overlay_unit_out _ _ _ 1 (fun h => hin ⟨h0, h⟩)
      · exact overlay_unit_out _ _ _ 0 (fun h => h0 (by
          have h' : (Scalar.indexCast (Scalar.addi row (BitVec.ofNat 32 (16 * (gOf i r).val)))).toNat ≤ (j 0).val ∧ (j 0).val < (Scalar.indexCast (Scalar.addi row (BitVec.ofNat 32 (16 * (gOf i r).val)))).toNat + 16 := h
          rw [hoff] at h'
          exact h'))
    refine ⟨fun hd => ?_, fun _ => ?_⟩
    · refine hout.trans ?_
      rcases hd with hd | hd
      · exact (hY j).1 hd
      · by_cases hz : row.toNat ≤ (j 0).val
        · exact absurd ⟨⟨by omega, by omega⟩, hd.2.2⟩ hin
        · have hv : visitY Xq Xs Wt Sc row lo hi Y j = Y j := by unfold visitY; rw [dif_neg (by omega)]
          rcases hY.old j with h | h
          · rw [h, hv]
          · exact h
    · rcases hY.old j with h | h
      · exact .inl (hout.trans h)
      · exact .inr (hout.trans h)

/-- 16 rows and 256 columns, written. -/
theorem rows_wp {D : ℕ → ℕ → Prop} {Y : Vec F S6144x2048 .bf16} (hr : RowOK row) (hrow : row.toNat ≤ 6016) (nb i : Fin 4) (q r : Fin 2) :
    iprop(Own c a16 fullShare Xs ∗ ∃ Y', ⌜Upd Xq Xs Wt Sc row lo hi D Y Y'⌝ ∗ Own c a17 fullShare Y')
      ⊢ W c (rowsProg a16 a17 h17 row lo hi hr nb i q (sumTo Xq Wt Sc i (jOf nb q) 10 (by decide)) r)
        (fun _ => iprop(Own c a16 fullShare Xs ∗ ∃ Y', ⌜Upd Xq Xs Wt Sc row lo hi (fun ρ C => D ρ C ∨ (16 * (gOf i r).val ≤ ρ ∧ ρ < 16 * (gOf i r).val + 16 ∧
            256 * (jOf nb q).val ≤ C ∧ C < 256 * (jOf nb q).val + 256)) Y Y'⌝ ∗ Own c a17 fullShare Y')) := by
  unfold rowsProg
  iintro ⟨HS, %Y', %hY, H⟩
  iapply (ld c) $$ HS
  iintro HS
  rw [W_bind']
  iapply (W_wand c) $$ [H]
  · iapply (block_wp c a17 h17 hY hr hrow nb i q r 0) $$ H
  iintro %_ ⟨%Y1, %h1, H⟩
  iapply (W_wand c) $$ [H]
  · iapply (block_wp c a17 h17 h1 hr hrow nb i q r 1) $$ H
  iintro %_ ⟨%Y2, %h2, H⟩
  isplitl [HS]; · iexact HS
  iexists Y2; isplitr
  · ipureintro
    refine h2.mono fun ρ C _ _ h => ?_
    have h0 : (cOf nb q 0).val = 4 * nb.val + (2 * q.val + 0) := rfl
    have h1 : (cOf nb q 1).val = 4 * nb.val + (2 * q.val + 1) := rfl
    have hjv : (jOf nb q).val = 2 * nb.val + q.val := rfl
    rcases h with h | h
    · exact .inl (.inl h)
    · by_cases hc : C < 256 * (jOf nb q).val + 128
      · exact .inl (.inr (by omega))
      · exact .inr (by omega)
  iexact H

/-- The rows `i` of unit `q`, taken out and written. -/
theorem pop_wp {D : ℕ → ℕ → Prop} {Y : Vec F S6144x2048 .bf16} (hr : RowOK row) (hrow : row.toNat ≤ 6016) (nb i : Fin 4) (q : Fin 2)
    {cnt : Fin 2 → Fin 4 → ℕ} {m : Mxu F} (ha : Acc Xq Wt Sc nb cnt m) (hc : cnt q i = 11) (hm : ∀ q r, m.reg q r = none) :
    iprop(Own c a16 fullShare Xs ∗ ∃ Y', ⌜Upd Xq Xs Wt Sc row lo hi D Y Y'⌝ ∗ Own c a17 fullShare Y')
      ⊢ W c (popProg a16 a17 h17 row lo hi hr nb i q m)
        (fun m' => iprop(⌜Acc Xq Wt Sc nb (upd cnt q i 0) m' ∧ ∀ q r, m'.reg q r = none⌝ ∗ Own c a16 fullShare Xs ∗
          ∃ Y', ⌜Upd Xq Xs Wt Sc row lo hi (fun ρ C => D ρ C ∨ (32 * i.val ≤ ρ ∧ ρ < 32 * i.val + 32 ∧
            256 * (jOf nb q).val ≤ C ∧ C < 256 * (jOf nb q).val + 256)) Y Y'⌝ ∗ Own c a17 fullShare Y')) := by
  unfold popProg
  rw [ha.read q i 10 (by decide) hc]
  iintro H
  rw [W_bind']
  iapply (W_wand c) $$ [H]
  · iapply (rows_wp c a16 a17 h17 hr hrow nb i q 0) $$ H
  iintro %_ H
  rw [W_bind']
  iapply (W_wand c) $$ [H]
  · iapply (rows_wp c a16 a17 h17 hr hrow nb i q 1) $$ H
  iintro %_ ⟨HS, %Y', %hY, H⟩
  iapply (W_ret c)
  isplitr
  · ipureintro
    exact ⟨ha.pop q i, hm⟩
  isplitl [HS]; · iexact HS
  iexists Y'; isplitr
  · ipureintro
    refine hY.mono fun ρ C _ _ h => ?_
    have h0 : (gOf i 0).val = 2 * i.val + 0 := rfl
    have h1 : (gOf i 1).val = 2 * i.val + 1 := rfl
    rcases h with h | h
    · exact .inl (.inl h)
    · by_cases hc : ρ < 32 * i.val + 16
      · exact .inl (.inr (by omega))
      · exact .inr (by omega)
  iexact H

variable (wv : Memref sig .tc .vmem S1408x2048 .i8) (sv : Memref sig .tc .vmem S22x2048 .f32) (a15 : Memref sig .tc .vmem S128x2816 .bf16)

/-- A block of 512 columns, computed and written. -/
theorem nb_wp {Y : Vec F S6144x2048 .bf16} (hr : RowOK row) (hrow : row.toNat ≤ 6016) (nb : Fin 4) (m : Mxu F) :
    iprop(⌜Dead m⌝ ∗ Reads c wv sv a15 Xq Wt Sc ∗ Own c a16 fullShare Xs ∗ ∃ Y', ⌜Upd Xq Xs Wt Sc row lo hi (fun ρ C => ρ < 128 ∧ C < 512 * nb.val) Y Y'⌝ ∗ Own c a17 fullShare Y')
      ⊢ W c (nbProg wv sv a15 a16 a17 h17 row lo hi hr nb m)
        (fun m' => iprop(⌜Dead m'⌝ ∗ Reads c wv sv a15 Xq Wt Sc ∗ Own c a16 fullShare Xs ∗ ∃ Y', ⌜Upd Xq Xs Wt Sc row lo hi (fun ρ C => ρ < 128 ∧ C < 512 * (nb.val + 1)) Y Y'⌝ ∗ Own c a17 fullShare Y')) := by
  unfold nbProg
  iintro ⟨%hm, HR, H⟩
  rw [W_bind']
  iapply (W_wand c) $$ [HR]
  · iapply (W_iter c (fun k m => kstep wv sv a15 nb k m)
      (fun n m => iprop(⌜Acc Xq Wt Sc nb (fun _ _ => n) m ∧ ∀ q r, m.reg q r = none⌝ ∗ Reads c wv sv a15 Xq Wt Sc)) ?_ m) $$ [HR]
    · intro k m
      iintro ⟨%h, H⟩
      iapply (kstep_wp c wv sv a15 Xq Wt Sc nb k m h.1 h.2) $$ H
    isplitr
    · ipureintro
      exact ⟨hm.acc Xq Wt Sc nb, hm.1⟩
    iexact HR
  iintro %m1 ⟨%h1, HR⟩
  iapply (W_wand c) $$ [H]
  · iapply (W_iter c (fun i m => (popProg a16 a17 h17 row lo hi hr nb i 0 m).bind fun m => popProg a16 a17 h17 row lo hi hr nb i 1 m)
      (fun n m => iprop(⌜Acc Xq Wt Sc nb (fun _ i => if i.val < n then 0 else 11) m ∧ ∀ q r, m.reg q r = none⌝ ∗ Own c a16 fullShare Xs ∗
        ∃ Y', ⌜Upd Xq Xs Wt Sc row lo hi (fun ρ C => (ρ < 128 ∧ C < 512 * nb.val) ∨ (ρ < 32 * n ∧ C < 512 * nb.val + 512)) Y Y'⌝ ∗ Own c a17 fullShare Y')) ?_ m1) $$ [H]
    · intro i m
      iintro ⟨%h, H⟩
      rw [W_bind]
      iapply (W_wand c) $$ [H]
      · iapply (pop_wp c a16 a17 h17 hr hrow nb i 0 h.1 (if_neg (Nat.lt_irrefl _)) h.2) $$ H
      iintro %m2 ⟨%h2, H⟩
      iapply (W_wand c) $$ [H]
      · iapply (pop_wp c a16 a17 h17 hr hrow nb i 1 h2.1 (by simp [upd]) h2.2) $$ H
      iintro %m3 ⟨%h3, HS, %Y', %hY, H⟩
      isplitr
      · ipureintro
        refine ⟨h3.1.congr fun q i' => ?_, h3.2⟩
        unfold upd
        by_cases hi : i' = i
        · subst hi
          fin_cases q <;> simp
        · have : i'.val ≠ i.val := fun e => hi (Fin.ext e)
          simp only [hi, and_false, if_false]
          by_cases hl : i'.val < i.val
          · rw [if_pos hl, if_pos (by omega)]
          · rw [if_neg hl, if_neg (by omega)]
      isplitl [HS]; · iexact HS
      iexists Y'; isplitr
      · ipureintro
        refine hY.mono fun ρ C _ _ h => ?_
        have hj0 : (jOf nb 0).val = 2 * nb.val + 0 := rfl
        have hj1 : (jOf nb 1).val = 2 * nb.val + 1 := rfl
        by_cases ha : (ρ < 128 ∧ C < 512 * nb.val) ∨ (ρ < 32 * i.val ∧ C < 512 * nb.val + 512)
        · exact .inl (.inl ha)
        · by_cases hc : C < 512 * nb.val + 256
          · exact .inl (.inr (by omega))
          · exact .inr (by omega)
      iexact H
    icases H with ⟨HS, %Y', %hY, H⟩
    isplitr
    · ipureintro
      exact ⟨h1.1.congr fun q i => (if_neg (Nat.not_lt_zero _)).symm, h1.2⟩
    isplitl [HS]; · iexact HS
    iexists Y'; isplitr
    · ipureintro
      exact hY.mono fun ρ C _ _ h => by omega
    iexact H
  iintro %m2 ⟨%h2, HS, %Y', %hY, H⟩
  isplitr
  · ipureintro
    exact h2.1.dead (fun q i => if_pos i.isLt) h2.2
  isplitl [HR]; · iexact HR
  isplitl [HS]; · iexact HS
  iexists Y'; isplitr
  · ipureintro
    exact hY.mono fun ρ C _ _ h => by omega
  iexact H

/-- The whole product, computed and written. -/
theorem prodAll_wp (Y : Vec F S6144x2048 .bf16) (hr : RowOK row) (hrow : row.toNat ≤ 6016) (m : Mxu F) (hm : Dead m) :
    iprop(Reads c wv sv a15 Xq Wt Sc ∗ Own c a16 fullShare Xs ∗ Own c a17 fullShare Y)
      ⊢ W c (prodAll wv sv a15 a16 a17 h17 row lo hi hr m)
        (fun m' => iprop(⌜Dead m'⌝ ∗ Reads c wv sv a15 Xq Wt Sc ∗ Own c a16 fullShare Xs ∗ Own c a17 fullShare (visitY Xq Xs Wt Sc row lo hi Y))) := by
  unfold prodAll
  iintro ⟨HR, HS, H⟩
  iapply (W_wand c) $$ [HR HS H]
  · iapply (W_iter c (fun nb m => nbProg wv sv a15 a16 a17 h17 row lo hi hr nb m)
      (fun n m => iprop(⌜Dead m⌝ ∗ Reads c wv sv a15 Xq Wt Sc ∗ Own c a16 fullShare Xs ∗ ∃ Y', ⌜Upd Xq Xs Wt Sc row lo hi (fun ρ C => ρ < 128 ∧ C < 512 * n) Y Y'⌝ ∗ Own c a17 fullShare Y')) ?_ m) $$ [HR HS H]
    · intro nb m
      exact nb_wp c a16 a17 h17 wv sv a15 hr hrow nb m
    isplitr; · ipureintro; exact hm
    isplitl [HR]; · iexact HR
    isplitl [HS]; · iexact HS
    iexists Y; isplitr
    · ipureintro
      exact fun i => ⟨fun h => absurd h.2 (by omega), fun _ => .inl rfl⟩
    iexact H
  iintro %m' ⟨%hm', HR, HS, %Y', %hY, H⟩
  obtain rfl : Y' = visitY Xq Xs Wt Sc row lo hi Y := by
    funext i
    have hi1 : (i 1).val < 2048 := (i 1).isLt
    by_cases h : row.toNat ≤ (i 0).val ∧ (i 0).val < row.toNat + 128
    · exact (hY i).1 ⟨by omega, by omega⟩
    · rcases hY.old i with h' | h'
      · rw [h']; unfold visitY; rw [dif_neg h]
      · exact h'
  isplitr; · ipureintro; exact hm'
  isplitl [HR]; · iexact HR
  isplitl [HS]; · iexact HS
  iexact H

end

end Cert.Model
-- ==== Proof.Head.lean ====
/-
  One visit of the kernel: the copies that it starts and waits for, the quantiser, and the product.
-/
module

public import proofs.«01_k».proof.Proof.Offs
public import proofs.«01_k».proof.Proof.RingState
public import proofs.«01_k».proof.Proof.Printed
public import proofs.«01_k».proof.Proof.Product
public import proofs.«01_k».proof.Proof.Quant

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

theorem slotW_congr {arg12 : Memref sig .tc .vmem S3x1408x2048 .i8} {d d' : Fin 3 → ℕ} (h : d = d') (hd : ∀ a, d a + S1x1408x2048.size a ≤ S3x1408x2048.size a)
    (hd' : ∀ a, d' a + S1x1408x2048.size a ≤ S3x1408x2048.size a) : slotW arg12 d hd = slotW arg12 d' hd' := by subst h; rfl
theorem slotS_congr {arg13 : Memref sig .tc .vmem S3x22x2048 .f32} {d d' : Fin 3 → ℕ} (h : d = d') (hd : ∀ a, d a + S1x22x2048.size a ≤ S3x22x2048.size a)
    (hd' : ∀ a, d' a + S1x22x2048.size a ≤ S3x22x2048.size a) : slotS arg13 d hd = slotS arg13 d' hd' := by subst h; rfl
theorem slotX_congr {arg14 : Memref sig .tc .vmem S2x128x2816 .bf16} {d d' : Fin 3 → ℕ} (h : d = d') (hd : ∀ a, d a + S1x128x2816.size a ≤ S2x128x2816.size a)
    (hd' : ∀ a, d' a + S1x128x2816.size a ≤ S2x128x2816.size a) : slotX arg14 d hd = slotX arg14 d' hd' := by subst h; rfl

open Classical in
/-- The expert of visit `v`. -/
def exV (gs : ℕ → ℕ) (v : ℕ) : Fin 64 := if h : ∃ e : Fin 64, ∃ j, j < wn gs e.val ∧ v = nV gs e.val + j then h.choose else 0

theorem exV_at {gs : ℕ → ℕ} {e j : ℕ} (he : e < 64) (hj : j < wn gs e) : (exV gs (nV gs e + j)).val = e := by
  have h : ∃ e' : Fin 64, ∃ j', j' < wn gs e'.val ∧ nV gs e + j = nV gs e'.val + j' := ⟨⟨e, he⟩, j, hj, rfl⟩
  unfold exV
  rw [dif_pos h]
  obtain ⟨j', h2, h3⟩ := h.choose_spec
  exact (visit_inj hj h2 h3.symm).1

/-- The result after visit `v`, from the result before it. -/
def stepY (gs : ℕ → ℕ) (XX : S6144x2816.Idx → Elt F .bf16) (XW : S64x1408x2048.Idx → Elt F .i8) (XS : S64x22x2048.Idx → Elt F .f32) (v : ℕ)
    (Y : S6144x2048.Idx → Elt F .bf16) : S6144x2048.Idx → Elt F .bf16 :=
  visitY (xqOf (Xof XX (rowB gs v))) (xsOf (Xof XX (rowB gs v))) (Wof XW (exV gs v)) (Sof XS (exV gs v)) (BitVec.ofNat 32 (16 * (rowB gs v).val))
    (BitVec.ofNat 32 (stO gs (exV gs v).val)) (BitVec.ofNat 32 (stO gs (exV gs v).val + gs (exV gs v).val)) Y

section
variable (arg0 : Memref sig .tc .smem S64 .i32) (harg0 : arg0.IsWhole) (arg1 : Memref sig .tc .hbm S6144x2816 .bf16) (harg1 : arg1.IsWhole) (arg2 : Memref sig .tc .hbm S64x1408x2048 .i8) (harg2 : arg2.IsWhole) (arg3 : Memref sig .tc .hbm S64x22x2048 .f32) (harg3 : arg3.IsWhole) (arg4 : Memref sig .tc .hbm S6144x2048 .bf16) (harg4 : arg4.IsWhole) (arg5 : Memref sig .tc .smem S128 .i32) (harg5 : arg5.IsWhole) (arg6 : Memref sig .tc .smem S128 .i32) (harg6 : arg6.IsWhole) (arg7 : Memref sig .tc .smem S128 .i32) (harg7 : arg7.IsWhole) (arg8 : Memref sig .tc .smem S128 .i32) (harg8 : arg8.IsWhole) (arg9 : Memref sig .tc .smem S128 .i32) (harg9 : arg9.IsWhole) (arg10 : Memref sig .tc .smem S128 .i32) (harg10 : arg10.IsWhole) (arg11 : Memref sig .tc .smem S64 .i32) (harg11 : arg11.IsWhole) (arg12 : Memref sig .tc .vmem S3x1408x2048 .i8) (harg12 : arg12.IsWhole) (arg13 : Memref sig .tc .vmem S3x22x2048 .f32) (harg13 : arg13.IsWhole) (arg14 : Memref sig .tc .vmem S2x128x2816 .bf16) (harg14 : arg14.IsWhole) (arg15 : Memref sig .tc .vmem S128x2816 .bf16) (harg15 : arg15.IsWhole) (arg16 : Memref sig .tc .vmem S128x128 .f32) (harg16 : arg16.IsWhole) (arg17 : Memref sig .tc .vmem S6144x2048 .bf16) (harg17 : arg17.IsWhole) (arg18 : DmaSems sig S3) (arg19 : DmaSems sig S3) (arg20 : DmaSems sig S2) (arg21 : DmaSems sig S_)
variable (c : Dev nD) {gs : ℕ → ℕ} {XX : S6144x2816.Idx → Elt F .bf16} {XW : S64x1408x2048.Idx → Elt F .i8} {XS : S64x22x2048.Idx → Elt F .f32}

set_option backward.isDefEq.respectTransparency.types false in
set_option maxHeartbeats 1000000 in
/-- The copies of a visit: the rows of the next visit are fetched; of a new expert the weights are waited for, and those of the expert after the next are fetched. -/
theorem head_wp (hS : stO gs 64 ≤ 6144) (e j : ℕ) (he : e < 64) (hj : j < wn gs e) (h7 : k0_chk7 (BitVec.ofNat 32 (nV gs 64)))
    (k : Fin (k0_t4_loop (BitVec.ofNat 32 (nV gs 64))).trips) (hk : k.val = nV gs e + j) (o : ℕ) (ho : o = nE gs e + if j = 0 then 0 else 1) :
    iprop(Tabs (F := F) c gs 64 0 arg5 arg6 arg7 arg8 arg9 arg10 ∗ TabX c gs 64 arg11 ∗ XSl arg1 arg14 arg20 XX c (sl2 (nV gs e + j)) (.flying (rowB gs (nV gs e + j))) ∗ XSl arg1 arg14 arg20 XX c (sl2 (nV gs e + j + 1)) .free ∗
        Ring3 arg2 arg3 arg12 arg13 arg18 arg19 XW XS c (stW gs (nE gs 64) o) ∗ Owe c)
      ⊢ W c (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 (BitVec.ofNat 32 (nV gs 64)) (BitVec.ofNat 32 (nE gs 64)) h7 0#32 1#32 k)
        (fun r => iprop(⌜r.2.1 = BitVec.ofNat 32 (sl3 (nE gs e)).val⌝ ∗ Tabs c gs 64 0 arg5 arg6 arg7 arg8 arg9 arg10 ∗ TabX c gs 64 arg11 ∗ XSl arg1 arg14 arg20 XX c (sl2 (nV gs e + j)) (.flying (rowB gs (nV gs e + j))) ∗
          XSl arg1 arg14 arg20 XX c (sl2 (nV gs e + j + 1)) (stX gs (nV gs e + j + 1)) ∗ Ring3 arg2 arg3 arg12 arg13 arg18 arg19 XW XS c (stW gs (nE gs 64) (nE gs e + 1)) ∗ Owe c)) := by
  have h1 : ∀ a, S1.size a = 1 := fun a => by fin_cases a; rfl
  have hn : nV gs 64 ≤ 128 := (nV_le hS le_rfl).trans (by decide)
  have hne : nE gs 64 ≤ 64 := nE_le 64
  have hg : 0 < gs e := wn_pos.1 (by omega)
  have hoe : nE gs e < nE gs 64 := nE_lt he hg
  have hex : exO gs (nE gs e) = ⟨e, he⟩ := Fin.ext (exO_nE he hg)
  unfold k0_part2
  iintro ⟨HT, HX, HA, HB, HR, HO⟩
  ihave HT := (show Tabs c gs 64 0 arg5 arg6 arg7 arg8 arg9 arg10 ⊢ iprop(∃ T5 T6 T7 T8 T9 T10, ⌜TabV gs 64 0 T5 T6 T7 T8 T9 T10⌝ ∗ Own c arg5 fullShare T5 ∗ Own c arg6 fullShare T6 ∗ Own c arg7 fullShare T7 ∗
    Own c arg8 fullShare T8 ∗ Own c arg9 fullShare T9 ∗ Own c arg10 fullShare T10) from .rfl) $$ HT
  icases HT with ⟨%T5, %T6, %T7, %T8, %T9, %T10, %hT, H5, H6, H7, H8, H9, H10⟩
  ihave HX := (show TabX c gs 64 arg11 ⊢ iprop(∃ T, ⌜TabE gs 64 T⌝ ∗ Own c arg11 fullShare T) from .rfl) $$ HX
  icases HX with ⟨%T11, %hE, HX⟩
  have hW := hT e j hj (.inl he)
  obtain ⟨f, hf⟩ : ∃ f, f = if j = 0 then nE gs e + 1 else 0 := ⟨_, rfl⟩
  by_cases hv : nV gs e + j + 1 < nV gs 64
  case' pos =>
    rw [dif_pos ((cond4_iff hn k).2 (by omega))]
    obtain ⟨e', j', he', hj', hv'⟩ := visit_exists hv
    iapply (wordAt c (e := .i32) (X := T6) h1 (w := BitVec.ofNat 32 (16 * (rowB gs (nV gs e + j + 1)).val)) (by
      rw [off18_eq hn k, hk, hv', ← rowB_at he' hj']; exact (hT e' j' hj' (.inl he')).2.1)) $$ H6
    iintro H6
    iapply (asm c (chk8_at _ k _))
    iapply (fetchX c (sl2 (nV gs e + j + 1)) (rowB gs (nV gs e + j + 1)) (vec2 (by have := (rowB gs (nV gs e + j + 1)).isLt; omega))
      ((off20_eq hn k).trans (by rw [hk]; rfl)) ((off19_eq hn k).trans (by rw [hk]; rfl))) $$ HB
    iintro HB
    ihave HB := (show XSl arg1 arg14 arg20 XX c (sl2 (nV gs e + j + 1)) (.flying (rowB gs (nV gs e + j + 1))) ⊢ XSl arg1 arg14 arg20 XX c (sl2 (nV gs e + j + 1)) (stX gs (nV gs e + j + 1)) from by
      rw [stX, if_pos hv]) $$ HB
  case' neg =>
    rw [dif_neg (fun h => hv (by have := (cond4_iff hn k).1 h; omega))]
    ihave HB := (show XSl arg1 arg14 arg20 XX c (sl2 (nV gs e + j + 1)) .free ⊢ XSl arg1 arg14 arg20 XX c (sl2 (nV gs e + j + 1)) (stX gs (nV gs e + j + 1)) from by
      rw [stX, if_neg hv]) $$ HB
  all_goals
    -- the slot and the mark of a new expert
    iapply (wordAt c (e := .i32) (X := T9) h1 (w := BitVec.ofNat 32 (sl3 (nE gs e)).val) (by rw [off22_eq hn k, hk]; exact hW.2.2.2.2.1)) $$ H9
    iintro H9
    iapply (asm c (chk14_ok _))
    iapply (wordAt c (e := .i32) (X := T10) h1 (w := BitVec.ofNat 32 f) (by rw [off22_eq hn k, hk, hf]; exact hW.2.2.2.2.2)) $$ H10
    iintro H10
    iapply (asm c (chk9_at hn k hne (by rw [hf]; split <;> omega) _))
    by_cases hj0 : j = 0
    case' neg =>
      obtain rfl : f = 0 := by rw [hf, if_neg hj0]
      obtain rfl : o = nE gs e + 1 := by rw [ho, if_neg hj0]
      rw [dif_neg (fun h => absurd ((cond5_iff (n := 0) (by decide)).1 h) (by decide))]
    case' pos =>
      obtain rfl : f = nE gs e + 1 := by rw [hf, if_pos hj0]
      obtain rfl : o = nE gs e := by rw [ho, if_pos hj0, Nat.add_zero]
      rw [dif_pos ((cond5_iff (n := nE gs e + 1) (by omega)).2 (by omega))]
      iapply (wordAt c (e := .i32) (X := T5) h1 (w := BitVec.ofNat 32 (exO gs (nE gs e)).val) (by rw [off23_eq hn k, hk, exO_nE he hg]; exact hW.1)) $$ H5
      iintro H5
      iapply (asm c (chk10_at _ _))
      ihave HR := (Ring3_take arg2 arg3 arg12 arg13 arg18 arg19 XW XS c _ (sl3 (nE gs e))) $$ HR
      icases HR with ⟨HS, HR⟩
      rw [stW_at, if_pos hoe]
      ihave HS := (show BSl arg2 arg3 arg12 arg13 arg18 arg19 XW XS c (sl3 (nE gs e)) (.flying (exO gs (nE gs e))) ⊢ iprop(WSl arg2 arg12 arg18 XW c (sl3 (nE gs e)) (.flying (exO gs (nE gs e))) ∗ SSl arg3 arg13 arg19 XS c (sl3 (nE gs e)) (.flying (exO gs (nE gs e)))) from .rfl) $$ HS
      icases HS with ⟨HW, HS⟩
      iapply (awaitW c (sl3 (nE gs e)) _ (vec3 (by have := (sl3 (nE gs e)).isLt; omega)) (vec1 (by have := (sl3 (nE gs e)).isLt; omega))) $$ [HW HO]
      · isplitl [HW]; · iexact HW
        iexact HO
      iintro ⟨HW, HO⟩
      iapply (awaitS c (sl3 (nE gs e)) _ (vec3 (by have := (sl3 (nE gs e)).isLt; omega)) (vec1 (by have := (sl3 (nE gs e)).isLt; omega))) $$ [HS HO]
      · isplitl [HS]; · iexact HS
        iexact HO
      iintro ⟨HS, HO⟩
      ihave HR := HR $$ %(.held (exO gs (nE gs e))) [HW HS]
      · unfold BSl
        isplitl [HW]; · iexact HW
        iexact HS
      ihave HR := (Ring3_take arg2 arg3 arg12 arg13 arg18 arg19 XW XS c _ (sl3 (nE gs e + 2))) $$ HR
      rw [stW_prev]
      icases HR with ⟨HS, HR⟩
      ihave HS := (BSl_drop arg2 arg3 arg12 arg13 arg18 arg19 XW XS c (sl3 (nE gs e + 2)) gs (nE gs e)) $$ HS
      by_cases h6 : nE gs e + 2 < nE gs 64
      case' pos =>
        rw [dif_pos ((cond6_iff (n := nE gs 64) (o := nE gs e) (by omega) (by omega)).2 h6)]
        iapply (wordAt c (e := .i32) (X := T11) h1 (w := BitVec.ofNat 32 (exO gs (nE gs e + 2)).val) (by
          rw [off30_eq (by omega)]
          have := hE (exO gs (nE gs e + 2)).val (exO gs (nE gs e + 2)).isLt (exO_spec h6).1
          rw [(exO_spec h6).2] at this; exact this)) $$ HX
        iintro HX
        iapply (asm c (chk11_at _ _ _))
        ihave HS := (show BSl arg2 arg3 arg12 arg13 arg18 arg19 XW XS c (sl3 (nE gs e + 2)) .free ⊢ iprop(WSl arg2 arg12 arg18 XW c (sl3 (nE gs e + 2)) .free ∗ SSl arg3 arg13 arg19 XS c (sl3 (nE gs e + 2)) .free) from .rfl) $$ HS
        icases HS with ⟨HW, HS⟩
        iapply (fetchW c (sl3 (nE gs e + 2)) (exO gs (nE gs e + 2)) (vec3 (by have := (exO gs (nE gs e + 2)).isLt; omega)) (off32_eq (by omega)) (off31_eq (by omega))) $$ HW
        iintro HW
        iapply (fetchS c (sl3 (nE gs e + 2)) (exO gs (nE gs e + 2)) (vec3 (by have := (exO gs (nE gs e + 2)).isLt; omega)) (off35_eq (by omega)) (off34_eq (by omega))) $$ HS
        iintro HS
        ihave HR := HR $$ %(if nE gs e + 2 < nE gs 64 then .flying (exO gs (nE gs e + 2)) else .free) [HW HS]
        · rw [if_pos h6]
          unfold BSl
          isplitl [HW]; · iexact HW
          iexact HS
        rw [stW_next]
      case' neg =>
        rw [dif_neg (fun h => h6 ((cond6_iff (n := nE gs 64) (o := nE gs e) (by omega) (by omega)).1 h))]
        ihave HR := HR $$ %(if nE gs e + 2 < nE gs 64 then .flying (exO gs (nE gs e + 2)) else .free) [HS]
        · rw [if_neg h6]
          iexact HS
        rw [stW_next]
  all_goals
    -- the row of the visit, and the end
    iapply (wordAt c (e := .i32) (X := T6) h1 (w := BitVec.ofNat 32 (16 * (rowB gs (nV gs e + j)).val)) (by rw [off37_eq hn k, hk, ← rowB_at he hj]; exact hW.2.1)) $$ H6
    iintro H6
    iapply (asm c (chk12_ok _))
    iapply (W_ret c)
    isplitr
    · ipureintro; rfl
    isplitl [H5 H6 H7 H8 H9 H10]
    · unfold Tabs
      iexists T5, T6, T7, T8, T9, T10
      isplitr; · ipureintro; exact hT
      isplitl [H5]; · iexact H5
      isplitl [H6]; · iexact H6
      isplitl [H7]; · iexact H7
      isplitl [H8]; · iexact H8
      isplitl [H9]; · iexact H9
      iexact H10
    isplitl [HX]
    · unfold TabX
      iexists T11
      isplitr; · ipureintro; exact hE
      iexact HX
    isplitl [HA]; · iexact HA
    isplitl [HB]; · iexact HB
    isplitl [HR]; · iexact HR
    iexact HO
end

end Cert.Model
-- ==== Proof.Visit.lean ====
/-
  One visit of the kernel, whole.
-/
module

public import proofs.«01_k».proof.Proof.Head
public import proofs.«01_k».proof.Proof.RingState
public import proofs.«01_k».proof.Proof.Printed
public import proofs.«01_k».proof.Proof.Product
public import proofs.«01_k».proof.Proof.Quant

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

section
variable (arg0 : Memref sig .tc .smem S64 .i32) (harg0 : arg0.IsWhole) (arg1 : Memref sig .tc .hbm S6144x2816 .bf16) (harg1 : arg1.IsWhole) (arg2 : Memref sig .tc .hbm S64x1408x2048 .i8) (harg2 : arg2.IsWhole) (arg3 : Memref sig .tc .hbm S64x22x2048 .f32) (harg3 : arg3.IsWhole) (arg4 : Memref sig .tc .hbm S6144x2048 .bf16) (harg4 : arg4.IsWhole) (arg5 : Memref sig .tc .smem S128 .i32) (harg5 : arg5.IsWhole) (arg6 : Memref sig .tc .smem S128 .i32) (harg6 : arg6.IsWhole) (arg7 : Memref sig .tc .smem S128 .i32) (harg7 : arg7.IsWhole) (arg8 : Memref sig .tc .smem S128 .i32) (harg8 : arg8.IsWhole) (arg9 : Memref sig .tc .smem S128 .i32) (harg9 : arg9.IsWhole) (arg10 : Memref sig .tc .smem S128 .i32) (harg10 : arg10.IsWhole) (arg11 : Memref sig .tc .smem S64 .i32) (harg11 : arg11.IsWhole) (arg12 : Memref sig .tc .vmem S3x1408x2048 .i8) (harg12 : arg12.IsWhole) (arg13 : Memref sig .tc .vmem S3x22x2048 .f32) (harg13 : arg13.IsWhole) (arg14 : Memref sig .tc .vmem S2x128x2816 .bf16) (harg14 : arg14.IsWhole) (arg15 : Memref sig .tc .vmem S128x2816 .bf16) (harg15 : arg15.IsWhole) (arg16 : Memref sig .tc .vmem S128x128 .f32) (harg16 : arg16.IsWhole) (arg17 : Memref sig .tc .vmem S6144x2048 .bf16) (harg17 : arg17.IsWhole) (arg18 : DmaSems sig S3) (arg19 : DmaSems sig S3) (arg20 : DmaSems sig S2) (arg21 : DmaSems sig S_)
variable (c : Dev nD) {gs : ℕ → ℕ} {XX : S6144x2816.Idx → Elt F .bf16} {XW : S64x1408x2048.Idx → Elt F .i8} {XS : S64x22x2048.Idx → Elt F .f32}

theorem stW_held (gs : ℕ → ℕ) (ne o : ℕ) : stW gs ne (o + 1) (sl3 o) = .held (exO gs o) :=
  (if_neg (show ¬ o % 3 = (o + 1) % 3 by omega)).trans ((if_neg (show ¬ o % 3 = (o + 1 + 1) % 3 by omega)).trans (if_pos (Nat.succ_pos o)))

theorem update_self' (f : Fin 3 → Slot (Fin 64)) (j : Fin 3) (s : Slot (Fin 64)) (h : f j = s) : Function.update f j s = f := by subst h; exact Function.update_eq_self j f

set_option backward.isDefEq.respectTransparency.types false in
set_option maxHeartbeats 1000000 in
/-- A visit. -/
theorem visit_wp (hS : stO gs 64 ≤ 6144) (e j : ℕ) (he : e < 64) (hj : j < wn gs e) (h7 : k0_chk7 (BitVec.ofNat 32 (nV gs 64)))
    (k : Fin (k0_t4_loop (BitVec.ofNat 32 (nV gs 64))).trips) (hk : k.val = nV gs e + j) (o : ℕ) (ho : o = nE gs e + if j = 0 then 0 else 1) (m : Mxu F) (hm : Dead m)
    (Y : S6144x2048.Idx → Elt F .bf16) :
    iprop(Tabs (F := F) c gs 64 0 arg5 arg6 arg7 arg8 arg9 arg10 ∗ TabX c gs 64 arg11 ∗ XSl arg1 arg14 arg20 XX c (sl2 (nV gs e + j)) (.flying (rowB gs (nV gs e + j))) ∗ XSl arg1 arg14 arg20 XX c (sl2 (nV gs e + j + 1)) .free ∗
        Ring3 arg2 arg3 arg12 arg13 arg18 arg19 XW XS c (stW gs (nE gs 64) o) ∗ Owe c ∗ (∃ Y, Own c arg15 fullShare Y) ∗ (∃ Y, Own c arg16 fullShare Y) ∗ Own c arg17 fullShare Y)
      ⊢ W c (visit arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 (BitVec.ofNat 32 (nV gs 64)) (BitVec.ofNat 32 (nE gs 64)) h7 k m)
        (fun r => iprop(⌜Dead r.2⌝ ∗ Tabs c gs 64 0 arg5 arg6 arg7 arg8 arg9 arg10 ∗ TabX c gs 64 arg11 ∗ XSl arg1 arg14 arg20 XX c (sl2 (nV gs e + j)) .free ∗
          XSl arg1 arg14 arg20 XX c (sl2 (nV gs e + j + 1)) (stX gs (nV gs e + j + 1)) ∗ Ring3 arg2 arg3 arg12 arg13 arg18 arg19 XW XS c (stW gs (nE gs 64) (nE gs e + 1)) ∗ Owe c ∗
          (∃ Y, Own c arg15 fullShare Y) ∗ (∃ Y, Own c arg16 fullShare Y) ∗ Own c arg17 fullShare (stepY gs XX XW XS (nV gs e + j) Y))) := by
  have h1 : ∀ a, S1.size a = 1 := fun a => by fin_cases a; rfl
  have hn : nV gs 64 ≤ 128 := (nV_le hS le_rfl).trans (by decide)
  have hg : 0 < gs e := wn_pos.1 (by omega)
  have hxv : exV gs (nV gs e + j) = exO gs (nE gs e) := Fin.ext ((exV_at he hj).trans (exO_nE he hg).symm)
  have hxr : slotX arg14 (k0_off39 (BitVec.ofNat 32 (nV gs 64)) k) (k0_off39_inb _ h7 k) = slotX arg14 ![(sl2 (nV gs e + j)).val, 0, 0] (inX _) :=
    slotX_congr ((off39_eq hn k).trans (by rw [hk]; rfl)) _ _
  unfold visit
  iintro ⟨HT, HX, HA, HB, HR, HO, H15, H16, H17⟩
  iapply (W_seq c _) $$ [HT HX HA HB HR HO]
  · iapply (head_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 c hS e j he hj h7 k hk o ho (XX := XX) (XW := XW) (XS := XS))
    isplitl [HT]; · iexact HT
    isplitl [HX]; · iexact HX
    isplitl [HA]; · iexact HA
    isplitl [HB]; · iexact HB
    isplitl [HR]; · iexact HR
    iexact HO
  iintro %r ⟨%hr, HT, HX, HA, HB, HR, HO⟩
  obtain ⟨a22, v27, h14, v34, h12⟩ := r
  have hr : v27 = BitVec.ofNat 32 (sl3 (nE gs e)).val := hr
  subst hr
  iapply (awaitX c (sl2 (nV gs e + j)) (rowB gs (nV gs e + j)) ((off39_eq hn k).trans (by rw [hk]; rfl)) ((off38_eq hn k).trans (by rw [hk]; rfl))) $$ [HA HO]
  · isplitl [HA]; · iexact HA
    iexact HO
  iintro ⟨HA, HO⟩
  ihave HA := (show XSl arg1 arg14 arg20 XX c (sl2 (nV gs e + j)) (.held (rowB gs (nV gs e + j))) ⊢ iprop(Own c (slotX arg14 ![(sl2 (nV gs e + j)).val, 0, 0] (inX _)) fullShare (Xof XX (rowB gs (nV gs e + j))) ∗ Sv c (sem2 arg20 ![(sl2 (nV gs e + j)).val] (in2 _)) ∗ Own c arg1 (shr2 (sl2 (nV gs e + j))) XX) from .rfl) $$ HA
  icases HA with ⟨HA, HA2⟩
  iapply (W_seq c _) $$ [HA H15 H16]
  · iapply (quantAll_wp c (slotX arg14 (k0_off39 (BitVec.ofNat 32 (nV gs 64)) k) (k0_off39_inb _ h7 k)) arg15 harg15 arg16 fullShare (Xof XX (rowB gs (nV gs e + j))))
    isplitl [HA]
    · rw [hxr]
      iexact HA
    isplitl [H15]; · iexact H15
    iexact H16
  iintro %u ⟨HA, H15, H16⟩
  ihave HT := (show Tabs c gs 64 0 arg5 arg6 arg7 arg8 arg9 arg10 ⊢ iprop(∃ T5 T6 T7 T8 T9 T10, ⌜TabV gs 64 0 T5 T6 T7 T8 T9 T10⌝ ∗ Own c arg5 fullShare T5 ∗ Own c arg6 fullShare T6 ∗ Own c arg7 fullShare T7 ∗
    Own c arg8 fullShare T8 ∗ Own c arg9 fullShare T9 ∗ Own c arg10 fullShare T10) from .rfl) $$ HT
  icases HT with ⟨%T5, %T6, %T7, %T8, %T9, %T10, %hT, H5, H6, H7, H8, H9, H10⟩
  have hW := hT e j hj (.inl he)
  iapply (wordAt c (e := .i32) (X := T6) h1 (w := BitVec.ofNat 32 (16 * (rowB gs (nV gs e + j)).val)) (by rw [off41_eq hn k, hk, ← rowB_at he hj]; exact hW.2.1)) $$ H6
  iintro H6
  iapply (asm c (chk13_ok _))
  iapply (wordAt c (e := .i32) (X := T7) h1 (w := BitVec.ofNat 32 (stO gs e)) (by rw [off42_eq hn k, hk]; exact hW.2.2.1)) $$ H7
  iintro H7
  iapply (wordAt c (e := .i32) (X := T8) h1 (w := BitVec.ofNat 32 (stO gs e + gs e)) (by rw [off42_eq hn k, hk]; exact hW.2.2.2.1)) $$ H8
  iintro H8
  ihave HR := (Ring3_take arg2 arg3 arg12 arg13 arg18 arg19 XW XS c _ (sl3 (nE gs e))) $$ HR
  rw [stW_held]
  icases HR with ⟨HS, HR⟩
  ihave HS := (show BSl arg2 arg3 arg12 arg13 arg18 arg19 XW XS c (sl3 (nE gs e)) (.held (exO gs (nE gs e))) ⊢ iprop((Own c (slotW arg12 ![(sl3 (nE gs e)).val, 0, 0] (inW _)) fullShare (Wof XW (exO gs (nE gs e))) ∗ Sv c (sem3 arg18 ![(sl3 (nE gs e)).val] (in3 _)) ∗ Own c arg2 (shr3 (sl3 (nE gs e))) XW) ∗
    (Own c (slotS arg13 ![(sl3 (nE gs e)).val, 0, 0] (inS _)) fullShare (Sof XS (exO gs (nE gs e))) ∗ Sv c (sem3 arg19 ![(sl3 (nE gs e)).val] (in3 _)) ∗ Own c arg3 (shr3 (sl3 (nE gs e))) XS)) from .rfl) $$ HS
  icases HS with ⟨⟨HW, HW2⟩, HS, HS2⟩
  have hwv : wvOf arg12 (BitVec.ofNat 32 (sl3 (nE gs e)).val) h14 = slotW arg12 ![(sl3 (nE gs e)).val, 0, 0] (inW _) :=
    slotW_congr (vec3 (by have := (sl3 (nE gs e)).isLt; omega)) _ _
  have hsv : svOf arg13 (BitVec.ofNat 32 (sl3 (nE gs e)).val) h14 = slotS arg13 ![(sl3 (nE gs e)).val, 0, 0] (inS _) :=
    slotS_congr (vec3 (by have := (sl3 (nE gs e)).isLt; omega)) _ _
  have hrow : (BitVec.ofNat 32 (16 * (rowB gs (nV gs e + j)).val)).toNat ≤ 6016 := by
    have := (rowB gs (nV gs e + j)).isLt
    rw [toNat_small (by omega)]; omega
  iapply (W_seq c _) $$ [H15 H16 H17 HW HS]
  · iapply (prodAll_wp c arg16 arg17 harg17 (wvOf arg12 (BitVec.ofNat 32 (sl3 (nE gs e)).val) h14) (svOf arg13 (BitVec.ofNat 32 (sl3 (nE gs e)).val) h14) arg15 Y _ hrow m hm
      (Xq := xqOf (Xof XX (rowB gs (nV gs e + j)))) (Xs := xsOf (Xof XX (rowB gs (nV gs e + j)))) (Wt := Wof XW (exO gs (nE gs e))) (Sc := Sof XS (exO gs (nE gs e))))
    isplitl [H15 HW HS]
    · unfold Reads
      rw [hwv, hsv]
      isplitl [HW]; · iexact HW
      isplitl [HS]; · iexact HS
      iexact H15
    isplitl [H16]; · iexact H16
    iexact H17
  iintro %m' ⟨%hm', HRd, H16, H17⟩
  ihave HRd := (show Reads c (wvOf arg12 (BitVec.ofNat 32 (sl3 (nE gs e)).val) h14) (svOf arg13 (BitVec.ofNat 32 (sl3 (nE gs e)).val) h14) arg15 (xqOf (Xof XX (rowB gs (nV gs e + j)))) (Wof XW (exO gs (nE gs e))) (Sof XS (exO gs (nE gs e)))
    ⊢ iprop(Own c (slotW arg12 ![(sl3 (nE gs e)).val, 0, 0] (inW _)) fullShare (Wof XW (exO gs (nE gs e))) ∗ Own c (slotS arg13 ![(sl3 (nE gs e)).val, 0, 0] (inS _)) fullShare (Sof XS (exO gs (nE gs e))) ∗ Own c arg15 fullShare (xqOf (Xof XX (rowB gs (nV gs e + j))))) from by
      unfold Reads; rw [hwv, hsv]) $$ HRd
  icases HRd with ⟨HW, HS, H15⟩
  ihave HR := HR $$ %(.held (exO gs (nE gs e))) [HW HS HW2 HS2]
  · unfold BSl WSl SSl
    isplitl [HW HW2]
    · isplitl [HW]; · iexact HW
      iexact HW2
    · isplitl [HS]; · iexact HS
      iexact HS2
  rw [update_self' _ _ _ (stW_held _ _ _)]
  iapply (W_ret c)
  isplitr; · ipureintro; exact hm'
  isplitl [H5 H6 H7 H8 H9 H10]
  · unfold Tabs
    iexists T5, T6, T7, T8, T9, T10
    isplitr; · ipureintro; exact hT
    isplitl [H5]; · iexact H5
    isplitl [H6]; · iexact H6
    isplitl [H7]; · iexact H7
    isplitl [H8]; · iexact H8
    isplitl [H9]; · iexact H9
    iexact H10
  isplitl [HX]; · iexact HX
  isplitl [HA HA2]
  · iapply (XSl_drop arg1 arg14 arg20 XX c _ (rowB gs (nV gs e + j)))
    unfold XSl
    isplitl [HA]
    · rw [← hxr]
      iexact HA
    iexact HA2
  isplitl [HB]; · iexact HB
  isplitl [HR]; · iexact HR
  isplitl [HO]; · iexact HO
  isplitl [H15]; · iexists _; iexact H15
  isplitl [H16]; · iexists _; iexact H16
  unfold stepY
  rw [hxv, exO_nE he hg]
  iexact H17
end

end Cert.Model
-- ==== Proof.Trips.lean ====
/-
  The side conditions that the visits' loop asserts of its trip count hold for every count up to 128.
-/
module

public import proofs.«01_k».proof.Kernel

public section

namespace Cert.Model

open Idealize.ShloMosaic Cert.Kernel

/-- Every place that a visit touches in a table or in a ring, by its number, lies inside. -/
theorem chk7_ok : ∀ nv : Fin 129, k0_chk7 (BitVec.ofNat 32 nv.val) := by decide +kernel

end Cert.Model
-- ==== Proof.Body.lean ====
/-
  The kernel's whole body: the tables, the first copies, the visits, the copy of the result.
-/
module

public import proofs.«01_k».proof.Proof.Visit
public import proofs.«01_k».proof.Proof.Trips
public import proofs.«01_k».proof.Proof.RowChecks

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

/-- The result's buffer after `v` visits. -/
def accY (gs : ℕ → ℕ) (XX : S6144x2816.Idx → Elt F .bf16) (XW : S64x1408x2048.Idx → Elt F .i8) (XS : S64x22x2048.Idx → Elt F .f32)
    (Y : S6144x2048.Idx → Elt F .bf16) : ℕ → S6144x2048.Idx → Elt F .bf16
  | 0 => Y
  | v + 1 => stepY gs XX XW XS v (accY gs XX XW XS Y v)

section
variable (arg0 : Memref sig .tc .smem S64 .i32) (harg0 : arg0.IsWhole) (arg1 : Memref sig .tc .hbm S6144x2816 .bf16) (harg1 : arg1.IsWhole) (arg2 : Memref sig .tc .hbm S64x1408x2048 .i8) (harg2 : arg2.IsWhole) (arg3 : Memref sig .tc .hbm S64x22x2048 .f32) (harg3 : arg3.IsWhole) (arg4 : Memref sig .tc .hbm S6144x2048 .bf16) (harg4 : arg4.IsWhole) (arg5 : Memref sig .tc .smem S128 .i32) (harg5 : arg5.IsWhole) (arg6 : Memref sig .tc .smem S128 .i32) (harg6 : arg6.IsWhole) (arg7 : Memref sig .tc .smem S128 .i32) (harg7 : arg7.IsWhole) (arg8 : Memref sig .tc .smem S128 .i32) (harg8 : arg8.IsWhole) (arg9 : Memref sig .tc .smem S128 .i32) (harg9 : arg9.IsWhole) (arg10 : Memref sig .tc .smem S128 .i32) (harg10 : arg10.IsWhole) (arg11 : Memref sig .tc .smem S64 .i32) (harg11 : arg11.IsWhole) (arg12 : Memref sig .tc .vmem S3x1408x2048 .i8) (harg12 : arg12.IsWhole) (arg13 : Memref sig .tc .vmem S3x22x2048 .f32) (harg13 : arg13.IsWhole) (arg14 : Memref sig .tc .vmem S2x128x2816 .bf16) (harg14 : arg14.IsWhole) (arg15 : Memref sig .tc .vmem S128x2816 .bf16) (harg15 : arg15.IsWhole) (arg16 : Memref sig .tc .vmem S128x128 .f32) (harg16 : arg16.IsWhole) (arg17 : Memref sig .tc .vmem S6144x2048 .bf16) (harg17 : arg17.IsWhole) (arg18 : DmaSems sig S3) (arg19 : DmaSems sig S3) (arg20 : DmaSems sig S2) (arg21 : DmaSems sig S_)
variable (c : Dev nD) {gs : ℕ → ℕ} {XX : S6144x2816.Idx → Elt F .bf16} {XW : S64x1408x2048.Idx → Elt F .i8} {XS : S64x22x2048.Idx → Elt F .f32}

theorem pos_of_sum {n : ℕ} (h : 0 < stO gs n) : ∃ e, e < n ∧ 0 < gs e := by
  induction n with
  | zero => simp [stO] at h
  | succ n ih =>
    by_cases hg : 0 < gs n
    · exact ⟨n, Nat.lt_succ_self n, hg⟩
    · obtain ⟨e, he, hg'⟩ := ih (by simp only [stO] at h; omega)
      exact ⟨e, by omega, hg'⟩

theorem nV_pos {e : ℕ} (he : e < 64) (hg : 0 < gs e) : 0 < nV gs 64 := by
  have h1 : 0 < wn gs e := wn_pos.2 hg
  have h2 := nV_mono (gs := gs) (show e + 1 ≤ 64 from he)
  simp only [nV] at h2 ⊢
  exact Nat.lt_of_lt_of_le (by omega) h2

/-- What the core holds between two visits: the tables, the two slots of the rows, the three of the weights, the work buffers. -/
def Between (gs : ℕ → ℕ) (XX : S6144x2816.Idx → Elt F .bf16) (XW : S64x1408x2048.Idx → Elt F .i8) (XS : S64x22x2048.Idx → Elt F .f32)
    (Y : S6144x2048.Idx → Elt F .bf16) (v : ℕ) (r : BitVec 32 × Mxu F) : sProp (MM F) :=
  iprop(∃ o, ⌜Begun gs v o ∧ Dead r.2⌝ ∗ Tabs c gs 64 0 arg5 arg6 arg7 arg8 arg9 arg10 ∗ TabX c gs 64 arg11 ∗ XSl arg1 arg14 arg20 XX c (sl2 v) (stX gs v) ∗ XSl arg1 arg14 arg20 XX c (sl2 (v + 1)) .free ∗
    Ring3 arg2 arg3 arg12 arg13 arg18 arg19 XW XS c (stW gs (nE gs 64) o) ∗ Owe c ∗ (∃ Y, Own c arg15 fullShare Y) ∗ (∃ Y, Own c arg16 fullShare Y) ∗ Own c arg17 fullShare (accY gs XX XW XS Y v))

set_option maxHeartbeats 1000000 in
/-- One trip of the printed loop. -/
theorem trip_wp (hS : stO gs 64 ≤ 6144) (h7 : k0_chk7 (BitVec.ofNat 32 (nV gs 64))) (Y : S6144x2048.Idx → Elt F .bf16)
    (k : Fin (k0_t4_loop (BitVec.ofNat 32 (nV gs 64))).trips) (a : BitVec 32) (m : Mxu F) :
    Between arg1 arg2 arg3 arg5 arg6 arg7 arg8 arg9 arg10 arg11 arg12 arg13 arg14 arg15 arg16 arg17 arg18 arg19 arg20 c gs XX XW XS Y k.val (a, m)
      ⊢ W c (printedVisit arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 (BitVec.ofNat 32 (nV gs 64)) (BitVec.ofNat 32 (nE gs 64)) h7 k m)
        (Between arg1 arg2 arg3 arg5 arg6 arg7 arg8 arg9 arg10 arg11 arg12 arg13 arg14 arg15 arg16 arg17 arg18 arg19 arg20 c gs XX XW XS Y (k.val + 1)) := by
  rw [visit_eq]
  have hn : nV gs 64 ≤ 128 := (nV_le hS le_rfl).trans (by decide)
  have hk : k.val < nV gs 64 := lt_of_lt_of_eq k.isLt (trips4 hn)
  obtain ⟨e, j, he, hj, hv⟩ := visit_exists hk
  unfold Between
  iintro ⟨%o, %ho, HT, HX, HA, HB, HR, HO, H15, H16, H17⟩
  rw [stX, if_pos hk, hv]
  iapply (W_mono c ?_)
  rotate_left
  · iapply (visit_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 c hS e j he hj h7 k hv o (begun_at ho.1 he hj hv) m ho.2 (accY gs XX XW XS Y (nV gs e + j)))
    isplitl [HT]; · iexact HT
    isplitl [HX]; · iexact HX
    isplitl [HA]; · iexact HA
    isplitl [HB]; · iexact HB
    isplitl [HR]; · iexact HR
    isplitl [HO]; · iexact HO
    isplitl [H15]; · iexact H15
    isplitl [H16]; · iexact H16
    iexact H17
  intro r
  iintro ⟨%hd, HT, HX, HA, HB, HR, HO, H15, H16, H17⟩
  iexists (nE gs e + 1)
  isplitr; · ipureintro; exact ⟨begun_succ he hj, hd⟩
  isplitl [HT]; · iexact HT
  isplitl [HX]; · iexact HX
  isplitl [HB]; · iexact HB
  isplitl [HA]; · rw [sl2_next]; iexact HA
  isplitl [HR]; · iexact HR
  isplitl [HO]; · iexact HO
  isplitl [H15]; · iexact H15
  isplitl [H16]; · iexact H16
  iexact H17

theorem stW_zero (ne : ℕ) (f : Fin 3 → Slot (Fin 64)) (h0 : f 0 = if 0 < ne then .flying (exO gs 0) else .free) (h1 : f 1 = if 1 < ne then .flying (exO gs 1) else .free)
    (h2 : f 2 = .free) : f = stW gs ne 0 := by
  funext j
  fin_cases j
  · exact h0
  · exact h1
  · exact h2

theorem Ring3_free (f : Fin 3 → Slot (Fin 64)) (hf : ∀ j, f j = .free ∨ ∃ e, f j = .held e) :
    Ring3 (F := F) arg2 arg3 arg12 arg13 arg18 arg19 XW XS c f ⊢ Ring3 arg2 arg3 arg12 arg13 arg18 arg19 XW XS c (fun _ => .free) := by
  have h : ∀ j, BSl (F := F) arg2 arg3 arg12 arg13 arg18 arg19 XW XS c j (f j) ⊢ BSl arg2 arg3 arg12 arg13 arg18 arg19 XW XS c j .free := fun j => by
    rcases hf j with h | ⟨e, h⟩
    · rw [h]
    · rw [h]
      unfold BSl
      iintro ⟨H1, H2⟩
      isplitl [H1]
      · iapply (WSl_drop arg2 arg12 arg18 XW c j _)
        iexact H1
      · iapply (SSl_drop arg3 arg13 arg19 XS c j _)
        iexact H2
  unfold Ring3
  iintro ⟨H0, H1, H2⟩
  isplitl [H0]
  · iapply (h 0); iexact H0
  isplitl [H1]
  · iapply (h 1); iexact H1
  iapply (h 2); iexact H2

theorem stW_end (ne : ℕ) (j : Fin 3) : stW gs ne ne j = .free ∨ ∃ e, stW gs ne ne j = .held e := by
  unfold stW
  split
  · exact .inl (if_neg (lt_irrefl _))
  · split
    · exact .inl (if_neg (by omega))
    · split
      · exact .inr ⟨_, rfl⟩
      · exact .inl rfl

theorem XSl_both (v : ℕ) : iprop(XSl (F := F) arg1 arg14 arg20 XX c (sl2 v) .free ∗ XSl arg1 arg14 arg20 XX c (sl2 (v + 1)) .free)
    ⊢ iprop(XSl arg1 arg14 arg20 XX c 0 .free ∗ XSl arg1 arg14 arg20 XX c 1 .free) := by
  rcases Nat.mod_two_eq_zero_or_one v with h | h
  · rw [show sl2 v = 0 from Fin.ext h, show sl2 (v + 1) = 1 from Fin.ext (show (v + 1) % 2 = 1 by omega)]
  · rw [show sl2 v = 1 from Fin.ext h, show sl2 (v + 1) = 0 from Fin.ext (show (v + 1) % 2 = 0 by omega)]
    iintro ⟨H1, H2⟩
    isplitl [H2]; · iexact H2
    iexact H1

/-- What the kernel starts with and ends with; the tables, the slots and the buffers hold anything, the result's two arrays are named. -/
def Around (q : PosShare TreeShare) (GS : S64.Idx → Elt F .i32) (XX : S6144x2816.Idx → Elt F .bf16) (XW : S64x1408x2048.Idx → Elt F .i8) (XS : S64x22x2048.Idx → Elt F .f32)
    (Y17 Y4 : (S6144x2048.Idx → Elt F .bf16)) : sProp (MM F) :=
  iprop(Own c arg0 q GS ∗ (∃ T, Own c arg5 fullShare T) ∗ (∃ T, Own c arg6 fullShare T) ∗ (∃ T, Own c arg7 fullShare T) ∗ (∃ T, Own c arg8 fullShare T) ∗
    (∃ T, Own c arg9 fullShare T) ∗ (∃ T, Own c arg10 fullShare T) ∗ (∃ T, Own c arg11 fullShare T) ∗
    XSl arg1 arg14 arg20 XX c 0 .free ∗ XSl arg1 arg14 arg20 XX c 1 .free ∗ Ring3 arg2 arg3 arg12 arg13 arg18 arg19 XW XS c (fun _ => .free) ∗ Owe c ∗
    (∃ Y, Own c arg15 fullShare Y) ∗ (∃ Y, Own c arg16 fullShare Y) ∗ Own c arg17 fullShare Y17 ∗ Own c arg4 fullShare Y4 ∗ Sv c arg21.sem)

set_option backward.isDefEq.respectTransparency.types false in
set_option maxHeartbeats 2000000 in
/-- The kernel's body. -/
theorem body_wp {q : PosShare TreeShare} {GS : S64.Idx → Elt F .i32} (hS : stO gs 64 ≤ 6144) (h0 : 0 < stO gs 64) (hG : ∀ e < 64, Holds GS ![e] (BitVec.ofNat 32 (gs e)))
    (Y17 Y4 : S6144x2048.Idx → Elt F .bf16) :
    Around arg0 arg1 arg2 arg3 arg4 arg5 arg6 arg7 arg8 arg9 arg10 arg11 arg12 arg13 arg14 arg15 arg16 arg17 arg18 arg19 arg20 arg21 c q GS XX XW XS Y17 Y4
      ⊢ W c (cc0_moe_w4a8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21) (fun _ =>
        Around arg0 arg1 arg2 arg3 arg4 arg5 arg6 arg7 arg8 arg9 arg10 arg11 arg12 arg13 arg14 arg15 arg16 arg17 arg18 arg19 arg20 arg21 c q GS XX XW XS (accY gs XX XW XS Y17 (nV gs 64)) (accY gs XX XW XS Y17 (nV gs 64))) := by
  have h1 : ∀ a, S1.size a = 1 := fun a => by fin_cases a; rfl
  have hn : nV gs 64 ≤ 128 := (nV_le hS le_rfl).trans (by decide)
  have hne : nE gs 64 ≤ 64 := nE_le 64
  obtain ⟨e0, he0, hg0⟩ : ∃ e, e < 64 ∧ 0 < gs e := pos_of_sum h0
  have hE0 : 0 < nE gs 64 := lt_of_le_of_lt (Nat.zero_le _) (nE_lt he0 hg0)
  have hV0 : 0 < nV gs 64 := nV_pos he0 hg0
  have ht1 : k0_t1_loop.trips = 64 := by decide +kernel
  unfold cc0_moe_w4a8
  unfold Around
  iintro ⟨H0, ⟨%T5, H5⟩, ⟨%T6, H6⟩, ⟨%T7, H7⟩, ⟨%T8, H8⟩, ⟨%T9, H9⟩, ⟨%T10, H10⟩, ⟨%T11, H11⟩, HA, HB, HR, HO, H15, H16, H17, H4, HV⟩
  iapply (W_seq c (fun r : BitVec 32 × BitVec 32 × BitVec 32 => iprop(⌜r = (BitVec.ofNat 32 (stO gs 64), BitVec.ofNat 32 (nV gs 64), BitVec.ofNat 32 (nE gs 64))⌝ ∗ Own c arg0 q GS ∗ Tabs c gs 64 0 arg5 arg6 arg7 arg8 arg9 arg10 ∗ TabX c gs 64 arg11))) $$ [H0 H5 H6 H7 H8 H9 H10 H11]
  · iapply (W_for c _ _ _ _ (fun i (r : BitVec 32 × BitVec 32 × BitVec 32) => iprop(⌜r = (BitVec.ofNat 32 (stO gs i), BitVec.ofNat 32 (nV gs i), BitVec.ofNat 32 (nE gs i))⌝ ∗ Own c arg0 q GS ∗ Tabs c gs i 0 arg5 arg6 arg7 arg8 arg9 arg10 ∗ TabX c gs i arg11)) 64 ht1 ?_)
    · intro k a
      have hk : k.val < 64 := lt_of_lt_of_eq k.isLt ht1
      iintro ⟨%ha, H⟩
      obtain rfl := ha
      iapply (W_seq c _) $$ [H]
      · iapply (part1_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 c hS hG k k.val rfl hk)
        iexact H
      iintro %r ⟨%hr, H⟩
      obtain ⟨r1, r2, r3⟩ := r
      obtain ⟨rfl, rfl, rfl⟩ := hr
      iapply (W_ret c)
      isplitr
      · ipureintro
        rw [addi_ofNat]; rfl
      iexact H
    · isplitr; · ipureintro; rfl
      isplitl [H0]; · iexact H0
      isplitl [H5 H6 H7 H8 H9 H10]
      · unfold Tabs
        iexists T5, T6, T7, T8, T9, T10
        isplitr; · ipureintro; intro e' j' hj' h; omega
        isplitl [H5]; · iexact H5
        isplitl [H6]; · iexact H6
        isplitl [H7]; · iexact H7
        isplitl [H8]; · iexact H8
        isplitl [H9]; · iexact H9
        iexact H10
      · unfold TabX
        iexists T11
        isplitr; · ipureintro; intro e' he'; omega
        iexact H11
  iintro %r ⟨%hr, H0, HT, HX⟩
  subst hr
  iapply (asm c (chk7_ok ⟨nV gs 64, by omega⟩))
  ihave HX := (show TabX c gs 64 arg11 ⊢ iprop(∃ T, ⌜TabE gs 64 T⌝ ∗ Own c arg11 fullShare T) from .rfl) $$ HX
  icases HX with ⟨%T11, %hE, HX⟩
  ihave HR := (show Ring3 arg2 arg3 arg12 arg13 arg18 arg19 XW XS c (fun _ => .free) ⊢ iprop((WSl arg2 arg12 arg18 XW c 0 .free ∗ SSl arg3 arg13 arg19 XS c 0 .free) ∗ (WSl arg2 arg12 arg18 XW c 1 .free ∗ SSl arg3 arg13 arg19 XS c 1 .free) ∗ BSl arg2 arg3 arg12 arg13 arg18 arg19 XW XS c 2 .free) from .rfl) $$ HR
  icases HR with ⟨⟨HW0, HS0⟩, ⟨HW1, HS1⟩, HR2⟩
  rw [dif_pos ((cond2_iff (n := nE gs 64) (by omega)).2 hE0)]
  iapply (wordAt c (e := .i32) (X := T11) h1 (w := BitVec.ofNat 32 (exO gs 0).val) (by
    have := hE (exO gs 0).val (exO gs 0).isLt (exO_spec hE0).1
    rw [(exO_spec hE0).2] at this; exact this)) $$ HX
  iintro HX
  iapply (asm c (chk4_at _ _))
  iapply (fetchW c 0 (exO gs 0) (vec3 (by have := (exO gs 0).isLt; omega)) rfl rfl) $$ HW0
  iintro HW0
  iapply (fetchS c 0 (exO gs 0) (vec3 (by have := (exO gs 0).isLt; omega)) rfl rfl) $$ HS0
  iintro HS0
  by_cases h1e : 1 < nE gs 64
  case' pos =>
    rw [dif_pos ((cond3_iff (n := nE gs 64) (by omega)).2 h1e)]
    iapply (wordAt c (e := .i32) (X := T11) h1 (w := BitVec.ofNat 32 (exO gs 1).val) (by
      have := hE (exO gs 1).val (exO gs 1).isLt (exO_spec h1e).1
      rw [(exO_spec h1e).2] at this; exact this)) $$ HX
    iintro HX
    iapply (asm c (chk5_at _ _))
    iapply (fetchW c 1 (exO gs 1) (vec3 (by have := (exO gs 1).isLt; omega)) rfl rfl) $$ HW1
    iintro HW1
    iapply (fetchS c 1 (exO gs 1) (vec3 (by have := (exO gs 1).isLt; omega)) rfl rfl) $$ HS1
    iintro HS1
    ihave HR := (show iprop((WSl arg2 arg12 arg18 XW c 0 (.flying (exO gs 0)) ∗ SSl arg3 arg13 arg19 XS c 0 (.flying (exO gs 0))) ∗ (WSl arg2 arg12 arg18 XW c 1 (.flying (exO gs 1)) ∗ SSl arg3 arg13 arg19 XS c 1 (.flying (exO gs 1))) ∗ BSl arg2 arg3 arg12 arg13 arg18 arg19 XW XS c 2 .free)
      ⊢ Ring3 arg2 arg3 arg12 arg13 arg18 arg19 XW XS c (stW gs (nE gs 64) 0) from by
        rw [← stW_zero (gs := gs) (nE gs 64) ![.flying (exO gs 0), .flying (exO gs 1), .free] (if_pos hE0).symm (if_pos h1e).symm rfl]; exact .rfl) $$ [HW0 HS0 HW1 HS1 HR2]
    · isplitl [HW0 HS0]
      · isplitl [HW0]; · iexact HW0
        iexact HS0
      isplitl [HW1 HS1]
      · isplitl [HW1]; · iexact HW1
        iexact HS1
      iexact HR2
  case' neg =>
    rw [dif_neg (fun h => h1e ((cond3_iff (n := nE gs 64) (by omega)).1 h))]
    ihave HR := (show iprop((WSl arg2 arg12 arg18 XW c 0 (.flying (exO gs 0)) ∗ SSl arg3 arg13 arg19 XS c 0 (.flying (exO gs 0))) ∗ (WSl arg2 arg12 arg18 XW c 1 .free ∗ SSl arg3 arg13 arg19 XS c 1 .free) ∗ BSl arg2 arg3 arg12 arg13 arg18 arg19 XW XS c 2 .free)
      ⊢ Ring3 arg2 arg3 arg12 arg13 arg18 arg19 XW XS c (stW gs (nE gs 64) 0) from by
        rw [← stW_zero (gs := gs) (nE gs 64) ![.flying (exO gs 0), .free, .free] (if_pos hE0).symm (if_neg h1e).symm rfl]; exact .rfl) $$ [HW0 HS0 HW1 HS1 HR2]
    · isplitl [HW0 HS0]
      · isplitl [HW0]; · iexact HW0
        iexact HS0
      isplitl [HW1 HS1]
      · isplitl [HW1]; · iexact HW1
        iexact HS1
      iexact HR2
  all_goals
    ihave HT := (show Tabs c gs 64 0 arg5 arg6 arg7 arg8 arg9 arg10 ⊢ iprop(∃ T5 T6 T7 T8 T9 T10, ⌜TabV gs 64 0 T5 T6 T7 T8 T9 T10⌝ ∗ Own c arg5 fullShare T5 ∗ Own c arg6 fullShare T6 ∗ Own c arg7 fullShare T7 ∗
      Own c arg8 fullShare T8 ∗ Own c arg9 fullShare T9 ∗ Own c arg10 fullShare T10) from .rfl) $$ HT
    icases HT with ⟨%T5, %T6, %T7, %T8, %T9, %T10, %hT, H5, H6, H7, H8, H9, H10⟩
    iapply (wordAt c (e := .i32) (X := T6) h1 (w := BitVec.ofNat 32 (16 * (rowB gs 0).val)) (by
      obtain ⟨e', j', he', hj', hv'⟩ := visit_exists hV0
      have := (hT e' j' hj' (.inl he')).2.1
      rw [rowB_at he' hj', ← hv'] at this; exact this)) $$ H6
    iintro H6
    iapply (asm c (chk6_ok _))
    iapply (fetchX c 0 (rowB gs 0) (vec2 (by have := (rowB gs 0).isLt; omega)) rfl rfl) $$ HA
    iintro HA
    iapply (W_seq c (Between arg1 arg2 arg3 arg5 arg6 arg7 arg8 arg9 arg10 arg11 arg12 arg13 arg14 arg15 arg16 arg17 arg18 arg19 arg20 c gs XX XW XS Y17 (nV gs 64))) $$ [H5 H6 H7 H8 H9 H10 HX HA HB HR HO H15 H16 H17]
    · iapply (W_for c _ _ _ _ (Between arg1 arg2 arg3 arg5 arg6 arg7 arg8 arg9 arg10 arg11 arg12 arg13 arg14 arg15 arg16 arg17 arg18 arg19 arg20 c gs XX XW XS Y17) (nV gs 64) (trips4 hn) ?_)
      · intro k r
        obtain ⟨a, m⟩ := r
        exact trip_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 c hS _ Y17 k a m
      · unfold Between
        iexists 0
        isplitr; · ipureintro; exact ⟨begun_zero, Dead.init⟩
        isplitl [H5 H6 H7 H8 H9 H10]
        · unfold Tabs
          iexists T5, T6, T7, T8, T9, T10
          isplitr; · ipureintro; exact hT
          isplitl [H5]; · iexact H5
          isplitl [H6]; · iexact H6
          isplitl [H7]; · iexact H7
          isplitl [H8]; · iexact H8
          isplitl [H9]; · iexact H9
          iexact H10
        isplitl [HX]
        · unfold TabX
          iexists T11
          isplitr; · ipureintro; exact hE
          iexact HX
        isplitl [HA]
        · rw [stX, if_pos hV0]; iexact HA
        isplitl [HB]; · iexact HB
        isplitl [HR]; · iexact HR
        isplitl [HO]; · iexact HO
        isplitl [H15]; · iexact H15
        isplitl [H16]; · iexact H16
        iexact H17
    iintro %r HI
    obtain ⟨a, m⟩ := r
    ihave HI := (show Between arg1 arg2 arg3 arg5 arg6 arg7 arg8 arg9 arg10 arg11 arg12 arg13 arg14 arg15 arg16 arg17 arg18 arg19 arg20 c gs XX XW XS Y17 (nV gs 64) (a, m) ⊢
      iprop(∃ o, ⌜Begun gs (nV gs 64) o ∧ Dead m⌝ ∗ Tabs c gs 64 0 arg5 arg6 arg7 arg8 arg9 arg10 ∗ TabX c gs 64 arg11 ∗ XSl arg1 arg14 arg20 XX c (sl2 (nV gs 64)) (stX gs (nV gs 64)) ∗ XSl arg1 arg14 arg20 XX c (sl2 (nV gs 64 + 1)) .free ∗
    Ring3 arg2 arg3 arg12 arg13 arg18 arg19 XW XS c (stW gs (nE gs 64) o) ∗ Owe c ∗ (∃ Y, Own c arg15 fullShare Y) ∗ (∃ Y, Own c arg16 fullShare Y) ∗ Own c arg17 fullShare (accY gs XX XW XS Y17 (nV gs 64))) from .rfl) $$ HI
    icases HI with ⟨%o, %ho, HT, HX, HA, HB, HR, HO, H15, H16, H17⟩
    obtain rfl := ho.1.2 rfl
    iapply (W_seq c (fun r : BitVec 32 × Mxu F => iprop(⌜r.2 = m⌝))) $$ []
    · iapply (W_for c _ _ _ _ (fun _ (r : BitVec 32 × Mxu F) => iprop(⌜r.2 = m⌝)) 0 (by rw [t5_eq]; exact (loops_small ⟨nV gs 64, by omega⟩).2.2.1) ?_)
      · intro k
        exact absurd (lt_of_lt_of_eq k.isLt (loops_small ⟨nV gs 64, by omega⟩).2.2.1) (Nat.not_lt_zero _)
      · ipureintro; rfl
    iintro %r %hr
    obtain ⟨a', m'⟩ := r
    obtain rfl : m' = m := hr
    iapply (issue c (m := arg17) (q := fullShare) (X := accY gs XX XW XS Y17 (nV gs 64)) (Y := accY gs XX XW XS Y17 (nV gs 64)) (View.dmaCredit_pos _ (by decide)) (by
      iintro H
      isplitl [H]; · iexact H
      iintro H
      iexact H)) $$ [H17 H4 HV]
    · isplitl [H17]; · iexact H17
      isplitl [H4]; · iexists _; iexact H4
      iexact HV
    iintro HF
    iapply (await c) $$ [HF HO]
    · isplitl [HF]; · iexact HF
      iexact HO
    iintro ⟨⟨H4, H17⟩, HV, HO⟩
    unfold W
    iapply (Mxu.wp_exit (hd := Dead.drained ho.2))
    iapply (W_ret c)
    isplitl [H0]; · iexact H0
    ihave HT := (show Tabs c gs 64 0 arg5 arg6 arg7 arg8 arg9 arg10 ⊢ iprop(∃ T5 T6 T7 T8 T9 T10, ⌜TabV gs 64 0 T5 T6 T7 T8 T9 T10⌝ ∗ Own c arg5 fullShare T5 ∗ Own c arg6 fullShare T6 ∗ Own c arg7 fullShare T7 ∗
      Own c arg8 fullShare T8 ∗ Own c arg9 fullShare T9 ∗ Own c arg10 fullShare T10) from .rfl) $$ HT
    icases HT with ⟨%T5, %T6, %T7, %T8, %T9, %T10, %hT, H5, H6, H7, H8, H9, H10⟩
    ihave HX := (show TabX c gs 64 arg11 ⊢ iprop(∃ T, ⌜TabE gs 64 T⌝ ∗ Own c arg11 fullShare T) from .rfl) $$ HX
    icases HX with ⟨%T11, %hE, HX⟩
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HX]; · iexists _; iexact HX
    ihave HAB := (show iprop(XSl arg1 arg14 arg20 XX c (sl2 (nV gs 64)) (stX gs (nV gs 64)) ∗ XSl arg1 arg14 arg20 XX c (sl2 (nV gs 64 + 1)) .free) ⊢ iprop(XSl arg1 arg14 arg20 XX c 0 .free ∗ XSl arg1 arg14 arg20 XX c 1 .free) from by
      rw [stX, if_neg (lt_irrefl _)]
      exact XSl_both arg1 arg14 arg20 c (nV gs 64)) $$ [HA HB]
    · isplitl [HA]; · iexact HA
      iexact HB
    icases HAB with ⟨HA, HB⟩
    isplitl [HA]; · iexact HA
    isplitl [HB]; · iexact HB
    isplitl [HR]
    · iapply (Ring3_free arg2 arg3 arg12 arg13 arg18 arg19 c _ (stW_end (nE gs 64)))
      iexact HR
    isplitl [HO]; · iexact HO
    isplitl [H15]; · iexact H15
    isplitl [H16]; · iexact H16
    isplitl [H17]; · iexact H17
    isplitl [H4]; · iexact H4
    iexact HV
end

end Cert.Model
-- ==== Proof.Split.lean ====
/-
  The kernel's buffers as their slots: split before the body, joined after it.
-/
module

public import proofs.«01_k».proof.Proof.RingState

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

section
variable (c : Dev nD) {sp : Space} {sh s' : Shape} {e : EltTy} {n : ℕ} (m : Memref sig .tc sp sh e)
  (r : Fin n → Rect sh) (hr : ∀ t a, (r t).stride a = 1)
  (hd : ∀ t t', t ≠ t' → Disjoint (r t).set (r t').set)
  (hcov : (Finset.univ : Finset (Fin n)).biUnion (fun t => (r t).set) = Finset.univ)
  (hs : ∀ t, (r t).shape.Squeezes s')

/-- One array of contents from those of the parts. -/
theorem glue {α : Type} [Nonempty α] (r : Fin n → Rect sh) (hd : ∀ t t', t ≠ t' → Disjoint (r t).set (r t').set) (Y : (t : Fin n) → (r t).shape.Idx → α) :
    ∃ X : sh.Idx → α, ∀ t i, X ((r t).emb i) = Y t i := by
  classical
  refine ⟨fun j => if h : ∃ p : (Σ t, (r t).shape.Idx), (r p.1).emb p.2 = j then Y h.choose.1 h.choose.2 else Classical.arbitrary _, fun t i => ?_⟩
  have h : ∃ p : (Σ t, (r t).shape.Idx), (r p.1).emb p.2 = (r t).emb i := ⟨⟨t, i⟩, rfl⟩
  show (if h : _ then _ else _) = _
  rw [dif_pos h]
  generalize hp : h.choose = p
  have hq : (r p.1).emb p.2 = (r t).emb i := hp ▸ h.choose_spec
  obtain ⟨t', i'⟩ := p
  have ht : t' = t := by
    by_contra hne
    have h1 : (r t').emb i' ∈ (r t').set := (r t').map_emb_univ ▸ Finset.mem_map_of_mem _ (Finset.mem_univ i')
    have h2 : (r t').emb i' ∈ (r t).set := by
      rw [show (r t').emb i' = (r t).emb i from hq]
      exact (r t).map_emb_univ ▸ Finset.mem_map_of_mem _ (Finset.mem_univ i)
    exact (Finset.disjoint_left.mp (hd t' t hne) h1) h2
  subst ht
  rw [show i' = i from (r t').emb.injective hq]

include hd hcov in
/-- A whole buffer is its squeezed parts, each at some contents. -/
theorem parts_of_whole : iprop(∃ X, Own (F := F) c m fullShare X)
    ⊢ bigSep Finset.univ fun t => iprop(∃ Y, Own (F := F) c ((m.slice (r t) (hr t)).squeeze s' (hs t)) fullShare Y) := by
  have h2 : ∀ X : sh.Idx → Elt F e, (bigSep Finset.univ fun t => Own (F := F) c (m.slice (r t) (hr t)) fullShare (fun j => X ((r t).emb j)))
      ⊢ bigSep Finset.univ fun t => iprop(∃ Y, Own (F := F) c ((m.slice (r t) (hr t)).squeeze s' (hs t)) fullShare Y) := fun X =>
    BI.bigSep_mono (fun t _ => (show Own (F := F) c (m.slice (r t) (hr t)) fullShare (fun j => X ((r t).emb j)) ⊢
      iprop(∃ Y, Own (F := F) c ((m.slice (r t) (hr t)).squeeze s' (hs t)) fullShare Y) from by
        iintro H
        iexists _
        iapply (Rules.owns_squeeze (c.tc : Thread nD τ) (hs t) (fun i => X ((r t).emb i)))
        iexact H))
  iintro ⟨%X, H⟩
  ihave H := (owns_rects (c.tc : Thread nD τ) m fullShare r hr hd hcov X) $$ H
  iapply (h2 X)
  iexact H

include hd hcov in
theorem whole_of_parts : (bigSep Finset.univ fun t => iprop(∃ Y, Own (F := F) c ((m.slice (r t) (hr t)).squeeze s' (hs t)) fullShare Y))
    ⊢ iprop(∃ X, Own (F := F) c m fullShare X) := by
  have h1 : (bigSep Finset.univ fun t => iprop(∃ Y, Own (F := F) c ((m.slice (r t) (hr t)).squeeze s' (hs t)) fullShare Y))
      ⊢ bigSep Finset.univ fun t => iprop(∃ Y, Own (F := F) c (m.slice (r t) (hr t)) fullShare Y) :=
    BI.bigSep_mono (fun t _ => (show iprop(∃ Y, Own (F := F) c ((m.slice (r t) (hr t)).squeeze s' (hs t)) fullShare Y) ⊢
      iprop(∃ Y, Own (F := F) c (m.slice (r t) (hr t)) fullShare Y) from by
        iintro ⟨%Y, H⟩
        ihave H := (Rules.owns_unsqueeze (c.tc : Thread nD τ) (m := m.slice (r t) (hr t)) (hs t) Y) $$ H
        icases H with ⟨%Y', -, H⟩
        iexists Y'
        iexact H))
  have h2 : (bigSep Finset.univ fun t => iprop(∃ Y, Own (F := F) c (m.slice (r t) (hr t)) fullShare Y))
      ⊢ iprop(∃ Y : (t : Fin n) → (r t).shape.Idx → Elt F e, bigSep Finset.univ fun t => Own (F := F) c (m.slice (r t) (hr t)) fullShare (Y t)) :=
    bigSep_exists_pi _ _
  iintro H
  ihave H := h1 $$ H
  ihave H := h2 $$ H
  icases H with ⟨%Y, H⟩
  obtain ⟨X, hX⟩ := glue r hd Y
  obtain rfl : (fun t i => X ((r t).emb i)) = Y := by funext t i; exact hX t i
  iexists X
  iapply (owns_of_rects (c.tc : Thread nD τ) m fullShare r hr hd hcov X)
  iexact H
end

/-- The planes of an array of three axes are disjoint and cover it. -/
theorem planes_disj {n : ℕ} {sh : Shape} (h3 : 0 < sh.rank) {size : Fin sh.rank → ℕ} (off : Fin n → Fin sh.rank → ℕ) (inb : ∀ t a, off t a + size a ≤ sh.size a)
    (h0 : ∀ t, off t ⟨0, h3⟩ = t.val) (h1 : size ⟨0, h3⟩ = 1) (t t' : Fin n) (h : t ≠ t') :
    Disjoint (Rect.unit (s := sh) (off t) size (inb t)).set (Rect.unit (s := sh) (off t') size (inb t')).set :=
  Rect.unit_disjoint ⟨0, h3⟩ (by rw [h0, h0, h1]; have : t.val ≠ t'.val := fun e => h (Fin.ext e); omega)

theorem planes_cover {n : ℕ} {sh : Shape} (h3 : 0 < sh.rank) {size : Fin sh.rank → ℕ} (off : Fin n → Fin sh.rank → ℕ) (inb : ∀ t a, off t a + size a ≤ sh.size a)
    (h0 : ∀ t, off t ⟨0, h3⟩ = t.val) (h1 : size ⟨0, h3⟩ = 1) (hn : sh.size ⟨0, h3⟩ = n) (hz : ∀ t a, a ≠ ⟨0, h3⟩ → off t a = 0 ∧ size a = sh.size a) :
    (Finset.univ : Finset (Fin n)).biUnion (fun t => (Rect.unit (s := sh) (off t) size (inb t)).set) = Finset.univ := by
  ext i
  refine ⟨fun _ => Finset.mem_univ _, fun _ => ?_⟩
  refine Finset.mem_biUnion.mpr ⟨⟨(i ⟨0, h3⟩).val, hn ▸ (i ⟨0, h3⟩).isLt⟩, Finset.mem_univ _, Rect.mem_set_unit.mpr fun a => ?_⟩
  by_cases ha : a = ⟨0, h3⟩
  · subst ha
    rw [h0, h1]
    exact ⟨le_rfl, Nat.lt_succ_self _⟩
  · obtain ⟨h2, h4⟩ := hz ⟨(i ⟨0, h3⟩).val, hn ▸ (i ⟨0, h3⟩).isLt⟩ a ha
    rw [h2, h4]
    exact ⟨Nat.zero_le _, by rw [Nat.zero_add]; exact (i a).isLt⟩

theorem chain3 {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem chain2 {M : Type} [URA M] (Φ : Fin 2 → sProp M) : bigSep Finset.univ Φ = iprop(Φ 0 ∗ Φ 1) :=
  bigSep_univ_eq_bigSepL [(0 : Fin 2), 1] (by decide) (by decide) Φ

section
variable (arg1 : Memref sig .tc .hbm S6144x2816 .bf16) (arg2 : Memref sig .tc .hbm S64x1408x2048 .i8) (arg3 : Memref sig .tc .hbm S64x22x2048 .f32)
  (arg12 : Memref sig .tc .vmem S3x1408x2048 .i8) (arg13 : Memref sig .tc .vmem S3x22x2048 .f32) (arg14 : Memref sig .tc .vmem S2x128x2816 .bf16)
  (arg18 arg19 : DmaSems sig S3) (arg20 : DmaSems sig S2)
  (XX : S6144x2816.Idx → Elt F .bf16) (XW : S64x1408x2048.Idx → Elt F .i8) (XS : S64x22x2048.Idx → Elt F .f32) (c : Dev nD)

/-- The weights' buffer, the scales', the rows', as their slots. -/
theorem bufW : iprop(∃ X, Own (F := F) c arg12 fullShare X) ⊣⊢ iprop((∃ Y, Own (F := F) c (slotW arg12 ![0, 0, 0] (inW 0)) fullShare Y) ∗
    (∃ Y, Own (F := F) c (slotW arg12 ![1, 0, 0] (inW 1)) fullShare Y) ∗ (∃ Y, Own (F := F) c (slotW arg12 ![2, 0, 0] (inW 2)) fullShare Y)) := by
  have hd := planes_disj (n := 3) (sh := S3x1408x2048) (by decide) (size := S1x1408x2048.size) (fun t => ![t.val, 0, 0]) inW (fun t => rfl) rfl
  have hc := planes_cover (n := 3) (sh := S3x1408x2048) (by decide) (size := S1x1408x2048.size) (fun t => ![t.val, 0, 0]) inW (fun t => rfl) rfl rfl
    (fun t a => by fin_cases a <;> simp)
  have h1 := parts_of_whole (F := F) (n := 3) c arg12 (fun t => Rect.unit (s := S3x1408x2048) ![t.val, 0, 0] S1x1408x2048.size (inW t)) (fun _ _ => rfl) hd hc (fun _ => squeezes_S1x1408x2048_S1408x2048)
  have h2 := whole_of_parts (F := F) (n := 3) c arg12 (fun t => Rect.unit (s := S3x1408x2048) ![t.val, 0, 0] S1x1408x2048.size (inW t)) (fun _ _ => rfl) hd hc (fun _ => squeezes_S1x1408x2048_S1408x2048)
  rw [chain3] at h1 h2
  exact ⟨h1, h2⟩

theorem bufS : iprop(∃ X, Own (F := F) c arg13 fullShare X) ⊣⊢ iprop((∃ Y, Own (F := F) c (slotS arg13 ![0, 0, 0] (inS 0)) fullShare Y) ∗
    (∃ Y, Own (F := F) c (slotS arg13 ![1, 0, 0] (inS 1)) fullShare Y) ∗ (∃ Y, Own (F := F) c (slotS arg13 ![2, 0, 0] (inS 2)) fullShare Y)) := by
  have hd := planes_disj (n := 3) (sh := S3x22x2048) (by decide) (size := S1x22x2048.size) (fun t => ![t.val, 0, 0]) inS (fun t => rfl) rfl
  have hc := planes_cover (n := 3) (sh := S3x22x2048) (by decide) (size := S1x22x2048.size) (fun t => ![t.val, 0, 0]) inS (fun t => rfl) rfl rfl
    (fun t a => by fin_cases a <;> simp)
  have h1 := parts_of_whole (F := F) (n := 3) c arg13 (fun t => Rect.unit (s := S3x22x2048) ![t.val, 0, 0] S1x22x2048.size (inS t)) (fun _ _ => rfl) hd hc (fun _ => squeezes_S1x22x2048_S22x2048)
  have h2 := whole_of_parts (F := F) (n := 3) c arg13 (fun t => Rect.unit (s := S3x22x2048) ![t.val, 0, 0] S1x22x2048.size (inS t)) (fun _ _ => rfl) hd hc (fun _ => squeezes_S1x22x2048_S22x2048)
  rw [chain3] at h1 h2
  exact ⟨h1, h2⟩

theorem bufX : iprop(∃ X, Own (F := F) c arg14 fullShare X) ⊣⊢ iprop((∃ Y, Own (F := F) c (slotX arg14 ![0, 0, 0] (inX 0)) fullShare Y) ∗
    (∃ Y, Own (F := F) c (slotX arg14 ![1, 0, 0] (inX 1)) fullShare Y)) := by
  have hd := planes_disj (n := 2) (sh := S2x128x2816) (by decide) (size := S1x128x2816.size) (fun t => ![t.val, 0, 0]) inX (fun t => rfl) rfl
  have hc := planes_cover (n := 2) (sh := S2x128x2816) (by decide) (size := S1x128x2816.size) (fun t => ![t.val, 0, 0]) inX (fun t => rfl) rfl rfl
    (fun t a => by fin_cases a <;> simp)
  have h1 := parts_of_whole (F := F) (n := 2) c arg14 (fun t => Rect.unit (s := S2x128x2816) ![t.val, 0, 0] S1x128x2816.size (inX t)) (fun _ _ => rfl) hd hc (fun _ => squeezes_S1x128x2816_S128x2816)
  have h2 := whole_of_parts (F := F) (n := 2) c arg14 (fun t => Rect.unit (s := S2x128x2816) ![t.val, 0, 0] S1x128x2816.size (inX t)) (fun _ _ => rfl) hd hc (fun _ => squeezes_S1x128x2816_S128x2816)
  rw [chain2] at h1 h2
  exact ⟨h1, h2⟩

/-- An array read in three shares, and in two. -/
theorem thirds {sp : Space} {s : Shape} {e : EltTy} (m : Memref sig .tc sp s e) (X : s.Idx → Elt F e) :
    Own (F := F) c m fullShare X ⊣⊢ iprop(Own c m (shr3 0) X ∗ Own c m (shr3 1) X ∗ Own c m (shr3 2) X) := by
  constructor
  · iintro H
    ihave H := (owns_halves (c.tc : Thread nD τ) m fullShare X).1 $$ H
    icases H with ⟨H1, H⟩
    ihave H := (owns_halves (c.tc : Thread nD τ) m fullShare.right X).1 $$ H
    icases H with ⟨H2, H3⟩
    isplitl [H1]; · iexact H1
    isplitl [H2]; · iexact H2
    iexact H3
  · iintro ⟨H1, H2, H3⟩
    iapply (owns_halves (c.tc : Thread nD τ) m fullShare X).2
    isplitl [H1]; · iexact H1
    iapply (owns_halves (c.tc : Thread nD τ) m fullShare.right X).2
    isplitl [H2]; · iexact H2
    iexact H3

/-- The weights' and the scales' buffers, their semaphores and their arrays are the three empty slots. -/
theorem ring_iff : iprop((∃ X, Own (F := F) c arg12 fullShare X) ∗ (∃ X, Own (F := F) c arg13 fullShare X) ∗
      (Sv c (sem3 arg18 ![0] (in3 0)) ∗ Sv c (sem3 arg18 ![1] (in3 1)) ∗ Sv c (sem3 arg18 ![2] (in3 2))) ∗
      (Sv c (sem3 arg19 ![0] (in3 0)) ∗ Sv c (sem3 arg19 ![1] (in3 1)) ∗ Sv c (sem3 arg19 ![2] (in3 2))) ∗ Own c arg2 fullShare XW ∗ Own c arg3 fullShare XS)
    ⊣⊢ Ring3 arg2 arg3 arg12 arg13 arg18 arg19 XW XS c (fun _ => .free) := by
  unfold Ring3 BSl WSl SSl
  constructor
  · iintro ⟨H12, H13, ⟨V0, V1, V2⟩, ⟨U0, U1, U2⟩, H2, H3⟩
    ihave H12 := (bufW arg12 c).1 $$ H12
    ihave H13 := (bufS arg13 c).1 $$ H13
    ihave H2 := (thirds c arg2 XW).1 $$ H2
    ihave H3 := (thirds c arg3 XS).1 $$ H3
    icases H12 with ⟨A0, A1, A2⟩
    icases H13 with ⟨B0, B1, B2⟩
    icases H2 with ⟨C0, C1, C2⟩
    icases H3 with ⟨D0, D1, D2⟩
    isplitl [A0 B0 C0 D0 V0 U0]
    · isplitl [A0 C0 V0]
      · isplitl [A0]; · iexact A0
        isplitl [V0]; · iexact V0
        iexact C0
      isplitl [B0]; · iexact B0
      isplitl [U0]; · iexact U0
      iexact D0
    isplitl [A1 B1 C1 D1 V1 U1]
    · isplitl [A1 C1 V1]
      · isplitl [A1]; · iexact A1
        isplitl [V1]; · iexact V1
        iexact C1
      isplitl [B1]; · iexact B1
      isplitl [U1]; · iexact U1
      iexact D1
    isplitl [A2 C2 V2]
    · isplitl [A2]; · iexact A2
      isplitl [V2]; · iexact V2
      iexact C2
    isplitl [B2]; · iexact B2
    isplitl [U2]; · iexact U2
    iexact D2
  · iintro ⟨⟨⟨A0, V0, C0⟩, ⟨B0, U0, D0⟩⟩, ⟨⟨A1, V1, C1⟩, ⟨B1, U1, D1⟩⟩, ⟨⟨A2, V2, C2⟩, ⟨B2, U2, D2⟩⟩⟩
    isplitl [A0 A1 A2]
    · iapply (bufW arg12 c).2
      isplitl [A0]; · iexact A0
      isplitl [A1]; · iexact A1
      iexact A2
    isplitl [B0 B1 B2]
    · iapply (bufS arg13 c).2
      isplitl [B0]; · iexact B0
      isplitl [B1]; · iexact B1
      iexact B2
    isplitl [V0 V1 V2]
    · isplitl [V0]; · iexact V0
      isplitl [V1]; · iexact V1
      iexact V2
    isplitl [U0 U1 U2]
    · isplitl [U0]; · iexact U0
      isplitl [U1]; · iexact U1
      iexact U2
    isplitl [C0 C1 C2]
    · iapply (thirds c arg2 XW).2
      isplitl [C0]; · iexact C0
      isplitl [C1]; · iexact C1
      iexact C2
    iapply (thirds c arg3 XS).2
    isplitl [D0]; · iexact D0
    isplitl [D1]; · iexact D1
    iexact D2

/-- The rows' buffer, its semaphores and its array are the two empty slots. -/
theorem rows_iff : iprop((∃ X, Own (F := F) c arg14 fullShare X) ∗ (Sv c (sem2 arg20 ![0] (in2 0)) ∗ Sv c (sem2 arg20 ![1] (in2 1))) ∗ Own c arg1 fullShare XX)
    ⊣⊢ iprop(XSl arg1 arg14 arg20 XX c 0 .free ∗ XSl arg1 arg14 arg20 XX c 1 .free) := by
  unfold XSl
  constructor
  · iintro ⟨H14, ⟨V0, V1⟩, H1⟩
    ihave H14 := (bufX arg14 c).1 $$ H14
    ihave H1 := (owns_halves (c.tc : Thread nD τ) arg1 fullShare XX).1 $$ H1
    icases H14 with ⟨A0, A1⟩
    icases H1 with ⟨C0, C1⟩
    isplitl [A0 V0 C0]
    · isplitl [A0]; · iexact A0
      isplitl [V0]; · iexact V0
      iexact C0
    isplitl [A1]; · iexact A1
    isplitl [V1]; · iexact V1
    iexact C1
  · iintro ⟨⟨A0, V0, C0⟩, ⟨A1, V1, C1⟩⟩
    isplitl [A0 A1]
    · iapply (bufX arg14 c).2
      isplitl [A0]; · iexact A0
      iexact A1
    isplitl [V0 V1]
    · isplitl [V0]; · iexact V0
      iexact V1
    iapply (owns_halves (c.tc : Thread nD τ) arg1 fullShare XX).2
    isplitl [C0]; · iexact C0
    iexact C1
end

end Cert.Model
-- ==== Proof.Frame.lean ====
module

public import proofs.«01_k».proof.Proof.Body
public import proofs.«01_k».proof.Proof.Split
public import proofs.«01_k».proof.Proof.Gen.Kernel.Launch
public import proofs.«01_k».proof.Proof.Gen.Kernel.Points
public import Idealize.ShloMosaic.Lib.Pipeline.FrameBody
public import Idealize.ShloMosaic.Lib.Pipeline.FrameValue

/-!
# The launch

The body's triple is taken to the whole program: the region stages the group sizes, runs the body once with the scratch
buffers, the semaphores, the three arrays left in HBM and the result, and ends with all of them back.
-/

@[expose] public section

set_option maxRecDepth 16384

noncomputable section

namespace Cert.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

instance theFacts : Cert.Kernel.Facts := Cert.Kernel.Gen.facts

/-- The group sizes as naturals. -/
def gsOf (G : S64.Idx → BitVec 32) (e : ℕ) : ℕ := if h : e < 64 then (G (fun a => ⟨e, by fin_cases a; exact h⟩)).toNat else 0

theorem holds_gsOf (G : S64.Idx → BitVec 32) (e : ℕ) (he : e < 64) : Holds G ![e] (BitVec.ofNat 32 (gsOf G e)) := by
  intro i hi
  unfold gsOf
  rw [dif_pos he, BitVec.ofNat_toNat, BitVec.setWidth_eq]
  congr 1
  funext a
  fin_cases a
  exact Fin.ext (hi 0)

section
variable (m : (ℓ : Loc nD τ sig) → Buf (Elt F) ℓ) (ρ : Dev nD → PrngReg)

/-- The group sizes the memory holds. -/
abbrev sizes (c : Dev nD) : S64.Idx → BitVec 32 := m ((c : Thread nD τ).loc main_arg1)

/-- The group sizes fit: not all are zero, and together they are at most the rows. -/
def Fit (c : Dev nD) : Prop := stO (gsOf (sizes m c)) 64 ≤ 6144 ∧ 0 < stO (gsOf (sizes m c)) 64

/-- The buffer the body writes in HBM: the result. -/
def R0 : Finset (Ref sig .tc) := {main_v0}
/-- The arrays it reads there. -/
def H0 : Finset (Ref sig .tc) := {main_arg0, main_arg2, main_arg3}

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own semaphores. -/
abbrev osem0 : Fin 9 → SemLoc sig := fun j => (![SemLoc.dma 1, SemLoc.dma 2, SemLoc.dma 3, SemLoc.dma 4, SemLoc.dma 5, SemLoc.dma 6, SemLoc.dma 7, SemLoc.dma 8, SemLoc.dma 9] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7, 8] (by decide) (by decide)]; rfl
theorem H0_sub : H0 ⊆ Pipeline.restRefs sig spec0 := by decide
theorem hbmPts0_eq (c : Dev nD) :
    (bigSep H0 (fun b => ((c : Thread nD τ).loc b) ↦{fullShare} V m c b) : sProp (MM F))
      = iprop(Own (F := F) c (Memref.whole main_arg0) fullShare (V m c main_arg0) ∗ Own (F := F) c (Memref.whole main_arg2) fullShare (V m c main_arg2) ∗ Own (F := F) c (Memref.whole main_arg3) fullShare (V m c main_arg3)) := by
  rw [BI.bigSep_eq_bigSepL_of_eq [main_arg0, main_arg2, main_arg3] (by decide) (by decide)]
  simp only [owns_whole]; rfl
theorem R0_sub : R0 ⊆ Pipeline.restRefs sig spec0 \ H0 := by decide
theorem ownedPts0_eq (c : Dev nD) : (Pipeline.owned R0 c : sProp (MM F)) = iprop(∃ d, Own (F := F) c (Memref.whole main_v0) fullShare d) := by
  unfold Pipeline.owned; rw [BI.bigSep_eq_bigSepL_of_eq [main_v0] (by decide) (by decide)]
  simp only [owns_whole]; rfl

/-- The result is what the visits leave, from some contents of the buffer that they write. -/
def Result (gs : ℕ → ℕ) (XX : S6144x2816.Idx → Elt F .bf16) (XW : S64x1408x2048.Idx → Elt F .i8) (XS : S64x22x2048.Idx → Elt F .f32)
    (d : S6144x2048.Idx → Elt F .bf16) : Prop := ∃ Y, d = accY gs XX XW XS Y (nV gs 64)

/-- That, of the launch's result. -/
def PGk (c : Dev nD) (W : (b : Ref sig .tc) → Buf (Elt F) ((c.tc : Thread nD τ).loc b)) : Prop :=
  Result (gsOf (sizes m c)) (V m c main_arg0) (V m c main_arg2) (V m c main_arg3) (W main_v0)

/-- What the body hands back beside the group sizes. -/
def PhiEnd (c : Dev nD) : sProp (MM F) := iprop(Pipeline.ΦD osem0 spec0 H0 (V m) c ∗ Pipeline.routedSat R0 c (PGk m c))

theorem routed0_eq (c : Dev nD) (W : (b : Ref sig .tc) → Buf (Elt F) ((c.tc : Thread nD τ).loc b)) :
    (Pipeline.routed R0 c W : sProp (MM F)) = Own (F := F) c (Memref.whole main_v0) fullShare (W main_v0) := by
  unfold Pipeline.routed; rw [BI.bigSep_eq_bigSepL_of_eq [main_v0] (by decide) (by decide)]
  simp only [owns_whole]; rfl

/-- What the body is handed beside the group sizes. -/
theorem PhiDR0_eq (c : Dev nD) :
    (Pipeline.ΦDR osem0 spec0 H0 R0 (V m) c : sProp (MM F))
      = iprop(iprop((∃ d, Own (F := F) c (Memref.whole cc0_scratch7) fullShare d) ∗ (∃ d, Own (F := F) c (Memref.whole cc0_scratch8) fullShare d) ∗ (∃ d, Own (F := F) c (Memref.whole cc0_scratch9) fullShare d) ∗ (∃ d, Own (F := F) c (Memref.whole cc0_scratch10) fullShare d) ∗ (∃ d, Own (F := F) c (Memref.whole cc0_scratch11) fullShare d) ∗ (∃ d, Own (F := F) c (Memref.whole cc0_scratch12) fullShare d) ∗ (∃ d, Own (F := F) c (Memref.whole cc0_scratch0) fullShare d) ∗ (∃ d, Own (F := F) c (Memref.whole cc0_scratch1) fullShare d) ∗ (∃ d, Own (F := F) c (Memref.whole cc0_scratch2) fullShare d) ∗ (∃ d, Own (F := F) c (Memref.whole cc0_scratch3) fullShare d) ∗ (∃ d, Own (F := F) c (Memref.whole cc0_scratch4) fullShare d) ∗ (∃ d, Own (F := F) c (Memref.whole cc0_scratch5) fullShare d) ∗ (∃ d, Own (F := F) c (Memref.whole cc0_scratch6) fullShare d))
          ∗ (∃ r, prngReg c r)
          ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(Own (F := F) c (Memref.whole main_arg0) fullShare (V m c main_arg0) ∗ Own (F := F) c (Memref.whole main_arg2) fullShare (V m c main_arg2) ∗ Own (F := F) c (Memref.whole main_arg3) fullShare (V m c main_arg3))
          ∗ (∃ d, Own (F := F) c (Memref.whole main_v0) fullShare d)) := by
  rw [Pipeline.ΦDR_eq, scopedRest0_eq, ownSems00_eq, hbmPts0_eq, ownedPts0_eq]
  simp only [owns_whole]

theorem PhiEnd_of (c : Dev nD) :
    (iprop(iprop((∃ d, Own (F := F) c (Memref.whole cc0_scratch7) fullShare d) ∗ (∃ d, Own (F := F) c (Memref.whole cc0_scratch8) fullShare d) ∗ (∃ d, Own (F := F) c (Memref.whole cc0_scratch9) fullShare d) ∗ (∃ d, Own (F := F) c (Memref.whole cc0_scratch10) fullShare d) ∗ (∃ d, Own (F := F) c (Memref.whole cc0_scratch11) fullShare d) ∗ (∃ d, Own (F := F) c (Memref.whole cc0_scratch12) fullShare d) ∗ (∃ d, Own (F := F) c (Memref.whole cc0_scratch0) fullShare d) ∗ (∃ d, Own (F := F) c (Memref.whole cc0_scratch1) fullShare d) ∗ (∃ d, Own (F := F) c (Memref.whole cc0_scratch2) fullShare d) ∗ (∃ d, Own (F := F) c (Memref.whole cc0_scratch3) fullShare d) ∗ (∃ d, Own (F := F) c (Memref.whole cc0_scratch4) fullShare d) ∗ (∃ d, Own (F := F) c (Memref.whole cc0_scratch5) fullShare d) ∗ (∃ d, Own (F := F) c (Memref.whole cc0_scratch6) fullShare d))
          ∗ (∃ r, prngReg c r)
          ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(Own (F := F) c (Memref.whole main_arg0) fullShare (V m c main_arg0) ∗ Own (F := F) c (Memref.whole main_arg2) fullShare (V m c main_arg2) ∗ Own (F := F) c (Memref.whole main_arg3) fullShare (V m c main_arg3))
          ∗ (∃ d, ⌜Result (gsOf (sizes m c)) (V m c main_arg0) (V m c main_arg2) (V m c main_arg3) d⌝ ∗ Own (F := F) c (Memref.whole main_v0) fullShare d)) : sProp (MM F))
      ⊢ PhiEnd m c := by
  unfold PhiEnd Pipeline.routedSat
  rw [Pipeline.ΦD_eq, scopedRest0_eq, ownSems00_eq, hbmPts0_eq]
  simp only [owns_whole]
  iintro ⟨H1, H2, H3, H4, ⟨%d, %hd, H5⟩⟩
  isplitl [H1 H2 H3 H4]
  · isplitl [H1]; · iexact H1
    isplitl [H2]; · iexact H2
    isplitl [H3]; · iexact H3
    iexact H4
  iexists (Function.update (V m c) main_v0 d)
  isplitr
  · ipureintro; unfold PGk; rw [Function.update_self]; exact hd
  rw [routed0_eq, Function.update_self]
  unfold Own
  rw [owns_whole]
  iexact H5

set_option backward.isDefEq.respectTransparency.types false in
set_option maxHeartbeats 1000000 in
/-- The body at the launch's buffers. -/
theorem launch_wp (c : Dev nD) (arg0 : Memref sig .tc .smem S64 .i32) (harg0 : arg0.IsWhole) (G : S64.Idx → BitVec 32)
    (hS : stO (gsOf G) 64 ≤ 6144) (h0 : 0 < stO (gsOf G) 64) :
    iprop(Own (F := F) c arg0 fullShare G ∗ iprop(iprop((∃ d, Own (F := F) c (Memref.whole cc0_scratch7) fullShare d) ∗ (∃ d, Own (F := F) c (Memref.whole cc0_scratch8) fullShare d) ∗ (∃ d, Own (F := F) c (Memref.whole cc0_scratch9) fullShare d) ∗ (∃ d, Own (F := F) c (Memref.whole cc0_scratch10) fullShare d) ∗ (∃ d, Own (F := F) c (Memref.whole cc0_scratch11) fullShare d) ∗ (∃ d, Own (F := F) c (Memref.whole cc0_scratch12) fullShare d) ∗ (∃ d, Own (F := F) c (Memref.whole cc0_scratch0) fullShare d) ∗ (∃ d, Own (F := F) c (Memref.whole cc0_scratch1) fullShare d) ∗ (∃ d, Own (F := F) c (Memref.whole cc0_scratch2) fullShare d) ∗ (∃ d, Own (F := F) c (Memref.whole cc0_scratch3) fullShare d) ∗ (∃ d, Own (F := F) c (Memref.whole cc0_scratch4) fullShare d) ∗ (∃ d, Own (F := F) c (Memref.whole cc0_scratch5) fullShare d) ∗ (∃ d, Own (F := F) c (Memref.whole cc0_scratch6) fullShare d))
          ∗ (∃ r, prngReg c r)
          ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(Own (F := F) c (Memref.whole main_arg0) fullShare (V m c main_arg0) ∗ Own (F := F) c (Memref.whole main_arg2) fullShare (V m c main_arg2) ∗ Own (F := F) c (Memref.whole main_arg3) fullShare (V m c main_arg3))
          ∗ (∃ d, Own (F := F) c (Memref.whole main_v0) fullShare d)) ∗ Owe c)
      ⊢ W c (cc0_moe_w4a8 arg0 harg0 (Memref.whole main_arg0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16) (fun _ =>
          iprop(Own (F := F) c arg0 fullShare G ∗ iprop(iprop((∃ d, Own (F := F) c (Memref.whole cc0_scratch7) fullShare d) ∗ (∃ d, Own (F := F) c (Memref.whole cc0_scratch8) fullShare d) ∗ (∃ d, Own (F := F) c (Memref.whole cc0_scratch9) fullShare d) ∗ (∃ d, Own (F := F) c (Memref.whole cc0_scratch10) fullShare d) ∗ (∃ d, Own (F := F) c (Memref.whole cc0_scratch11) fullShare d) ∗ (∃ d, Own (F := F) c (Memref.whole cc0_scratch12) fullShare d) ∗ (∃ d, Own (F := F) c (Memref.whole cc0_scratch0) fullShare d) ∗ (∃ d, Own (F := F) c (Memref.whole cc0_scratch1) fullShare d) ∗ (∃ d, Own (F := F) c (Memref.whole cc0_scratch2) fullShare d) ∗ (∃ d, Own (F := F) c (Memref.whole cc0_scratch3) fullShare d) ∗ (∃ d, Own (F := F) c (Memref.whole cc0_scratch4) fullShare d) ∗ (∃ d, Own (F := F) c (Memref.whole cc0_scratch5) fullShare d) ∗ (∃ d, Own (F := F) c (Memref.whole cc0_scratch6) fullShare d))
          ∗ (∃ r, prngReg c r)
          ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(Own (F := F) c (Memref.whole main_arg0) fullShare (V m c main_arg0) ∗ Own (F := F) c (Memref.whole main_arg2) fullShare (V m c main_arg2) ∗ Own (F := F) c (Memref.whole main_arg3) fullShare (V m c main_arg3))
          ∗ (∃ d, ⌜Result (gsOf G) (V m c main_arg0) (V m c main_arg2) (V m c main_arg3) d⌝ ∗ Own (F := F) c (Memref.whole main_v0) fullShare d)) ∗ Owe c)) := by
  iintro ⟨HG, ⟨⟨S7, S8, S9, S10, S11, S12, S0, S1, S2, S3, S4, S5, S6⟩, Hg, ⟨V1, V2, V3, V4, V5, V6, V7, V8, V9⟩, ⟨A1, A2, A3⟩, ⟨%Y4, A4⟩⟩, HO⟩
  icases S12 with ⟨%Y17, S12⟩
  iapply (W_wand c (Q := fun _ => Around arg0 (Memref.whole main_arg0) (Memref.whole main_arg2) (Memref.whole main_arg3) (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) cc0_scratch13 cc0_scratch14 cc0_scratch15 cc0_scratch16 c fullShare G (V m c main_arg0) (V m c main_arg2) (V m c main_arg3)
    (accY (gsOf G) (V m c main_arg0) (V m c main_arg2) (V m c main_arg3) Y17 (nV (gsOf G) 64)) (accY (gsOf G) (V m c main_arg0) (V m c main_arg2) (V m c main_arg3) Y17 (nV (gsOf G) 64)))) $$ [HG S7 S8 S9 S10 S11 S12 S0 S1 S2 S3 S4 S5 S6 V1 V2 V3 V4 V5 V6 V7 V8 V9 A1 A2 A3 A4 HO]
  · iapply (body_wp arg0 harg0 (Memref.whole main_arg0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 c hS h0 (fun e he => holds_gsOf G e he) Y17 Y4)
    unfold Around
    ihave HX := (rows_iff (Memref.whole main_arg0) (Memref.whole cc0_scratch9) cc0_scratch15 (V m c main_arg0) c).1 $$ [S9 V7 V8 A1]
    · isplitl [S9]; · iexact S9
      isplitr [A1]
      · isplitl [V7]; · iexact V7
        iexact V8
      iexact A1
    ihave HR := (ring_iff (Memref.whole main_arg2) (Memref.whole main_arg3) (Memref.whole cc0_scratch7) (Memref.whole cc0_scratch8) cc0_scratch13 cc0_scratch14 (V m c main_arg2) (V m c main_arg3) c).1 $$ [S7 S8 V1 V2 V3 V4 V5 V6 A2 A3]
    · isplitl [S7]; · iexact S7
      isplitl [S8]; · iexact S8
      isplitl [V1 V2 V3]
      · isplitl [V1]; · iexact V1
        isplitl [V2]; · iexact V2
        iexact V3
      isplitl [V4 V5 V6]
      · isplitl [V4]; · iexact V4
        isplitl [V5]; · iexact V5
        iexact V6
      isplitl [A2]; · iexact A2
      iexact A3
    icases HX with ⟨HX0, HX1⟩
    isplitl [HG]; · iexact HG
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [HX0]; · iexact HX0
    isplitl [HX1]; · iexact HX1
    isplitl [HR]; · iexact HR
    isplitl [HO]; · iexact HO
    isplitl [S10]; · iexact S10
    isplitl [S11]; · iexact S11
    isplitl [S12]; · iexact S12
    isplitl [A4]; · iexact A4
    iexact V9
  · iintro %_ HA
    unfold Around
    icases HA with ⟨HG, S0, S1, S2, S3, S4, S5, S6, HX0, HX1, HR, HO, S10, S11, S12, A4, V9⟩
    ihave HX := (rows_iff (Memref.whole main_arg0) (Memref.whole cc0_scratch9) cc0_scratch15 (V m c main_arg0) c).2 $$ [HX0 HX1]
    · isplitl [HX0]; · iexact HX0
      iexact HX1
    ihave HR := (ring_iff (Memref.whole main_arg2) (Memref.whole main_arg3) (Memref.whole cc0_scratch7) (Memref.whole cc0_scratch8) cc0_scratch13 cc0_scratch14 (V m c main_arg2) (V m c main_arg3) c).2 $$ [HR]
    · iexact HR
    icases HX with ⟨S9, ⟨V7, V8⟩, A1⟩
    icases HR with ⟨S7, S8, ⟨V1, V2, V3⟩, ⟨V4, V5, V6⟩, A2, A3⟩
    isplitl [HG]; · iexact HG
    isplitr [HO]
    · isplitl [S7 S8 S9 S10 S11 S12 S0 S1 S2 S3 S4 S5 S6]
      · isplitl [S7]; · iexact S7
        isplitl [S8]; · iexact S8
        isplitl [S9]; · iexact S9
        isplitl [S10]; · iexact S10
        isplitl [S11]; · iexact S11
        isplitl [S12]; · iexists _; iexact S12
        isplitl [S0]; · iexact S0
        isplitl [S1]; · iexact S1
        isplitl [S2]; · iexact S2
        isplitl [S3]; · iexact S3
        isplitl [S4]; · iexact S4
        isplitl [S5]; · iexact S5
        iexact S6
      isplitl [Hg]; · iexact Hg
      isplitl [V1 V2 V3 V4 V5 V6 V7 V8 V9]
      · isplitl [V1]; · iexact V1
        isplitl [V2]; · iexact V2
        isplitl [V3]; · iexact V3
        isplitl [V4]; · iexact V4
        isplitl [V5]; · iexact V5
        isplitl [V6]; · iexact V6
        isplitl [V7]; · iexact V7
        isplitl [V8]; · iexact V8
        iexact V9
      isplitl [A1 A2 A3]
      · isplitl [A1]; · iexact A1
        isplitl [A2]; · iexact A2
        iexact A3
      iexists _; isplitr
      · ipureintro; exact ⟨Y17, rfl⟩
      iexact A4
    iexact HO

/-- The group sizes as the region stages them. -/
def staged (c : Dev nD) (t : Fin cfg0.N) : ((cfg0.win 0).xblock (cfg0.grid.coords t)).Idx → Elt F (cfg0.win 0).elt :=
  ((cfg0.win 0).blk t).view.read (Elt F) (V m c (Pipeline.arrRef spec0 0))

/-- The proof data of the region: one window, the group sizes, which the body leaves as they are. -/
def dats (_ : Fin 1) (c : Dev nD) : Dat τ (Elt F) Unit ℕ (Pipeline.UD sig nD τ) ℕ cfg0 c where
  A w := V m c (Pipeline.arrRef spec0 w)
  after w t := match w with
    | ⟨0, _⟩ => staged m c t
  Φ t := if t.val = 0 then Pipeline.ΦDR osem0 spec0 H0 R0 (V m) c else PhiEnd m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = staged m c t := by dsimp only [dats]

theorem before0_0 (c : Dev nD) (t : Fin cfg0.N) (d) : (dats m 0 c).before 0 t d = staged m c t :=
  ((dats m 0 c).before_in_eq_fetched 0 rfl (fun _ => rfl) (fun _ _ _ => rfl) (fun t => by rw [after0_0]; unfold Dat.blockOf staged; rw [A_eq]; try rfl) t d).trans
    (by unfold Dat.fetched Dat.blockOf staged; rw [A_eq]; try rfl)

theorem staged_eq (c : Dev nD) (t : Fin cfg0.N) : (staged m c t : S64.Idx → BitVec 32) = sizes m c := by
  funext i
  show m ((c : Thread nD τ).loc main_arg1) (((cfg0.win 0).blk t).view.emb i) = m ((c : Thread nD τ).loc main_arg1) i
  congr 1
  funext a
  apply Fin.ext
  fin_cases a
  revert i; fin_cases t; intro i; show 0 * 64 + 1 * (i 0).val = (i 0).val; omega

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t))

set_option backward.isDefEq.respectTransparency.types false in
theorem sound_body (c : Dev nD) (hF : Fit m c) (t : Fin cfg0.N) :
    bodyPre m c t ⊢ wp frame (wpE (defs₀ (F := F)) Variants.none c none) Set.univ (bodyAt0 t) (fun _ => bodyPost m c t) := by
  have h1 : stO (gsOf (staged m c t)) 64 ≤ 6144 := by rw [staged_eq]; exact hF.1
  have h2 : 0 < stO (gsOf (staged m c t)) 64 := by rw [staged_eq]; exact hF.2
  unfold bodyPre bodyPost bodyAt0
  have ht : t.val = 0 := by have := t.isLt; have hN : cfg0.N = 1 := rfl; omega
  have e1 : (dats m 0 c).Φ t.succ = PhiEnd m c := by
    dsimp only [dats]
    rw [if_neg (show ¬ (t.succ.val = 0) from Nat.succ_ne_zero t.val)]
  rw [e1, after0_0]
  have e0 : (dats m 0 c).Φ t.castSucc = Pipeline.ΦDR osem0 spec0 H0 R0 (V m) c := by
    dsimp only [dats]
    rw [if_pos (show t.castSucc.val = 0 from ht)]
  rw [e0, PhiDR0_eq]
  unfold Dat.owesAt Pipeline.owesWithin
  rw [show (dats m 0 c).owed t.castSucc = 0 from rfl, show (dats m 0 c).owed t.succ = 0 from rfl]
  iintro ⟨HP, ⟨%Wt, -, HW⟩, ⟨%d0, HG⟩⟩
  ihave HG := (show owns (c : Thread nD τ) (st0_0 t) fullShare ((dats m 0 c).before 0 t d0) ⊢ owns (c : Thread nD τ) (st0_0 t) fullShare (staged m c t) from by rw [before0_0]) $$ HG
  iapply (W_wand c) $$ [HP HW HG]
  · iapply (launch_wp m c (win0_0.stage (cfg0.slots t 0)) (hstage0_0 0) (staged m c t) h1 h2)
    isplitl [HG]; · iexact HG
    isplitl [HP]; · iexact HP
    unfold Owe
    iexists _; iexact HW
  · iintro %_ ⟨HG, HP, HW⟩
    ihave HW := (show Owe (F := F) c ⊢ iprop(∃ Wt, owes (c.tc : Thread nD τ) 0 Wt) from .rfl) $$ HW
    icases HW with ⟨%W', HW⟩
    rw [staged_eq]
    isplitl [HP]; · iapply (PhiEnd_of m c); iexact HP
    isplitl [HW]
    · iexists W'; isplitr; · ipureintro; exact fun _ _ => Or.inl trivial
      iexact HW
    iexact HG

theorem defs₀_row (t : Fin cfg0.N) :
    defs₀ (F := F) .tc cfg0.body (cfg0.bodyArgs t (cfg0.slots t)) = bodyAt0 t := by
  unfold defs₀; rw [Defs.onTc_tc]

theorem body_obligation (c : Dev nD) (hF : Fit m c) : BodyObligation (dats (F := F) m 0 c) (defs₀ (F := F)) Variants.none () Set.univ := fun t => by
  rw [bigSep_W0, bigSep_W0, defs₀_row]
  exact triple_restated (sound_body m c hF t) rfl .rfl fun _ => .rfl

theorem PhiIn (c : Dev nD) :
    iprop(Pipeline.ΦDRG osem0 spec0 H0 R0 (V m) (V m) c ∗ Pipeline.ΦT Pipeline.Prefetch.none ((cfgs 0).toPCfg_adm (Val := Elt F)) c) ⊢ ((dats m 0 c).toR).Φ 0 :=
  (show _ ⊢ Pipeline.ΦDRG osem0 spec0 H0 R0 (V m) (V m) c from by iintro ⟨H, -⟩; iexact H).trans
    (Pipeline.ΦDRG_ΦDR osem0 spec0 H0 R0 (V m) (V m) c)

set_option backward.isDefEq.respectTransparency.types false in
theorem run_main (hF : ∀ c, Fit m c) : θ_run defs (onTc (τ := τ) (main (F := F))) (s₀ m ρ) (fun r => (Pipeline.FramePostR cfgs (dats m) 0 R0 (V m) r
      ∧ ∀ c : Dev nD, ∃ W : (b : Ref sig .tc) → Buf (Elt F) ((c.tc : Thread nD τ).loc b), PGk m c W ∧ ∀ b ∈ R0, r.2.mem ((c.tc : Thread nD τ).loc b) = W b)
      ∧ r.2.sem = fun _ => 0) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  (θ_run defs _ _).mono (fun r (h : (_ ∧ _) ∧ _) => ⟨⟨Pipeline.RDat.FramePostR.toDat cfgs (dats m) 0 R0 (V m) r h.1.1, h.1.2⟩, h.2⟩)
    (Pipeline.RDat.θ_run_frameP_dmaRSat_shared (Q' := _) (fun q => (cfgs q).toPCfg (Val := Elt F)) (fun q => (cfgs q).toPCfg_adm) (0 : Fin 1) launch0.toP.to₀
      osem0 defs₀ Variants.none (fun c => (dats m 0 c).toR) ownSemFacts0 H0 R0
      (H0_sub.trans hrest) (R0_sub.trans (Finset.sdiff_subset_sdiff hrest subset_rfl)) m ρ main
      (hbody := fun c => (body_obligation m c (hF c)).loose.toR)
      (hq := fun c w hw => ((dats m 0 c).toR).q_eq_shareOf_of_share_full launch0.win.arr_inj (fun w => (dats m 0 c).share_full (fun _ => rfl) w) w hw)
      (howed := fun _ _ => rfl) (V := V m) (hmain := hmain m Variants.none) (hA := A_eq m) (hpf := fun _ k => k.elim0) (PG := PGk m)
      (hin := fun c => PhiIn m c) (hout := fun c => .rfl))

/-- The program runs, and its result is what the visits leave. -/
theorem value_run (hF : ∀ c, Fit m c) : θ_run defs (onTc (τ := τ) (main (F := F))) ⟨m, fun _ => 0, ρ⟩ (fun r => (∀ c : Dev nD,
      Result (gsOf (sizes m c)) (V m c main_arg0) (V m c main_arg2) (V m c main_arg3) (r.2.mem ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  (θ_run defs _ _).mono (fun _ h c => ⟨by obtain ⟨W, hW, hb⟩ := h.1.2 c; rw [hb main_v0 (by decide)]; exact hW,
      ((h.1.1 c).2 main_arg0 (Finset.mem_sdiff.mpr ⟨Pipeline.mem_restRefs_of main_arg0 (by decide) (by decide), by decide⟩)),
      ((h.1.1 c).1 0).trans (((dats m 0 c).arrAt_in 0 rfl _).trans (A_eq m c 0)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩) (run_main m ρ hF)

/-- The program runs, leaves its arguments and ends with every counter at zero. -/
theorem frame_run (hF : ∀ c, Fit m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)),
      ((h.1.1 c).1 0).trans (((dats m 0 c).arrAt_in 0 rfl _).trans (A_eq m c 0)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩, h.2⟩) (run_main m ρ hF)
end

end Cert.Model

end
-- ==== Proof.Scale.lean ====
module

public import Idealize.ShloMosaic.PureOps.Ideal
public import Idealize.ShloMosaic.PureOps.Ideal.Laws

/-!
# The scale of a row, over the extended reals

The pattern of an exponent field is a power of two; the search for the field of `y` brackets `y` between two powers;
the scale is the greater and its reciprocal the pattern of the mirrored field. With such a scale the clip never fires.
-/

@[expose] public section

noncomputable section

namespace Cert.Model

open Idealize.ShloMosaic

/-- The pattern with exponent field `n`, read as a number. -/
def pw (w : BitVec 32) : EReal := Ideal.ofBits .f32 (w <<< 23)

theorem pw_eq (n : ℕ) (h0 : 0 < n) (h1 : n < 255) : pw (BitVec.ofNat 32 n) = (((2 : ℝ) ^ ((n : ℤ) - 127) : ℝ) : EReal) := by
  have hex : ((BitVec.ofNat 32 n <<< 23).extractLsb' 23 8).toNat = n := by
    simp [BitVec.extractLsb'_toNat, Nat.shiftLeft_eq, Nat.shiftRight_eq_div_pow]; omega
  have hfr : ((BitVec.ofNat 32 n <<< 23).extractLsb' 0 23).toNat = 0 := by
    simp only [BitVec.extractLsb'_toNat, BitVec.toNat_shiftLeft, BitVec.toNat_ofNat, Nat.shiftLeft_eq, Nat.shiftRight_eq_div_pow]; omega
  have hs : ((BitVec.ofNat 32 n <<< 23).extractLsb' 31 1 == 1#1) = false := by
    rw [beq_eq_false_iff_ne]
    intro h
    have := congrArg BitVec.toNat h
    simp [BitVec.extractLsb'_toNat, Nat.shiftLeft_eq, Nat.shiftRight_eq_div_pow] at this
    omega
  rw [show pw (BitVec.ofNat 32 n) = Ideal.ieee 8 23 (BitVec.ofNat 32 n <<< 23) from rfl]
  unfold Ideal.ieee
  simp only [Nat.reduceAdd, hex, hfr, hs]
  rw [if_neg (by norm_num; omega), if_neg (by omega)]
  refine congrArg (fun r : ℝ => (r : EReal)) ?_
  push_cast
  simp only [Bool.false_eq_true, if_false, one_mul, add_zero]
  rw [show ((n : ℤ) - 127) = 23 + ((n : ℤ) - (2 ^ (8 - 1) - 1) - 23) by ring, zpow_add₀ (by norm_num)]
  norm_num

theorem pw_zero : pw (BitVec.ofNat 32 0) = 0 := by
  unfold pw Ideal.ofBits Ideal.ieee
  simp

theorem pw_top : pw (BitVec.ofNat 32 255) = ⊤ := by
  rw [show pw (BitVec.ofNat 32 255) = Ideal.ieee 8 23 (BitVec.ofNat 32 255 <<< 23) from rfl]
  unfold Ideal.ieee
  dsimp only
  rw [if_pos (by decide), if_pos (by decide), if_neg (by decide)]

/-- One step of the search, on words. -/
def stepS (y : EReal) (b : BitVec 32) (f : BitVec 32) : BitVec 32 := if pw (f + b) ≤ y then f + b else f

/-- `y` lies between the powers `n` and `n + d`. -/
def Bracket (y : EReal) (d : ℕ) (f : BitVec 32) : Prop :=
  ∃ n : ℕ, f = BitVec.ofNat 32 n ∧ n + d ≤ 256 ∧ (n = 0 ∨ pw (BitVec.ofNat 32 n) ≤ y) ∧ (n + d = 256 ∨ y < pw (BitVec.ofNat 32 (n + d)))

theorem Bracket.step {y : EReal} {d : ℕ} {f : BitVec 32} (h : Bracket y (2 * d) f) : Bracket y d (stepS y (BitVec.ofNat 32 d) f) := by
  obtain ⟨n, rfl, hn, hl, hr⟩ := h
  unfold stepS
  have e : BitVec.ofNat 32 n + BitVec.ofNat 32 d = BitVec.ofNat 32 (n + d) := by rw [BitVec.ofNat_add]
  rw [e]
  split
  · next hp => exact ⟨n + d, rfl, by omega, .inr hp, by rw [show n + d + d = n + 2 * d by ring]; exact hr⟩
  · next hp => exact ⟨n, rfl, by omega, hl, .inr (not_le.mp hp)⟩

/-- The search. -/
def searchS (y : EReal) : BitVec 32 :=
  stepS y 1#32 (stepS y 2#32 (stepS y 4#32 (stepS y 8#32 (stepS y 16#32 (stepS y 32#32 (stepS y 64#32 (stepS y 128#32 0#32)))))))

theorem searchS_bracket (y : EReal) : Bracket y 1 (searchS y) := by
  have h0 : Bracket y 256 0#32 := ⟨0, rfl, by omega, .inl rfl, .inl rfl⟩
  exact (((((((h0.step (d := 128)).step (d := 64)).step (d := 32)).step (d := 16)).step (d := 8)).step (d := 4)).step (d := 2)).step (d := 1)

/-- The exponent, as a word. -/
def expS (f : BitVec 32) : BitVec 32 := if f = 0#32 then 0#32 else f - 126#32

/-- What the scale and its reciprocal are: reciprocals of one another, and the scale no less than `y`. -/
theorem scale_spec (y : ℝ) (hy0 : 0 ≤ y) (hy : y < 2 ^ 125) : ∃ σ : ℝ, 0 < σ ∧ y ≤ σ ∧
    pw (expS (searchS y) + 127#32) = (σ : EReal) ∧ pw (127#32 - expS (searchS y)) = ((σ⁻¹ : ℝ) : EReal) := by
  obtain ⟨n, hf, hn, hl, hr⟩ := searchS_bracket y
  rw [hf]
  have hn252 : n ≤ 252 := by
    by_contra hc
    rw [not_le] at hc
    rcases hl with hl | hl
    · omega
    have h1 : ((2 : ℝ) ^ (125 : ℕ)) ≤ y := by
      rcases Nat.lt_or_ge n 255 with h255 | h255
      · rw [pw_eq n (by omega) h255] at hl
        have hl := EReal.coe_le_coe_iff.mp hl
        refine le_trans ?_ hl
        rw [← zpow_natCast]
        exact zpow_le_zpow_right₀ (by norm_num) (by push_cast; omega)
      · have : n = 255 := by omega
        subst this
        rw [pw_top] at hl
        exact absurd (le_antisymm le_top hl) (EReal.coe_ne_top y)
    linarith
  have hr' : y < (2 : ℝ) ^ (((n + 1 : ℕ) : ℤ) - 127) := by
    rcases hr with hr | hr
    · omega
    · rw [pw_eq (n + 1) (by omega) (by omega)] at hr
      exact EReal.coe_lt_coe_iff.mp hr
  rcases Nat.eq_zero_or_pos n with h0 | h0
  · subst h0
    refine ⟨1, one_pos, ?_, ?_, ?_⟩
    · refine hr'.le.trans ?_
      rw [show (1 : ℝ) = (2 : ℝ) ^ (0 : ℤ) by norm_num]
      exact zpow_le_zpow_right₀ (by norm_num) (by norm_num)
    · rw [show expS (BitVec.ofNat 32 0) + 127#32 = BitVec.ofNat 32 127 from by decide, pw_eq 127 (by omega) (by omega)]; norm_num
    · rw [show 127#32 - expS (BitVec.ofNat 32 0) = BitVec.ofNat 32 127 from by decide, pw_eq 127 (by omega) (by omega)]; norm_num
  · have hne : BitVec.ofNat 32 n ≠ 0#32 := by
      intro h; have := congrArg BitVec.toNat h; rw [BitVec.toNat_ofNat, BitVec.toNat_ofNat] at this; omega
    refine ⟨(2 : ℝ) ^ (((n + 1 : ℕ) : ℤ) - 127), by positivity, hr'.le, ?_, ?_⟩
    · rw [show expS (BitVec.ofNat 32 n) + 127#32 = BitVec.ofNat 32 (n + 1) from by
        unfold expS; rw [if_neg hne]; apply BitVec.eq_of_toNat_eq; simp [BitVec.toNat_add, BitVec.toNat_sub]; omega]
      exact pw_eq (n + 1) (by omega) (by omega)
    · rw [show 127#32 - expS (BitVec.ofNat 32 n) = BitVec.ofNat 32 (253 - n) from by
        unfold expS; rw [if_neg hne]; apply BitVec.eq_of_toNat_eq; simp [BitVec.toNat_add, BitVec.toNat_sub]; omega]
      rw [pw_eq (253 - n) (by omega) (by omega), ← zpow_neg]
      congr 2
      push_cast [Nat.cast_sub (show n ≤ 253 by omega)]
      ring

/-- The constant that the rows' maxima are multiplied by. -/
def c448 : ℝ := 9586981 * 2 ^ (-32 : ℤ)

theorem c448_eq : Ideal.ofBits .f32 0x3B124925#32 = (c448 : EReal) := by
  unfold Ideal.ofBits Ideal.ieee c448
  simp

theorem c448_lower : 1 / 448 ≤ c448 := by unfold c448; norm_num
theorem c448_upper : c448 ≤ 1 := by unfold c448; norm_num

theorem f448_eq : Ideal.ofBits .f32 0x43E00000#32 = ((448 : ℝ) : EReal) := by
  unfold Ideal.ofBits Ideal.ieee
  simp
  norm_num [← EReal.coe_mul]
theorem fm448_eq : Ideal.ofBits .f32 0xC3E00000#32 = ((-448 : ℝ) : EReal) := by
  unfold Ideal.ofBits Ideal.ieee
  simp
  norm_num [← EReal.coe_mul]
theorem b448_eq : Ideal.ofBits .bf16 0x43E0#16 = ((448 : ℝ) : EReal) := by
  unfold Ideal.ofBits Ideal.ieee
  simp
  norm_num [← EReal.coe_mul]
theorem bm448_eq : Ideal.ofBits .bf16 0xC3E0#16 = ((-448 : ℝ) : EReal) := by
  unfold Ideal.ofBits Ideal.ieee
  simp
  norm_num [← EReal.coe_mul]

/-- A value whose magnitude times the constant is at most the scale is not clipped. -/
theorem noclip (r σ : ℝ) (hσ : 0 < σ) (h : |r| * c448 ≤ σ) :
    min (((448 : ℝ) : EReal)) (max (((-448 : ℝ) : EReal)) (((r : ℝ) : EReal) * ((σ⁻¹ : ℝ) : EReal))) = ((r : ℝ) : EReal) * ((σ⁻¹ : ℝ) : EReal) := by
  have hc := c448_lower
  have h1 : |r| ≤ 448 * σ := by
    have : |r| * (1 / 448) ≤ σ := le_trans (mul_le_mul_of_nonneg_left hc (abs_nonneg r)) h
    linarith
  have h2 : |r * σ⁻¹| ≤ 448 := by
    rw [abs_mul, abs_of_pos (inv_pos.mpr hσ), ← div_eq_mul_inv, div_le_iff₀ hσ]; exact h1
  obtain ⟨h3, h4⟩ := abs_le.mp h2
  rw [← EReal.coe_mul, max_eq_right (EReal.coe_le_coe_iff.mpr h3), min_eq_right (EReal.coe_le_coe_iff.mpr h4)]

/-- Scaling the terms by the reciprocal of the scale and the sum by the scale is the sum. -/
theorem unscale {ι : Type*} (s : Finset ι) (x w : ι → EReal) (σ : ℝ) (hσ : 0 < σ) :
    (∑ k ∈ s, x k * ((σ⁻¹ : ℝ) : EReal) * w k) * (σ : EReal) = ∑ k ∈ s, x k * w k := by
  have hs : ((σ⁻¹ : ℝ) : EReal) * (σ : EReal) = 1 := by rw [← EReal.coe_mul, inv_mul_cancel₀ hσ.ne']; rfl
  have key : ∀ t : Finset ι, (∑ k ∈ t, x k * ((σ⁻¹ : ℝ) : EReal) * w k) * (σ : EReal) = ∑ k ∈ t, x k * w k := by
    classical
    intro t
    induction t using Finset.induction_on with
    | empty => simp
    | insert a t ha ih =>
      rw [Finset.sum_insert ha, Finset.sum_insert ha, EReal.right_distrib_of_nonneg_of_ne_top (EReal.coe_nonneg.mpr hσ.le) (EReal.coe_ne_top σ), ih]
      congr 1
      rw [show x a * ((σ⁻¹ : ℝ) : EReal) * w a * (σ : EReal) = x a * w a * (((σ⁻¹ : ℝ) : EReal) * (σ : EReal)) by ac_rfl, hs, mul_one]
  exact key s

end Cert.Model

end
-- ==== Proof.Weights.lean ====
/-
  The product of a window by an expert's weights, over the extended reals: one sum over the 2816 columns.
-/
module

public import proofs.«01_k».proof.Proof.Product
public import Idealize.ShloMosaic.PureOps.Ideal
public import Idealize.ShloMosaic.PureOps.Ideal.Laws
public import Idealize.ShloMosaic.Lib.ValueIdx
public import Idealize.ShloMosaic.Lib.Pipeline.Value

@[expose] public section

noncomputable section

namespace Cert.Model

open Idealize.ShloMosaic Idealize.SL.Sem
open Cert.Kernel

variable [Facts]
open Facts₀ Facts

/-- One of the two signed 4-bit codes of a byte. -/
def nibI (b : BitVec 8) (p : ℕ) : ℤ :=
  if (if p = 0 then b.toNat % 16 else b.toNat / 16) ≥ 8 then ((if p = 0 then b.toNat % 16 else b.toNat / 16 : ℕ) : ℤ) - 16
  else ((if p = 0 then b.toNat % 16 else b.toNat / 16 : ℕ) : ℤ)

/-- A code times its group's scale. -/
def wAt (Wt : Vec Ideal S1408x2048 .i8) (Sc : Vec Ideal S22x2048 .f32) (C : Fin 2048) (K : Fin 2816) : EReal :=
  ((nibI (Wt (ix2 (⟨K.val / 2, by omega⟩ : Fin 1408) C)) (K.val % 2) : ℝ) : EReal) * Sc (ix2 (⟨K.val / 128, by omega⟩ : Fin 22) C)

theorem nib_low (b : BitVec 8) : (IntOp.shrsi .vector (IntOp.shli .vector (b.setWidth 32) 28#32) 28#32).toInt = nibI b 0 := by
  revert b; decide +kernel
theorem nib_high (b : BitVec 8) : (IntOp.shrsi .vector (IntOp.shli .vector (b.setWidth 32) 24#32) 28#32).toInt = nibI b 1 := by
  revert b; decide +kernel

theorem amount (n : Fin 256) : IntOp.subi 28#32 (IntOp.muli 4#32 (IntOp.andi (BitVec.ofNat 32 n.val) 1#32)) = if n.val % 2 = 0 then 28#32 else 24#32 := by
  revert n; decide +kernel

theorem nibbles_apply (w : Vec Ideal S128x256 .i8) (r c : Fin 256) :
    nibbles (F := Ideal) w (ix2 r c) = ((nibI (w (ix2 (⟨r.val / 2, by omega⟩ : Fin 128) c)) (r.val % 2) : ℝ) : EReal) := by
  unfold nibbles
  have h1 : shapeCast S256x256 (broadcastTo S128x2x256 (shapeCast S128x1x256 (extui 32 w natLt_8_32) shapeCasts_S128x256_S128x1x256) broadcasts_S128x1x256_S128x2x256) shapeCasts_S128x2x256_S256x256 (ix2 r c)
      = (w (ix2 (⟨r.val / 2, by omega⟩ : Fin 128) c)).setWidth 32 := by
    rw [shapeCast_apply _ _ _ (ValueIdx.ix3 (⟨r.val / 2, by omega⟩ : Fin 128) (⟨r.val % 2, by omega⟩ : Fin 2) c) (by
      rw [Shape.rowMajor_val_three, Shape.rowMajor_val_two]
      show ((r.val / 2) * 2 + r.val % 2) * 256 + c.val = r.val * 256 + c.val
      omega)]
    rw [broadcastTo_apply _ _ _ (ValueIdx.ix3 (⟨r.val / 2, by omega⟩ : Fin 128) (0 : Fin 1) c) (by
      intro a; fin_cases a <;> rfl)]
    rw [shapeCast_apply _ _ _ (ix2 (⟨r.val / 2, by omega⟩ : Fin 128) c) (by
      rw [Shape.rowMajor_val_three, Shape.rowMajor_val_two]
      show (r.val / 2) * 256 + c.val = ((r.val / 2) * 1 + 0) * 256 + c.val
      omega)]
    rfl
  show (((IntOp.shrsi .vector (IntOp.shli .vector (shapeCast S256x256 (broadcastTo S128x2x256 (shapeCast S128x1x256 (extui 32 w natLt_8_32) shapeCasts_S128x256_S128x1x256) broadcasts_S128x1x256_S128x2x256) shapeCasts_S128x2x256_S256x256 (ix2 r c))
    (IntOp.subi 28#32 (IntOp.muli 4#32 (IntOp.andi (BitVec.ofNat 32 (0 * 256 + r.val)) 1#32)))) 28#32).toInt : ℝ) : EReal) = _
  rw [h1, Nat.zero_mul, Nat.zero_add, amount]
  by_cases hp : r.val % 2 = 0
  · rw [if_pos hp, nib_low, hp]
  · rw [if_neg hp, nib_high, show r.val % 2 = 1 by omega]

theorem half_apply (c : FVec Ideal S256x256 .bf16) (g : Fin 2) (s : Vec Ideal S1x256 .f32) (r : Fin 128) (q : Fin 256) :
    half (F := Ideal) c g s (ix2 r q) = c (ix2 (⟨128 * g.val + r.val, by omega⟩ : Fin 256) q) * s (ix2 (0 : Fin 1) q) := by
  show extractStridedSlice S128x256 ![128 * g.val, 0] c (slices_half g) (ix2 r q) * broadcastTo S128x256 (truncf .bf16 s bitsLt_bf16_f32 : FVec Ideal S1x256 .bf16) broadcasts_S1x256_S128x256 (ix2 r q) = _
  rw [extractStridedSlice_apply _ _ _ _ (ix2 (⟨128 * g.val + r.val, by omega⟩ : Fin 256) q) (by
      intro a
      fin_cases a
      · rfl
      · exact (Nat.zero_add _).symm),
    broadcastTo_apply _ _ _ (ix2 (0 : Fin 1) q) (by intro a; fin_cases a <;> rfl)]
  rfl

theorem tile_apply (w : Vec Ideal S128x256 .i8) (s0 s1 : Vec Ideal S1x256 .f32) (r c : Fin 256) :
    tile (F := Ideal) w s0 s1 (ix2 r c) = ((nibI (w (ix2 (⟨r.val / 2, by omega⟩ : Fin 128) c)) (r.val % 2) : ℝ) : EReal)
      * (if r.val < 128 then s0 else s1) (ix2 (0 : Fin 1) c) := by
  unfold tile
  by_cases h : r.val < 128
  · rw [concatenate_pair_apply_left (t := S256x256) (s₁ := S128x256) (s₂ := S128x256) 0 _ _ _ _ rfl (ix2 (⟨r.val, h⟩ : Fin 128) c) (by intro b; fin_cases b <;> rfl), half_apply, if_pos h, ← nibbles_apply]
    congr 2
    funext a
    fin_cases a
    · apply Fin.ext; show 128 * 0 + r.val = r.val; omega
    · rfl
  · rw [concatenate_pair_apply_right (t := S256x256) (s₁ := S128x256) (s₂ := S128x256) 0 _ _ _ _ rfl rfl (ix2 (⟨r.val - 128, by omega⟩ : Fin 128) c)
      (by intro b hb; fin_cases b <;> first | exact absurd rfl hb | rfl)
      (by show r.val - 128 + 128 = r.val; omega), half_apply, if_neg h, ← nibbles_apply]
    congr 2
    funext a
    fin_cases a
    · apply Fin.ext; show 128 * 1 + (r.val - 128) = r.val; omega
    · rfl

section
variable (Xq : Vec Ideal S128x2816 .bf16) (Wt : Vec Ideal S1408x2048 .i8) (Sc : Vec Ideal S22x2048 .f32)

theorem tileOf_apply (k : Fin 11) (j : Fin 8) (r c : Fin 256) :
    tileOf (F := Ideal) Wt Sc k j (ix2 r c) = wAt Wt Sc ⟨256 * j.val + c.val, by omega⟩ ⟨256 * k.val + r.val, by omega⟩ := by
  unfold tileOf wAt
  rw [tile_apply]
  have e1 : (Rect.unit (s := S1408x2048) ![128 * k.val, 256 * j.val] S128x256.size (inb_w k j)).toLoadRect.idx (ix2 (⟨r.val / 2, by omega⟩ : Fin 128) c)
      = ix2 (⟨(256 * k.val + r.val) / 2, by omega⟩ : Fin 1408) (⟨256 * j.val + c.val, by omega⟩ : Fin 2048) := by
    funext a
    fin_cases a
    · apply Fin.ext; show 128 * k.val + 1 * (r.val / 2) = (256 * k.val + r.val) / 2; omega
    · apply Fin.ext; show 256 * j.val + 1 * c.val = 256 * j.val + c.val; omega
  refine congrArg₂ _ ?_ ?_
  · rw [e1]; rw [show (256 * k.val + r.val) % 2 = r.val % 2 by omega]
  · by_cases h : r.val < 128
    · rw [if_pos h]
      refine congrArg Sc (funext fun a => ?_)
      fin_cases a
      · apply Fin.ext; show 2 * k.val + 0 + 1 * 0 = (256 * k.val + r.val) / 128; omega
      · apply Fin.ext; show 256 * j.val + 1 * c.val = 256 * j.val + c.val; omega
    · rw [if_neg h]
      refine congrArg Sc (funext fun a => ?_)
      fin_cases a
      · apply Fin.ext; show 2 * k.val + 1 + 1 * 0 = (256 * k.val + r.val) / 128; omega
      · apply Fin.ext; show 256 * j.val + 1 * c.val = 256 * j.val + c.val; omega

theorem lhsOf_apply (i : Fin 4) (k : Fin 11) (r : Fin 32) (q : Fin 256) :
    lhsOf (F := Ideal) Xq i k (ix2 r q) = Xq (ix2 (⟨32 * i.val + r.val, by omega⟩ : Fin 128) (⟨256 * k.val + q.val, by omega⟩ : Fin 2816)) := by
  unfold lhsOf
  refine congrArg Xq (funext fun a => ?_)
  fin_cases a
  · apply Fin.ext; show 32 * i.val + 1 * r.val = 32 * i.val + r.val; omega
  · apply Fin.ext; show 256 * k.val + 1 * q.val = 256 * k.val + q.val; omega

theorem plain_sum (l : FVec Ideal S32x256 .bf16) (v : FVec Ideal S256x256 .bf16) (r : Fin 32) (c : Fin 256) :
    Ideal.mxuPass (DotDims.plain 32 256 256) l v (ix2 r c) = ∑ q : Fin 256, l (ix2 r q) * v (ix2 q c) := by
  unfold Ideal.mxuPass
  refine Fintype.sum_equiv (ValueIdx.contrEquiv1 (DotDims.plain 32 256 256) 256 rfl rfl) _ _ fun k => ?_
  refine congrArg₂ _ (congrArg l (funext fun a => ?_)) (congrArg v (funext fun a => ?_))
  · fin_cases a <;> rfl
  · fin_cases a <;> rfl

/-- The term of column `K`, nothing past the last. -/
def term (ρ : Fin 128) (C : Fin 2048) (K : ℕ) : EReal :=
  if h : K < 2816 then Xq (ix2 ρ (⟨K, h⟩ : Fin 2816)) * wAt Wt Sc C ⟨K, h⟩ else 0

theorem passAt_apply (i : Fin 4) (j : Fin 8) (k : Fin 11) (r : Fin 32) (c : Fin 256) :
    passAt (F := Ideal) Xq Wt Sc i j k (ix2 r c) = ∑ q ∈ Finset.range 256, term Xq Wt Sc ⟨32 * i.val + r.val, by omega⟩ ⟨256 * j.val + c.val, by omega⟩ (256 * k.val + q) := by
  unfold passAt
  rw [Mxu.Staged.pass_false]
  rw [Finset.sum_range]
  refine (plain_sum _ _ r c).trans (Finset.sum_congr rfl fun q _ => ?_)
  unfold term
  rw [dif_pos (show 256 * k.val + q.val < 2816 by omega), lhsOf_apply, tileOf_apply]

theorem sumTo_apply (i : Fin 4) (j : Fin 8) (n : ℕ) (hn : n < 11) (r : Fin 32) (c : Fin 256) :
    sumTo (F := Ideal) Xq Wt Sc i j n hn (ix2 r c) = ∑ K ∈ Finset.range (256 * (n + 1)), term Xq Wt Sc ⟨32 * i.val + r.val, by omega⟩ ⟨256 * j.val + c.val, by omega⟩ K := by
  induction n with
  | zero =>
    show passAt (F := Ideal) Xq Wt Sc i j ⟨0, hn⟩ (ix2 r c) = _
    rw [passAt_apply]
    simp
  | succ n ih =>
    show sumTo (F := Ideal) Xq Wt Sc i j n (Nat.lt_of_succ_lt hn) (ix2 r c) + passAt (F := Ideal) Xq Wt Sc i j ⟨n + 1, hn⟩ (ix2 r c) = _
    rw [ih, passAt_apply, show 256 * (n + 1 + 1) = 256 * (n + 1) + 256 by ring, Finset.sum_range_add]

/-- What a row of the window and a column get. -/
theorem newAt_apply (Xs : Vec Ideal S128x128 .f32) (ρ : Fin 128) (C : Fin 2048) :
    newAt (F := Ideal) Xq Xs Wt Sc ρ C = (∑ K : Fin 2816, Xq (ix2 ρ K) * wAt Wt Sc C K) * Xs (ix2 ρ (⟨C.val % 128, Nat.mod_lt _ (by decide)⟩ : Fin 128)) := by
  unfold newAt
  show extractStridedSlice S16x128 _ (sumTo (F := Ideal) Xq Wt Sc ⟨ρ.val / 32, _⟩ ⟨C.val / 256, _⟩ 10 _) _ (ix2 (plc ρ) (⟨C.val % 128, Nat.mod_lt _ (by decide)⟩ : Fin 128)) * rowsS Xs (grp ρ) (ix2 (plc ρ) (⟨C.val % 128, Nat.mod_lt _ (by decide)⟩ : Fin 128)) = _
  refine congrArg₂ _ ?_ ?_
  · rw [extractStridedSlice_apply _ _ _ _ (ix2 (⟨ρ.val % 32, by omega⟩ : Fin 32) (⟨C.val % 256, by omega⟩ : Fin 256)) (by
      intro a
      fin_cases a
      · show ρ.val % 32 = 16 * ((ρ.val / 16) % 2) + ρ.val % 16; omega
      · show C.val % 256 = 128 * ((C.val / 128) % 2) + C.val % 128; omega), sumTo_apply, show 256 * (10 + 1) = 2816 by norm_num, Finset.sum_range]
    refine Finset.sum_congr rfl fun K _ => ?_
    unfold term
    rw [dif_pos K.isLt]
    have e1 : (⟨32 * (ρ.val / 32) + ρ.val % 32, by omega⟩ : Fin 128) = ρ := Fin.ext (by show 32 * (ρ.val / 32) + ρ.val % 32 = ρ.val; omega)
    have e2 : (⟨256 * (C.val / 256) + C.val % 256, by omega⟩ : Fin 2048) = C := Fin.ext (by show 256 * (C.val / 256) + C.val % 256 = C.val; omega)
    exact congrArg₂ (fun (a : Fin 128) (b : Fin 2048) => Xq (ix2 a (⟨K.val, K.isLt⟩ : Fin 2816)) * wAt Wt Sc b ⟨K.val, K.isLt⟩) e1 e2
  · unfold rowsS
    refine congrArg Xs (funext fun a => ?_)
    fin_cases a
    · apply Fin.ext; show 16 * (ρ.val / 16) + 1 * (ρ.val % 16) = ρ.val; omega
    · apply Fin.ext; show 0 + 1 * (C.val % 128) = C.val % 128; omega

end

end Cert.Model

end
-- ==== Proof.Rows.lean ====
/-
  The scale and the codes of a row of a window, over the extended reals: the codes are the row times the reciprocal of the scale.
-/
module

public import proofs.«01_k».proof.Proof.Scale
public import proofs.«01_k».proof.Proof.Weights

@[expose] public section

noncomputable section

namespace Cert.Model

open Idealize.ShloMosaic Idealize.SL.Sem
open Cert.Kernel

/-- The greatest finite magnitude of the rows' format. -/
def bigM : ℝ := 255 * 2 ^ (120 : ℕ)

theorem big_small : bigM * c448 < 2 ^ 125 := by unfold bigM c448; norm_num

theorem bigM_eq : Ideal.ofBits .f32 0x7F7F0000#32 = (bigM : EReal) := by
  rw [show Ideal.ofBits .f32 0x7F7F0000#32 = Ideal.ieee 8 23 0x7F7F0000#32 from rfl]
  unfold Ideal.ieee bigM
  dsimp only
  rw [if_neg (by decide), if_neg (by decide)]
  refine congrArg (fun r : ℝ => (r : EReal)) ?_
  rw [show (BitVec.extractLsb' (8 + 23) 1 (0x7F7F0000#32) == 1#1) = false from by decide,
    show (BitVec.extractLsb' 23 8 (0x7F7F0000#32)).toNat = 254 from by decide,
    show (BitVec.extractLsb' 0 23 (0x7F7F0000#32)).toNat = 8323072 from by decide]
  norm_num

theorem negInf_eq : Ideal.ofBits .f32 0xFF800000#32 = ⊥ := by
  rw [show Ideal.ofBits .f32 0xFF800000#32 = Ideal.ieee 8 23 0xFF800000#32 from rfl]
  unfold Ideal.ieee
  dsimp only
  rw [if_pos (by decide), if_pos (by decide), if_pos (by decide)]

/-- The greatest of finitely many reals, as a fold. -/
theorem fold_max_real {ι : Type*} [Fintype ι] [Nonempty ι] (f : ι → EReal) (a : ι → ℝ) (hf : ∀ k, f k = (a k : EReal)) :
    ∃ k, (Finset.univ : Finset ι).fold max ⊥ f = (a k : EReal) ∧ ∀ k', a k' ≤ a k := by
  obtain ⟨k, hk⟩ := Finite.exists_max a
  refine ⟨k, le_antisymm ?_ ?_, hk⟩
  · rw [Finset.fold_max_le]
    exact ⟨bot_le, fun i _ => by rw [hf]; exact EReal.coe_le_coe_iff.mpr (hk i)⟩
  · rw [Finset.le_fold_max]
    exact .inr ⟨k, Finset.mem_univ _, (hf k).ge⟩

theorem coe_max (a b : ℝ) : ((max a b : ℝ) : EReal) = max (a : EReal) (b : EReal) := EReal.coe_strictMono.monotone.map_max

theorem abs_real (r : ℝ) : max (r : EReal) (-(r : EReal)) = ((|r| : ℝ) : EReal) := by
  rw [← EReal.coe_neg, ← coe_max]; rfl

variable [Facts]
open Facts₀ Facts

theorem amaxTo_spec (x : Vec Ideal S16x2816 .bf16) (xr : Fin 16 → Fin 2816 → ℝ) (hx : ∀ p K, x (ix2 p K) = (xr p K : EReal)) (hb : ∀ p K, |xr p K| ≤ bigM)
    (p : Fin 16) (q : Fin 128) (n : ℕ) (hn : n < 22) : ∃ a : ℝ, amaxTo (F := Ideal) x n hn (ix2 p q) = (a : EReal) ∧ 0 ≤ a ∧ a ≤ bigM ∧
      ∀ c (hc : c ≤ n), |xr p ⟨128 * c + q.val, by omega⟩| ≤ a := by
  have hs : ∀ c (hc : c < 22), absf (extractStridedSlice S16x128 ![0, 128 * c] x (slices_chunk ⟨c, hc⟩) : FVec Ideal S16x128 .bf16) (ix2 p q) = ((|xr p ⟨128 * c + q.val, by omega⟩| : ℝ) : EReal) := by
    intro c hc
    rw [← abs_real, ← hx]
    have e : extractStridedSlice S16x128 ![0, 128 * c] x (slices_chunk ⟨c, hc⟩) (ix2 p q) = x (ix2 p (⟨128 * c + q.val, by omega⟩ : Fin 2816)) :=
      extractStridedSlice_apply _ _ _ _ _ (by
        intro a
        fin_cases a
        · exact (Nat.zero_add _).symm
        · rfl)
    show max (extractStridedSlice S16x128 ![0, 128 * c] x (slices_chunk ⟨c, hc⟩) (ix2 p q)) (-(extractStridedSlice S16x128 ![0, 128 * c] x (slices_chunk ⟨c, hc⟩) (ix2 p q))) = _
    rw [e]
  induction n with
  | zero => exact ⟨_, hs 0 hn, abs_nonneg _, hb _ _, fun c hc => by obtain rfl : c = 0 := by omega
                                                                    exact le_refl _⟩
  | succ n ih =>
    obtain ⟨a, h1, h2, h3, h4⟩ := ih (by omega) hs
    refine ⟨max a |xr p ⟨128 * (n + 1) + q.val, by omega⟩|, ?_, le_max_of_le_left h2, max_le h3 (hb _ _), fun c hc => ?_⟩
    · show max (amaxTo (F := Ideal) x n _ (ix2 p q)) (absf (extractStridedSlice S16x128 ![0, 128 * (n + 1)] x (slices_chunk ⟨n + 1, hn⟩) : FVec Ideal S16x128 .bf16) (ix2 p q)) = _
      rw [h1, hs (n + 1) hn, ← coe_max]
    · rcases Nat.lt_or_ge n c with h | h
      · obtain rfl : c = n + 1 := by omega
        exact le_max_right _ _
      · exact (h4 c h).trans (le_max_left _ _)

theorem scaled_spec (x : Vec Ideal S16x2816 .bf16) (xr : Fin 16 → Fin 2816 → ℝ) (hx : ∀ p K, x (ix2 p K) = (xr p K : EReal)) (hb : ∀ p K, |xr p K| ≤ bigM)
    (p : Fin 16) : ∃ y : ℝ, (∀ q, scaled (F := Ideal) x (ix2 p q) = (y : EReal)) ∧ 0 ≤ y ∧ y < 2 ^ 125 ∧ ∀ K, |xr p K| * c448 ≤ y := by
  choose a h1 h2 h3 h4 using fun q => amaxTo_spec x xr hx hb p q 21 (by decide)
  have hc0 : 0 ≤ c448 := by unfold c448; positivity
  obtain ⟨k, hk, hmax⟩ := fold_max_real (ι := Fin 128) (fun q => amaxTo (F := Ideal) x 21 (by decide) (ix2 p q)) a h1
  refine ⟨a k * c448, fun q => ?_, mul_nonneg (h2 k) hc0, lt_of_le_of_lt (mul_le_mul_of_nonneg_right (h3 k) hc0) big_small, fun K => mul_le_mul_of_nonneg_right ?_ hc0⟩
  · rw [EReal.coe_mul, ← hk, ← c448_eq]
    unfold scaled
    show broadcastTo S16x128 _ broadcasts_S16x1_S16x128 (ix2 p q) * Ideal.ofBits .f32 0x3B124925#32 = _
    refine congrArg₂ _ ?_ rfl
    rw [broadcastTo_apply _ _ _ (ix2 p (0 : Fin 1)) (by intro a; fin_cases a <;> rfl)]
    rw [shapeCast_apply _ _ _ (ix2 p (0 : Fin 1)) rfl]
    rw [shapeCast_apply _ _ _ (ValueIdx.ix1 p) (by
      rw [Shape.rowMajor_val_one, Shape.rowMajor_val_two]
      show p.val = p.val * 1 + 0
      omega)]
    refine (Ideal.multiReduction_maximumf_single _ _ _ _ _ _).trans ?_
    rw [show (FloatOps.ofBits .f32 0xFF800000#32 : Ideal .f32) = ⊥ from negInf_eq]
    refine congrArg (Finset.fold max ⊥ · _) (funext fun q' => ?_)
    refine congrArg (amaxTo (F := Ideal) x 21 (by decide)) (funext fun b => ?_)
    fin_cases b <;> rfl
  · refine le_trans ?_ (hmax ⟨K.val % 128, Nat.mod_lt _ (by decide)⟩)
    have := h4 ⟨K.val % 128, Nat.mod_lt _ (by decide)⟩ (K.val / 128) (by omega)
    rwa [show (⟨128 * (K.val / 128) + K.val % 128, by omega⟩ : Fin 2816) = K from Fin.ext (by show 128 * (K.val / 128) + K.val % 128 = K.val; omega)] at this

theorem shl23 (w : BitVec 32) : IntOp.shli .vector w 23#32 = w <<< 23 := rfl

theorem searchStep_apply (y : FVec Ideal S16x128 .f32) (b : BitVec 32) (f : IVec S16x128 32) (i : S16x128.Idx) :
    searchStep (F := Ideal) y b f i = stepS (y i) b (f i) := by
  unfold searchStep stepS
  show Scalar.select (Ideal.cmp .oge (y i) (pw (f i + b))) (f i + b) (f i) = _
  unfold Ideal.cmp Scalar.select
  by_cases h : pw (f i + b) ≤ y i <;> simp [h]

theorem fieldOf_apply (y : FVec Ideal S16x128 .f32) (i : S16x128.Idx) : fieldOf (F := Ideal) y i = searchS (y i) := by
  unfold fieldOf searchS
  simp only [searchStep_apply]
  rfl

theorem expOf_apply (f : IVec S16x128 32) (i : S16x128.Idx) : expOf f i = expS (f i) := by
  unfold expOf expS
  show Scalar.select (IntOp.cmpi .eq (f i) 0#32) 0#32 (f i - 126#32) = _
  by_cases h : f i = 0#32
  · rw [if_pos h, h]; rfl
  · rw [if_neg h, show IntOp.cmpi .eq (f i) 0#32 = 0#1 from ?_]
    · rfl
    · unfold IntOp.cmpi; simp only [beq_eq_false_iff_ne.mpr h]; rfl

theorem quant_spec (X : Vec Ideal S128x2816 .bf16) (xr : Fin 128 → Fin 2816 → ℝ) (hx : ∀ p K, X (ix2 p K) = (xr p K : EReal)) (hb : ∀ p K, |xr p K| ≤ bigM)
    (ρ : Fin 128) : ∃ σ : ℝ, 0 < σ ∧ (∀ l, xsOf (F := Ideal) X (ix2 ρ l) = (σ : EReal)) ∧
      ∀ K, xqOf (F := Ideal) X (ix2 ρ K) = X (ix2 ρ K) * ((σ⁻¹ : ℝ) : EReal) := by
  have hrow : ∀ (g : Fin 8) (p : Fin 16) (K : Fin 2816), rowsX X g (ix2 p K) = X (ix2 (⟨16 * g.val + p.val, by omega⟩ : Fin 128) K) := by
    intro g p K
    unfold rowsX
    refine congrArg X (funext fun a => ?_)
    fin_cases a
    · apply Fin.ext; show 16 * g.val + 1 * p.val = 16 * g.val + p.val; omega
    · apply Fin.ext; show 0 + 1 * K.val = K.val; omega
  have hself : (⟨16 * (grp ρ).val + (plc ρ).val, by omega⟩ : Fin 128) = ρ := Fin.ext (by show 16 * (ρ.val / 16) + ρ.val % 16 = ρ.val; omega)
  obtain ⟨y, h1, h2, h3, h4⟩ := scaled_spec (rowsX X (grp ρ)) (fun p K => xr ⟨16 * (grp ρ).val + p.val, by omega⟩ K) (fun p K => by rw [hrow, hx]) (fun p K => hb _ _) (plc ρ)
  obtain ⟨σ, hσ, hy, hs, hi⟩ := scale_spec y h2 h3
  have he : ∀ q, expX X (grp ρ) (ix2 (plc ρ) q) = expS (searchS (y : EReal)) := by
    intro q
    unfold expX
    rw [expOf_apply, fieldOf_apply, h1]
  refine ⟨σ, hσ, fun l => ?_, fun K => ?_⟩
  · show pw (expX (F := Ideal) X (grp ρ) (ix2 (plc ρ) l) + 127#32) = _
    rw [he, hs]
  · unfold xqOf codes
    have e : extractStridedSlice S16x128 ![0, 128 * (K.val / 128)] (rowsX X (grp ρ)) (slices_chunk ⟨K.val / 128, by omega⟩) (ix2 (plc ρ) (⟨K.val % 128, Nat.mod_lt _ (by decide)⟩ : Fin 128)) = X (ix2 ρ K) := by
      rw [extractStridedSlice_apply _ _ _ _ (ix2 (plc ρ) K) (by
        intro a
        fin_cases a
        · exact (Nat.zero_add _).symm
        · show K.val = 128 * (K.val / 128) + K.val % 128; omega), hrow, hself]
    show min (Ideal.ofBits .bf16 0x43E0#16) (max (Ideal.ofBits .bf16 0xC3E0#16)
      (extractStridedSlice S16x128 ![0, 128 * (K.val / 128)] (rowsX X (grp ρ)) (slices_chunk ⟨K.val / 128, by omega⟩) (ix2 (plc ρ) (⟨K.val % 128, Nat.mod_lt _ (by decide)⟩ : Fin 128))
        * pw (127#32 - expX (F := Ideal) X (grp ρ) (ix2 (plc ρ) (⟨K.val % 128, Nat.mod_lt _ (by decide)⟩ : Fin 128))))) = _
    rw [e, he, hi, b448_eq, bm448_eq, hx]
    have h5 := h4 K
    simp only [hself] at h5
    exact noclip _ σ hσ (h5.trans hy)

/-- What a row of the window and a column get: the row times the expert's weights. -/
theorem newAt_exact (X : Vec Ideal S128x2816 .bf16) (xr : Fin 128 → Fin 2816 → ℝ) (hx : ∀ p K, X (ix2 p K) = (xr p K : EReal)) (hb : ∀ p K, |xr p K| ≤ bigM)
    (Wt : Vec Ideal S1408x2048 .i8) (Sc : Vec Ideal S22x2048 .f32) (ρ : Fin 128) (C : Fin 2048) :
    newAt (F := Ideal) (xqOf X) (xsOf X) Wt Sc ρ C = ∑ K : Fin 2816, X (ix2 ρ K) * wAt Wt Sc C K := by
  obtain ⟨σ, hσ, hs, hq⟩ := quant_spec X xr hx hb ρ
  rw [newAt_apply, hs, Finset.sum_congr rfl fun K _ => by rw [hq K]]
  exact unscale _ _ _ σ hσ

end Cert.Model

end
-- ==== Proof.Pre.lean ====
module

public import proofs.«01_k».proof.Pre_groups_fill
public import proofs.«01_k».proof.Pre_rows_fill
public import proofs.«01_k».proof.Proof.Frame
public import proofs.«01_k».proof.Proof.Rows
public import Idealize.ShloMosaic.Lib.ReduceAll
public import Idealize.ShloMosaic.Lib.Affine
public import Idealize.ShloMosaic.Lib.Routing.Ops

/-!
# The preconditions

The predicates on the arguments, read as facts about naturals and reals: the group sizes add up to the number of rows,
and every row element is a real of at most the largest finite bfloat16's magnitude.
-/

@[expose] public section

noncomputable section

namespace Cert.Model

open Idealize.ShloMosaic Idealize.ShloMosaic.Routing

/-- The side conditions of the operations of the predicate on the group sizes. -/
theorem groupFacts : Cert.Pre_groups_fill.Facts where
  bcast_S_S64 := by decide
  reducesTo_S64_S_d0 := by decide
  h_S_ := by decide

/-- The side conditions of the operations of the predicate on the group sizes and the rows. -/
theorem preFacts : Cert.Pre_rows_fill.Facts where
  bcast_S_S64 := by decide
  reducesTo_S64_S_d0 := by decide
  h_S_ := by decide
  bitsLt_bf16_f32 := by decide
  bcast_S_S6144x2816 := by decide
  reducesTo_S6144x2816_S_d0_1 := by decide

theorem stO_le {gs : ℕ → ℕ} (h : ∀ e, gs e ≤ 6144) (n : ℕ) : stO gs n ≤ n * 6144 := by
  induction n with
  | zero => exact Nat.zero_le _
  | succ n ih => have := h n; show stO gs n + gs n ≤ _; omega

theorem sum_stO (gs : ℕ → ℕ) (n : ℕ) : ((List.range n).map gs).sum = stO gs n := by
  induction n with
  | zero => rfl
  | succ n ih => rw [List.range_succ, List.map_append, List.sum_append, ih]; simp [stO]

theorem toNat_le {w : BitVec 32} (h0 : (0#32).toInt ≤ w.toInt) (h1 : w.toInt ≤ (6144#32).toInt) : w.toNat ≤ 6144 := by
  rw [show (0#32).toInt = 0 from by decide] at h0
  rw [show (6144#32).toInt = 6144 from by decide] at h1
  rw [BitVec.toInt_eq_toNat_cond] at h0 h1
  have := w.isLt
  split at h0 <;> omega

/-- The group sizes fill the rows. -/
theorem sum_of_pre {F : FTy → Type} [FloatOps F] [Cert.Pre_groups_fill.Facts] (x : FVec F Cert.Pre_groups_fill.S6144x2816 .bf16) (G : IVec Cert.Pre_groups_fill.S64 32)
    (w : IVec Cert.Pre_groups_fill.S64x1408x2048 8) (s : FVec F Cert.Pre_groups_fill.S64x22x2048 .f32)
    (h : Cert.Pre_groups_fill.fn (F := F) x G w s = (fun _ => 1#1)) : stO (gsOf G) 64 = 6144 := by
  have h := congrFun h (fun a => a.elim0)
  unfold Cert.Pre_groups_fill.fn at h
  obtain ⟨h1, h2⟩ := IntOp.andi_eq_one.1 h
  have hle : ∀ i, (G i).toNat ≤ 6144 := by
    intro i
    haveI : Subsingleton Cert.Pre_groups_fill.S_.Idx := ⟨fun a b => funext fun k => k.elim0⟩
    have h3 := Host.reduce_andi_all _ _ _ _ _ h1 i
    obtain ⟨h4, h5⟩ := IntOp.andi_eq_one.1 h3
    exact toNat_le (IntOp.cmpi_sge.1 h4) (IntOp.cmpi_sle.1 h5)
  have hg : ∀ e, gsOf G e ≤ 6144 := by
    intro e
    unfold gsOf
    split
    · exact hle _
    · exact Nat.zero_le _
  have h6 := IntOp.cmpi_eq.1 h2
  have h7 := reduce_sum (N := 64) G (gsOf G) (fun i => holds_gsOf G i.val i.isLt _ (fun a => by fin_cases a; rfl)) Cert.Pre_groups_fill.Facts.reducesTo_S64_S_d0 Cert.Pre_groups_fill.Facts.h_S_
  have h8 := h7.symm.trans h6
  rw [sum_stO] at h8
  have h9 := congrArg BitVec.toNat h8
  have := stO_le hg 64
  rw [BitVec.toNat_ofNat, Nat.mod_eq_of_lt (by omega)] at h9
  exact h9

/-- The predicate on the sizes and the rows implies the one on the sizes. -/
theorem groups_of_rows {F : FTy → Type} [FloatOps F] [Cert.Pre_groups_fill.Facts] [Cert.Pre_rows_fill.Facts] (x : FVec F Cert.Pre_rows_fill.S6144x2816 .bf16)
    (G : IVec Cert.Pre_rows_fill.S64 32) (w : IVec Cert.Pre_rows_fill.S64x1408x2048 8) (s : FVec F Cert.Pre_rows_fill.S64x22x2048 .f32)
    (h : Cert.Pre_rows_fill.fn (F := F) x G w s = (fun _ => 1#1)) : Cert.Pre_groups_fill.fn (F := F) x G w s = (fun _ => 1#1) := by
  funext i
  have h := congrFun h i
  unfold Cert.Pre_rows_fill.fn at h
  unfold Cert.Pre_groups_fill.fn
  exact (IntOp.andi_eq_one.1 h).1

/-- An extended real whose magnitude a real bounds is a real. -/
theorem real_of_abs_le {y : EReal} {b : ℝ} (h : max y (-y) ≤ (b : EReal)) : ∃ r : ℝ, y = (r : EReal) ∧ |r| ≤ b := by
  induction y using EReal.rec with
  | bot => simp at h
  | top => simp at h
  | coe r => exact ⟨r, rfl, by rw [abs_real] at h; exact EReal.coe_le_coe_iff.1 h⟩

/-- An element whose magnitude passes the comparison with the bound is a real within it. -/
theorem real_of_cmp {s : Shape} (x : FVec Ideal s .bf16) (k : FVec Ideal s .f32) (hb : FTy.bits .bf16 < FTy.bits .f32) (i : s.Idx)
    (hk : k i = Ideal.ofBits .f32 0x7F7F0000#32) (h : cmpf (F := Ideal) .ole (Host.absf (F := Ideal) (extf (F := Ideal) .f32 x hb)) k i = 1#1) :
    ∃ r : ℝ, x i = (r : EReal) ∧ |r| ≤ bigM := by
  refine real_of_abs_le ?_
  have h1 : Ideal.cmp .ole (max (x i) (-(x i))) (k i) = 1#1 := h
  rw [hk, bigM_eq] at h1
  by_contra hn
  unfold Ideal.cmp at h1
  simp [hn] at h1

/-- Every row element is a real of at most the largest finite bfloat16's magnitude. -/
theorem real_of_pre [Cert.Pre_rows_fill.Facts] (x : FVec Ideal Cert.Pre_rows_fill.S6144x2816 .bf16) (G : IVec Cert.Pre_rows_fill.S64 32)
    (w : IVec Cert.Pre_rows_fill.S64x1408x2048 8) (s : FVec Ideal Cert.Pre_rows_fill.S64x22x2048 .f32)
    (h : Cert.Pre_rows_fill.fn (F := Ideal) x G w s = (fun _ => 1#1)) (i : Cert.Pre_rows_fill.S6144x2816.Idx) :
    ∃ r : ℝ, x i = (r : EReal) ∧ |r| ≤ bigM := by
  have h := congrFun h (fun a => a.elim0)
  unfold Cert.Pre_rows_fill.fn at h
  obtain ⟨h0, hx⟩ := IntOp.andi_eq_one.1 h
  haveI : Subsingleton Cert.Pre_rows_fill.S_.Idx := ⟨fun a b => funext fun k => k.elim0⟩
  exact real_of_cmp x _ _ i rfl (Host.reduce_andi_all _ _ _ _ _ hx i)

theorem fit_of_sum {F : FTy → Type} [FloatOps F] (m : (ℓ : Loc Cert.Kernel.nD Cert.Kernel.τ Cert.Kernel.sig) → Buf (Elt F) ℓ) (c : Dev Cert.Kernel.nD)
    (h : stO (gsOf (sizes m c)) 64 = 6144) : Fit m c := ⟨h.le, by rw [h]; decide⟩

end Cert.Model

end
-- ==== Proof.RefRun.lean ====
module

public import proofs.«01_k».proof.ReferenceIdeal
public import Idealize.ShloMosaic.Lib.StableHlo.Run
public import Idealize.ShloMosaic.Lib.Quiescent

/-!
# The run of the reference

The reference is a straight line of host operations: its run ends with every buffer at the operations' fold, and the
result's buffer at `out`, the composition of the quantiser, the unpacked weights, the products and the choice of expert.
-/

@[expose] public section

set_option maxRecDepth 16384

noncomputable section

namespace Cert.RefRun

open Idealize.ShloMosaic Idealize.ShloMosaic.TcCoe Idealize.ShloMosaic.StableHlo Idealize.SL.Sem
open Cert.ReferenceIdeal Cert.ReferenceIdeal.Facts₀ Cert.ReferenceIdeal.Facts

/-- The side conditions of the reference's operations. -/
theorem refFacts : Cert.ReferenceIdeal.Facts where
  bitsLt_bf16_f32 := by decide
  reducesTo_S6144x2816_S6144_d1 := by decide
  h_S_ := by decide
  bcast_S_S6144 := by decide
  bcast_S6144_S6144x1_0 := by decide
  bcast_S6144x1_S6144x2816_0_1 := by decide
  bcast_S_S6144x2816 := by decide
  natLt_8_32 := by decide
  slicesBy_S6144x2816_S6144x1408_0s1_0s2 := by decide
  bcast_S_S64x1408x2048 := by decide
  shapeCasts_S64x1408x2048_S64x22x64x2048 := by decide
  bcast_S64x22x2048_S64x22x1x2048_0_1_3 := by decide
  bcast_S64x22x1x2048_S64x22x64x2048_0_1_2_3 := by decide
  shapeCasts_S64x22x64x2048_S64x1408x2048 := by decide
  slicesBy_S6144x2816_S6144x1408_0s1_1s2 := by decide
  bcast_S64_S1x64_1 := by decide
  bcast_S64_S64x1_0 := by decide
  bcast_S1x64_S64x64_0_1 := by decide
  bcast_S64x1_S64x64_0_1 := by decide
  bcast_S_S64x64 := by decide
  reducesTo_S64x64_S64_d1 := by decide
  bcast_S1x64_S6144x64_0_1 := by decide
  bcast_S6144x1_S6144x64_0_1 := by decide
  bcast_S6144x64_S6144x64x1_0_1 := by decide
  bcast_S6144x64x1_S6144x64x2048_0_1_2 := by decide
  bcast_S_S6144x64x2048 := by decide
  reducesTo_S6144x64x2048_S6144x2048_d1 := by decide
  bcast_S6144x1_S6144x2048_0_1 := by decide
  dot_S6144x1408_S64x1408x2048_S6144x64x2048_1_1_0_02_n_n_wf := by decide

section
variable {F : FTy → Type} [FloatOps F] [Facts]

/-- The greatest magnitude of each row. -/
def amaxR (x : FVec F S6144x2816 .bf16) : FVec F S6144 .f32 :=
  Host.reduce FloatOps.maximumf (Host.absf (extf .f32 x bitsLt_bf16_f32)) (constant S_ .f32 0xFF800000#32) reducesTo_S6144x2816_S6144_d1 h_S_

/-- Two, in every row. -/
def twoR : FVec F S6144 .f32 := broadcastInDim S6144 ![] bcast_S_S6144 (constant S_ .f32 0x40000000#32)

/-- The exponent of each row's scale. -/
def expR (x : FVec F S6144x2816 .bf16) : FVec F S6144 .f32 :=
  select (cmpf .oeq (amaxR x) (broadcastInDim S6144 ![] bcast_S_S6144 (constant S_ .f32 0x00000000#32)))
    (broadcastInDim S6144 ![] bcast_S_S6144 (constant S_ .f32 0x00000000#32))
    (addf (Host.floor (Host.divf (Host.log (mulf (amaxR x) (broadcastInDim S6144 ![] bcast_S_S6144 (constant S_ .f32 0x3B124925#32)))) (Host.log twoR)))
      (broadcastInDim S6144 ![] bcast_S_S6144 (constant S_ .f32 0x3F800000#32)))

/-- The codes of the activations. -/
def codesR (x : FVec F S6144x2816 .bf16) : FVec F S6144x2816 .bf16 :=
  truncf .bf16
    (minimumf (broadcastInDim S6144x2816 ![] bcast_S_S6144x2816 (constant S_ .f32 0x43E00000#32))
      (maximumf (broadcastInDim S6144x2816 ![] bcast_S_S6144x2816 (constant S_ .f32 0xC3E00000#32))
        (mulf (extf .f32 x bitsLt_bf16_f32)
          (broadcastInDim S6144x2816 ![0, 1] bcast_S6144x1_S6144x2816_0_1
            (broadcastInDim S6144x1 ![0] bcast_S6144_S6144x1_0 (Host.powf twoR (Host.negf (expR x))))))))
    bitsLt_bf16_f32

/-- A code's sign put back: the sixteen values of four bits, from minus eight. -/
def signR (n : IVec S64x1408x2048 32) : IVec S64x1408x2048 32 :=
  select (cmpi .sge n (broadcastInDim S64x1408x2048 ![] bcast_S_S64x1408x2048 (constantI S_ 32 8#32)))
    (subi n (broadcastInDim S64x1408x2048 ![] bcast_S_S64x1408x2048 (constantI S_ 32 16#32))) n

/-- The weights of one of a byte's two codes: the code times its group's scale. -/
def weightsR (n : IVec S64x1408x2048 32) (s : FVec F S64x22x2048 .f32) : FVec F S64x1408x2048 .bf16 :=
  shapeCast S64x1408x2048
    (mulf (shapeCast S64x22x64x2048 (sitofp .bf16 (signR n)) shapeCasts_S64x1408x2048_S64x22x64x2048)
      (broadcastInDim S64x22x64x2048 ![0, 1, 2, 3] bcast_S64x22x1x2048_S64x22x64x2048_0_1_2_3
        (broadcastInDim S64x22x1x2048 ![0, 1, 3] bcast_S64x22x2048_S64x22x1x2048_0_1_3 (truncf .bf16 s bitsLt_bf16_f32))))
    shapeCasts_S64x22x64x2048_S64x1408x2048

/-- Every expert's product with every row. -/
def accR (x : FVec F S6144x2816 .bf16) (w : IVec S64x1408x2048 8) (s : FVec F S64x22x2048 .f32) : FVec F S6144x64x2048 .f32 :=
  addf
    (Host.dotGeneral dot_S6144x1408_S64x1408x2048_S6144x64x2048_1_1_0_02_n_n none
      (Host.slice S6144x1408 ![0, 0] ![1, 2] (codesR x) slicesBy_S6144x2816_S6144x1408_0s1_0s2)
      (weightsR (andi (extui 32 w natLt_8_32) (broadcastInDim S64x1408x2048 ![] bcast_S_S64x1408x2048 (constantI S_ 32 15#32))) s))
    (Host.dotGeneral dot_S6144x1408_S64x1408x2048_S6144x64x2048_1_1_0_02_n_n none
      (Host.slice S6144x1408 ![0, 1] ![1, 2] (codesR x) slicesBy_S6144x2816_S6144x1408_0s1_1s2)
      (weightsR (Host.shrsi (extui 32 w natLt_8_32) (broadcastInDim S64x1408x2048 ![] bcast_S_S64x1408x2048 (constantI S_ 32 4#32))) s))

/-- Where each expert's rows end. -/
def endsR (g : IVec S64 32) : IVec S64 32 :=
  Host.reduce IntOp.addi
    (select
      (cmpi .sle (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0))))
      (broadcastInDim S64x64 ![0, 1] bcast_S1x64_S64x64_0_1 (broadcastInDim S1x64 ![1] bcast_S64_S1x64_1 g))
      (broadcastInDim S64x64 ![] bcast_S_S64x64 (constantI S_ 32 0#32)))
    (constantI S_ 32 0#32) reducesTo_S64x64_S64_d1 h_S_

/-- Whether a row is one of an expert's. -/
def mineR (g : IVec S64 32) : IVec S6144x64 1 :=
  andi
    (cmpi .sle (broadcastInDim S6144x64 ![0, 1] bcast_S1x64_S6144x64_0_1 (broadcastInDim S1x64 ![1] bcast_S64_S1x64_1 (subi (endsR g) g)))
      (broadcastInDim S6144x64 ![0, 1] bcast_S6144x1_S6144x64_0_1 (broadcastInDim S6144x1 ![0] bcast_S6144_S6144x1_0 (iotaInDim S6144 32 0))))
    (cmpi .slt (broadcastInDim S6144x64 ![0, 1] bcast_S6144x1_S6144x64_0_1 (broadcastInDim S6144x1 ![0] bcast_S6144_S6144x1_0 (iotaInDim S6144 32 0)))
      (broadcastInDim S6144x64 ![0, 1] bcast_S1x64_S6144x64_0_1 (broadcastInDim S1x64 ![1] bcast_S64_S1x64_1 (endsR g))))

/-- What the reference computes from the four arguments. -/
def out (x : FVec F S6144x2816 .bf16) (g : IVec S64 32) (w : IVec S64x1408x2048 8) (s : FVec F S64x22x2048 .f32) : FVec F S6144x2048 .bf16 :=
  truncf .bf16
    (mulf
      (Host.reduceAdd
        (select
          (broadcastInDim S6144x64x2048 ![0, 1, 2] bcast_S6144x64x1_S6144x64x2048_0_1_2 (broadcastInDim S6144x64x1 ![0, 1] bcast_S6144x64_S6144x64x1_0_1 (mineR g)))
          (accR x w s) (broadcastInDim S6144x64x2048 ![] bcast_S_S6144x64x2048 (constant S_ .f32 0x00000000#32)))
        (constant S_ .f32 0x00000000#32) reducesTo_S6144x64x2048_S6144x2048_d1 h_S_)
      (broadcastInDim S6144x2048 ![0, 1] bcast_S6144x1_S6144x2048_0_1 (broadcastInDim S6144x1 ![0] bcast_S6144_S6144x1_0 (Host.powf twoR (expR x)))))
    bitsLt_bf16_f32

/-- The reference's operations in order, its functions' calls unfolded. -/
abbrev ops : List (HloOp τ sig (Elt F)) :=
  [ unary main_arg0 main_v0 ((extf .f32 · bitsLt_bf16_f32) : (⟨S6144x2816, .bf16⟩ : BufTy).Contents (Elt F) → (⟨S6144x2816, .f32⟩ : BufTy).Contents (Elt F)),
    unary main_v0 main_v1 (Host.absf : (⟨S6144x2816, .f32⟩ : BufTy).Contents (Elt F) → (⟨S6144x2816, .f32⟩ : BufTy).Contents (Elt F)),
    nullary main_cst (constant S_ .f32 0xFF800000#32),
    binary main_v1 main_cst main_v2 ((fun x v => Host.reduce FloatOps.maximumf x v reducesTo_S6144x2816_S6144_d1 h_S_) : (⟨S6144x2816, .f32⟩ : BufTy).Contents (Elt F) → (⟨S_, .f32⟩ : BufTy).Contents (Elt F) → (⟨S6144, .f32⟩ : BufTy).Contents (Elt F)),
    nullary main_cst_0 (constant S_ .f32 0x40000000#32),
    unary main_cst_0 main_v3 (broadcastInDim S6144 ![] bcast_S_S6144 : (⟨S_, .f32⟩ : BufTy).Contents (Elt F) → (⟨S6144, .f32⟩ : BufTy).Contents (Elt F)),
    nullary main_cst_1 (constant S_ .f32 0x3B124925#32),
    unary main_cst_1 main_v4 (broadcastInDim S6144 ![] bcast_S_S6144 : (⟨S_, .f32⟩ : BufTy).Contents (Elt F) → (⟨S6144, .f32⟩ : BufTy).Contents (Elt F)),
    binary main_v2 main_v4 main_v5 (mulf : (⟨S6144, .f32⟩ : BufTy).Contents (Elt F) → (⟨S6144, .f32⟩ : BufTy).Contents (Elt F) → (⟨S6144, .f32⟩ : BufTy).Contents (Elt F)),
    unary main_v5 main_v6 (Host.log : (⟨S6144, .f32⟩ : BufTy).Contents (Elt F) → (⟨S6144, .f32⟩ : BufTy).Contents (Elt F)),
    unary main_v3 main_v7 (Host.log : (⟨S6144, .f32⟩ : BufTy).Contents (Elt F) → (⟨S6144, .f32⟩ : BufTy).Contents (Elt F)),
    binary main_v6 main_v7 main_v8 (Host.divf : (⟨S6144, .f32⟩ : BufTy).Contents (Elt F) → (⟨S6144, .f32⟩ : BufTy).Contents (Elt F) → (⟨S6144, .f32⟩ : BufTy).Contents (Elt F)),
    unary main_v8 main_v9 (Host.floor : (⟨S6144, .f32⟩ : BufTy).Contents (Elt F) → (⟨S6144, .f32⟩ : BufTy).Contents (Elt F)),
    nullary main_cst_2 (constant S_ .f32 0x3F800000#32),
    unary main_cst_2 main_v10 (broadcastInDim S6144 ![] bcast_S_S6144 : (⟨S_, .f32⟩ : BufTy).Contents (Elt F) → (⟨S6144, .f32⟩ : BufTy).Contents (Elt F)),
    binary main_v9 main_v10 main_v11 (addf : (⟨S6144, .f32⟩ : BufTy).Contents (Elt F) → (⟨S6144, .f32⟩ : BufTy).Contents (Elt F) → (⟨S6144, .f32⟩ : BufTy).Contents (Elt F)),
    nullary main_cst_3 (constant S_ .f32 0x00000000#32),
    unary main_cst_3 main_v12 (broadcastInDim S6144 ![] bcast_S_S6144 : (⟨S_, .f32⟩ : BufTy).Contents (Elt F) → (⟨S6144, .f32⟩ : BufTy).Contents (Elt F)),
    binary main_v2 main_v12 main_v13 (cmpf .oeq : (⟨S6144, .f32⟩ : BufTy).Contents (Elt F) → (⟨S6144, .f32⟩ : BufTy).Contents (Elt F) → (⟨S6144, .i1⟩ : BufTy).Contents (Elt F)),
    nullary main_cst_4 (constant S_ .f32 0x00000000#32),
    TRef.unary (.of main_cst_4 : TRef sig ⟨S_, .f32⟩) main_call0.v0 id,
    TRef.unary main_call0.v0 main_call0.v1 (broadcastInDim S6144 ![] bcast_S_S6144),
    TRef.ternary (.of main_v13 : TRef sig ⟨S6144, .i1⟩) main_call0.v1 (.of main_v11 : TRef sig ⟨S6144, .f32⟩) main_call0.v2 select,
    binary main_v3 main_v14 main_v15 (Host.powf : (⟨S6144, .f32⟩ : BufTy).Contents (Elt F) → (⟨S6144, .f32⟩ : BufTy).Contents (Elt F) → (⟨S6144, .f32⟩ : BufTy).Contents (Elt F)),
    unary main_v14 main_v16 (Host.negf : (⟨S6144, .f32⟩ : BufTy).Contents (Elt F) → (⟨S6144, .f32⟩ : BufTy).Contents (Elt F)),
    binary main_v3 main_v16 main_v17 (Host.powf : (⟨S6144, .f32⟩ : BufTy).Contents (Elt F) → (⟨S6144, .f32⟩ : BufTy).Contents (Elt F) → (⟨S6144, .f32⟩ : BufTy).Contents (Elt F)),
    unary main_v17 main_v18 (broadcastInDim S6144x1 ![0] bcast_S6144_S6144x1_0 : (⟨S6144, .f32⟩ : BufTy).Contents (Elt F) → (⟨S6144x1, .f32⟩ : BufTy).Contents (Elt F)),
    unary main_v18 main_v19 (broadcastInDim S6144x2816 ![0, 1] bcast_S6144x1_S6144x2816_0_1 : (⟨S6144x1, .f32⟩ : BufTy).Contents (Elt F) → (⟨S6144x2816, .f32⟩ : BufTy).Contents (Elt F)),
    binary main_v0 main_v19 main_v20 (mulf : (⟨S6144x2816, .f32⟩ : BufTy).Contents (Elt F) → (⟨S6144x2816, .f32⟩ : BufTy).Contents (Elt F) → (⟨S6144x2816, .f32⟩ : BufTy).Contents (Elt F)),
    nullary main_cst_5 (constant S_ .f32 0xC3E00000#32),
    nullary main_cst_6 (constant S_ .f32 0x43E00000#32),
    TRef.unary (.of main_cst_5 : TRef sig ⟨S_, .f32⟩) main_call1.v0 id,
    TRef.unary main_call1.v0 main_call1.v1 (broadcastInDim S6144x2816 ![] bcast_S_S6144x2816),
    TRef.binary main_call1.v1 (.of main_v20 : TRef sig ⟨S6144x2816, .f32⟩) main_call1.v2 maximumf,
    TRef.unary (.of main_cst_6 : TRef sig ⟨S_, .f32⟩) main_call1.v3 id,
    TRef.unary main_call1.v3 main_call1.v4 (broadcastInDim S6144x2816 ![] bcast_S_S6144x2816),
    TRef.binary main_call1.v4 main_call1.v2 main_call1.v5 minimumf,
    unary main_v21 main_v22 ((truncf .bf16 · bitsLt_bf16_f32) : (⟨S6144x2816, .f32⟩ : BufTy).Contents (Elt F) → (⟨S6144x2816, .bf16⟩ : BufTy).Contents (Elt F)),
    unary main_arg2 main_v23 ((extui 32 · natLt_8_32) : (⟨S64x1408x2048, .i8⟩ : BufTy).Contents (Elt F) → (⟨S64x1408x2048, .i32⟩ : BufTy).Contents (Elt F)),
    unary main_v22 main_v24 ((Host.slice S6144x1408 ![0, 0] ![1, 2] · slicesBy_S6144x2816_S6144x1408_0s1_0s2) : (⟨S6144x2816, .bf16⟩ : BufTy).Contents (Elt F) → (⟨S6144x1408, .bf16⟩ : BufTy).Contents (Elt F)),
    nullary main_c (constantI S_ 32 15#32),
    unary main_c main_v25 (broadcastInDim S64x1408x2048 ![] bcast_S_S64x1408x2048 : (⟨S_, .i32⟩ : BufTy).Contents (Elt F) → (⟨S64x1408x2048, .i32⟩ : BufTy).Contents (Elt F)),
    binary main_v23 main_v25 main_v26 (andi : (⟨S64x1408x2048, .i32⟩ : BufTy).Contents (Elt F) → (⟨S64x1408x2048, .i32⟩ : BufTy).Contents (Elt F) → (⟨S64x1408x2048, .i32⟩ : BufTy).Contents (Elt F)),
    nullary main_c_7 (constantI S_ 32 8#32),
    unary main_c_7 main_v27 (broadcastInDim S64x1408x2048 ![] bcast_S_S64x1408x2048 : (⟨S_, .i32⟩ : BufTy).Contents (Elt F) → (⟨S64x1408x2048, .i32⟩ : BufTy).Contents (Elt F)),
    binary main_v26 main_v27 main_v28 (cmpi .sge : (⟨S64x1408x2048, .i32⟩ : BufTy).Contents (Elt F) → (⟨S64x1408x2048, .i32⟩ : BufTy).Contents (Elt F) → (⟨S64x1408x2048, .i1⟩ : BufTy).Contents (Elt F)),
    nullary main_c_8 (constantI S_ 32 16#32),
    unary main_c_8 main_v29 (broadcastInDim S64x1408x2048 ![] bcast_S_S64x1408x2048 : (⟨S_, .i32⟩ : BufTy).Contents (Elt F) → (⟨S64x1408x2048, .i32⟩ : BufTy).Contents (Elt F)),
    binary main_v26 main_v29 main_v30 (subi : (⟨S64x1408x2048, .i32⟩ : BufTy).Contents (Elt F) → (⟨S64x1408x2048, .i32⟩ : BufTy).Contents (Elt F) → (⟨S64x1408x2048, .i32⟩ : BufTy).Contents (Elt F)),
    TRef.ternary (.of main_v28 : TRef sig ⟨S64x1408x2048, .i1⟩) (.of main_v30 : TRef sig ⟨S64x1408x2048, .i32⟩) (.of main_v26 : TRef sig ⟨S64x1408x2048, .i32⟩) main_call2.v0 select,
    unary main_v31 main_v32 (sitofp .bf16 : (⟨S64x1408x2048, .i32⟩ : BufTy).Contents (Elt F) → (⟨S64x1408x2048, .bf16⟩ : BufTy).Contents (Elt F)),
    unary main_arg3 main_v33 ((truncf .bf16 · bitsLt_bf16_f32) : (⟨S64x22x2048, .f32⟩ : BufTy).Contents (Elt F) → (⟨S64x22x2048, .bf16⟩ : BufTy).Contents (Elt F)),
    reshape main_v32 main_v34 (rfl : (.bf16 : EltTy) = .bf16) shapeCasts_S64x1408x2048_S64x22x64x2048,
    unary main_v33 main_v35 (broadcastInDim S64x22x1x2048 ![0, 1, 3] bcast_S64x22x2048_S64x22x1x2048_0_1_3 : (⟨S64x22x2048, .bf16⟩ : BufTy).Contents (Elt F) → (⟨S64x22x1x2048, .bf16⟩ : BufTy).Contents (Elt F)),
    unary main_v35 main_v36 (broadcastInDim S64x22x64x2048 ![0, 1, 2, 3] bcast_S64x22x1x2048_S64x22x64x2048_0_1_2_3 : (⟨S64x22x1x2048, .bf16⟩ : BufTy).Contents (Elt F) → (⟨S64x22x64x2048, .bf16⟩ : BufTy).Contents (Elt F)),
    binary main_v34 main_v36 main_v37 (mulf : (⟨S64x22x64x2048, .bf16⟩ : BufTy).Contents (Elt F) → (⟨S64x22x64x2048, .bf16⟩ : BufTy).Contents (Elt F) → (⟨S64x22x64x2048, .bf16⟩ : BufTy).Contents (Elt F)),
    reshape main_v37 main_v38 (rfl : (.bf16 : EltTy) = .bf16) shapeCasts_S64x22x64x2048_S64x1408x2048,
    binary main_v24 main_v38 main_v39 ((fun l r => Host.dotGeneral dot_S6144x1408_S64x1408x2048_S6144x64x2048_1_1_0_02_n_n none l r) : (⟨S6144x1408, .bf16⟩ : BufTy).Contents (Elt F) → (⟨S64x1408x2048, .bf16⟩ : BufTy).Contents (Elt F) → (⟨S6144x64x2048, .f32⟩ : BufTy).Contents (Elt F)),
    unary main_v22 main_v40 ((Host.slice S6144x1408 ![0, 1] ![1, 2] · slicesBy_S6144x2816_S6144x1408_0s1_1s2) : (⟨S6144x2816, .bf16⟩ : BufTy).Contents (Elt F) → (⟨S6144x1408, .bf16⟩ : BufTy).Contents (Elt F)),
    nullary main_c_9 (constantI S_ 32 4#32),
    unary main_c_9 main_v41 (broadcastInDim S64x1408x2048 ![] bcast_S_S64x1408x2048 : (⟨S_, .i32⟩ : BufTy).Contents (Elt F) → (⟨S64x1408x2048, .i32⟩ : BufTy).Contents (Elt F)),
    binary main_v23 main_v41 main_v42 (Host.shrsi : (⟨S64x1408x2048, .i32⟩ : BufTy).Contents (Elt F) → (⟨S64x1408x2048, .i32⟩ : BufTy).Contents (Elt F) → (⟨S64x1408x2048, .i32⟩ : BufTy).Contents (Elt F)),
    nullary main_c_10 (constantI S_ 32 8#32),
    unary main_c_10 main_v43 (broadcastInDim S64x1408x2048 ![] bcast_S_S64x1408x2048 : (⟨S_, .i32⟩ : BufTy).Contents (Elt F) → (⟨S64x1408x2048, .i32⟩ : BufTy).Contents (Elt F)),
    binary main_v42 main_v43 main_v44 (cmpi .sge : (⟨S64x1408x2048, .i32⟩ : BufTy).Contents (Elt F) → (⟨S64x1408x2048, .i32⟩ : BufTy).Contents (Elt F) → (⟨S64x1408x2048, .i1⟩ : BufTy).Contents (Elt F)),
    nullary main_c_11 (constantI S_ 32 16#32),
    unary main_c_11 main_v45 (broadcastInDim S64x1408x2048 ![] bcast_S_S64x1408x2048 : (⟨S_, .i32⟩ : BufTy).Contents (Elt F) → (⟨S64x1408x2048, .i32⟩ : BufTy).Contents (Elt F)),
    binary main_v42 main_v45 main_v46 (subi : (⟨S64x1408x2048, .i32⟩ : BufTy).Contents (Elt F) → (⟨S64x1408x2048, .i32⟩ : BufTy).Contents (Elt F) → (⟨S64x1408x2048, .i32⟩ : BufTy).Contents (Elt F)),
    TRef.ternary (.of main_v44 : TRef sig ⟨S64x1408x2048, .i1⟩) (.of main_v46 : TRef sig ⟨S64x1408x2048, .i32⟩) (.of main_v42 : TRef sig ⟨S64x1408x2048, .i32⟩) main_call3.v0 select,
    unary main_v47 main_v48 (sitofp .bf16 : (⟨S64x1408x2048, .i32⟩ : BufTy).Contents (Elt F) → (⟨S64x1408x2048, .bf16⟩ : BufTy).Contents (Elt F)),
    unary main_arg3 main_v49 ((truncf .bf16 · bitsLt_bf16_f32) : (⟨S64x22x2048, .f32⟩ : BufTy).Contents (Elt F) → (⟨S64x22x2048, .bf16⟩ : BufTy).Contents (Elt F)),
    reshape main_v48 main_v50 (rfl : (.bf16 : EltTy) = .bf16) shapeCasts_S64x1408x2048_S64x22x64x2048,
    unary main_v49 main_v51 (broadcastInDim S64x22x1x2048 ![0, 1, 3] bcast_S64x22x2048_S64x22x1x2048_0_1_3 : (⟨S64x22x2048, .bf16⟩ : BufTy).Contents (Elt F) → (⟨S64x22x1x2048, .bf16⟩ : BufTy).Contents (Elt F)),
    unary main_v51 main_v52 (broadcastInDim S64x22x64x2048 ![0, 1, 2, 3] bcast_S64x22x1x2048_S64x22x64x2048_0_1_2_3 : (⟨S64x22x1x2048, .bf16⟩ : BufTy).Contents (Elt F) → (⟨S64x22x64x2048, .bf16⟩ : BufTy).Contents (Elt F)),
    binary main_v50 main_v52 main_v53 (mulf : (⟨S64x22x64x2048, .bf16⟩ : BufTy).Contents (Elt F) → (⟨S64x22x64x2048, .bf16⟩ : BufTy).Contents (Elt F) → (⟨S64x22x64x2048, .bf16⟩ : BufTy).Contents (Elt F)),
    reshape main_v53 main_v54 (rfl : (.bf16 : EltTy) = .bf16) shapeCasts_S64x22x64x2048_S64x1408x2048,
    binary main_v40 main_v54 main_v55 ((fun l r => Host.dotGeneral dot_S6144x1408_S64x1408x2048_S6144x64x2048_1_1_0_02_n_n none l r) : (⟨S6144x1408, .bf16⟩ : BufTy).Contents (Elt F) → (⟨S64x1408x2048, .bf16⟩ : BufTy).Contents (Elt F) → (⟨S6144x64x2048, .f32⟩ : BufTy).Contents (Elt F)),
    binary main_v39 main_v55 main_v56 (addf : (⟨S6144x64x2048, .f32⟩ : BufTy).Contents (Elt F) → (⟨S6144x64x2048, .f32⟩ : BufTy).Contents (Elt F) → (⟨S6144x64x2048, .f32⟩ : BufTy).Contents (Elt F)),
    nullary main_v57 (iotaInDim S64 32 0),
    unary main_v57 main_v58 (broadcastInDim S1x64 ![1] bcast_S64_S1x64_1 : (⟨S64, .i32⟩ : BufTy).Contents (Elt F) → (⟨S1x64, .i32⟩ : BufTy).Contents (Elt F)),
    unary main_v57 main_v59 (broadcastInDim S64x1 ![0] bcast_S64_S64x1_0 : (⟨S64, .i32⟩ : BufTy).Contents (Elt F) → (⟨S64x1, .i32⟩ : BufTy).Contents (Elt F)),
    unary main_v58 main_v60 (broadcastInDim S64x64 ![0, 1] bcast_S1x64_S64x64_0_1 : (⟨S1x64, .i32⟩ : BufTy).Contents (Elt F) → (⟨S64x64, .i32⟩ : BufTy).Contents (Elt F)),
    unary main_v59 main_v61 (broadcastInDim S64x64 ![0, 1] bcast_S64x1_S64x64_0_1 : (⟨S64x1, .i32⟩ : BufTy).Contents (Elt F) → (⟨S64x64, .i32⟩ : BufTy).Contents (Elt F)),
    binary main_v60 main_v61 main_v62 (cmpi .sle : (⟨S64x64, .i32⟩ : BufTy).Contents (Elt F) → (⟨S64x64, .i32⟩ : BufTy).Contents (Elt F) → (⟨S64x64, .i1⟩ : BufTy).Contents (Elt F)),
    unary main_arg1 main_v63 (broadcastInDim S1x64 ![1] bcast_S64_S1x64_1 : (⟨S64, .i32⟩ : BufTy).Contents (Elt F) → (⟨S1x64, .i32⟩ : BufTy).Contents (Elt F)),
    nullary main_c_12 (constantI S_ 32 0#32),
    TRef.unary (.of main_c_12 : TRef sig ⟨S_, .i32⟩) main_call4.v0 id,
    TRef.unary (.of main_v63 : TRef sig ⟨S1x64, .i32⟩) main_call4.v1 (broadcastInDim S64x64 ![0, 1] bcast_S1x64_S64x64_0_1),
    TRef.unary main_call4.v0 main_call4.v2 (broadcastInDim S64x64 ![] bcast_S_S64x64),
    TRef.ternary (.of main_v62 : TRef sig ⟨S64x64, .i1⟩) main_call4.v1 main_call4.v2 main_call4.v3 select,
    nullary main_c_13 (constantI S_ 32 0#32),
    binary main_v64 main_c_13 main_v65 ((fun x v => Host.reduce IntOp.addi x v reducesTo_S64x64_S64_d1 h_S_) : (⟨S64x64, .i32⟩ : BufTy).Contents (Elt F) → (⟨S_, .i32⟩ : BufTy).Contents (Elt F) → (⟨S64, .i32⟩ : BufTy).Contents (Elt F)),
    binary main_v65 main_arg1 main_v66 (subi : (⟨S64, .i32⟩ : BufTy).Contents (Elt F) → (⟨S64, .i32⟩ : BufTy).Contents (Elt F) → (⟨S64, .i32⟩ : BufTy).Contents (Elt F)),
    nullary main_v67 (iotaInDim S6144 32 0),
    unary main_v66 main_v68 (broadcastInDim S1x64 ![1] bcast_S64_S1x64_1 : (⟨S64, .i32⟩ : BufTy).Contents (Elt F) → (⟨S1x64, .i32⟩ : BufTy).Contents (Elt F)),
    unary main_v67 main_v69 (broadcastInDim S6144x1 ![0] bcast_S6144_S6144x1_0 : (⟨S6144, .i32⟩ : BufTy).Contents (Elt F) → (⟨S6144x1, .i32⟩ : BufTy).Contents (Elt F)),
    unary main_v68 main_v70 (broadcastInDim S6144x64 ![0, 1] bcast_S1x64_S6144x64_0_1 : (⟨S1x64, .i32⟩ : BufTy).Contents (Elt F) → (⟨S6144x64, .i32⟩ : BufTy).Contents (Elt F)),
    unary main_v69 main_v71 (broadcastInDim S6144x64 ![0, 1] bcast_S6144x1_S6144x64_0_1 : (⟨S6144x1, .i32⟩ : BufTy).Contents (Elt F) → (⟨S6144x64, .i32⟩ : BufTy).Contents (Elt F)),
    binary main_v70 main_v71 main_v72 (cmpi .sle : (⟨S6144x64, .i32⟩ : BufTy).Contents (Elt F) → (⟨S6144x64, .i32⟩ : BufTy).Contents (Elt F) → (⟨S6144x64, .i1⟩ : BufTy).Contents (Elt F)),
    unary main_v67 main_v73 (broadcastInDim S6144x1 ![0] bcast_S6144_S6144x1_0 : (⟨S6144, .i32⟩ : BufTy).Contents (Elt F) → (⟨S6144x1, .i32⟩ : BufTy).Contents (Elt F)),
    unary main_v65 main_v74 (broadcastInDim S1x64 ![1] bcast_S64_S1x64_1 : (⟨S64, .i32⟩ : BufTy).Contents (Elt F) → (⟨S1x64, .i32⟩ : BufTy).Contents (Elt F)),
    unary main_v73 main_v75 (broadcastInDim S6144x64 ![0, 1] bcast_S6144x1_S6144x64_0_1 : (⟨S6144x1, .i32⟩ : BufTy).Contents (Elt F) → (⟨S6144x64, .i32⟩ : BufTy).Contents (Elt F)),
    unary main_v74 main_v76 (broadcastInDim S6144x64 ![0, 1] bcast_S1x64_S6144x64_0_1 : (⟨S1x64, .i32⟩ : BufTy).Contents (Elt F) → (⟨S6144x64, .i32⟩ : BufTy).Contents (Elt F)),
    binary main_v75 main_v76 main_v77 (cmpi .slt : (⟨S6144x64, .i32⟩ : BufTy).Contents (Elt F) → (⟨S6144x64, .i32⟩ : BufTy).Contents (Elt F) → (⟨S6144x64, .i1⟩ : BufTy).Contents (Elt F)),
    binary main_v72 main_v77 main_v78 (andi : (⟨S6144x64, .i1⟩ : BufTy).Contents (Elt F) → (⟨S6144x64, .i1⟩ : BufTy).Contents (Elt F) → (⟨S6144x64, .i1⟩ : BufTy).Contents (Elt F)),
    unary main_v78 main_v79 (broadcastInDim S6144x64x1 ![0, 1] bcast_S6144x64_S6144x64x1_0_1 : (⟨S6144x64, .i1⟩ : BufTy).Contents (Elt F) → (⟨S6144x64x1, .i1⟩ : BufTy).Contents (Elt F)),
    nullary main_cst_14 (constant S_ .f32 0x00000000#32),
    TRef.unary (.of main_cst_14 : TRef sig ⟨S_, .f32⟩) main_call5.v0 id,
    TRef.unary (.of main_v79 : TRef sig ⟨S6144x64x1, .i1⟩) main_call5.v1 (broadcastInDim S6144x64x2048 ![0, 1, 2] bcast_S6144x64x1_S6144x64x2048_0_1_2),
    TRef.unary main_call5.v0 main_call5.v2 (broadcastInDim S6144x64x2048 ![] bcast_S_S6144x64x2048),
    TRef.ternary main_call5.v1 (.of main_v56 : TRef sig ⟨S6144x64x2048, .f32⟩) main_call5.v2 main_call5.v3 select,
    nullary main_cst_15 (constant S_ .f32 0x00000000#32),
    binary main_v80 main_cst_15 main_v81 ((fun x v => Host.reduceAdd x v reducesTo_S6144x64x2048_S6144x2048_d1 h_S_) : (⟨S6144x64x2048, .f32⟩ : BufTy).Contents (Elt F) → (⟨S_, .f32⟩ : BufTy).Contents (Elt F) → (⟨S6144x2048, .f32⟩ : BufTy).Contents (Elt F)),
    unary main_v15 main_v82 (broadcastInDim S6144x1 ![0] bcast_S6144_S6144x1_0 : (⟨S6144, .f32⟩ : BufTy).Contents (Elt F) → (⟨S6144x1, .f32⟩ : BufTy).Contents (Elt F)),
    unary main_v82 main_v83 (broadcastInDim S6144x2048 ![0, 1] bcast_S6144x1_S6144x2048_0_1 : (⟨S6144x1, .f32⟩ : BufTy).Contents (Elt F) → (⟨S6144x2048, .f32⟩ : BufTy).Contents (Elt F)),
    binary main_v81 main_v83 main_v84 (mulf : (⟨S6144x2048, .f32⟩ : BufTy).Contents (Elt F) → (⟨S6144x2048, .f32⟩ : BufTy).Contents (Elt F) → (⟨S6144x2048, .f32⟩ : BufTy).Contents (Elt F)),
    unary main_v84 main_v85 ((truncf .bf16 · bitsLt_bf16_f32) : (⟨S6144x2048, .f32⟩ : BufTy).Contents (Elt F) → (⟨S6144x2048, .bf16⟩ : BufTy).Contents (Elt F)) ]

set_option maxHeartbeats 4000000 in
theorem main_eq (c : Dev nD) : main (F := F) c = seq ops := by
  simp only [main, main_part0, main_part1, fn_where.body, fn_clip.body, fn_where_0.body, fn_where_1.body, fn_where_2.body, seq, bind_assoc, pure_bind]

set_option maxHeartbeats 4000000 in
/-- The fold at the result's buffer. -/
theorem out_eq (V : Valuation τ sig (Elt F)) :
    after ops V (main_v85 : DevRef τ sig) = out (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., binary_bufs_sub .., nullary_bufs_sub .., unary_bufs_sub ..,
    nullary_bufs_sub .., unary_bufs_sub .., binary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., unary_bufs_sub .., reshape_bufs_sub .., unary_bufs_sub ..,
    unary_bufs_sub .., binary_bufs_sub .., reshape_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., unary_bufs_sub .., reshape_bufs_sub ..,
    unary_bufs_sub .., unary_bufs_sub .., binary_bufs_sub .., reshape_bufs_sub .., binary_bufs_sub .., binary_bufs_sub ..,
    nullary_bufs_sub .., unary_bufs_sub .., unary_bufs_sub .., unary_bufs_sub .., unary_bufs_sub .., binary_bufs_sub ..,
    unary_bufs_sub .., nullary_bufs_sub .., unary_bufs_sub .., unary_bufs_sub .., unary_bufs_sub .., ternary_bufs_sub ..,
    nullary_bufs_sub .., binary_bufs_sub .., binary_bufs_sub .., nullary_bufs_sub .., unary_bufs_sub .., unary_bufs_sub ..,
    unary_bufs_sub .., unary_bufs_sub .., binary_bufs_sub .., unary_bufs_sub .., unary_bufs_sub .., unary_bufs_sub ..,
    unary_bufs_sub .., binary_bufs_sub .., binary_bufs_sub .., unary_bufs_sub .., nullary_bufs_sub .., unary_bufs_sub ..,
    unary_bufs_sub .., unary_bufs_sub .., ternary_bufs_sub .., nullary_bufs_sub .., binary_bufs_sub .., unary_bufs_sub ..,
    unary_bufs_sub .., binary_bufs_sub .., unary_bufs_sub ..⟩

/-- The reference runs, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference runs, leaves its arguments, and its result is `out` of them. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v85) = out (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v85).trans (out_eq _), (h c main_arg0).trans (arg0_eq _), (h c main_arg1).trans (arg1_eq _),
    (h c main_arg2).trans (arg2_eq _), (h c main_arg3).trans (arg3_eq _)⟩, Idealize.ShloMosaic.sem_eq_zero_of_no_sems (by decide) r.2⟩) (run_main m ρ)

end

end Cert.RefRun

end
-- ==== Proof.Visits.lean ====
/-
  The result after every visit, over the extended reals: each row times the weights of the expert that it belongs to.
-/
module

public import proofs.«01_k».proof.Proof.Rows
public import proofs.«01_k».proof.Proof.Body
public import Idealize.ShloMosaic.Lib.ReduceAll
public import Idealize.ShloMosaic.Lib.Affine

@[expose] public section

noncomputable section

namespace Cert.Model

open Idealize.ShloMosaic Idealize.SL.Sem
open Cert.Kernel

/-- The place in the result of a row of a block of 16, as a word. -/
theorem place_eq (row g p : ℕ) (h : row + g + p < 2 ^ 31) :
    (IntOp.addi (BitVec.ofNat 32 p) (IntOp.addi (BitVec.ofNat 32 row) (BitVec.ofNat 32 g))).toInt = ((row + g + p : ℕ) : ℤ) := by
  rw [show IntOp.addi (BitVec.ofNat 32 p) (IntOp.addi (BitVec.ofNat 32 row) (BitVec.ofNat 32 g)) = BitVec.ofNat 32 (row + g + p) from by
    show BitVec.ofNat 32 p + (BitVec.ofNat 32 row + BitVec.ofNat 32 g) = _
    rw [← BitVec.ofNat_add, ← BitVec.ofNat_add]; congr 1; omega]
  rw [BitVec.toInt_eq_toNat_cond, BitVec.toNat_ofNat]
  omega

theorem toInt_ofNat (n : ℕ) (h : n < 2 ^ 31) : (BitVec.ofNat 32 n).toInt = (n : ℤ) := by
  rw [BitVec.toInt_eq_toNat_cond, BitVec.toNat_ofNat]
  omega

/-- Two experts share no row. -/
theorem range_inj {gs : ℕ → ℕ} {e e' t : ℕ} (h1 : stO gs e ≤ t) (h2 : t < stO gs e + gs e) (h1' : stO gs e' ≤ t) (h2' : t < stO gs e' + gs e') : e = e' := by
  rcases Nat.lt_trichotomy e e' with h | h | h
  · have := stO_mono (gs := gs) (a := e + 1) (b := e') h
    have e1 : stO gs (e + 1) = stO gs e + gs e := rfl
    omega
  · exact h
  · have := stO_mono (gs := gs) (a := e' + 1) (b := e) h
    have e1 : stO gs (e' + 1) = stO gs e' + gs e' := rfl
    omega

variable [Facts]
open Facts₀ Facts

theorem sel_iff (row lo hi : ℕ) (hr : row ≤ 6016) (hl : lo ≤ 6144) (hh : hi ≤ 6144) (ρ : Fin 128) (C : Fin 2048) :
    sel (BitVec.ofNat 32 row) (BitVec.ofNat 32 lo) (BitVec.ofNat 32 hi) ρ C = 1#1 ↔ lo ≤ row + ρ.val ∧ row + ρ.val < hi := by
  unfold sel maskOf
  show IntOp.andi (IntOp.cmpi .sge (IntOp.addi (BitVec.ofNat 32 (0 * 16 + ρ.val % 16)) (IntOp.addi (BitVec.ofNat 32 row) (BitVec.ofNat 32 (16 * (ρ.val / 16))))) (BitVec.ofNat 32 lo))
    (IntOp.cmpi .slt (IntOp.addi (BitVec.ofNat 32 (0 * 16 + ρ.val % 16)) (IntOp.addi (BitVec.ofNat 32 row) (BitVec.ofNat 32 (16 * (ρ.val / 16))))) (BitVec.ofNat 32 hi)) = 1#1 ↔ _
  have hρ := ρ.isLt
  rw [IntOp.andi_eq_one, IntOp.cmpi_sge, IntOp.cmpi_slt, place_eq _ _ _ (by omega), toInt_ofNat lo (by omega), toInt_ofNat hi (by omega)]
  have : row + 16 * (ρ.val / 16) + (0 * 16 + ρ.val % 16) = row + ρ.val := by omega
  rw [this]
  omega

section
variable (gs : ℕ → ℕ) (XX : Vec Ideal S6144x2816 .bf16) (XW : Vec Ideal S64x1408x2048 .i8) (XS : Vec Ideal S64x22x2048 .f32)

/-- Row `t` times the weights of expert `e`, at column `C`. -/
def exact (e : Fin 64) (t : Fin 6144) (C : Fin 2048) : EReal := ∑ K : Fin 2816, XX (ix2 t K) * wAt (Wof XW e) (Sof XS e) C K

variable {gs XX} (xr : Fin 6144 → Fin 2816 → ℝ) (hx : ∀ t K, XX (ix2 t K) = (xr t K : EReal)) (hb : ∀ t K, |xr t K| ≤ bigM) (hS : stO gs 64 = 6144)

include hx hb hS in
/-- One visit: the rows of its window that belong to its expert. -/
theorem stepY_at {e j : ℕ} (he : e < 64) (hj : j < wn gs e) (Y : Vec Ideal S6144x2048 .bf16) (t : Fin 6144) (C : Fin 2048) :
    stepY (F := Ideal) gs XX XW XS (nV gs e + j) Y (ix2 t C)
      = if (rowOf gs e j ≤ t.val ∧ t.val < rowOf gs e j + 128) ∧ stO gs e ≤ t.val ∧ t.val < stO gs e + gs e then exact XX XW XS ⟨e, he⟩ t C else Y (ix2 t C) := by
  have hex : exV gs (nV gs e + j) = ⟨e, he⟩ := Fin.ext (exV_at he hj)
  have hrow := rowB_at he hj
  have hle : stO gs e + gs e ≤ 6144 := by rw [← hS]; exact stO_mono (gs := gs) (a := e + 1) he
  have h6016 : rowOf gs e j ≤ 6016 := by unfold rowOf; omega
  unfold stepY
  rw [hex, ← hrow]
  unfold visitY
  have hrn : (BitVec.ofNat 32 (rowOf gs e j)).toNat = rowOf gs e j := by rw [BitVec.toNat_ofNat]; omega
  by_cases hw : rowOf gs e j ≤ t.val ∧ t.val < rowOf gs e j + 128
  · rw [dif_pos (show (BitVec.ofNat 32 (rowOf gs e j)).toNat ≤ ((ix2 t C : S6144x2048.Idx) 0).val ∧ ((ix2 t C : S6144x2048.Idx) 0).val < (BitVec.ofNat 32 (rowOf gs e j)).toNat + 128 by rw [hrn]; exact hw)]
    have hiff := sel_iff (rowOf gs e j) (stO gs e) (stO gs e + gs e) h6016 (by omega) hle ⟨t.val - (BitVec.ofNat 32 (rowOf gs e j)).toNat, by rw [hrn]; omega⟩ C
    have hplace : rowOf gs e j + (t.val - (BitVec.ofNat 32 (rowOf gs e j)).toNat) = t.val := by rw [hrn]; omega
    simp only [hplace] at hiff
    by_cases hm : stO gs e ≤ t.val ∧ t.val < stO gs e + gs e
    · refine Eq.trans (if_pos (hiff.mpr hm)) (Eq.trans ?_ (if_pos ⟨hw, hm⟩).symm)
      have hX : ∀ (p : Fin 128) (K : Fin 2816), Xof XX (rowB gs (nV gs e + j)) (ix2 p K) = XX (ix2 (⟨rowOf gs e j + p.val, by omega⟩ : Fin 6144) K) := by
        intro p K
        unfold Xof
        refine congrArg XX (funext fun a => ?_)
        fin_cases a
        · apply Fin.ext; show 16 * (rowB gs (nV gs e + j)).val + 1 * p.val = rowOf gs e j + p.val; omega
        · apply Fin.ext; show 0 + 1 * K.val = K.val; omega
      refine (newAt_exact _ (fun p K => xr ⟨rowOf gs e j + p.val, by omega⟩ K) (fun p K => by rw [hX, hx]) (fun p K => hb _ _) _ _ _ _).trans ?_
      unfold exact
      refine Finset.sum_congr rfl fun K _ => ?_
      rw [hX]
      refine congrArg₂ _ (congrArg (fun u : Fin 6144 => XX (ix2 u K)) (Fin.ext ?_)) rfl
      exact hplace
    · exact Eq.trans (if_neg (fun h => hm (hiff.mp h))) (if_neg (fun h => hm h.2)).symm
  · exact Eq.trans (dif_neg (fun h => hw (by rw [hrn] at h; exact h))) (if_neg (fun h => hw h.1)).symm

include hx hb hS in
/-- A row's value stays once one of its expert's windows has reached it. -/
theorem accY_at (Y : Vec Ideal S6144x2048 .bf16) (e : Fin 64) (t : Fin 6144) (C : Fin 2048) (h1 : stO gs e.val ≤ t.val) (h2 : t.val < stO gs e.val + gs e.val)
    (j : ℕ) (hj : j < wn gs e.val) (hw : rowOf gs e.val j ≤ t.val ∧ t.val < rowOf gs e.val j + 128) (v : ℕ) (hv : nV gs e.val + j < v) (hv' : v ≤ nV gs 64) :
    accY (F := Ideal) gs XX XW XS Y v (ix2 t C) = exact XX XW XS e t C := by
  induction v with
  | zero => omega
  | succ v ih =>
    show stepY (F := Ideal) gs XX XW XS v (accY gs XX XW XS Y v) (ix2 t C) = _
    obtain ⟨e', j', he', hj', hv''⟩ := visit_exists (gs := gs) (n := 64) (v := v) (by omega)
    subst hv''
    rw [stepY_at XW XS xr hx hb hS he' hj']
    split
    · next h =>
      have := range_inj h.2.1 h.2.2 h1 h2
      subst this
      rfl
    · next h =>
      refine ih ?_ (by omega)
      rcases Nat.lt_or_ge (nV gs e.val + j) (nV gs e' + j') with h' | h'
      · exact h'
      · have heq : nV gs e.val + j = nV gs e' + j' := by omega
        obtain ⟨rfl, rfl⟩ := visit_inj hj' hj heq
        exact absurd ⟨hw, h1, h2⟩ h

include hx hb hS in
/-- The result: each row times the weights of its expert. -/
theorem result_exact (Y : Vec Ideal S6144x2048 .bf16) (e : Fin 64) (t : Fin 6144) (C : Fin 2048) (h1 : stO gs e.val ≤ t.val) (h2 : t.val < stO gs e.val + gs e.val) :
    accY (F := Ideal) gs XX XW XS Y (nV gs 64) (ix2 t C) = exact XX XW XS e t C := by
  have ht := t.isLt
  have hj : (t.val - stO gs e.val / 16 * 16) / 128 < wn gs e.val := by
    unfold wn win
    rw [if_pos (by omega)]
    omega
  refine accY_at XW XS xr hx hb hS Y e t C h1 h2 ((t.val - stO gs e.val / 16 * 16) / 128) hj ?_ _ ?_ le_rfl
  · unfold rowOf
    omega
  · have e1 : nV gs (e.val + 1) = nV gs e.val + wn gs e.val := rfl
    have := nV_mono (gs := gs) (a := e.val + 1) (b := 64) e.isLt
    omega

end

end Cert.Model

end
-- ==== Proof.RefRow.lean ====
/-
  The reference's scale and codes of a row, over the extended reals: the codes are the row times the reciprocal of the scale.
-/
module

public import proofs.«01_k».proof.Proof.RefRun
public import proofs.«01_k».proof.Proof.Visits

@[expose] public section

noncomputable section

namespace Cert.RefRun

open Idealize.ShloMosaic Idealize.SL.Sem
open Cert.Model (ix2 c448 bigM)
open Cert.ReferenceIdeal Cert.ReferenceIdeal.Facts₀ Cert.ReferenceIdeal.Facts

variable [Cert.ReferenceIdeal.Facts]

theorem zero_eq : Ideal.ofBits .f32 0x00000000#32 = 0 := by
  unfold Ideal.ofBits Ideal.ieee
  simp
theorem one_eq : Ideal.ofBits .f32 0x3F800000#32 = ((1 : ℝ) : EReal) := by
  unfold Ideal.ofBits Ideal.ieee
  simp
  norm_num [← EReal.coe_mul]
theorem two_eq : Ideal.ofBits .f32 0x40000000#32 = ((2 : ℝ) : EReal) := by
  unfold Ideal.ofBits Ideal.ieee
  simp
  norm_num [← EReal.coe_mul]

theorem scalar_bcast {t : Shape} (h : S_.BroadcastsInDim t ![]) (b : BitVec 32) (i : t.Idx) :
    broadcastInDim t ![] h (constant (F := Ideal) S_ .f32 b) i = Ideal.ofBits .f32 b := rfl

theorem floor_apply {t : Shape} (v : FVec Ideal t .f32) (i : t.Idx) : Host.floor v i = Ideal.liftRound Int.floor (v i) := rfl
theorem hlog_apply {t : Shape} (v : FVec Ideal t .f32) (i : t.Idx) : Host.log v i = Ideal.log (v i) := rfl
theorem hdivf_apply {t : Shape} (v u : FVec Ideal t .f32) (i : t.Idx) : Host.divf v u i = Ideal.div (v i) (u i) := rfl
theorem hpowf_apply {t : Shape} (v u : FVec Ideal t .f32) (i : t.Idx) : Host.powf v u i = Ideal.pow (v i) (u i) := rfl
theorem hnegf_apply {t : Shape} (v : FVec Ideal t .f32) (i : t.Idx) : Host.negf v i = -(v i) := rfl
theorem habsf_apply {t : Shape} (v : FVec Ideal t .f32) (i : t.Idx) : Host.absf v i = max (v i) (-(v i)) := rfl
theorem oeq_apply (a b : Ideal .f32) : FloatOps.cmpf .oeq a b = Ideal.cmp .oeq a b := rfl
theorem floor_real (r : ℝ) : Ideal.liftRound Int.floor (r : EReal) = (((⌊r⌋ : ℤ) : ℝ) : EReal) := rfl
theorem pow_real (a b : ℝ) : Ideal.pow (a : EReal) (b : EReal) = ((Real.rpow a b : ℝ) : EReal) := rfl

theorem twoR_apply (i : S6144.Idx) : twoR (F := Ideal) i = ((2 : ℝ) : EReal) := (scalar_bcast _ _ _).trans two_eq

theorem log_pos {r : ℝ} (h : 0 < r) : Ideal.log (r : EReal) = ((Real.log r : ℝ) : EReal) := if_neg (not_le.mpr h)

theorem red_rows : S6144x2816.Reduces [1] S6144 := by decide

/-- The row's greatest magnitude. -/
theorem amaxR_spec (x : FVec Ideal S6144x2816 .bf16) (xr : Fin 6144 → Fin 2816 → ℝ) (hx : ∀ t K, x (ix2 t K) = (xr t K : EReal)) (t : Fin 6144) :
    ∃ k, amaxR (F := Ideal) x (ValueIdx.ix1 t) = ((|xr t k| : ℝ) : EReal) ∧ ∀ K, |xr t K| ≤ |xr t k| := by
  obtain ⟨k, h1, h2⟩ := Cert.Model.fold_max_real (ι := Fin 2816) (fun K => max (x (ix2 t K)) (-(x (ix2 t K)))) (fun K => |xr t K|) (fun K => by rw [hx, Cert.Model.abs_real])
  refine ⟨k, ?_, h2⟩
  rw [← h1]
  unfold amaxR
  rw [Host.reduce_eq_fold_single FloatOps.maximumf _ _ reducesTo_S6144x2816_S6144_d1 red_rows h_S_]
  rw [ValueIdx.constant_apply, Cert.Model.negInf_eq]
  refine congrArg (Finset.fold max ⊥ · _) (funext fun K => ?_)
  have e : red_rows.lift (ValueIdx.ix1 t) K = (ix2 t K : S6144x2816.Idx) := by
    funext b
    fin_cases b <;> rfl
  rw [Function.comp_apply, e, habsf_apply, ValueIdx.extf_apply]

/-- The exponent of a row's scale: the scale is no less than the row's greatest magnitude times the constant. -/
theorem expR_spec (x : FVec Ideal S6144x2816 .bf16) (xr : Fin 6144 → Fin 2816 → ℝ) (hx : ∀ t K, x (ix2 t K) = (xr t K : EReal)) (t : Fin 6144) :
    ∃ n : ℝ, expR (F := Ideal) x (ValueIdx.ix1 t) = (n : EReal) ∧ ∀ K, |xr t K| * c448 ≤ Real.rpow 2 n := by
  obtain ⟨k, h1, h2⟩ := amaxR_spec x xr hx t
  have hc : 0 < c448 := by unfold c448; positivity
  have hexp : expR (F := Ideal) x (ValueIdx.ix1 t) = Scalar.select (Ideal.cmp .oeq (amaxR (F := Ideal) x (ValueIdx.ix1 t)) 0) 0
      (Ideal.liftRound Int.floor (Ideal.div (Ideal.log (amaxR (F := Ideal) x (ValueIdx.ix1 t) * ((c448 : ℝ) : EReal))) (Ideal.log ((2 : ℝ) : EReal))) + ((1 : ℝ) : EReal)) := by
    unfold expR
    rw [ValueIdx.select_apply, ValueIdx.cmpf_apply, ValueIdx.addf_apply, floor_apply, hdivf_apply, hlog_apply, hlog_apply, ValueIdx.mulf_apply, twoR_apply,
      scalar_bcast, scalar_bcast, scalar_bcast, one_eq, zero_eq, Cert.Model.c448_eq, oeq_apply]
  rw [hexp, h1]
  by_cases h0 : |xr t k| = 0
  · refine ⟨0, ?_, fun K => ?_⟩
    · rw [h0]
      simp [Ideal.cmp, Scalar.select]
    · have : |xr t K| = 0 := le_antisymm ((h2 K).trans h0.le) (abs_nonneg _)
      rw [this, zero_mul]
      exact (Real.rpow_pos_of_pos (by norm_num) _).le
  · have hpos : 0 < |xr t k| := lt_of_le_of_ne (abs_nonneg _) (Ne.symm h0)
    have hy : 0 < |xr t k| * c448 := mul_pos hpos hc
    have hl2 : Real.log 2 ≠ 0 := (Real.log_pos (by norm_num)).ne'
    refine ⟨(⌊Real.log (|xr t k| * c448) / Real.log 2⌋ : ℝ) + 1, ?_, fun K => ?_⟩
    · rw [show Scalar.select (Ideal.cmp .oeq ((|xr t k| : ℝ) : EReal) 0) (0 : EReal) = fun y => y from by
        funext y
        have : ¬ (((|xr t k| : ℝ) : EReal) = 0) := fun h => h0 (EReal.coe_eq_zero.mp h)
        simp [Ideal.cmp, Scalar.select, this]]
      rw [← EReal.coe_mul, log_pos hy, log_pos (by norm_num)]
      unfold Ideal.div
      rw [if_neg (fun h => hl2 (EReal.coe_eq_zero.mp h)), ← EReal.coe_inv, ← EReal.coe_mul, ← div_eq_mul_inv, floor_real, EReal.coe_add]
    · refine (mul_le_mul_of_nonneg_right (h2 K) hc.le).trans ?_
      have h3 := (Int.lt_floor_add_one (Real.log (|xr t k| * c448) / Real.log 2)).le
      rw [div_le_iff₀ (Real.log_pos (by norm_num))] at h3
      have h4 : |xr t k| * c448 = Real.exp (Real.log (|xr t k| * c448)) := (Real.exp_log hy).symm
      refine h4.le.trans ?_
      rw [Real.rpow_eq_pow]
      rw [Real.rpow_def_of_pos (by norm_num), Real.exp_le_exp, mul_comm (Real.log 2)]
      exact h3

/-- The scale of a row, and its codes. -/
theorem row_spec (x : FVec Ideal S6144x2816 .bf16) (xr : Fin 6144 → Fin 2816 → ℝ) (hx : ∀ t K, x (ix2 t K) = (xr t K : EReal)) (t : Fin 6144) :
    ∃ σ : ℝ, 0 < σ ∧ Host.powf (F := Ideal) twoR (expR x) (ValueIdx.ix1 t) = (σ : EReal) ∧ ∀ K, codesR (F := Ideal) x (ix2 t K) = x (ix2 t K) * ((σ⁻¹ : ℝ) : EReal) := by
  obtain ⟨n, h1, h2⟩ := expR_spec x xr hx t
  have hσ : 0 < Real.rpow 2 n := Real.rpow_pos_of_pos (by norm_num) _
  refine ⟨Real.rpow 2 n, hσ, ?_, fun K => ?_⟩
  · rw [hpowf_apply, h1, twoR_apply, pow_real]
  · have hi : Host.powf (F := Ideal) twoR (Host.negf (expR x)) (ValueIdx.ix1 t) = (((Real.rpow 2 n)⁻¹ : ℝ) : EReal) := by
      rw [hpowf_apply, hnegf_apply, h1, twoR_apply, ← EReal.coe_neg, pow_real]
      refine congrArg (fun r : ℝ => (r : EReal)) ?_
      exact Real.rpow_neg (by norm_num) n
    unfold codesR
    rw [ValueIdx.truncf_apply, ValueIdx.minimumf_apply, ValueIdx.maximumf_apply, ValueIdx.mulf_apply, ValueIdx.extf_apply, scalar_bcast, scalar_bcast, broadcastInDim_apply _ _ _ _ (ix2 t (0 : Fin 1)) (by intro a; fin_cases a <;> rfl),
      broadcastInDim_apply _ _ _ _ (ValueIdx.ix1 t) (by intro a; fin_cases a; rfl), hi, Cert.Model.f448_eq, Cert.Model.fm448_eq, hx]
    exact Cert.Model.noclip _ _ hσ (h2 K)

end Cert.RefRun

end
-- ==== Proof.RefSums.lean ====
/-
  The reference's products and its choice of expert, over the extended reals.
-/
module

public import proofs.«01_k».proof.Proof.RefRow

@[expose] public section

noncomputable section

namespace Cert.RefRun

open Idealize.ShloMosaic Idealize.SL.Sem
open Cert.Model (ix2 nibI stO)
open Cert.ReferenceIdeal Cert.ReferenceIdeal.Facts₀ Cert.ReferenceIdeal.Facts

variable [Cert.ReferenceIdeal.Facts]

theorem sel_pos {α : Type} {c : BitVec 1} {a b : α} (h : c = 1#1) : Scalar.select c a b = a := by subst h; rfl
theorem sel_neg {α : Type} {c : BitVec 1} {a b : α} (h : ¬ c = 1#1) : Scalar.select c a b = b := if_neg h

theorem sign_low (b : BitVec 8) : (Scalar.select (IntOp.cmpi .sge (IntOp.andi (b.setWidth 32) 15#32) 8#32) (IntOp.subi (IntOp.andi (b.setWidth 32) 15#32) 16#32) (IntOp.andi (b.setWidth 32) 15#32)).toInt = nibI b 0 := by
  revert b; decide +kernel
theorem sign_high (b : BitVec 8) : (Scalar.select (IntOp.cmpi .sge (IntOp.shrsi .host (b.setWidth 32) 4#32) 8#32) (IntOp.subi (IntOp.shrsi .host (b.setWidth 32) 4#32) 16#32) (IntOp.shrsi .host (b.setWidth 32) 4#32)).toInt = nibI b 1 := by
  revert b; decide +kernel

theorem weightsR_apply (n : IVec S64x1408x2048 32) (s : FVec Ideal S64x22x2048 .f32) (e : Fin 64) (r : Fin 1408) (C : Fin 2048) :
    weightsR (F := Ideal) n s (ValueIdx.ix3 e r C) = (((signR n (ValueIdx.ix3 e r C)).toInt : ℝ) : EReal) * s (ValueIdx.ix3 e (⟨r.val / 64, by omega⟩ : Fin 22) C) := by
  unfold weightsR
  rw [shapeCast_apply _ _ _ (ValueIdx.ix4 e (⟨r.val / 64, by omega⟩ : Fin 22) (⟨r.val % 64, by omega⟩ : Fin 64) C) (by
    rw [Shape.rowMajor_val_three, Shape.rowMajor_val_four]
    show ((e.val * 22 + r.val / 64) * 64 + r.val % 64) * 2048 + C.val = (e.val * 1408 + r.val) * 2048 + C.val
    omega)]
  show shapeCast S64x22x64x2048 (sitofp .bf16 (signR n) : FVec Ideal S64x1408x2048 .bf16) shapeCasts_S64x1408x2048_S64x22x64x2048 _ * broadcastInDim S64x22x64x2048 ![0, 1, 2, 3] bcast_S64x22x1x2048_S64x22x64x2048_0_1_2_3
        (broadcastInDim S64x22x1x2048 ![0, 1, 3] bcast_S64x22x2048_S64x22x1x2048_0_1_3 (truncf .bf16 s bitsLt_bf16_f32 : FVec Ideal S64x22x2048 .bf16)) _ = _
  rw [shapeCast_apply _ _ _ (ValueIdx.ix3 e r C) (by
    rw [Shape.rowMajor_val_three, Shape.rowMajor_val_four]
    show (e.val * 1408 + r.val) * 2048 + C.val = ((e.val * 22 + r.val / 64) * 64 + r.val % 64) * 2048 + C.val
    omega),
    broadcastInDim_apply _ _ _ _ (ValueIdx.ix4 e (⟨r.val / 64, by omega⟩ : Fin 22) (0 : Fin 1) C) (by intro a; fin_cases a <;> rfl),
    broadcastInDim_apply _ _ _ _ (ValueIdx.ix3 e (⟨r.val / 64, by omega⟩ : Fin 22) C) (by intro a; fin_cases a <;> rfl)]
  rfl

theorem dot_apply (l : FVec Ideal S6144x1408 .bf16) (v : FVec Ideal S64x1408x2048 .bf16) (t : Fin 6144) (e : Fin 64) (C : Fin 2048) :
    Host.dotGeneral (F := Ideal) dot_S6144x1408_S64x1408x2048_S6144x64x2048_1_1_0_02_n_n none l v (ValueIdx.ix3 t e C)
      = ∑ r : Fin 1408, l (ix2 t r) * v (ValueIdx.ix3 e r C) := by
  unfold Host.dotGeneral
  rw [Ideal.dotGeneral_apply]
  refine Fintype.sum_equiv (ValueIdx.contrEquiv1 dot_S6144x1408_S64x1408x2048_S6144x64x2048_1_1_0_02_n_n 1408 rfl rfl) _ _ fun k => ?_
  refine congrArg₂ _ (congrArg l (funext fun a => ?_)) (congrArg v (funext fun a => ?_))
  · fin_cases a <;> rfl
  · fin_cases a <;> rfl

theorem even_odd (f : ℕ → EReal) (n : ℕ) : ∑ K ∈ Finset.range (2 * n), f K = ∑ r ∈ Finset.range n, f (2 * r) + ∑ r ∈ Finset.range n, f (2 * r + 1) := by
  induction n with
  | zero => simp
  | succ n ih =>
    rw [show 2 * (n + 1) = 2 * n + 1 + 1 by ring, Finset.sum_range_succ, Finset.sum_range_succ, Finset.sum_range_succ, Finset.sum_range_succ, ih]
    ac_rfl

theorem even_odd_fin (f : Fin 2816 → EReal) : ∑ K, f K = ∑ r : Fin 1408, f ⟨2 * r.val, by omega⟩ + ∑ r : Fin 1408, f ⟨2 * r.val + 1, by omega⟩ := by
  have h := even_odd (fun K => if hK : K < 2816 then f ⟨K, hK⟩ else 0) 1408
  rw [Finset.sum_range, Finset.sum_range, Finset.sum_range] at h
  refine Eq.trans (Finset.sum_congr rfl fun K _ => ?_) (h.trans (congrArg₂ _ (Finset.sum_congr rfl fun r _ => ?_) (Finset.sum_congr rfl fun r _ => ?_)))
  · rw [dif_pos K.isLt]
  · exact dif_pos (by omega)
  · exact dif_pos (by omega)

/-- The weight of a column, code and scale. -/
def wRef (w : IVec S64x1408x2048 8) (s : FVec Ideal S64x22x2048 .f32) (e : Fin 64) (C : Fin 2048) (K : Fin 2816) : EReal :=
  ((nibI (w (ValueIdx.ix3 e (⟨K.val / 2, by omega⟩ : Fin 1408) C)) (K.val % 2) : ℝ) : EReal) * s (ValueIdx.ix3 e (⟨K.val / 128, by omega⟩ : Fin 22) C)

theorem slice_at {u v : Shape} {α : Type} (start strides : Fin u.rank → Nat) (x : u.Idx → α) (h : u.SlicesBy start strides v) (j : v.Idx) (k : u.Idx)
    (hk : ∀ a, (k a).val = start a + strides a * (j (a.cast h.1.symm)).val) : Host.slice v start strides x h j = x k := by
  unfold Host.slice
  exact congrArg x (funext fun a => Fin.ext (hk a).symm)

theorem accR_apply (x : FVec Ideal S6144x2816 .bf16) (w : IVec S64x1408x2048 8) (s : FVec Ideal S64x22x2048 .f32) (t : Fin 6144) (e : Fin 64) (C : Fin 2048) :
    accR (F := Ideal) x w s (ValueIdx.ix3 t e C) = ∑ K : Fin 2816, codesR (F := Ideal) x (ix2 t K) * wRef w s e C K := by
  rw [even_odd_fin]
  unfold accR
  rw [ValueIdx.addf_apply, dot_apply, dot_apply]
  refine congrArg₂ _ (Finset.sum_congr rfl fun r _ => congrArg₂ _ ?_ ?_) (Finset.sum_congr rfl fun r _ => congrArg₂ _ ?_ ?_)
  · refine slice_at _ _ _ _ _ _ fun a => ?_
    fin_cases a
    · show t.val = 0 + 1 * t.val; omega
    · show 2 * r.val = 0 + 2 * r.val; omega
  · rw [weightsR_apply]
    unfold wRef
    refine congrArg₂ _ ?_ (congrArg s (congrArg (fun q : Fin 22 => ValueIdx.ix3 e q C) (Fin.ext (by show r.val / 64 = 2 * r.val / 128; omega))))
    rw [show (2 * r.val) % 2 = 0 by omega, show (⟨2 * r.val / 2, by omega⟩ : Fin 1408) = r from Fin.ext (by show 2 * r.val / 2 = r.val; omega), ← sign_low]
    rfl
  · refine slice_at _ _ _ _ _ _ fun a => ?_
    fin_cases a
    · show t.val = 0 + 1 * t.val; omega
    · show 2 * r.val + 1 = 1 + 2 * r.val; omega
  · rw [weightsR_apply]
    unfold wRef
    refine congrArg₂ _ ?_ (congrArg s (congrArg (fun q : Fin 22 => ValueIdx.ix3 e q C) (Fin.ext (by show r.val / 64 = (2 * r.val + 1) / 128; omega))))
    rw [show (2 * r.val + 1) % 2 = 1 by omega, show (⟨(2 * r.val + 1) / 2, by omega⟩ : Fin 1408) = r from Fin.ext (by show (2 * r.val + 1) / 2 = r.val; omega), ← sign_high]
    rfl

/-! ## Whose row it is -/

theorem fold_addi (s : Finset (Fin 64)) (f : Fin 64 → ℕ) : s.fold IntOp.addi 0#32 (fun k => BitVec.ofNat 32 (f k)) = BitVec.ofNat 32 (∑ k ∈ s, f k) := by
  classical
  induction s using Finset.induction_on with
  | empty => rfl
  | insert a s ha ih =>
    rw [Finset.fold_insert ha, ih, Finset.sum_insert ha, BitVec.ofNat_add]
    rfl

theorem stO_sum (gs : ℕ → ℕ) (e : Fin 64) : (∑ k : Fin 64, if k.val ≤ e.val then gs k.val else 0) = stO gs (e.val + 1) := by
  have h : ∀ n, stO gs n = ∑ k ∈ Finset.range n, gs k := by
    intro n
    induction n with
    | zero => rfl
    | succ n ih => rw [Finset.sum_range_succ, ← ih]; rfl
  rw [h, ← Finset.sum_range (fun k => if k ≤ e.val then gs k else 0), ← Finset.sum_filter]
  refine Finset.sum_congr (Finset.ext fun k => ?_) fun _ _ => rfl
  rw [Finset.mem_filter, Finset.mem_range, Finset.mem_range]
  omega

theorem red_sizes : S64x64.Reduces [1] S64 := by decide
theorem red_experts : S6144x64x2048.Reduces [1] S6144x2048 := by decide

theorem endsR_apply (g : IVec S64 32) (gs : ℕ → ℕ) (hg : ∀ e : Fin 64, g (ValueIdx.ix1 e) = BitVec.ofNat 32 (gs e.val)) (e : Fin 64) :
    endsR g (ValueIdx.ix1 e) = BitVec.ofNat 32 (stO gs (e.val + 1)) := by
  rw [← stO_sum, ← fold_addi]
  unfold endsR
  rw [Host.reduce_eq_fold_single IntOp.addi _ _ reducesTo_S64x64_S64_d1 red_sizes h_S_]
  refine congrArg (Finset.fold IntOp.addi 0#32 · _) (funext fun (k : Fin 64) => ?_)
  have e1 : red_sizes.lift (ValueIdx.ix1 e) k = (ix2 e k : S64x64.Idx) := by
    funext b
    fin_cases b <;> rfl
  show (select _ _ _ : IVec S64x64 32) (red_sizes.lift (ValueIdx.ix1 e) k) = _
  rw [e1]
  show Scalar.select (IntOp.cmpi .sle (broadcastInDim S64x64 ![0, 1] bcast_S1x64_S64x64_0_1 (broadcastInDim S1x64 ![1] bcast_S64_S1x64_1 (iotaInDim S64 32 0)) (ix2 e k))
        (broadcastInDim S64x64 ![0, 1] bcast_S64x1_S64x64_0_1 (broadcastInDim S64x1 ![0] bcast_S64_S64x1_0 (iotaInDim S64 32 0)) (ix2 e k)))
      (broadcastInDim S64x64 ![0, 1] bcast_S1x64_S64x64_0_1 (broadcastInDim S1x64 ![1] bcast_S64_S1x64_1 g) (ix2 e k)) 0#32 = _
  have hb : ∀ v : IVec S64 32, broadcastInDim S64x64 ![0, 1] bcast_S1x64_S64x64_0_1 (broadcastInDim S1x64 ![1] bcast_S64_S1x64_1 v) (ix2 e k) = v (ValueIdx.ix1 k) := by
    intro v
    rw [broadcastInDim_apply _ _ _ _ (ix2 (0 : Fin 1) k) (by intro a; fin_cases a <;> rfl), broadcastInDim_apply _ _ _ _ (ValueIdx.ix1 k) (by intro a; fin_cases a; rfl)]
  have hb' : ∀ v : IVec S64 32, broadcastInDim S64x64 ![0, 1] bcast_S64x1_S64x64_0_1 (broadcastInDim S64x1 ![0] bcast_S64_S64x1_0 v) (ix2 e k) = v (ValueIdx.ix1 e) := by
    intro v
    rw [broadcastInDim_apply _ _ _ _ (ix2 e (0 : Fin 1)) (by intro a; fin_cases a <;> rfl), broadcastInDim_apply _ _ _ _ (ValueIdx.ix1 e) (by intro a; fin_cases a; rfl)]
  rw [hb, hb', hb, hg]
  show Scalar.select (IntOp.cmpi .sle (BitVec.ofNat 32 k.val) (BitVec.ofNat 32 e.val)) _ _ = _
  have hiff : IntOp.cmpi .sle (BitVec.ofNat 32 k.val) (BitVec.ofNat 32 e.val) = 1#1 ↔ k.val ≤ e.val := by
    rw [IntOp.cmpi_sle, Cert.Model.toInt_ofNat _ (by omega), Cert.Model.toInt_ofNat _ (by omega)]
    omega
  by_cases h : k.val ≤ e.val
  · rw [sel_pos (hiff.mpr h), if_pos h]
  · rw [sel_neg (fun h' => h (hiff.mp h')), if_neg h]

theorem mineR_apply (g : IVec S64 32) (gs : ℕ → ℕ) (hg : ∀ e : Fin 64, g (ValueIdx.ix1 e) = BitVec.ofNat 32 (gs e.val)) (hS : stO gs 64 = 6144) (t : Fin 6144) (e : Fin 64) :
    mineR g (ix2 t e) = 1#1 ↔ stO gs e.val ≤ t.val ∧ t.val < stO gs e.val + gs e.val := by
  have hle : stO gs e.val + gs e.val ≤ 6144 := by rw [← hS]; exact Cert.Model.stO_mono (gs := gs) (a := e.val + 1) e.isLt
  have ht := t.isLt
  have hb : ∀ v : IVec S64 32, broadcastInDim S6144x64 ![0, 1] bcast_S1x64_S6144x64_0_1 (broadcastInDim S1x64 ![1] bcast_S64_S1x64_1 v) (ix2 t e) = v (ValueIdx.ix1 e) := by
    intro v
    rw [broadcastInDim_apply _ _ _ _ (ix2 (0 : Fin 1) e) (by intro a; fin_cases a <;> rfl), broadcastInDim_apply _ _ _ _ (ValueIdx.ix1 e) (by intro a; fin_cases a; rfl)]
  have hb' : ∀ v : IVec S6144 32, broadcastInDim S6144x64 ![0, 1] bcast_S6144x1_S6144x64_0_1 (broadcastInDim S6144x1 ![0] bcast_S6144_S6144x1_0 v) (ix2 t e) = v (ValueIdx.ix1 t) := by
    intro v
    rw [broadcastInDim_apply _ _ _ _ (ix2 t (0 : Fin 1)) (by intro a; fin_cases a <;> rfl), broadcastInDim_apply _ _ _ _ (ValueIdx.ix1 t) (by intro a; fin_cases a; rfl)]
  unfold mineR
  show IntOp.andi (IntOp.cmpi .sle (broadcastInDim S6144x64 ![0, 1] bcast_S1x64_S6144x64_0_1 (broadcastInDim S1x64 ![1] bcast_S64_S1x64_1 (subi (endsR g) g)) (ix2 t e))
      (broadcastInDim S6144x64 ![0, 1] bcast_S6144x1_S6144x64_0_1 (broadcastInDim S6144x1 ![0] bcast_S6144_S6144x1_0 (iotaInDim S6144 32 0)) (ix2 t e)))
    (IntOp.cmpi .slt (broadcastInDim S6144x64 ![0, 1] bcast_S6144x1_S6144x64_0_1 (broadcastInDim S6144x1 ![0] bcast_S6144_S6144x1_0 (iotaInDim S6144 32 0)) (ix2 t e))
      (broadcastInDim S6144x64 ![0, 1] bcast_S1x64_S6144x64_0_1 (broadcastInDim S1x64 ![1] bcast_S64_S1x64_1 (endsR g)) (ix2 t e))) = 1#1 ↔ _
  rw [hb, hb', hb, IntOp.andi_eq_one, IntOp.cmpi_sle, IntOp.cmpi_slt, endsR_apply g gs hg]
  show (IntOp.subi (endsR g (ValueIdx.ix1 e)) (g (ValueIdx.ix1 e))).toInt ≤ (BitVec.ofNat 32 t.val).toInt ∧ (BitVec.ofNat 32 t.val).toInt < _ ↔ _
  have hst : stO gs (e.val + 1) = stO gs e.val + gs e.val := rfl
  rw [endsR_apply g gs hg, hg, hst, show IntOp.subi (BitVec.ofNat 32 (stO gs e.val + gs e.val)) (BitVec.ofNat 32 (gs e.val)) = BitVec.ofNat 32 (stO gs e.val) from by
    show BitVec.ofNat 32 (stO gs e.val + gs e.val) - BitVec.ofNat 32 (gs e.val) = _
    rw [BitVec.ofNat_add]; exact BitVec.add_sub_cancel _ _]
  rw [Cert.Model.toInt_ofNat _ (by omega), Cert.Model.toInt_ofNat _ (by omega), Cert.Model.toInt_ofNat _ (by omega)]
  omega

theorem reduceAdd_at {u v z : Shape} {axes : List (Fin u.rank)} (x : FVec Ideal u .f32) (b : FVec Ideal z .f32) (h : u.ReducesTo axes v) (hz : 0 < z.numel) (j : v.Idx) :
    Host.reduceAdd (F := Ideal) x b h hz j = Ideal.hostReduceAdd h x (b (Shape.Idx.first hz)) j := rfl

theorem one_term (f : Fin 64 → EReal) (e : Fin 64) (v : EReal) (h : ∀ k, f k = if k = e then v else 0) : ∑ k, f k = v := by
  rw [Finset.sum_congr rfl fun k _ => h k, Finset.sum_ite_eq', if_pos (Finset.mem_univ e)]

/-- The reference at a row of expert `e`: the row times the expert's weights. -/
theorem out_apply (x : FVec Ideal S6144x2816 .bf16) (xr : Fin 6144 → Fin 2816 → ℝ) (hx : ∀ t K, x (ix2 t K) = (xr t K : EReal)) (g : IVec S64 32) (gs : ℕ → ℕ)
    (hg : ∀ e : Fin 64, g (ValueIdx.ix1 e) = BitVec.ofNat 32 (gs e.val)) (hS : stO gs 64 = 6144) (w : IVec S64x1408x2048 8) (s : FVec Ideal S64x22x2048 .f32)
    (t : Fin 6144) (e : Fin 64) (C : Fin 2048) (h1 : stO gs e.val ≤ t.val) (h2 : t.val < stO gs e.val + gs e.val) :
    out (F := Ideal) x g w s (ix2 t C) = ∑ K : Fin 2816, x (ix2 t K) * wRef w s e C K := by
  obtain ⟨σ, hσ, hs, hc⟩ := row_spec x xr hx t
  unfold out
  rw [ValueIdx.truncf_apply, ValueIdx.mulf_apply, reduceAdd_at, ValueIdx.constant_apply]
  rw [broadcastInDim_apply _ _ _ _ (ix2 t (0 : Fin 1)) (by intro a; fin_cases a <;> rfl),
    broadcastInDim_apply _ _ _ _ (ValueIdx.ix1 t) (by intro a; fin_cases a; rfl), hs,
    Ideal.hostReduceAdd_single reducesTo_S6144x64x2048_S6144x2048_d1 red_experts, zero_eq, zero_add]
  have hterm : ∀ k : Fin 64, (select (broadcastInDim S6144x64x2048 ![0, 1, 2] bcast_S6144x64x1_S6144x64x2048_0_1_2 (broadcastInDim S6144x64x1 ![0, 1] bcast_S6144x64_S6144x64x1_0_1 (mineR g)))
          (accR (F := Ideal) x w s) (broadcastInDim S6144x64x2048 ![] bcast_S_S6144x64x2048 (constant S_ .f32 0x00000000#32)))
        (red_experts.lift (ix2 t C) k)
      = if k = e then ∑ K : Fin 2816, x (ix2 t K) * ((σ⁻¹ : ℝ) : EReal) * wRef w s e C K else 0 := by
    intro k
    have e1 : red_experts.lift (ix2 t C) k = (ValueIdx.ix3 t k C : S6144x64x2048.Idx) := by
      funext b
      fin_cases b <;> rfl
    rw [e1]
    rw [ValueIdx.select_apply, scalar_bcast]
    rw [broadcastInDim_apply _ _ _ _ (ValueIdx.ix3 t k (0 : Fin 1)) (by intro a; fin_cases a <;> rfl), broadcastInDim_apply _ _ _ _ (ix2 t k) (by intro a; fin_cases a <;> rfl)]
    by_cases hk : k = e
    · subst hk
      rw [sel_pos ((mineR_apply g gs hg hS t k).mpr ⟨h1, h2⟩), if_pos rfl, accR_apply]
      exact Finset.sum_congr rfl fun K _ => by rw [hc]
    · rw [if_neg hk, sel_neg (fun h => hk ?_), zero_eq]
      obtain ⟨h3, h4⟩ := (mineR_apply g gs hg hS t k).mp h
      exact Fin.ext (Cert.Model.range_inj h3 h4 h1 h2)
  have hall := one_term _ e _ hterm
  refine Eq.trans (congrArg (fun z : EReal => z * (σ : EReal)) hall) ?_
  exact Cert.Model.unscale _ _ _ σ hσ

end Cert.RefRun

end
-- ==== Proof.Value.lean ====
module

public import proofs.«01_k».proof.Proof.Pre
public import proofs.«01_k».proof.Proof.RefSums

/-!
# The two results are one

Under the precondition the kernel's result and the reference's are the same array: element `(t, C)` of either is the
product of row `t` with column `C` of the weights of the expert whose group holds the row.
-/

@[expose] public section

noncomputable section

namespace Cert.Model

open Idealize.ShloMosaic

/-- Every row below the end of the first `n` groups lies in one of them. -/
theorem group_of (gs : ℕ → ℕ) (t : ℕ) : ∀ n, t < stO gs n → ∃ e, e < n ∧ stO gs e ≤ t ∧ t < stO gs e + gs e
  | 0, h => absurd h (Nat.not_lt_zero _)
  | n + 1, h => by
    rcases Nat.lt_or_ge t (stO gs n) with h1 | h1
    · obtain ⟨e, he, h2⟩ := group_of gs t n h1
      exact ⟨e, Nat.lt_succ_of_lt he, h2⟩
    · exact ⟨n, Nat.lt_succ_self n, h1, h⟩

section
variable [Cert.Kernel.Facts]
open Cert.Kernel

/-- Expert `e`'s weights are the `e`-th leaf of all of them. -/
theorem Wof_apply (XW : S64x1408x2048.Idx → BitVec 8) (e : Fin 64) (R : Fin 1408) (C : Fin 2048) :
    Wof (F := Ideal) XW e (ix2 R C) = XW (ValueIdx.ix3 e R C) := by
  unfold Wof
  refine congrArg XW ?_
  rw [Shape.reshapeEquiv_cons_one]
  funext a
  refine Fin.ext ?_
  fin_cases a <;> simp [Rect.emb, Rect.unit, ix2, ValueIdx.ix3] <;> rfl

/-- Expert `e`'s scales are the `e`-th leaf of all of them. -/
theorem Sof_apply (XS : S64x22x2048.Idx → EReal) (e : Fin 64) (R : Fin 22) (C : Fin 2048) :
    Sof (F := Ideal) XS e (ix2 R C) = XS (ValueIdx.ix3 e R C) := by
  unfold Sof
  refine congrArg XS ?_
  rw [Shape.reshapeEquiv_cons_one]
  funext a
  refine Fin.ext ?_
  fin_cases a <;> simp [Rect.emb, Rect.unit, ix2, ValueIdx.ix3] <;> rfl

/-- The weight the kernel multiplies by is the reference's. -/
theorem wAt_eq (XW : S64x1408x2048.Idx → BitVec 8) (XS : S64x22x2048.Idx → EReal) (e : Fin 64) (C : Fin 2048) (K : Fin 2816) :
    wAt (Wof (F := Ideal) XW e) (Sof (F := Ideal) XS e) C K = Cert.RefRun.wRef XW XS e C K := by
  unfold wAt Cert.RefRun.wRef
  rw [Wof_apply, Sof_apply]

/-- The group sizes at an index, as words. -/
theorem gsOf_word (G : S64.Idx → BitVec 32) (e : Fin 64) : G (ValueIdx.ix1 e) = BitVec.ofNat 32 (gsOf G e) :=
  holds_gsOf G e.val e.isLt _ (fun a => by fin_cases a; rfl)

/-- Any result of the kernel is the reference's, when the groups fill the rows and the rows are real and bounded. -/
theorem result_eq [Cert.ReferenceIdeal.Facts] (XX : S6144x2816.Idx → EReal) (G : S64.Idx → BitVec 32) (XW : S64x1408x2048.Idx → BitVec 8)
    (XS : S64x22x2048.Idx → EReal) (hS : stO (gsOf G) 64 = 6144) (hr : ∀ i, ∃ r : ℝ, XX i = (r : EReal) ∧ |r| ≤ bigM)
    (d : S6144x2048.Idx → EReal) (hd : Result (F := Ideal) (gsOf G) XX XW XS d) : d = Cert.RefRun.out (F := Ideal) XX G XW XS := by
  obtain ⟨Y, rfl⟩ := hd
  choose f hf using hr
  have h1 : ∀ (t : Fin 6144) (C : Fin 2048), accY (F := Ideal) (gsOf G) XX XW XS Y (nV (gsOf G) 64) (ix2 t C) = Cert.RefRun.out (F := Ideal) XX G XW XS (ix2 t C) := by
    intro t C
    obtain ⟨e, he, h2, h3⟩ := group_of (gsOf G) t.val 64 (by rw [hS]; exact t.isLt)
    have hk := result_exact (gs := gsOf G) (XX := XX) XW XS (fun t K => f (ix2 t K)) (fun t K => (hf _).1) (fun t K => (hf _).2) hS Y ⟨e, he⟩ t C h2 h3
    have hq := Cert.RefRun.out_apply XX (fun t K => f (ix2 t K)) (fun t K => (hf _).1) G (gsOf G) (fun e => gsOf_word G e) hS XW XS t ⟨e, he⟩ C h2 h3
    refine hk.trans (Eq.trans ?_ hq.symm)
    unfold exact
    exact Finset.sum_congr rfl fun K _ => by rw [wAt_eq]
  funext i
  have h2 := h1 (i 0) (i 1)
  have h3 : (ix2 (i 0) (i 1) : S6144x2048.Idx) = i := by funext a; fin_cases a <;> rfl
  exact (congrArg _ h3).symm.trans (h2.trans (congrArg _ h3))

end

end Cert.Model

end
-- ==== Proof.SameText.lean ====
module

public import proofs.«01_k».proof.Proof.Gen.Kernel
public import proofs.«01_k».proof.Proof.Gen.KernelIdeal
public import Idealize.ShloMosaic.Lib.Tactic

/-!
# One text, two readings

The idealization rewrote no operation: the two programs are one text, so what is proved of one at any reading of the floats
holds of the other.
-/

@[expose] public section

namespace Cert.Model

open Idealize.ShloMosaic Idealize.ShloMosaic.TcCoe Idealize.ShloMosaic.Tactic Idealize.SL.Sem

set_option maxHeartbeats 4000000 in
/-- The two programs' runs are one. -/
theorem same_text {F : FTy → Type} [FloatOps F] [K : Cert.Kernel.Facts] [KI : Cert.KernelIdeal.Facts]
    (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop) :
    (θ_run (Cert.Kernel.defs (F := F)) (onTc (τ := Cert.Kernel.τ) (Cert.Kernel.main (F := F))) ⟨m, fun _ => 0, ρ⟩ Q) =
      (θ_run (Cert.KernelIdeal.defs (F := F)) (onTc (τ := Cert.KernelIdeal.τ) (Cert.KernelIdeal.main (F := F))) ⟨m, fun _ => 0, ρ⟩ Q) := by
  sl_kernel_rfl

end Cert.Model
-- ==== Proof.lean ====
module

public import proofs.«01_k».proof.Defs
public import proofs.«01_k».proof.Proof.Value
public import proofs.«01_k».proof.Proof.SameText
public import Idealize.ShloMosaic.Adequacy
public import Idealize.ShloMosaic.Init

@[expose] public section

noncomputable section

namespace Cert.Proof

open Idealize.ShloMosaic Idealize.SL.Sem Cert.Kernel

attribute [local instance] Cert.Model.groupFacts Cert.Model.preFacts Cert.RefRun.refFacts

/-- The idealization's result is the reference's on the same arguments. -/
theorem algebraic : Cert.algebraic_KernelIdeal_ReferenceIdeal_pre_rows_fill (hKernelIdeal := Cert.KernelIdeal.Gen.facts) := fun m g m' g' h ha =>
  ⟨fun c => Cert.RefRun.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Eq.mp (Cert.Model.same_text (K := Cert.Kernel.Gen.facts) (KI := Cert.KernelIdeal.Gen.facts) m g _)
      ((θ_run _ _ _).mono (fun _ hr c => ⟨Cert.Model.result_eq _ _ _ _ (Cert.Model.sum_of_pre _ _ _ _ (Cert.Model.groups_of_rows _ _ _ _ (h c))) (Cert.Model.real_of_pre _ _ _ _ (h c)) _ (hr c).1, (hr c).2⟩)
        (Cert.Model.value_run (F := Ideal) m g fun c => Cert.Model.fit_of_sum m c (Cert.Model.sum_of_pre _ _ _ _ (Cert.Model.groups_of_rows _ _ _ _ (h c))))),
    (θ_run _ _ _).mono (fun _ hr c => ⟨by
        obtain ⟨h0, h1, h2, h3⟩ := ha c
        have h4 := (hr.1 c).1
        rw [h0, h1, h2, h3] at h4
        exact h4, (hr.1 c).2⟩)
      (Cert.RefRun.run m' g')⟩

/-- The idealization runs, given group sizes that fill the rows. -/
theorem frame_ideal : Cert.quiescent_KernelIdeal (hKernelIdeal := Cert.KernelIdeal.Gen.facts) := fun m g h =>
  Eq.mp (Cert.Model.same_text (K := Cert.Kernel.Gen.facts) (KI := Cert.KernelIdeal.Gen.facts) m g _)
    (Cert.Model.frame_run (F := Ideal) m g fun c => Cert.Model.fit_of_sum m c (Cert.Model.sum_of_pre _ _ _ _ (h c)))

/-- The reference runs. -/
theorem frame_reference : Cert.quiescent_ReferenceIdeal := fun m g _ =>
  (θ_run _ _ _).mono (fun _ hr => ⟨fun c => (hr.1 c).2, hr.2⟩) (Cert.RefRun.run m g)

theorem claim : Cert.Claim := ⟨Cert.Kernel.Gen.facts, Cert.KernelIdeal.Gen.facts, Cert.RefRun.refFacts, Cert.Model.groupFacts, Cert.Model.preFacts,
  fun m g h => Cert.Model.frame_run m g fun c => Cert.Model.fit_of_sum m c (Cert.Model.sum_of_pre _ _ _ _ (h c)),
  frame_ideal, fun m g h => frame_ideal m g fun c => Cert.Model.groups_of_rows _ _ _ _ (h c),
  frame_reference, fun m g _ => frame_reference m g trivial,
  trivial, algebraic⟩

end Cert.Proof

end
